-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_ones_and_finite [hPre_ones_and_finite : Cert.Pre_ones_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ones_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ones_and_finite [hPre_ones_and_finite : Cert.Pre_ones_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ones_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ones_and_finite [hKernelIdeal : Cert.KernelIdeal.Facts] [hPre_ones_and_finite : Cert.Pre_ones_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ones_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ones_and_finite [hReferenceIdeal : Cert.ReferenceIdeal.Facts] [hPre_ones_and_finite : Cert.Pre_ones_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ones_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_ones_and_finite [hKernelIdeal : Cert.KernelIdeal.Facts] [hReferenceIdeal : Cert.ReferenceIdeal.Facts] [hPre_ones_and_finite : Cert.Pre_ones_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ones_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts) (hPre_ones_and_finite : Cert.Pre_ones_and_finite.Facts),
    quiescent_Kernel (hKernel := hKernel) (hPre_in_range := hPre_in_range)
    ∧ quiescent_KernelIdeal (hKernelIdeal := hKernelIdeal) (hPre_in_range := hPre_in_range)
    ∧ quiescent_KernelIdeal_pre_ones_and_finite (hKernelIdeal := hKernelIdeal) (hPre_ones_and_finite := hPre_ones_and_finite)
    ∧ quiescent_ReferenceIdeal (hReferenceIdeal := hReferenceIdeal)
    ∧ quiescent_ReferenceIdeal_pre_ones_and_finite (hReferenceIdeal := hReferenceIdeal) (hPre_ones_and_finite := hPre_ones_and_finite)
    ∧ preserves_Kernel_KernelIdeal
    ∧ algebraic_KernelIdeal_ReferenceIdeal_pre_ones_and_finite (hKernelIdeal := hKernelIdeal) (hReferenceIdeal := hReferenceIdeal) (hPre_ones_and_finite := hPre_ones_and_finite)
-- ==== Pre_in_range.lean ====
abbrev S5000x1280 : Shape := ⟨2, ![5000, 1280]⟩
abbrev S50000 : Shape := ⟨1, ![50000]⟩
abbrev S8960x1280 : Shape := ⟨2, ![8960, 1280]⟩
abbrev S1280 : Shape := ⟨1, ![1280]⟩
abbrev S1280x1280 : Shape := ⟨2, ![1280, 1280]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn_part1 {F : FTy → Type} [FloatOps F] (main_arg3 : IVec S50000 32) (main_v12 : IVec S_ 1) (main_v14 : IVec S50000 1) (main_v15 : IVec S50000 32) : IVec S_ 1 :=
  let main_v16 : IVec S50000 1 := cmpi .slt main_arg3 main_v15
  let main_v17 : IVec S50000 1 := andi main_v14 main_v16
  let main_c_7 : IVec S_ 1 := constantI S_ 1 1#1
  let main_v18 : IVec S_ 1 := (fun x v => Host.reduce IntOp.andi x v reducesTo_S50000_S_d0 h_S_) main_v17 main_c_7
  let main_v19 : IVec S_ 1 := andi main_v12 main_v18
  main_v19

def fn {F : FTy → Type} [FloatOps F] (main_arg0 : FVec F S5000x1280 .f32) (main_arg1 : IVec S50000 32) (main_arg2 : IVec S50000 32) (main_arg3 : IVec S50000 32) (main_arg4 : FVec F S50000 .f32) (main_arg5 : FVec F S8960x1280 .f32) (main_arg6 : FVec F S1280 .f32) (main_arg7 : FVec F S1280x1280 .f32) (main_arg8 : FVec F S1280 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 5000#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_c_2 : IVec S_ 32 := constantI S_ 32 0#32
  let main_v6 : IVec S50000 32 := broadcastInDim S50000 ![] bcast_S_S50000 main_c_2
  let main_v7 : IVec S50000 1 := cmpi .sge main_arg2 main_v6
  let main_c_3 : IVec S_ 32 := constantI S_ 32 5000#32
  let main_v8 : IVec S50000 32 := broadcastInDim S50000 ![] bcast_S_S50000 main_c_3
  let main_v9 : IVec S50000 1 := cmpi .slt main_arg2 main_v8
  let main_v10 : IVec S50000 1 := andi main_v7 main_v9
  let main_c_4 : IVec S_ 1 := constantI S_ 1 1#1
  let main_v11 : IVec S_ 1 := (fun x v => Host.reduce IntOp.andi x v reducesTo_S50000_S_d0 h_S_) main_v10 main_c_4
  let main_v12 : IVec S_ 1 := andi main_v5 main_v11
  let main_c_5 : IVec S_ 32 := constantI S_ 32 0#32
  let main_v13 : IVec S50000 32 := broadcastInDim S50000 ![] bcast_S_S50000 main_c_5
  let main_v14 : IVec S50000 1 := cmpi .sge main_arg3 main_v13
  let main_c_6 : IVec S_ 32 := constantI S_ 32 7#32
  let main_v15 : IVec S50000 32 := broadcastInDim S50000 ![] bcast_S_S50000 main_c_6
  fn_part1 (F := F) main_arg3 main_v12 main_v14 main_v15
-- ==== Pre_ones_and_finite.lean ====
abbrev S5000x1280 : Shape := ⟨2, ![5000, 1280]⟩
abbrev S50000 : Shape := ⟨1, ![50000]⟩
abbrev S8960x1280 : Shape := ⟨2, ![8960, 1280]⟩
abbrev S1280 : Shape := ⟨1, ![1280]⟩
abbrev S1280x1280 : Shape := ⟨2, ![1280, 1280]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S5000x1280 : S_.BroadcastsInDim S5000x1280 (![] : Fin 0 → Fin S5000x1280.rank)
  reducesTo_S5000x1280_S_d0_1 : S5000x1280.ReducesTo [0, 1] S_
  bcast_S_S8960x1280 : S_.BroadcastsInDim S8960x1280 (![] : Fin 0 → Fin S8960x1280.rank)
  reducesTo_S8960x1280_S_d0_1 : S8960x1280.ReducesTo [0, 1] S_

variable [Facts]

def fn_part2 {F : FTy → Type} [FloatOps F] (main_v28 : IVec S_ 1) (main_v32 : IVec S_ 1) : IVec S_ 1 :=
  let main_v33 : IVec S_ 1 := andi main_v28 main_v32
  main_v33

def fn_part1 {F : FTy → Type} [FloatOps F] (main_arg0 : FVec F S5000x1280 .f32) (main_arg3 : IVec S50000 32) (main_arg4 : FVec F S50000 .f32) (main_arg5 : FVec F S8960x1280 .f32) (main_v12 : IVec S_ 1) (main_v14 : IVec S50000 1) (main_v15 : IVec S50000 32) : IVec S_ 1 :=
  let main_v16 : IVec S50000 1 := cmpi .slt main_arg3 main_v15
  let main_v17 : IVec S50000 1 := andi main_v14 main_v16
  let main_c_7 : IVec S_ 1 := constantI S_ 1 1#1
  let main_v18 : IVec S_ 1 := (fun x v => Host.reduce IntOp.andi x v reducesTo_S50000_S_d0 h_S_) main_v17 main_c_7
  let main_v19 : IVec S_ 1 := andi main_v12 main_v18
  let main_cst : FVec F S_ .f32 := constant S_ .f32 0x3F800000#32
  let main_v20 : FVec F S50000 .f32 := broadcastInDim S50000 ![] bcast_S_S50000 main_cst
  let main_v21 : IVec S50000 1 := cmpf .oeq main_arg4 main_v20
  let main_c_8 : IVec S_ 1 := constantI S_ 1 1#1
  let main_v22 : IVec S_ 1 := (fun x v => Host.reduce IntOp.andi x v reducesTo_S50000_S_d0 h_S_) main_v21 main_c_8
  let main_v23 : IVec S_ 1 := andi main_v19 main_v22
  let main_v24 : FVec F S5000x1280 .f32 := Host.absf main_arg0
  let main_cst_9 : FVec F S_ .f32 := constant S_ .f32 0x7F800000#32
  let main_v25 : FVec F S5000x1280 .f32 := broadcastInDim S5000x1280 ![] bcast_S_S5000x1280 main_cst_9
  let main_v26 : IVec S5000x1280 1 := cmpf .olt main_v24 main_v25
  let main_c_10 : IVec S_ 1 := constantI S_ 1 1#1
  let main_v27 : IVec S_ 1 := (fun x v => Host.reduce IntOp.andi x v reducesTo_S5000x1280_S_d0_1 h_S_) main_v26 main_c_10
  let main_v28 : IVec S_ 1 := andi main_v23 main_v27
  let main_v29 : FVec F S8960x1280 .f32 := Host.absf main_arg5
  let main_cst_11 : FVec F S_ .f32 := constant S_ .f32 0x7F800000#32
  let main_v30 : FVec F S8960x1280 .f32 := broadcastInDim S8960x1280 ![] bcast_S_S8960x1280 main_cst_11
  let main_v31 : IVec S8960x1280 1 := cmpf .olt main_v29 main_v30
  let main_c_12 : IVec S_ 1 := constantI S_ 1 1#1
  let main_v32 : IVec S_ 1 := (fun x v => Host.reduce IntOp.andi x v reducesTo_S8960x1280_S_d0_1 h_S_) main_v31 main_c_12
  fn_part2 (F := F) main_v28 main_v32

def fn {F : FTy → Type} [FloatOps F] (main_arg0 : FVec F S5000x1280 .f32) (main_arg1 : IVec S50000 32) (main_arg2 : IVec S50000 32) (main_arg3 : IVec S50000 32) (main_arg4 : FVec F S50000 .f32) (main_arg5 : FVec F S8960x1280 .f32) (main_arg6 : FVec F S1280 .f32) (main_arg7 : FVec F S1280x1280 .f32) (main_arg8 : FVec F S1280 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 5000#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_c_2 : IVec S_ 32 := constantI S_ 32 0#32
  let main_v6 : IVec S50000 32 := broadcastInDim S50000 ![] bcast_S_S50000 main_c_2
  let main_v7 : IVec S50000 1 := cmpi .sge main_arg2 main_v6
  let main_c_3 : IVec S_ 32 := constantI S_ 32 5000#32
  let main_v8 : IVec S50000 32 := broadcastInDim S50000 ![] bcast_S_S50000 main_c_3
  let main_v9 : IVec S50000 1 := cmpi .slt main_arg2 main_v8
  let main_v10 : IVec S50000 1 := andi main_v7 main_v9
  let main_c_4 : IVec S_ 1 := constantI S_ 1 1#1
  let main_v11 : IVec S_ 1 := (fun x v => Host.reduce IntOp.andi x v reducesTo_S50000_S_d0 h_S_) main_v10 main_c_4
  let main_v12 : IVec S_ 1 := andi main_v5 main_v11
  let main_c_5 : IVec S_ 32 := constantI S_ 32 0#32
  let main_v13 : IVec S50000 32 := broadcastInDim S50000 ![] bcast_S_S50000 main_c_5
  let main_v14 : IVec S50000 1 := cmpi .sge main_arg3 main_v13
  let main_c_6 : IVec S_ 32 := constantI S_ 32 7#32
  let main_v15 : IVec S50000 32 := broadcastInDim S50000 ![] bcast_S_S50000 main_c_6
  fn_part1 (F := F) main_arg0 main_arg3 main_arg4 main_arg5 main_v12 main_v14 main_v15
-- ==== Kernel.lean ====
abbrev S5000x1280 : Shape := ⟨2, ![5000, 1280]⟩
abbrev S50000 : Shape := ⟨1, ![50000]⟩
abbrev S8960x1280 : Shape := ⟨2, ![8960, 1280]⟩
abbrev S1280 : Shape := ⟨1, ![1280]⟩
abbrev S1280x1280 : Shape := ⟨2, ![1280, 1280]⟩
abbrev S10240x1280 : Shape := ⟨2, ![10240, 1280]⟩
abbrev S1x1280 : Shape := ⟨2, ![1, 1280]⟩
abbrev S_ : Shape := ⟨0, ![]⟩
abbrev S120x1280 : Shape := ⟨2, ![120, 1280]⟩
abbrev S5120x1280 : Shape := ⟨2, ![5120, 1280]⟩
abbrev S176 : Shape := ⟨1, ![176]⟩
abbrev S50176 : Shape := ⟨1, ![50176]⟩
abbrev S1x50176 : Shape := ⟨2, ![1, 50176]⟩
abbrev S3x50176 : Shape := ⟨2, ![3, 50176]⟩
abbrev S3x56x896 : Shape := ⟨3, ![3, 56, 896]⟩
abbrev S56x3x896 : Shape := ⟨3, ![56, 3, 896]⟩
abbrev S56x2688 : Shape := ⟨2, ![56, 2688]⟩
abbrev S32x52224 : Shape := ⟨2, ![32, 52224]⟩
abbrev S32x16 : Shape := ⟨2, ![32, 16]⟩
abbrev S5376 : Shape := ⟨1, ![5376]⟩
abbrev S2048 : Shape := ⟨1, ![2048]⟩
abbrev S16 : Shape := ⟨1, ![16]⟩
abbrev S2688 : Shape := ⟨1, ![2688]⟩
abbrev S1x2688 : Shape := ⟨2, ![1, 2688]⟩
abbrev S1 : Shape := ⟨1, ![1]⟩
abbrev S1024 : Shape := ⟨1, ![1024]⟩
abbrev S1x1024 : Shape := ⟨2, ![1, 1024]⟩
abbrev S1x16 : Shape := ⟨2, ![1, 16]⟩
abbrev S40960x1280 : Shape := ⟨2, ![40960, 1280]⟩
abbrev S1024x1280 : Shape := ⟨2, ![1024, 1280]⟩
abbrev S40960x5x2x128 : Shape := ⟨4, ![40960, 5, 2, 128]⟩
abbrev S5x40960x2x128 : Shape := ⟨4, ![5, 40960, 2, 128]⟩
abbrev S1056 : Shape := ⟨1, ![1056]⟩
abbrev S5x32x2x128 : Shape := ⟨4, ![5, 32, 2, 128]⟩
abbrev S64x1280 : Shape := ⟨2, ![64, 1280]⟩
abbrev S1x16x2x128 : Shape := ⟨4, ![1, 16, 2, 128]⟩
abbrev S16x2x128 : Shape := ⟨3, ![16, 2, 128]⟩
abbrev S1x40960x2x128 : Shape := ⟨4, ![1, 40960, 2, 128]⟩
abbrev S40960x2x128 : Shape := ⟨3, ![40960, 2, 128]⟩
abbrev S1x1x1x16 : Shape := ⟨4, ![1, 1, 1, 16]⟩
abbrev S1024x1 : Shape := ⟨2, ![1024, 1]⟩

abbrev nBuf : Table → Nat
  | .hbm => 41
  | .local .tc .vmem => 14
  | .local .scVector .vmem => 11
  | _ => 0

abbrev bufTy : (tb : Table) → Fin (nBuf tb) → BufTy
  | .hbm, ⟨0, _⟩ => ⟨S5000x1280, .f32⟩
  | .hbm, ⟨1, _⟩ => ⟨S50000, .i32⟩
  | .hbm, ⟨2, _⟩ => ⟨S50000, .i32⟩
  | .hbm, ⟨3, _⟩ => ⟨S50000, .i32⟩
  | .hbm, ⟨4, _⟩ => ⟨S50000, .f32⟩
  | .hbm, ⟨5, _⟩ => ⟨S8960x1280, .f32⟩
  | .hbm, ⟨6, _⟩ => ⟨S1280, .f32⟩
  | .hbm, ⟨7, _⟩ => ⟨S1280x1280, .f32⟩
  | .hbm, ⟨8, _⟩ => ⟨S1280, .f32⟩
  | .hbm, ⟨9, _⟩ => ⟨S10240x1280, .f32⟩
  | .hbm, ⟨10, _⟩ => ⟨S1280, .f32⟩
  | .hbm, ⟨11, _⟩ => ⟨S1x1280, .f32⟩
  | .hbm, ⟨12, _⟩ => ⟨S_, .f32⟩
  | .hbm, ⟨13, _⟩ => ⟨S120x1280, .f32⟩
  | .hbm, ⟨14, _⟩ => ⟨S5120x1280, .f32⟩
  | .hbm, ⟨15, _⟩ => ⟨S_, .i32⟩
  | .hbm, ⟨16, _⟩ => ⟨S176, .i32⟩
  | .hbm, ⟨17, _⟩ => ⟨S50176, .i32⟩
  | .hbm, ⟨18, _⟩ => ⟨S_, .i32⟩
  | .hbm, ⟨19, _⟩ => ⟨S176, .i32⟩
  | .hbm, ⟨20, _⟩ => ⟨S50176, .i32⟩
  | .hbm, ⟨21, _⟩ => ⟨S_, .i32⟩
  | .hbm, ⟨22, _⟩ => ⟨S176, .i32⟩
  | .hbm, ⟨23, _⟩ => ⟨S50176, .i32⟩
  | .hbm, ⟨24, _⟩ => ⟨S1x50176, .i32⟩
  | .hbm, ⟨25, _⟩ => ⟨S1x50176, .i32⟩
  | .hbm, ⟨26, _⟩ => ⟨S1x50176, .i32⟩
  | .hbm, ⟨27, _⟩ => ⟨S3x50176, .i32⟩
  | .hbm, ⟨28, _⟩ => ⟨S3x56x896, .i32⟩
  | .hbm, ⟨29, _⟩ => ⟨S56x3x896, .i32⟩
  | .hbm, ⟨30, _⟩ => ⟨S56x2688, .i32⟩
  | .hbm, ⟨31, _⟩ => ⟨S32x52224, .i32⟩
  | .hbm, ⟨32, _⟩ => ⟨S32x52224, .i32⟩
  | .hbm, ⟨33, _⟩ => ⟨S32x16, .i32⟩
  | .hbm, ⟨34, _⟩ => ⟨S40960x1280, .f32⟩
  | .hbm, ⟨35, _⟩ => ⟨S40960x5x2x128, .f32⟩
  | .hbm, ⟨36, _⟩ => ⟨S5x40960x2x128, .f32⟩
  | .hbm, ⟨37, _⟩ => ⟨S5120x1280, .f32⟩
  | .hbm, ⟨38, _⟩ => ⟨S5000x1280, .f32⟩
  | .hbm, ⟨39, _⟩ => ⟨S1x1280, .f32⟩
  | .hbm, ⟨40, _⟩ => ⟨S1280, .f32⟩
  | .local .tc .vmem, ⟨0, _⟩ => ⟨S1024x1280, .f32⟩
  | .local .tc .vmem, ⟨1, _⟩ => ⟨S1024x1280, .f32⟩
  | .local .tc .vmem, ⟨2, _⟩ => ⟨S1280x1280, .f32⟩
  | .local .tc .vmem, ⟨3, _⟩ => ⟨S1280x1280, .f32⟩
  | .local .tc .vmem, ⟨4, _⟩ => ⟨S1x1280, .f32⟩
  | .local .tc .vmem, ⟨5, _⟩ => ⟨S1024x1280, .f32⟩
  | .local .tc .vmem, ⟨6, _⟩ => ⟨S1024x1280, .f32⟩
  | .local .tc .vmem, ⟨7, _⟩ => ⟨S1024x1280, .f32⟩
  | .local .tc .vmem, ⟨8, _⟩ => ⟨S1024x1280, .f32⟩
  | .local .tc .vmem, ⟨9, _⟩ => ⟨S1024x1280, .f32⟩
  | .local .tc .vmem, ⟨10, _⟩ => ⟨S1024x1280, .f32⟩
  | .local .tc .vmem, ⟨11, _⟩ => ⟨S1024x1280, .f32⟩
  | .local .tc .vmem, ⟨12, _⟩ => ⟨S1024x1280, .f32⟩
  | .local .tc .vmem, ⟨13, _⟩ => ⟨S1x1280, .f32⟩
  | .local .scVector .vmem, ⟨0, _⟩ => ⟨S5376, .i32⟩
  | .local .scVector .vmem, ⟨1, _⟩ => ⟨S2048, .i32⟩
  | .local .scVector .vmem, ⟨2, _⟩ => ⟨S2048, .i32⟩
  | .local .scVector .vmem, ⟨3, _⟩ => ⟨S16, .i32⟩
  | .local .scVector .vmem, ⟨4, _⟩ => ⟨S2048, .i32⟩
  | .local .scVector .vmem, ⟨5, _⟩ => ⟨S2048, .i32⟩
  | .local .scVector .vmem, ⟨6, _⟩ => ⟨S1056, .i32⟩
  | .local .scVector .vmem, ⟨7, _⟩ => ⟨S1056, .i32⟩
  | .local .scVector .vmem, ⟨8, _⟩ => ⟨S5x32x2x128, .f32⟩
  | .local .scVector .vmem, ⟨9, _⟩ => ⟨S64x1280, .f32⟩
  | .local .scVector .vmem, ⟨10, _⟩ => ⟨S16, .i32⟩
  | _, _ => ⟨S5000x1280, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v24 : Ref sig .tc := ⟨.hbm, 40, rfl⟩
abbrev main_v17_scv : Ref sig .scVector := ⟨.hbm, 30, rfl⟩
abbrev main_v18_0_scv : Ref sig .scVector := ⟨.hbm, 31, rfl⟩
abbrev main_v18_1_scv : Ref sig .scVector := ⟨.hbm, 32, rfl⟩
abbrev main_v18_2_scv : Ref sig .scVector := ⟨.hbm, 33, rfl⟩
abbrev main_v19_scv : Ref sig .scVector := ⟨.hbm, 34, rfl⟩
abbrev main_v21_scv : Ref sig .scVector := ⟨.hbm, 36, rfl⟩
abbrev main_v22_scv : Ref sig .scVector := ⟨.hbm, 37, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc3_stg0_0 : Ref sig .tc := ⟨.vmem, 7, rfl⟩
abbrev cc3_stg0_1 : Ref sig .tc := ⟨.vmem, 8, rfl⟩
abbrev cc3_stg1_0 : Ref sig .tc := ⟨.vmem, 9, rfl⟩
abbrev cc3_stg1_1 : Ref sig .tc := ⟨.vmem, 10, rfl⟩
abbrev cc3_stg2_0 : Ref sig .tc := ⟨.vmem, 11, rfl⟩
abbrev cc3_stg2_1 : Ref sig .tc := ⟨.vmem, 12, rfl⟩
abbrev cc3_stg3_0 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc2_scratch4 : Ref sig .scVector := ⟨.vmem, 8, rfl⟩
abbrev cc2_scratch5 : Ref sig .scVector := ⟨.vmem, 9, rfl⟩
abbrev cc2_scratch6 : Ref sig .scVector := ⟨.vmem, 10, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_6 : BitVec 32 := 0#32
  let c56_i32 : BitVec 32 := 56#32
  let v10 : BitVec 32 := Scalar.addi c0_i32_6 c56_i32
  let c1_i32 : BitVec 32 := 1#32
  ⟨c0_i32_6, v10, c1_i32⟩
def k0_cond1 (k0_t1 : Fin k0_t1_loop.trips) : BitVec 1 :=
  let c0_i32_6 : BitVec 32 := 0#32
  let c1_i32 : BitVec 32 := 1#32
  let arg11 : BitVec 32 := Scf.iv c0_i32_6 c1_i32 k0_t1
  let c1_i32_21 : BitVec 32 := 1#32
  let v30 : BitVec 32 := Scalar.addi arg11 c1_i32_21
  let c56_i32_22 : BitVec 32 := 56#32
  let v31 : BitVec 1 := Scalar.cmpi .slt v30 c56_i32_22
  let v32 : BitVec 32 := Scalar.extui v31
  let c0_i32_23 : BitVec 32 := 0#32
  let v33 : BitVec 1 := Scalar.cmpi .ne v32 c0_i32_23
  v33

def k0_off1 (k0_t1 : Fin k0_t1_loop.trips) : Fin 1 → Nat :=
  let c1_i32_33 : BitVec 32 := 1#32
  let c0_i32_6 : BitVec 32 := 0#32
  let c1_i32 : BitVec 32 := 1#32
  let arg11 : BitVec 32 := Scf.iv c0_i32_6 c1_i32 k0_t1
  let c2_i32_15 : BitVec 32 := 2#32
  let v22 : BitVec 32 := Scalar.remsi arg11 c2_i32_15
  let v45 : BitVec 32 := Scalar.subi c1_i32_33 v22
  let c2688_i32_34 : BitVec 32 := 2688#32
  let v46 : BitVec 32 := Scalar.muli v45 c2688_i32_34
  ![v46.toNat]
def k0_off2 (k0_t1 : Fin k0_t1_loop.trips) : Fin 2 → Nat :=
  let c0_i32_6 : BitVec 32 := 0#32
  let c1_i32 : BitVec 32 := 1#32
  let arg11 : BitVec 32 := Scf.iv c0_i32_6 c1_i32 k0_t1
  let c1_i32_32 : BitVec 32 := 1#32
  let v44 : BitVec 32 := Scalar.addi arg11 c1_i32_32
  let c0_i32_35 : BitVec 32 := 0#32
  ![v44.toNat, 0]
@[reducible] def k0_t2_loop : Scf.Loop 32 :=
  let c0_i32_24 : BitVec 32 := 0#32
  let c56_i32_25 : BitVec 32 := 56#32
  let v34 : BitVec 32 := Scalar.addi c0_i32_24 c56_i32_25
  let c1_i32_26 : BitVec 32 := 1#32
  ⟨c0_i32_24, v34, c1_i32_26⟩
def k0_off3 (k0_t1 : Fin k0_t1_loop.trips) (k0_t2 : Fin k0_t2_loop.trips) : Fin 1 → Nat :=
  let c0_i32_6 : BitVec 32 := 0#32
  let c1_i32 : BitVec 32 := 1#32
  let arg11 : BitVec 32 := Scf.iv c0_i32_6 c1_i32 k0_t1
  let c2_i32_15 : BitVec 32 := 2#32
  let v22 : BitVec 32 := Scalar.remsi arg11 c2_i32_15
  let c2688_i32 : BitVec 32 := 2688#32
  let v23 : BitVec 32 := Scalar.muli v22 c2688_i32
  let c0_i32_24 : BitVec 32 := 0#32
  let c1_i32_26 : BitVec 32 := 1#32
  let arg14 : BitVec 32 := Scf.iv c0_i32_24 c1_i32_26 k0_t2
  let c16_i32 : BitVec 32 := 16#32
  let v44 : BitVec 32 := Scalar.muli arg14 c16_i32
  let v45 : BitVec 32 := Scalar.addi v23 v44
  let v46 : Index := Scalar.indexCast v45
  ![v46.toNat]
def k0_off4 (k0_t1 : Fin k0_t1_loop.trips) (k0_t2 : Fin k0_t2_loop.trips) (c896_i32 : BitVec 32) : Fin 1 → Nat :=
  let c0_i32_6 : BitVec 32 := 0#32
  let c1_i32 : BitVec 32 := 1#32
  let arg11 : BitVec 32 := Scf.iv c0_i32_6 c1_i32 k0_t1
  let c2_i32_15 : BitVec 32 := 2#32
  let v22 : BitVec 32 := Scalar.remsi arg11 c2_i32_15
  let c2688_i32 : BitVec 32 := 2688#32
  let v23 : BitVec 32 := Scalar.muli v22 c2688_i32
  let v65 : BitVec 32 := Scalar.addi v23 c896_i32
  let c0_i32_24 : BitVec 32 := 0#32
  let c1_i32_26 : BitVec 32 := 1#32
  let arg14 : BitVec 32 := Scf.iv c0_i32_24 c1_i32_26 k0_t2
  let c16_i32_34 : BitVec 32 := 16#32
  let v66 : BitVec 32 := Scalar.muli arg14 c16_i32_34
  let v67 : BitVec 32 := Scalar.addi v65 v66
  let v68 : Index := Scalar.indexCast v67
  ![v68.toNat]
def k0_cond2 (v58 : BitVec 32) : BitVec 1 :=
  let c0_i32_32 : BitVec 32 := 0#32
  let v59 : BitVec 1 := Scalar.cmpi .sgt v58 c0_i32_32
  let v60 : BitVec 32 := Scalar.extui v59
  let c0_i32_33 : BitVec 32 := 0#32
  let v61 : BitVec 1 := Scalar.cmpi .ne v60 c0_i32_33
  v61

def k0_chk1 (v58 : BitVec 32) (v80 : IVec S16 32) : Prop :=
  (∀ (k0_h2 : k0_cond2 v58 = 1#1), ∀ a x, ((![v80] : Fin 1 → IVec S16 32) a x).toNat < S2048.size a) ∧
  (∀ (k0_h2 : k0_cond2 v58 = 1#1), ∀ a x, ((![v80] : Fin 1 → IVec S16 32) a x).toNat < S2048.size a)
theorem k0_idx1_inb : ∀ (v58 : BitVec 32) (v80 : IVec S16 32) (k0_hw1 : k0_chk1 v58 v80), ∀ (k0_h2 : k0_cond2 v58 = 1#1), ∀ a x, ((![v80] : Fin 1 → IVec S16 32) a x).toNat < S2048.size a := fun v58 v80 k0_hw1 k0_h2 => k0_hw1.1 k0_h2
theorem k0_idx2_inb : ∀ (v58 : BitVec 32) (v80 : IVec S16 32) (k0_hw1 : k0_chk1 v58 v80), ∀ (k0_h2 : k0_cond2 v58 = 1#1), ∀ a x, ((![v80] : Fin 1 → IVec S16 32) a x).toNat < S2048.size a := fun v58 v80 k0_hw1 k0_h2 => k0_hw1.2 k0_h2
def k0_off5 (i : grid0.Coords) (arg13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_32 : BitVec 32 := 1024#32
  let v44 : BitVec 32 := Scalar.muli arg13 c1024_i32_32
  ![v1.toNat, v44.toNat]
def k0_cond3 (v35 : BitVec 32) : BitVec 1 :=
  let c1024_i32_29 : BitVec 32 := 1024#32
  let v38 : BitVec 1 := Scalar.cmpi .sge v35 c1024_i32_29
  let v39 : BitVec 32 := Scalar.extui v38
  let c0_i32_30 : BitVec 32 := 0#32
  let v40 : BitVec 1 := Scalar.cmpi .ne v39 c0_i32_30
  v40

def k0_chk2 (i : grid0.Coords) (arg13 : BitVec 32) (v35 : BitVec 32) : Prop :=
  (∀ (k0_h3 : k0_cond3 v35 = 1#1), ∀ a, (k0_off5 i arg13) a + S1x1024.size a ≤ S32x52224.size a)
theorem k0_off5_inb : ∀ (i : grid0.Coords) (arg13 : BitVec 32) (v35 : BitVec 32) (k0_hw2 : k0_chk2 i arg13 v35), ∀ (k0_h3 : k0_cond3 v35 = 1#1), ∀ a, (k0_off5 i arg13) a + S1x1024.size a ≤ S32x52224.size a := fun i arg13 v35 k0_hw2 k0_h3 => k0_hw2 k0_h3

@[reducible] def k0_t3_loop : Scf.Loop 32 :=
  let c0_i32_35 : BitVec 32 := 0#32
  let c64_i32_36 : BitVec 32 := 64#32
  let v46 : BitVec 32 := Scalar.addi c0_i32_35 c64_i32_36
  let c1_i32_37 : BitVec 32 := 1#32
  ⟨c0_i32_35, v46, c1_i32_37⟩
def k0_off6 (k0_t3 : Fin k0_t3_loop.trips) : Fin 1 → Nat :=
  let c1024_i32_39 : BitVec 32 := 1024#32
  let c0_i32_35 : BitVec 32 := 0#32
  let c1_i32_37 : BitVec 32 := 1#32
  let arg14 : BitVec 32 := Scf.iv c0_i32_35 c1_i32_37 k0_t3
  let c16_i32 : BitVec 32 := 16#32
  let v47 : BitVec 32 := Scalar.muli arg14 c16_i32
  let v48 : BitVec 32 := Scalar.addi c1024_i32_39 v47
  let v49 : Index := Scalar.indexCast v48
  ![v49.toNat]
def k0_off7 (k0_t3 : Fin k0_t3_loop.trips) : Fin 1 → Nat :=
  let c0_i32_35 : BitVec 32 := 0#32
  let c1_i32_37 : BitVec 32 := 1#32
  let arg14 : BitVec 32 := Scf.iv c0_i32_35 c1_i32_37 k0_t3
  let c16_i32_42 : BitVec 32 := 16#32
  let v55 : BitVec 32 := Scalar.muli arg14 c16_i32_42
  let v56 : Index := Scalar.indexCast v55
  ![v56.toNat]
@[reducible] def k0_t4_loop : Scf.Loop 32 :=
  let c0_i32_9 : BitVec 32 := 0#32
  let c64_i32 : BitVec 32 := 64#32
  let v12 : BitVec 32 := Scalar.addi c0_i32_9 c64_i32
  let c1_i32_10 : BitVec 32 := 1#32
  ⟨c0_i32_9, v12, c1_i32_10⟩
def k0_off8 (v11_0 : BitVec 32) (k0_t4 : Fin k0_t4_loop.trips) : Fin 1 → Nat :=
  let c0_i32_9 : BitVec 32 := 0#32
  let c1_i32_10 : BitVec 32 := 1#32
  let arg11 : BitVec 32 := Scf.iv c0_i32_9 c1_i32_10 k0_t4
  let c16_i32 : BitVec 32 := 16#32
  let v23 : BitVec 32 := Scalar.muli arg11 c16_i32
  let v24 : BitVec 32 := Scalar.addi v11_0 v23
  let v25 : Index := Scalar.indexCast v24
  ![v25.toNat]

def k0_chk3 (v11_0 : BitVec 32) : Prop :=
  (∀ k0_t4 : Fin k0_t4_loop.trips, ∀ a, (k0_off8 v11_0 k0_t4) a + S16.size a ≤ S2048.size a)
theorem k0_off8_inb : ∀ (v11_0 : BitVec 32) (k0_hw3 : k0_chk3 v11_0) (k0_t4 : Fin k0_t4_loop.trips), ∀ a, (k0_off8 v11_0 k0_t4) a + S16.size a ≤ S2048.size a := fun v11_0 k0_hw3 k0_t4 => k0_hw3 k0_t4

def k0_off9 (i : grid0.Coords) (v11_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_15 : BitVec 32 := 1024#32
  let v22 : BitVec 32 := Scalar.muli v11_1 c1024_i32_15
  ![v1.toNat, v22.toNat]
def k0_cond4 (v11_0 : BitVec 32) : BitVec 1 :=
  let c0_i32_12 : BitVec 32 := 0#32
  let v13 : BitVec 1 := Scalar.cmpi .sgt v11_0 c0_i32_12
  let v14 : BitVec 32 := Scalar.extui v13
  let c0_i32_13 : BitVec 32 := 0#32
  let v15 : BitVec 1 := Scalar.cmpi .ne v14 c0_i32_13
  v15

def k0_chk4 (i : grid0.Coords) (v11_0 : BitVec 32) (v11_1 : BitVec 32) : Prop :=
  (∀ (k0_h4 : k0_cond4 v11_0 = 1#1), ∀ a, (k0_off9 i v11_1) a + S1x1024.size a ≤ S32x52224.size a)
theorem k0_off9_inb : ∀ (i : grid0.Coords) (v11_0 : BitVec 32) (v11_1 : BitVec 32) (k0_hw4 : k0_chk4 i v11_0 v11_1), ∀ (k0_h4 : k0_cond4 v11_0 = 1#1), ∀ a, (k0_off9 i v11_1) a + S1x1024.size a ≤ S32x52224.size a := fun i v11_0 v11_1 k0_hw4 k0_h4 => k0_hw4 k0_h4

def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r4 : BitVec 32 := 0#32
  ![v1.toNat, 0]
abbrev grid1 : Pipeline.Grid := ⟨2, ![8, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1024x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1280x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1280 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  ![v1.toNat, 0]
@[reducible] def k2_t1_loop : Scf.Loop 32 :=
  let c0_i32_4 : BitVec 32 := 0#32
  let c3_i32 : BitVec 32 := 3#32
  let v24 : BitVec 32 := Scalar.addi c0_i32_4 c3_i32
  let c1_i32_5 : BitVec 32 := 1#32
  ⟨c0_i32_4, v24, c1_i32_5⟩
def k2_off2 (i : grid2.Coords) (k2_t1 : Fin k2_t1_loop.trips) : Fin 2 → Nat :=
  let c35840_i32 : BitVec 32 := 35840#32
  let c0_i32_8 : BitVec 32 := 0#32
  let c0_i32_4 : BitVec 32 := 0#32
  let c1_i32_5 : BitVec 32 := 1#32
  let arg21 : BitVec 32 := Scf.iv c0_i32_4 c1_i32_5 k2_t1
  let c1_i32_7 : BitVec 32 := 1#32
  let v25 : BitVec 32 := Scalar.muli arg21 c1_i32_7
  let v26 : BitVec 32 := Scalar.addi c0_i32_8 v25
  let c2048_i32 : BitVec 32 := 2048#32
  let v27 : BitVec 32 := Scalar.muli v26 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v28 : BitVec 32 := Scalar.muli v1 c64_i32
  let v29 : BitVec 32 := Scalar.addi v27 v28
  let v40 : BitVec 32 := Scalar.addi c35840_i32 v29
  let c0_i32_32_r1 : BitVec 32 := 0#32
  ![v40.toNat, 0]
def k2_cond1 (i : grid2.Coords) (v6 : BitVec 32) (k2_t1 : Fin k2_t1_loop.trips) : BitVec 1 :=
  let c0_i32_8 : BitVec 32 := 0#32
  let c0_i32_4 : BitVec 32 := 0#32
  let c1_i32_5 : BitVec 32 := 1#32
  let arg21 : BitVec 32 := Scf.iv c0_i32_4 c1_i32_5 k2_t1
  let c1_i32_7 : BitVec 32 := 1#32
  let v25 : BitVec 32 := Scalar.muli arg21 c1_i32_7
  let v26 : BitVec 32 := Scalar.addi c0_i32_8 v25
  let c2048_i32 : BitVec 32 := 2048#32
  let v27 : BitVec 32 := Scalar.muli v26 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v28 : BitVec 32 := Scalar.muli v1 c64_i32
  let v29 : BitVec 32 := Scalar.addi v27 v28
  let c5120_i32 : BitVec 32 := 5120#32
  let v30 : BitVec 1 := Scalar.cmpi .slt v29 c5120_i32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let c0_i32_9 : BitVec 32 := 0#32
  let v31 : BitVec 1 := Scalar.cmpi .sgt v23 c0_i32_9
  let v32 : BitVec 1 := Scalar.andi v30 v31
  let v33 : BitVec 32 := Scalar.extui v32
  let c0_i32_10 : BitVec 32 := 0#32
  let v34 : BitVec 1 := Scalar.cmpi .ne v33 c0_i32_10
  v34

def k2_off3 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15 : BitVec 32 := 0#32
  ![v1.toNat, 0]
@[reducible] def k2_t2_loop (v6 : BitVec 32) : Scf.Loop 32 :=
  let c0_i32_22 : BitVec 32 := 0#32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let v53 : BitVec 32 := Scalar.subi v23 c0_i32_22
  let c1_i32_24 : BitVec 32 := 1#32
  let v55 : BitVec 32 := Scalar.divsi v53 c1_i32_24
  let v56 : BitVec 32 := Scalar.muli v55 c1_i32_24
  let v57 : BitVec 32 := Scalar.addi c0_i32_22 v56
  let c1_i32_25 : BitVec 32 := 1#32
  ⟨c0_i32_22, v57, c1_i32_25⟩
def k2_off4 (v6 : BitVec 32) (k2_t2 : Fin (k2_t2_loop v6).trips) : Fin 1 → Nat :=
  let c0_i32_22 : BitVec 32 := 0#32
  let c1_i32_25 : BitVec 32 := 1#32
  let arg22 : BitVec 32 := Scf.iv c0_i32_22 c1_i32_25 k2_t2
  let c2_i32_30 : BitVec 32 := 2#32
  let v68 : BitVec 32 := Scalar.remsi arg22 c2_i32_30
  let c1024_i32_32 : BitVec 32 := 1024#32
  let v70 : BitVec 32 := Scalar.muli v68 c1024_i32_32
  ![v70.toNat]
def k2_off5 (v6 : BitVec 32) (k2_t2 : Fin (k2_t2_loop v6).trips) : Fin 1 → Nat :=
  let c1_i32_58 : BitVec 32 := 1#32
  let c0_i32_22 : BitVec 32 := 0#32
  let c1_i32_25 : BitVec 32 := 1#32
  let arg22 : BitVec 32 := Scf.iv c0_i32_22 c1_i32_25 k2_t2
  let c2_i32_30 : BitVec 32 := 2#32
  let v68 : BitVec 32 := Scalar.remsi arg22 c2_i32_30
  let v119 : BitVec 32 := Scalar.subi c1_i32_58 v68
  let c1024_i32_60 : BitVec 32 := 1024#32
  let v121 : BitVec 32 := Scalar.muli v119 c1024_i32_60
  ![v121.toNat]
def k2_cond2 (v6 : BitVec 32) (k2_t2 : Fin (k2_t2_loop v6).trips) : BitVec 1 :=
  let c0_i32_22 : BitVec 32 := 0#32
  let c1_i32_25 : BitVec 32 := 1#32
  let arg22 : BitVec 32 := Scf.iv c0_i32_22 c1_i32_25 k2_t2
  let c1_i32_40 : BitVec 32 := 1#32
  let v84 : BitVec 32 := Scalar.addi arg22 c1_i32_40
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let v85 : BitVec 1 := Scalar.cmpi .slt v84 v23
  let v86 : BitVec 32 := Scalar.extui v85
  let c0_i32_41 : BitVec 32 := 0#32
  let v87 : BitVec 1 := Scalar.cmpi .ne v86 c0_i32_41
  v87

def k2_off6 (i : grid2.Coords) (v6 : BitVec 32) (k2_t2 : Fin (k2_t2_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c1_i32_25 : BitVec 32 := 1#32
  let arg22 : BitVec 32 := Scf.iv c0_i32_22 c1_i32_25 k2_t2
  let c1_i32_57 : BitVec 32 := 1#32
  let v118 : BitVec 32 := Scalar.addi arg22 c1_i32_57
  let c1024_i32_59 : BitVec 32 := 1024#32
  let v120 : BitVec 32 := Scalar.muli v118 c1024_i32_59
  ![v1.toNat, v120.toNat]
@[reducible] def k2_t3_loop : Scf.Loop 32 :=
  let c0_i32_42 : BitVec 32 := 0#32
  let c64_i32_43 : BitVec 32 := 64#32
  let v88 : BitVec 32 := Scalar.addi c0_i32_42 c64_i32_43
  let c1_i32_44 : BitVec 32 := 1#32
  ⟨c0_i32_42, v88, c1_i32_44⟩
def k2_off7 (v6 : BitVec 32) (k2_t2 : Fin (k2_t2_loop v6).trips) (k2_t3 : Fin k2_t3_loop.trips) : Fin 1 → Nat :=
  let c0_i32_22 : BitVec 32 := 0#32
  let c1_i32_25 : BitVec 32 := 1#32
  let arg22 : BitVec 32 := Scf.iv c0_i32_22 c1_i32_25 k2_t2
  let c2_i32_30 : BitVec 32 := 2#32
  let v68 : BitVec 32 := Scalar.remsi arg22 c2_i32_30
  let c1024_i32_31 : BitVec 32 := 1024#32
  let v69 : BitVec 32 := Scalar.muli v68 c1024_i32_31
  let c0_i32_42 : BitVec 32 := 0#32
  let c1_i32_44 : BitVec 32 := 1#32
  let arg24 : BitVec 32 := Scf.iv c0_i32_42 c1_i32_44 k2_t3
  let c16_i32_57 : BitVec 32 := 16#32
  let v118 : BitVec 32 := Scalar.muli arg24 c16_i32_57
  let v119 : BitVec 32 := Scalar.addi v69 v118
  let v120 : Index := Scalar.indexCast v119
  ![v120.toNat]
def k2_off8 (v6 : BitVec 32) (k2_t2 : Fin (k2_t2_loop v6).trips) (k2_t3 : Fin k2_t3_loop.trips) : Fin 1 → Nat :=
  let c0_i32_22 : BitVec 32 := 0#32
  let c1_i32_25 : BitVec 32 := 1#32
  let arg22 : BitVec 32 := Scf.iv c0_i32_22 c1_i32_25 k2_t2
  let c2_i32_30 : BitVec 32 := 2#32
  let v68 : BitVec 32 := Scalar.remsi arg22 c2_i32_30
  let c1024_i32_31 : BitVec 32 := 1024#32
  let v69 : BitVec 32 := Scalar.muli v68 c1024_i32_31
  let c0_i32_42 : BitVec 32 := 0#32
  let c1_i32_44 : BitVec 32 := 1#32
  let arg24 : BitVec 32 := Scf.iv c0_i32_42 c1_i32_44 k2_t3
  let c16_i32_63 : BitVec 32 := 16#32
  let v141 : BitVec 32 := Scalar.muli arg24 c16_i32_63
  let v142 : BitVec 32 := Scalar.addi v69 v141
  let v143 : Index := Scalar.indexCast v142
  ![v143.toNat]
def k2_cond3 (v134 : BitVec 32) : BitVec 1 :=
  let c0_i32_61 : BitVec 32 := 0#32
  let v135 : BitVec 1 := Scalar.cmpi .sgt v134 c0_i32_61
  let v136 : BitVec 32 := Scalar.extui v135
  let c0_i32_62 : BitVec 32 := 0#32
  let v137 : BitVec 1 := Scalar.cmpi .ne v136 c0_i32_62
  v137

def k2_chk2 (i : grid2.Coords) (v6 : BitVec 32) (k2_t1 : Fin k2_t1_loop.trips) (k2_t2 : Fin (k2_t2_loop v6).trips) (k2_t3 : Fin k2_t3_loop.trips) (v134 : BitVec 32) : Prop :=
  (∀ (k2_h1 : k2_cond1 i v6 k2_t1 = 1#1), ∀ (k2_h3 : k2_cond3 v134 = 1#1), ∀ a, (k2_off8 v6 k2_t2 k2_t3) a + S16.size a ≤ S2048.size a)
theorem k2_off8_inb : ∀ (i : grid2.Coords) (v6 : BitVec 32) (k2_t1 : Fin k2_t1_loop.trips) (k2_t2 : Fin (k2_t2_loop v6).trips) (k2_t3 : Fin k2_t3_loop.trips) (v134 : BitVec 32) (k2_hw2 : k2_chk2 i v6 k2_t1 k2_t2 k2_t3 v134), ∀ (k2_h1 : k2_cond1 i v6 k2_t1 = 1#1), ∀ (k2_h3 : k2_cond3 v134 = 1#1), ∀ a, (k2_off8 v6 k2_t2 k2_t3) a + S16.size a ≤ S2048.size a := fun i v6 k2_t1 k2_t2 k2_t3 v134 k2_hw2 k2_h1 k2_h3 => k2_hw2 k2_h1 k2_h3

def k2_chk3 (i : grid2.Coords) (v6 : BitVec 32) (k2_t1 : Fin k2_t1_loop.trips) (v134 : BitVec 32) (v150 : IVec S16 32) : Prop :=
  (∀ (k2_h1 : k2_cond1 i v6 k2_t1 = 1#1), ∀ (k2_h3 : k2_cond3 v134 = 1#1), ∀ a x, ((![v150] : Fin 1 → IVec S16 32) a x).toNat < S1056.size a) ∧
  (∀ (k2_h1 : k2_cond1 i v6 k2_t1 = 1#1), ∀ (k2_h3 : k2_cond3 v134 = 1#1), ∀ a x, ((![v150] : Fin 1 → IVec S16 32) a x).toNat < S1056.size a)
theorem k2_idx1_inb : ∀ (i : grid2.Coords) (v6 : BitVec 32) (k2_t1 : Fin k2_t1_loop.trips) (v134 : BitVec 32) (v150 : IVec S16 32) (k2_hw3 : k2_chk3 i v6 k2_t1 v134 v150), ∀ (k2_h1 : k2_cond1 i v6 k2_t1 = 1#1), ∀ (k2_h3 : k2_cond3 v134 = 1#1), ∀ a x, ((![v150] : Fin 1 → IVec S16 32) a x).toNat < S1056.size a := fun i v6 k2_t1 v134 v150 k2_hw3 k2_h1 k2_h3 => k2_hw3.1 k2_h1 k2_h3
theorem k2_idx2_inb : ∀ (i : grid2.Coords) (v6 : BitVec 32) (k2_t1 : Fin k2_t1_loop.trips) (v134 : BitVec 32) (v150 : IVec S16 32) (k2_hw3 : k2_chk3 i v6 k2_t1 v134 v150), ∀ (k2_h1 : k2_cond1 i v6 k2_t1 = 1#1), ∀ (k2_h3 : k2_cond3 v134 = 1#1), ∀ a x, ((![v150] : Fin 1 → IVec S16 32) a x).toNat < S1056.size a := fun i v6 k2_t1 v134 v150 k2_hw3 k2_h1 k2_h3 => k2_hw3.2 k2_h1 k2_h3
@[reducible] def k2_t4_loop (v89 : BitVec 32) : Scf.Loop 32 :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_119 : BitVec 32 := 1#32
  ⟨c0_i32_117, v152, c1_i32_119⟩
def k2_cond4 (v89 : BitVec 32) : BitVec 1 :=
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let c0_i32_52 : BitVec 32 := 0#32
  let v107 : BitVec 1 := Scalar.cmpi .sgt v106 c0_i32_52
  let v108 : BitVec 32 := Scalar.extui v107
  let c0_i32_53 : BitVec 32 := 0#32
  let v109 : BitVec 1 := Scalar.cmpi .ne v108 c0_i32_53
  v109

def k2_off9 (v89 : BitVec 32) (k2_t4 : Fin (k2_t4_loop v89).trips) : Fin 4 → Nat :=
  let c0_i32_125 : BitVec 32 := 0#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let c16_i32_123 : BitVec 32 := 16#32
  let v155 : BitVec 32 := Scalar.muli v153 c16_i32_123
  let c0_i32_126 : BitVec 32 := 0#32
  let c0_i32_127 : BitVec 32 := 0#32
  ![0, v155.toNat, 0, 0]
def k2_off10 (v89 : BitVec 32) (k2_t4 : Fin (k2_t4_loop v89).trips) : Fin 1 → Nat :=
  let c0_i32_117 : BitVec 32 := 0#32
  let c1_i32_119 : BitVec 32 := 1#32
  let arg24 : BitVec 32 := Scf.iv c0_i32_117 c1_i32_119 k2_t4
  let c16_i32_122 : BitVec 32 := 16#32
  let v154 : BitVec 32 := Scalar.muli arg24 c16_i32_122
  ![v154.toNat]
def k2_off11 (v89 : BitVec 32) (k2_t4 : Fin (k2_t4_loop v89).trips) : Fin 4 → Nat :=
  let c1_i32_136 : BitVec 32 := 1#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let c16_i32_134 : BitVec 32 := 16#32
  let v162 : BitVec 32 := Scalar.muli v153 c16_i32_134
  let c0_i32_137 : BitVec 32 := 0#32
  let c0_i32_138 : BitVec 32 := 0#32
  ![1, v162.toNat, 0, 0]
def k2_off12 (v89 : BitVec 32) (k2_t4 : Fin (k2_t4_loop v89).trips) : Fin 4 → Nat :=
  let c2_i32_147 : BitVec 32 := 2#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let c16_i32_145 : BitVec 32 := 16#32
  let v169 : BitVec 32 := Scalar.muli v153 c16_i32_145
  let c0_i32_148 : BitVec 32 := 0#32
  let c0_i32_149 : BitVec 32 := 0#32
  ![2, v169.toNat, 0, 0]
def k2_off13 (v89 : BitVec 32) (k2_t4 : Fin (k2_t4_loop v89).trips) : Fin 4 → Nat :=
  let c3_i32_158 : BitVec 32 := 3#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let c16_i32_156 : BitVec 32 := 16#32
  let v176 : BitVec 32 := Scalar.muli v153 c16_i32_156
  let c0_i32_159 : BitVec 32 := 0#32
  let c0_i32_160 : BitVec 32 := 0#32
  ![3, v176.toNat, 0, 0]
def k2_off14 (v89 : BitVec 32) (k2_t4 : Fin (k2_t4_loop v89).trips) : Fin 4 → Nat :=
  let c4_i32_169 : BitVec 32 := 4#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let c16_i32_167 : BitVec 32 := 16#32
  let v183 : BitVec 32 := Scalar.muli v153 c16_i32_167
  let c0_i32_170 : BitVec 32 := 0#32
  let c0_i32_171 : BitVec 32 := 0#32
  ![4, v183.toNat, 0, 0]
def k2_off15 (v89 : BitVec 32) (k2_t4 : Fin (k2_t4_loop v89).trips) : Fin 4 → Nat :=
  let c0_i32_191 : BitVec 32 := 0#32
  let c1_i32_188 : BitVec 32 := 1#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let v198 : BitVec 32 := Scalar.subi c1_i32_188 v153
  let c16_i32_189 : BitVec 32 := 16#32
  let v199 : BitVec 32 := Scalar.muli v198 c16_i32_189
  let c0_i32_192 : BitVec 32 := 0#32
  let c0_i32_193 : BitVec 32 := 0#32
  ![0, v199.toNat, 0, 0]
def k2_cond5 (v89 : BitVec 32) (k2_t4 : Fin (k2_t4_loop v89).trips) : BitVec 1 :=
  let c0_i32_117 : BitVec 32 := 0#32
  let c1_i32_119 : BitVec 32 := 1#32
  let arg24 : BitVec 32 := Scf.iv c0_i32_117 c1_i32_119 k2_t4
  let c1_i32_178 : BitVec 32 := 1#32
  let v190 : BitVec 32 := Scalar.addi arg24 c1_i32_178
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v191 : BitVec 1 := Scalar.cmpi .slt v190 v106
  let v192 : BitVec 32 := Scalar.extui v191
  let c0_i32_179 : BitVec 32 := 0#32
  let v193 : BitVec 1 := Scalar.cmpi .ne v192 c0_i32_179
  v193

def k2_off16 (v89 : BitVec 32) (k2_t4 : Fin (k2_t4_loop v89).trips) : Fin 1 → Nat :=
  let c0_i32_117 : BitVec 32 := 0#32
  let c1_i32_119 : BitVec 32 := 1#32
  let arg24 : BitVec 32 := Scf.iv c0_i32_117 c1_i32_119 k2_t4
  let c1_i32_186 : BitVec 32 := 1#32
  let v196 : BitVec 32 := Scalar.addi arg24 c1_i32_186
  let c16_i32_187 : BitVec 32 := 16#32
  let v197 : BitVec 32 := Scalar.muli v196 c16_i32_187
  ![v197.toNat]
def k2_off17 (v89 : BitVec 32) (k2_t4 : Fin (k2_t4_loop v89).trips) : Fin 4 → Nat :=
  let c1_i32_202 : BitVec 32 := 1#32
  let c1_i32_188 : BitVec 32 := 1#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let v198 : BitVec 32 := Scalar.subi c1_i32_188 v153
  let c16_i32_200 : BitVec 32 := 16#32
  let v206 : BitVec 32 := Scalar.muli v198 c16_i32_200
  let c0_i32_203 : BitVec 32 := 0#32
  let c0_i32_204 : BitVec 32 := 0#32
  ![1, v206.toNat, 0, 0]
def k2_off18 (v89 : BitVec 32) (k2_t4 : Fin (k2_t4_loop v89).trips) : Fin 4 → Nat :=
  let c2_i32_213 : BitVec 32 := 2#32
  let c1_i32_188 : BitVec 32 := 1#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let v198 : BitVec 32 := Scalar.subi c1_i32_188 v153
  let c16_i32_211 : BitVec 32 := 16#32
  let v213 : BitVec 32 := Scalar.muli v198 c16_i32_211
  let c0_i32_214 : BitVec 32 := 0#32
  let c0_i32_215 : BitVec 32 := 0#32
  ![2, v213.toNat, 0, 0]
def k2_off19 (v89 : BitVec 32) (k2_t4 : Fin (k2_t4_loop v89).trips) : Fin 4 → Nat :=
  let c3_i32_224 : BitVec 32 := 3#32
  let c1_i32_188 : BitVec 32 := 1#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let v198 : BitVec 32 := Scalar.subi c1_i32_188 v153
  let c16_i32_222 : BitVec 32 := 16#32
  let v220 : BitVec 32 := Scalar.muli v198 c16_i32_222
  let c0_i32_225 : BitVec 32 := 0#32
  let c0_i32_226 : BitVec 32 := 0#32
  ![3, v220.toNat, 0, 0]
def k2_off20 (v89 : BitVec 32) (k2_t4 : Fin (k2_t4_loop v89).trips) : Fin 4 → Nat :=
  let c4_i32_235 : BitVec 32 := 4#32
  let c1_i32_188 : BitVec 32 := 1#32
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let v198 : BitVec 32 := Scalar.subi c1_i32_188 v153
  let c16_i32_233 : BitVec 32 := 16#32
  let v227 : BitVec 32 := Scalar.muli v198 c16_i32_233
  let c0_i32_236 : BitVec 32 := 0#32
  let c0_i32_237 : BitVec 32 := 0#32
  ![4, v227.toNat, 0, 0]
@[reducible] def k2_t5_loop : Scf.Loop 32 :=
  let c0_i32_182 : BitVec 32 := 0#32
  let c16_i32_183 : BitVec 32 := 16#32
  let v195 : BitVec 32 := Scalar.addi c0_i32_182 c16_i32_183
  let c1_i32_184 : BitVec 32 := 1#32
  ⟨c0_i32_182, v195, c1_i32_184⟩
def k2_off21 (v89 : BitVec 32) (k2_t4 : Fin (k2_t4_loop v89).trips) (k2_t5 : Fin k2_t5_loop.trips) : Fin 1 → Nat :=
  let c0_i32_117 : BitVec 32 := 0#32
  let c1_i32_119 : BitVec 32 := 1#32
  let arg24 : BitVec 32 := Scf.iv c0_i32_117 c1_i32_119 k2_t4
  let c16_i32_180 : BitVec 32 := 16#32
  let v194 : BitVec 32 := Scalar.muli arg24 c16_i32_180
  let c0_i32_182 : BitVec 32 := 0#32
  let c1_i32_184 : BitVec 32 := 1#32
  let arg25 : BitVec 32 := Scf.iv c0_i32_182 c1_i32_184 k2_t5
  let v196 : BitVec 32 := Scalar.addi v194 arg25
  let v197 : Index := Scalar.indexCast v196
  ![v197.toNat]
@[reducible] def k2_t6_loop : Scf.Loop 32 :=
  let c0_i32_187 : BitVec 32 := 0#32
  let c80_i32 : BitVec 32 := 80#32
  let v201 : BitVec 32 := Scalar.addi c0_i32_187 c80_i32
  let c1_i32_188 : BitVec 32 := 1#32
  ⟨c0_i32_187, v201, c1_i32_188⟩
def k2_off22 (v89 : BitVec 32) (k2_t4 : Fin (k2_t4_loop v89).trips) (k2_t5 : Fin k2_t5_loop.trips) (k2_t6 : Fin k2_t6_loop.trips) : Fin 4 → Nat :=
  let c0_i32_187 : BitVec 32 := 0#32
  let c1_i32_188 : BitVec 32 := 1#32
  let arg26 : BitVec 32 := Scf.iv c0_i32_187 c1_i32_188 k2_t6
  let c4_i32_190 : BitVec 32 := 4#32
  let v202 : BitVec 32 := Scalar.shrsi arg26 c4_i32_190
  let v209 : Index := Scalar.indexCast v202
  let c0_i32_117 : BitVec 32 := 0#32
  let c1_i32_119 : BitVec 32 := 1#32
  let arg24 : BitVec 32 := Scf.iv c0_i32_117 c1_i32_119 k2_t4
  let c2_i32_121 : BitVec 32 := 2#32
  let v153 : BitVec 32 := Scalar.remsi arg24 c2_i32_121
  let c16_i32_191 : BitVec 32 := 16#32
  let v203 : BitVec 32 := Scalar.muli v153 c16_i32_191
  let c0_i32_182 : BitVec 32 := 0#32
  let c1_i32_184 : BitVec 32 := 1#32
  let arg25 : BitVec 32 := Scf.iv c0_i32_182 c1_i32_184 k2_t5
  let v204 : BitVec 32 := Scalar.addi v203 arg25
  let v210 : Index := Scalar.indexCast v204
  let c3_i32_192 : BitVec 32 := 3#32
  let v205 : BitVec 32 := Scalar.shrsi arg26 c3_i32_192
  let c1_i32_193 : BitVec 32 := 1#32
  let v206 : BitVec 32 := Scalar.andi v205 c1_i32_193
  let v211 : Index := Scalar.indexCast v206
  let c7_i32 : BitVec 32 := 7#32
  let v207 : BitVec 32 := Scalar.andi arg26 c7_i32
  let c16_i32_194 : BitVec 32 := 16#32
  let v208 : BitVec 32 := Scalar.muli v207 c16_i32_194
  let v212 : Index := Scalar.indexCast v208
  ![v209.toNat, v210.toNat, v211.toNat, v212.toNat]
def k2_off23 (v200 : BitVec 32) (k2_t6 : Fin k2_t6_loop.trips) : Fin 2 → Nat :=
  let v215 : Index := Scalar.indexCast v200
  let c0_i32_187 : BitVec 32 := 0#32
  let c1_i32_188 : BitVec 32 := 1#32
  let arg26 : BitVec 32 := Scf.iv c0_i32_187 c1_i32_188 k2_t6
  let c16_i32_195 : BitVec 32 := 16#32
  let v214 : BitVec 32 := Scalar.muli arg26 c16_i32_195
  let v216 : Index := Scalar.indexCast v214
  ![v215.toNat, v216.toNat]

def k2_chk5 (i : grid2.Coords) (v6 : BitVec 32) (k2_t1 : Fin k2_t1_loop.trips) (v89 : BitVec 32) (v200 : BitVec 32) : Prop :=
  (∀ k2_t6 : Fin k2_t6_loop.trips, ∀ (k2_h1 : k2_cond1 i v6 k2_t1 = 1#1), ∀ (k2_h4 : k2_cond4 v89 = 1#1), ∀ a, (k2_off23 v200 k2_t6) a + S1x16.size a ≤ S64x1280.size a)
theorem k2_off23_inb : ∀ (i : grid2.Coords) (v6 : BitVec 32) (k2_t1 : Fin k2_t1_loop.trips) (v89 : BitVec 32) (v200 : BitVec 32) (k2_hw5 : k2_chk5 i v6 k2_t1 v89 v200) (k2_t6 : Fin k2_t6_loop.trips), ∀ (k2_h1 : k2_cond1 i v6 k2_t1 = 1#1), ∀ (k2_h4 : k2_cond4 v89 = 1#1), ∀ a, (k2_off23 v200 k2_t6) a + S1x16.size a ≤ S64x1280.size a := fun i v6 k2_t1 v89 v200 k2_hw5 k2_t6 k2_h1 k2_h4 => k2_hw5 k2_t6 k2_h1 k2_h4

@[reducible] def k2_t7_loop (v89 : BitVec 32) : Scf.Loop 32 :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let v149 : BitVec 32 := Scalar.addi c0_i32_117 v148
  let c1_i32_120 : BitVec 32 := 1#32
  ⟨v152, v149, c1_i32_120⟩
def k2_off24 (v89 : BitVec 32) (k2_t7 : Fin (k2_t7_loop v89).trips) : Fin 4 → Nat :=
  let c0_i32_125 : BitVec 32 := 0#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let c16_i32_123 : BitVec 32 := 16#32
  let v155 : BitVec 32 := Scalar.muli v153 c16_i32_123
  let c0_i32_126 : BitVec 32 := 0#32
  let c0_i32_127 : BitVec 32 := 0#32
  ![0, v155.toNat, 0, 0]
def k2_off25 (v89 : BitVec 32) (k2_t7 : Fin (k2_t7_loop v89).trips) : Fin 1 → Nat :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c16_i32_122 : BitVec 32 := 16#32
  let v154 : BitVec 32 := Scalar.muli arg24 c16_i32_122
  ![v154.toNat]
def k2_off26 (v89 : BitVec 32) (k2_t7 : Fin (k2_t7_loop v89).trips) : Fin 4 → Nat :=
  let c1_i32_136 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let c16_i32_134 : BitVec 32 := 16#32
  let v162 : BitVec 32 := Scalar.muli v153 c16_i32_134
  let c0_i32_137 : BitVec 32 := 0#32
  let c0_i32_138 : BitVec 32 := 0#32
  ![1, v162.toNat, 0, 0]
def k2_off27 (v89 : BitVec 32) (k2_t7 : Fin (k2_t7_loop v89).trips) : Fin 4 → Nat :=
  let c2_i32_147 : BitVec 32 := 2#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let c16_i32_145 : BitVec 32 := 16#32
  let v169 : BitVec 32 := Scalar.muli v153 c16_i32_145
  let c0_i32_148 : BitVec 32 := 0#32
  let c0_i32_149 : BitVec 32 := 0#32
  ![2, v169.toNat, 0, 0]
def k2_off28 (v89 : BitVec 32) (k2_t7 : Fin (k2_t7_loop v89).trips) : Fin 4 → Nat :=
  let c3_i32_158 : BitVec 32 := 3#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let c16_i32_156 : BitVec 32 := 16#32
  let v176 : BitVec 32 := Scalar.muli v153 c16_i32_156
  let c0_i32_159 : BitVec 32 := 0#32
  let c0_i32_160 : BitVec 32 := 0#32
  ![3, v176.toNat, 0, 0]
def k2_off29 (v89 : BitVec 32) (k2_t7 : Fin (k2_t7_loop v89).trips) : Fin 4 → Nat :=
  let c4_i32_169 : BitVec 32 := 4#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let c16_i32_167 : BitVec 32 := 16#32
  let v183 : BitVec 32 := Scalar.muli v153 c16_i32_167
  let c0_i32_170 : BitVec 32 := 0#32
  let c0_i32_171 : BitVec 32 := 0#32
  ![4, v183.toNat, 0, 0]
def k2_off30 (v89 : BitVec 32) (k2_t7 : Fin (k2_t7_loop v89).trips) : Fin 4 → Nat :=
  let c0_i32_191 : BitVec 32 := 0#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let v198 : BitVec 32 := Scalar.subi c1_i32_188 v153
  let c16_i32_189 : BitVec 32 := 16#32
  let v199 : BitVec 32 := Scalar.muli v198 c16_i32_189
  let c0_i32_192 : BitVec 32 := 0#32
  let c0_i32_193 : BitVec 32 := 0#32
  ![0, v199.toNat, 0, 0]
def k2_cond6 (v89 : BitVec 32) (k2_t7 : Fin (k2_t7_loop v89).trips) : BitVec 1 :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c1_i32_178 : BitVec 32 := 1#32
  let v190 : BitVec 32 := Scalar.addi arg24 c1_i32_178
  let v191 : BitVec 1 := Scalar.cmpi .slt v190 v106
  let v192 : BitVec 32 := Scalar.extui v191
  let c0_i32_179 : BitVec 32 := 0#32
  let v193 : BitVec 1 := Scalar.cmpi .ne v192 c0_i32_179
  v193

def k2_off31 (v89 : BitVec 32) (k2_t7 : Fin (k2_t7_loop v89).trips) : Fin 1 → Nat :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c1_i32_186 : BitVec 32 := 1#32
  let v196 : BitVec 32 := Scalar.addi arg24 c1_i32_186
  let c16_i32_187 : BitVec 32 := 16#32
  let v197 : BitVec 32 := Scalar.muli v196 c16_i32_187
  ![v197.toNat]
def k2_off32 (v89 : BitVec 32) (k2_t7 : Fin (k2_t7_loop v89).trips) : Fin 4 → Nat :=
  let c1_i32_202 : BitVec 32 := 1#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let v198 : BitVec 32 := Scalar.subi c1_i32_188 v153
  let c16_i32_200 : BitVec 32 := 16#32
  let v206 : BitVec 32 := Scalar.muli v198 c16_i32_200
  let c0_i32_203 : BitVec 32 := 0#32
  let c0_i32_204 : BitVec 32 := 0#32
  ![1, v206.toNat, 0, 0]
def k2_off33 (v89 : BitVec 32) (k2_t7 : Fin (k2_t7_loop v89).trips) : Fin 4 → Nat :=
  let c2_i32_213 : BitVec 32 := 2#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let v198 : BitVec 32 := Scalar.subi c1_i32_188 v153
  let c16_i32_211 : BitVec 32 := 16#32
  let v213 : BitVec 32 := Scalar.muli v198 c16_i32_211
  let c0_i32_214 : BitVec 32 := 0#32
  let c0_i32_215 : BitVec 32 := 0#32
  ![2, v213.toNat, 0, 0]
def k2_off34 (v89 : BitVec 32) (k2_t7 : Fin (k2_t7_loop v89).trips) : Fin 4 → Nat :=
  let c3_i32_224 : BitVec 32 := 3#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let v198 : BitVec 32 := Scalar.subi c1_i32_188 v153
  let c16_i32_222 : BitVec 32 := 16#32
  let v220 : BitVec 32 := Scalar.muli v198 c16_i32_222
  let c0_i32_225 : BitVec 32 := 0#32
  let c0_i32_226 : BitVec 32 := 0#32
  ![3, v220.toNat, 0, 0]
def k2_off35 (v89 : BitVec 32) (k2_t7 : Fin (k2_t7_loop v89).trips) : Fin 4 → Nat :=
  let c4_i32_235 : BitVec 32 := 4#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let v198 : BitVec 32 := Scalar.subi c1_i32_188 v153
  let c16_i32_233 : BitVec 32 := 16#32
  let v227 : BitVec 32 := Scalar.muli v198 c16_i32_233
  let c0_i32_236 : BitVec 32 := 0#32
  let c0_i32_237 : BitVec 32 := 0#32
  ![4, v227.toNat, 0, 0]
@[reducible] def k2_t8_loop : Scf.Loop 32 :=
  let c0_i32_182 : BitVec 32 := 0#32
  let c16_i32_183 : BitVec 32 := 16#32
  let v195 : BitVec 32 := Scalar.addi c0_i32_182 c16_i32_183
  let c1_i32_184 : BitVec 32 := 1#32
  ⟨c0_i32_182, v195, c1_i32_184⟩
def k2_off36 (v89 : BitVec 32) (k2_t7 : Fin (k2_t7_loop v89).trips) (k2_t8 : Fin k2_t8_loop.trips) : Fin 1 → Nat :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c16_i32_180 : BitVec 32 := 16#32
  let v194 : BitVec 32 := Scalar.muli arg24 c16_i32_180
  let c0_i32_182 : BitVec 32 := 0#32
  let c1_i32_184 : BitVec 32 := 1#32
  let arg25 : BitVec 32 := Scf.iv c0_i32_182 c1_i32_184 k2_t8
  let v196 : BitVec 32 := Scalar.addi v194 arg25
  let v197 : Index := Scalar.indexCast v196
  ![v197.toNat]
@[reducible] def k2_t9_loop : Scf.Loop 32 :=
  let c0_i32_187 : BitVec 32 := 0#32
  let c80_i32 : BitVec 32 := 80#32
  let v201 : BitVec 32 := Scalar.addi c0_i32_187 c80_i32
  let c1_i32_188 : BitVec 32 := 1#32
  ⟨c0_i32_187, v201, c1_i32_188⟩
def k2_off37 (v89 : BitVec 32) (k2_t7 : Fin (k2_t7_loop v89).trips) (k2_t8 : Fin k2_t8_loop.trips) (k2_t9 : Fin k2_t9_loop.trips) : Fin 4 → Nat :=
  let c0_i32_187 : BitVec 32 := 0#32
  let c1_i32_188 : BitVec 32 := 1#32
  let arg26 : BitVec 32 := Scf.iv c0_i32_187 c1_i32_188 k2_t9
  let c4_i32_190 : BitVec 32 := 4#32
  let v202 : BitVec 32 := Scalar.shrsi arg26 c4_i32_190
  let v209 : Index := Scalar.indexCast v202
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t7
  let c2_i32_121 : BitVec 32 := 2#32
  let v153 : BitVec 32 := Scalar.remsi arg24 c2_i32_121
  let c16_i32_191 : BitVec 32 := 16#32
  let v203 : BitVec 32 := Scalar.muli v153 c16_i32_191
  let c0_i32_182 : BitVec 32 := 0#32
  let c1_i32_184 : BitVec 32 := 1#32
  let arg25 : BitVec 32 := Scf.iv c0_i32_182 c1_i32_184 k2_t8
  let v204 : BitVec 32 := Scalar.addi v203 arg25
  let v210 : Index := Scalar.indexCast v204
  let c3_i32_192 : BitVec 32 := 3#32
  let v205 : BitVec 32 := Scalar.shrsi arg26 c3_i32_192
  let c1_i32_193 : BitVec 32 := 1#32
  let v206 : BitVec 32 := Scalar.andi v205 c1_i32_193
  let v211 : Index := Scalar.indexCast v206
  let c7_i32 : BitVec 32 := 7#32
  let v207 : BitVec 32 := Scalar.andi arg26 c7_i32
  let c16_i32_194 : BitVec 32 := 16#32
  let v208 : BitVec 32 := Scalar.muli v207 c16_i32_194
  let v212 : Index := Scalar.indexCast v208
  ![v209.toNat, v210.toNat, v211.toNat, v212.toNat]
def k2_off38 (v200 : BitVec 32) (k2_t9 : Fin k2_t9_loop.trips) : Fin 2 → Nat :=
  let v215 : Index := Scalar.indexCast v200
  let c0_i32_187 : BitVec 32 := 0#32
  let c1_i32_188 : BitVec 32 := 1#32
  let arg26 : BitVec 32 := Scf.iv c0_i32_187 c1_i32_188 k2_t9
  let c16_i32_195 : BitVec 32 := 16#32
  let v214 : BitVec 32 := Scalar.muli arg26 c16_i32_195
  let v216 : Index := Scalar.indexCast v214
  ![v215.toNat, v216.toNat]

def k2_chk6 (i : grid2.Coords) (v6 : BitVec 32) (k2_t1 : Fin k2_t1_loop.trips) (v89 : BitVec 32) (v200 : BitVec 32) : Prop :=
  (∀ k2_t9 : Fin k2_t9_loop.trips, ∀ (k2_h1 : k2_cond1 i v6 k2_t1 = 1#1), ∀ (k2_h4 : k2_cond4 v89 = 1#1), ∀ a, (k2_off38 v200 k2_t9) a + S1x16.size a ≤ S64x1280.size a)
theorem k2_off38_inb : ∀ (i : grid2.Coords) (v6 : BitVec 32) (k2_t1 : Fin k2_t1_loop.trips) (v89 : BitVec 32) (v200 : BitVec 32) (k2_hw6 : k2_chk6 i v6 k2_t1 v89 v200) (k2_t9 : Fin k2_t9_loop.trips), ∀ (k2_h1 : k2_cond1 i v6 k2_t1 = 1#1), ∀ (k2_h4 : k2_cond4 v89 = 1#1), ∀ a, (k2_off38 v200 k2_t9) a + S1x16.size a ≤ S64x1280.size a := fun i v6 k2_t1 v89 v200 k2_hw6 k2_t9 k2_h1 k2_h4 => k2_hw6 k2_t9 k2_h1 k2_h4

def k2_off39 (v89 : BitVec 32) : Fin 1 → Nat :=
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let c16_i32_54 : BitVec 32 := 16#32
  let v110 : BitVec 32 := Scalar.muli v106 c16_i32_54
  let v111 : Index := Scalar.indexCast v110
  ![v111.toNat]

def k2_chk4 (i : grid2.Coords) (v6 : BitVec 32) (k2_t1 : Fin k2_t1_loop.trips) (v89 : BitVec 32) : Prop :=
  (∀ (k2_h1 : k2_cond1 i v6 k2_t1 = 1#1), ∀ (k2_h4 : k2_cond4 v89 = 1#1), (k2_t4_loop v89).OK) ∧
  (∀ k2_t4 : Fin (k2_t4_loop v89).trips, ∀ (k2_h1 : k2_cond1 i v6 k2_t1 = 1#1), ∀ (k2_h4 : k2_cond4 v89 = 1#1), ∀ a, (k2_off9 v89 k2_t4) a + S1x16x2x128.size a ≤ S5x32x2x128.size a) ∧
  (∀ k2_t4 : Fin (k2_t4_loop v89).trips, ∀ (k2_h1 : k2_cond1 i v6 k2_t1 = 1#1), ∀ (k2_h4 : k2_cond4 v89 = 1#1), ∀ a, (k2_off10 v89 k2_t4) a + S16.size a ≤ S1056.size a) ∧
  (∀ k2_t4 : Fin (k2_t4_loop v89).trips, ∀ (k2_h1 : k2_cond1 i v6 k2_t1 = 1#1), ∀ (k2_h4 : k2_cond4 v89 = 1#1), ∀ a, (k2_off11 v89 k2_t4) a + S1x16x2x128.size a ≤ S5x32x2x128.size a) ∧
  (∀ k2_t4 : Fin (k2_t4_loop v89).trips, ∀ (k2_h1 : k2_cond1 i v6 k2_t1 = 1#1), ∀ (k2_h4 : k2_cond4 v89 = 1#1), ∀ a, (k2_off12 v89 k2_t4) a + S1x16x2x128.size a ≤ S5x32x2x128.size a) ∧
  (∀ k2_t4 : Fin (k2_t4_loop v89).trips, ∀ (k2_h1 : k2_cond1 i v6 k2_t1 = 1#1), ∀ (k2_h4 : k2_cond4 v89 = 1#1), ∀ a, (k2_off13 v89 k2_t4) a + S1x16x2x128.size a ≤ S5x32x2x128.size a) ∧
  (∀ k2_t4 : Fin (k2_t4_loop v89).trips, ∀ (k2_h1 : k2_cond1 i v6 k2_t1 = 1#1), ∀ (k2_h4 : k2_cond4 v89 = 1#1), ∀ a, (k2_off14 v89 k2_t4) a + S1x16x2x128.size a ≤ S5x32x2x128.size a) ∧
  (∀ k2_t4 : Fin (k2_t4_loop v89).trips, ∀ (k2_h1 : k2_cond1 i v6 k2_t1 = 1#1), ∀ (k2_h4 : k2_cond4 v89 = 1#1), ∀ (k2_h5 : k2_cond5 v89 k2_t4 = 1#1), ∀ a, (k2_off15 v89 k2_t4) a + S1x16x2x128.size a ≤ S5x32x2x128.size a) ∧
  (∀ k2_t4 : Fin (k2_t4_loop v89).trips, ∀ (k2_h1 : k2_cond1 i v6 k2_t1 = 1#1), ∀ (k2_h4 : k2_cond4 v89 = 1#1), ∀ (k2_h5 : k2_cond5 v89 k2_t4 = 1#1), ∀ a, (k2_off16 v89 k2_t4) a + S16.size a ≤ S1056.size a) ∧
  (∀ k2_t4 : Fin (k2_t4_loop v89).trips, ∀ (k2_h1 : k2_cond1 i v6 k2_t1 = 1#1), ∀ (k2_h4 : k2_cond4 v89 = 1#1), ∀ (k2_h5 : k2_cond5 v89 k2_t4 = 1#1), ∀ a, (k2_off17 v89 k2_t4) a + S1x16x2x128.size a ≤ S5x32x2x128.size a) ∧
  (∀ k2_t4 : Fin (k2_t4_loop v89).trips, ∀ (k2_h1 : k2_cond1 i v6 k2_t1 = 1#1), ∀ (k2_h4 : k2_cond4 v89 = 1#1), ∀ (k2_h5 : k2_cond5 v89 k2_t4 = 1#1), ∀ a, (k2_off18 v89 k2_t4) a + S1x16x2x128.size a ≤ S5x32x2x128.size a) ∧
  (∀ k2_t4 : Fin (k2_t4_loop v89).trips, ∀ (k2_h1 : k2_cond1 i v6 k2_t1 = 1#1), ∀ (k2_h4 : k2_cond4 v89 = 1#1), ∀ (k2_h5 : k2_cond5 v89 k2_t4 = 1#1), ∀ a, (k2_off19 v89 k2_t4) a + S1x16x2x128.size a ≤ S5x32x2x128.size a) ∧
  (∀ k2_t4 : Fin (k2_t4_loop v89).trips, ∀ (k2_h1 : k2_cond1 i v6 k2_t1 = 1#1), ∀ (k2_h4 : k2_cond4 v89 = 1#1), ∀ (k2_h5 : k2_cond5 v89 k2_t4 = 1#1), ∀ a, (k2_off20 v89 k2_t4) a + S1x16x2x128.size a ≤ S5x32x2x128.size a) ∧
  (∀ (k2_t4 : Fin (k2_t4_loop v89).trips) (k2_t5 : Fin k2_t5_loop.trips), ∀ (k2_h1 : k2_cond1 i v6 k2_t1 = 1#1), ∀ (k2_h4 : k2_cond4 v89 = 1#1), ∀ a, (k2_off21 v89 k2_t4 k2_t5) a + S16.size a ≤ S1056.size a) ∧
  (∀ (k2_t4 : Fin (k2_t4_loop v89).trips) (k2_t5 : Fin k2_t5_loop.trips) (k2_t6 : Fin k2_t6_loop.trips), ∀ (k2_h1 : k2_cond1 i v6 k2_t1 = 1#1), ∀ (k2_h4 : k2_cond4 v89 = 1#1), ∀ a, (k2_off22 v89 k2_t4 k2_t5 k2_t6) a + S1x1x1x16.size a ≤ S5x32x2x128.size a) ∧
  (∀ (k2_h1 : k2_cond1 i v6 k2_t1 = 1#1), ∀ (k2_h4 : k2_cond4 v89 = 1#1), (k2_t7_loop v89).OK) ∧
  (∀ k2_t7 : Fin (k2_t7_loop v89).trips, ∀ (k2_h1 : k2_cond1 i v6 k2_t1 = 1#1), ∀ (k2_h4 : k2_cond4 v89 = 1#1), ∀ a, (k2_off24 v89 k2_t7) a + S1x16x2x128.size a ≤ S5x32x2x128.size a) ∧
  (∀ k2_t7 : Fin (k2_t7_loop v89).trips, ∀ (k2_h1 : k2_cond1 i v6 k2_t1 = 1#1), ∀ (k2_h4 : k2_cond4 v89 = 1#1), ∀ a, (k2_off25 v89 k2_t7) a + S16.size a ≤ S1056.size a) ∧
  (∀ k2_t7 : Fin (k2_t7_loop v89).trips, ∀ (k2_h1 : k2_cond1 i v6 k2_t1 = 1#1), ∀ (k2_h4 : k2_cond4 v89 = 1#1), ∀ a, (k2_off26 v89 k2_t7) a + S1x16x2x128.size a ≤ S5x32x2x128.size a) ∧
  (∀ k2_t7 : Fin (k2_t7_loop v89).trips, ∀ (k2_h1 : k2_cond1 i v6 k2_t1 = 1#1), ∀ (k2_h4 : k2_cond4 v89 = 1#1), ∀ a, (k2_off27 v89 k2_t7) a + S1x16x2x128.size a ≤ S5x32x2x128.size a) ∧
  (∀ k2_t7 : Fin (k2_t7_loop v89).trips, ∀ (k2_h1 : k2_cond1 i v6 k2_t1 = 1#1), ∀ (k2_h4 : k2_cond4 v89 = 1#1), ∀ a, (k2_off28 v89 k2_t7) a + S1x16x2x128.size a ≤ S5x32x2x128.size a) ∧
  (∀ k2_t7 : Fin (k2_t7_loop v89).trips, ∀ (k2_h1 : k2_cond1 i v6 k2_t1 = 1#1), ∀ (k2_h4 : k2_cond4 v89 = 1#1), ∀ a, (k2_off29 v89 k2_t7) a + S1x16x2x128.size a ≤ S5x32x2x128.size a) ∧
  (∀ k2_t7 : Fin (k2_t7_loop v89).trips, ∀ (k2_h1 : k2_cond1 i v6 k2_t1 = 1#1), ∀ (k2_h4 : k2_cond4 v89 = 1#1), ∀ (k2_h6 : k2_cond6 v89 k2_t7 = 1#1), ∀ a, (k2_off30 v89 k2_t7) a + S1x16x2x128.size a ≤ S5x32x2x128.size a) ∧
  (∀ k2_t7 : Fin (k2_t7_loop v89).trips, ∀ (k2_h1 : k2_cond1 i v6 k2_t1 = 1#1), ∀ (k2_h4 : k2_cond4 v89 = 1#1), ∀ (k2_h6 : k2_cond6 v89 k2_t7 = 1#1), ∀ a, (k2_off31 v89 k2_t7) a + S16.size a ≤ S1056.size a) ∧
  (∀ k2_t7 : Fin (k2_t7_loop v89).trips, ∀ (k2_h1 : k2_cond1 i v6 k2_t1 = 1#1), ∀ (k2_h4 : k2_cond4 v89 = 1#1), ∀ (k2_h6 : k2_cond6 v89 k2_t7 = 1#1), ∀ a, (k2_off32 v89 k2_t7) a + S1x16x2x128.size a ≤ S5x32x2x128.size a) ∧
  (∀ k2_t7 : Fin (k2_t7_loop v89).trips, ∀ (k2_h1 : k2_cond1 i v6 k2_t1 = 1#1), ∀ (k2_h4 : k2_cond4 v89 = 1#1), ∀ (k2_h6 : k2_cond6 v89 k2_t7 = 1#1), ∀ a, (k2_off33 v89 k2_t7) a + S1x16x2x128.size a ≤ S5x32x2x128.size a) ∧
  (∀ k2_t7 : Fin (k2_t7_loop v89).trips, ∀ (k2_h1 : k2_cond1 i v6 k2_t1 = 1#1), ∀ (k2_h4 : k2_cond4 v89 = 1#1), ∀ (k2_h6 : k2_cond6 v89 k2_t7 = 1#1), ∀ a, (k2_off34 v89 k2_t7) a + S1x16x2x128.size a ≤ S5x32x2x128.size a) ∧
  (∀ k2_t7 : Fin (k2_t7_loop v89).trips, ∀ (k2_h1 : k2_cond1 i v6 k2_t1 = 1#1), ∀ (k2_h4 : k2_cond4 v89 = 1#1), ∀ (k2_h6 : k2_cond6 v89 k2_t7 = 1#1), ∀ a, (k2_off35 v89 k2_t7) a + S1x16x2x128.size a ≤ S5x32x2x128.size a) ∧
  (∀ (k2_t7 : Fin (k2_t7_loop v89).trips) (k2_t8 : Fin k2_t8_loop.trips), ∀ (k2_h1 : k2_cond1 i v6 k2_t1 = 1#1), ∀ (k2_h4 : k2_cond4 v89 = 1#1), ∀ a, (k2_off36 v89 k2_t7 k2_t8) a + S16.size a ≤ S1056.size a) ∧
  (∀ (k2_t7 : Fin (k2_t7_loop v89).trips) (k2_t8 : Fin k2_t8_loop.trips) (k2_t9 : Fin k2_t9_loop.trips), ∀ (k2_h1 : k2_cond1 i v6 k2_t1 = 1#1), ∀ (k2_h4 : k2_cond4 v89 = 1#1), ∀ a, (k2_off37 v89 k2_t7 k2_t8 k2_t9) a + S1x1x1x16.size a ≤ S5x32x2x128.size a) ∧
  (∀ (k2_h1 : k2_cond1 i v6 k2_t1 = 1#1), ∀ a, (k2_off39 v89) a + S16.size a ≤ S1056.size a)
theorem k2_t4_ok : ∀ (i : grid2.Coords) (v6 : BitVec 32) (k2_t1 : Fin k2_t1_loop.trips) (v89 : BitVec 32) (k2_hw4 : k2_chk4 i v6 k2_t1 v89), ∀ (k2_h1 : k2_cond1 i v6 k2_t1 = 1#1), ∀ (k2_h4 : k2_cond4 v89 = 1#1), (k2_t4_loop v89).OK := fun i v6 k2_t1 v89 k2_hw4 k2_h1 k2_h4 => k2_hw4.1 k2_h1 k2_h4
theorem k2_off9_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ a, (k2_off9 v89 k2_t4) a + S1x16x2x128.size a ≤ S5x32x2x128.size a := fun i v6 k2_t1 v89 k2_hw4 k2_t4 k2_h1 k2_h4 => k2_hw4.2.1 k2_t4 k2_h1 k2_h4
theorem k2_off10_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ a, (k2_off10 v89 k2_t4) a + S16.size a ≤ S1056.size a := fun i v6 k2_t1 v89 k2_hw4 k2_t4 k2_h1 k2_h4 => k2_hw4.2.2.1 k2_t4 k2_h1 k2_h4
theorem k2_off11_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ a, (k2_off11 v89 k2_t4) a + S1x16x2x128.size a ≤ S5x32x2x128.size a := fun i v6 k2_t1 v89 k2_hw4 k2_t4 k2_h1 k2_h4 => k2_hw4.2.2.2.1 k2_t4 k2_h1 k2_h4
theorem k2_off12_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ a, (k2_off12 v89 k2_t4) a + S1x16x2x128.size a ≤ S5x32x2x128.size a := fun i v6 k2_t1 v89 k2_hw4 k2_t4 k2_h1 k2_h4 => k2_hw4.2.2.2.2.1 k2_t4 k2_h1 k2_h4
theorem k2_off13_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ a, (k2_off13 v89 k2_t4) a + S1x16x2x128.size a ≤ S5x32x2x128.size a := fun i v6 k2_t1 v89 k2_hw4 k2_t4 k2_h1 k2_h4 => k2_hw4.2.2.2.2.2.1 k2_t4 k2_h1 k2_h4
theorem k2_off14_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ a, (k2_off14 v89 k2_t4) a + S1x16x2x128.size a ≤ S5x32x2x128.size a := fun i v6 k2_t1 v89 k2_hw4 k2_t4 k2_h1 k2_h4 => k2_hw4.2.2.2.2.2.2.1 k2_t4 k2_h1 k2_h4
theorem k2_off15_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ (k2_h5 : k2_cond5 v89 k2_t4 = 1#1), ∀ a, (k2_off15 v89 k2_t4) a + S1x16x2x128.size a ≤ S5x32x2x128.size a := fun i v6 k2_t1 v89 k2_hw4 k2_t4 k2_h1 k2_h4 k2_h5 => k2_hw4.2.2.2.2.2.2.2.1 k2_t4 k2_h1 k2_h4 k2_h5
theorem k2_off16_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ (k2_h5 : k2_cond5 v89 k2_t4 = 1#1), ∀ a, (k2_off16 v89 k2_t4) a + S16.size a ≤ S1056.size a := fun i v6 k2_t1 v89 k2_hw4 k2_t4 k2_h1 k2_h4 k2_h5 => k2_hw4.2.2.2.2.2.2.2.2.1 k2_t4 k2_h1 k2_h4 k2_h5
theorem k2_off17_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ (k2_h5 : k2_cond5 v89 k2_t4 = 1#1), ∀ a, (k2_off17 v89 k2_t4) a + S1x16x2x128.size a ≤ S5x32x2x128.size a := fun i v6 k2_t1 v89 k2_hw4 k2_t4 k2_h1 k2_h4 k2_h5 => k2_hw4.2.2.2.2.2.2.2.2.2.1 k2_t4 k2_h1 k2_h4 k2_h5
theorem k2_off18_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ (k2_h5 : k2_cond5 v89 k2_t4 = 1#1), ∀ a, (k2_off18 v89 k2_t4) a + S1x16x2x128.size a ≤ S5x32x2x128.size a := fun i v6 k2_t1 v89 k2_hw4 k2_t4 k2_h1 k2_h4 k2_h5 => k2_hw4.2.2.2.2.2.2.2.2.2.2.1 k2_t4 k2_h1 k2_h4 k2_h5
theorem k2_off19_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ (k2_h5 : k2_cond5 v89 k2_t4 = 1#1), ∀ a, (k2_off19 v89 k2_t4) a + S1x16x2x128.size a ≤ S5x32x2x128.size a := fun i v6 k2_t1 v89 k2_hw4 k2_t4 k2_h1 k2_h4 k2_h5 => k2_hw4.2.2.2.2.2.2.2.2.2.2.2.1 k2_t4 k2_h1 k2_h4 k2_h5
theorem k2_off20_inb : ∀ (i : grid2.Coords) (v6 : BitVec 32) (k2_t1 : Fin k2_t1_loop.trips) (v89 : BitVec 32) (k2_hw4 : k2_chk4 i v6 k2_t1 v89) (k2_t4 : Fin (k2_t4_loop v89).trips), ∀ (k2_h1 : k2_cond1 i v6 k2_t1 = 1#1), ∀ (k2_h4 : k2_cond4 v89 = 1#1), ∀ (k2_h5 : k2_cond5 v89 k2_t4 = 1#1), ∀ a, (k2_off20 v89 k2_t4) a + S1x16x2x128.size a ≤ S5x32x2x128.size a := fun i v6 k2_t1 v89 k2_hw4 k2_t4 k2_h1 k2_h4 k2_h5 => k2_hw4.2.2.2.2.2.2.2.2.2.2.2.2.1 k2_t4 k2_h1 k2_h4 k2_h5
theorem k2_off21_inb : ∀ (i : grid2.Coords) (v6 : BitVec 32) (k2_t1 : Fin k2_t1_loop.trips) (v89 : BitVec 32) (k2_hw4 : k2_chk4 i v6 k2_t1 v89) (k2_t4 : Fin (k2_t4_loop v89).trips) (k2_t5 : Fin k2_t5_loop.trips), ∀ (k2_h1 : k2_cond1 i v6 k2_t1 = 1#1), ∀ (k2_h4 : k2_cond4 v89 = 1#1), ∀ a, (k2_off21 v89 k2_t4 k2_t5) a + S16.size a ≤ S1056.size a := fun i v6 k2_t1 v89 k2_hw4 k2_t4 k2_t5 k2_h1 k2_h4 => k2_hw4.2.2.2.2.2.2.2.2.2.2.2.2.2.1 k2_t4 k2_t5 k2_h1 k2_h4
theorem k2_off22_inb : ∀ (i : grid2.Coords) (v6 : BitVec 32) (k2_t1 : Fin k2_t1_loop.trips) (v89 : BitVec 32) (k2_hw4 : k2_chk4 i v6 k2_t1 v89) (k2_t4 : Fin (k2_t4_loop v89).trips) (k2_t5 : Fin k2_t5_loop.trips) (k2_t6 : Fin k2_t6_loop.trips), ∀ (k2_h1 : k2_cond1 i v6 k2_t1 = 1#1), ∀ (k2_h4 : k2_cond4 v89 = 1#1), ∀ a, (k2_off22 v89 k2_t4 k2_t5 k2_t6) a + S1x1x1x16.size a ≤ S5x32x2x128.size a := fun i v6 k2_t1 v89 k2_hw4 k2_t4 k2_t5 k2_t6 k2_h1 k2_h4 => k2_hw4.2.2.2.2.2.2.2.2.2.2.2.2.2.2.1 k2_t4 k2_t5 k2_t6 k2_h1 k2_h4
theorem k2_t7_ok : ∀ (i : grid2.Coords) (v6 : BitVec 32) (k2_t1 : Fin k2_t1_loop.trips) (v89 : BitVec 32) (k2_hw4 : k2_chk4 i v6 k2_t1 v89), ∀ (k2_h1 : k2_cond1 i v6 k2_t1 = 1#1), ∀ (k2_h4 : k2_cond4 v89 = 1#1), (k2_t7_loop v89).OK := fun i v6 k2_t1 v89 k2_hw4 k2_h1 k2_h4 => k2_hw4.2.2.2.2.2.2.2.2.2.2.2.2.2.2.2.1 k2_h1 k2_h4
theorem k2_off24_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ a, (k2_off24 v89 k2_t7) a + S1x16x2x128.size a ≤ S5x32x2x128.size a := fun i v6 k2_t1 v89 k2_hw4 k2_t7 k2_h1 k2_h4 => k2_hw4.2.2.2.2.2.2.2.2.2.2.2.2.2.2.2.2.1 k2_t7 k2_h1 k2_h4
theorem k2_off25_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ a, (k2_off25 v89 k2_t7) a + S16.size a ≤ S1056.size a := fun i v6 k2_t1 v89 k2_hw4 k2_t7 k2_h1 k2_h4 => k2_hw4.2.2.2.2.2.2.2.2.2.2.2.2.2.2.2.2.2.1 k2_t7 k2_h1 k2_h4
theorem k2_off26_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ a, (k2_off26 v89 k2_t7) a + S1x16x2x128.size a ≤ S5x32x2x128.size a := fun i v6 k2_t1 v89 k2_hw4 k2_t7 k2_h1 k2_h4 => k2_hw4.2.2.2.2.2.2.2.2.2.2.2.2.2.2.2.2.2.2.1 k2_t7 k2_h1 k2_h4
theorem k2_off27_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ a, (k2_off27 v89 k2_t7) a + S1x16x2x128.size a ≤ S5x32x2x128.size a := fun i v6 k2_t1 v89 k2_hw4 k2_t7 k2_h1 k2_h4 => k2_hw4.2.2.2.2.2.2.2.2.2.2.2.2.2.2.2.2.2.2.2.1 k2_t7 k2_h1 k2_h4
theorem k2_off28_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ a, (k2_off28 v89 k2_t7) a + S1x16x2x128.size a ≤ S5x32x2x128.size a := fun i v6 k2_t1 v89 k2_hw4 k2_t7 k2_h1 k2_h4 => k2_hw4.2.2.2.2.2.2.2.2.2.2.2.2.2.2.2.2.2.2.2.2.1 k2_t7 k2_h1 k2_h4
theorem k2_off29_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ a, (k2_off29 v89 k2_t7) a + S1x16x2x128.size a ≤ S5x32x2x128.size a := fun i v6 k2_t1 v89 k2_hw4 k2_t7 k2_h1 k2_h4 => k2_hw4.2.2.2.2.2.2.2.2.2.2.2.2.2.2.2.2.2.2.2.2.2.1 k2_t7 k2_h1 k2_h4
theorem k2_off30_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ (k2_h6 : k2_cond6 v89 k2_t7 = 1#1), ∀ a, (k2_off30 v89 k2_t7) a + S1x16x2x128.size a ≤ S5x32x2x128.size a := fun i v6 k2_t1 v89 k2_hw4 k2_t7 k2_h1 k2_h4 k2_h6 => k2_hw4.2.2.2.2.2.2.2.2.2.2.2.2.2.2.2.2.2.2.2.2.2.2.1 k2_t7 k2_h1 k2_h4 k2_h6
theorem k2_off31_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ (k2_h6 : k2_cond6 v89 k2_t7 = 1#1), ∀ a, (k2_off31 v89 k2_t7) a + S16.size a ≤ S1056.size a := fun i v6 k2_t1 v89 k2_hw4 k2_t7 k2_h1 k2_h4 k2_h6 => k2_hw4.2.2.2.2.2.2.2.2.2.2.2.2.2.2.2.2.2.2.2.2.2.2.2.1 k2_t7 k2_h1 k2_h4 k2_h6
theorem k2_off32_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ (k2_h6 : k2_cond6 v89 k2_t7 = 1#1), ∀ a, (k2_off32 v89 k2_t7) a + S1x16x2x128.size a ≤ S5x32x2x128.size a := fun i v6 k2_t1 v89 k2_hw4 k2_t7 k2_h1 k2_h4 k2_h6 => k2_hw4.2.2.2.2.2.2.2.2.2.2.2.2.2.2.2.2.2.2.2.2.2.2.2.2.1 k2_t7 k2_h1 k2_h4 k2_h6
theorem k2_off33_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ (k2_h6 : k2_cond6 v89 k2_t7 = 1#1), ∀ a, (k2_off33 v89 k2_t7) a + S1x16x2x128.size a ≤ S5x32x2x128.size a := fun i v6 k2_t1 v89 k2_hw4 k2_t7 k2_h1 k2_h4 k2_h6 => k2_hw4.2.2.2.2.2.2.2.2.2.2.2.2.2.2.2.2.2.2.2.2.2.2.2.2.2.1 k2_t7 k2_h1 k2_h4 k2_h6
theorem k2_off34_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ (k2_h6 : k2_cond6 v89 k2_t7 = 1#1), ∀ a, (k2_off34 v89 k2_t7) a + S1x16x2x128.size a ≤ S5x32x2x128.size a := fun i v6 k2_t1 v89 k2_hw4 k2_t7 k2_h1 k2_h4 k2_h6 => k2_hw4.2.2.2.2.2.2.2.2.2.2.2.2.2.2.2.2.2.2.2.2.2.2.2.2.2.2.1 k2_t7 k2_h1 k2_h4 k2_h6
theorem k2_off35_inb : ∀ (i : grid2.Coords) (v6 : BitVec 32) (k2_t1 : Fin k2_t1_loop.trips) (v89 : BitVec 32) (k2_hw4 : k2_chk4 i v6 k2_t1 v89) (k2_t7 : Fin (k2_t7_loop v89).trips), ∀ (k2_h1 : k2_cond1 i v6 k2_t1 = 1#1), ∀ (k2_h4 : k2_cond4 v89 = 1#1), ∀ (k2_h6 : k2_cond6 v89 k2_t7 = 1#1), ∀ a, (k2_off35 v89 k2_t7) a + S1x16x2x128.size a ≤ S5x32x2x128.size a := fun i v6 k2_t1 v89 k2_hw4 k2_t7 k2_h1 k2_h4 k2_h6 => k2_hw4.2.2.2.2.2.2.2.2.2.2.2.2.2.2.2.2.2.2.2.2.2.2.2.2.2.2.2.1 k2_t7 k2_h1 k2_h4 k2_h6
theorem k2_off36_inb : ∀ (i : grid2.Coords) (v6 : BitVec 32) (k2_t1 : Fin k2_t1_loop.trips) (v89 : BitVec 32) (k2_hw4 : k2_chk4 i v6 k2_t1 v89) (k2_t7 : Fin (k2_t7_loop v89).trips) (k2_t8 : Fin k2_t8_loop.trips), ∀ (k2_h1 : k2_cond1 i v6 k2_t1 = 1#1), ∀ (k2_h4 : k2_cond4 v89 = 1#1), ∀ a, (k2_off36 v89 k2_t7 k2_t8) a + S16.size a ≤ S1056.size a := fun i v6 k2_t1 v89 k2_hw4 k2_t7 k2_t8 k2_h1 k2_h4 => k2_hw4.2.2.2.2.2.2.2.2.2.2.2.2.2.2.2.2.2.2.2.2.2.2.2.2.2.2.2.2.1 k2_t7 k2_t8 k2_h1 k2_h4
theorem k2_off37_inb : ∀ (i : grid2.Coords) (v6 : BitVec 32) (k2_t1 : Fin k2_t1_loop.trips) (v89 : BitVec 32) (k2_hw4 : k2_chk4 i v6 k2_t1 v89) (k2_t7 : Fin (k2_t7_loop v89).trips) (k2_t8 : Fin k2_t8_loop.trips) (k2_t9 : Fin k2_t9_loop.trips), ∀ (k2_h1 : k2_cond1 i v6 k2_t1 = 1#1), ∀ (k2_h4 : k2_cond4 v89 = 1#1), ∀ a, (k2_off37 v89 k2_t7 k2_t8 k2_t9) a + S1x1x1x16.size a ≤ S5x32x2x128.size a := fun i v6 k2_t1 v89 k2_hw4 k2_t7 k2_t8 k2_t9 k2_h1 k2_h4 => k2_hw4.2.2.2.2.2.2.2.2.2.2.2.2.2.2.2.2.2.2.2.2.2.2.2.2.2.2.2.2.2.1 k2_t7 k2_t8 k2_t9 k2_h1 k2_h4
theorem k2_off39_inb : ∀ (i : grid2.Coords) (v6 : BitVec 32) (k2_t1 : Fin k2_t1_loop.trips) (v89 : BitVec 32) (k2_hw4 : k2_chk4 i v6 k2_t1 v89), ∀ (k2_h1 : k2_cond1 i v6 k2_t1 = 1#1), ∀ a, (k2_off39 v89) a + S16.size a ≤ S1056.size a := fun i v6 k2_t1 v89 k2_hw4 k2_h1 => k2_hw4.2.2.2.2.2.2.2.2.2.2.2.2.2.2.2.2.2.2.2.2.2.2.2.2.2.2.2.2.2.2 k2_h1

@[reducible] def k2_t10_loop (v6 : BitVec 32) : Scf.Loop 32 :=
  let c0_i32_22 : BitVec 32 := 0#32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let v53 : BitVec 32 := Scalar.subi v23 c0_i32_22
  let c1_i32_24 : BitVec 32 := 1#32
  let v55 : BitVec 32 := Scalar.divsi v53 c1_i32_24
  let v56 : BitVec 32 := Scalar.muli v55 c1_i32_24
  let v57 : BitVec 32 := Scalar.addi c0_i32_22 v56
  let v54 : BitVec 32 := Scalar.addi c0_i32_22 v53
  let c1_i32_26 : BitVec 32 := 1#32
  ⟨v57, v54, c1_i32_26⟩
def k2_off40 (v6 : BitVec 32) (k2_t10 : Fin (k2_t10_loop v6).trips) : Fin 1 → Nat :=
  let c0_i32_22 : BitVec 32 := 0#32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let v53 : BitVec 32 := Scalar.subi v23 c0_i32_22
  let c1_i32_24 : BitVec 32 := 1#32
  let v55 : BitVec 32 := Scalar.divsi v53 c1_i32_24
  let v56 : BitVec 32 := Scalar.muli v55 c1_i32_24
  let v57 : BitVec 32 := Scalar.addi c0_i32_22 v56
  let c1_i32_26 : BitVec 32 := 1#32
  let arg22 : BitVec 32 := Scf.iv v57 c1_i32_26 k2_t10
  let c2_i32_30 : BitVec 32 := 2#32
  let v68 : BitVec 32 := Scalar.remsi arg22 c2_i32_30
  let c1024_i32_32 : BitVec 32 := 1024#32
  let v70 : BitVec 32 := Scalar.muli v68 c1024_i32_32
  ![v70.toNat]
def k2_off41 (v6 : BitVec 32) (k2_t10 : Fin (k2_t10_loop v6).trips) : Fin 1 → Nat :=
  let c1_i32_58 : BitVec 32 := 1#32
  let c0_i32_22 : BitVec 32 := 0#32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let v53 : BitVec 32 := Scalar.subi v23 c0_i32_22
  let c1_i32_24 : BitVec 32 := 1#32
  let v55 : BitVec 32 := Scalar.divsi v53 c1_i32_24
  let v56 : BitVec 32 := Scalar.muli v55 c1_i32_24
  let v57 : BitVec 32 := Scalar.addi c0_i32_22 v56
  let c1_i32_26 : BitVec 32 := 1#32
  let arg22 : BitVec 32 := Scf.iv v57 c1_i32_26 k2_t10
  let c2_i32_30 : BitVec 32 := 2#32
  let v68 : BitVec 32 := Scalar.remsi arg22 c2_i32_30
  let v119 : BitVec 32 := Scalar.subi c1_i32_58 v68
  let c1024_i32_60 : BitVec 32 := 1024#32
  let v121 : BitVec 32 := Scalar.muli v119 c1024_i32_60
  ![v121.toNat]
def k2_cond7 (v6 : BitVec 32) (k2_t10 : Fin (k2_t10_loop v6).trips) : BitVec 1 :=
  let c0_i32_22 : BitVec 32 := 0#32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let v53 : BitVec 32 := Scalar.subi v23 c0_i32_22
  let c1_i32_24 : BitVec 32 := 1#32
  let v55 : BitVec 32 := Scalar.divsi v53 c1_i32_24
  let v56 : BitVec 32 := Scalar.muli v55 c1_i32_24
  let v57 : BitVec 32 := Scalar.addi c0_i32_22 v56
  let c1_i32_26 : BitVec 32 := 1#32
  let arg22 : BitVec 32 := Scf.iv v57 c1_i32_26 k2_t10
  let c1_i32_40 : BitVec 32 := 1#32
  let v84 : BitVec 32 := Scalar.addi arg22 c1_i32_40
  let v85 : BitVec 1 := Scalar.cmpi .slt v84 v23
  let v86 : BitVec 32 := Scalar.extui v85
  let c0_i32_41 : BitVec 32 := 0#32
  let v87 : BitVec 1 := Scalar.cmpi .ne v86 c0_i32_41
  v87

def k2_off42 (i : grid2.Coords) (v6 : BitVec 32) (k2_t10 : Fin (k2_t10_loop v6).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22 : BitVec 32 := 0#32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let v53 : BitVec 32 := Scalar.subi v23 c0_i32_22
  let c1_i32_24 : BitVec 32 := 1#32
  let v55 : BitVec 32 := Scalar.divsi v53 c1_i32_24
  let v56 : BitVec 32 := Scalar.muli v55 c1_i32_24
  let v57 : BitVec 32 := Scalar.addi c0_i32_22 v56
  let c1_i32_26 : BitVec 32 := 1#32
  let arg22 : BitVec 32 := Scf.iv v57 c1_i32_26 k2_t10
  let c1_i32_57 : BitVec 32 := 1#32
  let v118 : BitVec 32 := Scalar.addi arg22 c1_i32_57
  let c1024_i32_59 : BitVec 32 := 1024#32
  let v120 : BitVec 32 := Scalar.muli v118 c1024_i32_59
  ![v1.toNat, v120.toNat]
@[reducible] def k2_t11_loop : Scf.Loop 32 :=
  let c0_i32_42 : BitVec 32 := 0#32
  let c64_i32_43 : BitVec 32 := 64#32
  let v88 : BitVec 32 := Scalar.addi c0_i32_42 c64_i32_43
  let c1_i32_44 : BitVec 32 := 1#32
  ⟨c0_i32_42, v88, c1_i32_44⟩
def k2_off43 (v6 : BitVec 32) (k2_t10 : Fin (k2_t10_loop v6).trips) (k2_t11 : Fin k2_t11_loop.trips) : Fin 1 → Nat :=
  let c0_i32_22 : BitVec 32 := 0#32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let v53 : BitVec 32 := Scalar.subi v23 c0_i32_22
  let c1_i32_24 : BitVec 32 := 1#32
  let v55 : BitVec 32 := Scalar.divsi v53 c1_i32_24
  let v56 : BitVec 32 := Scalar.muli v55 c1_i32_24
  let v57 : BitVec 32 := Scalar.addi c0_i32_22 v56
  let c1_i32_26 : BitVec 32 := 1#32
  let arg22 : BitVec 32 := Scf.iv v57 c1_i32_26 k2_t10
  let c2_i32_30 : BitVec 32 := 2#32
  let v68 : BitVec 32 := Scalar.remsi arg22 c2_i32_30
  let c1024_i32_31 : BitVec 32 := 1024#32
  let v69 : BitVec 32 := Scalar.muli v68 c1024_i32_31
  let c0_i32_42 : BitVec 32 := 0#32
  let c1_i32_44 : BitVec 32 := 1#32
  let arg24 : BitVec 32 := Scf.iv c0_i32_42 c1_i32_44 k2_t11
  let c16_i32_57 : BitVec 32 := 16#32
  let v118 : BitVec 32 := Scalar.muli arg24 c16_i32_57
  let v119 : BitVec 32 := Scalar.addi v69 v118
  let v120 : Index := Scalar.indexCast v119
  ![v120.toNat]
def k2_off44 (v6 : BitVec 32) (k2_t10 : Fin (k2_t10_loop v6).trips) (k2_t11 : Fin k2_t11_loop.trips) : Fin 1 → Nat :=
  let c0_i32_22 : BitVec 32 := 0#32
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let v53 : BitVec 32 := Scalar.subi v23 c0_i32_22
  let c1_i32_24 : BitVec 32 := 1#32
  let v55 : BitVec 32 := Scalar.divsi v53 c1_i32_24
  let v56 : BitVec 32 := Scalar.muli v55 c1_i32_24
  let v57 : BitVec 32 := Scalar.addi c0_i32_22 v56
  let c1_i32_26 : BitVec 32 := 1#32
  let arg22 : BitVec 32 := Scf.iv v57 c1_i32_26 k2_t10
  let c2_i32_30 : BitVec 32 := 2#32
  let v68 : BitVec 32 := Scalar.remsi arg22 c2_i32_30
  let c1024_i32_31 : BitVec 32 := 1024#32
  let v69 : BitVec 32 := Scalar.muli v68 c1024_i32_31
  let c0_i32_42 : BitVec 32 := 0#32
  let c1_i32_44 : BitVec 32 := 1#32
  let arg24 : BitVec 32 := Scf.iv c0_i32_42 c1_i32_44 k2_t11
  let c16_i32_63 : BitVec 32 := 16#32
  let v141 : BitVec 32 := Scalar.muli arg24 c16_i32_63
  let v142 : BitVec 32 := Scalar.addi v69 v141
  let v143 : Index := Scalar.indexCast v142
  ![v143.toNat]
def k2_cond8 (v134 : BitVec 32) : BitVec 1 :=
  let c0_i32_61 : BitVec 32 := 0#32
  let v135 : BitVec 1 := Scalar.cmpi .sgt v134 c0_i32_61
  let v136 : BitVec 32 := Scalar.extui v135
  let c0_i32_62 : BitVec 32 := 0#32
  let v137 : BitVec 1 := Scalar.cmpi .ne v136 c0_i32_62
  v137

def k2_chk7 (i : grid2.Coords) (v6 : BitVec 32) (k2_t1 : Fin k2_t1_loop.trips) (k2_t10 : Fin (k2_t10_loop v6).trips) (k2_t11 : Fin k2_t11_loop.trips) (v134 : BitVec 32) : Prop :=
  (∀ (k2_h1 : k2_cond1 i v6 k2_t1 = 1#1), ∀ (k2_h8 : k2_cond8 v134 = 1#1), ∀ a, (k2_off44 v6 k2_t10 k2_t11) a + S16.size a ≤ S2048.size a)
theorem k2_off44_inb : ∀ (i : grid2.Coords) (v6 : BitVec 32) (k2_t1 : Fin k2_t1_loop.trips) (k2_t10 : Fin (k2_t10_loop v6).trips) (k2_t11 : Fin k2_t11_loop.trips) (v134 : BitVec 32) (k2_hw7 : k2_chk7 i v6 k2_t1 k2_t10 k2_t11 v134), ∀ (k2_h1 : k2_cond1 i v6 k2_t1 = 1#1), ∀ (k2_h8 : k2_cond8 v134 = 1#1), ∀ a, (k2_off44 v6 k2_t10 k2_t11) a + S16.size a ≤ S2048.size a := fun i v6 k2_t1 k2_t10 k2_t11 v134 k2_hw7 k2_h1 k2_h8 => k2_hw7 k2_h1 k2_h8

def k2_chk8 (i : grid2.Coords) (v6 : BitVec 32) (k2_t1 : Fin k2_t1_loop.trips) (v134 : BitVec 32) (v150 : IVec S16 32) : Prop :=
  (∀ (k2_h1 : k2_cond1 i v6 k2_t1 = 1#1), ∀ (k2_h8 : k2_cond8 v134 = 1#1), ∀ a x, ((![v150] : Fin 1 → IVec S16 32) a x).toNat < S1056.size a) ∧
  (∀ (k2_h1 : k2_cond1 i v6 k2_t1 = 1#1), ∀ (k2_h8 : k2_cond8 v134 = 1#1), ∀ a x, ((![v150] : Fin 1 → IVec S16 32) a x).toNat < S1056.size a)
theorem k2_idx3_inb : ∀ (i : grid2.Coords) (v6 : BitVec 32) (k2_t1 : Fin k2_t1_loop.trips) (v134 : BitVec 32) (v150 : IVec S16 32) (k2_hw8 : k2_chk8 i v6 k2_t1 v134 v150), ∀ (k2_h1 : k2_cond1 i v6 k2_t1 = 1#1), ∀ (k2_h8 : k2_cond8 v134 = 1#1), ∀ a x, ((![v150] : Fin 1 → IVec S16 32) a x).toNat < S1056.size a := fun i v6 k2_t1 v134 v150 k2_hw8 k2_h1 k2_h8 => k2_hw8.1 k2_h1 k2_h8
theorem k2_idx4_inb : ∀ (i : grid2.Coords) (v6 : BitVec 32) (k2_t1 : Fin k2_t1_loop.trips) (v134 : BitVec 32) (v150 : IVec S16 32) (k2_hw8 : k2_chk8 i v6 k2_t1 v134 v150), ∀ (k2_h1 : k2_cond1 i v6 k2_t1 = 1#1), ∀ (k2_h8 : k2_cond8 v134 = 1#1), ∀ a x, ((![v150] : Fin 1 → IVec S16 32) a x).toNat < S1056.size a := fun i v6 k2_t1 v134 v150 k2_hw8 k2_h1 k2_h8 => k2_hw8.2 k2_h1 k2_h8
@[reducible] def k2_t12_loop (v89 : BitVec 32) : Scf.Loop 32 :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_119 : BitVec 32 := 1#32
  ⟨c0_i32_117, v152, c1_i32_119⟩
def k2_cond9 (v89 : BitVec 32) : BitVec 1 :=
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let c0_i32_52 : BitVec 32 := 0#32
  let v107 : BitVec 1 := Scalar.cmpi .sgt v106 c0_i32_52
  let v108 : BitVec 32 := Scalar.extui v107
  let c0_i32_53 : BitVec 32 := 0#32
  let v109 : BitVec 1 := Scalar.cmpi .ne v108 c0_i32_53
  v109

def k2_off45 (v89 : BitVec 32) (k2_t12 : Fin (k2_t12_loop v89).trips) : Fin 4 → Nat :=
  let c0_i32_125 : BitVec 32 := 0#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let c16_i32_123 : BitVec 32 := 16#32
  let v155 : BitVec 32 := Scalar.muli v153 c16_i32_123
  let c0_i32_126 : BitVec 32 := 0#32
  let c0_i32_127 : BitVec 32 := 0#32
  ![0, v155.toNat, 0, 0]
def k2_off46 (v89 : BitVec 32) (k2_t12 : Fin (k2_t12_loop v89).trips) : Fin 1 → Nat :=
  let c0_i32_117 : BitVec 32 := 0#32
  let c1_i32_119 : BitVec 32 := 1#32
  let arg24 : BitVec 32 := Scf.iv c0_i32_117 c1_i32_119 k2_t12
  let c16_i32_122 : BitVec 32 := 16#32
  let v154 : BitVec 32 := Scalar.muli arg24 c16_i32_122
  ![v154.toNat]
def k2_off47 (v89 : BitVec 32) (k2_t12 : Fin (k2_t12_loop v89).trips) : Fin 4 → Nat :=
  let c1_i32_136 : BitVec 32 := 1#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let c16_i32_134 : BitVec 32 := 16#32
  let v162 : BitVec 32 := Scalar.muli v153 c16_i32_134
  let c0_i32_137 : BitVec 32 := 0#32
  let c0_i32_138 : BitVec 32 := 0#32
  ![1, v162.toNat, 0, 0]
def k2_off48 (v89 : BitVec 32) (k2_t12 : Fin (k2_t12_loop v89).trips) : Fin 4 → Nat :=
  let c2_i32_147 : BitVec 32 := 2#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let c16_i32_145 : BitVec 32 := 16#32
  let v169 : BitVec 32 := Scalar.muli v153 c16_i32_145
  let c0_i32_148 : BitVec 32 := 0#32
  let c0_i32_149 : BitVec 32 := 0#32
  ![2, v169.toNat, 0, 0]
def k2_off49 (v89 : BitVec 32) (k2_t12 : Fin (k2_t12_loop v89).trips) : Fin 4 → Nat :=
  let c3_i32_158 : BitVec 32 := 3#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let c16_i32_156 : BitVec 32 := 16#32
  let v176 : BitVec 32 := Scalar.muli v153 c16_i32_156
  let c0_i32_159 : BitVec 32 := 0#32
  let c0_i32_160 : BitVec 32 := 0#32
  ![3, v176.toNat, 0, 0]
def k2_off50 (v89 : BitVec 32) (k2_t12 : Fin (k2_t12_loop v89).trips) : Fin 4 → Nat :=
  let c4_i32_169 : BitVec 32 := 4#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let c16_i32_167 : BitVec 32 := 16#32
  let v183 : BitVec 32 := Scalar.muli v153 c16_i32_167
  let c0_i32_170 : BitVec 32 := 0#32
  let c0_i32_171 : BitVec 32 := 0#32
  ![4, v183.toNat, 0, 0]
def k2_off51 (v89 : BitVec 32) (k2_t12 : Fin (k2_t12_loop v89).trips) : Fin 4 → Nat :=
  let c0_i32_191 : BitVec 32 := 0#32
  let c1_i32_188 : BitVec 32 := 1#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let v198 : BitVec 32 := Scalar.subi c1_i32_188 v153
  let c16_i32_189 : BitVec 32 := 16#32
  let v199 : BitVec 32 := Scalar.muli v198 c16_i32_189
  let c0_i32_192 : BitVec 32 := 0#32
  let c0_i32_193 : BitVec 32 := 0#32
  ![0, v199.toNat, 0, 0]
def k2_cond10 (v89 : BitVec 32) (k2_t12 : Fin (k2_t12_loop v89).trips) : BitVec 1 :=
  let c0_i32_117 : BitVec 32 := 0#32
  let c1_i32_119 : BitVec 32 := 1#32
  let arg24 : BitVec 32 := Scf.iv c0_i32_117 c1_i32_119 k2_t12
  let c1_i32_178 : BitVec 32 := 1#32
  let v190 : BitVec 32 := Scalar.addi arg24 c1_i32_178
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v191 : BitVec 1 := Scalar.cmpi .slt v190 v106
  let v192 : BitVec 32 := Scalar.extui v191
  let c0_i32_179 : BitVec 32 := 0#32
  let v193 : BitVec 1 := Scalar.cmpi .ne v192 c0_i32_179
  v193

def k2_off52 (v89 : BitVec 32) (k2_t12 : Fin (k2_t12_loop v89).trips) : Fin 1 → Nat :=
  let c0_i32_117 : BitVec 32 := 0#32
  let c1_i32_119 : BitVec 32 := 1#32
  let arg24 : BitVec 32 := Scf.iv c0_i32_117 c1_i32_119 k2_t12
  let c1_i32_186 : BitVec 32 := 1#32
  let v196 : BitVec 32 := Scalar.addi arg24 c1_i32_186
  let c16_i32_187 : BitVec 32 := 16#32
  let v197 : BitVec 32 := Scalar.muli v196 c16_i32_187
  ![v197.toNat]
def k2_off53 (v89 : BitVec 32) (k2_t12 : Fin (k2_t12_loop v89).trips) : Fin 4 → Nat :=
  let c1_i32_202 : BitVec 32 := 1#32
  let c1_i32_188 : BitVec 32 := 1#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let v198 : BitVec 32 := Scalar.subi c1_i32_188 v153
  let c16_i32_200 : BitVec 32 := 16#32
  let v206 : BitVec 32 := Scalar.muli v198 c16_i32_200
  let c0_i32_203 : BitVec 32 := 0#32
  let c0_i32_204 : BitVec 32 := 0#32
  ![1, v206.toNat, 0, 0]
def k2_off54 (v89 : BitVec 32) (k2_t12 : Fin (k2_t12_loop v89).trips) : Fin 4 → Nat :=
  let c2_i32_213 : BitVec 32 := 2#32
  let c1_i32_188 : BitVec 32 := 1#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let v198 : BitVec 32 := Scalar.subi c1_i32_188 v153
  let c16_i32_211 : BitVec 32 := 16#32
  let v213 : BitVec 32 := Scalar.muli v198 c16_i32_211
  let c0_i32_214 : BitVec 32 := 0#32
  let c0_i32_215 : BitVec 32 := 0#32
  ![2, v213.toNat, 0, 0]
def k2_off55 (v89 : BitVec 32) (k2_t12 : Fin (k2_t12_loop v89).trips) : Fin 4 → Nat :=
  let c3_i32_224 : BitVec 32 := 3#32
  let c1_i32_188 : BitVec 32 := 1#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let v198 : BitVec 32 := Scalar.subi c1_i32_188 v153
  let c16_i32_222 : BitVec 32 := 16#32
  let v220 : BitVec 32 := Scalar.muli v198 c16_i32_222
  let c0_i32_225 : BitVec 32 := 0#32
  let c0_i32_226 : BitVec 32 := 0#32
  ![3, v220.toNat, 0, 0]
def k2_off56 (v89 : BitVec 32) (k2_t12 : Fin (k2_t12_loop v89).trips) : Fin 4 → Nat :=
  let c4_i32_235 : BitVec 32 := 4#32
  let c1_i32_188 : BitVec 32 := 1#32
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let v198 : BitVec 32 := Scalar.subi c1_i32_188 v153
  let c16_i32_233 : BitVec 32 := 16#32
  let v227 : BitVec 32 := Scalar.muli v198 c16_i32_233
  let c0_i32_236 : BitVec 32 := 0#32
  let c0_i32_237 : BitVec 32 := 0#32
  ![4, v227.toNat, 0, 0]
@[reducible] def k2_t13_loop : Scf.Loop 32 :=
  let c0_i32_182 : BitVec 32 := 0#32
  let c16_i32_183 : BitVec 32 := 16#32
  let v195 : BitVec 32 := Scalar.addi c0_i32_182 c16_i32_183
  let c1_i32_184 : BitVec 32 := 1#32
  ⟨c0_i32_182, v195, c1_i32_184⟩
def k2_off57 (v89 : BitVec 32) (k2_t12 : Fin (k2_t12_loop v89).trips) (k2_t13 : Fin k2_t13_loop.trips) : Fin 1 → Nat :=
  let c0_i32_117 : BitVec 32 := 0#32
  let c1_i32_119 : BitVec 32 := 1#32
  let arg24 : BitVec 32 := Scf.iv c0_i32_117 c1_i32_119 k2_t12
  let c16_i32_180 : BitVec 32 := 16#32
  let v194 : BitVec 32 := Scalar.muli arg24 c16_i32_180
  let c0_i32_182 : BitVec 32 := 0#32
  let c1_i32_184 : BitVec 32 := 1#32
  let arg25 : BitVec 32 := Scf.iv c0_i32_182 c1_i32_184 k2_t13
  let v196 : BitVec 32 := Scalar.addi v194 arg25
  let v197 : Index := Scalar.indexCast v196
  ![v197.toNat]
@[reducible] def k2_t14_loop : Scf.Loop 32 :=
  let c0_i32_187 : BitVec 32 := 0#32
  let c80_i32 : BitVec 32 := 80#32
  let v201 : BitVec 32 := Scalar.addi c0_i32_187 c80_i32
  let c1_i32_188 : BitVec 32 := 1#32
  ⟨c0_i32_187, v201, c1_i32_188⟩
def k2_off58 (v89 : BitVec 32) (k2_t12 : Fin (k2_t12_loop v89).trips) (k2_t13 : Fin k2_t13_loop.trips) (k2_t14 : Fin k2_t14_loop.trips) : Fin 4 → Nat :=
  let c0_i32_187 : BitVec 32 := 0#32
  let c1_i32_188 : BitVec 32 := 1#32
  let arg26 : BitVec 32 := Scf.iv c0_i32_187 c1_i32_188 k2_t14
  let c4_i32_190 : BitVec 32 := 4#32
  let v202 : BitVec 32 := Scalar.shrsi arg26 c4_i32_190
  let v209 : Index := Scalar.indexCast v202
  let c0_i32_117 : BitVec 32 := 0#32
  let c1_i32_119 : BitVec 32 := 1#32
  let arg24 : BitVec 32 := Scf.iv c0_i32_117 c1_i32_119 k2_t12
  let c2_i32_121 : BitVec 32 := 2#32
  let v153 : BitVec 32 := Scalar.remsi arg24 c2_i32_121
  let c16_i32_191 : BitVec 32 := 16#32
  let v203 : BitVec 32 := Scalar.muli v153 c16_i32_191
  let c0_i32_182 : BitVec 32 := 0#32
  let c1_i32_184 : BitVec 32 := 1#32
  let arg25 : BitVec 32 := Scf.iv c0_i32_182 c1_i32_184 k2_t13
  let v204 : BitVec 32 := Scalar.addi v203 arg25
  let v210 : Index := Scalar.indexCast v204
  let c3_i32_192 : BitVec 32 := 3#32
  let v205 : BitVec 32 := Scalar.shrsi arg26 c3_i32_192
  let c1_i32_193 : BitVec 32 := 1#32
  let v206 : BitVec 32 := Scalar.andi v205 c1_i32_193
  let v211 : Index := Scalar.indexCast v206
  let c7_i32 : BitVec 32 := 7#32
  let v207 : BitVec 32 := Scalar.andi arg26 c7_i32
  let c16_i32_194 : BitVec 32 := 16#32
  let v208 : BitVec 32 := Scalar.muli v207 c16_i32_194
  let v212 : Index := Scalar.indexCast v208
  ![v209.toNat, v210.toNat, v211.toNat, v212.toNat]
def k2_off59 (v200 : BitVec 32) (k2_t14 : Fin k2_t14_loop.trips) : Fin 2 → Nat :=
  let v215 : Index := Scalar.indexCast v200
  let c0_i32_187 : BitVec 32 := 0#32
  let c1_i32_188 : BitVec 32 := 1#32
  let arg26 : BitVec 32 := Scf.iv c0_i32_187 c1_i32_188 k2_t14
  let c16_i32_195 : BitVec 32 := 16#32
  let v214 : BitVec 32 := Scalar.muli arg26 c16_i32_195
  let v216 : Index := Scalar.indexCast v214
  ![v215.toNat, v216.toNat]

def k2_chk10 (i : grid2.Coords) (v6 : BitVec 32) (k2_t1 : Fin k2_t1_loop.trips) (v89 : BitVec 32) (v200 : BitVec 32) : Prop :=
  (∀ k2_t14 : Fin k2_t14_loop.trips, ∀ (k2_h1 : k2_cond1 i v6 k2_t1 = 1#1), ∀ (k2_h9 : k2_cond9 v89 = 1#1), ∀ a, (k2_off59 v200 k2_t14) a + S1x16.size a ≤ S64x1280.size a)
theorem k2_off59_inb : ∀ (i : grid2.Coords) (v6 : BitVec 32) (k2_t1 : Fin k2_t1_loop.trips) (v89 : BitVec 32) (v200 : BitVec 32) (k2_hw10 : k2_chk10 i v6 k2_t1 v89 v200) (k2_t14 : Fin k2_t14_loop.trips), ∀ (k2_h1 : k2_cond1 i v6 k2_t1 = 1#1), ∀ (k2_h9 : k2_cond9 v89 = 1#1), ∀ a, (k2_off59 v200 k2_t14) a + S1x16.size a ≤ S64x1280.size a := fun i v6 k2_t1 v89 v200 k2_hw10 k2_t14 k2_h1 k2_h9 => k2_hw10 k2_t14 k2_h1 k2_h9

@[reducible] def k2_t15_loop (v89 : BitVec 32) : Scf.Loop 32 :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let v149 : BitVec 32 := Scalar.addi c0_i32_117 v148
  let c1_i32_120 : BitVec 32 := 1#32
  ⟨v152, v149, c1_i32_120⟩
def k2_off60 (v89 : BitVec 32) (k2_t15 : Fin (k2_t15_loop v89).trips) : Fin 4 → Nat :=
  let c0_i32_125 : BitVec 32 := 0#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let c16_i32_123 : BitVec 32 := 16#32
  let v155 : BitVec 32 := Scalar.muli v153 c16_i32_123
  let c0_i32_126 : BitVec 32 := 0#32
  let c0_i32_127 : BitVec 32 := 0#32
  ![0, v155.toNat, 0, 0]
def k2_off61 (v89 : BitVec 32) (k2_t15 : Fin (k2_t15_loop v89).trips) : Fin 1 → Nat :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c16_i32_122 : BitVec 32 := 16#32
  let v154 : BitVec 32 := Scalar.muli arg24 c16_i32_122
  ![v154.toNat]
def k2_off62 (v89 : BitVec 32) (k2_t15 : Fin (k2_t15_loop v89).trips) : Fin 4 → Nat :=
  let c1_i32_136 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let c16_i32_134 : BitVec 32 := 16#32
  let v162 : BitVec 32 := Scalar.muli v153 c16_i32_134
  let c0_i32_137 : BitVec 32 := 0#32
  let c0_i32_138 : BitVec 32 := 0#32
  ![1, v162.toNat, 0, 0]
def k2_off63 (v89 : BitVec 32) (k2_t15 : Fin (k2_t15_loop v89).trips) : Fin 4 → Nat :=
  let c2_i32_147 : BitVec 32 := 2#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let c16_i32_145 : BitVec 32 := 16#32
  let v169 : BitVec 32 := Scalar.muli v153 c16_i32_145
  let c0_i32_148 : BitVec 32 := 0#32
  let c0_i32_149 : BitVec 32 := 0#32
  ![2, v169.toNat, 0, 0]
def k2_off64 (v89 : BitVec 32) (k2_t15 : Fin (k2_t15_loop v89).trips) : Fin 4 → Nat :=
  let c3_i32_158 : BitVec 32 := 3#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let c16_i32_156 : BitVec 32 := 16#32
  let v176 : BitVec 32 := Scalar.muli v153 c16_i32_156
  let c0_i32_159 : BitVec 32 := 0#32
  let c0_i32_160 : BitVec 32 := 0#32
  ![3, v176.toNat, 0, 0]
def k2_off65 (v89 : BitVec 32) (k2_t15 : Fin (k2_t15_loop v89).trips) : Fin 4 → Nat :=
  let c4_i32_169 : BitVec 32 := 4#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let c16_i32_167 : BitVec 32 := 16#32
  let v183 : BitVec 32 := Scalar.muli v153 c16_i32_167
  let c0_i32_170 : BitVec 32 := 0#32
  let c0_i32_171 : BitVec 32 := 0#32
  ![4, v183.toNat, 0, 0]
def k2_off66 (v89 : BitVec 32) (k2_t15 : Fin (k2_t15_loop v89).trips) : Fin 4 → Nat :=
  let c0_i32_191 : BitVec 32 := 0#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let v198 : BitVec 32 := Scalar.subi c1_i32_188 v153
  let c16_i32_189 : BitVec 32 := 16#32
  let v199 : BitVec 32 := Scalar.muli v198 c16_i32_189
  let c0_i32_192 : BitVec 32 := 0#32
  let c0_i32_193 : BitVec 32 := 0#32
  ![0, v199.toNat, 0, 0]
def k2_cond11 (v89 : BitVec 32) (k2_t15 : Fin (k2_t15_loop v89).trips) : BitVec 1 :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c1_i32_178 : BitVec 32 := 1#32
  let v190 : BitVec 32 := Scalar.addi arg24 c1_i32_178
  let v191 : BitVec 1 := Scalar.cmpi .slt v190 v106
  let v192 : BitVec 32 := Scalar.extui v191
  let c0_i32_179 : BitVec 32 := 0#32
  let v193 : BitVec 1 := Scalar.cmpi .ne v192 c0_i32_179
  v193

def k2_off67 (v89 : BitVec 32) (k2_t15 : Fin (k2_t15_loop v89).trips) : Fin 1 → Nat :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c1_i32_186 : BitVec 32 := 1#32
  let v196 : BitVec 32 := Scalar.addi arg24 c1_i32_186
  let c16_i32_187 : BitVec 32 := 16#32
  let v197 : BitVec 32 := Scalar.muli v196 c16_i32_187
  ![v197.toNat]
def k2_off68 (v89 : BitVec 32) (k2_t15 : Fin (k2_t15_loop v89).trips) : Fin 4 → Nat :=
  let c1_i32_202 : BitVec 32 := 1#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let v198 : BitVec 32 := Scalar.subi c1_i32_188 v153
  let c16_i32_200 : BitVec 32 := 16#32
  let v206 : BitVec 32 := Scalar.muli v198 c16_i32_200
  let c0_i32_203 : BitVec 32 := 0#32
  let c0_i32_204 : BitVec 32 := 0#32
  ![1, v206.toNat, 0, 0]
def k2_off69 (v89 : BitVec 32) (k2_t15 : Fin (k2_t15_loop v89).trips) : Fin 4 → Nat :=
  let c2_i32_213 : BitVec 32 := 2#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let v198 : BitVec 32 := Scalar.subi c1_i32_188 v153
  let c16_i32_211 : BitVec 32 := 16#32
  let v213 : BitVec 32 := Scalar.muli v198 c16_i32_211
  let c0_i32_214 : BitVec 32 := 0#32
  let c0_i32_215 : BitVec 32 := 0#32
  ![2, v213.toNat, 0, 0]
def k2_off70 (v89 : BitVec 32) (k2_t15 : Fin (k2_t15_loop v89).trips) : Fin 4 → Nat :=
  let c3_i32_224 : BitVec 32 := 3#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let v198 : BitVec 32 := Scalar.subi c1_i32_188 v153
  let c16_i32_222 : BitVec 32 := 16#32
  let v220 : BitVec 32 := Scalar.muli v198 c16_i32_222
  let c0_i32_225 : BitVec 32 := 0#32
  let c0_i32_226 : BitVec 32 := 0#32
  ![3, v220.toNat, 0, 0]
def k2_off71 (v89 : BitVec 32) (k2_t15 : Fin (k2_t15_loop v89).trips) : Fin 4 → Nat :=
  let c4_i32_235 : BitVec 32 := 4#32
  let c1_i32_188 : BitVec 32 := 1#32
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let v198 : BitVec 32 := Scalar.subi c1_i32_188 v153
  let c16_i32_233 : BitVec 32 := 16#32
  let v227 : BitVec 32 := Scalar.muli v198 c16_i32_233
  let c0_i32_236 : BitVec 32 := 0#32
  let c0_i32_237 : BitVec 32 := 0#32
  ![4, v227.toNat, 0, 0]
@[reducible] def k2_t16_loop : Scf.Loop 32 :=
  let c0_i32_182 : BitVec 32 := 0#32
  let c16_i32_183 : BitVec 32 := 16#32
  let v195 : BitVec 32 := Scalar.addi c0_i32_182 c16_i32_183
  let c1_i32_184 : BitVec 32 := 1#32
  ⟨c0_i32_182, v195, c1_i32_184⟩
def k2_off72 (v89 : BitVec 32) (k2_t15 : Fin (k2_t15_loop v89).trips) (k2_t16 : Fin k2_t16_loop.trips) : Fin 1 → Nat :=
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c16_i32_180 : BitVec 32 := 16#32
  let v194 : BitVec 32 := Scalar.muli arg24 c16_i32_180
  let c0_i32_182 : BitVec 32 := 0#32
  let c1_i32_184 : BitVec 32 := 1#32
  let arg25 : BitVec 32 := Scf.iv c0_i32_182 c1_i32_184 k2_t16
  let v196 : BitVec 32 := Scalar.addi v194 arg25
  let v197 : Index := Scalar.indexCast v196
  ![v197.toNat]
@[reducible] def k2_t17_loop : Scf.Loop 32 :=
  let c0_i32_187 : BitVec 32 := 0#32
  let c80_i32 : BitVec 32 := 80#32
  let v201 : BitVec 32 := Scalar.addi c0_i32_187 c80_i32
  let c1_i32_188 : BitVec 32 := 1#32
  ⟨c0_i32_187, v201, c1_i32_188⟩
def k2_off73 (v89 : BitVec 32) (k2_t15 : Fin (k2_t15_loop v89).trips) (k2_t16 : Fin k2_t16_loop.trips) (k2_t17 : Fin k2_t17_loop.trips) : Fin 4 → Nat :=
  let c0_i32_187 : BitVec 32 := 0#32
  let c1_i32_188 : BitVec 32 := 1#32
  let arg26 : BitVec 32 := Scf.iv c0_i32_187 c1_i32_188 k2_t17
  let c4_i32_190 : BitVec 32 := 4#32
  let v202 : BitVec 32 := Scalar.shrsi arg26 c4_i32_190
  let v209 : Index := Scalar.indexCast v202
  let c0_i32_117 : BitVec 32 := 0#32
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let v148 : BitVec 32 := Scalar.subi v106 c0_i32_117
  let c1_i32_118 : BitVec 32 := 1#32
  let v150 : BitVec 32 := Scalar.divsi v148 c1_i32_118
  let v151 : BitVec 32 := Scalar.muli v150 c1_i32_118
  let v152 : BitVec 32 := Scalar.addi c0_i32_117 v151
  let c1_i32_120 : BitVec 32 := 1#32
  let arg24 : BitVec 32 := Scf.iv v152 c1_i32_120 k2_t15
  let c2_i32_121 : BitVec 32 := 2#32
  let v153 : BitVec 32 := Scalar.remsi arg24 c2_i32_121
  let c16_i32_191 : BitVec 32 := 16#32
  let v203 : BitVec 32 := Scalar.muli v153 c16_i32_191
  let c0_i32_182 : BitVec 32 := 0#32
  let c1_i32_184 : BitVec 32 := 1#32
  let arg25 : BitVec 32 := Scf.iv c0_i32_182 c1_i32_184 k2_t16
  let v204 : BitVec 32 := Scalar.addi v203 arg25
  let v210 : Index := Scalar.indexCast v204
  let c3_i32_192 : BitVec 32 := 3#32
  let v205 : BitVec 32 := Scalar.shrsi arg26 c3_i32_192
  let c1_i32_193 : BitVec 32 := 1#32
  let v206 : BitVec 32 := Scalar.andi v205 c1_i32_193
  let v211 : Index := Scalar.indexCast v206
  let c7_i32 : BitVec 32 := 7#32
  let v207 : BitVec 32 := Scalar.andi arg26 c7_i32
  let c16_i32_194 : BitVec 32 := 16#32
  let v208 : BitVec 32 := Scalar.muli v207 c16_i32_194
  let v212 : Index := Scalar.indexCast v208
  ![v209.toNat, v210.toNat, v211.toNat, v212.toNat]
def k2_off74 (v200 : BitVec 32) (k2_t17 : Fin k2_t17_loop.trips) : Fin 2 → Nat :=
  let v215 : Index := Scalar.indexCast v200
  let c0_i32_187 : BitVec 32 := 0#32
  let c1_i32_188 : BitVec 32 := 1#32
  let arg26 : BitVec 32 := Scf.iv c0_i32_187 c1_i32_188 k2_t17
  let c16_i32_195 : BitVec 32 := 16#32
  let v214 : BitVec 32 := Scalar.muli arg26 c16_i32_195
  let v216 : Index := Scalar.indexCast v214
  ![v215.toNat, v216.toNat]

def k2_chk11 (i : grid2.Coords) (v6 : BitVec 32) (k2_t1 : Fin k2_t1_loop.trips) (v89 : BitVec 32) (v200 : BitVec 32) : Prop :=
  (∀ k2_t17 : Fin k2_t17_loop.trips, ∀ (k2_h1 : k2_cond1 i v6 k2_t1 = 1#1), ∀ (k2_h9 : k2_cond9 v89 = 1#1), ∀ a, (k2_off74 v200 k2_t17) a + S1x16.size a ≤ S64x1280.size a)
theorem k2_off74_inb : ∀ (i : grid2.Coords) (v6 : BitVec 32) (k2_t1 : Fin k2_t1_loop.trips) (v89 : BitVec 32) (v200 : BitVec 32) (k2_hw11 : k2_chk11 i v6 k2_t1 v89 v200) (k2_t17 : Fin k2_t17_loop.trips), ∀ (k2_h1 : k2_cond1 i v6 k2_t1 = 1#1), ∀ (k2_h9 : k2_cond9 v89 = 1#1), ∀ a, (k2_off74 v200 k2_t17) a + S1x16.size a ≤ S64x1280.size a := fun i v6 k2_t1 v89 v200 k2_hw11 k2_t17 k2_h1 k2_h9 => k2_hw11 k2_t17 k2_h1 k2_h9

def k2_off75 (v89 : BitVec 32) : Fin 1 → Nat :=
  let c0_i32_46 : BitVec 32 := 0#32
  let v91 : BitVec 1 := Scalar.cmpi .sgt v89 c0_i32_46
  let v92 : BitVec 32 := Scalar.extui v91
  let c0_i32_47 : BitVec 32 := 0#32
  let v93 : BitVec 1 := Scalar.cmpi .slt v89 c0_i32_47
  let v94 : BitVec 32 := Scalar.extui v93
  let v95 : BitVec 32 := Scalar.subi v92 v94
  let c16_i32 : BitVec 32 := 16#32
  let c0_i32_48 : BitVec 32 := 0#32
  let v96 : BitVec 1 := Scalar.cmpi .sgt c16_i32 c0_i32_48
  let v97 : BitVec 32 := Scalar.extui v96
  let c0_i32_49 : BitVec 32 := 0#32
  let v98 : BitVec 1 := Scalar.cmpi .slt c16_i32 c0_i32_49
  let v99 : BitVec 32 := Scalar.extui v98
  let v100 : BitVec 32 := Scalar.subi v97 v99
  let v101 : BitVec 1 := Scalar.cmpi .ne v95 v100
  let v102 : BitVec 32 := Scalar.remsi v89 c16_i32
  let c0_i32_50 : BitVec 32 := 0#32
  let v103 : BitVec 1 := Scalar.cmpi .ne v102 c0_i32_50
  let v104 : BitVec 1 := Scalar.andi v101 v103
  let v90 : BitVec 32 := Scalar.divsi v89 c16_i32
  let c1_i32_51 : BitVec 32 := 1#32
  let v105 : BitVec 32 := Scalar.subi v90 c1_i32_51
  let v106 : BitVec 32 := Scalar.select v104 v105 v90
  let c16_i32_54 : BitVec 32 := 16#32
  let v110 : BitVec 32 := Scalar.muli v106 c16_i32_54
  let v111 : Index := Scalar.indexCast v110
  ![v111.toNat]

def k2_chk9 (i : grid2.Coords) (v6 : BitVec 32) (k2_t1 : Fin k2_t1_loop.trips) (v89 : BitVec 32) : Prop :=
  (∀ (k2_h1 : k2_cond1 i v6 k2_t1 = 1#1), ∀ (k2_h9 : k2_cond9 v89 = 1#1), (k2_t12_loop v89).OK) ∧
  (∀ k2_t12 : Fin (k2_t12_loop v89).trips, ∀ (k2_h1 : k2_cond1 i v6 k2_t1 = 1#1), ∀ (k2_h9 : k2_cond9 v89 = 1#1), ∀ a, (k2_off45 v89 k2_t12) a + S1x16x2x128.size a ≤ S5x32x2x128.size a) ∧
  (∀ k2_t12 : Fin (k2_t12_loop v89).trips, ∀ (k2_h1 : k2_cond1 i v6 k2_t1 = 1#1), ∀ (k2_h9 : k2_cond9 v89 = 1#1), ∀ a, (k2_off46 v89 k2_t12) a + S16.size a ≤ S1056.size a) ∧
  (∀ k2_t12 : Fin (k2_t12_loop v89).trips, ∀ (k2_h1 : k2_cond1 i v6 k2_t1 = 1#1), ∀ (k2_h9 : k2_cond9 v89 = 1#1), ∀ a, (k2_off47 v89 k2_t12) a + S1x16x2x128.size a ≤ S5x32x2x128.size a) ∧
  (∀ k2_t12 : Fin (k2_t12_loop v89).trips, ∀ (k2_h1 : k2_cond1 i v6 k2_t1 = 1#1), ∀ (k2_h9 : k2_cond9 v89 = 1#1), ∀ a, (k2_off48 v89 k2_t12) a + S1x16x2x128.size a ≤ S5x32x2x128.size a) ∧
  (∀ k2_t12 : Fin (k2_t12_loop v89).trips, ∀ (k2_h1 : k2_cond1 i v6 k2_t1 = 1#1), ∀ (k2_h9 : k2_cond9 v89 = 1#1), ∀ a, (k2_off49 v89 k2_t12) a + S1x16x2x128.size a ≤ S5x32x2x128.size a) ∧
  (∀ k2_t12 : Fin (k2_t12_loop v89).trips, ∀ (k2_h1 : k2_cond1 i v6 k2_t1 = 1#1), ∀ (k2_h9 : k2_cond9 v89 = 1#1), ∀ a, (k2_off50 v89 k2_t12) a + S1x16x2x128.size a ≤ S5x32x2x128.size a) ∧
  (∀ k2_t12 : Fin (k2_t12_loop v89).trips, ∀ (k2_h1 : k2_cond1 i v6 k2_t1 = 1#1), ∀ (k2_h9 : k2_cond9 v89 = 1#1), ∀ (k2_h10 : k2_cond10 v89 k2_t12 = 1#1), ∀ a, (k2_off51 v89 k2_t12) a + S1x16x2x128.size a ≤ S5x32x2x128.size a) ∧
  (∀ k2_t12 : Fin (k2_t12_loop v89).trips, ∀ (k2_h1 : k2_cond1 i v6 k2_t1 = 1#1), ∀ (k2_h9 : k2_cond9 v89 = 1#1), ∀ (k2_h10 : k2_cond10 v89 k2_t12 = 1#1), ∀ a, (k2_off52 v89 k2_t12) a + S16.size a ≤ S1056.size a) ∧
  (∀ k2_t12 : Fin (k2_t12_loop v89).trips, ∀ (k2_h1 : k2_cond1 i v6 k2_t1 = 1#1), ∀ (k2_h9 : k2_cond9 v89 = 1#1), ∀ (k2_h10 : k2_cond10 v89 k2_t12 = 1#1), ∀ a, (k2_off53 v89 k2_t12) a + S1x16x2x128.size a ≤ S5x32x2x128.size a) ∧
  (∀ k2_t12 : Fin (k2_t12_loop v89).trips, ∀ (k2_h1 : k2_cond1 i v6 k2_t1 = 1#1), ∀ (k2_h9 : k2_cond9 v89 = 1#1), ∀ (k2_h10 : k2_cond10 v89 k2_t12 = 1#1), ∀ a, (k2_off54 v89 k2_t12) a + S1x16x2x128.size a ≤ S5x32x2x128.size a) ∧
  (∀ k2_t12 : Fin (k2_t12_loop v89).trips, ∀ (k2_h1 : k2_cond1 i v6 k2_t1 = 1#1), ∀ (k2_h9 : k2_cond9 v89 = 1#1), ∀ (k2_h10 : k2_cond10 v89 k2_t12 = 1#1), ∀ a, (k2_off55 v89 k2_t12) a + S1x16x2x128.size a ≤ S5x32x2x128.size a) ∧
  (∀ k2_t12 : Fin (k2_t12_loop v89).trips, ∀ (k2_h1 : k2_cond1 i v6 k2_t1 = 1#1), ∀ (k2_h9 : k2_cond9 v89 = 1#1), ∀ (k2_h10 : k2_cond10 v89 k2_t12 = 1#1), ∀ a, (k2_off56 v89 k2_t12) a + S1x16x2x128.size a ≤ S5x32x2x128.size a) ∧
  (∀ (k2_t12 : Fin (k2_t12_loop v89).trips) (k2_t13 : Fin k2_t13_loop.trips), ∀ (k2_h1 : k2_cond1 i v6 k2_t1 = 1#1), ∀ (k2_h9 : k2_cond9 v89 = 1#1), ∀ a, (k2_off57 v89 k2_t12 k2_t13) a + S16.size a ≤ S1056.size a) ∧
  (∀ (k2_t12 : Fin (k2_t12_loop v89).trips) (k2_t13 : Fin k2_t13_loop.trips) (k2_t14 : Fin k2_t14_loop.trips), ∀ (k2_h1 : k2_cond1 i v6 k2_t1 = 1#1), ∀ (k2_h9 : k2_cond9 v89 = 1#1), ∀ a, (k2_off58 v89 k2_t12 k2_t13 k2_t14) a + S1x1x1x16.size a ≤ S5x32x2x128.size a) ∧
  (∀ (k2_h1 : k2_cond1 i v6 k2_t1 = 1#1), ∀ (k2_h9 : k2_cond9 v89 = 1#1), (k2_t15_loop v89).OK) ∧
  (∀ k2_t15 : Fin (k2_t15_loop v89).trips, ∀ (k2_h1 : k2_cond1 i v6 k2_t1 = 1#1), ∀ (k2_h9 : k2_cond9 v89 = 1#1), ∀ a, (k2_off60 v89 k2_t15) a + S1x16x2x128.size a ≤ S5x32x2x128.size a) ∧
  (∀ k2_t15 : Fin (k2_t15_loop v89).trips, ∀ (k2_h1 : k2_cond1 i v6 k2_t1 = 1#1), ∀ (k2_h9 : k2_cond9 v89 = 1#1), ∀ a, (k2_off61 v89 k2_t15) a + S16.size a ≤ S1056.size a) ∧
  (∀ k2_t15 : Fin (k2_t15_loop v89).trips, ∀ (k2_h1 : k2_cond1 i v6 k2_t1 = 1#1), ∀ (k2_h9 : k2_cond9 v89 = 1#1), ∀ a, (k2_off62 v89 k2_t15) a + S1x16x2x128.size a ≤ S5x32x2x128.size a) ∧
  (∀ k2_t15 : Fin (k2_t15_loop v89).trips, ∀ (k2_h1 : k2_cond1 i v6 k2_t1 = 1#1), ∀ (k2_h9 : k2_cond9 v89 = 1#1), ∀ a, (k2_off63 v89 k2_t15) a + S1x16x2x128.size a ≤ S5x32x2x128.size a) ∧
  (∀ k2_t15 : Fin (k2_t15_loop v89).trips, ∀ (k2_h1 : k2_cond1 i v6 k2_t1 = 1#1), ∀ (k2_h9 : k2_cond9 v89 = 1#1), ∀ a, (k2_off64 v89 k2_t15) a + S1x16x2x128.size a ≤ S5x32x2x128.size a) ∧
  (∀ k2_t15 : Fin (k2_t15_loop v89).trips, ∀ (k2_h1 : k2_cond1 i v6 k2_t1 = 1#1), ∀ (k2_h9 : k2_cond9 v89 = 1#1), ∀ a, (k2_off65 v89 k2_t15) a + S1x16x2x128.size a ≤ S5x32x2x128.size a) ∧
  (∀ k2_t15 : Fin (k2_t15_loop v89).trips, ∀ (k2_h1 : k2_cond1 i v6 k2_t1 = 1#1), ∀ (k2_h9 : k2_cond9 v89 = 1#1), ∀ (k2_h11 : k2_cond11 v89 k2_t15 = 1#1), ∀ a, (k2_off66 v89 k2_t15) a + S1x16x2x128.size a ≤ S5x32x2x128.size a) ∧
  (∀ k2_t15 : Fin (k2_t15_loop v89).trips, ∀ (k2_h1 : k2_cond1 i v6 k2_t1 = 1#1), ∀ (k2_h9 : k2_cond9 v89 = 1#1), ∀ (k2_h11 : k2_cond11 v89 k2_t15 = 1#1), ∀ a, (k2_off67 v89 k2_t15) a + S16.size a ≤ S1056.size a) ∧
  (∀ k2_t15 : Fin (k2_t15_loop v89).trips, ∀ (k2_h1 : k2_cond1 i v6 k2_t1 = 1#1), ∀ (k2_h9 : k2_cond9 v89 = 1#1), ∀ (k2_h11 : k2_cond11 v89 k2_t15 = 1#1), ∀ a, (k2_off68 v89 k2_t15) a + S1x16x2x128.size a ≤ S5x32x2x128.size a) ∧
  (∀ k2_t15 : Fin (k2_t15_loop v89).trips, ∀ (k2_h1 : k2_cond1 i v6 k2_t1 = 1#1), ∀ (k2_h9 : k2_cond9 v89 = 1#1), ∀ (k2_h11 : k2_cond11 v89 k2_t15 = 1#1), ∀ a, (k2_off69 v89 k2_t15) a + S1x16x2x128.size a ≤ S5x32x2x128.size a) ∧
  (∀ k2_t15 : Fin (k2_t15_loop v89).trips, ∀ (k2_h1 : k2_cond1 i v6 k2_t1 = 1#1), ∀ (k2_h9 : k2_cond9 v89 = 1#1), ∀ (k2_h11 : k2_cond11 v89 k2_t15 = 1#1), ∀ a, (k2_off70 v89 k2_t15) a + S1x16x2x128.size a ≤ S5x32x2x128.size a) ∧
  (∀ k2_t15 : Fin (k2_t15_loop v89).trips, ∀ (k2_h1 : k2_cond1 i v6 k2_t1 = 1#1), ∀ (k2_h9 : k2_cond9 v89 = 1#1), ∀ (k2_h11 : k2_cond11 v89 k2_t15 = 1#1), ∀ a, (k2_off71 v89 k2_t15) a + S1x16x2x128.size a ≤ S5x32x2x128.size a) ∧
  (∀ (k2_t15 : Fin (k2_t15_loop v89).trips) (k2_t16 : Fin k2_t16_loop.trips), ∀ (k2_h1 : k2_cond1 i v6 k2_t1 = 1#1), ∀ (k2_h9 : k2_cond9 v89 = 1#1), ∀ a, (k2_off72 v89 k2_t15 k2_t16) a + S16.size a ≤ S1056.size a) ∧
  (∀ (k2_t15 : Fin (k2_t15_loop v89).trips) (k2_t16 : Fin k2_t16_loop.trips) (k2_t17 : Fin k2_t17_loop.trips), ∀ (k2_h1 : k2_cond1 i v6 k2_t1 = 1#1), ∀ (k2_h9 : k2_cond9 v89 = 1#1), ∀ a, (k2_off73 v89 k2_t15 k2_t16 k2_t17) a + S1x1x1x16.size a ≤ S5x32x2x128.size a) ∧
  (∀ (k2_h1 : k2_cond1 i v6 k2_t1 = 1#1), ∀ a, (k2_off75 v89) a + S16.size a ≤ S1056.size a)
theorem k2_t12_ok : ∀ (i : grid2.Coords) (v6 : BitVec 32) (k2_t1 : Fin k2_t1_loop.trips) (v89 : BitVec 32) (k2_hw9 : k2_chk9 i v6 k2_t1 v89), ∀ (k2_h1 : k2_cond1 i v6 k2_t1 = 1#1), ∀ (k2_h9 : k2_cond9 v89 = 1#1), (k2_t12_loop v89).OK := fun i v6 k2_t1 v89 k2_hw9 k2_h1 k2_h9 => k2_hw9.1 k2_h1 k2_h9
theorem k2_off45_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ a, (k2_off45 v89 k2_t12) a + S1x16x2x128.size a ≤ S5x32x2x128.size a := fun i v6 k2_t1 v89 k2_hw9 k2_t12 k2_h1 k2_h9 => k2_hw9.2.1 k2_t12 k2_h1 k2_h9
theorem k2_off46_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ a, (k2_off46 v89 k2_t12) a + S16.size a ≤ S1056.size a := fun i v6 k2_t1 v89 k2_hw9 k2_t12 k2_h1 k2_h9 => k2_hw9.2.2.1 k2_t12 k2_h1 k2_h9
theorem k2_off47_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ a, (k2_off47 v89 k2_t12) a + S1x16x2x128.size a ≤ S5x32x2x128.size a := fun i v6 k2_t1 v89 k2_hw9 k2_t12 k2_h1 k2_h9 => k2_hw9.2.2.2.1 k2_t12 k2_h1 k2_h9
theorem k2_off48_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ a, (k2_off48 v89 k2_t12) a + S1x16x2x128.size a ≤ S5x32x2x128.size a := fun i v6 k2_t1 v89 k2_hw9 k2_t12 k2_h1 k2_h9 => k2_hw9.2.2.2.2.1 k2_t12 k2_h1 k2_h9
theorem k2_off49_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ a, (k2_off49 v89 k2_t12) a + S1x16x2x128.size a ≤ S5x32x2x128.size a := fun i v6 k2_t1 v89 k2_hw9 k2_t12 k2_h1 k2_h9 => k2_hw9.2.2.2.2.2.1 k2_t12 k2_h1 k2_h9
theorem k2_off50_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ a, (k2_off50 v89 k2_t12) a + S1x16x2x128.size a ≤ S5x32x2x128.size a := fun i v6 k2_t1 v89 k2_hw9 k2_t12 k2_h1 k2_h9 => k2_hw9.2.2.2.2.2.2.1 k2_t12 k2_h1 k2_h9
theorem k2_off51_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ (k2_h10 : k2_cond10 v89 k2_t12 = 1#1), ∀ a, (k2_off51 v89 k2_t12) a + S1x16x2x128.size a ≤ S5x32x2x128.size a := fun i v6 k2_t1 v89 k2_hw9 k2_t12 k2_h1 k2_h9 k2_h10 => k2_hw9.2.2.2.2.2.2.2.1 k2_t12 k2_h1 k2_h9 k2_h10
theorem k2_off52_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ (k2_h10 : k2_cond10 v89 k2_t12 = 1#1), ∀ a, (k2_off52 v89 k2_t12) a + S16.size a ≤ S1056.size a := fun i v6 k2_t1 v89 k2_hw9 k2_t12 k2_h1 k2_h9 k2_h10 => k2_hw9.2.2.2.2.2.2.2.2.1 k2_t12 k2_h1 k2_h9 k2_h10
theorem k2_off53_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ (k2_h10 : k2_cond10 v89 k2_t12 = 1#1), ∀ a, (k2_off53 v89 k2_t12) a + S1x16x2x128.size a ≤ S5x32x2x128.size a := fun i v6 k2_t1 v89 k2_hw9 k2_t12 k2_h1 k2_h9 k2_h10 => k2_hw9.2.2.2.2.2.2.2.2.2.1 k2_t12 k2_h1 k2_h9 k2_h10
theorem k2_off54_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ (k2_h10 : k2_cond10 v89 k2_t12 = 1#1), ∀ a, (k2_off54 v89 k2_t12) a + S1x16x2x128.size a ≤ S5x32x2x128.size a := fun i v6 k2_t1 v89 k2_hw9 k2_t12 k2_h1 k2_h9 k2_h10 => k2_hw9.2.2.2.2.2.2.2.2.2.2.1 k2_t12 k2_h1 k2_h9 k2_h10
theorem k2_off55_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ (k2_h10 : k2_cond10 v89 k2_t12 = 1#1), ∀ a, (k2_off55 v89 k2_t12) a + S1x16x2x128.size a ≤ S5x32x2x128.size a := fun i v6 k2_t1 v89 k2_hw9 k2_t12 k2_h1 k2_h9 k2_h10 => k2_hw9.2.2.2.2.2.2.2.2.2.2.2.1 k2_t12 k2_h1 k2_h9 k2_h10
theorem k2_off56_inb : ∀ (i : grid2.Coords) (v6 : BitVec 32) (k2_t1 : Fin k2_t1_loop.trips) (v89 : BitVec 32) (k2_hw9 : k2_chk9 i v6 k2_t1 v89) (k2_t12 : Fin (k2_t12_loop v89).trips), ∀ (k2_h1 : k2_cond1 i v6 k2_t1 = 1#1), ∀ (k2_h9 : k2_cond9 v89 = 1#1), ∀ (k2_h10 : k2_cond10 v89 k2_t12 = 1#1), ∀ a, (k2_off56 v89 k2_t12) a + S1x16x2x128.size a ≤ S5x32x2x128.size a := fun i v6 k2_t1 v89 k2_hw9 k2_t12 k2_h1 k2_h9 k2_h10 => k2_hw9.2.2.2.2.2.2.2.2.2.2.2.2.1 k2_t12 k2_h1 k2_h9 k2_h10
theorem k2_off57_inb : ∀ (i : grid2.Coords) (v6 : BitVec 32) (k2_t1 : Fin k2_t1_loop.trips) (v89 : BitVec 32) (k2_hw9 : k2_chk9 i v6 k2_t1 v89) (k2_t12 : Fin (k2_t12_loop v89).trips) (k2_t13 : Fin k2_t13_loop.trips), ∀ (k2_h1 : k2_cond1 i v6 k2_t1 = 1#1), ∀ (k2_h9 : k2_cond9 v89 = 1#1), ∀ a, (k2_off57 v89 k2_t12 k2_t13) a + S16.size a ≤ S1056.size a := fun i v6 k2_t1 v89 k2_hw9 k2_t12 k2_t13 k2_h1 k2_h9 => k2_hw9.2.2.2.2.2.2.2.2.2.2.2.2.2.1 k2_t12 k2_t13 k2_h1 k2_h9
theorem k2_off58_inb : ∀ (i : grid2.Coords) (v6 : BitVec 32) (k2_t1 : Fin k2_t1_loop.trips) (v89 : BitVec 32) (k2_hw9 : k2_chk9 i v6 k2_t1 v89) (k2_t12 : Fin (k2_t12_loop v89).trips) (k2_t13 : Fin k2_t13_loop.trips) (k2_t14 : Fin k2_t14_loop.trips), ∀ (k2_h1 : k2_cond1 i v6 k2_t1 = 1#1), ∀ (k2_h9 : k2_cond9 v89 = 1#1), ∀ a, (k2_off58 v89 k2_t12 k2_t13 k2_t14) a + S1x1x1x16.size a ≤ S5x32x2x128.size a := fun i v6 k2_t1 v89 k2_hw9 k2_t12 k2_t13 k2_t14 k2_h1 k2_h9 => k2_hw9.2.2.2.2.2.2.2.2.2.2.2.2.2.2.1 k2_t12 k2_t13 k2_t14 k2_h1 k2_h9
theorem k2_t15_ok : ∀ (i : grid2.Coords) (v6 : BitVec 32) (k2_t1 : Fin k2_t1_loop.trips) (v89 : BitVec 32) (k2_hw9 : k2_chk9 i v6 k2_t1 v89), ∀ (k2_h1 : k2_cond1 i v6 k2_t1 = 1#1), ∀ (k2_h9 : k2_cond9 v89 = 1#1), (k2_t15_loop v89).OK := fun i v6 k2_t1 v89 k2_hw9 k2_h1 k2_h9 => k2_hw9.2.2.2.2.2.2.2.2.2.2.2.2.2.2.2.1 k2_h1 k2_h9
theorem k2_off60_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ a, (k2_off60 v89 k2_t15) a + S1x16x2x128.size a ≤ S5x32x2x128.size a := fun i v6 k2_t1 v89 k2_hw9 k2_t15 k2_h1 k2_h9 => k2_hw9.2.2.2.2.2.2.2.2.2.2.2.2.2.2.2.2.1 k2_t15 k2_h1 k2_h9
theorem k2_off61_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ a, (k2_off61 v89 k2_t15) a + S16.size a ≤ S1056.size a := fun i v6 k2_t1 v89 k2_hw9 k2_t15 k2_h1 k2_h9 => k2_hw9.2.2.2.2.2.2.2.2.2.2.2.2.2.2.2.2.2.1 k2_t15 k2_h1 k2_h9
theorem k2_off62_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ a, (k2_off62 v89 k2_t15) a + S1x16x2x128.size a ≤ S5x32x2x128.size a := fun i v6 k2_t1 v89 k2_hw9 k2_t15 k2_h1 k2_h9 => k2_hw9.2.2.2.2.2.2.2.2.2.2.2.2.2.2.2.2.2.2.1 k2_t15 k2_h1 k2_h9
theorem k2_off63_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ a, (k2_off63 v89 k2_t15) a + S1x16x2x128.size a ≤ S5x32x2x128.size a := fun i v6 k2_t1 v89 k2_hw9 k2_t15 k2_h1 k2_h9 => k2_hw9.2.2.2.2.2.2.2.2.2.2.2.2.2.2.2.2.2.2.2.1 k2_t15 k2_h1 k2_h9
theorem k2_off64_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ a, (k2_off64 v89 k2_t15) a + S1x16x2x128.size a ≤ S5x32x2x128.size a := fun i v6 k2_t1 v89 k2_hw9 k2_t15 k2_h1 k2_h9 => k2_hw9.2.2.2.2.2.2.2.2.2.2.2.2.2.2.2.2.2.2.2.2.1 k2_t15 k2_h1 k2_h9
theorem k2_off65_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ a, (k2_off65 v89 k2_t15) a + S1x16x2x128.size a ≤ S5x32x2x128.size a := fun i v6 k2_t1 v89 k2_hw9 k2_t15 k2_h1 k2_h9 => k2_hw9.2.2.2.2.2.2.2.2.2.2.2.2.2.2.2.2.2.2.2.2.2.1 k2_t15 k2_h1 k2_h9
theorem k2_off66_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ (k2_h11 : k2_cond11 v89 k2_t15 = 1#1), ∀ a, (k2_off66 v89 k2_t15) a + S1x16x2x128.size a ≤ S5x32x2x128.size a := fun i v6 k2_t1 v89 k2_hw9 k2_t15 k2_h1 k2_h9 k2_h11 => k2_hw9.2.2.2.2.2.2.2.2.2.2.2.2.2.2.2.2.2.2.2.2.2.2.1 k2_t15 k2_h1 k2_h9 k2_h11
theorem k2_off67_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ (k2_h11 : k2_cond11 v89 k2_t15 = 1#1), ∀ a, (k2_off67 v89 k2_t15) a + S16.size a ≤ S1056.size a := fun i v6 k2_t1 v89 k2_hw9 k2_t15 k2_h1 k2_h9 k2_h11 => k2_hw9.2.2.2.2.2.2.2.2.2.2.2.2.2.2.2.2.2.2.2.2.2.2.2.1 k2_t15 k2_h1 k2_h9 k2_h11
theorem k2_off68_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ (k2_h11 : k2_cond11 v89 k2_t15 = 1#1), ∀ a, (k2_off68 v89 k2_t15) a + S1x16x2x128.size a ≤ S5x32x2x128.size a := fun i v6 k2_t1 v89 k2_hw9 k2_t15 k2_h1 k2_h9 k2_h11 => k2_hw9.2.2.2.2.2.2.2.2.2.2.2.2.2.2.2.2.2.2.2.2.2.2.2.2.1 k2_t15 k2_h1 k2_h9 k2_h11
theorem k2_off69_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ (k2_h11 : k2_cond11 v89 k2_t15 = 1#1), ∀ a, (k2_off69 v89 k2_t15) a + S1x16x2x128.size a ≤ S5x32x2x128.size a := fun i v6 k2_t1 v89 k2_hw9 k2_t15 k2_h1 k2_h9 k2_h11 => k2_hw9.2.2.2.2.2.2.2.2.2.2.2.2.2.2.2.2.2.2.2.2.2.2.2.2.2.1 k2_t15 k2_h1 k2_h9 k2_h11
theorem k2_off70_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ (k2_h11 : k2_cond11 v89 k2_t15 = 1#1), ∀ a, (k2_off70 v89 k2_t15) a + S1x16x2x128.size a ≤ S5x32x2x128.size a := fun i v6 k2_t1 v89 k2_hw9 k2_t15 k2_h1 k2_h9 k2_h11 => k2_hw9.2.2.2.2.2.2.2.2.2.2.2.2.2.2.2.2.2.2.2.2.2.2.2.2.2.2.1 k2_t15 k2_h1 k2_h9 k2_h11
theorem k2_off71_inb : ∀ (i : grid2.Coords) (v6 : BitVec 32) (k2_t1 : Fin k2_t1_loop.trips) (v89 : BitVec 32) (k2_hw9 : k2_chk9 i v6 k2_t1 v89) (k2_t15 : Fin (k2_t15_loop v89).trips), ∀ (k2_h1 : k2_cond1 i v6 k2_t1 = 1#1), ∀ (k2_h9 : k2_cond9 v89 = 1#1), ∀ (k2_h11 : k2_cond11 v89 k2_t15 = 1#1), ∀ a, (k2_off71 v89 k2_t15) a + S1x16x2x128.size a ≤ S5x32x2x128.size a := fun i v6 k2_t1 v89 k2_hw9 k2_t15 k2_h1 k2_h9 k2_h11 => k2_hw9.2.2.2.2.2.2.2.2.2.2.2.2.2.2.2.2.2.2.2.2.2.2.2.2.2.2.2.1 k2_t15 k2_h1 k2_h9 k2_h11
theorem k2_off72_inb : ∀ (i : grid2.Coords) (v6 : BitVec 32) (k2_t1 : Fin k2_t1_loop.trips) (v89 : BitVec 32) (k2_hw9 : k2_chk9 i v6 k2_t1 v89) (k2_t15 : Fin (k2_t15_loop v89).trips) (k2_t16 : Fin k2_t16_loop.trips), ∀ (k2_h1 : k2_cond1 i v6 k2_t1 = 1#1), ∀ (k2_h9 : k2_cond9 v89 = 1#1), ∀ a, (k2_off72 v89 k2_t15 k2_t16) a + S16.size a ≤ S1056.size a := fun i v6 k2_t1 v89 k2_hw9 k2_t15 k2_t16 k2_h1 k2_h9 => k2_hw9.2.2.2.2.2.2.2.2.2.2.2.2.2.2.2.2.2.2.2.2.2.2.2.2.2.2.2.2.1 k2_t15 k2_t16 k2_h1 k2_h9
theorem k2_off73_inb : ∀ (i : grid2.Coords) (v6 : BitVec 32) (k2_t1 : Fin k2_t1_loop.trips) (v89 : BitVec 32) (k2_hw9 : k2_chk9 i v6 k2_t1 v89) (k2_t15 : Fin (k2_t15_loop v89).trips) (k2_t16 : Fin k2_t16_loop.trips) (k2_t17 : Fin k2_t17_loop.trips), ∀ (k2_h1 : k2_cond1 i v6 k2_t1 = 1#1), ∀ (k2_h9 : k2_cond9 v89 = 1#1), ∀ a, (k2_off73 v89 k2_t15 k2_t16 k2_t17) a + S1x1x1x16.size a ≤ S5x32x2x128.size a := fun i v6 k2_t1 v89 k2_hw9 k2_t15 k2_t16 k2_t17 k2_h1 k2_h9 => k2_hw9.2.2.2.2.2.2.2.2.2.2.2.2.2.2.2.2.2.2.2.2.2.2.2.2.2.2.2.2.2.1 k2_t15 k2_t16 k2_t17 k2_h1 k2_h9
theorem k2_off75_inb : ∀ (i : grid2.Coords) (v6 : BitVec 32) (k2_t1 : Fin k2_t1_loop.trips) (v89 : BitVec 32) (k2_hw9 : k2_chk9 i v6 k2_t1 v89), ∀ (k2_h1 : k2_cond1 i v6 k2_t1 = 1#1), ∀ a, (k2_off75 v89) a + S16.size a ≤ S1056.size a := fun i v6 k2_t1 v89 k2_hw9 k2_h1 => k2_hw9.2.2.2.2.2.2.2.2.2.2.2.2.2.2.2.2.2.2.2.2.2.2.2.2.2.2.2.2.2.2 k2_h1

def k2_off76 (v59 : BitVec 32) : Fin 1 → Nat :=
  let v60 : Index := Scalar.indexCast v59
  ![v60.toNat]

def k2_chk12 (i : grid2.Coords) (v6 : BitVec 32) (k2_t1 : Fin k2_t1_loop.trips) (v59 : BitVec 32) : Prop :=
  (∀ (k2_h1 : k2_cond1 i v6 k2_t1 = 1#1), ∀ a, (k2_off76 v59) a + S16.size a ≤ S1056.size a)
theorem k2_off76_inb : ∀ (i : grid2.Coords) (v6 : BitVec 32) (k2_t1 : Fin k2_t1_loop.trips) (v59 : BitVec 32) (k2_hw12 : k2_chk12 i v6 k2_t1 v59), ∀ (k2_h1 : k2_cond1 i v6 k2_t1 = 1#1), ∀ a, (k2_off76 v59) a + S16.size a ≤ S1056.size a := fun i v6 k2_t1 v59 k2_hw12 k2_h1 => k2_hw12 k2_h1

@[reducible] def k2_t18_loop : Scf.Loop 32 :=
  let c0_i32_150 : BitVec 32 := 0#32
  let c16_i32 : BitVec 32 := 16#32
  let v128 : BitVec 32 := Scalar.addi c0_i32_150 c16_i32
  let c1_i32_151 : BitVec 32 := 1#32
  ⟨c0_i32_150, v128, c1_i32_151⟩
def k2_off77 (k2_t18 : Fin k2_t18_loop.trips) : Fin 1 → Nat :=
  let c0_i32_153 : BitVec 32 := 0#32
  let c0_i32_150 : BitVec 32 := 0#32
  let c1_i32_151 : BitVec 32 := 1#32
  let arg22 : BitVec 32 := Scf.iv c0_i32_150 c1_i32_151 k2_t18
  let v129 : BitVec 32 := Scalar.addi c0_i32_153 arg22
  let v130 : Index := Scalar.indexCast v129
  ![v130.toNat]
@[reducible] def k2_t19_loop : Scf.Loop 32 :=
  let c0_i32_155 : BitVec 32 := 0#32
  let c80_i32 : BitVec 32 := 80#32
  let v134 : BitVec 32 := Scalar.addi c0_i32_155 c80_i32
  let c1_i32_156 : BitVec 32 := 1#32
  ⟨c0_i32_155, v134, c1_i32_156⟩
def k2_off78 (k2_t18 : Fin k2_t18_loop.trips) (k2_t19 : Fin k2_t19_loop.trips) : Fin 4 → Nat :=
  let c0_i32_155 : BitVec 32 := 0#32
  let c1_i32_156 : BitVec 32 := 1#32
  let arg23 : BitVec 32 := Scf.iv c0_i32_155 c1_i32_156 k2_t19
  let c4_i32_158 : BitVec 32 := 4#32
  let v135 : BitVec 32 := Scalar.shrsi arg23 c4_i32_158
  let v141 : Index := Scalar.indexCast v135
  let c0_i32_159 : BitVec 32 := 0#32
  let c0_i32_150 : BitVec 32 := 0#32
  let c1_i32_151 : BitVec 32 := 1#32
  let arg22 : BitVec 32 := Scf.iv c0_i32_150 c1_i32_151 k2_t18
  let v136 : BitVec 32 := Scalar.addi c0_i32_159 arg22
  let v142 : Index := Scalar.indexCast v136
  let c3_i32_160 : BitVec 32 := 3#32
  let v137 : BitVec 32 := Scalar.shrsi arg23 c3_i32_160
  let c1_i32_161 : BitVec 32 := 1#32
  let v138 : BitVec 32 := Scalar.andi v137 c1_i32_161
  let v143 : Index := Scalar.indexCast v138
  let c7_i32 : BitVec 32 := 7#32
  let v139 : BitVec 32 := Scalar.andi arg23 c7_i32
  let c16_i32_162 : BitVec 32 := 16#32
  let v140 : BitVec 32 := Scalar.muli v139 c16_i32_162
  let v144 : Index := Scalar.indexCast v140
  ![v141.toNat, v142.toNat, v143.toNat, v144.toNat]
def k2_off79 (v133 : BitVec 32) (k2_t19 : Fin k2_t19_loop.trips) : Fin 2 → Nat :=
  let v147 : Index := Scalar.indexCast v133
  let c0_i32_155 : BitVec 32 := 0#32
  let c1_i32_156 : BitVec 32 := 1#32
  let arg23 : BitVec 32 := Scf.iv c0_i32_155 c1_i32_156 k2_t19
  let c16_i32_163 : BitVec 32 := 16#32
  let v146 : BitVec 32 := Scalar.muli arg23 c16_i32_163
  let v148 : Index := Scalar.indexCast v146
  ![v147.toNat, v148.toNat]
def k2_cond12 (v59 : BitVec 32) : BitVec 1 :=
  let c0_i32_28 : BitVec 32 := 0#32
  let v65 : BitVec 1 := Scalar.cmpi .sgt v59 c0_i32_28
  let v66 : BitVec 32 := Scalar.extui v65
  let c0_i32_29 : BitVec 32 := 0#32
  let v67 : BitVec 1 := Scalar.cmpi .ne v66 c0_i32_29
  v67

def k2_chk13 (i : grid2.Coords) (v6 : BitVec 32) (k2_t1 : Fin k2_t1_loop.trips) (v59 : BitVec 32) (v133 : BitVec 32) : Prop :=
  (∀ k2_t19 : Fin k2_t19_loop.trips, ∀ (k2_h1 : k2_cond1 i v6 k2_t1 = 1#1), ∀ (k2_h12 : k2_cond12 v59 = 1#1), ∀ a, (k2_off79 v133 k2_t19) a + S1x16.size a ≤ S64x1280.size a)
theorem k2_off79_inb : ∀ (i : grid2.Coords) (v6 : BitVec 32) (k2_t1 : Fin k2_t1_loop.trips) (v59 : BitVec 32) (v133 : BitVec 32) (k2_hw13 : k2_chk13 i v6 k2_t1 v59 v133) (k2_t19 : Fin k2_t19_loop.trips), ∀ (k2_h1 : k2_cond1 i v6 k2_t1 = 1#1), ∀ (k2_h12 : k2_cond12 v59 = 1#1), ∀ a, (k2_off79 v133 k2_t19) a + S1x16.size a ≤ S64x1280.size a := fun i v6 k2_t1 v59 v133 k2_hw13 k2_t19 k2_h1 k2_h12 => k2_hw13 k2_t19 k2_h1 k2_h12

def k2_off80 (i : grid2.Coords) (k2_t1 : Fin k2_t1_loop.trips) : Fin 2 → Nat :=
  let c0_i32_8 : BitVec 32 := 0#32
  let c0_i32_4 : BitVec 32 := 0#32
  let c1_i32_5 : BitVec 32 := 1#32
  let arg21 : BitVec 32 := Scf.iv c0_i32_4 c1_i32_5 k2_t1
  let c1_i32_7 : BitVec 32 := 1#32
  let v25 : BitVec 32 := Scalar.muli arg21 c1_i32_7
  let v26 : BitVec 32 := Scalar.addi c0_i32_8 v25
  let c2048_i32 : BitVec 32 := 2048#32
  let v27 : BitVec 32 := Scalar.muli v26 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v28 : BitVec 32 := Scalar.muli v1 c64_i32
  let v29 : BitVec 32 := Scalar.addi v27 v28
  let c0_i32_32_r2 : BitVec 32 := 0#32
  ![v29.toNat, 0]
def k2_off81 (i : grid2.Coords) (k2_t1 : Fin k2_t1_loop.trips) : Fin 2 → Nat :=
  let c35840_i32 : BitVec 32 := 35840#32
  let c0_i32_8 : BitVec 32 := 0#32
  let c0_i32_4 : BitVec 32 := 0#32
  let c1_i32_5 : BitVec 32 := 1#32
  let arg21 : BitVec 32 := Scf.iv c0_i32_4 c1_i32_5 k2_t1
  let c1_i32_7 : BitVec 32 := 1#32
  let v25 : BitVec 32 := Scalar.muli arg21 c1_i32_7
  let v26 : BitVec 32 := Scalar.addi c0_i32_8 v25
  let c2048_i32 : BitVec 32 := 2048#32
  let v27 : BitVec 32 := Scalar.muli v26 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v28 : BitVec 32 := Scalar.muli v1 c64_i32
  let v29 : BitVec 32 := Scalar.addi v27 v28
  let v40 : BitVec 32 := Scalar.addi c35840_i32 v29
  let c0_i32_16_r3 : BitVec 32 := 0#32
  ![v40.toNat, 0]
def k2_cond13 (i : grid2.Coords) (v6 : BitVec 32) (k2_t1 : Fin k2_t1_loop.trips) : BitVec 1 :=
  let c0_i32_8 : BitVec 32 := 0#32
  let c0_i32_4 : BitVec 32 := 0#32
  let c1_i32_5 : BitVec 32 := 1#32
  let arg21 : BitVec 32 := Scf.iv c0_i32_4 c1_i32_5 k2_t1
  let c1_i32_7 : BitVec 32 := 1#32
  let v25 : BitVec 32 := Scalar.muli arg21 c1_i32_7
  let v26 : BitVec 32 := Scalar.addi c0_i32_8 v25
  let c2048_i32 : BitVec 32 := 2048#32
  let v27 : BitVec 32 := Scalar.muli v26 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v28 : BitVec 32 := Scalar.muli v1 c64_i32
  let v29 : BitVec 32 := Scalar.addi v27 v28
  let c5120_i32_11 : BitVec 32 := 5120#32
  let v35 : BitVec 1 := Scalar.cmpi .slt v29 c5120_i32_11
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c1024_i32 : BitVec 32 := 1024#32
  let c0_i32_1 : BitVec 32 := 0#32
  let v13 : BitVec 1 := Scalar.cmpi .sgt c1024_i32 c0_i32_1
  let v14 : BitVec 32 := Scalar.extui v13
  let c0_i32_2 : BitVec 32 := 0#32
  let v15 : BitVec 1 := Scalar.cmpi .slt c1024_i32 c0_i32_2
  let v16 : BitVec 32 := Scalar.extui v15
  let v17 : BitVec 32 := Scalar.subi v14 v16
  let v18 : BitVec 1 := Scalar.cmpi .ne v12 v17
  let v19 : BitVec 32 := Scalar.remsi v6 c1024_i32
  let c0_i32_3 : BitVec 32 := 0#32
  let v20 : BitVec 1 := Scalar.cmpi .ne v19 c0_i32_3
  let v21 : BitVec 1 := Scalar.andi v18 v20
  let v7 : BitVec 32 := Scalar.divsi v6 c1024_i32
  let c1_i32 : BitVec 32 := 1#32
  let v22 : BitVec 32 := Scalar.subi v7 c1_i32
  let v23 : BitVec 32 := Scalar.select v21 v22 v7
  let c0_i32_12 : BitVec 32 := 0#32
  let v36 : BitVec 1 := Scalar.cmpi .eq v23 c0_i32_12
  let v37 : BitVec 1 := Scalar.andi v35 v36
  let v38 : BitVec 32 := Scalar.extui v37
  let c0_i32_13 : BitVec 32 := 0#32
  let v39 : BitVec 1 := Scalar.cmpi .ne v38 c0_i32_13
  v39

def k2_off82 (i : grid2.Coords) (k2_t1 : Fin k2_t1_loop.trips) : Fin 2 → Nat :=
  let c0_i32_8 : BitVec 32 := 0#32
  let c0_i32_4 : BitVec 32 := 0#32
  let c1_i32_5 : BitVec 32 := 1#32
  let arg21 : BitVec 32 := Scf.iv c0_i32_4 c1_i32_5 k2_t1
  let c1_i32_7 : BitVec 32 := 1#32
  let v25 : BitVec 32 := Scalar.muli arg21 c1_i32_7
  let v26 : BitVec 32 := Scalar.addi c0_i32_8 v25
  let c2048_i32 : BitVec 32 := 2048#32
  let v27 : BitVec 32 := Scalar.muli v26 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v28 : BitVec 32 := Scalar.muli v1 c64_i32
  let v29 : BitVec 32 := Scalar.addi v27 v28
  let c0_i32_16_r4 : BitVec 32 := 0#32
  ![v29.toNat, 0]

def k2_chk1 (i : grid2.Coords) (v6 : BitVec 32) : Prop :=
  (∀ k2_t1 : Fin k2_t1_loop.trips, ∀ (k2_h1 : k2_cond1 i v6 k2_t1 = 1#1), ∀ a, (k2_off2 i k2_t1) a + S64x1280.size a ≤ S40960x1280.size a) ∧
  (∀ k2_t1 : Fin k2_t1_loop.trips, ∀ (k2_h1 : k2_cond1 i v6 k2_t1 = 1#1), (k2_t2_loop v6).OK) ∧
  (∀ (k2_t1 : Fin k2_t1_loop.trips) (k2_t2 : Fin (k2_t2_loop v6).trips), ∀ (k2_h1 : k2_cond1 i v6 k2_t1 = 1#1), ∀ a, (k2_off4 v6 k2_t2) a + S1024.size a ≤ S2048.size a) ∧
  (∀ (k2_t1 : Fin k2_t1_loop.trips) (k2_t2 : Fin (k2_t2_loop v6).trips), ∀ (k2_h1 : k2_cond1 i v6 k2_t1 = 1#1), ∀ (k2_h2 : k2_cond2 v6 k2_t2 = 1#1), ∀ a, (k2_off5 v6 k2_t2) a + S1024.size a ≤ S2048.size a) ∧
  (∀ (k2_t1 : Fin k2_t1_loop.trips) (k2_t2 : Fin (k2_t2_loop v6).trips), ∀ (k2_h1 : k2_cond1 i v6 k2_t1 = 1#1), ∀ (k2_h2 : k2_cond2 v6 k2_t2 = 1#1), ∀ a, (k2_off6 i v6 k2_t2) a + S1x1024.size a ≤ S32x52224.size a) ∧
  (∀ (k2_t1 : Fin k2_t1_loop.trips) (k2_t2 : Fin (k2_t2_loop v6).trips) (k2_t3 : Fin k2_t3_loop.trips), ∀ (k2_h1 : k2_cond1 i v6 k2_t1 = 1#1), ∀ a, (k2_off7 v6 k2_t2 k2_t3) a + S16.size a ≤ S2048.size a) ∧
  (∀ k2_t1 : Fin k2_t1_loop.trips, ∀ (k2_h1 : k2_cond1 i v6 k2_t1 = 1#1), (k2_t10_loop v6).OK) ∧
  (∀ (k2_t1 : Fin k2_t1_loop.trips) (k2_t10 : Fin (k2_t10_loop v6).trips), ∀ (k2_h1 : k2_cond1 i v6 k2_t1 = 1#1), ∀ a, (k2_off40 v6 k2_t10) a + S1024.size a ≤ S2048.size a) ∧
  (∀ (k2_t1 : Fin k2_t1_loop.trips) (k2_t10 : Fin (k2_t10_loop v6).trips), ∀ (k2_h1 : k2_cond1 i v6 k2_t1 = 1#1), ∀ (k2_h7 : k2_cond7 v6 k2_t10 = 1#1), ∀ a, (k2_off41 v6 k2_t10) a + S1024.size a ≤ S2048.size a) ∧
  (∀ (k2_t1 : Fin k2_t1_loop.trips) (k2_t10 : Fin (k2_t10_loop v6).trips), ∀ (k2_h1 : k2_cond1 i v6 k2_t1 = 1#1), ∀ (k2_h7 : k2_cond7 v6 k2_t10 = 1#1), ∀ a, (k2_off42 i v6 k2_t10) a + S1x1024.size a ≤ S32x52224.size a) ∧
  (∀ (k2_t1 : Fin k2_t1_loop.trips) (k2_t10 : Fin (k2_t10_loop v6).trips) (k2_t11 : Fin k2_t11_loop.trips), ∀ (k2_h1 : k2_cond1 i v6 k2_t1 = 1#1), ∀ a, (k2_off43 v6 k2_t10 k2_t11) a + S16.size a ≤ S2048.size a) ∧
  (∀ k2_t1 : Fin k2_t1_loop.trips, ∀ (k2_h1 : k2_cond1 i v6 k2_t1 = 1#1), ∀ a, (k2_off80 i k2_t1) a + S64x1280.size a ≤ S5120x1280.size a) ∧
  (∀ k2_t1 : Fin k2_t1_loop.trips, ∀ (k2_h13 : k2_cond13 i v6 k2_t1 = 1#1), ∀ a, (k2_off81 i k2_t1) a + S64x1280.size a ≤ S40960x1280.size a) ∧
  (∀ k2_t1 : Fin k2_t1_loop.trips, ∀ (k2_h13 : k2_cond13 i v6 k2_t1 = 1#1), ∀ a, (k2_off82 i k2_t1) a + S64x1280.size a ≤ S5120x1280.size a)
theorem k2_off2_inb : ∀ (i : grid2.Coords) (v6 : BitVec 32) (k2_hw1 : k2_chk1 i v6) (k2_t1 : Fin k2_t1_loop.trips), ∀ (k2_h1 : k2_cond1 i v6 k2_t1 = 1#1), ∀ a, (k2_off2 i k2_t1) a + S64x1280.size a ≤ S40960x1280.size a := fun i v6 k2_hw1 k2_t1 k2_h1 => k2_hw1.1 k2_t1 k2_h1
theorem k2_t2_ok : ∀ (i : grid2.Coords) (v6 : BitVec 32) (k2_hw1 : k2_chk1 i v6) (k2_t1 : Fin k2_t1_loop.trips), ∀ (k2_h1 : k2_cond1 i v6 k2_t1 = 1#1), (k2_t2_loop v6).OK := fun i v6 k2_hw1 k2_t1 k2_h1 => k2_hw1.2.1 k2_t1 k2_h1
theorem k2_off4_inb : ∀ (i : grid2.Coords) (v6 : BitVec 32) (k2_hw1 : k2_chk1 i v6) (k2_t1 : Fin k2_t1_loop.trips) (k2_t2 : Fin (k2_t2_loop v6).trips), ∀ (k2_h1 : k2_cond1 i v6 k2_t1 = 1#1), ∀ a, (k2_off4 v6 k2_t2) a + S1024.size a ≤ S2048.size a := fun i v6 k2_hw1 k2_t1 k2_t2 k2_h1 => k2_hw1.2.2.1 k2_t1 k2_t2 k2_h1
theorem k2_off5_inb : ∀ (i : grid2.Coords) (v6 : BitVec 32) (k2_hw1 : k2_chk1 i v6) (k2_t1 : Fin k2_t1_loop.trips) (k2_t2 : Fin (k2_t2_loop v6).trips), ∀ (k2_h1 : k2_cond1 i v6 k2_t1 = 1#1), ∀ (k2_h2 : k2_cond2 v6 k2_t2 = 1#1), ∀ a, (k2_off5 v6 k2_t2) a + S1024.size a ≤ S2048.size a := fun i v6 k2_hw1 k2_t1 k2_t2 k2_h1 k2_h2 => k2_hw1.2.2.2.1 k2_t1 k2_t2 k2_h1 k2_h2
theorem k2_off6_inb : ∀ (i : grid2.Coords) (v6 : BitVec 32) (k2_hw1 : k2_chk1 i v6) (k2_t1 : Fin k2_t1_loop.trips) (k2_t2 : Fin (k2_t2_loop v6).trips), ∀ (k2_h1 : k2_cond1 i v6 k2_t1 = 1#1), ∀ (k2_h2 : k2_cond2 v6 k2_t2 = 1#1), ∀ a, (k2_off6 i v6 k2_t2) a + S1x1024.size a ≤ S32x52224.size a := fun i v6 k2_hw1 k2_t1 k2_t2 k2_h1 k2_h2 => k2_hw1.2.2.2.2.1 k2_t1 k2_t2 k2_h1 k2_h2
theorem k2_off7_inb : ∀ (i : grid2.Coords) (v6 : BitVec 32) (k2_hw1 : k2_chk1 i v6) (k2_t1 : Fin k2_t1_loop.trips) (k2_t2 : Fin (k2_t2_loop v6).trips) (k2_t3 : Fin k2_t3_loop.trips), ∀ (k2_h1 : k2_cond1 i v6 k2_t1 = 1#1), ∀ a, (k2_off7 v6 k2_t2 k2_t3) a + S16.size a ≤ S2048.size a := fun i v6 k2_hw1 k2_t1 k2_t2 k2_t3 k2_h1 => k2_hw1.2.2.2.2.2.1 k2_t1 k2_t2 k2_t3 k2_h1
theorem k2_t10_ok : ∀ (i : grid2.Coords) (v6 : BitVec 32) (k2_hw1 : k2_chk1 i v6) (k2_t1 : Fin k2_t1_loop.trips), ∀ (k2_h1 : k2_cond1 i v6 k2_t1 = 1#1), (k2_t10_loop v6).OK := fun i v6 k2_hw1 k2_t1 k2_h1 => k2_hw1.2.2.2.2.2.2.1 k2_t1 k2_h1
theorem k2_off40_inb : ∀ (i : grid2.Coords) (v6 : BitVec 32) (k2_hw1 : k2_chk1 i v6) (k2_t1 : Fin k2_t1_loop.trips) (k2_t10 : Fin (k2_t10_loop v6).trips), ∀ (k2_h1 : k2_cond1 i v6 k2_t1 = 1#1), ∀ a, (k2_off40 v6 k2_t10) a + S1024.size a ≤ S2048.size a := fun i v6 k2_hw1 k2_t1 k2_t10 k2_h1 => k2_hw1.2.2.2.2.2.2.2.1 k2_t1 k2_t10 k2_h1
theorem k2_off41_inb : ∀ (i : grid2.Coords) (v6 : BitVec 32) (k2_hw1 : k2_chk1 i v6) (k2_t1 : Fin k2_t1_loop.trips) (k2_t10 : Fin (k2_t10_loop v6).trips), ∀ (k2_h1 : k2_cond1 i v6 k2_t1 = 1#1), ∀ (k2_h7 : k2_cond7 v6 k2_t10 = 1#1), ∀ a, (k2_off41 v6 k2_t10) a + S1024.size a ≤ S2048.size a := fun i v6 k2_hw1 k2_t1 k2_t10 k2_h1 k2_h7 => k2_hw1.2.2.2.2.2.2.2.2.1 k2_t1 k2_t10 k2_h1 k2_h7
theorem k2_off42_inb : ∀ (i : grid2.Coords) (v6 : BitVec 32) (k2_hw1 : k2_chk1 i v6) (k2_t1 : Fin k2_t1_loop.trips) (k2_t10 : Fin (k2_t10_loop v6).trips), ∀ (k2_h1 : k2_cond1 i v6 k2_t1 = 1#1), ∀ (k2_h7 : k2_cond7 v6 k2_t10 = 1#1), ∀ a, (k2_off42 i v6 k2_t10) a + S1x1024.size a ≤ S32x52224.size a := fun i v6 k2_hw1 k2_t1 k2_t10 k2_h1 k2_h7 => k2_hw1.2.2.2.2.2.2.2.2.2.1 k2_t1 k2_t10 k2_h1 k2_h7
theorem k2_off43_inb : ∀ (i : grid2.Coords) (v6 : BitVec 32) (k2_hw1 : k2_chk1 i v6) (k2_t1 : Fin k2_t1_loop.trips) (k2_t10 : Fin (k2_t10_loop v6).trips) (k2_t11 : Fin k2_t11_loop.trips), ∀ (k2_h1 : k2_cond1 i v6 k2_t1 = 1#1), ∀ a, (k2_off43 v6 k2_t10 k2_t11) a + S16.size a ≤ S2048.size a := fun i v6 k2_hw1 k2_t1 k2_t10 k2_t11 k2_h1 => k2_hw1.2.2.2.2.2.2.2.2.2.2.1 k2_t1 k2_t10 k2_t11 k2_h1
theorem k2_off80_inb : ∀ (i : grid2.Coords) (v6 : BitVec 32) (k2_hw1 : k2_chk1 i v6) (k2_t1 : Fin k2_t1_loop.trips), ∀ (k2_h1 : k2_cond1 i v6 k2_t1 = 1#1), ∀ a, (k2_off80 i k2_t1) a + S64x1280.size a ≤ S5120x1280.size a := fun i v6 k2_hw1 k2_t1 k2_h1 => k2_hw1.2.2.2.2.2.2.2.2.2.2.2.1 k2_t1 k2_h1
theorem k2_off81_inb : ∀ (i : grid2.Coords) (v6 : BitVec 32) (k2_hw1 : k2_chk1 i v6) (k2_t1 : Fin k2_t1_loop.trips), ∀ (k2_h13 : k2_cond13 i v6 k2_t1 = 1#1), ∀ a, (k2_off81 i k2_t1) a + S64x1280.size a ≤ S40960x1280.size a := fun i v6 k2_hw1 k2_t1 k2_h13 => k2_hw1.2.2.2.2.2.2.2.2.2.2.2.2.1 k2_t1 k2_h13
theorem k2_off82_inb : ∀ (i : grid2.Coords) (v6 : BitVec 32) (k2_hw1 : k2_chk1 i v6) (k2_t1 : Fin k2_t1_loop.trips), ∀ (k2_h13 : k2_cond13 i v6 k2_t1 = 1#1), ∀ a, (k2_off82 i k2_t1) a + S64x1280.size a ≤ S5120x1280.size a := fun i v6 k2_hw1 k2_t1 k2_h13 => k2_hw1.2.2.2.2.2.2.2.2.2.2.2.2.2 k2_t1 k2_h13

abbrev grid3 : Pipeline.Grid := ⟨1, ![5], ![false]⟩

def k3_cond1 (i : grid3.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_7 : BitVec 32 := 0#32
  let v22 : BitVec 1 := Scalar.cmpi .ne v21 c0_i32_7
  v22

def k3_cond2 (i : grid3.Coords) : BitVec 1 :=
  let arg0 : BitVec 32 := BitVec.ofNat 32 (i 0).val
  let c0_i32_8 : BitVec 32 := 0#32
  let v23 : BitVec 1 := Scalar.cmpi .sgt arg0 c0_i32_8
  let v24 : BitVec 32 := Scalar.extui v23
  let c0_i32_9 : BitVec 32 := 0#32
  let v25 : BitVec 1 := Scalar.cmpi .ne v24 c0_i32_9
  v25

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1280 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1280 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S5000x1280 : Shape := ⟨2, ![5000, 1280]⟩
abbrev S50000 : Shape := ⟨1, ![50000]⟩
abbrev S8960x1280 : Shape := ⟨2, ![8960, 1280]⟩
abbrev S1280 : Shape := ⟨1, ![1280]⟩
abbrev S1280x1280 : Shape := ⟨2, ![1280, 1280]⟩
abbrev S_ : Shape := ⟨0, ![]⟩
abbrev S50000x1 : Shape := ⟨2, ![50000, 1]⟩
abbrev S50000x1280 : Shape := ⟨2, ![50000, 1280]⟩
abbrev S35000x1280 : Shape := ⟨2, ![35000, 1280]⟩
abbrev S5000x8960 : Shape := ⟨2, ![5000, 8960]⟩
abbrev S1x1280 : Shape := ⟨2, ![1, 1280]⟩

abbrev nBuf : Space → Nat
  | .hbm => 45
  | .vmem => 0
  | .smem => 0
  | _ => 0

abbrev bufTy : (tb : Table) → Fin (tcTables nBuf tb) → BufTy
  | .hbm, ⟨0, _⟩ => ⟨S5000x1280, .f32⟩
  | .hbm, ⟨1, _⟩ => ⟨S50000, .i32⟩
  | .hbm, ⟨2, _⟩ => ⟨S50000, .i32⟩
  | .hbm, ⟨3, _⟩ => ⟨S50000, .i32⟩
  | .hbm, ⟨4, _⟩ => ⟨S50000, .f32⟩
  | .hbm, ⟨5, _⟩ => ⟨S8960x1280, .f32⟩
  | .hbm, ⟨6, _⟩ => ⟨S1280, .f32⟩
  | .hbm, ⟨7, _⟩ => ⟨S1280x1280, .f32⟩
  | .hbm, ⟨8, _⟩ => ⟨S1280, .f32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S50000x1280, .f32⟩
  | .hbm, ⟨18, _⟩ => ⟨S50000x1, .f32⟩
  | .hbm, ⟨19, _⟩ => ⟨S50000x1280, .f32⟩
  | .hbm, ⟨20, _⟩ => ⟨S50000x1280, .f32⟩
  | .hbm, ⟨21, _⟩ => ⟨S_, .i32⟩
  | .hbm, ⟨22, _⟩ => ⟨S50000, .i32⟩
  | .hbm, ⟨23, _⟩ => ⟨S50000, .i32⟩
  | .hbm, ⟨24, _⟩ => ⟨S50000, .i32⟩
  | .hbm, ⟨25, _⟩ => ⟨S_, .f32⟩
  | .hbm, ⟨26, _⟩ => ⟨S35000x1280, .f32⟩
  | .hbm, ⟨27, _⟩ => ⟨S50000x1, .i32⟩
  | .hbm, ⟨28, _⟩ => ⟨S35000x1280, .f32⟩
  | .hbm, ⟨29, _⟩ => ⟨S5000x8960, .f32⟩
  | .hbm, ⟨30, _⟩ => ⟨S5000x1280, .f32⟩
  | .hbm, ⟨31, _⟩ => ⟨S1x1280, .f32⟩
  | .hbm, ⟨32, _⟩ => ⟨S5000x1280, .f32⟩
  | .hbm, ⟨33, _⟩ => ⟨S5000x1280, .f32⟩
  | .hbm, ⟨34, _⟩ => ⟨S5000x1280, .f32⟩
  | .hbm, ⟨35, _⟩ => ⟨S5000x1280, .f32⟩
  | .hbm, ⟨36, _⟩ => ⟨S1x1280, .f32⟩
  | .hbm, ⟨37, _⟩ => ⟨S5000x1280, .f32⟩
  | .hbm, ⟨38, _⟩ => ⟨S5000x1280, .f32⟩
  | .hbm, ⟨39, _⟩ => ⟨S_, .f32⟩
  | .hbm, ⟨40, _⟩ => ⟨S5000x1280, .f32⟩
  | .hbm, ⟨41, _⟩ => ⟨S5000x1280, .f32⟩
  | .hbm, ⟨42, _⟩ => ⟨S5000x1280, .f32⟩
  | .hbm, ⟨43, _⟩ => ⟨S_, .f32⟩
  | .hbm, ⟨44, _⟩ => ⟨S1280, .f32⟩
  | _, _ => ⟨S5000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Compact.lean ====
/-
  The compaction step both SparseCore kernels are built on, as a fact about lists.

  A tile reads sixteen words, marks some of the lanes, takes the running sum of the marks (`plsc.cumsum`) and scatters the
  marked lanes' words behind the `c` words its buffer already holds, the unmarked ones into a part of the buffer nothing
  reads. Stated of lists: a buffer holding the list `l` then holds `l` followed by the marked words in lane order.
-/
module

public import proofs.«01_k».proof.Defs
public import proofs.«01_k».proof.Proof.Gen.KernelIdeal

@[expose] public section

noncomputable section

namespace Cert.Proof.Compact

open Cert.KernelIdeal Cert.KernelIdeal.Gen
open Idealize.ShloMosaic

variable {F : FTy → Type}

/-- Word `i` of a rank-one buffer of `n` words; zero past its end. -/
def at1 {n : ℕ} {α : Type} [Inhabited α] (f : Shape.Idx ⟨1, ![n]⟩ → α) (i : ℕ) : α :=
  if h : i < n then f (fun a => ⟨i, by rw [Fin.eq_zero a]; exact h⟩) else default

/-- The buffer holds the list `l` from its first word on. -/
def Holds {n : ℕ} {α : Type} [Inhabited α] (f : Shape.Idx ⟨1, ![n]⟩ → α) (l : List α) : Prop :=
  ∀ i (h : i < l.length), at1 f i = l[i]

theorem at1_eq {n : ℕ} {α : Type} [Inhabited α] (f : Shape.Idx ⟨1, ![n]⟩ → α) (j : Shape.Idx ⟨1, ![n]⟩) : f j = at1 f (j 0).val := by
  have h : (j 0).val < n := (j 0).isLt
  rw [at1, dif_pos h]
  congr 1
  funext a
  rw [Fin.eq_zero a]

/-- Lane `k` of a vector of sixteen. -/
abbrev lane (k : Fin 16) : S16.Idx := Shape.ofLane (d := ![16]) k

/-- The lanes below `n` whose mark is set. -/
def marked (m : IVec S16 1) (n : ℕ) : List (Fin 16) := ((List.finRange 16).take n).filter fun k => decide (m (lane k) = 1#1)

/-- The words of the marked lanes, in lane order. -/
def sel {α : Type} (m : IVec S16 1) (v : S16.Idx → α) : List α := (marked m 16).map fun k => v (lane k)

theorem marked_length_le (m : IVec S16 1) (n : ℕ) (hn : n ≤ 16) : (marked m n).length ≤ n := by
  refine (List.length_filter_le _ _).trans ?_
  simp [hn]

theorem sel_length {α : Type} (m : IVec S16 1) (v : S16.Idx → α) : (sel m v).length = (marked m 16).length := by simp [sel]

theorem sel_length_le {α : Type} (m : IVec S16 1) (v : S16.Idx → α) : (sel m v).length ≤ 16 := by
  rw [sel_length]; exact marked_length_le m 16 (le_refl _)

theorem marked_succ (m : IVec S16 1) (n : ℕ) (hn : n < 16) :
    marked m (n + 1) = marked m n ++ if m (lane ⟨n, hn⟩) = 1#1 then [⟨n, hn⟩] else [] := by
  unfold marked
  rw [List.take_add_one, List.filter_append]
  congr 1
  have : (List.finRange 16)[n]? = some ⟨n, hn⟩ := by simp [hn]
  rw [this]
  by_cases h : m (lane ⟨n, hn⟩) = 1#1 <;> simp [h]

/-- The lanes above the first and up to `n + 1` are those up to `n` and the next. -/
theorem upto_succ : ∀ n : Fin 15, ((List.finRange 16).filter fun k : Fin 16 => decide (0 < k.val ∧ k.val ≤ n.val + 1))
    = ((List.finRange 16).filter fun k : Fin 16 => decide (0 < k.val ∧ k.val ≤ n.val)) ++ [⟨n.val + 1, by omega⟩] := by decide

/-- The running count of the marks, at lane `k`: how many lanes up to and with `k` are marked. -/
theorem scan_eq (m : IVec S16 1) (k : Fin 16) :
    scan .sum (extui 32 m (by decide)) (lane k) = BitVec.ofNat 32 (marked m (k.val + 1)).length := by
  have hb : ∀ x : BitVec 1, BitVec.setWidth 32 x = BitVec.ofNat 32 (if x = 1#1 then 1 else 0) := by decide
  have key : ∀ n (hn : n < 16), ((List.finRange 16).filter fun k => decide (0 < k.val ∧ k.val ≤ n)).foldl
      (fun r k => r + BitVec.setWidth 32 (m (lane k))) (BitVec.setWidth 32 (m (lane 0))) = BitVec.ofNat 32 (marked m (n + 1)).length := by
    intro n
    induction n with
    | zero =>
      intro _
      have : ((List.finRange 16).filter fun k : Fin 16 => decide (0 < k.val ∧ k.val ≤ 0)) = [] := by decide
      rw [this, marked_succ m 0 (by omega), List.foldl_nil, hb]
      by_cases h : m (lane 0) = 1#1
      · simp [marked, h]
      · simp [marked, h]
    | succ n ih =>
      intro hn
      have hstep : ((List.finRange 16).filter fun k : Fin 16 => decide (0 < k.val ∧ k.val ≤ n + 1))
          = ((List.finRange 16).filter fun k : Fin 16 => decide (0 < k.val ∧ k.val ≤ n)) ++ [⟨n + 1, hn⟩] := by
        exact upto_succ ⟨n, by omega⟩
      rw [hstep, List.foldl_append, ih (by omega), marked_succ m (n + 1) hn, List.foldl_cons, List.foldl_nil, hb]
      by_cases h : m (lane ⟨n + 1, hn⟩) = 1#1
      · simp [h, BitVec.ofNat_add]
      · simp [h]
  exact key k.val k.isLt

/-- Where the lanes go: a marked one behind the `c` words already there and the marked lanes below it, an unmarked one to `t` and its own number. -/
def slots (c t : BitVec 32) (m : IVec S16 1) : IVec S16 32 :=
  select m (subi (addi (broadcast S16 c) (scan .sum (extui 32 m (by decide)))) (extui 32 m (by decide)))
    (addi (broadcast S16 t) (iota .scVector S16 32 [0] iota_S16_d0_w32_scVector))

theorem lane_iota (k : Fin 16) : (iota .scVector S16 32 [0] iota_S16_d0_w32_scVector) (lane k) = BitVec.ofNat 32 k.val := by
  fin_cases k <;> rfl

/-- The slot of lane `k`, as a number. -/
theorem slots_toNat (c t : ℕ) (m : IVec S16 1) (k : Fin 16) (hc : c + 16 ≤ t) (ht : t + 16 ≤ 4096) :
    (slots (BitVec.ofNat 32 c) (BitVec.ofNat 32 t) m (lane k)).toNat = if m (lane k) = 1#1 then c + (marked m k.val).length else t + k.val := by
  have hk := k.isLt
  have e : slots (BitVec.ofNat 32 c) (BitVec.ofNat 32 t) m (lane k)
      = if m (lane k) = 1#1 then BitVec.ofNat 32 c + scan .sum (extui 32 m (by decide)) (lane k) - BitVec.setWidth 32 (m (lane k))
        else BitVec.ofNat 32 t + (iota .scVector S16 32 [0] iota_S16_d0_w32_scVector) (lane k) := by
    simp only [slots, select, subi, addi, broadcast, extui]
    rfl
  rw [e, scan_eq, lane_iota, marked_succ m k.val k.isLt]
  have hm := marked_length_le m k.val (by omega)
  by_cases h : m (lane k) = 1#1
  · have h1 : BitVec.setWidth 32 (m (lane k)) = 1#32 := by rw [h]; rfl
    rw [if_pos h, if_pos h, h1]
    rw [if_pos (show m (lane ⟨k.val, k.isLt⟩) = 1#1 from h)]
    simp only [List.length_append, List.length_cons, List.length_nil, Nat.zero_add]
    rw [← BitVec.ofNat_add, BitVec.toNat_sub, BitVec.toNat_ofNat]
    simp only [BitVec.toNat_ofNat]
    omega
  · rw [if_neg h, if_neg h, ← BitVec.ofNat_add, BitVec.toNat_ofNat]
    omega

theorem slots_lt (c t n : ℕ) (m : IVec S16 1) (hc : c + 16 ≤ t) (ht : t + 16 ≤ n) (hn : n ≤ 4096) (x : S16.Idx) :
    (slots (BitVec.ofNat 32 c) (BitVec.ofNat 32 t) m x).toNat < n := by
  have hx : x = lane (x 0) := by funext a; rw [Fin.eq_zero a]; rfl
  rw [hx, slots_toNat c t m (x 0) hc (by omega)]
  have := marked_length_le m (x 0).val (by have := (x 0).isLt; have e : S16.size 0 = 16 := rfl; omega)
  have := (x 0).isLt
  have e : S16.size 0 = 16 := rfl
  split <;> omega

/-- THE COMPACTION: scattered at those slots, the marked lanes' words follow the list the buffer held. -/
theorem storeIdx_holds [FloatOps F] {n : ℕ} (f : Vec F ⟨1, ![n]⟩ .i32) (v : Vec F S16 .i32) (m : IVec S16 1) (c t : ℕ) (l : List (BitVec 32))
    (hl : l.length = c) (hc : c + 16 ≤ t) (ht : t + 16 ≤ n) (hn : n ≤ 4096) (hf : Holds (α := BitVec 32) f l)
    (h : ∀ a x, ((![slots (BitVec.ofNat 32 c) (BitVec.ofNat 32 t) m] : Fin 1 → IVec S16 32) a x).toNat < Shape.size ⟨1, ![n]⟩ a) :
    Holds (α := BitVec 32) (storeIdx (F := F) (e := .i32) f ![slots (BitVec.ofNat 32 c) (BitVec.ofNat 32 t) m] v (fun _ => 1#1) false h) (l ++ sel m v) := by
  have key : ∀ p (hp : p ≤ 16), Holds (α := BitVec 32) (((List.finRange 16).take p).foldl (fun g k =>
      fun j => if (∀ a : Fin 1, (j a).val = (idxAt (s := (⟨1, ![n]⟩ : Shape)) ![slots (BitVec.ofNat 32 c) (BitVec.ofNat 32 t) m] h (lane k) a).val) then v (lane k) else g j) f)
      (l ++ (marked m p).map fun k => v (lane k)) := by
    intro p
    induction p with
    | zero => intro _; simpa [marked] using hf
    | succ p ih =>
      intro hp
      have hp' : p < 16 := by omega
      have e : (List.finRange 16).take (p + 1) = (List.finRange 16).take p ++ [⟨p, hp'⟩] := by
        rw [List.take_add_one]; simp [hp']
      rw [e, List.foldl_append, List.foldl_cons, List.foldl_nil, marked_succ m p hp']
      have hs := slots_toNat c t m ⟨p, hp'⟩ hc (by omega)
      have hml := marked_length_le m p (by omega)
      intro i hi
      have hlen : (l ++ (marked m p).map fun k => v (lane k)).length = c + (marked m p).length := by simp [hl]
      have hin : i < n := by
        simp only [List.map_append, List.length_append, List.length_map] at hi
        have : (if m (lane ⟨p, hp'⟩) = 1#1 then [(⟨p, hp'⟩ : Fin 16)] else []).length ≤ 1 := by split <;> simp
        omega
      rw [at1, dif_pos hin]
      have hval : (∀ a : Fin 1, i = (idxAt (s := (⟨1, ![n]⟩ : Shape)) ![slots (BitVec.ofNat 32 c) (BitVec.ofNat 32 t) m] h (lane ⟨p, hp'⟩) a).val)
          ↔ i = (slots (BitVec.ofNat 32 c) (BitVec.ofNat 32 t) m (lane ⟨p, hp'⟩)).toNat := by
        constructor
        · intro H; exact H 0
        · intro H a; rw [Fin.eq_zero a]; exact H
      have hold : ∀ hi' : i < (l ++ (marked m p).map fun k => v (lane k)).length, _ := fun hi' => ih (by omega) i hi'
      by_cases hb : m (lane ⟨p, hp'⟩) = 1#1
      · rw [if_pos hb] at hs
        simp only [if_pos hb, List.map_append, List.map_cons, List.map_nil, ← List.append_assoc] at hi ⊢
        by_cases hlt : i < (l ++ (marked m p).map fun k => v (lane k)).length
        · rw [List.getElem_append_left hlt, ← ih (by omega) i hlt, at1, dif_pos hin]
          rw [if_neg]
          rw [hval, hs]
          show ¬ i = c + (marked m p).length
          omega
        · have hieq : i = (l ++ (marked m p).map fun k => v (lane k)).length := by
            rw [List.length_append] at hi; simp only [List.length_cons, List.length_nil] at hi
            omega
          rw [if_pos (hval.mpr (by rw [hs]; show i = c + (marked m p).length; omega))]
          simp [hieq]
      · rw [if_neg hb] at hs
        simp only [if_neg hb, List.append_nil] at hi ⊢
        rw [← ih (by omega) i hi, at1, dif_pos hin, if_neg]
        rw [hval, hs]
        show ¬ i = t + p
        omega
  have h16 := key 16 (le_refl _)
  have e16 : (List.finRange 16).take 16 = List.finRange 16 := by simp
  rw [e16] at h16
  have : storeIdx (F := F) (e := .i32) f ![slots (BitVec.ofNat 32 c) (BitVec.ofNat 32 t) m] v (fun _ => 1#1) false h
      = (List.finRange 16).foldl (fun g k =>
      fun j => if (∀ a : Fin 1, (j a).val = (idxAt (s := (⟨1, ![n]⟩ : Shape)) ![slots (BitVec.ofNat 32 c) (BitVec.ofNat 32 t) m] h (lane k) a).val) then v (lane k) else g j) f := by
    unfold storeIdx
    show List.foldl _ f (List.finRange 16) = _
    congr 1
    funext g k
    refine (if_pos (show (1#1 : BitVec 1) = 1 from rfl)).trans ?_
    simp only [Bool.false_eq_true, if_false]
  rw [this]
  exact h16

end Cert.Proof.Compact
-- ==== Proof.Views.lean ====
/-
  What a load and a store through a unit-stride rectangle of a view read and leave, word by word, for views of rank one and
  two: a word of the rectangle is the view's word at the shifted place, and a write changes those words and no others.
-/
module

public import proofs.«01_k».proof.Proof.Compact
public import Idealize.ShloMosaic.Lib.Writes

@[expose] public section

noncomputable section

namespace Cert.Proof.Views

open Idealize.ShloMosaic
open Cert.Proof.Compact (at1)

/-- Word `(i, j)` of a rank-two buffer; the default outside it. -/
def at2 {a b : ℕ} {α : Type} [Inhabited α] (f : Shape.Idx ⟨2, ![a, b]⟩ → α) (i j : ℕ) : α :=
  if h : i < a ∧ j < b then f (fun x => match x with | ⟨0, _⟩ => ⟨i, h.1⟩ | ⟨1, _⟩ => ⟨j, h.2⟩) else default

theorem at2_eq {a b : ℕ} {α : Type} [Inhabited α] (f : Shape.Idx ⟨2, ![a, b]⟩ → α) (x : Shape.Idx ⟨2, ![a, b]⟩) :
    f x = at2 f (x 0).val (x 1).val := by
  have h0 : (x 0).val < a := (x 0).isLt
  have h1 : (x 1).val < b := (x 1).isLt
  rw [at2, dif_pos ⟨h0, h1⟩]
  congr 1
  funext y
  match y with
  | ⟨0, _⟩ => rfl
  | ⟨1, _⟩ => rfl

theorem at2_of {a b : ℕ} {α : Type} [Inhabited α] (f : Shape.Idx ⟨2, ![a, b]⟩ → α) (x : Shape.Idx ⟨2, ![a, b]⟩) (i j : ℕ)
    (hi : (x 0).val = i) (hj : (x 1).val = j) : f x = at2 f i j := by
  rw [at2_eq f x, hi, hj]

theorem at1_of {n : ℕ} {α : Type} [Inhabited α] (f : Shape.Idx ⟨1, ![n]⟩ → α) (x : Shape.Idx ⟨1, ![n]⟩) (i : ℕ)
    (hi : (x 0).val = i) : f x = at1 f i := by
  rw [Compact.at1_eq f x, hi]

/-- The index `i` of a rank-one shape. -/
def ix1 {n : ℕ} (i : ℕ) (h : i < n) : Shape.Idx ⟨1, ![n]⟩ := fun a => ⟨i, by rw [Fin.eq_zero a]; exact h⟩

theorem at1_lt {n : ℕ} {α : Type} [Inhabited α] (f : Shape.Idx ⟨1, ![n]⟩ → α) (i : ℕ) (h : i < n) : at1 f i = f (ix1 i h) := by
  rw [at1, dif_pos h]; rfl

/-- The index `(i, j)` of a rank-two shape. -/
def ix2 {a b : ℕ} (i j : ℕ) (hi : i < a) (hj : j < b) : Shape.Idx ⟨2, ![a, b]⟩ :=
  fun x => match x with | ⟨0, _⟩ => ⟨i, hi⟩ | ⟨1, _⟩ => ⟨j, hj⟩

theorem at2_lt {a b : ℕ} {α : Type} [Inhabited α] (f : Shape.Idx ⟨2, ![a, b]⟩ → α) (i j : ℕ) (hi : i < a) (hj : j < b) :
    at2 f i j = f (ix2 i j hi hj) := by
  rw [at2, dif_pos ⟨hi, hj⟩]; rfl

variable {sig : RefSig} {κ : Kind} {sp : Space} {e : EltTy} {Val : EltTy → Type} [Inhabited (Val e)]

theorem read1 {n k : ℕ} (v : View sig κ sp ⟨1, ![n]⟩ e) (off : Fin 1 → ℕ) (inb) (f : v.ty.Contents Val) (j : ℕ) (hj : j < k) :
    at1 ((v.slice (Rect.unit (s := ⟨1, ![n]⟩) off ![k] inb)).read Val f) j = at1 (v.read Val f) (off 0 + j) := by
  rw [at1_lt _ _ hj]
  refine (show _ = v.read Val f ((Rect.unit (s := ⟨1, ![n]⟩) off ![k] inb).emb (ix1 j hj)) from rfl).trans ?_
  refine at1_of _ _ _ ?_
  show off 0 + 1 * j = _
  omega

theorem write1 {n k : ℕ} (v : View sig κ sp ⟨1, ![n]⟩ e) (off : Fin 1 → ℕ) (inb) (f : v.ty.Contents Val)
    (w : Shape.Idx ⟨1, ![k]⟩ → Val e) (i : ℕ) (hi : i < n) :
    at1 (v.read Val ((v.slice (Rect.unit (s := ⟨1, ![n]⟩) off ![k] inb)).write Val f w Finset.univ)) i
      = if off 0 ≤ i ∧ i < off 0 + k then at1 w (i - off 0) else at1 (v.read Val f) i := by
  rw [at1_lt _ _ hi]
  split
  · rename_i h
    have e : ix1 i hi = (Rect.unit (s := ⟨1, ![n]⟩) off ![k] inb).emb (ix1 (i - off 0) (by omega)) := by
      funext a; rw [Fin.eq_zero a]; apply Fin.ext
      show i = off 0 + 1 * (i - off 0); omega
    rw [e, View.read_slice_write_emb _ _ _ (Finset.mem_univ _)]
    exact (at1_lt _ _ _).symm
  · rename_i h
    rw [View.read_slice_write_of_not_mem _ _ _ _ (by
      rw [Rect.map_emb_univ, Rect.mem_set_unit]; intro hc; exact h (hc 0)), at1_lt _ _ hi]

/-- A block of rank two, read. -/
theorem read2 {a b k l : ℕ} (v : View sig κ sp ⟨2, ![a, b]⟩ e) (off : Fin 2 → ℕ) (inb) (f : v.ty.Contents Val) (i j : ℕ)
    (hi : i < k) (hj : j < l) :
    at2 ((v.slice (Rect.unit (s := ⟨2, ![a, b]⟩) off ![k, l] inb)).read Val f) i j = at2 (v.read Val f) (off 0 + i) (off 1 + j) := by
  rw [at2_lt _ _ _ hi hj]
  refine (show _ = v.read Val f ((Rect.unit (s := ⟨2, ![a, b]⟩) off ![k, l] inb).emb (ix2 i j hi hj)) from rfl).trans ?_
  refine at2_of _ _ _ _ ?_ ?_
  · show off 0 + 1 * i = _; omega
  · show off 1 + 1 * j = _; omega

theorem mem_unit2 {a b k l : ℕ} {off : Fin 2 → ℕ} {inb} {x : Shape.Idx ⟨2, ![a, b]⟩} :
    x ∈ (Rect.unit (s := ⟨2, ![a, b]⟩) off ![k, l] inb).set ↔
      (off 0 ≤ (x 0).val ∧ (x 0).val < off 0 + k) ∧ (off 1 ≤ (x 1).val ∧ (x 1).val < off 1 + l) := by
  rw [Rect.mem_set_unit]
  constructor
  · intro h; exact ⟨h 0, h 1⟩
  · rintro ⟨h0, h1⟩ y
    match y with
    | ⟨0, _⟩ => exact h0
    | ⟨1, _⟩ => exact h1

/-- A block of rank two, written. -/
theorem write2 {a b k l : ℕ} (v : View sig κ sp ⟨2, ![a, b]⟩ e) (off : Fin 2 → ℕ) (inb) (f : v.ty.Contents Val)
    (w : Shape.Idx ⟨2, ![k, l]⟩ → Val e) (i j : ℕ) (hi : i < a) (hj : j < b) :
    at2 (v.read Val ((v.slice (Rect.unit (s := ⟨2, ![a, b]⟩) off ![k, l] inb)).write Val f w Finset.univ)) i j
      = if (off 0 ≤ i ∧ i < off 0 + k) ∧ (off 1 ≤ j ∧ j < off 1 + l) then at2 w (i - off 0) (j - off 1) else at2 (v.read Val f) i j := by
  rw [at2_lt _ _ _ hi hj]
  split
  · rename_i h
    have e : ix2 i j hi hj = (Rect.unit (s := ⟨2, ![a, b]⟩) off ![k, l] inb).emb (ix2 (i - off 0) (j - off 1) (by omega) (by omega)) := by
      funext y
      match y with
      | ⟨0, _⟩ => apply Fin.ext; show i = off 0 + 1 * (i - off 0); omega
      | ⟨1, _⟩ => apply Fin.ext; show j = off 1 + 1 * (j - off 1); omega
    rw [e, View.read_slice_write_emb _ _ _ (Finset.mem_univ _)]
    exact (at2_lt _ _ _ _ _).symm
  · rename_i h
    rw [View.read_slice_write_of_not_mem _ _ _ _ (by
      rw [Rect.map_emb_univ, mem_unit2]; exact h), at2_lt _ _ _ hi hj]

theorem reshapeEquiv_row {k : ℕ} (h : (⟨1, ![k]⟩ : Shape).numel = (⟨2, ![1, k]⟩ : Shape).numel) (x : Shape.Idx ⟨1, ![k]⟩) :
    Shape.reshapeEquiv h x = ix2 0 (x 0).val (by omega) (x 0).isLt := by
  refine (Shape.reshapeEquiv_cons_one (d := ![k]) h x).trans ?_
  funext y
  match y with
  | ⟨0, _⟩ => rfl
  | ⟨1, _⟩ => rfl

theorem reshapeEquiv_row_symm {k : ℕ} (h : (⟨1, ![k]⟩ : Shape).numel = (⟨2, ![1, k]⟩ : Shape).numel) (j : ℕ) (hj : j < k) :
    (Shape.reshapeEquiv h).symm (ix2 0 j Nat.one_pos hj) = ix1 j hj :=
  (Equiv.symm_apply_eq _).2 (reshapeEquiv_row h (ix1 j hj)).symm

/-- Part of a row of a rank-two buffer, seen as rank one: read; -/
theorem readRow {a b k : ℕ} (v : View sig κ sp ⟨2, ![a, b]⟩ e) (off : Fin 2 → ℕ) (inb) (h) (f : v.ty.Contents Val) (j : ℕ) (hj : j < k) :
    at1 (((v.slice (Rect.unit (s := ⟨2, ![a, b]⟩) off ![1, k] inb)).reshape ⟨1, ![k]⟩ h).read Val f) j = at2 (v.read Val f) (off 0) (off 1 + j) := by
  rw [at1_lt _ _ hj]
  refine (show _ = (v.slice (Rect.unit (s := ⟨2, ![a, b]⟩) off ![1, k] inb)).read Val f (Shape.reshapeEquiv h (ix1 j hj)) from rfl).trans ?_
  rw [reshapeEquiv_row]
  refine (at2_lt (a := 1) (b := k) _ 0 j (by omega) hj).symm.trans ?_
  rw [read2 v off inb f 0 j (by omega) hj]; rfl

/-- and written. -/
theorem writeRow {a b k : ℕ} (v : View sig κ sp ⟨2, ![a, b]⟩ e) (off : Fin 2 → ℕ) (inb) (h) (f : v.ty.Contents Val)
    (w : Shape.Idx ⟨1, ![k]⟩ → Val e) (i j : ℕ) (hi : i < a) (hj : j < b) :
    at2 (v.read Val (((v.slice (Rect.unit (s := ⟨2, ![a, b]⟩) off ![1, k] inb)).reshape ⟨1, ![k]⟩ h).write Val f w Finset.univ)) i j
      = if i = off 0 ∧ (off 1 ≤ j ∧ j < off 1 + k) then at1 w (j - off 1) else at2 (v.read Val f) i j := by
  rw [View.write_reshape_univ]
  refine (write2 v off inb f _ i j hi hj).trans ?_
  by_cases hc : i = off 0 ∧ (off 1 ≤ j ∧ j < off 1 + k)
  · rw [if_pos hc, if_pos (by omega)]
    have h0 : i - off 0 = 0 := by omega
    have hj' : j - off 1 < k := by omega
    rw [h0, at2_lt _ 0 (j - off 1) Nat.one_pos hj', at1_lt _ _ hj']
    exact congrArg w (reshapeEquiv_row_symm h _ hj')
  · rw [if_neg hc, if_neg (by omega)]

end Cert.Proof.Views
-- ==== Proof.Setup.lean ====
/-
  The names the proofs of the two SparseCore kernels share: the program as the launch theorem sees it, the resource algebra,
  the kernels' buffers and semaphores.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Views

@[expose] public section

noncomputable section

namespace Cert.Proof.Setup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)
abbrev MM (F : FTy → Type) : Type := MT nD τ sig (HIx 2) (Elt F) ℕ UU ℕ

abbrev EH : Emb UH (MT nD τ sig (HIx 2) (Elt F) ℕ UU ℕ) := embL

/-- The pipelines' component of the algebra, for the two calls on the TensorCore. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EP_landsIn : (EP (F := F)).LandsIn (upEmb : UEmb _ (MT nD τ sig (HIx 2) (Elt F) ℕ UU ℕ)) := by
  unfold EP; infer_instance

/-! ## The buffers -/

abbrev epM : Memref sig .scVector .hbm S56x2688 .i32 := Memref.whole main_v17_scv
abbrev grM : Memref sig .scVector .hbm S32x52224 .i32 := Memref.whole main_v18_0_scv
abbrev prM : Memref sig .scVector .hbm S32x52224 .i32 := Memref.whole main_v18_1_scv
abbrev cnM : Memref sig .scVector .hbm S32x16 .i32 := Memref.whole main_v18_2_scv
abbrev ebM : Memref sig .scVector .vmem S5376 .i32 := Memref.whole cc0_scratch0
abbrev gbM : Memref sig .scVector .vmem S2048 .i32 := Memref.whole cc0_scratch1
abbrev pbM : Memref sig .scVector .vmem S2048 .i32 := Memref.whole cc0_scratch2
abbrev cbM : Memref sig .scVector .vmem S16 .i32 := Memref.whole cc0_scratch3

/-- The tile at coordinates `L` of device `d`, as a thread. -/
abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

/-- The tile's number: which row of the bucket arrays is its own. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- Sixteen words of row `e` from word `o` on. -/
def vec16 (fE : Shape.Idx ⟨2, ![56, 2688]⟩ → BitVec 32) (e o : ℕ) : S16.Idx → BitVec 32 := fun x => Views.at2 fE e (o + (x 0).val)

end Cert.Proof.Setup
-- ==== Proof.Steps.lean ====
/-
  The memory operations' rules in the form the two kernels' proofs use them: what an operation leaves is a fresh name with an
  equation.
-/
module

public import proofs.«01_k».proof.Proof.Setup

@[expose] public section

noncomputable section

namespace Cert.Proof.Steps

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup

variable {F : FTy → Type} [FloatOps F]

local notation "𝕄" => MM F

variable {α : Type} (c : Thread nD τ) {sp sp' : Space} {s : Shape} {e : EltTy}

/-- A scatter into a whole buffer: its contents become the scatter of what they were. -/
theorem wp_scatter {Q : α → sProp (MM F)} {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ₀ c.2) α} {f : Buf (Elt F) (base.view.loc c)}
    (hset : (base.access (.whole s)).set = Finset.univ) :
    (base.view.loc c ↦{fullShare} f)
      ⊢ iprop((∀ f' : Buf (Elt F) (base.view.loc c), ⌜base.view.read (Elt F) f' = storeIdx (base.view.read (Elt F) f) idxs v mask add h⌝
          -∗ (base.view.loc c ↦{fullShare} f') -∗ wp frame (wpE (defs₀ (F := F)) 𝒱₀ c none) Set.univ (k ⟨⟩) Q)
        -∗ wp frame (wpE (defs₀ (F := F)) 𝒱₀ c none) Set.univ (SparseCore.vectorStoreIdx base idxs v mask add h hs >>= k) Q) := by
  iintro H Hk
  have hr : ∀ g : Buf (Elt F) (base.view.loc c), (base.access (.whole s)).read (Elt F) g = base.view.read (Elt F) g := fun g => by
    funext x
    show base.view.read (Elt F) g ((Rect.whole s).emb x) = _
    rw [Rect.emb_whole_apply]
  iapply (SparseCore.wp_vectorStoreIdx (defs := defs₀ (F := F)) 𝒱₀ c none Set.univ (base := base) (f := f)) $$ [H]
  · rw [hset]; iexact H
  iintro H
  rw [hset]
  iapply Hk $$ %_ %_ H
  rw [hr, ← hr]
  funext x
  rw [View.read_apply, View.write_emb_of_mem _ _ (Finset.mem_univ x), cast_cast, cast_eq]

/-- A load through a rectangle of a buffer of which those elements are held. -/
theorem wp_loadR {Q : α → sProp (MM F)} {cs : CoreSpace} {m : Memref sig c.2.kind cs s e} {r : Rect s} {hl : m.view.LoadsAt r.toLoadRect}
    {k : (r.shape.Idx → Elt F e) → Prog (TpuEff nD τ sig (Elt F) Λ₀ c.2) α} {S : Finset (Idx (m.view.loc c))} {q : PosShare TreeShare}
    {f : Buf (Elt F) (m.view.loc c)} (hS : (m.access r).set ⊆ S) :
    (m.view.loc c ↦[S]{q} f)
      ⊢ iprop((∀ w : r.shape.Idx → Elt F e, ⌜w = (m.view.slice r).read (Elt F) f⌝ -∗ (m.view.loc c ↦[S]{q} f)
          -∗ wp frame (wpE (defs₀ (F := F)) 𝒱₀ c none) Set.univ (k w) Q)
        -∗ wp frame (wpE (defs₀ (F := F)) 𝒱₀ c none) Set.univ (.op (.load m r.toLoadRect hl) k) Q) := by
  iintro H Hk
  iapply (wp_load_rect (defs := defs₀ (F := F)) 𝒱₀ c none Set.univ (m := m) (r := r) (k := k) (f := f) hS) $$ [H]
  · iexact H
  iintro H
  iapply Hk $$ %_ %rfl H

/-- A store through a rectangle of a buffer of which those elements are held outright. -/
theorem wp_storeR {Q : α → sProp (MM F)} {cs : CoreSpace} {m : Memref sig c.2.kind cs s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ c.2) α} {S : Finset (Idx (m.view.loc c))}
    {f : Buf (Elt F) (m.view.loc c)} (hS : (m.access r).set ⊆ S) :
    (m.view.loc c ↦[S]{fullShare} f)
      ⊢ iprop((∀ f' : Buf (Elt F) (m.view.loc c), ⌜f' = (m.view.slice r).write (Elt F) f w Finset.univ⌝ -∗ (m.view.loc c ↦[S]{fullShare} f')
          -∗ wp frame (wpE (defs₀ (F := F)) 𝒱₀ c none) Set.univ (k ⟨⟩) Q)
        -∗ wp frame (wpE (defs₀ (F := F)) 𝒱₀ c none) Set.univ (.op (.store m r w Finset.univ hx hm) k) Q) := by
  iintro H Hk
  iapply (wp_store (defs := defs₀ (F := F)) 𝒱₀ c none Set.univ (m := m) (r := r) (k := k) (f := f) (Mk := Finset.univ) (S := S)
    (by rw [View.setOn_univ]; exact hS)) $$ [H]
  · iexact H
  iintro H
  iapply Hk $$ %_ %rfl H

/-- A load through a rectangle of a buffer held whole. -/
theorem wp_loadW {Q : α → sProp (MM F)} {cs : CoreSpace} {m : Memref sig c.2.kind cs s e} {r : Rect s} {hl : m.view.LoadsAt r.toLoadRect}
    {k : (r.shape.Idx → Elt F e) → Prog (TpuEff nD τ sig (Elt F) Λ₀ c.2) α} {q : PosShare TreeShare} {f : Buf (Elt F) (m.view.loc c)} :
    (m.view.loc c ↦{q} f)
      ⊢ iprop((∀ w : r.shape.Idx → Elt F e, ⌜w = (m.view.slice r).read (Elt F) f⌝ -∗ (m.view.loc c ↦{q} f)
          -∗ wp frame (wpE (defs₀ (F := F)) 𝒱₀ c none) Set.univ (k w) Q)
        -∗ wp frame (wpE (defs₀ (F := F)) 𝒱₀ c none) Set.univ (.op (.load m r.toLoadRect hl) k) Q) :=
  wp_loadR c (Finset.subset_univ _)

/-- A store through a rectangle of a buffer held whole. -/
theorem wp_storeW {Q : α → sProp (MM F)} {cs : CoreSpace} {m : Memref sig c.2.kind cs s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ c.2) α} {f : Buf (Elt F) (m.view.loc c)} :
    (m.view.loc c ↦{fullShare} f)
      ⊢ iprop((∀ f' : Buf (Elt F) (m.view.loc c), ⌜f' = (m.view.slice r).write (Elt F) f w Finset.univ⌝ -∗ (m.view.loc c ↦{fullShare} f')
          -∗ wp frame (wpE (defs₀ (F := F)) 𝒱₀ c none) Set.univ (k ⟨⟩) Q)
        -∗ wp frame (wpE (defs₀ (F := F)) 𝒱₀ c none) Set.univ (.op (.store m r w Finset.univ hx hm) k) Q) :=
  wp_storeR c (Finset.subset_univ _)

/-- What a thread owes, with waits recorded beyond those of `W` only at the transfers' own index. -/
def Ow (c : Thread nD τ) (O : CellTallies nD τ sig (HIx 2)) (W : Waits sig (HIx 2)) : sProp 𝕄 :=
  iprop(∃ W', ⌜∀ p ∈ W', p ∈ W ∨ p.2 = none⌝ ∗ owes c O W')

theorem Ow_intro (O : CellTallies nD τ sig (HIx 2)) (W : Waits sig (HIx 2)) : (owes c O W : sProp 𝕄) ⊢ Ow (F := F) c O W := by
  unfold Ow
  iintro H
  iexists W
  isplitr
  · ipureintro; exact fun p hp => Or.inl hp
  · iexact H

theorem Ow_insert (O : CellTallies nD τ sig (HIx 2)) (W W' : Waits sig (HIx 2)) (hW : ∀ p ∈ W', p ∈ W ∨ p.2 = none) (sm : SemLoc sig) :
    (owes c O (insert (sm, (none : HIx 2)) W') : sProp 𝕄) ⊢ Ow (F := F) c O W := by
  unfold Ow
  iintro H
  iexists _
  isplitr
  rotate_left
  · iexact H
  · ipureintro
    intro p hp
    rcases Finset.mem_insert.1 hp with rfl | hp
    · exact Or.inr rfl
    · exact hW p hp

/-- A local copy is issued: its source elements and the destination go with it until its wait; what it will leave is the
    destination written with what the source reads. -/
theorem wp_issue {Q : α → sProp (MM F)} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ₀ c.2) α} {q : PosShare TreeShare} {fs : Buf (Elt F) (src.view.loc c)}
    {Ss : Finset (Idx (src.view.loc c))} {Sd : Finset (Idx (dst.view.loc c))} {fd : Buf (Elt F) (dst.view.loc c)}
    (N : ℕ) (hN : dst.view.amount sm = N) (hN0 : 0 < N) (hSs : src.view.set ⊆ Ss) (hSd : dst.view.set ⊆ Sd) :
    (iprop((src.view.loc c ↦[Ss]{q} fs) ∗ (dst.view.loc c ↦[Sd]{fullShare} fd) ∗ semVal (c, sm) 0) : sProp 𝕄)
      ⊢ iprop((iprop(Transfers.Flight countersEmb c sm (none : HIx 2) N iprop((dst.view.loc c ↦[Sd]{fullShare} (dst.view.write (Elt F) fd (src.view.read (Elt F) fs) Finset.univ))
                                    ∗ (src.view.loc c ↦[src.view.set]{q} fs)) ∗ (src.view.loc c ↦[Ss \ src.view.set]{q} fs))
              -∗ wp frame (wpE (defs₀ (F := F)) 𝒱₀ c none) Set.univ (k ⟨⟩) Q)
          -∗ wp frame (wpE (defs₀ (F := F)) 𝒱₀ c none) Set.univ (.op (.enqueueDmaAs src (.here dst) .same sm hsrc hdst hsem) k) Q) := by
  iintro ⟨Hs, Hd, Hv⟩ Hk
  ihave Hs := (pointsTo_split_subset (q := q) (f := fs) hSs).1 $$ Hs
  icases Hs with ⟨Hs, Hr⟩
  iapply (Transfers.wp_dmaLocal countersEmb 𝒱₀ c none (none : HIx 2) N hN hN0 hSd) $$ [Hs Hd Hv]
  · isplitl [Hs]; · iexact Hs
    isplitl [Hd]; · iexact Hd
    iexact Hv
  iintro Hf
  iapply Hk
  isplitl [Hf]; · iexact Hf
  iexact Hr

/-- The wait of a copy that is under way. -/
theorem wp_await {Q : α → sProp (MM F)} {κ' : Kind} {s' : Shape} {e' : EltTy} {sem : DmaSem sig}
    {srcw : Memref sig c.2.kind sp' s' e'} {dstw : Memref sig κ' sp s e} {hsrc : srcw.view.WordExact} {hdst : dstw.view.WordExact}
    {k : PUnit → Prog (TpuEff nD τ sig (Elt F) Λ₀ c.2) α} {N : ℕ} (hN : dstw.view.dmaCredit = N) {D : sProp 𝕄}
    {O : CellTallies nD τ sig (HIx 2)} {W : Waits sig (HIx 2)} :
    iprop(Transfers.MayWaits c (none : HIx 2) O ∗ Transfers.Flight countersEmb c (.dma sem) (none : HIx 2) N D ∗ Ow (F := F) c O W)
      ⊢ iprop((iprop(D ∗ semVal (c, .dma sem) 0 ∗ Ow (F := F) c O W) -∗ wp frame (wpE (defs₀ (F := F)) 𝒱₀ c none) Set.univ (k ⟨⟩) Q)
          -∗ wp frame (wpE (defs₀ (F := F)) 𝒱₀ c none) Set.univ (.op (.waitDma2 sem srcw dstw hsrc hdst) k) Q) := by
  conv_lhs => unfold Ow
  iintro ⟨#Hmw, Hf, ⟨%W', %hW, HO⟩⟩ Hk
  iapply (Transfers.wp_waitLocalO countersEmb 𝒱₀ c none (none : HIx 2) hN) $$ [Hf HO]
  · isplitl [Hf]; · iexact Hf
    isplitl [HO]; · iexact HO
    iapply (Transfers.MayWaits.elim (SemLoc.dma sem)) $$ Hmw
  iintro ⟨HD, Hv, HO⟩
  iapply Hk
  isplitl [HD]; · iexact HD
  isplitl [Hv]; · iexact Hv
  iapply (Ow_insert c O W W' hW) $$ HO

/-- A copy and, at once, its wait. -/
theorem wp_copy {Q : α → sProp (MM F)} {κ' : Kind} {sp₁ sp₂ : Space} {s' s'' : Shape} {e' e'' : EltTy} {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {srcw : Memref sig c.2.kind sp₁ s' e'} {dstw : Memref sig κ' sp₂ s'' e''} {hsrcw : srcw.view.WordExact} {hdstw : dstw.view.WordExact}
    {k : PUnit → Prog (TpuEff nD τ sig (Elt F) Λ₀ c.2) α} {q : PosShare TreeShare} {fs : Buf (Elt F) (src.view.loc c)}
    {Ss : Finset (Idx (src.view.loc c))} {Sd : Finset (Idx (dst.view.loc c))} {fd : Buf (Elt F) (dst.view.loc c)}
    {O : CellTallies nD τ sig (HIx 2)} {W : Waits sig (HIx 2)}
    (hN : dstw.view.dmaCredit = dst.view.amount (.dma sem)) (hN0 : 0 < dst.view.amount (.dma sem)) (hSs : src.view.set ⊆ Ss) (hSd : dst.view.set ⊆ Sd) :
    iprop(Transfers.MayWaits c (none : HIx 2) O ∗ (src.view.loc c ↦[Ss]{q} fs) ∗ (dst.view.loc c ↦[Sd]{fullShare} fd) ∗ semVal (c, .dma sem) 0 ∗ Ow (F := F) c O W)
      ⊢ iprop((∀ fd' : Buf (Elt F) (dst.view.loc c), ⌜fd' = dst.view.write (Elt F) fd (src.view.read (Elt F) fs) Finset.univ⌝
              -∗ (src.view.loc c ↦[Ss]{q} fs) -∗ (dst.view.loc c ↦[Sd]{fullShare} fd') -∗ semVal (c, .dma sem) 0 -∗ Ow (F := F) c O W
              -∗ wp frame (wpE (defs₀ (F := F)) 𝒱₀ c none) Set.univ (k ⟨⟩) Q)
          -∗ wp frame (wpE (defs₀ (F := F)) 𝒱₀ c none) Set.univ
              (.op (.enqueueDmaAs src (.here dst) .same (.dma sem) hsrc hdst hsem) fun _ => .op (.waitDma2 sem srcw dstw hsrcw hdstw) k) Q) := by
  iintro ⟨#Hmw, Hs, Hd, Hv, HO⟩ Hk
  iapply (wp_issue c _ rfl hN0 hSs hSd) $$ [Hs Hd Hv]
  · isplitl [Hs]; · iexact Hs
    isplitl [Hd]; · iexact Hd
    iexact Hv
  iintro ⟨Hf, Hr⟩
  iapply (wp_await c hN) $$ [Hf HO]
  · isplitr; · iexact Hmw
    isplitl [Hf]; · iexact Hf
    iexact HO
  iintro ⟨⟨Hd, Hs⟩, Hv, HO⟩
  ihave Hs := (pointsTo_split_subset (q := q) (f := fs) hSs).2 $$ [Hs Hr]
  · isplitl [Hs] <;> iassumption
  iapply Hk $$ %_ %rfl Hs Hd Hv HO

end Cert.Proof.Steps
-- ==== Proof.Words.lean ====
/-
  Loads and stores of consecutive words of a rank-one buffer, with what they read and leave said word by word.
-/
module

public import proofs.«01_k».proof.Proof.Steps
public import proofs.«01_k».proof.Proof.Views

@[expose] public section

noncomputable section

namespace Cert.Proof.Words

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Compact Cert.Proof.Views

variable {F : FTy → Type} [FloatOps F]

local notation "𝕄" => MM F

variable {α : Type} (c : Thread nD τ) {cs : CoreSpace} {n k : ℕ}

/-- A load of `k` words from word `off 0` on. -/
theorem wp_ld1 {Q : α → sProp (MM F)} {m : Memref sig c.2.kind cs ⟨1, ![n]⟩ .i32} {off : Fin 1 → ℕ} {inb}
    {hl : m.view.LoadsAt (Rect.unit (s := ⟨1, ![n]⟩) off ![k] inb).toLoadRect}
    {kk : (Shape.Idx ⟨1, ![k]⟩ → Elt F .i32) → Prog (TpuEff nD τ sig (Elt F) Λ₀ c.2) α} {q : PosShare TreeShare}
    {f : Buf (Elt F) (m.view.loc c)} :
    (m.view.loc c ↦{q} f)
      ⊢ iprop((∀ w : Shape.Idx ⟨1, ![k]⟩ → Elt F .i32,
            ⌜∀ j, j < k → at1 (α := BitVec 32) w j = at1 (α := BitVec 32) (m.view.read (Elt F) f) (off 0 + j)⌝ -∗ (m.view.loc c ↦{q} f)
          -∗ wp frame (wpE (defs₀ (F := F)) 𝒱₀ c none) Set.univ (kk w) Q)
        -∗ wp frame (wpE (defs₀ (F := F)) 𝒱₀ c none) Set.univ (.op (.load m (Rect.unit (s := ⟨1, ![n]⟩) off ![k] inb).toLoadRect hl) kk) Q) := by
  iintro H Hk
  iapply (wp_loadR c (m := m) (r := Rect.unit (s := ⟨1, ![n]⟩) off ![k] inb) (k := kk) (f := f) (S := Finset.univ) (Finset.subset_univ _)) $$ [H]
  · iexact H
  iintro %w %hw H
  iapply Hk $$ %w %_ H
  intro j hj
  rw [hw]
  exact read1 (Val := Elt F) (e := .i32) m.view off inb f j hj

/-- A store of `k` words from word `off 0` on. -/
theorem wp_st1 {Q : α → sProp (MM F)} {m : Memref sig c.2.kind cs ⟨1, ![n]⟩ .i32} {off : Fin 1 → ℕ} {inb}
    {w : Shape.Idx ⟨1, ![k]⟩ → Elt F .i32}
    {hx : (m.access (Rect.unit (s := ⟨1, ![n]⟩) off ![k] inb)).Stores Finset.univ}
    {hm : (Finset.univ : Finset (Rect.unit (s := ⟨1, ![n]⟩) off ![k] inb).shape.Idx) = Finset.univ ∨ ∀ a, (Rect.unit (s := ⟨1, ![n]⟩) off ![k] inb).stride a = 1}
    {kk : PUnit → Prog (TpuEff nD τ sig (Elt F) Λ₀ c.2) α} {f : Buf (Elt F) (m.view.loc c)} :
    (m.view.loc c ↦{fullShare} f)
      ⊢ iprop((∀ f' : Buf (Elt F) (m.view.loc c),
            ⌜∀ i, i < n → at1 (α := BitVec 32) (m.view.read (Elt F) f') i
              = if off 0 ≤ i ∧ i < off 0 + k then at1 (α := BitVec 32) w (i - off 0) else at1 (α := BitVec 32) (m.view.read (Elt F) f) i⌝
          -∗ (m.view.loc c ↦{fullShare} f') -∗ wp frame (wpE (defs₀ (F := F)) 𝒱₀ c none) Set.univ (kk ⟨⟩) Q)
        -∗ wp frame (wpE (defs₀ (F := F)) 𝒱₀ c none) Set.univ (.op (.store m (Rect.unit (s := ⟨1, ![n]⟩) off ![k] inb) w Finset.univ hx hm) kk) Q) := by
  iintro H Hk
  iapply (wp_storeR c (m := m) (r := Rect.unit (s := ⟨1, ![n]⟩) off ![k] inb) (w := w) (k := kk) (f := f) (S := Finset.univ) (Finset.subset_univ _)) $$ [H]
  · iexact H
  iintro %f' %hf H
  iapply Hk $$ %f' %_ H
  intro i hi
  rw [hf]
  exact write1 (Val := Elt F) (e := .i32) m.view off inb f w i hi

/-- A part of a program, and what follows it. -/
theorem wp_seq {β : Type} {Q : α → sProp (MM F)} {p : Prog (TpuEff nD τ sig (Elt F) Λ₀ c.2) β} {kk : β → Prog (TpuEff nD τ sig (Elt F) Λ₀ c.2) α}
    {P : sProp (MM F)} (R : β → sProp (MM F)) (h : P ⊢ wp frame (wpE (defs₀ (F := F)) 𝒱₀ c none) Set.univ p R) :
    P ⊢ iprop((∀ x, R x -∗ wp frame (wpE (defs₀ (F := F)) 𝒱₀ c none) Set.univ (kk x) Q)
        -∗ wp frame (wpE (defs₀ (F := F)) 𝒱₀ c none) Set.univ (p >>= kk) Q) := by
  rw [wp_bind]
  iintro HP Hk
  ihave HP := h $$ HP
  iapply (wp_wand frame (wpE (defs₀ (F := F)) 𝒱₀ c none) Set.univ (p := p) (Q := R)) $$ [HP]
  · iexact HP
  iexact Hk

/-- A counted loop by its invariant. -/
theorem wp_loop {σ : Type} {Q : α → sProp (MM F)} {l : Scf.Loop 32} {ok : l.OK} {init : σ}
    {body : Fin l.trips → σ → Prog (TpuEff nD τ sig (Elt F) Λ₀ c.2) σ} {kk : σ → Prog (TpuEff nD τ sig (Elt F) Λ₀ c.2) α}
    (I : ℕ → σ → sProp (MM F))
    (hbody : ∀ (k : Fin l.trips) acc, I k acc ⊢ wp frame (wpE (defs₀ (F := F)) 𝒱₀ c none) Set.univ (body k acc) (I (k.val + 1))) :
    I 0 init ⊢ iprop((∀ acc, I l.trips acc -∗ wp frame (wpE (defs₀ (F := F)) 𝒱₀ c none) Set.univ (kk acc) Q)
        -∗ wp frame (wpE (defs₀ (F := F)) 𝒱₀ c none) Set.univ (Scf.Loop.for l ok init body >>= kk) Q) :=
  Scf.wp_for_bind frame (wpE (defs₀ (F := F)) 𝒱₀ c none) Set.univ l.lb l.ub l.st ok init body I hbody

/-- A copy of the first `k` words of a tile's buffer to part of a row, with its wait. -/
theorem wp_flush {κ' : Kind} {sp₁ sp₂ : Space} {s' s'' : Shape} {e' e'' : EltTy} {Q : α → sProp (MM F)} {a b : ℕ} {sp sp' : Space} {m : Memref sig c.2.kind sp ⟨1, ![n]⟩ .i32} {dm : Memref sig c.2.kind sp' ⟨2, ![a, b]⟩ .i32} {sem : DmaSem sig}
    {off : Fin 2 → ℕ} {inb inb'} {hst hst'} {hsq : (⟨2, ![1, k]⟩ : Shape).Squeezes ⟨1, ![k]⟩}
    {hsrc} {hdst} {hsem}
    {srcw : Memref sig c.2.kind sp₁ s' e'} {dstw : Memref sig κ' sp₂ s'' e''} {hsrcw : srcw.view.WordExact} {hdstw : dstw.view.WordExact}
    {kk : PUnit → Prog (TpuEff nD τ sig (Elt F) Λ₀ c.2) α} {fs : Buf (Elt F) (m.view.loc c)}
    {Sd : Finset (Idx (dm.view.loc c))} {fd : Buf (Elt F) (dm.view.loc c)}
    {O : CellTallies nD τ sig (HIx 2)} {W : Waits sig (HIx 2)}
    (hN : dstw.view.dmaCredit = ((dm.slice (Rect.unit (s := ⟨2, ![a, b]⟩) off ![1, k] inb) hst).squeeze ⟨1, ![k]⟩ hsq).view.amount (.dma sem))
    (hN0 : 0 < ((dm.slice (Rect.unit (s := ⟨2, ![a, b]⟩) off ![1, k] inb) hst).squeeze ⟨1, ![k]⟩ hsq).view.amount (.dma sem))
    (hSd : ((dm.slice (Rect.unit (s := ⟨2, ![a, b]⟩) off ![1, k] inb) hst).squeeze ⟨1, ![k]⟩ hsq).view.set ⊆ Sd) :
    iprop(Transfers.MayWaits c (none : HIx 2) O ∗ (m.view.loc c ↦{fullShare} fs) ∗ (dm.view.loc c ↦[Sd]{fullShare} fd) ∗ semVal (c, .dma sem) 0 ∗ Ow (F := F) c O W)
      ⊢ iprop((∀ fd' : Buf (Elt F) (dm.view.loc c),
              ⌜∀ i j, i < a → j < b → at2 (α := BitVec 32) (dm.view.read (Elt F) fd') i j
                = if i = off 0 ∧ (off 1 ≤ j ∧ j < off 1 + k) then at1 (α := BitVec 32) (m.view.read (Elt F) fs) (j - off 1) else at2 (α := BitVec 32) (dm.view.read (Elt F) fd) i j⌝
              -∗ (m.view.loc c ↦{fullShare} fs) -∗ (dm.view.loc c ↦[Sd]{fullShare} fd') -∗ semVal (c, .dma sem) 0 -∗ Ow (F := F) c O W
              -∗ wp frame (wpE (defs₀ (F := F)) 𝒱₀ c none) Set.univ (kk ⟨⟩) Q)
          -∗ wp frame (wpE (defs₀ (F := F)) 𝒱₀ c none) Set.univ
              (.op (.enqueueDmaAs (m.slice (Rect.unit (s := ⟨1, ![n]⟩) ![0] ![k] inb') hst')
                (.here ((dm.slice (Rect.unit (s := ⟨2, ![a, b]⟩) off ![1, k] inb) hst).squeeze ⟨1, ![k]⟩ hsq)) .same (.dma sem) hsrc hdst hsem)
                fun _ => .op (.waitDma2 sem srcw dstw hsrcw hdstw) kk) Q) := by
  iintro ⟨#Hmw, Hs, Hd, Hv, HO⟩ Hk
  iapply (wp_copy c (src := m.slice (Rect.unit (s := ⟨1, ![n]⟩) ![0] ![k] inb') hst')
    (dst := (dm.slice (Rect.unit (s := ⟨2, ![a, b]⟩) off ![1, k] inb) hst).squeeze ⟨1, ![k]⟩ hsq)
    (Ss := Finset.univ) (fs := fs) (fd := fd) hN hN0 (Finset.subset_univ _) hSd) $$ [Hs Hd Hv HO]
  · isplitr; · iexact Hmw
    isplitl [Hs]; · iexact Hs
    isplitl [Hd]; · iexact Hd
    isplitl [Hv]; · iexact Hv
    iexact HO
  iintro %fd' %hfd Hs Hd Hv HO
  iapply Hk $$ %fd' %_ Hs Hd Hv HO
  intro i j hi hj
  rw [hfd]
  refine (writeRow (Val := Elt F) (e := .i32) dm.view off inb hsq.numel_eq fd _ i j hi hj).trans ?_
  by_cases hc : i = off 0 ∧ (off 1 ≤ j ∧ j < off 1 + k)
  · rw [if_pos hc, if_pos hc]
    refine (read1 (Val := Elt F) (e := .i32) m.view ![0] inb' fs (j - off 1) (by omega)).trans ?_
    rw [show (![0] : Fin 1 → ℕ) 0 + (j - off 1) = j - off 1 from Nat.zero_add _]
  · rw [if_neg hc, if_neg hc]

end Cert.Proof.Words
-- ==== Proof.Model.lean ====
/-
  What the first kernel's tile computes, as lists: the edges of its bucket, in order, each as the row number of the message
  to fetch and the row it adds to.
-/
module

public import proofs.«01_k».proof.Proof.Views

@[expose] public section

noncomputable section

namespace Cert.Proof.Model

open Cert.KernelIdeal Cert.KernelIdeal.Gen Idealize.ShloMosaic
open Cert.Proof.Compact Cert.Proof.Views

/-- Growing a filtered range by sixteen: the marked lanes' words are appended. -/
theorem filter_range_step {α : Type} (P : ℕ → Bool) (g : ℕ → α) (n : ℕ) (m : IVec S16 1) (v : S16.Idx → α)
    (hm : ∀ k : Fin 16, m (lane k) = 1#1 ↔ P (n + k.val) = true) (hv : ∀ k : Fin 16, P (n + k.val) = true → v (lane k) = g (n + k.val)) :
    ((List.range (n + 16)).filter P).map g = ((List.range n).filter P).map g ++ sel m v := by
  have e : List.range (n + 16) = List.range n ++ (List.finRange 16).map fun k => n + k.val := by
    rw [List.range_add]
    congr 1
  rw [e, List.filter_append, List.map_append]
  congr 1
  unfold sel marked
  rw [List.filter_map, List.map_map]
  have ht : (List.finRange 16).take 16 = List.finRange 16 := List.take_of_length_le (by simp)
  rw [ht]
  have hp : (List.finRange 16).filter (P ∘ fun k => n + k.val) = (List.finRange 16).filter fun k => decide (m (lane k) = 1#1) := by
    refine List.filter_congr fun k _ => ?_
    have := hm k
    by_cases h : P (n + k.val) = true
    · simp [h, this.2 h]
    · have h' : ¬ m (lane k) = 1#1 := fun hc => h (this.1 hc)
      simp [h, h']
  rw [hp]
  refine List.map_congr_left fun k hk => ?_
  have hk' := (List.mem_filter.1 hk).2
  have : m (lane k) = 1#1 := by simpa using hk'
  exact (hv k ((hm k).1 this)).symm

variable (w : ℕ) (fE : Shape.Idx ⟨2, ![56, 2688]⟩ → BitVec 32)

/-- Edge `i`'s target row, relation and source row, in the array of edge chunks. -/
def dstW (i : ℕ) : BitVec 32 := at2 fE (i / 896) (i % 896)
def relW (i : ℕ) : BitVec 32 := at2 fE (i / 896) (896 + i % 896)
def srcW (i : ℕ) : BitVec 32 := at2 fE (i / 896) (1792 + i % 896)

/-- Whether a target row belongs to tile `w`. -/
def mine (x : BitVec 32) : Bool := (x.sshiftRight 6 &&& 31#32) == BitVec.ofNat 32 w

/-- Edge `i`'s entry: the row of the message, and the place of its target row in the tile's own numbering. -/
def entG (i : ℕ) : BitVec 32 := relW fE i * 5120#32 + srcW fE i
def entP (i : ℕ) : BitVec 32 := (dstW fE i).sshiftRight 11 * 64#32 + (dstW fE i &&& 63#32)

/-- The first `n` edges' entries that are tile `w`'s. -/
def bucketG (n : ℕ) : List (BitVec 32) := ((List.range n).filter fun i => mine w (dstW fE i)).map (entG fE)
def bucketP (n : ℕ) : List (BitVec 32) := ((List.range n).filter fun i => mine w (dstW fE i)).map (entP fE)

theorem bucket_length (n : ℕ) : (bucketP w fE n).length = (bucketG w fE n).length := by simp [bucketG, bucketP]

theorem bucketG_length_le (n : ℕ) : (bucketG w fE n).length ≤ n := by
  unfold bucketG; rw [List.length_map]; exact (List.length_filter_le _ _).trans (by simp)

/-- Growing by `k` edges adds at most `k` entries. -/
theorem bucketG_length_add (n k : ℕ) : (bucketG w fE (n + k)).length ≤ (bucketG w fE n).length + k := by
  unfold bucketG
  rw [List.length_map, List.length_map, List.range_add, List.filter_append, List.length_append]
  have := List.length_filter_le (fun i => mine w (dstW fE i)) ((List.range k).map (fun x => n + x))
  simp at this ⊢; omega

theorem bucketG_mono (n k : ℕ) : (bucketG w fE n).length ≤ (bucketG w fE (n + k)).length := by
  unfold bucketG
  rw [List.length_map, List.length_map, List.range_add, List.filter_append, List.length_append]; omega

end Cert.Proof.Model
-- ==== Proof.TcRun.lean ====
/-
  One point of each of the two calls on the TensorCore.
-/
module

public import proofs.«01_k».proof.Proof.Setup
public import proofs.«01_k».proof.Proof.Steps
public import proofs.«01_k».proof.Proof.Words
public import proofs.«01_k».proof.Proof.Compact
public import proofs.«01_k».proof.Proof.Views
public import proofs.«01_k».proof.Proof.Model
public import proofs.«01_k».proof.Proof.Gen.KernelIdeal.Points
public import proofs.«01_k».proof.Proof.Gen.KernelIdeal.Launch
public import Idealize.ShloMosaic.Lib.Pipeline.RegionArraysS
public import Idealize.ShloMosaic.Lib.Pipeline.FrameBody

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-- A buffer read through the rectangle that is all of it. -/
theorem ld_whole {α : Type} {n k : ℕ} (h : ∀ a, (![0, 0] : Fin 2 → ℕ) a + Shape.size ⟨2, ![n, k]⟩ a ≤ Shape.size ⟨2, ![n, k]⟩ a) (X : Shape.Idx ⟨2, ![n, k]⟩ → α) :
    (fun x => X ((Rect.unit (s := ⟨2, ![n, k]⟩) ![0, 0] (Shape.size ⟨2, ![n, k]⟩) h).idx x)) = X := by
  funext x
  congr 1
  funext a
  apply Fin.ext
  match a with
  | 0 => simp
  | 1 => simp

theorem read_writes_at {sp : Space} {s : Shape} {e : EltTy} (v : View sig .tc sp s e) (f : v.ty.Contents (Elt F)) (r : Rect s) (w : r.shape.Idx → Elt F e)
    (L : List (View.Piece (Elt F) s e)) (j : r.shape.Idx) : v.read (Elt F) (v.writes (Elt F) f (⟨r, w⟩ :: L)) (r.emb j) = w j := by
  exact (View.read_writes_apply_eq_canon v f (r.emb j) (⟨r, w⟩ :: L) ⟨⟨r, w⟩, List.mem_cons_self, r.idx_mem j⟩).trans (Rect.overlay_emb r _ w j)

/-- A buffer written through the rectangle that is all of it holds what was written. -/
theorem read_write_all {sp : Space} {e : EltTy} {n k : ℕ} (v : View sig .tc sp ⟨2, ![n, k]⟩ e) (f : v.ty.Contents (Elt F))
    (h : ∀ a, (![0, 0] : Fin 2 → ℕ) a + Shape.size ⟨2, ![n, k]⟩ a ≤ Shape.size ⟨2, ![n, k]⟩ a) (w : Vec F ⟨2, ![n, k]⟩ e) (L : List (View.Piece (Elt F) ⟨2, ![n, k]⟩ e)) :
    v.read (Elt F) (v.writes (Elt F) f (⟨Rect.unit (s := ⟨2, ![n, k]⟩) ![0, 0] (Shape.size ⟨2, ![n, k]⟩) h, w⟩ :: L)) = w := by
  funext y
  have h1 := read_writes_at v f (Rect.unit (s := ⟨2, ![n, k]⟩) ![0, 0] (Shape.size ⟨2, ![n, k]⟩) h) w L y
  have e : (Rect.unit (s := ⟨2, ![n, k]⟩) ![0, 0] (Shape.size ⟨2, ![n, k]⟩) h).emb y = y := congrFun (ld_whole h id) y
  exact (congrArg (v.read (Elt F) _) e.symm).trans h1

/-- One point of the first call on the TensorCore: the block of messages is written, everything else stays. -/
theorem q_run (d : Dev nD) (i : grid1.Coords) (M0 : Memref sig .tc .vmem S1024x1280 .f32) (h0 : M0.IsWhole) (M1 : Memref sig .tc .vmem S1280x1280 .f32) (h1 : M1.IsWhole)
    (M2 : Memref sig .tc .vmem S1x1280 .f32) (h2 : M2.IsWhole) (M3 : Memref sig .tc .vmem S1024x1280 .f32) (h3 : M3.IsWhole)
    (X0 : Vec F S1024x1280 .f32) (X1 : Vec F S1280x1280 .f32) (X2 : Vec F S1x1280 .f32) (X3 : Vec F S1024x1280 .f32) (Q : PUnit → sProp 𝕄) :
    iprop(owns (T d) M0 fullShare X0 ∗ owns (T d) M1 fullShare X1 ∗ owns (T d) M2 fullShare X2 ∗ owns (T d) M3 fullShare X3
        ∗ (iprop(owns (T d) M0 fullShare X0 ∗ owns (T d) M1 fullShare X1 ∗ owns (T d) M2 fullShare X2 ∗ owns (T d) M3 fullShare (k1_pay1 i X0 X1 X2)) -∗ Q ⟨⟩))
      ⊢ wp frame (wpE (defs₀ (F := F)) 𝒱₀ (T d) none) Set.univ (cc1__q_body i M0 h0 M1 h1 M2 h2 M3 h3) Q := by
  rw [cc1__q_body_eq_skeleton]
  unfold owns cc1__q_body_skel
  iintro ⟨⟨%f0, %e0, H0⟩, ⟨%f1, %e1, H1⟩, ⟨%f2, %e2, H2⟩, ⟨%f3, %e3, H3⟩, Hk⟩
  sl_exec
  sl_step
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  iexists _
  isplitr; swap; · iexact H3
  ipureintro
  rw [read_write_all]
  have r0 := ld_whole (α := F .f32) inb_S1024x1280_S1024x1280_0_0 X0
  have r1 := ld_whole (α := F .f32) inb_S1280x1280_S1280x1280_0_0 X1
  have r2 := ld_whole (α := F .f32) inb_S1x1280_S1x1280_0_0 X2
  subst e0 e1 e2
  exact congr (congr (congrArg (k1_pay1 i) r0) r1) r2

theorem pay3_cond1 (i : grid3.Coords) : k3_cond1 i = 1#1 ↔ (i 0).val = 0 := by
  have h : (i 0).val < 5 := (i 0).isLt
  revert h; generalize hx : (i 0).val = x; intro h
  unfold k3_cond1; simp only [hx]
  interval_cases x <;> decide
theorem pay3_cond2 (i : grid3.Coords) : k3_cond2 i = 1#1 ↔ (i 0).val ≠ 0 := by
  have h : (i 0).val < 5 := (i 0).isLt
  revert h; generalize hx : (i 0).val = x; intro h
  unfold k3_cond2; simp only [hx]
  interval_cases x <;> decide

/-- What one point of the last call leaves in the row of maxima, which held `X3`. -/
def rowMax (i : grid3.Coords) (X0 X1 : Vec F S1024x1280 .f32) (X3 : Vec F S1x1280 .f32) : Vec F S1x1280 .f32 :=
  if (i 0).val = 0 then k3_pay2 i X0 X1 else k3_pay3 i X0 X1 X3

/-- One point of the last call on the TensorCore: the block of the hidden rows is written, and the row of maxima. -/
theorem fin_run (d : Dev nD) (i : grid3.Coords) (M0 : Memref sig .tc .vmem S1024x1280 .f32) (h0 : M0.IsWhole) (M1 : Memref sig .tc .vmem S1024x1280 .f32) (h1 : M1.IsWhole)
    (M2 : Memref sig .tc .vmem S1024x1280 .f32) (h2 : M2.IsWhole) (M3 : Memref sig .tc .vmem S1x1280 .f32) (h3 : M3.IsWhole)
    (X0 X1 X2 : Vec F S1024x1280 .f32) (X3 : Vec F S1x1280 .f32) (Q : PUnit → sProp 𝕄) :
    iprop(owns (T d) M0 fullShare X0 ∗ owns (T d) M1 fullShare X1 ∗ owns (T d) M2 fullShare X2 ∗ owns (T d) M3 fullShare X3
        ∗ (iprop(owns (T d) M0 fullShare X0 ∗ owns (T d) M1 fullShare X1 ∗ owns (T d) M2 fullShare (k3_pay1 X0 X1) ∗ owns (T d) M3 fullShare (rowMax i X0 X1 X3)) -∗ Q ⟨⟩))
      ⊢ wp frame (wpE (defs₀ (F := F)) 𝒱₀ (T d) none) Set.univ (cc3__fin_body i M0 h0 M1 h1 M2 h2 M3 h3) Q := by
  rw [cc3__fin_body_eq_skeleton]
  unfold owns cc3__fin_body_skel
  iintro ⟨⟨%f0, %e0, H0⟩, ⟨%f1, %e1, H1⟩, ⟨%f2, %e2, H2⟩, ⟨%f3, %e3, H3⟩, Hk⟩
  have r0 := ld_whole (α := F .f32) inb_S1024x1280_S1024x1280_0_0 X0
  have r1 := ld_whole (α := F .f32) inb_S1024x1280_S1024x1280_0_0 X1
  have r3 := ld_whole (α := F .f32) inb_S1x1280_S1x1280_0_0 X3
  by_cases hi : (i 0).val = 0
  · have c1 : k3_cond1 i = 1#1 := (pay3_cond1 i).2 hi
    have c2 : ¬ k3_cond2 i = 1#1 := fun h => (pay3_cond2 i).1 h hi
    sl_exec
    sl_step
    iapply Hk
    isplitl [H0]; · iexists f0; isplitr; · ipureintro; exact e0
                    iexact H0
    isplitl [H1]; · iexists f1; isplitr; · ipureintro; exact e1
                    iexact H1
    isplitl [H2]
    · iexists _
      isplitr; swap; · iexact H2
      ipureintro
      rw [read_write_all]
      subst e0 e1
      exact congr (congrArg k3_pay1 r0) r1
    iexists _
    isplitr; swap; · iexact H3
    ipureintro
    rw [read_write_all, rowMax, if_pos hi]
    subst e0 e1
    exact congr (congrArg (k3_pay2 i) r0) r1
  · have c1 : ¬ k3_cond1 i = 1#1 := fun h => hi ((pay3_cond1 i).1 h)
    have c2 : k3_cond2 i = 1#1 := (pay3_cond2 i).2 hi
    sl_exec
    sl_step
    iapply Hk
    isplitl [H0]; · iexists f0; isplitr; · ipureintro; exact e0
                    iexact H0
    isplitl [H1]; · iexists f1; isplitr; · ipureintro; exact e1
                    iexact H1
    isplitl [H2]
    · iexists _
      isplitr; swap; · iexact H2
      ipureintro
      rw [read_write_all]
      subst e0 e1
      exact congr (congrArg k3_pay1 r0) r1
    iexists _
    isplitr; swap; · iexact H3
    ipureintro
    rw [read_write_all, rowMax, if_neg hi]
    subst e0 e1 e3
    exact congr (congr (congrArg (k3_pay3 i) r0) r1) r3

end Cert.Proof.S2
-- ==== Proof.Region.lean ====
/-
  A call on the TensorCore, between the calls of the SparseCores.
-/
module

public import proofs.«01_k».proof.Proof.TcRun

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

abbrev ad : (p : Fin 2) → (pcfgs (F := F) p).Adm := fun p => (cfgs p).toPCfg_adm

/-- The waits that a core may have recorded before its `n`-th SparseCore call. -/
def recd (d : Dev nD) (n : ℕ) : Set (SemLoc sig × HIx 2) := {p | (K (F := F)).lev (T d, p.1) p.2 ≤ n}

/-- What a core owes between its calls, with the bound on what its waits have recorded. -/
def Owed (d : Dev nD) (O : CellTallies nD τ sig (HIx 2)) (n : ℕ) : sProp 𝕄 :=
  iprop(∃ W, ⌜(K (F := F)).WBelow (T d) W n⌝ ∗ owes (T d) O W)

section
variable (pdats : (p : Fin 2) → (c : Dev nD) → Pipeline.Dat τ (Elt F) (HIx 2) ℕ UU ℕ (Pipeline.pin (pcfgs (F := F)) ad p) c) (p : Fin 2)
  (O : Dev nD → CellTallies nD τ sig (HIx 2)) (n : ℕ)

/-- A call on the TensorCore between the SparseCores' calls: entered with the buffers of `S` held at `W`, left with its results in them. -/
def region (S : Finset (DevRef τ sig)) (hS : Pipeline.arrRefs (pcfgs (F := F) p).spec ⊆ S) (kit : Pipeline.PLaunchFacts (nD := nD) (τ := τ) (pcfgs (F := F)) p) (hK : (pcfgs (F := F) p).pre.K = 0)
    (hbody : ∀ c, Pipeline.BodyObligationLoose (pdats p c) (defs₀ (F := F)) 𝒱₀ none Set.univ)
    (howed : ∀ c t, (pdats p c).owed t = O c) (hO : ∀ c g, O c g none = 0) (hrec : ∀ c t, (pdats p c).recorded t = recd (F := F) c n)
    (hshare : ∀ c w, (pdats p c).share w = fullShare)
    (hΦ : ∀ c t, (pdats p c).Φ t = Pipeline.scopedRest (Pipeline.pin (pcfgs (F := F)) ad p).spec c)
    (W : Dev nD → Valuation τ sig (Elt F))
    (hW : ∀ c w, (pdats p c).arrAt w 0 = W c (Proc.devRef .tc (Pipeline.arrRef (Pipeline.pin (pcfgs (F := F)) ad p).spec w))) :
    Pipeline.RegionSeg (pcfgs (F := F)) ad pdats none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) ad) pdats none p c 0 (O c) (howed c) (fun _ _ => Finset.mem_univ _) (fun _ _ => le_rfl)
    (fun g i h => ⟨Finset.mem_univ _, by
      cases i with
      | none => rw [hO c g] at h; exact absurd h (Nat.lt_irrefl 0)
      | some q => exact (K (F := F)).lev_some_pos g q⟩)
  pre c := iprop(StableHlo.held (T c) S (W c) ∗ Owed (F := F) c (O c) n)
  post c := iprop(StableHlo.held (T c) S (Pipeline.afterRegion (pdats p c) (W c)) ∗ Owed (F := F) c (O c) n)
  X _ := BI.emp
  Y _ := BI.emp
  Z c := StableHlo.held (T c) (S \ Pipeline.arrRefs (pcfgs (F := F) p).spec) (W c)
  hentry c := by
    rw [Pipeline.ownSems0_none, Pipeline.prefHeld_of_none _ hK]
    have hsplit : StableHlo.held (T c) S (W c) ⊢ (iprop((pdats p c).arrays ((pdats p c).arrAt · 0) ∗ StableHlo.held (T c) (S \ Pipeline.arrRefs (pcfgs (F := F) p).spec) (W c)) : sProp 𝕄) := by
      rw [Pipeline.arrays_held (pcfgs (F := F)) ad pdats p kit c (hshare c) _ (W c) (hW c)]
      exact Entails.of_eq (StableHlo.held_sub_split (T c) hS (W c))
    iintro ⟨⟨Hh, HO⟩, -, -⟩
    ihave H := hsplit $$ Hh
    icases H with ⟨Ha, Hr⟩
    imodintro
    isplitl [Ha]; · iexact Ha
    isplitr; · iempintro
    isplitl [HO]
    · unfold Pipeline.Dat.owesAt Pipeline.owesWithin Pipeline.Dat.bound Owed
      rw [howed c 0, hrec c 0]
      icases HO with ⟨%V, %hV, HO⟩; iexists V; isplitr; · ipureintro; exact fun x hx => Or.inl (hV x hx)
      iexact HO
    isplitr; · iempintro
    iexact Hr
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin : iprop((pdats p c).arrays ((pdats p c).arrAt · (Pipeline.pin (pcfgs (F := F)) ad p).N) ∗ StableHlo.held (T c) (S \ Pipeline.arrRefs (pcfgs (F := F) p).spec) (W c))
        ⊢ (StableHlo.held (T c) S (Pipeline.afterRegion (pdats p c) (W c)) : sProp 𝕄) := by
      rw [Pipeline.arrays_held (pcfgs (F := F)) ad pdats p kit c (hshare c) _ (Pipeline.afterRegion (pdats p c) (W c)) (fun w => (Pipeline.afterRegion_arr (pdats p c) (W c) kit.win.arr_inj w).symm),
        StableHlo.held_sub_split (T c) hS (Pipeline.afterRegion (pdats p c) (W c)),
        StableHlo.held_congr (T c) (S := S \ Pipeline.arrRefs (pcfgs (F := F) p).spec) (V := Pipeline.afterRegion (pdats p c) (W c)) (V' := W c) (Pipeline.afterRegion_off (pdats p c) (W c) S)]
    iintro ⟨Ha, HO, -, Hr⟩
    imodintro
    isplitl [Ha Hr]
    · iapply hjoin; isplitl [Ha] <;> iassumption
    unfold Pipeline.Dat.owesAt Pipeline.owesWithin Pipeline.Dat.bound Owed
    rw [howed c (Fin.last _), hrec c (Fin.last _)]
    icases HO with ⟨%V, %hV, HO⟩; iexists V; isplitr
    · ipureintro
      intro x hx
      rcases hV hx with h | ⟨w, s, rfl⟩
      · exact h
      · exact Nat.zero_le _
    iexact HO

end

end Cert.Proof.S2
-- ==== Proof.TcDat.lean ====
/-
  The data of the two calls on the TensorCore.
-/
module

public import proofs.«01_k».proof.Proof.TcRun

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

open Idealize.ShloMosaic.Pipeline (Dat BodyObligation BodyObligationLoose)

/-- A core's own dealings at one call: the arrays it works on are those of `V`. -/
abbrev DatOf (cfg : Pipeline.Cfg sig Λ₀) (d : Dev nD) := Dat τ (Elt F) (HIx 2) ℕ UU ℕ cfg d

section
variable (V : Valuation τ sig (Elt F)) (O : CellTallies nD τ sig (HIx 2)) (n : ℕ) (d : Dev nD)

/-! ## The first call -/

/-- The blocks that one point of the first call reads: rows, -/
def rdX (X : Vec F S5120x1280 .f32) (t : Fin cfg1.N) : Vec F S1024x1280 .f32 := ((cfg1.win 0).blk t).view.read (Elt F) X
/-- weights, -/
def rdW (W : Vec F S10240x1280 .f32) (t : Fin cfg1.N) : Vec F S1280x1280 .f32 := ((cfg1.win 1).blk t).view.read (Elt F) W
/-- and biases. -/
def rdB (B : Vec F S1x1280 .f32) (t : Fin cfg1.N) : Vec F S1x1280 .f32 := ((cfg1.win 2).blk t).view.read (Elt F) B

abbrev qX (t : Fin cfg1.N) : Vec F S1024x1280 .f32 := rdX (F := F) (V (Proc.devRef .tc main_v4)) t
abbrev qW (t : Fin cfg1.N) : Vec F S1280x1280 .f32 := rdW (F := F) (V (Proc.devRef .tc main_v0)) t
abbrev qB (t : Fin cfg1.N) : Vec F S1x1280 .f32 := rdB (F := F) (V (Proc.devRef .tc main_v2)) t

/-- The first call's data. -/
def dat1 : DatOf (F := F) cfg1 d where
  A w := V (Proc.devRef .tc (Pipeline.arrRef spec1 w))
  after w t := match w with
    | ⟨0, _⟩ => qX V t
    | ⟨1, _⟩ => qW V t
    | ⟨2, _⟩ => qB V t
    | ⟨3, _⟩ => k1_pay1 (grid1.coords t) (qX V t) (qW V t) (qB V t)
  Φ _ := Pipeline.scopedRest spec1 d
  q _ := fullShare
  owed _ := O
  recorded _ := {p | (K (F := F)).lev (T d, p.1) p.2 ≤ n}

theorem bef1_0 (t : Fin cfg1.N) (e) : (dat1 V O n d).before 0 t e = qX V t :=
  ((dat1 V O n d).before_in_eq_fetched 0 rfl (fun _ => rfl) (fun _ _ _ => rfl) (fun _ => rfl) t e).trans rfl
theorem bef1_1 (t : Fin cfg1.N) (e) : (dat1 V O n d).before 1 t e = qW V t :=
  ((dat1 V O n d).before_in_eq_fetched 1 rfl (fun _ => rfl) (fun _ _ _ => rfl) (fun _ => rfl) t e).trans rfl
theorem bef1_2 (t : Fin cfg1.N) (e) : (dat1 V O n d).before 2 t e = qB V t :=
  ((dat1 V O n d).before_in_eq_fetched 2 rfl (fun _ => rfl) (fun _ _ _ => rfl) (fun _ => rfl) t e).trans rfl

/-- Every point of the first call keeps to its data. -/
theorem obl1 : BodyObligation (dat1 V O n d) (defs₀ (F := F)) 𝒱₀ none Set.univ := fun t => by
  have row : defs₀ (F := F) .tc cfg1.body (cfg1.bodyArgs t (cfg1.slots t)) = bodyAt1 t := rfl
  rw [bigSep_W1, bigSep_W1, row]
  rw [show (dat1 V O n d).Φ t.castSucc = Pipeline.scopedRest spec1 d from rfl, show (dat1 V O n d).Φ t.succ = Pipeline.scopedRest spec1 d from rfl,
    show (dat1 V O n d).owesAt none t.succ = (dat1 V O n d).owesAt none t.castSucc from rfl]
  iintro ⟨HΦ, Howes, ⟨%d0, H0⟩, ⟨%d1, H1⟩, ⟨%d2, H2⟩, ⟨%d3, H3⟩⟩
  rw [bef1_0, bef1_1, bef1_2]
  iapply (q_run d (grid1.coords t) _ _ _ _ _ _ _ _ (qX V t) (qW V t) (qB V t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The last call -/

/-- The blocks that one point of the last call reads: the sums, -/
def rdY3 (Y : Vec F S5120x1280 .f32) (t : Fin cfg3.N) : Vec F S1024x1280 .f32 := ((cfg3.win 0).blk t).view.read (Elt F) Y
/-- and the rows. -/
def rdX3 (X : Vec F S5120x1280 .f32) (t : Fin cfg3.N) : Vec F S1024x1280 .f32 := ((cfg3.win 1).blk t).view.read (Elt F) X

/-- The row of maxima after the first `k` points. -/
def maxAt (Y X : Vec F S5120x1280 .f32) : ℕ → Vec F S1x1280 .f32
  | 0 => fun _ => Scalar.ofBits .f32 0#32
  | k + 1 => if h : k < cfg3.N then rowMax (grid3.coords ⟨k, h⟩) (rdY3 Y ⟨k, h⟩) (rdX3 X ⟨k, h⟩) (maxAt Y X k) else maxAt Y X k

abbrev fY (t : Fin cfg3.N) : Vec F S1024x1280 .f32 := rdY3 (F := F) (V (Proc.devRef .tc main_v22)) t
abbrev fX (t : Fin cfg3.N) : Vec F S1024x1280 .f32 := rdX3 (F := F) (V (Proc.devRef .tc main_v4)) t
abbrev fM (k : ℕ) : Vec F S1x1280 .f32 := maxAt (F := F) (V (Proc.devRef .tc main_v22)) (V (Proc.devRef .tc main_v4)) k

/-- The last call's data. -/
def dat3 : DatOf (F := F) cfg3 d where
  A w := V (Proc.devRef .tc (Pipeline.arrRef spec3 w))
  after w t := match w with
    | ⟨0, _⟩ => fY V t
    | ⟨1, _⟩ => fX V t
    | ⟨2, _⟩ => k3_pay1 (fY V t) (fX V t)
    | ⟨3, _⟩ => fM V (t.val + 1)
  Φ _ := Pipeline.scopedRest spec3 d
  q _ := fullShare
  owed _ := O
  recorded _ := {p | (K (F := F)).lev (T d, p.1) p.2 ≤ n}

theorem bef3_0 (t : Fin cfg3.N) (e) : (dat3 V O n d).before 0 t e = fY V t :=
  ((dat3 V O n d).before_in_eq_fetched 0 rfl (fun _ => rfl) (fun _ _ _ => rfl) (fun _ => rfl) t e).trans rfl
theorem bef3_1 (t : Fin cfg3.N) (e) : (dat3 V O n d).before 1 t e = fX V t :=
  ((dat3 V O n d).before_in_eq_fetched 1 rfl (fun _ => rfl) (fun _ _ _ => rfl) (fun _ => rfl) t e).trans rfl

theorem live3_3 (i : grid3.Coords) : cfg3.idle 3 i = false := by
  show (!(k3_cond1 i == 1#1) && !(k3_cond2 i == 1#1)) = false
  by_cases h : (i 0).val = 0
  · rw [(pay3_cond1 i).2 h]; rfl
  · rw [(pay3_cond2 i).2 h]; simp

theorem coord3 : ∀ t : Fin cfg3.N, ((grid3.coords t) 0).val = t.val := (by decide +kernel : ∀ t : Fin grid3.N, ((grid3.coords t) 0).val = t.val)

/-- The row of maxima that one point finds is the one the point before it left. -/
theorem step3 (t : Fin cfg3.N) (e) : rowMax (grid3.coords t) (fY V t) (fX V t) ((dat3 V O n d).before 3 t e) = fM V (t.val + 1) := by
  unfold fM
  conv_rhs => unfold maxAt
  rw [dif_pos t.isLt]
  by_cases h : t.val = 0
  · unfold rowMax
    rw [if_pos ((coord3 t).trans h), if_pos ((coord3 t).trans h)]
  · rw [(dat3 V O n d).before_out_kept 3 rfl t h
      (by
        have hN : t.val < 5 := t.isLt
        have := (flush3_3 ⟨t.val - 1, Nat.lt_of_le_of_lt (Nat.sub_le _ _) t.isLt⟩).not
        exact Bool.eq_false_iff.2 (this.2 (by show (t.val - 1) % 5 ≠ 4; omega))) live3_3 (fun _ _ => rfl) e]
    show rowMax _ _ _ (fM V (t.val - 1 + 1)) = _
    rw [show t.val - 1 + 1 = t.val by omega]

/-- Every point of the last call keeps to its data. -/
theorem obl3 : BodyObligation (dat3 V O n d) (defs₀ (F := F)) 𝒱₀ none Set.univ := fun t => by
  have row : defs₀ (F := F) .tc cfg3.body (cfg3.bodyArgs t (cfg3.slots t)) = bodyAt3 t := rfl
  rw [bigSep_W3, bigSep_W3, row]
  rw [show (dat3 V O n d).Φ t.castSucc = Pipeline.scopedRest spec3 d from rfl, show (dat3 V O n d).Φ t.succ = Pipeline.scopedRest spec3 d from rfl,
    show (dat3 V O n d).owesAt none t.succ = (dat3 V O n d).owesAt none t.castSucc from rfl, live3_3]
  iintro ⟨HΦ, Howes, ⟨%d0, H0⟩, ⟨%d1, H1⟩, ⟨%d2, H2⟩, ⟨%d3, H3⟩⟩
  rw [bef3_0, bef3_1]
  iapply (fin_run d (grid3.coords t) _ _ _ _ _ _ _ _ (fY V t) (fX V t) _ _ _)
  isplitl [H0]; · iexact H0
  isplitl [H1]; · iexact H1
  isplitl [H2]; · iexact H2
  isplitl [H3]; · iexact H3
  iintro ⟨H0, H1, H2, H3⟩
  rw [step3]
  isplitl [HΦ]; · iexact HΦ
  isplitl [Howes]; · iexact Howes
  isplitl [H0]; · iexact H0
  isplitl [H1]; · iexact H1
  isplitl [H2]; · iexact H2
  iexact H3

end

end Cert.Proof.S2
-- ==== Proof.TcArr.lean ====
/-
  What the two calls on the TensorCore leave.
-/
module

public import proofs.«01_k».proof.Proof.TcDat
public import Idealize.ShloMosaic.Lib.Pipeline.Value

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

open Idealize.ShloMosaic.Pipeline (Dat)

section
variable (V : Valuation τ sig (Elt F)) (O : CellTallies nD τ sig (HIx 2)) (n : ℕ) (d : Dev nD)

/-! ## Where the blocks lie -/

theorem pt1 : ∀ t : Fin cfg1.N, win1_0.index t = ![t.val % 5, 0] ∧ win1_1.index t = ![t.val / 5, 0] ∧ win1_2.index t = ![0, 0] ∧ win1_3.index t = ![t.val, 0] :=
  (by decide +kernel : ∀ t : Fin grid1.N, win1_0.index t = ![t.val % 5, 0] ∧ win1_1.index t = ![t.val / 5, 0] ∧ win1_2.index t = ![0, 0] ∧ win1_3.index t = ![t.val, 0])
theorem pt3 : ∀ t : Fin cfg3.N, win3_0.index t = ![t.val, 0] ∧ win3_1.index t = ![t.val, 0] ∧ win3_2.index t = ![t.val, 0] ∧ win3_3.index t = ![0, 0] :=
  (by decide +kernel : ∀ t : Fin grid3.N, win3_0.index t = ![t.val, 0] ∧ win3_1.index t = ![t.val, 0] ∧ win3_2.index t = ![t.val, 0] ∧ win3_3.index t = ![0, 0])
/-- The last block of the result is cut at the result's last row. -/
theorem cut3 : ∀ t : Fin cfg3.N, win3_2.xsize (grid3.coords t) = ![if t.val = 4 then 904 else 1024, 1280] :=
  (by decide +kernel : ∀ t : Fin grid3.N, win3_2.xsize (grid3.coords t) = ![if t.val = 4 then 904 else 1024, 1280])

theorem lt1 (t : Fin cfg1.N) : t.val < 40 := t.isLt
theorem lt3 (t : Fin cfg3.N) : t.val < 5 := t.isLt

theorem rdX_at (X : Vec F S5120x1280 .f32) (t : Fin cfg1.N) (i j : ℕ) (hi : i < 1024) (hj : j < 1280) :
    rdX X t (ix2 i j hi hj) = X (ix2 (t.val % 5 * 1024 + i) j (by omega) hj) := by
  refine congrArg X (funext fun a => Fin.ext ?_)
  refine (Pipeline.Window.rect_emb_val win1_0 t (ix2 i j hi hj) a).trans ?_
  rw [(pt1 t).1]
  match a with
  | ⟨0, _⟩ => rfl
  | ⟨1, _⟩ => show 0 * 1280 + j = j; omega

theorem rdW_at (W : Vec F S10240x1280 .f32) (t : Fin cfg1.N) (i j : ℕ) (hi : i < 1280) (hj : j < 1280) :
    rdW W t (ix2 i j hi hj) = W (ix2 (t.val / 5 * 1280 + i) j (by have := lt1 t; omega) hj) := by
  refine congrArg W (funext fun a => Fin.ext ?_)
  refine (Pipeline.Window.rect_emb_val win1_1 t (ix2 i j hi hj) a).trans ?_
  rw [(pt1 t).2.1]
  match a with
  | ⟨0, _⟩ => rfl
  | ⟨1, _⟩ => show 0 * 1280 + j = j; omega

theorem rdB_at (B : Vec F S1x1280 .f32) (t : Fin cfg1.N) (i j : ℕ) (hi : i < 1) (hj : j < 1280) :
    rdB B t (ix2 i j hi hj) = B (ix2 i j hi hj) := by
  refine congrArg B (funext fun a => Fin.ext ?_)
  refine (Pipeline.Window.rect_emb_val win1_2 t (ix2 i j hi hj) a).trans ?_
  rw [(pt1 t).2.2.1]
  match a with
  | ⟨0, _⟩ => show 0 * 1 + i = i; omega
  | ⟨1, _⟩ => show 0 * 1280 + j = j; omega

theorem rdY3_at (Y : Vec F S5120x1280 .f32) (t : Fin cfg3.N) (i j : ℕ) (hi : i < 1024) (hj : j < 1280) :
    rdY3 Y t (ix2 i j hi hj) = Y (ix2 (t.val * 1024 + i) j (by have := lt3 t; omega) hj) := by
  refine congrArg Y (funext fun a => Fin.ext ?_)
  refine (Pipeline.Window.rect_emb_val win3_0 t (ix2 i j hi hj) a).trans ?_
  rw [(pt3 t).1]
  match a with
  | ⟨0, _⟩ => rfl
  | ⟨1, _⟩ => show 0 * 1280 + j = j; omega

theorem rdX3_at (X : Vec F S5120x1280 .f32) (t : Fin cfg3.N) (i j : ℕ) (hi : i < 1024) (hj : j < 1280) :
    rdX3 X t (ix2 i j hi hj) = X (ix2 (t.val * 1024 + i) j (by have := lt3 t; omega) hj) := by
  refine congrArg X (funext fun a => Fin.ext ?_)
  refine (Pipeline.Window.rect_emb_val win3_1 t (ix2 i j hi hj) a).trans ?_
  rw [(pt3 t).2.1]
  match a with
  | ⟨0, _⟩ => rfl
  | ⟨1, _⟩ => show 0 * 1280 + j = j; omega

/-! ## What the calls leave -/

/-- What one point of the first call writes. -/
def qCell (X : Vec F S5120x1280 .f32) (W : Vec F S10240x1280 .f32) (B : Vec F S1x1280 .f32) (t : Fin cfg1.N) : Vec F S1024x1280 .f32 :=
  k1_pay1 (grid1.coords t) (rdX X t) (rdW W t) (rdB B t)

/-- The messages that the first call leaves. -/
def qRows (X : Vec F S5120x1280 .f32) (W : Vec F S10240x1280 .f32) (B : Vec F S1x1280 .f32) : Vec F S40960x1280 .f32 := fun x =>
  qCell X W B ⟨(x 0).val / 1024, show (x 0).val / 1024 < 40 by have : (x 0).val < 40960 := (x 0).isLt; omega⟩
    (ix2 ((x 0).val % 1024) (x 1).val (Nat.mod_lt _ (by decide)) (x 1).isLt)

theorem qRows_eq (X : Vec F S5120x1280 .f32) (W : Vec F S10240x1280 .f32) (B : Vec F S1x1280 .f32) (x : S40960x1280.Idx) (t : Fin cfg1.N) (y : S1024x1280.Idx)
    (e0 : (x 0).val = t.val * 1024 + (y 0).val) (e1 : (x 1).val = (y 1).val) : qRows X W B x = qCell X W B t y := by
  have h0 : (y 0).val < 1024 := (y 0).isLt
  unfold qRows
  refine congrArg₂ (qCell X W B) (Fin.ext (show (x 0).val / 1024 = t.val by omega)) (funext fun a => Fin.ext ?_)
  match a with
  | ⟨0, _⟩ => show (x 0).val % 1024 = (y 0).val; omega
  | ⟨1, _⟩ => exact e1

/-- What one point of the last call computes. -/
def hCell (Y X : Vec F S5120x1280 .f32) (t : Fin cfg3.N) : Vec F S1024x1280 .f32 := k3_pay1 (rdY3 Y t) (rdX3 X t)

/-- The hidden rows that the last call leaves. -/
def hidden (Y X : Vec F S5120x1280 .f32) : Vec F S5000x1280 .f32 := fun x =>
  hCell Y X ⟨(x 0).val / 1024, show (x 0).val / 1024 < 5 by have : (x 0).val < 5000 := (x 0).isLt; omega⟩
    (ix2 ((x 0).val % 1024) (x 1).val (Nat.mod_lt _ (by decide)) (x 1).isLt)

theorem hidden_eq (Y X : Vec F S5120x1280 .f32) (x : S5000x1280.Idx) (t : Fin cfg3.N) (y : S1024x1280.Idx)
    (e0 : (x 0).val = t.val * 1024 + (y 0).val) (e1 : (x 1).val = (y 1).val) : hidden Y X x = hCell Y X t y := by
  have h0 : (y 0).val < 1024 := (y 0).isLt
  unfold hidden
  refine congrArg₂ (hCell Y X) (Fin.ext (show (x 0).val / 1024 = t.val by omega)) (funext fun a => Fin.ext ?_)
  match a with
  | ⟨0, _⟩ => show (x 0).val % 1024 = (y 0).val; omega
  | ⟨1, _⟩ => exact e1

theorem arr1 : (dat1 V O n d).arrAt 3 cfg1.N = qRows (F := F) (V (Proc.devRef .tc main_v4)) (V (Proc.devRef .tc main_v0)) (V (Proc.devRef .tc main_v2)) := by
  refine (dat1 V O n d).arrAt_eq_of_cover 3 _ (fun t _ => ?_) fun i => ?_
  · funext y
    have e0 : ((win1_3.rect t).emb y 0 : ℕ) = t.val * 1024 + (y 0).val := by
      refine (Pipeline.Window.rect_emb_val win1_3 t y 0).trans ?_
      rw [(pt1 t).2.2.2]; rfl
    have e1 : ((win1_3.rect t).emb y 1 : ℕ) = (y 1).val := by
      refine (Pipeline.Window.rect_emb_val win1_3 t y 1).trans ?_
      rw [(pt1 t).2.2.2]; show 0 * 1280 + _ = _; omega
    exact (qRows_eq _ _ _ ((win1_3.rect t).emb y) t y e0 e1).symm
  · have hi0 : (i 0).val < 40960 := (i 0).isLt
    have hi1 : (i 1).val < 1280 := (i 1).isLt
    obtain ⟨t, ht⟩ : ∃ t : Fin cfg1.N, t.val = (i 0).val / 1024 := ⟨⟨(i 0).val / 1024, show _ < 40 by omega⟩, rfl⟩
    refine ⟨t, flush1_3 _, ?_⟩
    have hm := ((cfg1.win 3).blk t).view.emb_mem_set (ix2 ((i 0).val % 1024) (i 1).val (Nat.mod_lt _ (by decide)) hi1)
    refine (congrArg (· ∈ _) (funext fun a => Fin.ext ?_)).mp hm
    refine (Pipeline.Window.rect_emb_val win1_3 t _ a).trans ?_
    rw [(pt1 _).2.2.2]
    match a with
    | ⟨0, _⟩ => show t.val * 1024 + (i 0).val % 1024 = (i 0).val; omega
    | ⟨1, _⟩ => show 0 * 1280 + (i 1).val = (i 1).val; omega

theorem arr3 : (dat3 V O n d).arrAt 2 cfg3.N = hidden (F := F) (V (Proc.devRef .tc main_v22)) (V (Proc.devRef .tc main_v4)) := by
  refine (dat3 V O n d).arrAt_eq_of_cover 2 _ (fun t _ => ?_) fun i => ?_
  · funext y
    have e0 : ((win3_2.rect t).emb y 0 : ℕ) = t.val * 1024 + (y 0).val := by
      refine (Pipeline.Window.rect_emb_val win3_2 t y 0).trans ?_
      rw [(pt3 t).2.2.1]; rfl
    have e1 : ((win3_2.rect t).emb y 1 : ℕ) = (y 1).val := by
      refine (Pipeline.Window.rect_emb_val win3_2 t y 1).trans ?_
      rw [(pt3 t).2.2.1]; show 0 * 1280 + _ = _; omega
    exact (hidden_eq _ _ ((win3_2.rect t).emb y) t (win3_2.xinj (grid3.coords t) y) e0 e1).symm
  · have hi0 : (i 0).val < 5000 := (i 0).isLt
    have hi1 : (i 1).val < 1280 := (i 1).isLt
    obtain ⟨t, ht⟩ : ∃ t : Fin cfg3.N, t.val = (i 0).val / 1024 := ⟨⟨(i 0).val / 1024, show _ < 5 by omega⟩, rfl⟩
    have hc := cut3 t
    refine ⟨t, flush3_2 _, ?_⟩
    have hy0 : (i 0).val % 1024 < win3_2.xsize (grid3.coords t) 0 := by
      rw [hc]
      show _ < if t.val = 4 then 904 else 1024
      split <;> omega
    have hy1 : (i 1).val < win3_2.xsize (grid3.coords t) 1 := by
      rw [hc]
      exact hi1
    obtain ⟨y, y0, y1⟩ : ∃ y : (win3_2.xblock (grid3.coords t)).Idx, (y 0).val = (i 0).val % 1024 ∧ (y 1).val = (i 1).val :=
      ⟨fun a => match a with | ⟨0, _⟩ => ⟨(i 0).val % 1024, hy0⟩ | ⟨1, _⟩ => ⟨(i 1).val, hy1⟩, rfl, rfl⟩
    have hm := ((cfg3.win 2).blk t).view.emb_mem_set y
    refine (congrArg (· ∈ _) (funext fun a => Fin.ext ?_)).mp hm
    refine (Pipeline.Window.rect_emb_val win3_2 t y a).trans ?_
    rw [(pt3 _).2.2.1]
    match a with
    | ⟨0, _⟩ => show t.val * 1024 + (y 0).val = (i 0).val; omega
    | ⟨1, _⟩ => show 0 * 1280 + (y 1).val = (i 1).val; omega

theorem arr3' : (dat3 V O n d).arrAt 3 cfg3.N = maxAt (F := F) (V (Proc.devRef .tc main_v22)) (V (Proc.devRef .tc main_v4)) 5 := by
  refine (dat3 V O n d).arrAt_eq_of_cover 3 _ (fun t ht => ?_) fun i => ?_
  · have h4 : t.val = 4 := by have := (flush3_3 t).1 ht; have := lt3 t; omega
    funext y
    have e : (win3_3.rect t).emb y = y := by
      funext a
      refine Fin.ext ((Pipeline.Window.rect_emb_val win3_3 t y a).trans ?_)
      rw [(pt3 t).2.2.2]
      match a with
      | ⟨0, _⟩ => show 0 * 1 + (y 0).val = (y 0).val; omega
      | ⟨1, _⟩ => show 0 * 1280 + (y 1).val = (y 1).val; omega
    show fM V (t.val + 1) y = maxAt _ _ 5 ((win3_3.rect t).emb y)
    rw [h4]
    exact congrArg _ e.symm
  · refine ⟨⟨4, show 4 < 5 by decide⟩, (flush3_3 _).2 rfl, ?_⟩
    have hm := ((cfg3.win 3).blk ⟨4, show 4 < 5 by decide⟩).view.emb_mem_set i
    refine (congrArg (· ∈ _) (funext fun a => Fin.ext ?_)).mp hm
    refine (Pipeline.Window.rect_emb_val win3_3 _ _ a).trans ?_
    rw [(pt3 _).2.2.2]
    match a with
    | ⟨0, _⟩ => show 0 * 1 + (i 0).val = (i 0).val; omega
    | ⟨1, _⟩ => show 0 * 1280 + (i 1).val = (i 1).val; omega

end

end Cert.Proof.S2
-- ==== Proof.Calls.lean ====
/-
  The calls on the TensorCore, as the host runs them.
-/
module

public import proofs.«01_k».proof.Proof.Region
public import proofs.«01_k».proof.Proof.TcArr
public import proofs.«01_k».proof.Proof.Gen.KernelIdeal.Launch

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-- A core between its calls owes nothing at no stage. -/
theorem otc_none (d : Dev nD) (k : ℕ) (g : GSem nD τ sig) : (K (F := F)).Otc d k g none = 0 := by
  by_contra h
  have := (K (F := F)).lev_of_Otc_pos (d := d) (n := k) (g := g) (ι := none) (Nat.pos_of_ne_zero h)
  rw [show (K (F := F)).lev g none = 0 from rfl] at this
  omega

theorem dat1_rest (V : Valuation τ sig (Elt F)) (O : CellTallies nD τ sig (HIx 2)) (n : ℕ) (d : Dev nD) (t) : (dat1 V O n d).Φ t = Pipeline.scopedRest cfg1.spec d := rfl
theorem dat3_rest (V : Valuation τ sig (Elt F)) (O : CellTallies nD τ sig (HIx 2)) (n : ℕ) (d : Dev nD) (t) : (dat3 V O n d).Φ t = Pipeline.scopedRest cfg3.spec d := rfl

theorem shr {cfg : Pipeline.Cfg sig Λ₀} {d : Dev nD} (D : DatOf (F := F) cfg d) (w : Fin cfg.W) (h : ∀ w, D.q w = fullShare) : D.share w = fullShare := by
  unfold Pipeline.Dat.share
  split
  · rfl
  · exact h w

section
variable (W : Dev nD → Valuation τ sig (Elt F)) (k n : ℕ)

/-- Both calls' data, from what the arrays hold when the call is entered. -/
def pd : (p : Fin 2) → (c : Dev nD) → Pipeline.Dat τ (Elt F) (HIx 2) ℕ UU ℕ (Pipeline.pin (pcfgs (F := F)) ad p) c := fun p c =>
  match p with
  | 0 => dat1 (W c) ((K (F := F)).Otc c k) n c
  | 1 => dat3 (W c) ((K (F := F)).Otc c k) n c

set_option backward.isDefEq.respectTransparency.types false in
/-- The first call, entered with `S` held. -/
def reg0 (S : Finset (DevRef τ sig)) (hS : Pipeline.arrRefs (pcfgs (F := F) 0).spec ⊆ S) :=
  region (pd W k n) 0 (fun c => (K (F := F)).Otc c k) n S hS launch1.toP rfl (fun c => (obl1 (W c) _ n c).loose) (fun _ _ => rfl) (fun c g => otc_none c k g)
    (fun _ _ => rfl) (fun c w => shr _ w (fun _ => rfl)) (fun c t => dat1_rest (W c) _ n c t) W (fun _ _ => rfl)

set_option backward.isDefEq.respectTransparency.types false in
/-- The second call, entered with `S` held. -/
def reg1 (S : Finset (DevRef τ sig)) (hS : Pipeline.arrRefs (pcfgs (F := F) 1).spec ⊆ S) :=
  region (pd W k n) 1 (fun c => (K (F := F)).Otc c k) n S hS launch3.toP rfl (fun c => (obl3 (W c) _ n c).loose) (fun _ _ => rfl) (fun c g => otc_none c k g)
    (fun _ _ => rfl) (fun c w => shr _ w (fun _ => rfl)) (fun c t => dat3_rest (W c) _ n c t) W (fun _ _ => rfl)

variable [∀ e, Nonempty (Elt F e)]

/-- A call run by the host: `S` held at `W` when it is entered, and at what it leaves when it is done. -/
theorem wp_call (p : Fin 2) (d : Dev nD) (pre post : sProp 𝕄)
    (R : Pipeline.RegionSeg (pcfgs (F := F)) ad (pd W k n) none (defs₀ (F := F)) 𝒱₀ (K (F := F)).L (K (F := F)).lev p)
    (hpre : pre ⊢ R.pre d) (hpost : R.post d ⊢ post) (Φ : PUnit → sProp 𝕄) :
    iprop(levAts (K (F := F)).L (K (F := F)).lev ∗ boundary (T d) ∗ pre
        ∗ (Pipeline.cellsGhost cfgs (EP (F := F)) p d ∗ Pipeline.toksInit cfgs (EP (F := F)) p d) ∗ ((boundary (T d) ∗ post) -∗ Φ ⟨⟩))
      ⊢ wp frame (wpE ((K (F := F)).defs (D (F := F))) 𝒱 (T d) none) Set.univ
          (Prog.lift (.customCall (SparseCore.inner (Pipeline.entry p)) ()) : Prog (TpuEff nD τ sig (Elt F) (SparseCore.Sig (ΛP (F := F)) 2) .tc) PUnit) Φ := by
  have h := Pipeline.RegionSeg.wp (pcfgs (F := F)) ad (pd W k n) none cellOf_inj (EP (F := F)) (defs₀ (F := F)) 𝒱₀ (K (F := F)).L (K (F := F)).lev R d none
    (fun u hu => absurd hu (Option.not_mem_none u)) .ret Φ
  rw [wp_ret] at h
  suffices h0 : iprop(levAts (K (F := F)).L (K (F := F)).lev ∗ boundary (T d) ∗ pre
        ∗ (Pipeline.cellsGhost cfgs (EP (F := F)) p d ∗ Pipeline.toksInit cfgs (EP (F := F)) p d) ∗ ((boundary (T d) ∗ post) -∗ Φ ⟨⟩))
      ⊢ iprop((iprop(boundary (T d) ∗ R.post d) -∗ (|={Set.univ}=> Φ ⟨⟩)) ∗ boundary (T d) ∗ R.pre d ∗ levAts (K (F := F)).L (K (F := F)).lev
        ∗ Pipeline.cellsGhost cfgs (EP (F := F)) p d ∗ Pipeline.toksInit cfgs (EP (F := F)) p d)
    from BI.Entails.trans (BI.Entails.trans h0 h) ((K (F := F)).wp_liftProg (D (F := F)) 𝒱 (T d) Set.univ none (Prog.lift (.customCall (Pipeline.entry p) ())) Φ)
  iintro ⟨#HL, Hb, Hp, ⟨Hg, Ht⟩, Hk⟩
  isplitl [Hk]
  · iintro ⟨Hb, Hq⟩
    imodintro
    iapply Hk
    isplitl [Hb]; · iexact Hb
    iapply hpost; iexact Hq
  isplitl [Hb]; · iexact Hb
  isplitl [Hp]; · iapply hpre; iexact Hp
  isplitr; · iexact HL
  isplitl [Hg]; · iexact Hg
  iexact Ht

end

end Cert.Proof.S2
-- ==== Proof.S2Setup.lean ====
/-
  The second kernel's buffers, and the words its loops and offsets are computed from.
-/
module

public import proofs.«01_k».proof.Proof.Setup

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Cert.Proof.Setup

/-! ## The buffers -/

abbrev qM : Memref sig .scVector .hbm S40960x1280 .f32 := Memref.whole main_v19_scv
abbrev qtM : Memref sig .scVector .hbm S5x40960x2x128 .f32 := Memref.whole main_v21_scv
abbrev yM : Memref sig .scVector .hbm S5120x1280 .f32 := Memref.whole main_v22_scv
abbrev lgM : Memref sig .scVector .vmem S2048 .i32 := Memref.whole cc2_scratch0
abbrev lpM : Memref sig .scVector .vmem S2048 .i32 := Memref.whole cc2_scratch1
abbrev giM : Memref sig .scVector .vmem S1056 .i32 := Memref.whole cc2_scratch2
abbrev siM : Memref sig .scVector .vmem S1056 .i32 := Memref.whole cc2_scratch3
abbrev stM : Memref sig .scVector .vmem S5x32x2x128 .f32 := Memref.whole cc2_scratch4
abbrev slM : Memref sig .scVector .vmem S64x1280 .f32 := Memref.whole cc2_scratch5
abbrev c2M : Memref sig .scVector .vmem S16 .i32 := Memref.whole cc2_scratch6

/-- The tile at coordinates `L` of device `d`, as a thread. -/
abbrev cV1 (L : grid2.Coords) : Fin τ.nSC := (L 0).castLE hcore2
abbrev jV1 (L : grid2.Coords) : Fin τ.nSub := (L 1).castLE hsub2
abbrev tV1 (d : Dev nD) (L : grid2.Coords) : Thread nD τ := V d (cV1 L) (jV1 L)

/-- The tile's number. -/
abbrev wid1 (L : grid2.Coords) : ℕ := 2 * (L 1).val + (L 0).val

theorem wid1_lt (L : grid2.Coords) : wid1 L < 32 := by
  have h0 : (L 0).val < 2 := (L 0).isLt
  have h1 : (L 1).val < 16 := (L 1).isLt
  unfold wid1; omega

/-! ## Words of the batch loops -/

theorem half16 : ∀ t : Fin 128, (Scalar.muli (Scalar.remsi (Scf.iv 0#32 1#32 t) 2#32) 16#32).toNat = 16 * (t.val % 2) := by decide +kernel
theorem other16 : ∀ t : Fin 128, (Scalar.muli (Scalar.subi 1#32 (Scalar.remsi (Scf.iv 0#32 1#32 t) 2#32)) 16#32).toNat = 16 * (1 - t.val % 2) := by decide +kernel
theorem half1024 : ∀ t : Fin 128, (Scalar.muli (Scalar.remsi (Scf.iv 0#32 1#32 t) 2#32) 1024#32).toNat = 1024 * (t.val % 2) := by decide +kernel
theorem other1024 : ∀ t : Fin 128, (Scalar.muli (Scalar.subi 1#32 (Scalar.remsi (Scf.iv 0#32 1#32 t) 2#32)) 1024#32).toNat = 1024 * (1 - t.val % 2) := by decide +kernel
theorem next1024 : ∀ t : Fin 128, (Scalar.muli (Scalar.addi (Scf.iv 0#32 1#32 t) 1#32) 1024#32).toNat = 1024 * (t.val + 1) := by decide +kernel
theorem next16 : ∀ t : Fin 128, (Scalar.muli (Scalar.addi (Scf.iv 0#32 1#32 t) 1#32) 16#32).toNat = 16 * (t.val + 1) := by decide +kernel
theorem mul16 : ∀ t : Fin 128, (Scalar.muli (Scf.iv 0#32 1#32 t) 16#32).toNat = 16 * t.val := by decide +kernel

section
variable (v : BitVec 32) (t : Fin (k2_t4_loop v).trips) (ht : t.val < 128)
include ht

theorem off9_eq : k2_off9 v t = ![0, 16 * (t.val % 2), 0, 0] := by rw [← half16 ⟨t.val, ht⟩]; rfl
theorem off11_eq : k2_off11 v t = ![1, 16 * (t.val % 2), 0, 0] := by rw [← half16 ⟨t.val, ht⟩]; rfl
theorem off12_eq : k2_off12 v t = ![2, 16 * (t.val % 2), 0, 0] := by rw [← half16 ⟨t.val, ht⟩]; rfl
theorem off13_eq : k2_off13 v t = ![3, 16 * (t.val % 2), 0, 0] := by rw [← half16 ⟨t.val, ht⟩]; rfl
theorem off14_eq : k2_off14 v t = ![4, 16 * (t.val % 2), 0, 0] := by rw [← half16 ⟨t.val, ht⟩]; rfl
theorem off15_eq : k2_off15 v t = ![0, 16 * (1 - t.val % 2), 0, 0] := by rw [← other16 ⟨t.val, ht⟩]; rfl
theorem off17_eq : k2_off17 v t = ![1, 16 * (1 - t.val % 2), 0, 0] := by rw [← other16 ⟨t.val, ht⟩]; rfl
theorem off18_eq : k2_off18 v t = ![2, 16 * (1 - t.val % 2), 0, 0] := by rw [← other16 ⟨t.val, ht⟩]; rfl
theorem off19_eq : k2_off19 v t = ![3, 16 * (1 - t.val % 2), 0, 0] := by rw [← other16 ⟨t.val, ht⟩]; rfl
theorem off20_eq : k2_off20 v t = ![4, 16 * (1 - t.val % 2), 0, 0] := by rw [← other16 ⟨t.val, ht⟩]; rfl
theorem off10_eq : k2_off10 v t = ![16 * t.val] := by rw [← mul16 ⟨t.val, ht⟩]; rfl
theorem off16_eq : k2_off16 v t = ![16 * (t.val + 1)] := by rw [← next16 ⟨t.val, ht⟩]; rfl

theorem off21_eq (i : Fin k2_t5_loop.trips) : k2_off21 v t i = ![16 * t.val + i.val] := by
  have hi : i.val < 16 := i.isLt
  have h : ∀ (t : Fin 128) (i : Fin 16), (Scalar.indexCast (Scalar.addi (Scalar.muli (Scf.iv 0#32 1#32 t) 16#32) (Scf.iv 0#32 1#32 i))).toNat = 16 * t.val + i.val := by
    decide +kernel
  rw [← h ⟨t.val, ht⟩ ⟨i.val, hi⟩]; rfl

theorem off22_eq (i : Fin k2_t5_loop.trips) (j : Fin k2_t6_loop.trips) :
    k2_off22 v t i j = ![j.val / 16, 16 * (t.val % 2) + i.val, j.val / 8 % 2, 16 * (j.val % 8)] := by
  have hi : i.val < 16 := i.isLt
  have hj : j.val < 80 := j.isLt
  have h : ∀ (t : Fin 128) (i : Fin 16), (Scalar.indexCast (Scalar.addi (Scalar.muli (Scalar.remsi (Scf.iv 0#32 1#32 t) 2#32) 16#32) (Scf.iv 0#32 1#32 i))).toNat = 16 * (t.val % 2) + i.val := by
    decide +kernel
  have h1 : ∀ j : Fin 80, (Scalar.indexCast (Scalar.shrsi (Scf.iv 0#32 1#32 j) 4#32)).toNat = j.val / 16 := by decide +kernel
  have h2 : ∀ j : Fin 80, (Scalar.indexCast (Scalar.andi (Scalar.shrsi (Scf.iv 0#32 1#32 j) 3#32) 1#32)).toNat = j.val / 8 % 2 := by decide +kernel
  have h3 : ∀ j : Fin 80, (Scalar.indexCast (Scalar.muli (Scalar.andi (Scf.iv 0#32 1#32 j) 7#32) 16#32)).toNat = 16 * (j.val % 8) := by decide +kernel
  rw [← h ⟨t.val, ht⟩ ⟨i.val, hi⟩, ← h1 ⟨j.val, hj⟩, ← h2 ⟨j.val, hj⟩, ← h3 ⟨j.val, hj⟩]; rfl
end

theorem mul16' : ∀ j : Fin 80, (Scalar.indexCast (Scalar.muli (Scf.iv 0#32 1#32 j) 16#32)).toNat = 16 * j.val := by decide +kernel

theorem off23_eq (d : BitVec 32) (j : Fin k2_t6_loop.trips) : k2_off23 d j = ![d.toNat, 16 * j.val] := by
  have hj : j.val < 80 := j.isLt
  rw [← mul16' ⟨j.val, hj⟩]; rfl

theorem off79_eq (d : BitVec 32) (j : Fin k2_t19_loop.trips) : k2_off79 d j = ![d.toNat, 16 * j.val] := by
  have hj : j.val < 80 := j.isLt
  rw [← mul16' ⟨j.val, hj⟩]; rfl

theorem off77_eq (i : Fin k2_t18_loop.trips) : k2_off77 i = ![i.val] := by
  have hi : i.val < 16 := i.isLt
  have h : ∀ (i : Fin 16), (Scalar.indexCast (Scalar.addi 0#32 (Scf.iv 0#32 1#32 i))).toNat = i.val := by decide +kernel
  rw [← h ⟨i.val, hi⟩]; rfl

theorem off78_eq (i : Fin k2_t18_loop.trips) (j : Fin k2_t19_loop.trips) :
    k2_off78 i j = ![j.val / 16, i.val, j.val / 8 % 2, 16 * (j.val % 8)] := by
  have hi : i.val < 16 := i.isLt
  have hj : j.val < 80 := j.isLt
  have h : ∀ (i : Fin 16), (Scalar.indexCast (Scalar.addi 0#32 (Scf.iv 0#32 1#32 i))).toNat = i.val := by decide +kernel
  have h1 : ∀ j : Fin 80, (Scalar.indexCast (Scalar.shrsi (Scf.iv 0#32 1#32 j) 4#32)).toNat = j.val / 16 := by decide +kernel
  have h2 : ∀ j : Fin 80, (Scalar.indexCast (Scalar.andi (Scalar.shrsi (Scf.iv 0#32 1#32 j) 3#32) 1#32)).toNat = j.val / 8 % 2 := by decide +kernel
  have h3 : ∀ j : Fin 80, (Scalar.indexCast (Scalar.muli (Scalar.andi (Scf.iv 0#32 1#32 j) 7#32) 16#32)).toNat = 16 * (j.val % 8) := by decide +kernel
  rw [← h ⟨i.val, hi⟩, ← h1 ⟨j.val, hj⟩, ← h2 ⟨j.val, hj⟩, ← h3 ⟨j.val, hj⟩]; rfl

/-! ## The number of whole batches among `n` pending entries -/

theorem trips4 : ∀ n : Fin 1041, (k2_t4_loop (BitVec.ofNat 32 n.val)).trips = n.val / 16 := by decide +kernel
theorem trips7 : ∀ n : Fin 1041, (k2_t7_loop (BitVec.ofNat 32 n.val)).trips = 0 := by decide +kernel
theorem ok4 : ∀ n : Fin 1041, (k2_t4_loop (BitVec.ofNat 32 n.val)).OK := by decide +kernel
theorem ok7 : ∀ n : Fin 1041, (k2_t7_loop (BitVec.ofNat 32 n.val)).OK := by decide +kernel
theorem cond4_iff : ∀ n : Fin 1041, k2_cond4 (BitVec.ofNat 32 n.val) = 1#1 ↔ 0 < n.val / 16 := by decide +kernel
theorem off39_eq : ∀ n : Fin 1041, k2_off39 (BitVec.ofNat 32 n.val) = ![16 * (n.val / 16)] := by decide +kernel

/-- How many whole batches of sixteen there are among `v` entries, as the kernel computes it. -/
def fl16 (v : BitVec 32) : BitVec 32 :=
  Scalar.select (Scalar.andi (Scalar.cmpi .ne (Scalar.subi (Scalar.extui (Scalar.cmpi .sgt v 0#32)) (Scalar.extui (Scalar.cmpi .slt v 0#32)))
    (Scalar.subi (Scalar.extui (Scalar.cmpi .sgt (16#32 : BitVec 32) 0#32)) (Scalar.extui (Scalar.cmpi .slt (16#32 : BitVec 32) 0#32))))
    (Scalar.cmpi .ne (Scalar.remsi v 16#32) 0#32)) (Scalar.subi (Scalar.divsi v 16#32) 1#32) (Scalar.divsi v 16#32)

theorem fl16_eq : ∀ n : Fin 1041, fl16 (BitVec.ofNat 32 n.val) = BitVec.ofNat 32 (n.val / 16) := by decide +kernel

theorem cond5_iff (n : ℕ) (hn : n < 1041) (t : Fin (k2_t4_loop (BitVec.ofNat 32 n)).trips) :
    k2_cond5 (BitVec.ofNat 32 n) t = 1#1 ↔ t.val + 1 < n / 16 := by
  have ht : t.val < n / 16 := Nat.lt_of_lt_of_eq t.isLt (trips4 ⟨n, hn⟩)
  have h : ∀ (t m : Fin 66), Scalar.cmpi .ne (Scalar.extui (Scalar.cmpi .slt (Scalar.addi (Scf.iv 0#32 1#32 t.val) 1#32) (BitVec.ofNat 32 m.val)) : BitVec 32) 0#32 = 1#1 ↔ t.val + 1 < m.val := by
    decide +kernel
  refine Iff.trans ?_ (h ⟨t.val, by omega⟩ ⟨n / 16, by omega⟩)
  rw [← fl16_eq ⟨n, hn⟩]; rfl

theorem rest16 (n : ℕ) (hn : n < 1041) : Scalar.subi (BitVec.ofNat 32 n) (Scalar.muli (fl16 (BitVec.ofNat 32 n)) 16#32) = BitVec.ofNat 32 (n % 16) := by
  have h : ∀ n : Fin 1041, Scalar.subi (BitVec.ofNat 32 n.val) (Scalar.muli (fl16 (BitVec.ofNat 32 n.val)) 16#32) = BitVec.ofNat 32 (n.val % 16) := by
    decide +kernel
  exact h ⟨n, hn⟩

/-- Every offset of the batches of `n` pending entries lies in its buffer. -/
theorem chk4_of (L : grid2.Coords) (v6 : BitVec 32) (t1 : Fin k2_t1_loop.trips) (n : ℕ) (hn : n < 1041) : k2_chk4 L v6 t1 (BitVec.ofNat 32 n) := by
  have T4 : ∀ t : Fin (k2_t4_loop (BitVec.ofNat 32 n)).trips, t.val < 66 ∧ t.val < n / 16 := fun t => by
    have h : t.val < n / 16 := Nat.lt_of_lt_of_eq t.isLt (trips4 ⟨n, hn⟩)
    omega
  have N7 : ∀ t : Fin (k2_t7_loop (BitVec.ofNat 32 n)).trips, False := fun t => by
    exact Nat.not_lt_zero _ (Nat.lt_of_lt_of_eq t.isLt (trips7 ⟨n, hn⟩))
  have B4 : ∀ (k m : ℕ), k < 5 → m ≤ 1 → ∀ a : Fin 4, (![k, 16 * m, 0, 0] : Fin 4 → ℕ) a + S1x16x2x128.size a ≤ S5x32x2x128.size a := by
    intro k m hk hm a
    fin_cases a <;> simp [Shape.size] <;> omega
  have B1 : ∀ o : ℕ, o + 16 ≤ 1056 → ∀ a : Fin 1, (![o] : Fin 1 → ℕ) a + S16.size a ≤ S1056.size a := by
    intro o ho a
    fin_cases a; simpa [Shape.size] using ho
  have M : ∀ x : ℕ, x % 2 ≤ 1 := fun x => by omega
  have M' : ∀ x : ℕ, 1 - x % 2 ≤ 1 := fun x => by omega
  refine ⟨fun _ _ => ok4 ⟨n, hn⟩, fun t _ _ => ?_, fun t _ _ => ?_, fun t _ _ => ?_, fun t _ _ => ?_, fun t _ _ => ?_, fun t _ _ => ?_,
    fun t _ _ _ => ?_, fun t _ _ h5 => ?_, fun t _ _ _ => ?_, fun t _ _ _ => ?_, fun t _ _ _ => ?_, fun t _ _ _ => ?_, fun t i _ _ => ?_, fun t i j _ _ => ?_,
    fun _ _ => ok7 ⟨n, hn⟩, fun t => (N7 t).elim, fun t => (N7 t).elim, fun t => (N7 t).elim, fun t => (N7 t).elim, fun t => (N7 t).elim, fun t => (N7 t).elim,
    fun t => (N7 t).elim, fun t => (N7 t).elim, fun t => (N7 t).elim, fun t => (N7 t).elim, fun t => (N7 t).elim, fun t => (N7 t).elim, fun t => (N7 t).elim, fun t => (N7 t).elim, fun _ => ?_⟩
  · rw [off9_eq _ t (by have := T4 t; omega)]; exact B4 _ _ (by omega) (M _)
  · rw [off10_eq _ t (by have := T4 t; omega)]; exact B1 _ (by have := T4 t; omega)
  · rw [off11_eq _ t (by have := T4 t; omega)]; exact B4 _ _ (by omega) (M _)
  · rw [off12_eq _ t (by have := T4 t; omega)]; exact B4 _ _ (by omega) (M _)
  · rw [off13_eq _ t (by have := T4 t; omega)]; exact B4 _ _ (by omega) (M _)
  · rw [off14_eq _ t (by have := T4 t; omega)]; exact B4 _ _ (by omega) (M _)
  · rw [off15_eq _ t (by have := T4 t; omega)]; exact B4 _ _ (by omega) (M' _)
  · rw [off16_eq _ t (by have := T4 t; omega)]; exact B1 _ (by have := T4 t; have := (cond5_iff n hn t).1 h5; omega)
  · rw [off17_eq _ t (by have := T4 t; omega)]; exact B4 _ _ (by omega) (M' _)
  · rw [off18_eq _ t (by have := T4 t; omega)]; exact B4 _ _ (by omega) (M' _)
  · rw [off19_eq _ t (by have := T4 t; omega)]; exact B4 _ _ (by omega) (M' _)
  · rw [off20_eq _ t (by have := T4 t; omega)]; exact B4 _ _ (by omega) (M' _)
  · have hi : i.val < 16 := i.isLt
    rw [off21_eq _ t (by have := T4 t; omega)]; exact B1 _ (by have := T4 t; omega)
  · have hi : i.val < 16 := i.isLt
    have hj : j.val < 80 := j.isLt
    rw [off22_eq _ t (by have := T4 t; omega)]
    intro a
    fin_cases a <;> simp [Shape.size] <;> omega
  · rw [off39_eq ⟨n, hn⟩]; exact B1 _ (by show 16 * (n / 16) + 16 ≤ 1056; omega)

end Cert.Proof.S2
-- ==== Proof.S2Progs.lean ====
/-
  The second kernel's loop bodies and parts, at its own buffers.
-/
module

public import proofs.«01_k».proof.Proof.S2Setup
public import proofs.«01_k».proof.Proof.Gen.KernelIdeal.Skeleton

@[expose] public section

noncomputable section

namespace Cert.Proof.S2

open Cert.KernelIdeal Cert.KernelIdeal.Gen
open Idealize.ShloMosaic
open Idealize.ShloMosaic.SparseCore (S V T)
open Cert.Proof.Setup

variable {F : FTy → Type} [FloatOps F]

abbrev B6 (L : grid2.Coords) (v2 : IVec S16 32) (v6 : BitVec 32) (k2_hw1 : k2_chk1 L v6) (v23 : BitVec 32) (k2_t1 : Fin k2_t1_loop.trips) (v26 : BitVec 32) (v29 : BitVec 32) (k2_h1 : k2_cond1 L v6 k2_t1 = 1#1) (v89 : BitVec 32) (k2_hw4 : k2_chk4 L v6 k2_t1 v89) (k2_h4 : k2_cond4 v89 = 1#1) (k2_t4 : Fin (k2_t4_loop v89).trips) (k2_t5 : Fin k2_t5_loop.trips) (v200 : BitVec 32) (k2_hw5 : k2_chk5 L v6 k2_t1 v89 v200) :=
  k2_t6_body (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v2 v6 k2_hw1 v23 k2_t1 v26 v29 k2_h1 v89 k2_hw4 k2_h4 k2_t4 k2_t5 v200 k2_hw5

abbrev B5 (L : grid2.Coords) (v2 : IVec S16 32) (v6 : BitVec 32) (k2_hw1 : k2_chk1 L v6) (v23 : BitVec 32) (k2_t1 : Fin k2_t1_loop.trips) (v26 : BitVec 32) (v29 : BitVec 32) (k2_h1 : k2_cond1 L v6 k2_t1 = 1#1) (v89 : BitVec 32) (k2_hw4 : k2_chk4 L v6 k2_t1 v89) (k2_h4 : k2_cond4 v89 = 1#1) (k2_t4 : Fin (k2_t4_loop v89).trips) :=
  k2_t5_body (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v2 v6 k2_hw1 v23 k2_t1 v26 v29 k2_h1 v89 k2_hw4 k2_h4 k2_t4

abbrev B4 (L : grid2.Coords) (v2 : IVec S16 32) (v6 : BitVec 32) (k2_hw1 : k2_chk1 L v6) (v23 : BitVec 32) (k2_t1 : Fin k2_t1_loop.trips) (v26 : BitVec 32) (v29 : BitVec 32) (k2_h1 : k2_cond1 L v6 k2_t1 = 1#1) (v89 : BitVec 32) (k2_hw4 : k2_chk4 L v6 k2_t1 v89) (k2_h4 : k2_cond4 v89 = 1#1) :=
  k2_t4_body (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v2 v6 k2_hw1 v23 k2_t1 v26 v29 k2_h1 v89 k2_hw4 k2_h4

abbrev B3 (L : grid2.Coords) (v2 : IVec S16 32) (v6 : BitVec 32) (k2_hw1 : k2_chk1 L v6) (v23 : BitVec 32) (k2_t1 : Fin k2_t1_loop.trips) (v26 : BitVec 32) (k2_h1 : k2_cond1 L v6 k2_t1 = 1#1) (c0_i32_22 : BitVec 32) (c1_i32_25 : BitVec 32) (k2_t2 : Fin (k2_t2_loop v6).trips) (arg23 : BitVec 32) :=
  k2_t3_body (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v2 v6 k2_hw1 v23 k2_t1 v26 k2_h1 c0_i32_22 c1_i32_25 k2_t2 arg23

abbrev B2 (L : grid2.Coords) (v2 : IVec S16 32) (v6 : BitVec 32) (k2_hw1 : k2_chk1 L v6) (v23 : BitVec 32) (k2_t1 : Fin k2_t1_loop.trips) (v26 : BitVec 32) (v29 : BitVec 32) (k2_h1 : k2_cond1 L v6 k2_t1 = 1#1) :=
  k2_t2_body (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v2 v6 k2_hw1 v23 k2_t1 v26 v29 k2_h1

abbrev B1 (L : grid2.Coords) (v1 : BitVec 32) (v2 : IVec S16 32) (v6 : BitVec 32) (k2_hw1 : k2_chk1 L v6) (v23 : BitVec 32) :=
  k2_t1_body (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v1 v2 v6 k2_hw1 v23

abbrev B19 (L : grid2.Coords) (v6 : BitVec 32) (k2_t1 : Fin k2_t1_loop.trips) (k2_h1 : k2_cond1 L v6 k2_t1 = 1#1) (v59 : BitVec 32) (k2_h12 : k2_cond12 v59 = 1#1) (k2_t18 : Fin k2_t18_loop.trips) (v133 : BitVec 32) (k2_hw13 : k2_chk13 L v6 k2_t1 v59 v133) :=
  k2_t19_body (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v6 k2_t1 k2_h1 v59 k2_h12 k2_t18 v133 k2_hw13

abbrev B18 (L : grid2.Coords) (v6 : BitVec 32) (k2_t1 : Fin k2_t1_loop.trips) (k2_h1 : k2_cond1 L v6 k2_t1 = 1#1) (v59 : BitVec 32) (k2_h12 : k2_cond12 v59 = 1#1) :=
  k2_t18_body (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v6 k2_t1 k2_h1 v59 k2_h12

abbrev P1 (L : grid2.Coords) (v6 : BitVec 32) (k2_t1 : Fin k2_t1_loop.trips) (k2_h1 : k2_cond1 L v6 k2_t1 = 1#1) (v89 : BitVec 32) (k2_hw4 : k2_chk4 L v6 k2_t1 v89) (k2_h4 : k2_cond4 v89 = 1#1) (k2_t4 : Fin (k2_t4_loop v89).trips) (arg24 : BitVec 32) (v153 : BitVec 32) (k2_h5 : k2_cond5 v89 k2_t4 = 1#1) :=
  k2_part1_skel (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v6 k2_t1 k2_h1 v89 k2_hw4 k2_h4 k2_t4 arg24 v153 k2_h5

abbrev P2 (L : grid2.Coords) (v6 : BitVec 32) (k2_t1 : Fin k2_t1_loop.trips) (k2_h1 : k2_cond1 L v6 k2_t1 = 1#1) (v89 : BitVec 32) (k2_hw4 : k2_chk4 L v6 k2_t1 v89) (k2_h4 : k2_cond4 v89 = 1#1) (c0_i32_117 : BitVec 32) (c1_i32_119 : BitVec 32) (k2_t4 : Fin (k2_t4_loop v89).trips) :=
  k2_part2_skel (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v6 k2_t1 k2_h1 v89 k2_hw4 k2_h4 c0_i32_117 c1_i32_119 k2_t4

abbrev P5 (L : grid2.Coords) :=
  k2_part5_skel (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4

abbrev P6 (L : grid2.Coords) (v2 : IVec S16 32) (v6 : BitVec 32) (k2_hw1 : k2_chk1 L v6) (v23 : BitVec 32) (k2_t1 : Fin k2_t1_loop.trips) (v26 : BitVec 32) (k2_h1 : k2_cond1 L v6 k2_t1 = 1#1) (c0_i32_22 : BitVec 32) (c1_i32_25 : BitVec 32) (k2_t2 : Fin (k2_t2_loop v6).trips) (arg23 : BitVec 32) :=
  k2_part6_skel (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v2 v6 k2_hw1 v23 k2_t1 v26 k2_h1 c0_i32_22 c1_i32_25 k2_t2 arg23

abbrev P13 (L : grid2.Coords) :=
  k2_part13_skel (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4

abbrev P14 (L : grid2.Coords) :=
  k2_part14_skel (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4

abbrev P15 (L : grid2.Coords) :=
  k2_part15_skel (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4

abbrev P16 (L : grid2.Coords) (v2 : IVec S16 32) (v6 : BitVec 32) (k2_hw1 : k2_chk1 L v6) (v23 : BitVec 32) (k2_t1 : Fin k2_t1_loop.trips) (v26 : BitVec 32) (v29 : BitVec 32) (k2_h1 : k2_cond1 L v6 k2_t1 = 1#1) :=
  k2_part16_skel (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4 v2 v6 k2_hw1 v23 k2_t1 v26 v29 k2_h1

/-- The second kernel's body at its own buffers. -/
abbrev BS2 (L : grid2.Coords) :=
  cc2__s2_body (F := F) L qM (Memref.isWhole_whole _) qtM (Memref.isWhole_whole _) grM (Memref.isWhole_whole _) prM (Memref.isWhole_whole _)
    cnM (Memref.isWhole_whole _) yM (Memref.isWhole_whole _) lgM (Memref.isWhole_whole _) lpM (Memref.isWhole_whole _) giM (Memref.isWhole_whole _)
    siM (Memref.isWhole_whole _) stM (Memref.isWhole_whole _) slM (Memref.isWhole_whole _) c2M (Memref.isWhole_whole _) cc2_scratch7 cc2_scratch8
    cc2_scratch9 cc2_scratch10 cc2_scratch11 cc2_scratch12 cc2_scoped0 cc2_scoped1 cc2_scoped2 cc2_scoped3 cc2_scoped4

end Cert.Proof.S2
-- ==== Proof.S2Scan.lean ====
/-
  The second kernel's scan of a page of its list: the entries that are the pass's are put at the end of the pending ones.
-/
module

public import proofs.«01_k».proof.Proof.S2Progs
public import proofs.«01_k».proof.Proof.Model
public import proofs.«01_k».proof.Proof.Words
public import proofs.«01_k».proof.Proof.Setup

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## The words of one group -/

/-- The row within the pass's slab that place `x` names. -/
def dl (p : ℕ) (x : BitVec 32) : BitVec 32 := x - BitVec.ofNat 32 p * 64#32

/-- Whether place `x` is one of pass `p`'s. -/
def inP (p : ℕ) (x : BitVec 32) : Bool := decide ((dl p x).toNat < 64)

theorem small_iff (x : BitVec 32) : (IntOp.andi (IntOp.cmpi .sge x 0#32) (IntOp.cmpi .slt x 64#32) : BitVec 1) = 1#1 ↔ x.toNat < 64 := by
  have e : (IntOp.andi (IntOp.cmpi .sge x 0#32) (IntOp.cmpi .slt x 64#32) : BitVec 1) = BitVec.ofBool ((0#32).sle x && x.slt 64#32) := by
    show BitVec.ofBool ((0#32).sle x) &&& BitVec.ofBool (x.slt 64#32) = _
    cases (0#32).sle x <;> cases x.slt 64#32 <;> rfl
  rw [e]
  have h2 : ((0#32).sle x && x.slt 64#32) = decide (x.toNat < 64) := by
    rw [BitVec.sle_eq_decide, BitVec.slt_eq_decide, ← Bool.decide_and]
    refine decide_eq_decide.2 ?_
    have := x.isLt
    rw [BitVec.toInt_eq_toNat_cond (x := x), show (0#32).toInt = 0 from rfl, show (64#32).toInt = 64 from rfl]
    split <;> omega
  rw [h2]
  by_cases h : x.toNat < 64 <;> simp [h]

theorem dloc_eq (p : ℕ) (v : Vec F S16 .i32) (x : S16.Idx) : k2_pay6 (F := F) (BitVec.ofNat 32 p) v x = dl p (v x) := rfl

theorem mask_iff (p : ℕ) (v : Vec F S16 .i32) (k : Fin 16) : k2_pay7 (F := F) (BitVec.ofNat 32 p) v (lane k) = 1#1 ↔ inP p (v (lane k)) = true := by
  refine (small_iff (dl p (v (lane k)))).trans ?_
  unfold inP
  exact decide_eq_true_iff.symm

theorem pay11_eq (v26 c : BitVec 32) (v : Vec F S16 .i32) :
    k2_pay11 (F := F) (iota .scVector S16 32 [0] iota_S16_d0_w32_scVector) v26 c v = slots c 1040#32 (k2_pay7 v26 v) := rfl

theorem extract_last (v26 : BitVec 32) (v : Vec F S16 .i32) :
    extractAt ![0] (k2_pay10 (F := F) v26 v) inpos_S1_p0 = BitVec.ofNat 32 (marked (k2_pay7 (F := F) v26 v) 16).length := by
  refine Eq.trans ?_ (scan_eq (k2_pay7 (F := F) v26 v) 15)
  unfold k2_pay10 extractAt extractStridedSlice
  show k2_pay9 (F := F) v26 v _ = k2_pay9 (F := F) v26 v (lane 15)
  exact congrArg (k2_pay9 (F := F) v26 v) (funext fun a => by match a with | ⟨0, _⟩ => rfl)

theorem pay12_eq (v26 : BitVec 32) (v : Vec F S16 .i32) : k2_pay12 (F := F) v26 v = k2_pay10 v26 v := rfl

theorem cond3_iff (n : ℕ) (hn : n ≤ 16) : k2_cond3 (BitVec.ofNat 32 n) = 1#1 ↔ 0 < n := by
  interval_cases n <;> decide

/-! ## The pass's entries -/

section
variable (p : ℕ) (G P : ℕ → BitVec 32)

/-- The message rows, and the slab rows, of the first `n` words of the list that are pass `p`'s. -/
def entsG (n : ℕ) : List (BitVec 32) := ((List.range n).filter fun i => inP p (P i)).map G
def entsD (n : ℕ) : List (BitVec 32) := ((List.range n).filter fun i => inP p (P i)).map fun i => dl p (P i)

theorem ents_length (n : ℕ) : (entsD p P n).length = (entsG p G P n).length := by simp [entsG, entsD]

theorem entsG_length_add (n k : ℕ) : (entsG p G P (n + k)).length ≤ (entsG p G P n).length + k := by
  unfold entsG
  rw [List.length_map, List.length_map, List.range_add, List.filter_append, List.length_append]
  have := List.length_filter_le (fun i => inP p (P i)) ((List.range k).map (fun x => n + x))
  simp at this ⊢; omega

theorem entsG_mono (n k : ℕ) : (entsG p G P n).length ≤ (entsG p G P (n + k)).length := by
  unfold entsG
  rw [List.length_map, List.length_map, List.range_add, List.filter_append, List.length_append]; omega

theorem ents_step (n o : ℕ) (m : IVec S16 1) (vg vd : S16.Idx → BitVec 32)
    (hm : ∀ k : Fin 16, m (lane k) = 1#1 ↔ inP p (P (n + k.val)) = true)
    (hvg : ∀ k : Fin 16, vg (lane k) = G (n + k.val)) (hvd : ∀ k : Fin 16, vd (lane k) = dl p (P (n + k.val)))
    (ho : o ≤ (entsG p G P n).length) :
    (entsG p G P (n + 16)).drop o = (entsG p G P n).drop o ++ sel m vg
      ∧ (entsD p P (n + 16)).drop o = (entsD p P n).drop o ++ sel m vd
      ∧ (entsG p G P (n + 16)).length - o = ((entsG p G P n).length - o) + (marked m 16).length := by
  have hg : entsG p G P (n + 16) = entsG p G P n ++ sel m vg := filter_range_step (fun i => inP p (P i)) G n m vg hm (fun k _ => hvg k)
  have hd : entsD p P (n + 16) = entsD p P n ++ sel m vd := filter_range_step (fun i => inP p (P i)) (fun i => dl p (P i)) n m vd hm (fun k _ => hvd k)
  have hl := ents_length p G P n
  refine ⟨?_, ?_, ?_⟩
  · rw [hg, List.drop_append_of_le_length ho]
  · rw [hd, List.drop_append_of_le_length (by omega)]
  · rw [hg, List.length_append, sel_length]; omega
end

/-- What the pending lists hold after `n` words, `o` entries being added already. -/
def PendS (p : ℕ) (G P : ℕ → BitVec 32) (n o : ℕ) (acc : BitVec 32) (fg fi : S1056.Idx → BitVec 32) : Prop :=
  acc = BitVec.ofNat 32 ((entsG p G P n).length - o) ∧ Holds fg ((entsG p G P n).drop o) ∧ Holds fi ((entsD p P n).drop o)

/-! ## The list buffers' two halves -/

/-- Half `b` of a list buffer. -/
def hl (b : ℕ) : Finset S2048.Idx := Finset.univ.filter fun j => (j 0).val / 1024 = b

theorem mem_hl {b : ℕ} {j : S2048.Idx} : j ∈ hl b ↔ (j 0).val / 1024 = b := by simp [hl]

/-- Half `b` of a list buffer holds page `e` of the list. -/
def PageIs (G : ℕ → BitVec 32) (b e : ℕ) (f : S2048.Idx → BitVec 32) : Prop := ∀ j, j < 1024 → at1 f (1024 * b + j) = G (1024 * e + j)

theorem off7_eq (v6 : BitVec 32) (t2 : Fin (k2_t2_loop v6).trips) (ht : t2.val < 128) (t3 : Fin k2_t3_loop.trips) : k2_off7 v6 t2 t3 = ![1024 * (t2.val % 2) + 16 * t3.val] := by
  have h3 : t3.val < 64 := t3.isLt
  have h : ∀ (t : Fin 128) (j : Fin 64), (Scalar.indexCast (Scalar.addi (Scalar.muli (Scalar.remsi (Scf.iv 0#32 1#32 t) 2#32) 1024#32) (Scalar.muli (Scf.iv 0#32 1#32 j) 16#32))).toNat
      = 1024 * (t.val % 2) + 16 * j.val := by decide +kernel
  rw [← h ⟨t2.val, ht⟩ ⟨t3.val, h3⟩]; rfl

theorem off8_eq (v6 : BitVec 32) (t2 : Fin (k2_t2_loop v6).trips) (ht : t2.val < 128) (t3 : Fin k2_t3_loop.trips) : k2_off8 v6 t2 t3 = ![1024 * (t2.val % 2) + 16 * t3.val] :=
  off7_eq v6 t2 ht t3

variable (d : Dev nD) (L : grid2.Coords)

/-- Loading sixteen words of a half of a list buffer. -/
theorem wp_ldL {α : Type} {Q : α → sProp (MM F)} {m : Memref sig .scVector .vmem S2048 .i32} {off : Fin 1 → ℕ} {inb} {lo}
    {kk : (Shape.Idx ⟨1, ![16]⟩ → Elt F .i32) → Prog (TpuEff nD τ sig (Elt F) Λ₀ (tV1 d L).2) α}
    {f : Buf (Elt F) (m.view.loc (tV1 d L))} {S : Finset (Idx (m.view.loc (tV1 d L)))} (hS : (m.access (Rect.unit (s := S2048) off S16.size inb)).set ⊆ S) :
    (m.view.loc (tV1 d L) ↦[S]{fullShare} f)
      ⊢ iprop((∀ w : Shape.Idx ⟨1, ![16]⟩ → Elt F .i32,
            ⌜∀ j, j < 16 → at1 (α := BitVec 32) w j = at1 (α := BitVec 32) (m.view.read (Elt F) f) (off 0 + j)⌝ -∗ (m.view.loc (tV1 d L) ↦[S]{fullShare} f)
          -∗ wp frame (wpE (defs₀ (F := F)) 𝒱₀ (tV1 d L) none) Set.univ (kk w) Q)
        -∗ wp frame (wpE (defs₀ (F := F)) 𝒱₀ (tV1 d L) none) Set.univ (.op (.load m (Rect.unit (s := S2048) off S16.size inb).toLoadRect lo) kk) Q) := by
  iintro H Hk
  iapply (wp_loadR (tV1 d L) (m := m) (r := Rect.unit (s := S2048) off S16.size inb) (k := kk) (f := f) (S := S) hS) $$ [H]
  · iexact H
  iintro %w %hw H
  iapply Hk $$ %w %_ H
  intro j hj
  rw [hw]
  exact read1 (Val := Elt F) (e := .i32) m.view off inb f j hj

theorem unit_hl {b x : ℕ} (hx : x + 16 ≤ 1024) {off : Fin 1 → ℕ} (hoff : off = ![1024 * b + x]) (inb) :
    (Rect.unit (s := S2048) off S16.size inb).set ⊆ hl b := by
  subst hoff
  intro j hj
  have h0 := (Rect.mem_set_unit.1 hj) 0
  rw [mem_hl]
  simp at h0
  omega

theorem lg_sub {b x : ℕ} (hx : x + 16 ≤ 1024) {off : Fin 1 → ℕ} (hoff : off = ![1024 * b + x]) (inb) :
    (lgM.access (Rect.unit (s := S2048) off S16.size inb)).set ⊆ hl b := by
  rw [show (lgM.access (Rect.unit (s := S2048) off S16.size inb)).set = (Rect.unit (s := S2048) off S16.size inb).set from View.set_slice_whole _ _]
  exact unit_hl hx hoff inb

theorem lp_sub {b x : ℕ} (hx : x + 16 ≤ 1024) {off : Fin 1 → ℕ} (hoff : off = ![1024 * b + x]) (inb) :
    (lpM.access (Rect.unit (s := S2048) off S16.size inb)).set ⊆ hl b := by
  rw [show (lpM.access (Rect.unit (s := S2048) off S16.size inb)).set = (Rect.unit (s := S2048) off S16.size inb).set from View.set_slice_whole _ _]
  exact unit_hl hx hoff inb

/-- The scan's invariant: `b` groups of sixteen words of page `e` scanned. -/
def I3 (p : ℕ) (G P : ℕ → BitVec 32) (e o : ℕ) (fl : Buf (Elt F) (lgM.view.loc (tV1 d L))) (fm : Buf (Elt F) (lpM.view.loc (tV1 d L))) (b : ℕ) (acc : BitVec 32) : sProp 𝕄 :=
  iprop(∃ (fg : Buf (Elt F) (giM.view.loc (tV1 d L))) (fi : Buf (Elt F) (siM.view.loc (tV1 d L))),
    ⌜PendS p G P (1024 * e + 16 * b) o acc fg fi⌝
    ∗ (giM.view.loc (tV1 d L) ↦{fullShare} fg) ∗ (siM.view.loc (tV1 d L) ↦{fullShare} fi)
    ∗ (lgM.view.loc (tV1 d L) ↦[hl (e % 2)]{fullShare} fl) ∗ (lpM.view.loc (tV1 d L) ↦[hl (e % 2)]{fullShare} fm))

theorem scan_trip (v6 : BitVec 32) (hw1 : k2_chk1 L v6) (v23 : BitVec 32) (t1 : Fin k2_t1_loop.trips) (p : ℕ)
    (h1 : k2_cond1 L v6 t1 = 1#1) (c0 c1 : BitVec 32) (t2 : Fin (k2_t2_loop v6).trips) (ht2 : t2.val < 128) (arg23 : BitVec 32)
    (G P : ℕ → BitVec 32) (o : ℕ) (fl : Buf (Elt F) (lgM.view.loc (tV1 d L))) (fm : Buf (Elt F) (lpM.view.loc (tV1 d L)))
    (hfl : PageIs G (t2.val % 2) t2.val fl) (hfm : PageIs P (t2.val % 2) t2.val fm)
    (ho : o ≤ (entsG p G P (1024 * t2.val)).length) (ho' : (entsG p G P (1024 * t2.val)).length < o + 16)
    (t3 : Fin k2_t3_loop.trips) (acc : BitVec 32) :
    I3 (F := F) d L p G P t2.val o fl fm t3.val acc
      ⊢ wp frame (wpE (defs₀ (F := F)) 𝒱₀ (tV1 d L) none) Set.univ
          (B3 L (iota .scVector S16 32 [0] iota_S16_d0_w32_scVector) v6 hw1 v23 t1 (BitVec.ofNat 32 p) h1 c0 c1 t2 arg23 t3 acc)
          (I3 (F := F) d L p G P t2.val o fl fm (t3.val + 1)) := by
  have ht3 : t3.val < 64 := t3.isLt
  unfold B3 k2_t3_body
  simp only [Prog.lift, Prog.bind_op, Prog.bind_ret, Prog.pure_eq_ret]
  unfold I3
  iintro ⟨%fg, %fi, %hP, Hg, Hi, Hl, Hm⟩
  iapply (wp_ldL d L (m := lpM) (S := hl (t2.val % 2)) (lp_sub (x := 16 * t3.val) (by omega) (off7_eq v6 t2 ht2 t3) _)) $$ [Hm]
  · iexact Hm
  iintro %v121 %hv Hm
  have hv' : ∀ k : Fin 16, v121 (lane k) = P (1024 * t2.val + 16 * t3.val + k.val) := by
    intro k
    have hk := k.isLt
    refine (at1_of (n := 16) v121 (lane k) k.val rfl).trans ?_
    refine (hv k.val hk).trans ?_
    rw [off7_eq v6 t2 ht2 t3]
    have := hfm (16 * t3.val + k.val) (by omega)
    rw [show 1024 * (t2.val % 2) + (16 * t3.val + k.val) = 1024 * (t2.val % 2) + 16 * t3.val + k.val by ring,
      show 1024 * t2.val + (16 * t3.val + k.val) = 1024 * t2.val + 16 * t3.val + k.val by ring] at this
    exact this
  have hm : ∀ k : Fin 16, k2_pay7 (F := F) (BitVec.ofNat 32 p) v121 (lane k) = 1#1 ↔ inP p (P (1024 * t2.val + 16 * t3.val + k.val)) = true :=
    fun k => by rw [← hv']; exact mask_iff p v121 k
  obtain ⟨rfl, hHg, hHi⟩ := hP
  have hlen := entsG_length_add p G P (1024 * t2.val) (16 * t3.val)
  have hmono := entsG_mono p G P (1024 * t2.val) (16 * t3.val)
  have hmk := marked_length_le (k2_pay7 (F := F) (BitVec.ofNat 32 p) v121) 16 (le_refl _)
  have hvd : ∀ k : Fin 16, k2_pay6 (F := F) (BitVec.ofNat 32 p) v121 (lane k) = dl p (P (1024 * t2.val + 16 * t3.val + k.val)) := by
    intro k
    rw [← hv' k]; rfl
  have hcnt := extract_last (F := F) (BitVec.ofNat 32 p) v121
  have hadd : Scalar.addi (BitVec.ofNat 32 ((entsG p G P (1024 * t2.val + 16 * t3.val)).length - o))
      (BitVec.ofNat 32 (marked (k2_pay7 (F := F) (BitVec.ofNat 32 p) v121) 16).length)
      = BitVec.ofNat 32 ((entsG p G P (1024 * t2.val + 16 * t3.val)).length - o + (marked (k2_pay7 (F := F) (BitVec.ofNat 32 p) v121) 16).length) := by
    simp only [Scalar.addi, IntOp.addi]; exact (BitVec.ofNat_add _ _).symm
  have hno : 1024 * t2.val + 16 * (t3.val + 1) = 1024 * t2.val + 16 * t3.val + 16 := by ring
  have hchk2 : k2_chk2 L v6 t1 t2 t3 (extractAt ![0] (k2_pay10 (F := F) (BitVec.ofNat 32 p) v121) inpos_S1_p0) := by
    intro _ _ a
    rw [off8_eq v6 t2 ht2 t3, Fin.eq_zero a]
    show 1024 * (t2.val % 2) + 16 * t3.val + 16 ≤ 2048
    omega
  iapply (wp_assume 𝒱₀ (tV1 d L) none Set.univ hchk2)
  by_cases hc : k2_cond3 (extractAt ![0] (k2_pay10 (F := F) (BitVec.ofNat 32 p) v121) inpos_S1_p0) = 1#1
  · rw [dif_pos hc]
    iapply (wp_ldL d L (m := lgM) (S := hl (t2.val % 2)) (lg_sub (x := 16 * t3.val) (by omega) (off8_eq v6 t2 ht2 t3) _)) $$ [Hl]
    · iexact Hl
    iintro %v144 %hw Hl
    have hvg : ∀ k : Fin 16, v144 (lane k) = G (1024 * t2.val + 16 * t3.val + k.val) := by
      intro k
      have hk := k.isLt
      refine (at1_of (n := 16) v144 (lane k) k.val rfl).trans ?_
      refine (hw k.val hk).trans ?_
      rw [off8_eq v6 t2 ht2 t3]
      have := hfl (16 * t3.val + k.val) (by omega)
      rw [show 1024 * (t2.val % 2) + (16 * t3.val + k.val) = 1024 * (t2.val % 2) + 16 * t3.val + k.val by ring,
        show 1024 * t2.val + (16 * t3.val + k.val) = 1024 * t2.val + 16 * t3.val + k.val by ring] at this
      exact this
    have hs := ents_step p G P (1024 * t2.val + 16 * t3.val) o _ _ _ hm hvg hvd (by omega)
    have hchk : k2_chk3 L v6 t1 (extractAt ![0] (k2_pay10 (F := F) (BitVec.ofNat 32 p) v121) inpos_S1_p0)
        (k2_pay11 (iota .scVector S16 32 [0] iota_S16_d0_w32_scVector) (BitVec.ofNat 32 p) (BitVec.ofNat 32 ((entsG p G P (1024 * t2.val + 16 * t3.val)).length - o)) v121) := by
      have hlt : ∀ a x, ((![k2_pay11 (iota .scVector S16 32 [0] iota_S16_d0_w32_scVector) (BitVec.ofNat 32 p) (BitVec.ofNat 32 ((entsG p G P (1024 * t2.val + 16 * t3.val)).length - o)) v121] : Fin 1 → IVec S16 32) a x).toNat < S1056.size a := by
        intro a x
        rw [Fin.eq_zero a]
        exact slots_lt _ 1040 1056 _ (by omega) (by omega) (by omega) x
      exact ⟨fun _ _ => hlt, fun _ _ => hlt⟩
    iapply (wp_assume 𝒱₀ (tV1 d L) none Set.univ hchk)
    iapply (wp_scatter (tV1 d L) (Memref.set_access_whole _)) $$ [Hg]
    · iexact Hg
    iintro %fg' %hfg' Hg
    iapply (wp_scatter (tV1 d L) (Memref.set_access_whole _)) $$ [Hi]
    · iexact Hi
    iintro %fi' %hfi' Hi
    rw [wp_ret, pay12_eq, hcnt, hadd, hno]
    iexists fg'
    iexists fi'
    isplitr
    · ipureintro
      have hl := ents_length p G P (1024 * t2.val + 16 * t3.val)
      refine ⟨by rw [hs.2.2], ?_, ?_⟩
      · rw [hs.1, show fg' = _ from hfg']
        exact storeIdx_holds (F := F) (n := 1056) fg _ _ _ 1040 _ (by rw [List.length_drop]) (by omega) (by omega) (by omega) hHg _
      · rw [hs.2.1, show fi' = _ from hfi']
        exact storeIdx_holds (F := F) (n := 1056) fi _ _ _ 1040 _ (by rw [List.length_drop, hl]) (by omega) (by omega) (by omega) hHi _
    · isplitl [Hg]; · iexact Hg
      isplitl [Hi]; · iexact Hi
      isplitl [Hl]; · iexact Hl
      iexact Hm
  · rw [dif_neg hc, wp_ret, pay12_eq, hcnt, hadd, hno]
    have hz : (marked (k2_pay7 (F := F) (BitVec.ofNat 32 p) v121) 16).length = 0 := by
      by_contra h
      exact hc (by rw [hcnt]; exact (cond3_iff _ hmk).2 (by omega))
    have hs := ents_step p G P (1024 * t2.val + 16 * t3.val) o _ (fun x => G (1024 * t2.val + 16 * t3.val + (x 0).val)) _ hm (fun _ => rfl) hvd (by omega)
    iexists fg
    iexists fi
    isplitr
    rotate_left
    · isplitl [Hg]; · iexact Hg
      isplitl [Hi]; · iexact Hi
      isplitl [Hl]; · iexact Hl
      iexact Hm
    ipureintro
    have hsel : ∀ v : S16.Idx → BitVec 32, sel (k2_pay7 (F := F) (BitVec.ofNat 32 p) v121) v = [] := fun v => by
      rw [← List.length_eq_zero_iff, sel_length]; exact hz
    rw [hsel, List.append_nil] at hs
    rw [hsel, List.append_nil] at hs
    exact ⟨by rw [hs.2.2], by rw [hs.1]; exact hHg, by rw [hs.2.1]; exact hHi⟩

end Cert.Proof.S2
-- ==== Proof.S2Words.lean ====
/-
  The offsets, trip counts and conditions of the second kernel's passes, as numbers.
-/
module

public import proofs.«01_k».proof.Proof.S2Scan

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-- The first row of a tile's pass, counted in rows. -/
def base (L : grid2.Coords) (t : ℕ) : ℕ := 2048 * t + 64 * wid1 L

/-- The pages of a list of `v` words, as the kernel computes their number. -/
def pgw (v : BitVec 32) : BitVec 32 :=
  Scalar.select (Scalar.andi (Scalar.cmpi .ne (Scalar.subi (Scalar.extui (Scalar.cmpi .sgt v 0#32)) (Scalar.extui (Scalar.cmpi .slt v 0#32)))
    (Scalar.subi (Scalar.extui (Scalar.cmpi .sgt (1024#32 : BitVec 32) 0#32)) (Scalar.extui (Scalar.cmpi .slt (1024#32 : BitVec 32) 0#32))))
    (Scalar.cmpi .ne (Scalar.remsi v 1024#32) 0#32)) (Scalar.subi (Scalar.divsi v 1024#32) 1#32) (Scalar.divsi v 1024#32)

theorem pgw_eq : ∀ n : Fin 52, pgw (BitVec.ofNat 32 (1024 * n.val)) = BitVec.ofNat 32 n.val := by decide +kernel

/-- The first row of a tile's pass, as the kernel computes it. -/
def bw (c s t : ℕ) : BitVec 32 :=
  Scalar.addi (Scalar.muli (Scalar.addi 0#32 (Scalar.muli (Scf.iv 0#32 1#32 t) 1#32)) 2048#32)
    (Scalar.muli (Scalar.addi (Scalar.muli (BitVec.ofNat 32 s) 2#32) (BitVec.ofNat 32 c)) 64#32)

theorem bw_eq : ∀ (c : Fin 2) (s : Fin 16) (t : Fin 3), bw c.val s.val t.val = BitVec.ofNat 32 (2048 * t.val + 64 * (2 * s.val + c.val)) := by decide +kernel

section
variable (L : grid2.Coords)

theorem bwL (t : Fin k2_t1_loop.trips) : bw (L 0).val (L 1).val t.val = BitVec.ofNat 32 (base L t.val) :=
  bw_eq (L 0) (L 1) ⟨t.val, t.isLt⟩

theorem base_lt (t : ℕ) (ht : t < 3) : base L t < 6144 := by
  have h0 : (L 0).val < 2 := (L 0).isLt
  have h1 : (L 1).val < 16 := (L 1).isLt
  show 2048 * t + 64 * (2 * (L 1).val + (L 0).val) < 6144
  omega

theorem base_dvd (t : ℕ) : 64 ∣ base L t := ⟨32 * t + wid1 L, by unfold base; ring⟩

theorem toNat_small (n : ℕ) (hn : n < 4294967296) : (BitVec.ofNat 32 n).toNat = n := by
  rw [BitVec.toNat_ofNat]; exact Nat.mod_eq_of_lt hn

theorem addi_ofNat (a b : ℕ) : Scalar.addi (BitVec.ofNat 32 a) (BitVec.ofNat 32 b) = BitVec.ofNat 32 (a + b) := by
  simp only [Scalar.addi, IntOp.addi]; exact (BitVec.ofNat_add _ _).symm

theorem off1_eq : k2_off1 L = ![wid1 L, 0] := by
  have h : ∀ (c : Fin 2) (s : Fin 16), (Scalar.addi (Scalar.muli (BitVec.ofNat 32 s.val) 2#32) (BitVec.ofNat 32 c.val)).toNat = 2 * s.val + c.val := by decide +kernel
  have := h (L 0) (L 1)
  rw [show wid1 L = 2 * (L 1).val + (L 0).val from rfl, ← this]; rfl

theorem off3_eq : k2_off3 L = ![wid1 L, 0] := off1_eq L

theorem off80_eq (t : Fin k2_t1_loop.trips) : k2_off80 L t = ![base L t.val, 0] := by
  have h : (bw (L 0).val (L 1).val t.val).toNat = base L t.val := by
    rw [bwL]; exact toNat_small _ (by have := base_lt L t.val t.isLt; omega)
  rw [← h]; rfl

theorem off82_eq (t : Fin k2_t1_loop.trips) : k2_off82 L t = ![base L t.val, 0] := off80_eq L t

theorem off2_eq (t : Fin k2_t1_loop.trips) : k2_off2 L t = ![35840 + base L t.val, 0] := by
  have h : (Scalar.addi 35840#32 (bw (L 0).val (L 1).val t.val)).toNat = 35840 + base L t.val := by
    rw [bwL, show (35840#32 : BitVec 32) = BitVec.ofNat 32 35840 from rfl, addi_ofNat]
    exact toNat_small _ (by have := base_lt L t.val t.isLt; omega)
  rw [← h]; rfl

theorem off81_eq (t : Fin k2_t1_loop.trips) : k2_off81 L t = ![35840 + base L t.val, 0] := off2_eq L t

theorem cond1_iff (n : ℕ) (hn : n < 52) (t : Fin k2_t1_loop.trips) :
    k2_cond1 L (BitVec.ofNat 32 (1024 * n)) t = 1#1 ↔ base L t.val < 5120 ∧ 0 < n := by
  have h : ∀ (b : Fin 96) (n : Fin 52), Scalar.cmpi .ne (Scalar.extui (Scalar.andi (Scalar.cmpi .slt (BitVec.ofNat 32 (64 * b.val)) 5120#32)
      (Scalar.cmpi .sgt (BitVec.ofNat 32 n.val) 0#32)) : BitVec 32) 0#32 = 1#1 ↔ 64 * b.val < 5120 ∧ 0 < n.val := by decide +kernel
  obtain ⟨b, hb⟩ := base_dvd L t.val
  have hlt := base_lt L t.val t.isLt
  have h' := h ⟨b, by omega⟩ ⟨n, hn⟩
  rw [← show base L t.val = 64 * b from hb, ← bwL, ← pgw_eq ⟨n, hn⟩] at h'
  exact h'

theorem cond13_iff (n : ℕ) (hn : n < 52) (t : Fin k2_t1_loop.trips) :
    k2_cond13 L (BitVec.ofNat 32 (1024 * n)) t = 1#1 ↔ base L t.val < 5120 ∧ n = 0 := by
  have h : ∀ (b : Fin 96) (n : Fin 52), Scalar.cmpi .ne (Scalar.extui (Scalar.andi (Scalar.cmpi .slt (BitVec.ofNat 32 (64 * b.val)) 5120#32)
      (Scalar.cmpi .eq (BitVec.ofNat 32 n.val) 0#32)) : BitVec 32) 0#32 = 1#1 ↔ 64 * b.val < 5120 ∧ n.val = 0 := by decide +kernel
  obtain ⟨b, hb⟩ := base_dvd L t.val
  have hlt := base_lt L t.val t.isLt
  have h' := h ⟨b, by omega⟩ ⟨n, hn⟩
  rw [← show base L t.val = 64 * b from hb, ← bwL, ← pgw_eq ⟨n, hn⟩] at h'
  exact h'
end

theorem trips2 : ∀ n : Fin 52, (k2_t2_loop (BitVec.ofNat 32 (1024 * n.val))).trips = n.val := by decide +kernel
theorem ok2 : ∀ n : Fin 52, (k2_t2_loop (BitVec.ofNat 32 (1024 * n.val))).OK := by decide +kernel
theorem trips10 : ∀ n : Fin 52, (k2_t10_loop (BitVec.ofNat 32 (1024 * n.val))).trips = 0 := by decide +kernel
theorem ok10 : ∀ n : Fin 52, (k2_t10_loop (BitVec.ofNat 32 (1024 * n.val))).OK := by decide +kernel

section
variable (n : ℕ) (hn : n < 52) (t : Fin (k2_t2_loop (BitVec.ofNat 32 (1024 * n))).trips)
include hn

theorem t2_lt : t.val < n := Nat.lt_of_lt_of_eq t.isLt (trips2 ⟨n, hn⟩)

theorem off4_eq : k2_off4 (BitVec.ofNat 32 (1024 * n)) t = ![1024 * (t.val % 2)] := by
  have := t2_lt n hn t
  rw [← half1024 ⟨t.val, by omega⟩]; rfl

theorem off5_eq : k2_off5 (BitVec.ofNat 32 (1024 * n)) t = ![1024 * (1 - t.val % 2)] := by
  have := t2_lt n hn t
  rw [← other1024 ⟨t.val, by omega⟩]; rfl

theorem off6_eq (L : grid2.Coords) : k2_off6 L (BitVec.ofNat 32 (1024 * n)) t = ![wid1 L, 1024 * (t.val + 1)] := by
  have := t2_lt n hn t
  have h := off1_eq L
  rw [← next1024 ⟨t.val, by omega⟩, ← show k2_off1 L 0 = wid1 L from congrFun h 0]; rfl

theorem cond2_iff : k2_cond2 (BitVec.ofNat 32 (1024 * n)) t = 1#1 ↔ t.val + 1 < n := by
  have ht := t2_lt n hn t
  have h : ∀ (t n : Fin 52), Scalar.cmpi .ne (Scalar.extui (Scalar.cmpi .slt (Scalar.addi (Scf.iv 0#32 1#32 t.val) 1#32) (BitVec.ofNat 32 n.val)) : BitVec 32) 0#32 = 1#1
      ↔ t.val + 1 < n.val := by decide +kernel
  have h' := h ⟨t.val, by omega⟩ ⟨n, hn⟩
  rw [← pgw_eq ⟨n, hn⟩] at h'
  exact h'
end

theorem cond12_iff : ∀ n : Fin 1041, k2_cond12 (BitVec.ofNat 32 n.val) = 1#1 ↔ 0 < n.val := by decide +kernel
theorem off76_eq : ∀ n : Fin 1041, k2_off76 (BitVec.ofNat 32 n.val) = ![n.val] := by decide +kernel

/-- The final offset lies in the pending buffers. -/
theorem chk12_of (L : grid2.Coords) (v6 : BitVec 32) (t1 : Fin k2_t1_loop.trips) (n : ℕ) (hn : n < 1041) : k2_chk12 L v6 t1 (BitVec.ofNat 32 n) := by
  intro _ a
  rw [off76_eq ⟨n, hn⟩, Fin.eq_zero a]
  show n + 16 ≤ 1056
  omega

/-- Every offset of the whole body lies in its buffer when the list has `n` pages. -/
theorem chk1_of (L : grid2.Coords) (n : ℕ) (hn : n < 52) : k2_chk1 L (BitVec.ofNat 32 (1024 * n)) := by
  have N10 : ∀ t : Fin (k2_t10_loop (BitVec.ofNat 32 (1024 * n))).trips, False := fun t =>
    Nat.not_lt_zero _ (Nat.lt_of_lt_of_eq t.isLt (trips10 ⟨n, hn⟩))
  have hwid : wid1 L < 32 := wid1_lt L
  refine ⟨fun t1 h1 => ?_, fun _ _ => ok2 ⟨n, hn⟩, fun _ t2 _ => ?_, fun _ t2 _ h2 => ?_, fun _ t2 _ h2 => ?_, fun _ t2 t3 _ => ?_, fun _ _ => ok10 ⟨n, hn⟩,
    fun _ t => (N10 t).elim, fun _ t => (N10 t).elim, fun _ t => (N10 t).elim, fun _ t => (N10 t).elim, fun t1 h1 => ?_, fun t1 h13 => ?_, fun t1 h13 => ?_⟩
  · have h := ((cond1_iff L n hn t1).1 h1).1
    obtain ⟨b, hb⟩ := base_dvd L t1.val
    rw [off2_eq]; intro a; fin_cases a <;> simp [Shape.size] <;> omega
  · rw [off4_eq n hn]; intro a; rw [Fin.eq_zero a]; show 1024 * (t2.val % 2) + 1024 ≤ 2048; omega
  · rw [off5_eq n hn]; intro a; rw [Fin.eq_zero a]; show 1024 * (1 - t2.val % 2) + 1024 ≤ 2048; omega
  · have h := (cond2_iff n hn t2).1 h2
    rw [off6_eq n hn]; intro a; fin_cases a <;> simp [Shape.size] <;> omega
  · have h3 : t3.val < 64 := t3.isLt
    have := t2_lt n hn t2
    rw [off7_eq _ t2 (by omega)]; intro a; rw [Fin.eq_zero a]; show 1024 * (t2.val % 2) + 16 * t3.val + 16 ≤ 2048; omega
  · have h := ((cond1_iff L n hn t1).1 h1).1
    obtain ⟨b, hb⟩ := base_dvd L t1.val
    rw [off80_eq]; intro a; fin_cases a <;> simp [Shape.size] <;> omega
  · have h := ((cond13_iff L n hn t1).1 h13).1
    obtain ⟨b, hb⟩ := base_dvd L t1.val
    rw [off81_eq]; intro a; fin_cases a <;> simp [Shape.size] <;> omega
  · have h := ((cond13_iff L n hn t1).1 h13).1
    obtain ⟨b, hb⟩ := base_dvd L t1.val
    rw [off82_eq]; intro a; fin_cases a <;> simp [Shape.size] <;> omega

end Cert.Proof.S2
-- ==== Proof.S1Scan.lean ====
/-
  The first kernel's inner loop: fifty-six groups of sixteen edges, each group's own edges appended to the two index buffers.
-/
module

public import proofs.«01_k».proof.Proof.Steps
public import proofs.«01_k».proof.Proof.Model

@[expose] public section

noncomputable section

namespace Cert.Proof.S1

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Compact Cert.Proof.Views Cert.Proof.Model

variable {F : FTy → Type} [FloatOps F]

local notation "𝕄" => MM F

/-! ## The words of one group -/

theorem mask_iff (L : grid0.Coords) (v : Vec F S16 .i32) (k : Fin 16) :
    k0_pay2 (F := F) L v (lane k) = 1#1 ↔ mine (wid L) (v (lane k)) = true := by
  have hw : Scalar.addi (Scalar.muli (BitVec.ofNat 32 (L 1).val) 2#32) (BitVec.ofNat 32 (L 0).val) = BitVec.ofNat 32 (wid L) := by
    apply BitVec.eq_of_toNat_eq
    have h0 : (L 0).val < 2 := (L 0).isLt
    have h1 : (L 1).val < 16 := (L 1).isLt
    simp only [Scalar.addi, Scalar.muli, IntOp.addi, IntOp.muli, wid, BitVec.toNat_add, BitVec.toNat_mul, BitVec.toNat_ofNat]
    omega
  have e : k0_pay2 (F := F) L v (lane k) = BitVec.ofBool (((v (lane k) : BitVec 32).sshiftRight 6 &&& 31#32)
      == Scalar.addi (Scalar.muli (BitVec.ofNat 32 (L 1).val) 2#32) (BitVec.ofNat 32 (L 0).val)) := by
    rfl
  rw [e, hw]
  unfold mine
  cases ((v (lane k) : BitVec 32).sshiftRight 6 &&& 31#32) == BitVec.ofNat 32 (wid L) <;> simp

theorem pay6_eq (L : grid0.Coords) (c : BitVec 32) (v : Vec F S16 .i32) : k0_pay6 (F := F) L c v = slots c 2032#32 (k0_pay2 L v) := rfl

theorem extract_pay4 (L : grid0.Coords) (v : Vec F S16 .i32) :
    extractAt ![0] (k0_pay9 (F := F) L v) inpos_S1_p0 = BitVec.ofNat 32 (marked (k0_pay2 (F := F) L v) 16).length := by
  refine Eq.trans ?_ (scan_eq (k0_pay2 (F := F) L v) 15)
  unfold k0_pay9 extractAt extractStridedSlice
  show k0_pay4 (F := F) L v _ = k0_pay4 (F := F) L v (lane 15)
  congr 1
  funext a
  match a with
  | ⟨0, _⟩ => rfl

theorem pay5_eq (L : grid0.Coords) (v : Vec F S16 .i32) : k0_pay5 (F := F) L v = k0_pay9 L v := rfl

theorem cond2_iff (n : ℕ) (hn : n ≤ 16) : k0_cond2 (BitVec.ofNat 32 n) = 1#1 ↔ 0 < n := by
  interval_cases n <;> decide

/-! ## The edge buffer's two halves -/

/-- Half `b` of the edge buffer. -/
def eh (b : ℕ) : Finset S5376.Idx := Finset.univ.filter fun j => (j 0).val / 2688 = b

theorem mem_eh {b : ℕ} {j : S5376.Idx} : j ∈ eh b ↔ (j 0).val / 2688 = b := by simp [eh]

variable (d : Dev nD) (L : grid0.Coords)

/-- Half `b` of the edge buffer holds chunk `e` of the edges. -/
def HalfIs (fE : Shape.Idx ⟨2, ![56, 2688]⟩ → BitVec 32) (b e : ℕ) (fe : Shape.Idx ⟨1, ![5376]⟩ → BitVec 32) : Prop :=
  ∀ j, j < 2688 → at1 fe (2688 * b + j) = at2 fE e j

/-- What the buffers hold after `n` edges, `o` entries of the bucket written out already. -/
def Pending (w : ℕ) (fE : Shape.Idx ⟨2, ![56, 2688]⟩ → BitVec 32) (n o : ℕ) (acc : BitVec 32)
    (fg fp : Shape.Idx ⟨1, ![2048]⟩ → BitVec 32) : Prop :=
  acc = BitVec.ofNat 32 ((bucketG w fE n).length - o) ∧ Holds fg ((bucketG w fE n).drop o) ∧ Holds fp ((bucketP w fE n).drop o)

/-- The inner loop's invariant: `b` groups of chunk `e` done. -/
def I2 (fE : Shape.Idx ⟨2, ![56, 2688]⟩ → BitVec 32) (e o : ℕ) (fe : Buf (Elt F) (ebM.view.loc (tV d L))) (b : ℕ) (acc : BitVec 32) : sProp 𝕄 :=
  iprop(∃ (fg : Buf (Elt F) (gbM.view.loc (tV d L))) (fp : Buf (Elt F) (pbM.view.loc (tV d L))),
    ⌜Pending (wid L) fE (896 * e + 16 * b) o acc fg fp⌝
    ∗ (gbM.view.loc (tV d L) ↦{fullShare} fg) ∗ (pbM.view.loc (tV d L) ↦{fullShare} fp)
    ∗ (ebM.view.loc (tV d L) ↦[eh (e % 2)]{fullShare} fe))

theorem pending_step (w : ℕ) (fE : Shape.Idx ⟨2, ![56, 2688]⟩ → BitVec 32) (n o : ℕ) (m : IVec S16 1) (vg vp : S16.Idx → BitVec 32)
    (hm : ∀ k : Fin 16, m (lane k) = 1#1 ↔ mine w (dstW fE (n + k.val)) = true)
    (hvg : ∀ k : Fin 16, vg (lane k) = entG fE (n + k.val)) (hvp : ∀ k : Fin 16, vp (lane k) = entP fE (n + k.val))
    (ho : o ≤ (bucketG w fE n).length) :
    (bucketG w fE (n + 16)).drop o = (bucketG w fE n).drop o ++ sel m vg
      ∧ (bucketP w fE (n + 16)).drop o = (bucketP w fE n).drop o ++ sel m vp
      ∧ (bucketG w fE (n + 16)).length - o = ((bucketG w fE n).length - o) + (marked m 16).length := by
  have hg := filter_range_step (fun i => mine w (dstW fE i)) (entG fE) n m vg hm (fun k _ => hvg k)
  have hp := filter_range_step (fun i => mine w (dstW fE i)) (entP fE) n m vp hm (fun k _ => hvp k)
  have hg' : bucketG w fE (n + 16) = bucketG w fE n ++ sel m vg := hg
  have hp' : bucketP w fE (n + 16) = bucketP w fE n ++ sel m vp := hp
  have hl := bucket_length w fE n
  refine ⟨?_, ?_, ?_⟩
  · rw [hg', List.drop_append_of_le_length ho]
  · rw [hp', List.drop_append_of_le_length (by omega)]
  · rw [hg', List.length_append, sel_length]; omega

theorem load_eb (t1 : ℕ) (fE : Shape.Idx ⟨2, ![56, 2688]⟩ → BitVec 32) (fe : Buf (Elt F) (ebM.view.loc (tV d L))) (hfe : HalfIs fE (t1 % 2) t1 fe)
    (off : Fin 1 → ℕ) (inb) (r t2 : ℕ) (hr : r < 3) (h2 : t2 < 56) (hoff : off 0 = 2688 * (t1 % 2) + (896 * r + 16 * t2)) (k : Fin 16) :
    (ebM.access (Rect.unit (s := S5376) off S16.size inb)).read (Elt F) fe (lane k) = at2 fE t1 (896 * r + (16 * t2 + k.val)) := by
  have hk := k.isLt
  refine (at1_of (n := 16) _ (lane k) k.val rfl).trans ?_
  refine (read1 (Val := Elt F) ebM.view off inb fe k.val hk).trans ?_
  rw [hoff, show 2688 * (t1 % 2) + (896 * r + 16 * t2) + k.val = 2688 * (t1 % 2) + (896 * r + (16 * t2 + k.val)) by omega]
  exact hfe _ (by omega)

theorem access_eb_sub (t1 : ℕ) (off : Fin 1 → ℕ) (inb) (x : ℕ) (hx : x + 16 ≤ 2688) (hoff : off 0 = 2688 * (t1 % 2) + x) :
    (ebM.access (Rect.unit (s := S5376) off S16.size inb)).set ⊆ eh (t1 % 2) := by
  intro j hj
  have hj' : j ∈ (Rect.unit (s := S5376) off S16.size inb).set := by
    have := hj
    rwa [show (ebM.access (Rect.unit (s := S5376) off S16.size inb)).set = (Rect.unit (s := S5376) off S16.size inb).set from View.set_slice_whole _ _] at this
  have h0 := (Rect.mem_set_unit.1 hj') 0
  rw [mem_eh]
  simp at h0
  omega

theorem scan_trip (fE : Shape.Idx ⟨2, ![56, 2688]⟩ → BitVec 32) (t1 : Fin k0_t1_loop.trips) (o : ℕ)
    (fe : Buf (Elt F) (ebM.view.loc (tV d L))) (hfe : HalfIs fE (t1.val % 2) t1.val fe)
    (ho : o ≤ (bucketG (wid L) fE (896 * t1.val)).length) (ho' : (bucketG (wid L) fE (896 * t1.val)).length < o + 1024)
    (t2 : Fin k0_t2_loop.trips) (acc : BitVec 32) :
    I2 (F := F) d L fE t1.val o fe t2.val acc
      ⊢ wp frame (wpE (defs₀ (F := F)) 𝒱₀ (tV d L) none) Set.univ
          (k0_t2_body L epM (Memref.isWhole_whole _) grM (Memref.isWhole_whole _) prM (Memref.isWhole_whole _) cnM (Memref.isWhole_whole _)
            ebM (Memref.isWhole_whole _) gbM (Memref.isWhole_whole _) pbM (Memref.isWhole_whole _) cbM (Memref.isWhole_whole _)
            cc0_scratch4 cc0_scoped0 cc0_scoped1 cc0_scoped2 cc0_scoped3 cc0_scoped4 t1 t2 acc)
          (I2 (F := F) d L fE t1.val o fe (t2.val + 1)) := by
  have ht2 : t2.val < 56 := t2.isLt
  unfold k0_t2_body
  simp only [Prog.lift, Prog.bind_op, Prog.bind_ret, Prog.pure_eq_ret]
  unfold I2
  iintro ⟨%fg, %fp, %hP, Hg, Hp, He⟩
  iapply (wp_load_rect 𝒱₀ (tV d L) none Set.univ (S := eh (t1.val % 2))
    (access_eb_sub t1.val _ _ (16 * t2.val) (by omega) (by rw [k0_off3_eq]; rfl))) $$ [He]
  · iexact He
  iintro He
  generalize hv47 : (ebM.access (Rect.unit (s := S5376) (k0_off3 t1 t2) S16.size (k0_off3_inb t1 t2))).read (Elt F) fe = v47
  -- the group's words, and what they make of the list
  have hv47' : ∀ k : Fin 16, v47 (lane k) = dstW fE (896 * t1.val + 16 * t2.val + k.val) := by
    intro k
    have hk := k.isLt
    rw [← hv47]
    refine (load_eb d L t1.val fE fe hfe _ _ 0 t2.val (by omega) ht2 (by rw [k0_off3_eq]; simp) k).trans ?_
    rw [dstW, show (896 * t1.val + 16 * t2.val + k.val) / 896 = t1.val by omega,
      show (896 * t1.val + 16 * t2.val + k.val) % 896 = 16 * t2.val + k.val by omega]
    congr 1; omega
  have hm : ∀ k : Fin 16, k0_pay2 (F := F) L v47 (lane k) = 1#1 ↔ mine (wid L) (dstW fE (896 * t1.val + 16 * t2.val + k.val)) = true :=
    fun k => by rw [← hv47']; exact mask_iff L v47 k
  obtain ⟨rfl, hHg, hHp⟩ := hP
  have hlen := bucketG_length_add (wid L) fE (896 * t1.val) (16 * t2.val)
  have hmono := bucketG_mono (wid L) fE (896 * t1.val) (16 * t2.val)
  have hmk := marked_length_le (k0_pay2 (F := F) L v47) 16 (le_refl _)
  have hvp : ∀ k : Fin 16, k0_pay8 (F := F) v47 (lane k) = entP fE (896 * t1.val + 16 * t2.val + k.val) := by
    intro k
    rw [entP, ← hv47' k]; rfl
  have hcnt : extractAt ![0] (k0_pay5 (F := F) L v47) inpos_S1_p0 = BitVec.ofNat 32 (marked (k0_pay2 (F := F) L v47) 16).length :=
    extract_pay4 L v47
  have hcnt9 : extractAt ![0] (k0_pay9 (F := F) L v47) inpos_S1_p0 = BitVec.ofNat 32 (marked (k0_pay2 (F := F) L v47) 16).length :=
    extract_pay4 L v47
  have hadd : Scalar.addi (BitVec.ofNat 32 ((bucketG (wid L) fE (896 * t1.val + 16 * t2.val)).length - o))
      (BitVec.ofNat 32 (marked (k0_pay2 (F := F) L v47) 16).length)
      = BitVec.ofNat 32 ((bucketG (wid L) fE (896 * t1.val + 16 * t2.val)).length - o + (marked (k0_pay2 (F := F) L v47) 16).length) := by
    simp only [Scalar.addi, IntOp.addi]; exact (BitVec.ofNat_add _ _).symm
  have hno : 896 * t1.val + 16 * (t2.val + 1) = 896 * t1.val + 16 * t2.val + 16 := by ring
  by_cases hc : k0_cond2 (extractAt ![0] (k0_pay5 (F := F) L v47) inpos_S1_p0) = 1#1
  · rw [dif_pos hc]
    iapply (wp_load_rect 𝒱₀ (tV d L) none Set.univ (S := eh (t1.val % 2))
      (access_eb_sub t1.val _ _ (896 + 16 * t2.val) (by omega) (by rw [show k0_off4 t1 t2 896#32 = _ from k0_off4_eq t1 t2 0]; simp; omega))) $$ [He]
    · iexact He
    iintro He
    generalize hv69 : (ebM.access (Rect.unit (s := S5376) (k0_off4 t1 t2 896#32) S16.size (k0_off4_inb t1 t2 0))).read (Elt F) fe = v69
    iapply (wp_load_rect 𝒱₀ (tV d L) none Set.univ (S := eh (t1.val % 2))
      (access_eb_sub t1.val _ _ (1792 + 16 * t2.val) (by omega) (by rw [show k0_off4 t1 t2 1792#32 = _ from k0_off4_eq t1 t2 1]; simp; omega))) $$ [He]
    · iexact He
    iintro He
    generalize hv74 : (ebM.access (Rect.unit (s := S5376) (k0_off4 t1 t2 1792#32) S16.size (k0_off4_inb t1 t2 1))).read (Elt F) fe = v74
    have hvg : ∀ k : Fin 16, k0_pay7 (F := F) v69 v74 (lane k) = entG fE (896 * t1.val + 16 * t2.val + k.val) := by
      intro k
      have hk := k.isLt
      have h1 : v69 (lane k) = relW fE (896 * t1.val + 16 * t2.val + k.val) := by
        rw [← hv69]
        refine (load_eb d L t1.val fE fe hfe _ _ 1 t2.val (by omega) ht2 (by rw [show k0_off4 t1 t2 896#32 = _ from k0_off4_eq t1 t2 0]; simp; omega) k).trans ?_
        rw [relW, show (896 * t1.val + 16 * t2.val + k.val) / 896 = t1.val by omega,
          show (896 * t1.val + 16 * t2.val + k.val) % 896 = 16 * t2.val + k.val by omega]
      have h2 : v74 (lane k) = srcW fE (896 * t1.val + 16 * t2.val + k.val) := by
        rw [← hv74]
        refine (load_eb d L t1.val fE fe hfe _ _ 2 t2.val (by omega) ht2 (by rw [show k0_off4 t1 t2 1792#32 = _ from k0_off4_eq t1 t2 1]; simp; omega) k).trans ?_
        rw [srcW, show (896 * t1.val + 16 * t2.val + k.val) / 896 = t1.val by omega,
          show (896 * t1.val + 16 * t2.val + k.val) % 896 = 16 * t2.val + k.val by omega]
      rw [entG, ← h1, ← h2]; rfl
    have hs := pending_step (wid L) fE (896 * t1.val + 16 * t2.val) o _ _ _ hm hvg hvp (by omega)
    have hchk : k0_chk1 (extractAt ![0] (k0_pay5 (F := F) L v47) inpos_S1_p0)
        (k0_pay6 L (BitVec.ofNat 32 ((bucketG (wid L) fE (896 * t1.val + 16 * t2.val)).length - o)) v47) := by
      have hlt : ∀ a x, ((![k0_pay6 L (BitVec.ofNat 32 ((bucketG (wid L) fE (896 * t1.val + 16 * t2.val)).length - o)) v47] : Fin 1 → IVec S16 32) a x).toNat < S2048.size a := by
        intro a x
        rw [Fin.eq_zero a]
        exact slots_lt _ 2032 2048 _ (by omega) (by omega) (by omega) x
      exact ⟨fun _ => hlt, fun _ => hlt⟩
    iapply (wp_assume 𝒱₀ (tV d L) none Set.univ hchk)
    iapply (wp_scatter (tV d L) (Memref.set_access_whole _)) $$ [Hg]
    · iexact Hg
    iintro %fg' %hfg' Hg
    iapply (wp_scatter (tV d L) (Memref.set_access_whole _)) $$ [Hp]
    · iexact Hp
    iintro %fp' %hfp' Hp
    rw [wp_ret, hcnt9, hadd, hno]
    iexists fg'
    iexists fp'
    isplitr
    · ipureintro
      have hl := bucket_length (wid L) fE (896 * t1.val + 16 * t2.val)
      refine ⟨by rw [hs.2.2], ?_, ?_⟩
      · rw [hs.1, show fg' = _ from hfg']
        exact storeIdx_holds (F := F) (n := 2048) fg _ _ _ 2032 _ (by rw [List.length_drop]) (by omega) (by omega) (by omega) hHg _
      · rw [hs.2.1, show fp' = _ from hfp']
        exact storeIdx_holds (F := F) (n := 2048) fp _ _ _ 2032 _ (by rw [List.length_drop, hl]) (by omega) (by omega) (by omega) hHp _
    · isplitl [Hg]; · iexact Hg
      isplitl [Hp]; · iexact Hp
      iexact He
  · rw [dif_neg hc, wp_ret, hcnt9, hadd, hno]
    have hz : (marked (k0_pay2 (F := F) L v47) 16).length = 0 := by
      by_contra h
      exact hc (by rw [hcnt]; exact (cond2_iff _ hmk).2 (by omega))
    have hs := pending_step (wid L) fE (896 * t1.val + 16 * t2.val) o _ (fun x => entG fE (896 * t1.val + 16 * t2.val + (x 0).val)) _ hm (fun _ => rfl) hvp (by omega)
    iexists fg
    iexists fp
    isplitr
    rotate_left
    · isplitl [Hg]; · iexact Hg
      isplitl [Hp]; · iexact Hp
      iexact He
    ipureintro
    have hsel : ∀ v : S16.Idx → BitVec 32, sel (k0_pay2 (F := F) L v47) v = [] := fun v => by
      rw [← List.length_eq_zero_iff, sel_length]; exact hz
    rw [hsel, List.append_nil] at hs
    rw [hsel, List.append_nil] at hs
    exact ⟨by rw [hs.2.2], by rw [hs.1]; exact hHg, by rw [hs.2.1]; exact hHp⟩

end Cert.Proof.S1
-- ==== Proof.S1Move.lean ====
/-
  The first kernel's two short loops over the index buffers: the words left after a full page are moved to the front, and
  the last page is filled up.
-/
module

public import proofs.«01_k».proof.Proof.Words
public import proofs.«01_k».proof.Proof.S1Scan

@[expose] public section

noncomputable section

namespace Cert.Proof.S1

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

variable (d : Dev nD) (L : grid0.Coords)

/-- The loops' bodies on this tile's own buffers. -/
abbrev B1 := k0_t1_body (F := F) L epM (Memref.isWhole_whole _) grM (Memref.isWhole_whole _) prM (Memref.isWhole_whole _) cnM (Memref.isWhole_whole _)
  ebM (Memref.isWhole_whole _) gbM (Memref.isWhole_whole _) pbM (Memref.isWhole_whole _) cbM (Memref.isWhole_whole _)
  cc0_scratch4 cc0_scoped0 cc0_scoped1 cc0_scoped2 cc0_scoped3 cc0_scoped4
abbrev B3 := k0_t3_body (F := F) L epM (Memref.isWhole_whole _) grM (Memref.isWhole_whole _) prM (Memref.isWhole_whole _) cnM (Memref.isWhole_whole _)
  ebM (Memref.isWhole_whole _) gbM (Memref.isWhole_whole _) pbM (Memref.isWhole_whole _) cbM (Memref.isWhole_whole _)
  cc0_scratch4 cc0_scoped0 cc0_scoped1 cc0_scoped2 cc0_scoped3 cc0_scoped4
abbrev B4 := k0_t4_body (F := F) L epM (Memref.isWhole_whole _) grM (Memref.isWhole_whole _) prM (Memref.isWhole_whole _) cnM (Memref.isWhole_whole _)
  ebM (Memref.isWhole_whole _) gbM (Memref.isWhole_whole _) pbM (Memref.isWhole_whole _) cbM (Memref.isWhole_whole _)
  cc0_scratch4 cc0_scoped0 cc0_scoped1 cc0_scoped2 cc0_scoped3 cc0_scoped4

/-- The first `16 k` words of the upper page have been copied to the front. -/
def Moved (f0 : Shape.Idx ⟨1, ![2048]⟩ → BitVec 32) (k : ℕ) (f : Shape.Idx ⟨1, ![2048]⟩ → BitVec 32) : Prop :=
  ∀ j, j < 2048 → at1 f j = if j < 16 * k then at1 f0 (1024 + j) else at1 f0 j

theorem moved_step {f0 f f' : Shape.Idx ⟨1, ![2048]⟩ → BitVec 32} {w : Shape.Idx ⟨1, ![16]⟩ → BitVec 32} {k o6 o7 : ℕ} (hk : k < 64)
    (h6 : o6 = 16 * k + 1024) (h7 : o7 = 16 * k) (hw : ∀ j, j < 16 → at1 w j = at1 f (o6 + j))
    (hf' : ∀ i, i < 2048 → at1 f' i = if o7 ≤ i ∧ i < o7 + 16 then at1 w (i - o7) else at1 f i) (hf : Moved f0 k f) : Moved f0 (k + 1) f' := by
  subst h6 h7
  intro j hj
  rw [hf' j hj]
  by_cases h : 16 * k ≤ j ∧ j < 16 * k + 16
  · rw [if_pos h, if_pos (by omega), hw _ (by omega), hf _ (by omega), if_neg (by omega), show 16 * k + 1024 + (j - 16 * k) = 1024 + j by omega]
  · rw [if_neg h, hf j hj]
    by_cases h' : j < 16 * k
    · rw [if_pos h', if_pos (by omega)]
    · rw [if_neg h', if_neg (by omega)]

/-- Two index buffers with contents of which something is known. -/
def Two (P P' : (Shape.Idx ⟨1, ![2048]⟩ → BitVec 32) → Prop) : sProp 𝕄 :=
  iprop(∃ (fg : Buf (Elt F) (gbM.view.loc (tV d L))) (fp : Buf (Elt F) (pbM.view.loc (tV d L))), ⌜P fg ∧ P' fp⌝
    ∗ (gbM.view.loc (tV d L) ↦{fullShare} fg) ∗ (pbM.view.loc (tV d L) ↦{fullShare} fp))

theorem move_trip (fg0 fp0 : Shape.Idx ⟨1, ![2048]⟩ → BitVec 32) (t3 : Fin k0_t3_loop.trips) (u : Unit) :
    Two (F := F) d L (Moved fg0 t3.val) (Moved fp0 t3.val)
      ⊢ wp frame (wpE (defs₀ (F := F)) 𝒱₀ (tV d L) none) Set.univ (B3 (F := F) L t3 u)
          (fun _ => Two (F := F) d L (Moved fg0 (t3.val + 1)) (Moved fp0 (t3.val + 1))) := by
  have ht3 : t3.val < 64 := t3.isLt
  have h6 : k0_off6 t3 0 = 16 * t3.val + 1024 := by rw [k0_off6_eq]; rfl
  have h7 : k0_off7 t3 0 = 16 * t3.val := by rw [k0_off7_eq]; rfl
  unfold B3 k0_t3_body
  simp only [Prog.lift, Prog.bind_op, Prog.bind_ret, Prog.pure_eq_ret]
  unfold Two
  iintro ⟨%fg, %fp, %hP, Hg, Hp⟩
  obtain ⟨hg, hp⟩ := hP
  iapply (wp_ld1 (tV d L)) $$ [Hg]
  · iexact Hg
  iintro %wg %hwg Hg
  iapply (wp_ld1 (tV d L)) $$ [Hp]
  · iexact Hp
  iintro %wp' %hwp Hp
  iapply (wp_ld1 (tV d L)) $$ [Hg]
  · iexact Hg
  iintro %w1 %_ Hg
  iapply (wp_st1 (tV d L)) $$ [Hg]
  · iexact Hg
  iintro %fg' %hfg' Hg
  iapply (wp_ld1 (tV d L)) $$ [Hp]
  · iexact Hp
  iintro %w2 %_ Hp
  iapply (wp_st1 (tV d L)) $$ [Hp]
  · iexact Hp
  iintro %fp' %hfp' Hp
  rw [wp_ret]
  iexists fg'
  iexists fp'
  isplitr
  · ipureintro
    exact ⟨moved_step ht3 h6 h7 hwg hfg' hg, moved_step ht3 h6 h7 hwp hfp' hp⟩
  isplitl [Hg] <;> iassumption

/-- `16 k` words from word `c` on are `x`, the others as they were. -/
def Filled (f0 : Shape.Idx ⟨1, ![2048]⟩ → BitVec 32) (x : BitVec 32) (c k : ℕ) (f : Shape.Idx ⟨1, ![2048]⟩ → BitVec 32) : Prop :=
  ∀ j, j < 2048 → at1 f j = if c ≤ j ∧ j < c + 16 * k then x else at1 f0 j

theorem filled_step {f0 f f' : Shape.Idx ⟨1, ![2048]⟩ → BitVec 32} {w : Shape.Idx ⟨1, ![16]⟩ → BitVec 32} {x : BitVec 32} {c k o : ℕ}
    (ho : o = c + 16 * k) (hw : ∀ j, j < 16 → at1 w j = x)
    (hf' : ∀ i, i < 2048 → at1 f' i = if o ≤ i ∧ i < o + 16 then at1 w (i - o) else at1 f i) (hf : Filled f0 x c k f) : Filled f0 x c (k + 1) f' := by
  subst ho
  intro j hj
  rw [hf' j hj]
  by_cases h : c + 16 * k ≤ j ∧ j < c + 16 * k + 16
  · rw [if_pos h, if_pos (by omega), hw _ (by omega)]
  · rw [if_neg h, hf j hj]
    by_cases h' : c ≤ j ∧ j < c + 16 * k
    · rw [if_pos h', if_pos (by omega)]
    · rw [if_neg h', if_neg (by omega)]

theorem off8_eq (c : ℕ) (hc : c < 1024) (t4 : Fin k0_t4_loop.trips) : k0_off8 (BitVec.ofNat 32 c) t4 0 = c + 16 * t4.val := by
  have ht4 : t4.val < 64 := t4.isLt
  show (BitVec.ofNat 32 c + (0#32 + BitVec.ofNat 32 t4.val * 1#32) * 16#32).toNat = _
  simp only [BitVec.toNat_add, BitVec.toNat_mul, BitVec.toNat_ofNat]
  omega

theorem pad_trip (fg0 fp0 : Shape.Idx ⟨1, ![2048]⟩ → BitVec 32) (c : ℕ) (hc : c < 1024) (hw : k0_chk3 (BitVec.ofNat 32 c))
    (t4 : Fin k0_t4_loop.trips) (u : Unit) :
    Two (F := F) d L (Filled fg0 0#32 c t4.val) (Filled fp0 1048576#32 c t4.val)
      ⊢ wp frame (wpE (defs₀ (F := F)) 𝒱₀ (tV d L) none) Set.univ (B4 (F := F) L (BitVec.ofNat 32 c) hw t4 u)
          (fun _ => Two (F := F) d L (Filled fg0 0#32 c (t4.val + 1)) (Filled fp0 1048576#32 c (t4.val + 1))) := by
  have ht4 : t4.val < 64 := t4.isLt
  have h8 := off8_eq c hc t4
  unfold B4 k0_t4_body
  simp only [Prog.lift, Prog.bind_op, Prog.bind_ret, Prog.pure_eq_ret]
  unfold Two
  iintro ⟨%fg, %fp, %hP, Hg, Hp⟩
  obtain ⟨hg, hp⟩ := hP
  iapply (wp_ld1 (tV d L)) $$ [Hg]
  · iexact Hg
  iintro %w1 %_ Hg
  iapply (wp_st1 (tV d L)) $$ [Hg]
  · iexact Hg
  iintro %fg' %hfg' Hg
  iapply (wp_ld1 (tV d L)) $$ [Hp]
  · iexact Hp
  iintro %w2 %_ Hp
  iapply (wp_st1 (tV d L)) $$ [Hp]
  · iexact Hp
  iintro %fp' %hfp' Hp
  rw [wp_ret]
  iexists fg'
  iexists fp'
  isplitr
  · ipureintro
    exact ⟨filled_step h8 (fun j hj => (at1_lt (n := 16) _ j hj).trans rfl) hfg' hg, filled_step h8 (fun j hj => (at1_lt (n := 16) _ j hj).trans rfl) hfp' hp⟩
  isplitl [Hg] <;> iassumption

end Cert.Proof.S1
-- ==== Proof.S1Next.lean ====
/-
  The edge buffer's pipeline: one half is being filled while the other is read.
-/
module

public import proofs.«01_k».proof.Proof.S1Move

@[expose] public section

noncomputable section

namespace Cert.Proof.S1

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

variable (d : Dev nD) (L : grid0.Coords)

/-- Row `k` of the edges. -/
def erow (k : ℕ) : Finset S56x2688.Idx := Finset.univ.filter fun i => (i 0).val = k

theorem mem_erow {k : ℕ} {j : S56x2688.Idx} : j ∈ erow k ↔ (j 0).val = k := by simp [erow]

/-- The semaphore units of one chunk's copy. -/
abbrev NE : ℕ := (ebM.slice (Rect.unit (s := S5376) ![0] S2688.size inb_S5376_S2688_0) (fun _ => rfl)).view.dmaCredit

variable (q : PosShare TreeShare) (fE : Shape.Idx ⟨2, ![56, 2688]⟩ → BitVec 32)

/-- Chunk `k` on its way into its half of the edge buffer; past the last chunk, that half lying idle. -/
def Next (k : ℕ) : sProp 𝕄 :=
  if k < 56 then
    iprop(Transfers.Flight countersEmb (tV d L) (.dma cc0_scratch4.sem) (none : HIx 2) NE
        iprop((∃ fe : Buf (Elt F) (ebM.view.loc (tV d L)), ⌜HalfIs fE (k % 2) k fe⌝ ∗ (ebM.view.loc (tV d L) ↦[eh (k % 2)]{fullShare} fe))
          ∗ (epM.view.loc (tV d L) ↦[erow k]{q} (show Buf (Elt F) (epM.view.loc (tV d L)) from fE)))
      ∗ (epM.view.loc (tV d L) ↦[Finset.univ \ erow k]{q} (show Buf (Elt F) (epM.view.loc (tV d L)) from fE)))
  else
    iprop(semVal (tV d L, .dma cc0_scratch4.sem) 0 ∗ (epM.view.loc (tV d L) ↦{q} (show Buf (Elt F) (epM.view.loc (tV d L)) from fE))
      ∗ ∃ fe : Buf (Elt F) (ebM.view.loc (tV d L)), (ebM.view.loc (tV d L) ↦[eh (k % 2)]{fullShare} fe))

theorem src_set (o2 : Fin 2 → ℕ) (inb) (k : ℕ) (h0 : o2 0 = k) (h1 : o2 1 = 0) (hst) :
    ((epM.slice (Rect.unit (s := S56x2688) o2 S1x2688.size inb) hst).squeeze S2688 squeezes_S1x2688_S2688).view.set = erow k := by
  refine ((View.set_reshape _ _).trans (View.set_slice_whole _ _)).trans ?_
  ext j
  refine (mem_unit2 (k := 1) (l := 2688)).trans ?_
  rw [mem_erow, h0, h1]
  have : (j 1).val < 2688 := (j 1).isLt
  omega

theorem dst_set (o1 : Fin 1 → ℕ) (inb) (b : ℕ) (h0 : o1 0 = 2688 * b) (hst) :
    (ebM.slice (Rect.unit (s := S5376) o1 S2688.size inb) hst).view.set ⊆ eh b := by
  intro j hj
  have hj' : j ∈ (Rect.unit (s := S5376) o1 S2688.size inb).set := by
    have := hj
    rwa [show (ebM.slice (Rect.unit (s := S5376) o1 S2688.size inb) hst).view.set = (Rect.unit (s := S5376) o1 S2688.size inb).set from View.set_slice_whole _ _] at this
  have h := (Rect.mem_set_unit.1 hj') 0
  rw [mem_eh]
  simp at h
  omega

/-- What a chunk's copy leaves in its half. -/
theorem half_written (o1 : Fin 1 → ℕ) (inb1) (o2 : Fin 2 → ℕ) (inb2) (k : ℕ) (h1 : o1 0 = 2688 * (k % 2)) (h2 : o2 0 = k) (h2' : o2 1 = 0) (hst1 hst2)
    (fe : Buf (Elt F) (ebM.view.loc (tV d L))) :
    HalfIs fE (k % 2) k ((ebM.slice (Rect.unit (s := S5376) o1 S2688.size inb1) hst1).view.write (Elt F) fe
      (((epM.slice (Rect.unit (s := S56x2688) o2 S1x2688.size inb2) hst2).squeeze S2688 squeezes_S1x2688_S2688).view.read (Elt F) fE) Finset.univ) := by
  intro j hj
  have hw := write1 (Val := Elt F) (e := .i32) (k := 2688) ebM.view o1 inb1 fe
    (((epM.slice (Rect.unit (s := S56x2688) o2 S1x2688.size inb2) hst2).squeeze S2688 squeezes_S1x2688_S2688).view.read (Elt F) fE) (2688 * (k % 2) + j) (by omega)
  have hr := readRow (Val := Elt F) (e := .i32) epM.view o2 inb2 squeezes_S1x2688_S2688.numel_eq fE j hj
  rw [if_pos (by omega), h1, Nat.add_sub_cancel_left] at hw
  rw [h2, h2', Nat.zero_add] at hr
  have e1 : ∀ g : Buf (Elt F) (ebM.view.loc (tV d L)), ebM.view.read (Elt F) g = g := fun _ => rfl
  have e2 : epM.view.read (Elt F) fE = fE := rfl
  rw [e1] at hw
  rw [e2] at hr
  exact hw.trans hr

/-- A chunk's copy is issued. -/
theorem wp_issue_next {α : Type} {Q : α → sProp (MM F)} (k : ℕ) (hk : k < 56) {o1 : Fin 1 → ℕ} {inb1} {o2 : Fin 2 → ℕ} {inb2} (h1 : o1 0 = 2688 * (k % 2)) (h2 : o2 0 = k) (h2' : o2 1 = 0)
    {hst1 hst2 hsrc hdst hsem} {kk : PUnit → Prog (TpuEff nD τ sig (Elt F) Λ₀ (tV d L).2) α} :
    iprop(semVal (tV d L, .dma cc0_scratch4.sem) 0 ∗ (epM.view.loc (tV d L) ↦{q} (show Buf (Elt F) (epM.view.loc (tV d L)) from fE))
      ∗ ∃ fe : Buf (Elt F) (ebM.view.loc (tV d L)), (ebM.view.loc (tV d L) ↦[eh (k % 2)]{fullShare} fe))
      ⊢ iprop((Next (F := F) d L q fE k -∗ wp frame (wpE (defs₀ (F := F)) 𝒱₀ (tV d L) none) Set.univ (kk ⟨⟩) Q)
        -∗ wp frame (wpE (defs₀ (F := F)) 𝒱₀ (tV d L) none) Set.univ
          (.op (.enqueueDmaAs ((epM.slice (Rect.unit (s := S56x2688) o2 S1x2688.size inb2) hst2).squeeze S2688 squeezes_S1x2688_S2688)
            (.here (ebM.slice (Rect.unit (s := S5376) o1 S2688.size inb1) hst1)) .same (.dma cc0_scratch4.sem) hsrc hdst hsem) kk) Q) := by
  iintro ⟨Hv, Hp, ⟨%fe, He⟩⟩ Hk
  iapply (wp_issue (tV d L) NE rfl (by decide) (Ss := Finset.univ) (Finset.subset_univ _) (dst_set o1 inb1 (k % 2) h1 hst1)) $$ [Hv Hp He]
  · isplitl [Hp]; · iexact Hp
    isplitl [He]; · iexact He
    iexact Hv
  rw [src_set o2 inb2 k h2 h2' hst2]
  iintro ⟨Hf, Hr⟩
  iapply Hk
  rw [Next, if_pos hk]
  isplitl [Hf]
  rotate_left
  · iexact Hr
  iapply (Transfers.Flight_mono countersEmb (tV d L) ?_) $$ Hf
  iintro ⟨He, Hs⟩
  isplitl [He]
  · iexists _
    isplitr
    rotate_left
    · iexact He
    · ipureintro
      exact half_written d L fE o1 inb1 o2 inb2 k h1 h2 h2' hst1 hst2 fe
  · iexact Hs

/-- A chunk has arrived: its half holds it. -/
theorem wp_await_next {α : Type} {Q : α → sProp (MM F)} (k : ℕ) (hk : k < 56) {κ' : Kind} {sp sp' : Space} {s s' : Shape} {e e' : EltTy}
    {srcw : Memref sig (tV d L).2.kind sp' s' e'} {dstw : Memref sig κ' sp s e} {hsrc : srcw.view.WordExact} {hdst : dstw.view.WordExact}
    {kk : PUnit → Prog (TpuEff nD τ sig (Elt F) Λ₀ (tV d L).2) α} (hN : dstw.view.dmaCredit = NE)
    {O : CellTallies nD τ sig (HIx 2)} {W : Waits sig (HIx 2)} :
    iprop(Transfers.MayWaits (tV d L) (none : HIx 2) O ∗ Next (F := F) d L q fE k ∗ Ow (F := F) (tV d L) O W)
      ⊢ iprop((∀ fe : Buf (Elt F) (ebM.view.loc (tV d L)), ⌜HalfIs fE (k % 2) k fe⌝ -∗ (ebM.view.loc (tV d L) ↦[eh (k % 2)]{fullShare} fe)
            -∗ (epM.view.loc (tV d L) ↦{q} (show Buf (Elt F) (epM.view.loc (tV d L)) from fE)) -∗ semVal (tV d L, .dma cc0_scratch4.sem) 0
            -∗ Ow (F := F) (tV d L) O W -∗ wp frame (wpE (defs₀ (F := F)) 𝒱₀ (tV d L) none) Set.univ (kk ⟨⟩) Q)
          -∗ wp frame (wpE (defs₀ (F := F)) 𝒱₀ (tV d L) none) Set.univ (.op (.waitDma2 cc0_scratch4.sem srcw dstw hsrc hdst) kk) Q) := by
  rw [Next, if_pos hk]
  iintro ⟨#Hmw, ⟨Hf, Hr⟩, HO⟩ Hk
  iapply (wp_await (tV d L) hN) $$ [Hf HO]
  · isplitr; · iexact Hmw
    isplitl [Hf]; · iexact Hf
    iexact HO
  iintro ⟨⟨⟨%fe, %hfe, He⟩, Hs⟩, Hv, HO⟩
  ihave Hs := (pointsTo_split_subset (q := q) (f := show Buf (Elt F) (epM.view.loc (tV d L)) from fE) (Finset.subset_univ (erow k))).2 $$ [Hs Hr]
  · isplitl [Hs] <;> iassumption
  iapply Hk $$ %fe %hfe He Hs Hv HO

end Cert.Proof.S1
-- ==== Proof.S1Chunk.lean ====
/-
  The first kernel's outer loop: a chunk of edges arrives, its own edges are appended, and a full page is written out.
-/
module

public import proofs.«01_k».proof.Proof.S1Next

@[expose] public section

noncomputable section

namespace Cert.Proof.S1

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## Words and lists -/

theorem cond1_iff : ∀ t1 : Fin k0_t1_loop.trips, k0_cond1 t1 = 1#1 ↔ t1.val + 1 < 56 := by decide +kernel

theorem sge_eq (v : ℕ) (hv : v < 4096) : Scalar.cmpi .sge (BitVec.ofNat 32 v) 1024#32 = if 1024 ≤ v then 1#1 else 0#1 := by
  have e : Scalar.cmpi .sge (BitVec.ofNat 32 v) 1024#32 = BitVec.ofBool (BitVec.sle 1024#32 (BitVec.ofNat 32 v)) := rfl
  have h : (BitVec.ofNat 32 v).toInt = v := by
    rw [BitVec.toInt_eq_toNat_cond, BitVec.toNat_ofNat]
    omega
  rw [e, BitVec.sle, h, show (1024#32 : BitVec 32).toInt = 1024 from rfl]
  by_cases hc : 1024 ≤ v
  · rw [if_pos hc, decide_eq_true (by omega)]; rfl
  · rw [if_neg hc, decide_eq_false (by omega)]; rfl

theorem cond3_iff (v : ℕ) (hv : v < 4096) : k0_cond3 (BitVec.ofNat 32 v) = 1#1 ↔ 1024 ≤ v := by
  have e : k0_cond3 (BitVec.ofNat 32 v) = Scalar.cmpi .ne (Scalar.extui (Scalar.cmpi .sge (BitVec.ofNat 32 v) 1024#32)) 0#32 := rfl
  rw [e, sge_eq v hv]
  by_cases hc : 1024 ≤ v
  · rw [if_pos hc]; exact ⟨fun _ => hc, fun _ => by decide⟩
  · rw [if_neg hc]; exact ⟨fun h => absurd h (by decide), fun h => absurd h hc⟩

theorem wid_word (L : grid0.Coords) : Scalar.addi (Scalar.muli (BitVec.ofNat 32 (L 1).val) 2#32) (BitVec.ofNat 32 (L 0).val) = BitVec.ofNat 32 (wid L) := by
  apply BitVec.eq_of_toNat_eq
  have h0 : (L 0).val < 2 := (L 0).isLt
  have h1 : (L 1).val < 16 := (L 1).isLt
  simp only [Scalar.addi, Scalar.muli, IntOp.addi, IntOp.muli, wid, BitVec.toNat_add, BitVec.toNat_mul, BitVec.toNat_ofNat]
  omega

theorem off5_eq (L : grid0.Coords) (fc : ℕ) (hfc : fc < 64) : k0_off5 L (BitVec.ofNat 32 fc) = ![wid L, 1024 * fc] := by
  have e : k0_off5 L (BitVec.ofNat 32 fc) = ![(Scalar.addi (Scalar.muli (BitVec.ofNat 32 (L 1).val) 2#32) (BitVec.ofNat 32 (L 0).val)).toNat,
      (Scalar.muli (BitVec.ofNat 32 fc) 1024#32).toNat] := rfl
  have hw := wid_lt L
  rw [e, wid_word]
  simp only [Scalar.muli, IntOp.muli, BitVec.toNat_mul, BitVec.toNat_ofNat]
  rw [show wid L % 2 ^ 32 = wid L by omega, show fc % 2 ^ 32 * (1024 % 2 ^ 32) % 2 ^ 32 = 1024 * fc by omega]

/-- Row `w` holds the first `o` words of a list. -/
def RowIs (w : ℕ) (f : Shape.Idx ⟨2, ![32, 52224]⟩ → BitVec 32) (l : List (BitVec 32)) (o : ℕ) : Prop :=
  ∀ i (h : i < l.length), i < o → at2 f w i = l[i]

theorem rowIs_mono {w : ℕ} {f : Shape.Idx ⟨2, ![32, 52224]⟩ → BitVec 32} {l l' : List (BitVec 32)} {o : ℕ} (h : RowIs w f l o) (hl : l <+: l')
    (ho : o ≤ l.length) : RowIs w f l' o := by
  intro i hi hio
  rw [h i (by omega) hio]
  obtain ⟨t, rfl⟩ := hl
  rw [List.getElem_append_left]

theorem row_page {w : ℕ} {f f' : Shape.Idx ⟨2, ![32, 52224]⟩ → BitVec 32} {fg : Shape.Idx ⟨1, ![2048]⟩ → BitVec 32} {l' : List (BitVec 32)} {o o0 o1 : ℕ}
    (h : RowIs w f l' o) (hg : Holds fg (l'.drop o)) (hw : w < 32) (ho : o + 1024 ≤ 52224) (e0 : o0 = w) (e1 : o1 = o)
    (hf' : ∀ i j, i < 32 → j < 52224 → at2 f' i j = if i = o0 ∧ (o1 ≤ j ∧ j < o1 + 1024) then at1 fg (j - o1) else at2 f i j) :
    RowIs w f' l' (o + 1024) := by
  subst e0 e1
  intro i hi hio
  rw [hf' _ i hw (by omega)]
  by_cases hc : o1 ≤ i
  · rw [if_pos ⟨rfl, hc, by omega⟩, hg _ (by rw [List.length_drop]; omega), List.getElem_drop]
    congr 1; omega
  · rw [if_neg (by omega), h i hi (by omega)]

theorem holds_moved {fg fg' : Shape.Idx ⟨1, ![2048]⟩ → BitVec 32} {l : List (BitVec 32)} {o : ℕ} (hg : Holds fg (l.drop o)) (hm : Moved fg 64 fg')
    (hl : l.length ≤ o + 2048) : Holds fg' (l.drop (o + 1024)) := by
  intro i hi
  rw [List.length_drop] at hi
  rw [hm i (by omega), if_pos (by omega), hg _ (by rw [List.length_drop]; omega), List.getElem_drop, List.getElem_drop]
  congr 1; omega

theorem bucketG_prefix (w : ℕ) (fE : Shape.Idx ⟨2, ![56, 2688]⟩ → BitVec 32) (n m : ℕ) : bucketG w fE n <+: bucketG w fE (n + m) := by
  unfold bucketG
  rw [List.range_add, List.filter_append, List.map_append]
  exact List.prefix_append _ _

theorem bucketP_prefix (w : ℕ) (fE : Shape.Idx ⟨2, ![56, 2688]⟩ → BitVec 32) (n m : ℕ) : bucketP w fE n <+: bucketP w fE (n + m) := by
  unfold bucketP
  rw [List.range_add, List.filter_append, List.map_append]
  exact List.prefix_append _ _

/-! ## The outer loop -/

variable (d : Dev nD) (L : grid0.Coords)

/-- The tile's own row of the two bucket arrays. -/
def wrow (w : ℕ) : Finset S32x52224.Idx := Finset.univ.filter fun i => (i 0).val = w

theorem mem_wrow {w : ℕ} {j : S32x52224.Idx} : j ∈ wrow w ↔ (j 0).val = w := by simp [wrow]

theorem page_pos : 0 < (gbM.slice (Rect.unit (s := S2048) ![0] S1024.size inb_S2048_S1024_0) (fun _ => rfl)).view.dmaCredit := by decide

theorem page_set (o : Fin 2 → ℕ) (inb) (w : ℕ) (h0 : o 0 = w) :
    (Rect.unit (s := S32x52224) o S1x1024.size inb).set ⊆ wrow w := by
  intro j hj
  have := (mem_unit2 (k := 1) (l := 1024)).1 hj
  rw [mem_wrow]; omega

variable (q : PosShare TreeShare) (fE : Shape.Idx ⟨2, ![56, 2688]⟩ → BitVec 32)
  (O : CellTallies nD τ sig (HIx 2)) (W : Waits sig (HIx 2))

/-- How many entries the first `k` chunks give this tile. -/
abbrev len (k : ℕ) : ℕ := (bucketG (wid L) fE (896 * k)).length

/-- The outer loop's invariant: `k` chunks done. -/
def I1 (k : ℕ) (acc : BitVec 32 × BitVec 32) : sProp 𝕄 :=
  iprop(Transfers.MayWaits (tV d L) (none : HIx 2) O
    ∗ (∃ (fg : Buf (Elt F) (gbM.view.loc (tV d L))) (fp : Buf (Elt F) (pbM.view.loc (tV d L)))
        (gr : Buf (Elt F) (grM.view.loc (tV d L))) (pr : Buf (Elt F) (prM.view.loc (tV d L))),
      ⌜acc = (BitVec.ofNat 32 (len L fE k % 1024), BitVec.ofNat 32 (len L fE k / 1024))
        ∧ (Holds (α := BitVec 32) fg ((bucketG (wid L) fE (896 * k)).drop (1024 * (len L fE k / 1024)))
            ∧ Holds (α := BitVec 32) fp ((bucketP (wid L) fE (896 * k)).drop (1024 * (len L fE k / 1024))))
        ∧ RowIs (wid L) gr (bucketG (wid L) fE (896 * k)) (1024 * (len L fE k / 1024))
        ∧ RowIs (wid L) pr (bucketP (wid L) fE (896 * k)) (1024 * (len L fE k / 1024))⌝
      ∗ (gbM.view.loc (tV d L) ↦{fullShare} fg) ∗ (pbM.view.loc (tV d L) ↦{fullShare} fp)
      ∗ (grM.view.loc (tV d L) ↦[wrow (wid L)]{fullShare} gr) ∗ (prM.view.loc (tV d L) ↦[wrow (wid L)]{fullShare} pr))
    ∗ Next (F := F) d L q fE k
    ∗ (∃ fe : Buf (Elt F) (ebM.view.loc (tV d L)), (ebM.view.loc (tV d L) ↦[eh ((k + 1) % 2)]{fullShare} fe))
    ∗ semVal (tV d L, .dma cc0_scoped0.sem) 0 ∗ semVal (tV d L, .dma cc0_scoped1.sem) 0
    ∗ Ow (F := F) (tV d L) O W)

/-- The next chunk's copy is issued, unless this is the last chunk. -/
theorem wp_issue_if {α : Type} {Q : α → sProp (MM F)} (t1 : Fin k0_t1_loop.trips) {rest : Prog (TpuEff nD τ sig (Elt F) Λ₀ (tV d L).2) α} :
    iprop(semVal (tV d L, .dma cc0_scratch4.sem) 0 ∗ (epM.view.loc (tV d L) ↦{q} (show Buf (Elt F) (epM.view.loc (tV d L)) from fE))
      ∗ ∃ fe : Buf (Elt F) (ebM.view.loc (tV d L)), (ebM.view.loc (tV d L) ↦[eh ((t1.val + 1) % 2)]{fullShare} fe))
      ⊢ iprop((Next (F := F) d L q fE (t1.val + 1) -∗ wp frame (wpE (defs₀ (F := F)) 𝒱₀ (tV d L) none) Set.univ rest Q)
        -∗ wp frame (wpE (defs₀ (F := F)) 𝒱₀ (tV d L) none) Set.univ
          (if h : k0_cond1 t1 = 1#1 then
            (.op (.enqueueDma ((epM.slice (Rect.unit (s := S56x2688) (k0_off2 t1) S1x2688.size (k0_off2_inb t1 h)) (fun _ => rfl)).squeeze S2688 squeezes_S1x2688_S2688)
              (.here (ebM.slice (Rect.unit (s := S5376) (k0_off1 t1) S2688.size (k0_off1_inb t1 h)) (fun _ => rfl))) (.dma cc0_scratch4.sem)
              ((View.wordExact_bits rfl).reshape _ _) (View.wordExact_bits rfl) ⟨Or.inl rfl, trivial⟩) fun _ => rest)
            else rest) Q) := by
  have ht1 : t1.val < 56 := t1.isLt
  by_cases h : k0_cond1 t1 = 1#1
  · rw [dif_pos h]
    iintro H Hk
    iapply (wp_issue_next d L q fE (t1.val + 1) ((cond1_iff t1).1 h)
      (by rw [k0_off1_eq]; show 2688 - 2688 * (t1.val % 2) = _; omega) (by rw [k0_off2_eq]; rfl) (by rw [k0_off2_eq]; rfl)) $$ [H]
    · iexact H
    iexact Hk
  · rw [dif_neg h]
    iintro H Hk
    iapply Hk
    rw [Next, if_neg (by have := (cond1_iff t1).not.1 h; omega)]
    iexact H

theorem chunk_trip (t1 : Fin k0_t1_loop.trips) (acc : BitVec 32 × BitVec 32) :
    I1 (F := F) d L q fE O W t1.val acc
      ⊢ wp frame (wpE (defs₀ (F := F)) 𝒱₀ (tV d L) none) Set.univ (B1 (F := F) L t1 acc) (I1 (F := F) d L q fE O W (t1.val + 1)) := by
  have ht1 : t1.val < 56 := t1.isLt
  obtain ⟨a12, a13⟩ := acc
  unfold B1 k0_t1_body
  simp only [Prog.lift, Prog.bind_op, Prog.bind_ret, Prog.pure_eq_ret]
  conv_lhs => unfold I1
  iintro ⟨#Hmw, ⟨%fg, %fp, %gr, %pr, %hP, Hg, Hp, Hgr, Hpr⟩, Hn, ⟨%fx, Hx⟩, Hv0, Hv1, HO⟩
  obtain ⟨hacc, ⟨hg, hp⟩, hgr, hpr⟩ := hP
  obtain ⟨rfl, rfl⟩ := Prod.mk.injEq .. ▸ hacc
  iapply (wp_await_next d L q fE t1.val ht1 rfl) $$ [Hn HO]
  · isplitr; · iexact Hmw
    isplitl [Hn]; · iexact Hn
    iexact HO
  iintro %fe %hfe He Hep Hv HO
  iapply (wp_issue_if d L q fE t1) $$ [Hv Hep Hx]
  · isplitl [Hv]; · iexact Hv
    isplitl [Hep]; · iexact Hep
    iexists fx
    iexact Hx
  iintro Hn
  have hl0 := bucketG_length_le (wid L) fE (896 * t1.val)
  have hl1 := bucketG_length_add (wid L) fE (896 * t1.val) 896
  have hl2 := bucketG_mono (wid L) fE (896 * t1.val) 896
  have hlt : 1024 * (len L fE t1.val / 1024) ≤ len L fE t1.val := Nat.mul_div_le _ _
  have hlt' : len L fE t1.val < 1024 * (len L fE t1.val / 1024) + 1024 := by omega
  iapply (wp_loop (tV d L) (I2 (F := F) d L fE t1.val (1024 * (len L fE t1.val / 1024)) fe)
    (scan_trip (F := F) d L fE t1 (1024 * (len L fE t1.val / 1024)) fe hfe hlt hlt')) $$ [Hg Hp He]
  · unfold I2
    iexists fg
    iexists fp
    isplitr
    · ipureintro
      refine ⟨?_, hg, hp⟩
      congr 1
      show len L fE t1.val % 1024 = len L fE t1.val - _
      omega
    isplitl [Hg]; · iexact Hg
    isplitl [Hp]; · iexact Hp
    iexact He
  iintro %v35 HI
  unfold I2
  icases HI with ⟨%fg1, %fp1, %hP1, Hg, Hp, He⟩
  rw [show 896 * t1.val + 16 * k0_t2_loop.trips = 896 * (t1.val + 1) from rfl] at hP1
  obtain ⟨rfl, hg1, hp1⟩ := hP1
  have hmul : 896 * (t1.val + 1) = 896 * t1.val + 896 := by ring
  rw [← hmul] at hl1 hl2
  have hlk : len L fE t1.val = (bucketG (wid L) fE (896 * t1.val)).length := rfl
  have hlk' : len L fE (t1.val + 1) = (bucketG (wid L) fE (896 * (t1.val + 1))).length := rfl
  have hpl := bucket_length (wid L) fE (896 * (t1.val + 1))
  have hpl0 := bucket_length (wid L) fE (896 * t1.val)
  have hpg := bucketG_prefix (wid L) fE (896 * t1.val) 896
  have hpp := bucketP_prefix (wid L) fE (896 * t1.val) 896
  rw [← hmul] at hpg hpp
  rw [← hlk'] at hl1 hl2 hpl
  rw [← hlk] at hl0 hl1 hl2 hpl0
  rw [← hlk']
  generalize hfc : len L fE t1.val / 1024 = fc at *
  have hw := wid_lt L
  have hfc49 : fc ≤ 48 := by omega
  have hoff := off5_eq L fc (by omega)
  have ho0 : k0_off5 L (BitVec.ofNat 32 fc) 0 = wid L := by rw [hoff]; rfl
  have ho1 : k0_off5 L (BitVec.ofNat 32 fc) 1 = 1024 * fc := by rw [hoff]; rfl
  generalize hvv : len L fE (t1.val + 1) - 1024 * fc = v at *
  have hv : v < 1920 := by omega
  have hgr := rowIs_mono hgr hpg (by omega)
  have hpr := rowIs_mono hpr hpp (by omega)
  have hchk : k0_chk2 L (BitVec.ofNat 32 fc) (BitVec.ofNat 32 v) := by
    intro _ a
    match a with
    | ⟨0, _⟩ => show k0_off5 L (BitVec.ofNat 32 fc) 0 + 1 ≤ 32; omega
    | ⟨1, _⟩ => show k0_off5 L (BitVec.ofNat 32 fc) 1 + 1024 ≤ 52224; omega
  iapply (wp_assume 𝒱₀ (tV d L) none Set.univ hchk)
  have hsge := sge_eq v (by omega)
  have hfo : Scalar.addi (BitVec.ofNat 32 fc) (Scalar.extui (Scalar.cmpi .sge (BitVec.ofNat 32 v) 1024#32)) = BitVec.ofNat 32 (len L fE (t1.val + 1) / 1024) := by
    rw [hsge]
    by_cases hc : 1024 ≤ v
    · rw [if_pos hc, show len L fE (t1.val + 1) / 1024 = fc + 1 by omega]; exact (BitVec.ofNat_add fc 1).symm
    · rw [if_neg hc, show len L fE (t1.val + 1) / 1024 = fc by omega]; exact BitVec.add_zero _
  have hvo : Scalar.subi (BitVec.ofNat 32 v) (Scalar.muli (Scalar.extui (Scalar.cmpi .sge (BitVec.ofNat 32 v) 1024#32)) 1024#32)
      = BitVec.ofNat 32 (len L fE (t1.val + 1) % 1024) := by
    rw [hsge]
    by_cases hc : 1024 ≤ v
    · rw [if_pos hc, show len L fE (t1.val + 1) % 1024 = v - 1024 by omega]
      apply BitVec.eq_of_toNat_eq
      show (BitVec.ofNat 32 v - 1024#32).toNat = _
      rw [BitVec.toNat_sub, BitVec.toNat_ofNat, BitVec.toNat_ofNat, BitVec.toNat_ofNat]
      omega
    · rw [if_neg hc, show len L fE (t1.val + 1) % 1024 = v by omega]; exact BitVec.sub_zero _
  have hcond := cond3_iff v (by omega)
  rw [hfo, hvo]
  by_cases hc : k0_cond3 (BitVec.ofNat 32 v) = 1#1
  · rw [dif_pos hc]
    have hcv := hcond.1 hc
    have hfc' : len L fE (t1.val + 1) / 1024 = fc + 1 := by omega
    iapply (wp_flush (tV d L) (m := gbM) (dm := grM) (Sd := wrow (wid L)) rfl page_pos
      (((View.set_reshape _ _).trans (View.set_slice_whole _ _)).subset.trans (page_set _ _ _ ho0))) $$ [Hg Hgr Hv0 HO]
    · isplitr; · iexact Hmw
      isplitl [Hg]; · iexact Hg
      isplitl [Hgr]; · iexact Hgr
      isplitl [Hv0]; · iexact Hv0
      iexact HO
    iintro %gr' %hgr' Hg Hgr Hv0 HO
    iapply (wp_flush (tV d L) (m := pbM) (dm := prM) (Sd := wrow (wid L)) rfl page_pos
      (((View.set_reshape _ _).trans (View.set_slice_whole _ _)).subset.trans (page_set _ _ _ ho0))) $$ [Hp Hpr Hv1 HO]
    · isplitr; · iexact Hmw
      isplitl [Hp]; · iexact Hp
      isplitl [Hpr]; · iexact Hpr
      isplitl [Hv1]; · iexact Hv1
      iexact HO
    iintro %pr' %hpr' Hp Hpr Hv1 HO
    iapply (wp_loop (tV d L) (fun k _ => Two (F := F) d L (Moved fg1 k) (Moved fp1 k)) (move_trip (F := F) d L fg1 fp1)) $$ [Hg Hp]
    · unfold Two
      iexists fg1
      iexists fp1
      isplitr
      · ipureintro
        exact ⟨fun j _ => by rw [if_neg (by omega)], fun j _ => by rw [if_neg (by omega)]⟩
      isplitl [Hg] <;> iassumption
    iintro %_ HT
    unfold Two
    icases HT with ⟨%fg2, %fp2, %hm, Hg, Hp⟩
    obtain ⟨hmg, hmp⟩ := hm
    rw [wp_ret]
    unfold I1
    isplitr; · iexact Hmw
    isplitl [Hg Hp Hgr Hpr]
    · iexists fg2
      iexists fp2
      iexists gr'
      iexists pr'
      isplitr
      · ipureintro
        rw [hfc', show 1024 * (fc + 1) = 1024 * fc + 1024 by ring]
        exact ⟨rfl, ⟨holds_moved hg1 hmg (by omega), holds_moved hp1 hmp (by omega)⟩,
          row_page hgr hg1 hw (by omega) ho0 ho1 hgr', row_page hpr hp1 hw (by omega) ho0 ho1 hpr'⟩
      isplitl [Hg]; · iexact Hg
      isplitl [Hp]; · iexact Hp
      isplitl [Hgr]; · iexact Hgr
      iexact Hpr
    isplitl [Hn]; · iexact Hn
    isplitl [He]
    · iexists fe
      rw [show (t1.val + 1 + 1) % 2 = t1.val % 2 by omega]
      iexact He
    isplitl [Hv0]; · iexact Hv0
    isplitl [Hv1]; · iexact Hv1
    iexact HO
  · rw [dif_neg hc]
    have hcv := hcond.not.1 hc
    have hfc' : len L fE (t1.val + 1) / 1024 = fc := by omega
    rw [wp_ret]
    unfold I1
    isplitr; · iexact Hmw
    isplitl [Hg Hp Hgr Hpr]
    · iexists fg1
      iexists fp1
      iexists gr
      iexists pr
      isplitr
      · ipureintro
        rw [hfc']
        exact ⟨rfl, ⟨hg1, hp1⟩, hgr, hpr⟩
      isplitl [Hg]; · iexact Hg
      isplitl [Hp]; · iexact Hp
      isplitl [Hgr]; · iexact Hgr
      iexact Hpr
    isplitl [Hn]; · iexact Hn
    isplitl [He]
    · iexists fe
      rw [show (t1.val + 1 + 1) % 2 = t1.val % 2 by omega]
      iexact He
    isplitl [Hv0]; · iexact Hv0
    isplitl [Hv1]; · iexact Hv1
    iexact HO

end Cert.Proof.S1
-- ==== Proof.S1Tail.lean ====
/-
  The first kernel's end: the last page is filled up and written out, and the number of words is told.
-/
module

public import proofs.«01_k».proof.Proof.S1Chunk

@[expose] public section

noncomputable section

namespace Cert.Proof.S1

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## The finished lists -/

/-- A list filled up with `x` to a whole number of pages. -/
def padded (x : BitVec 32) (l : List (BitVec 32)) : List (BitVec 32) := l ++ List.replicate (1024 * ((l.length + 1023) / 1024) - l.length) x

theorem padded_length (x : BitVec 32) (l : List (BitVec 32)) : (padded x l).length = 1024 * ((l.length + 1023) / 1024) := by
  rw [padded, List.length_append, List.length_replicate]; omega

/-- What tile `w` finds for the second kernel: the messages' rows and the target rows' places. -/
def listG (w : ℕ) (fE : Shape.Idx ⟨2, ![56, 2688]⟩ → BitVec 32) : List (BitVec 32) := padded 0#32 (bucketG w fE 50176)
def listP (w : ℕ) (fE : Shape.Idx ⟨2, ![56, 2688]⟩ → BitVec 32) : List (BitVec 32) := padded 1048576#32 (bucketP w fE 50176)

theorem listP_length (w : ℕ) (fE : Shape.Idx ⟨2, ![56, 2688]⟩ → BitVec 32) : (listP w fE).length = (listG w fE).length := by
  rw [listP, listG, padded_length, padded_length, bucket_length]

theorem holds_filled {x : BitVec 32} {f f' : Shape.Idx ⟨1, ![2048]⟩ → BitVec 32} {l : List (BitVec 32)} {o c : ℕ} (hf : Holds f (l.drop o))
    (hm : Filled f x c 64 f') (hc : c = l.length - o) (ho : o ≤ l.length) (hlt : c < 1024) : Holds f' ((padded x l).drop o) := by
  intro i hi
  rw [List.length_drop, padded_length] at hi
  rw [hm i (by omega), List.getElem_drop]
  unfold padded
  by_cases h : i < c
  · rw [if_neg (by omega), hf i (by rw [List.length_drop]; omega), List.getElem_drop, List.getElem_append_left]
  · rw [if_pos (by omega), List.getElem_append_right (by omega), List.getElem_replicate]

theorem cond4_iff (v : ℕ) (hv : v < 1024) : k0_cond4 (BitVec.ofNat 32 v) = 1#1 ↔ 0 < v := by
  have e : k0_cond4 (BitVec.ofNat 32 v) = Scalar.cmpi .ne (Scalar.extui (BitVec.ofBool (BitVec.slt 0#32 (BitVec.ofNat 32 v)))) 0#32 := rfl
  have h : (BitVec.ofNat 32 v).toInt = v := by
    rw [BitVec.toInt_eq_toNat_cond, BitVec.toNat_ofNat]; omega
  rw [e, BitVec.slt, h, show (0#32 : BitVec 32).toInt = 0 from rfl]
  by_cases hc : 0 < v
  · rw [decide_eq_true (by omega)]; exact ⟨fun _ => hc, fun _ => by decide⟩
  · rw [decide_eq_false (by omega)]; exact ⟨fun h => absurd h (by decide), fun h => absurd h hc⟩

theorem off9_eq (L : grid0.Coords) (fc : ℕ) (hfc : fc < 64) : k0_off9 L (BitVec.ofNat 32 fc) = ![wid L, 1024 * fc] := off5_eq L fc hfc

theorem pay11_eq (v fc : ℕ) (hv : v < 1024) : k0_pay11 (BitVec.ofNat 32 v) (BitVec.ofNat 32 fc)
    = broadcast S16 (BitVec.ofNat 32 (1024 * ((1024 * fc + v + 1023) / 1024))) := by
  have e : k0_pay11 (BitVec.ofNat 32 v) (BitVec.ofNat 32 fc)
      = broadcast S16 (Scalar.muli (Scalar.addi (BitVec.ofNat 32 fc) (Scalar.extui (BitVec.ofBool (BitVec.slt 0#32 (BitVec.ofNat 32 v))))) 1024#32) := rfl
  have h : (BitVec.ofNat 32 v).toInt = v := by
    rw [BitVec.toInt_eq_toNat_cond, BitVec.toNat_ofNat]; omega
  rw [e, BitVec.slt, h, show (0#32 : BitVec 32).toInt = 0 from rfl]
  congr 1
  have hm : ∀ n : ℕ, Scalar.muli (BitVec.ofNat 32 n) 1024#32 = BitVec.ofNat 32 (1024 * n) := fun n => by
    rw [Nat.mul_comm]; exact (BitVec.ofNat_mul n 1024).symm
  by_cases hc : 0 < v
  · rw [decide_eq_true (by omega), show (1024 * fc + v + 1023) / 1024 = fc + 1 by omega, ← hm]
    congr 1
    exact (BitVec.ofNat_add fc 1).symm
  · rw [decide_eq_false (by omega), show (1024 * fc + v + 1023) / 1024 = fc by omega, ← hm]
    congr 1
    exact BitVec.add_zero _

variable (d : Dev nD) (L : grid0.Coords)

/-- The tile's own row of the counts. -/
def crow (w : ℕ) : Finset S32x16.Idx := Finset.univ.filter fun i => (i 0).val = w

theorem mem_crow {w : ℕ} {j : S32x16.Idx} : j ∈ crow w ↔ (j 0).val = w := by simp [crow]

variable (q : PosShare TreeShare) (fE : Shape.Idx ⟨2, ![56, 2688]⟩ → BitVec 32)
  (O : CellTallies nD τ sig (HIx 2)) (W : Waits sig (HIx 2))

/-- The tile's rows of the two lists, written. -/
def RowsDone : sProp 𝕄 :=
  iprop(∃ (gr : Buf (Elt F) (grM.view.loc (tV d L))) (pr : Buf (Elt F) (prM.view.loc (tV d L))),
    ⌜RowIs (wid L) gr (listG (wid L) fE) (listG (wid L) fE).length ∧ RowIs (wid L) pr (listP (wid L) fE) (listP (wid L) fE).length⌝
      ∗ (grM.view.loc (tV d L) ↦[wrow (wid L)]{fullShare} gr) ∗ (prM.view.loc (tV d L) ↦[wrow (wid L)]{fullShare} pr))

/-- The count row, written: every word is the lists' length. -/
def CountIs (w : ℕ) (f : Shape.Idx ⟨2, ![32, 16]⟩ → BitVec 32) : Prop := ∀ j, j < 16 → at2 f w j = BitVec.ofNat 32 (listG w fE).length

/-- The last page is written out, if there is one. -/
theorem wp_flush_if {α : Type} {Q : α → sProp (MM F)} {v fc : ℕ} (hvfc : 1024 * fc + v = (bucketG (wid L) fE 50176).length) (hv : v < 1024)
    (hw : k0_chk4 L (BitVec.ofNat 32 v) (BitVec.ofNat 32 fc))
    {fg : Buf (Elt F) (gbM.view.loc (tV d L))} {fp : Buf (Elt F) (pbM.view.loc (tV d L))}
    {gr : Buf (Elt F) (grM.view.loc (tV d L))} {pr : Buf (Elt F) (prM.view.loc (tV d L))}
    (hg : Holds (α := BitVec 32) fg ((listG (wid L) fE).drop (1024 * fc))) (hp : Holds (α := BitVec 32) fp ((listP (wid L) fE).drop (1024 * fc)))
    (hgr : RowIs (wid L) gr (listG (wid L) fE) (1024 * fc)) (hpr : RowIs (wid L) pr (listP (wid L) fE) (1024 * fc))
    {rest : Prog (TpuEff nD τ sig (Elt F) Λ₀ (tV d L).2) α} :
    iprop(Transfers.MayWaits (tV d L) (none : HIx 2) O ∗ (gbM.view.loc (tV d L) ↦{fullShare} fg) ∗ (pbM.view.loc (tV d L) ↦{fullShare} fp)
      ∗ (grM.view.loc (tV d L) ↦[wrow (wid L)]{fullShare} gr) ∗ (prM.view.loc (tV d L) ↦[wrow (wid L)]{fullShare} pr)
      ∗ semVal (tV d L, .dma cc0_scoped2.sem) 0 ∗ semVal (tV d L, .dma cc0_scoped3.sem) 0 ∗ Ow (F := F) (tV d L) O W)
      ⊢ iprop(((gbM.view.loc (tV d L) ↦{fullShare} fg) -∗ (pbM.view.loc (tV d L) ↦{fullShare} fp) -∗ RowsDone (F := F) d L fE
            -∗ semVal (tV d L, .dma cc0_scoped2.sem) 0 -∗ semVal (tV d L, .dma cc0_scoped3.sem) 0 -∗ Ow (F := F) (tV d L) O W
            -∗ wp frame (wpE (defs₀ (F := F)) 𝒱₀ (tV d L) none) Set.univ rest Q)
        -∗ wp frame (wpE (defs₀ (F := F)) 𝒱₀ (tV d L) none) Set.univ
          (if h : k0_cond4 (BitVec.ofNat 32 v) = 1#1 then
            (.op (.enqueueDma (gbM.slice (Rect.unit (s := S2048) ![0] S1024.size inb_S2048_S1024_0) (fun _ => rfl))
              (.here ((grM.slice (Rect.unit (s := S32x52224) (k0_off9 L (BitVec.ofNat 32 fc)) S1x1024.size (k0_off9_inb L (BitVec.ofNat 32 v) (BitVec.ofNat 32 fc) hw h)) (fun _ => rfl)).squeeze S1024 squeezes_S1x1024_S1024))
              (.dma cc0_scoped2.sem) (View.wordExact_bits rfl) ((View.wordExact_bits rfl).reshape _ _) ⟨Or.inl rfl, trivial⟩) fun _ =>
            .op (.waitDma2 cc0_scoped2.sem (gbM.slice (Rect.unit (s := S2048) ![0] S1024.size inb_S2048_S1024_0) (fun _ => rfl))
              ((grM.slice (Rect.unit (s := S32x52224) (k0_off9 L (BitVec.ofNat 32 fc)) S1x1024.size (k0_off9_inb L (BitVec.ofNat 32 v) (BitVec.ofNat 32 fc) hw h)) (fun _ => rfl)).squeeze S1024 squeezes_S1x1024_S1024)
              (View.wordExact_bits rfl) ((View.wordExact_bits rfl).reshape _ _)) fun _ =>
            .op (.enqueueDma (pbM.slice (Rect.unit (s := S2048) ![0] S1024.size inb_S2048_S1024_0) (fun _ => rfl))
              (.here ((prM.slice (Rect.unit (s := S32x52224) (k0_off9 L (BitVec.ofNat 32 fc)) S1x1024.size (k0_off9_inb L (BitVec.ofNat 32 v) (BitVec.ofNat 32 fc) hw h)) (fun _ => rfl)).squeeze S1024 squeezes_S1x1024_S1024))
              (.dma cc0_scoped3.sem) (View.wordExact_bits rfl) ((View.wordExact_bits rfl).reshape _ _) ⟨Or.inl rfl, trivial⟩) fun _ =>
            .op (.waitDma2 cc0_scoped3.sem (pbM.slice (Rect.unit (s := S2048) ![0] S1024.size inb_S2048_S1024_0) (fun _ => rfl))
              ((prM.slice (Rect.unit (s := S32x52224) (k0_off9 L (BitVec.ofNat 32 fc)) S1x1024.size (k0_off9_inb L (BitVec.ofNat 32 v) (BitVec.ofNat 32 fc) hw h)) (fun _ => rfl)).squeeze S1024 squeezes_S1x1024_S1024)
              (View.wordExact_bits rfl) ((View.wordExact_bits rfl).reshape _ _)) fun _ => rest)
            else rest) Q) := by
  have hlen : (listG (wid L) fE).length = 1024 * ((1024 * fc + v + 1023) / 1024) := by rw [listG, padded_length, ← hvfc]
  have hlenp := listP_length (wid L) fE
  have hle := bucketG_length_le (wid L) fE 50176
  have hwl := wid_lt L
  have hoff := off9_eq L fc (by omega)
  have ho0 : k0_off9 L (BitVec.ofNat 32 fc) 0 = wid L := by rw [hoff]; rfl
  have ho1 : k0_off9 L (BitVec.ofNat 32 fc) 1 = 1024 * fc := by rw [hoff]; rfl
  have hcond := cond4_iff v hv
  by_cases hc : k0_cond4 (BitVec.ofNat 32 v) = 1#1
  · rw [dif_pos hc]
    have hv0 := hcond.1 hc
    iintro ⟨#Hmw, Hg, Hp, Hgr, Hpr, Hv0, Hv1, HO⟩ Hk
    iapply (wp_flush (tV d L) (m := gbM) (dm := grM) (Sd := wrow (wid L)) rfl page_pos
      (((View.set_reshape _ _).trans (View.set_slice_whole _ _)).subset.trans (page_set _ _ _ ho0))) $$ [Hg Hgr Hv0 HO]
    · isplitr; · iexact Hmw
      isplitl [Hg]; · iexact Hg
      isplitl [Hgr]; · iexact Hgr
      isplitl [Hv0]; · iexact Hv0
      iexact HO
    iintro %gr' %hgr' Hg Hgr Hv0 HO
    iapply (wp_flush (tV d L) (m := pbM) (dm := prM) (Sd := wrow (wid L)) rfl page_pos
      (((View.set_reshape _ _).trans (View.set_slice_whole _ _)).subset.trans (page_set _ _ _ ho0))) $$ [Hp Hpr Hv1 HO]
    · isplitr; · iexact Hmw
      isplitl [Hp]; · iexact Hp
      isplitl [Hpr]; · iexact Hpr
      isplitl [Hv1]; · iexact Hv1
      iexact HO
    iintro %pr' %hpr' Hp Hpr Hv1 HO
    iapply Hk $$ Hg Hp [Hgr Hpr] Hv0 Hv1 HO
    unfold RowsDone
    iexists gr'
    iexists pr'
    isplitr
    · ipureintro
      have e : 1024 * ((1024 * fc + v + 1023) / 1024) = 1024 * fc + 1024 := by omega
      rw [hlenp, hlen, e]
      exact ⟨row_page hgr hg hwl (by omega) ho0 ho1 hgr', row_page hpr hp hwl (by omega) ho0 ho1 hpr'⟩
    isplitl [Hgr] <;> iassumption
  · rw [dif_neg hc]
    have hv0 := hcond.not.1 hc
    iintro ⟨#Hmw, Hg, Hp, Hgr, Hpr, Hv0, Hv1, HO⟩ Hk
    iapply Hk $$ Hg Hp [Hgr Hpr] Hv0 Hv1 HO
    unfold RowsDone
    iexists gr
    iexists pr
    isplitr
    · ipureintro
      have e : 1024 * ((1024 * fc + v + 1023) / 1024) = 1024 * fc := by omega
      rw [hlenp, hlen, e]
      exact ⟨hgr, hpr⟩
    isplitl [Hgr] <;> iassumption

end Cert.Proof.S1
-- ==== Proof.S2Pages.lean ====
/-
  The lists' pages: one half of each list buffer is being filled while the other is read; the two copies of a page are counted on one semaphore.
-/
module

public import proofs.«01_k».proof.Proof.S2Words
public import proofs.«01_k».proof.Proof.S1Tail

@[expose] public section

set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-- Page `e` of row `w` of a list. -/
def pset (w e : ℕ) : Finset S32x52224.Idx := Finset.univ.filter fun i => (i 0).val = w ∧ (i 1).val / 1024 = e

theorem mem_pset {w e : ℕ} {j : S32x52224.Idx} : j ∈ pset w e ↔ (j 0).val = w ∧ (j 1).val / 1024 = e := by simp [pset]

theorem pset_sub (w e : ℕ) : pset w e ⊆ S1.wrow w := by
  intro j hj
  rw [S1.mem_wrow]
  exact (mem_pset.1 hj).1

/-- The semaphore units of one page's copy. -/
abbrev NP : ℕ := (lgM.slice (Rect.unit (s := S2048) ![0] S1024.size inb_S2048_S1024_0) (fun _ => rfl)).view.dmaCredit

theorem NP_pos : 0 < NP := by decide

variable (d : Dev nD) (L : grid2.Coords)

section
variable (gr : Buf (Elt F) (grM.view.loc (tV1 d L))) (pr : Buf (Elt F) (prM.view.loc (tV1 d L)))

/-- The tile's row of a list, as a sequence of words. -/
abbrev Gs : ℕ → BitVec 32 := fun i => at2 (α := BitVec 32) gr (wid1 L) i
abbrev Ps : ℕ → BitVec 32 := fun i => at2 (α := BitVec 32) pr (wid1 L) i

/-- What the two copies of page `e` deliver. -/
def PD (e : ℕ) : Fin 2 → sProp 𝕄 := fun t => if t = 0 then
    iprop((∃ f : Buf (Elt F) (lgM.view.loc (tV1 d L)), ⌜PageIs (Gs d L gr) (e % 2) e f⌝ ∗ (lgM.view.loc (tV1 d L) ↦[hl (e % 2)]{fullShare} f))
      ∗ (grM.view.loc (tV1 d L) ↦[pset (wid1 L) e]{fullShare} gr))
  else
    iprop((∃ f : Buf (Elt F) (lpM.view.loc (tV1 d L)), ⌜PageIs (Ps d L pr) (e % 2) e f⌝ ∗ (lpM.view.loc (tV1 d L) ↦[hl (e % 2)]{fullShare} f))
      ∗ (prM.view.loc (tV1 d L) ↦[pset (wid1 L) e]{fullShare} pr))

instance PD_storable (e : ℕ) (t : Fin 2) : Storable (upEmb : UEmb _ 𝕄) (PD (F := F) d L gr pr e t) := by
  unfold PD
  split <;> infer_instance

theorem PD_all (e : ℕ) : bigSep Finset.univ (PD (F := F) d L gr pr e)
    ⊢ iprop((∃ f : Buf (Elt F) (lgM.view.loc (tV1 d L)), ⌜PageIs (Gs d L gr) (e % 2) e f⌝ ∗ (lgM.view.loc (tV1 d L) ↦[hl (e % 2)]{fullShare} f))
      ∗ (grM.view.loc (tV1 d L) ↦[pset (wid1 L) e]{fullShare} gr)
      ∗ (∃ f : Buf (Elt F) (lpM.view.loc (tV1 d L)), ⌜PageIs (Ps d L pr) (e % 2) e f⌝ ∗ (lpM.view.loc (tV1 d L) ↦[hl (e % 2)]{fullShare} f))
      ∗ (prM.view.loc (tV1 d L) ↦[pset (wid1 L) e]{fullShare} pr)) := by
  have e0 : bigSep Finset.univ (PD (F := F) d L gr pr e)
      = iprop(PD (F := F) d L gr pr e 0 ∗ PD (F := F) d L gr pr e 1 ∗ bigSep ((Finset.univ.erase 0).erase 1) (PD (F := F) d L gr pr e)) := by
    rw [BI.bigSep_erase (Φ := PD (F := F) d L gr pr e) (Finset.mem_univ 0),
      BI.bigSep_erase (Φ := PD (F := F) d L gr pr e) (show (1 : Fin 2) ∈ Finset.univ.erase 0 by decide)]
    rfl
  rw [e0, PD, if_pos rfl, PD, if_neg (by decide)]
  iintro ⟨⟨Hl, Hg⟩, ⟨Hm, Hp⟩, -⟩
  isplitl [Hl]; · iexact Hl
  isplitl [Hg]; · iexact Hg
  isplitl [Hm]; · iexact Hm
  iexact Hp

/-- Page `e` on its way into the list buffers' halves; past the last page (of `n`), those halves lying idle. -/
def Page (n e : ℕ) : sProp 𝕄 :=
  if e < n then
    iprop(Transfers.Batch countersEmb (tV1 d L) (.dma cc2_scratch7.sem) (none : HIx 2) NP (PD (F := F) d L gr pr e) 2 0
      ∗ (grM.view.loc (tV1 d L) ↦[S1.wrow (wid1 L) \ pset (wid1 L) e]{fullShare} gr)
      ∗ (prM.view.loc (tV1 d L) ↦[S1.wrow (wid1 L) \ pset (wid1 L) e]{fullShare} pr))
  else
    iprop(semVal (tV1 d L, .dma cc2_scratch7.sem) 0
      ∗ (grM.view.loc (tV1 d L) ↦[S1.wrow (wid1 L)]{fullShare} gr) ∗ (prM.view.loc (tV1 d L) ↦[S1.wrow (wid1 L)]{fullShare} pr)
      ∗ (∃ f : Buf (Elt F) (lgM.view.loc (tV1 d L)), (lgM.view.loc (tV1 d L) ↦[hl (e % 2)]{fullShare} f))
      ∗ (∃ f : Buf (Elt F) (lpM.view.loc (tV1 d L)), (lpM.view.loc (tV1 d L) ↦[hl (e % 2)]{fullShare} f)))

theorem prect_set (o2 : Fin 2 → ℕ) (inb) (w e : ℕ) (h0 : o2 0 = w) (h1 : o2 1 = 1024 * e) :
    (Rect.unit (s := S32x52224) o2 S1x1024.size inb).set = pset w e := by
  ext j
  refine (mem_unit2 (k := 1) (l := 1024)).trans ?_
  rw [mem_pset, h0, h1]
  omega

theorem gsrc_set (o2 : Fin 2 → ℕ) (inb) (w e : ℕ) (h0 : o2 0 = w) (h1 : o2 1 = 1024 * e) (hst) :
    ((grM.slice (Rect.unit (s := S32x52224) o2 S1x1024.size inb) hst).squeeze S1024 squeezes_S1x1024_S1024).view.set = pset w e :=
  ((View.set_reshape _ _).trans (View.set_slice_whole _ _)).trans (prect_set o2 inb w e h0 h1)

theorem psrc_set' (o2 : Fin 2 → ℕ) (inb) (w e : ℕ) (h0 : o2 0 = w) (h1 : o2 1 = 1024 * e) (hst) :
    ((prM.slice (Rect.unit (s := S32x52224) o2 S1x1024.size inb) hst).squeeze S1024 squeezes_S1x1024_S1024).view.set = pset w e :=
  ((View.set_reshape _ _).trans (View.set_slice_whole _ _)).trans (prect_set o2 inb w e h0 h1)

theorem hrect_sub (o1 : Fin 1 → ℕ) (inb) (b : ℕ) (h0 : o1 0 = 1024 * b) : (Rect.unit (s := S2048) o1 S1024.size inb).set ⊆ hl b := by
  intro j hj
  have h := (Rect.mem_set_unit.1 hj) 0
  rw [mem_hl]
  simp at h
  omega

theorem gdst_set (o1 : Fin 1 → ℕ) (inb) (b : ℕ) (h0 : o1 0 = 1024 * b) (hst) :
    (lgM.slice (Rect.unit (s := S2048) o1 S1024.size inb) hst).view.set ⊆ hl b :=
  ((View.set_slice_whole _ _).subset).trans (hrect_sub o1 inb b h0)

theorem pdst_set (o1 : Fin 1 → ℕ) (inb) (b : ℕ) (h0 : o1 0 = 1024 * b) (hst) :
    (lpM.slice (Rect.unit (s := S2048) o1 S1024.size inb) hst).view.set ⊆ hl b :=
  ((View.set_slice_whole _ _).subset).trans (hrect_sub o1 inb b h0)

/-- What a page's copy leaves in its half of the list of rows; -/
theorem page_written_g (o1 : Fin 1 → ℕ) (inb1) (o2 : Fin 2 → ℕ) (inb2) (e : ℕ) (h1 : o1 0 = 1024 * (e % 2)) (h2 : o2 0 = wid1 L) (h2' : o2 1 = 1024 * e) (hst1 hst2)
    (f : Buf (Elt F) (lgM.view.loc (tV1 d L))) :
    PageIs (Gs d L gr) (e % 2) e ((lgM.slice (Rect.unit (s := S2048) o1 S1024.size inb1) hst1).view.write (Elt F) f
      (((grM.slice (Rect.unit (s := S32x52224) o2 S1x1024.size inb2) hst2).squeeze S1024 squeezes_S1x1024_S1024).view.read (Elt F) gr) Finset.univ) := by
  intro j hj
  have hw := write1 (Val := Elt F) (e := .i32) (k := 1024) lgM.view o1 inb1 f
    (((grM.slice (Rect.unit (s := S32x52224) o2 S1x1024.size inb2) hst2).squeeze S1024 squeezes_S1x1024_S1024).view.read (Elt F) gr) (1024 * (e % 2) + j) (by omega)
  have hr := readRow (Val := Elt F) (e := .i32) grM.view o2 inb2 squeezes_S1x1024_S1024.numel_eq gr j hj
  rw [if_pos (by omega), h1, Nat.add_sub_cancel_left] at hw
  rw [h2, h2'] at hr
  have e1 : ∀ g : Buf (Elt F) (lgM.view.loc (tV1 d L)), lgM.view.read (Elt F) g = g := fun _ => rfl
  have e2 : grM.view.read (Elt F) gr = gr := rfl
  rw [e1] at hw
  rw [e2] at hr
  exact hw.trans hr

/-- in its half of the list of places. -/
theorem page_written_p (o1 : Fin 1 → ℕ) (inb1) (o2 : Fin 2 → ℕ) (inb2) (e : ℕ) (h1 : o1 0 = 1024 * (e % 2)) (h2 : o2 0 = wid1 L) (h2' : o2 1 = 1024 * e) (hst1 hst2)
    (f : Buf (Elt F) (lpM.view.loc (tV1 d L))) :
    PageIs (Ps d L pr) (e % 2) e ((lpM.slice (Rect.unit (s := S2048) o1 S1024.size inb1) hst1).view.write (Elt F) f
      (((prM.slice (Rect.unit (s := S32x52224) o2 S1x1024.size inb2) hst2).squeeze S1024 squeezes_S1x1024_S1024).view.read (Elt F) pr) Finset.univ) := by
  intro j hj
  have hw := write1 (Val := Elt F) (e := .i32) (k := 1024) lpM.view o1 inb1 f
    (((prM.slice (Rect.unit (s := S32x52224) o2 S1x1024.size inb2) hst2).squeeze S1024 squeezes_S1x1024_S1024).view.read (Elt F) pr) (1024 * (e % 2) + j) (by omega)
  have hr := readRow (Val := Elt F) (e := .i32) prM.view o2 inb2 squeezes_S1x1024_S1024.numel_eq pr j hj
  rw [if_pos (by omega), h1, Nat.add_sub_cancel_left] at hw
  rw [h2, h2'] at hr
  have e1 : ∀ g : Buf (Elt F) (lpM.view.loc (tV1 d L)), lpM.view.read (Elt F) g = g := fun _ => rfl
  have e2 : prM.view.read (Elt F) pr = pr := rfl
  rw [e1] at hw
  rw [e2] at hr
  exact hw.trans hr

/-- A copy counted in a batch is issued. -/
theorem wp_issueB {α : Type} {Q : α → sProp (MM F)} (c : Thread nD τ) {sp sp' : Space} {s : Shape} {e : EltTy} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ₀ c.2) α} {q : PosShare TreeShare} {fs : Buf (Elt F) (src.view.loc c)}
    {Ss : Finset (Idx (src.view.loc c))} {Sd : Finset (Idx (dst.view.loc c))} {fd : Buf (Elt F) (dst.view.loc c)} {n : ℕ} {D : Fin n → sProp 𝕄} {j : ℕ}
    (N : ℕ) (hN : dst.view.amount sm = N) (hSs : src.view.set = Ss) (hSd : dst.view.set ⊆ Sd) (hj : j < n)
    (hD : iprop((dst.view.loc c ↦[Sd]{fullShare} (dst.view.write (Elt F) fd (src.view.read (Elt F) fs) Finset.univ)) ∗ (src.view.loc c ↦[Ss]{q} fs)) ⊢ D ⟨j, hj⟩) :
    iprop((src.view.loc c ↦[Ss]{q} fs) ∗ (dst.view.loc c ↦[Sd]{fullShare} fd) ∗ Transfers.Batch countersEmb c sm (none : HIx 2) N D j 0)
      ⊢ iprop((Transfers.Batch countersEmb c sm (none : HIx 2) N D (j + 1) 0 -∗ wp frame (wpE (defs₀ (F := F)) 𝒱₀ c none) Set.univ (k ⟨⟩) Q)
          -∗ wp frame (wpE (defs₀ (F := F)) 𝒱₀ c none) Set.univ (.op (.enqueueDmaAs src (.here dst) .same sm hsrc hdst hsem) k) Q) := by
  subst hSs
  exact Transfers.wp_dmaBatch countersEmb 𝒱₀ c none (none : HIx 2) N hN hSd hj (Nat.zero_le _) hD

/-- The first copy of a page is issued; -/
theorem wp_issue_g {α : Type} {Q : α → sProp (MM F)} (e : ℕ) {o1 : Fin 1 → ℕ} {inb1} {o2 : Fin 2 → ℕ} {inb2}
    (h1 : o1 0 = 1024 * (e % 2)) (h2 : o2 0 = wid1 L) (h2' : o2 1 = 1024 * e)
    {hst1 hst2 hsrc hdst hsem} {kk : PUnit → Prog (TpuEff nD τ sig (Elt F) Λ₀ (tV1 d L).2) α} (f : Buf (Elt F) (lgM.view.loc (tV1 d L))) :
    iprop((grM.view.loc (tV1 d L) ↦[pset (wid1 L) e]{fullShare} gr) ∗ (lgM.view.loc (tV1 d L) ↦[hl (e % 2)]{fullShare} f)
      ∗ Transfers.Batch countersEmb (tV1 d L) (.dma cc2_scratch7.sem) (none : HIx 2) NP (PD (F := F) d L gr pr e) 0 0)
      ⊢ iprop((Transfers.Batch countersEmb (tV1 d L) (.dma cc2_scratch7.sem) (none : HIx 2) NP (PD (F := F) d L gr pr e) (0 + 1) 0
          -∗ wp frame (wpE (defs₀ (F := F)) 𝒱₀ (tV1 d L) none) Set.univ (kk ⟨⟩) Q)
        -∗ wp frame (wpE (defs₀ (F := F)) 𝒱₀ (tV1 d L) none) Set.univ
          (.op (.enqueueDmaAs ((grM.slice (Rect.unit (s := S32x52224) o2 S1x1024.size inb2) hst2).squeeze S1024 squeezes_S1x1024_S1024)
            (.here (lgM.slice (Rect.unit (s := S2048) o1 S1024.size inb1) hst1)) .same (.dma cc2_scratch7.sem) hsrc hdst hsem) kk) Q) := by
  have hD : iprop((lgM.view.loc (tV1 d L) ↦[hl (e % 2)]{fullShare} ((lgM.slice (Rect.unit (s := S2048) o1 S1024.size inb1) hst1).view.write (Elt F) f
      (((grM.slice (Rect.unit (s := S32x52224) o2 S1x1024.size inb2) hst2).squeeze S1024 squeezes_S1x1024_S1024).view.read (Elt F) gr) Finset.univ))
      ∗ (grM.view.loc (tV1 d L) ↦[pset (wid1 L) e]{fullShare} gr)) ⊢ PD (F := F) d L gr pr e ⟨0, by decide⟩ := by
    unfold PD
    rw [if_pos (by rfl)]
    iintro ⟨He, Hs⟩
    isplitl [He]
    · iexists _
      isplitr
      rotate_left
      · iexact He
      · ipureintro
        exact page_written_g d L gr o1 inb1 o2 inb2 e h1 h2 h2' hst1 hst2 f
    · iexact Hs
  have hN : (lgM.slice (Rect.unit (s := S2048) o1 S1024.size inb1) hst1).view.amount (.dma cc2_scratch7.sem) = NP := rfl
  have hs := gsrc_set o2 inb2 (wid1 L) e h2 h2' hst2
  have hd := gdst_set o1 inb1 (e % 2) h1 hst1
  have h := wp_issueB (F := F) (Q := Q) (tV1 d L) (hsrc := hsrc) (hdst := hdst) (hsem := hsem) (k := kk) (n := 2) (j := 0) NP hN hs hd (by decide) hD
  exact h

/-- the second. -/
theorem wp_issue_p {α : Type} {Q : α → sProp (MM F)} (e : ℕ) {o1 : Fin 1 → ℕ} {inb1} {o2 : Fin 2 → ℕ} {inb2}
    (h1 : o1 0 = 1024 * (e % 2)) (h2 : o2 0 = wid1 L) (h2' : o2 1 = 1024 * e)
    {hst1 hst2 hsrc hdst hsem} {kk : PUnit → Prog (TpuEff nD τ sig (Elt F) Λ₀ (tV1 d L).2) α} (f : Buf (Elt F) (lpM.view.loc (tV1 d L))) :
    iprop((prM.view.loc (tV1 d L) ↦[pset (wid1 L) e]{fullShare} pr) ∗ (lpM.view.loc (tV1 d L) ↦[hl (e % 2)]{fullShare} f)
      ∗ Transfers.Batch countersEmb (tV1 d L) (.dma cc2_scratch7.sem) (none : HIx 2) NP (PD (F := F) d L gr pr e) 1 0)
      ⊢ iprop((Transfers.Batch countersEmb (tV1 d L) (.dma cc2_scratch7.sem) (none : HIx 2) NP (PD (F := F) d L gr pr e) (1 + 1) 0
          -∗ wp frame (wpE (defs₀ (F := F)) 𝒱₀ (tV1 d L) none) Set.univ (kk ⟨⟩) Q)
        -∗ wp frame (wpE (defs₀ (F := F)) 𝒱₀ (tV1 d L) none) Set.univ
          (.op (.enqueueDmaAs ((prM.slice (Rect.unit (s := S32x52224) o2 S1x1024.size inb2) hst2).squeeze S1024 squeezes_S1x1024_S1024)
            (.here (lpM.slice (Rect.unit (s := S2048) o1 S1024.size inb1) hst1)) .same (.dma cc2_scratch7.sem) hsrc hdst hsem) kk) Q) := by
  have hD : iprop((lpM.view.loc (tV1 d L) ↦[hl (e % 2)]{fullShare} ((lpM.slice (Rect.unit (s := S2048) o1 S1024.size inb1) hst1).view.write (Elt F) f
      (((prM.slice (Rect.unit (s := S32x52224) o2 S1x1024.size inb2) hst2).squeeze S1024 squeezes_S1x1024_S1024).view.read (Elt F) pr) Finset.univ))
      ∗ (prM.view.loc (tV1 d L) ↦[pset (wid1 L) e]{fullShare} pr)) ⊢ PD (F := F) d L gr pr e ⟨1, by decide⟩ := by
    unfold PD
    rw [if_neg (by decide)]
    iintro ⟨He, Hs⟩
    isplitl [He]
    · iexists _
      isplitr
      rotate_left
      · iexact He
      · ipureintro
        exact page_written_p d L pr o1 inb1 o2 inb2 e h1 h2 h2' hst1 hst2 f
    · iexact Hs
  have hN : (lpM.slice (Rect.unit (s := S2048) o1 S1024.size inb1) hst1).view.amount (.dma cc2_scratch7.sem) = NP := rfl
  have hs := psrc_set' o2 inb2 (wid1 L) e h2 h2' hst2
  have hd := pdst_set o1 inb1 (e % 2) h1 hst1
  have h := wp_issueB (F := F) (Q := Q) (tV1 d L) (hsrc := hsrc) (hdst := hdst) (hsem := hsem) (k := kk) (n := 2) (j := 1) NP hN hs hd (by decide) hD
  exact h

/-- A page's two copies are issued. -/
theorem wp_issue_page {α : Type} {Q : α → sProp (MM F)} (n e : ℕ) (he : e < n) {o1 : Fin 1 → ℕ} {inb1 inb1'} {o2 : Fin 2 → ℕ} {inb2 inb2'}
    (h1 : o1 0 = 1024 * (e % 2)) (h2 : o2 0 = wid1 L) (h2' : o2 1 = 1024 * e)
    {hst1 hst2 hsrc hdst hsem hst1' hst2' hsrc' hdst' hsem'} {kk : PUnit → Prog (TpuEff nD τ sig (Elt F) Λ₀ (tV1 d L).2) α} :
    iprop(semVal (tV1 d L, .dma cc2_scratch7.sem) 0
      ∗ (grM.view.loc (tV1 d L) ↦[S1.wrow (wid1 L)]{fullShare} gr) ∗ (prM.view.loc (tV1 d L) ↦[S1.wrow (wid1 L)]{fullShare} pr)
      ∗ (∃ f : Buf (Elt F) (lgM.view.loc (tV1 d L)), (lgM.view.loc (tV1 d L) ↦[hl (e % 2)]{fullShare} f))
      ∗ (∃ f : Buf (Elt F) (lpM.view.loc (tV1 d L)), (lpM.view.loc (tV1 d L) ↦[hl (e % 2)]{fullShare} f)))
      ⊢ iprop((Page (F := F) d L gr pr n e -∗ wp frame (wpE (defs₀ (F := F)) 𝒱₀ (tV1 d L) none) Set.univ (kk ⟨⟩) Q)
        -∗ wp frame (wpE (defs₀ (F := F)) 𝒱₀ (tV1 d L) none) Set.univ
          (.op (.enqueueDmaAs ((grM.slice (Rect.unit (s := S32x52224) o2 S1x1024.size inb2) hst2).squeeze S1024 squeezes_S1x1024_S1024)
            (.here (lgM.slice (Rect.unit (s := S2048) o1 S1024.size inb1) hst1)) .same (.dma cc2_scratch7.sem) hsrc hdst hsem) fun _ =>
          .op (.enqueueDmaAs ((prM.slice (Rect.unit (s := S32x52224) o2 S1x1024.size inb2') hst2').squeeze S1024 squeezes_S1x1024_S1024)
            (.here (lpM.slice (Rect.unit (s := S2048) o1 S1024.size inb1') hst1')) .same (.dma cc2_scratch7.sem) hsrc' hdst' hsem') kk) Q) := by
  iintro ⟨Hv, Hg, Hp, ⟨%f, Hl⟩, ⟨%f', Hm⟩⟩ Hk
  ihave Hg := (pointsTo_split_subset (q := fullShare) (f := gr) (pset_sub (wid1 L) e)).1 $$ Hg
  icases Hg with ⟨Hg, Hgr⟩
  ihave Hp := (pointsTo_split_subset (q := fullShare) (f := pr) (pset_sub (wid1 L) e)).1 $$ Hp
  icases Hp with ⟨Hp, Hpr⟩
  imod (Transfers.batch_alloc' countersEmb (tV1 d L) (none : HIx 2) NP (PD (F := F) d L gr pr e) (E := Set.univ)) $$ Hv with HB
  iapply (wp_issue_g d L gr pr e h1 h2 h2' f) $$ [Hg Hl HB]
  · isplitl [Hg]; · iexact Hg
    isplitl [Hl]; · iexact Hl
    iexact HB
  iintro HB
  iapply (wp_issue_p d L gr pr e h1 h2 h2' f') $$ [Hp Hm HB]
  · isplitl [Hp]; · iexact Hp
    isplitl [Hm]; · iexact Hm
    iexact HB
  iintro HB
  iapply Hk
  rw [Page, if_pos he]
  isplitl [HB]; · iexact HB
  isplitl [Hgr]; · iexact Hgr
  iexact Hpr

/-- A page has arrived: its halves hold it. -/
theorem wp_await_page {α : Type} {Q : α → sProp (MM F)} (n e : ℕ) (he : e < n) {κ' κ'' : Kind} {sp sp' sp1 sp1' : Space} {s s' s1 s1' : Shape} {e0 e0' e1 e1' : EltTy}
    {srcw : Memref sig (tV1 d L).2.kind sp' s' e0'} {dstw : Memref sig κ' sp s e0} {hsrc : srcw.view.WordExact} {hdst : dstw.view.WordExact}
    {srcw' : Memref sig (tV1 d L).2.kind sp1' s1' e1'} {dstw' : Memref sig κ'' sp1 s1 e1} {hsrc' : srcw'.view.WordExact} {hdst' : dstw'.view.WordExact}
    {kk : PUnit → Prog (TpuEff nD τ sig (Elt F) Λ₀ (tV1 d L).2) α} (hN : dstw.view.dmaCredit = NP) (hN' : dstw'.view.dmaCredit = NP)
    {O : CellTallies nD τ sig (HIx 2)} {W : Waits sig (HIx 2)} :
    iprop(Transfers.MayWaits (tV1 d L) (none : HIx 2) O ∗ Page (F := F) d L gr pr n e ∗ Ow (F := F) (tV1 d L) O W)
      ⊢ iprop((∀ (f : Buf (Elt F) (lgM.view.loc (tV1 d L))) (f' : Buf (Elt F) (lpM.view.loc (tV1 d L))),
            ⌜PageIs (Gs d L gr) (e % 2) e f⌝ -∗ ⌜PageIs (Ps d L pr) (e % 2) e f'⌝
            -∗ (lgM.view.loc (tV1 d L) ↦[hl (e % 2)]{fullShare} f) -∗ (lpM.view.loc (tV1 d L) ↦[hl (e % 2)]{fullShare} f')
            -∗ (grM.view.loc (tV1 d L) ↦[S1.wrow (wid1 L)]{fullShare} gr) -∗ (prM.view.loc (tV1 d L) ↦[S1.wrow (wid1 L)]{fullShare} pr)
            -∗ semVal (tV1 d L, .dma cc2_scratch7.sem) 0
            -∗ Ow (F := F) (tV1 d L) O W -∗ wp frame (wpE (defs₀ (F := F)) 𝒱₀ (tV1 d L) none) Set.univ (kk ⟨⟩) Q)
          -∗ wp frame (wpE (defs₀ (F := F)) 𝒱₀ (tV1 d L) none) Set.univ
            (.op (.waitDma2 cc2_scratch7.sem srcw dstw hsrc hdst) fun _ => .op (.waitDma2 cc2_scratch7.sem srcw' dstw' hsrc' hdst') kk) Q) := by
  conv_lhs => unfold Ow
  rw [Page, if_pos he]
  iintro ⟨#Hmw, ⟨HB, Hgr, Hpr⟩, ⟨%W', %hW, HO⟩⟩ Hk
  iapply (Transfers.wp_waitBatchO countersEmb 𝒱₀ (tV1 d L) none (none : HIx 2) (D := PD (F := F) d L gr pr e) hN (u := 0) (by have := NP_pos; omega)) $$ [HB HO]
  · isplitl [HB]; · iexact HB
    isplitl [HO]; · iexact HO
    iapply (Transfers.MayWaits.elim (SemLoc.dma cc2_scratch7.sem)) $$ Hmw
  iintro ⟨HB, HO⟩
  iapply (Transfers.wp_waitBatchLastO countersEmb 𝒱₀ (tV1 d L) none (none : HIx 2) (D := PD (F := F) d L gr pr e) hN' NP_pos (u := 0 + NP) (by omega)) $$ [HB HO]
  · isplitl [HB]; · iexact HB
    isplitl [HO]; · iexact HO
    iapply (Transfers.MayWaits.elim (SemLoc.dma cc2_scratch7.sem)) $$ Hmw
  iintro ⟨HD, Hv, HO⟩
  ihave HD := (PD_all (F := F) d L gr pr e) $$ HD
  icases HD with ⟨⟨%f, %hf, Hl⟩, Hg, ⟨%f', %hf', Hm⟩, Hp⟩
  ihave Hg := (pointsTo_split_subset (q := fullShare) (f := gr) (pset_sub (wid1 L) e)).2 $$ [Hg Hgr]
  · isplitl [Hg] <;> iassumption
  ihave Hp := (pointsTo_split_subset (q := fullShare) (f := pr) (pset_sub (wid1 L) e)).2 $$ [Hp Hpr]
  · isplitl [Hp] <;> iassumption
  iapply Hk $$ %f %f' %hf %hf' Hl Hm Hg Hp Hv [HO]
  have hW2 : ∀ p ∈ insert (SemLoc.dma cc2_scratch7.sem, (none : HIx 2)) W', p ∈ W ∨ p.2 = none := by
    intro p hp
    rcases Finset.mem_insert.1 hp with rfl | hp
    · exact Or.inr rfl
    · exact hW p hp
  iapply (Ow_insert (tV1 d L) O W _ hW2) $$ HO
end

end Cert.Proof.S2
-- ==== Proof.S2Gather.lean ====
/-
  The second kernel's gathers: for each of the five planes of the table of rows, sixteen rows named by sixteen consecutive words of
  the list are fetched into one half of the staging buffer.
-/
module

public import proofs.«01_k».proof.Proof.Words
public import proofs.«01_k».proof.Proof.S2Setup

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views

variable {F : FTy → Type} [FloatOps F]

local notation "𝕄" => MM F

/-! ## The parts of the buffers -/

/-- Plane `k` of the table. -/
def qp (k : ℕ) : Finset S5x40960x2x128.Idx := Finset.univ.filter fun x => (x 0).val = k
/-- Half `h` of plane `k` of the staging buffer. -/
def plane (k h : ℕ) : Finset S5x32x2x128.Idx := Finset.univ.filter fun x => (x 0).val = k ∧ (x 1).val / 16 = h
/-- Half `h` of the staging buffer. -/
def half (h : ℕ) : Finset S5x32x2x128.Idx := Finset.univ.filter fun x => (x 1).val / 16 = h
/-- Sixteen words of the list from word `o` on. -/
def oset (o : ℕ) : Finset S1056.Idx := Finset.univ.filter fun x => o ≤ (x 0).val ∧ (x 0).val < o + 16

/-- The row number a word of the list names. -/
def rowFin (b : BitVec 32) : Fin 40960 := ⟨b.toNat % 40960, Nat.mod_lt _ (by norm_num)⟩

/-- An index of the table. -/
def ix4 (k : Fin 5) (r : Fin 40960) (a : Fin 2) (b : Fin 128) : S5x40960x2x128.Idx :=
  fun y => match y with | ⟨0, _⟩ => k | ⟨1, _⟩ => r | ⟨2, _⟩ => a | ⟨3, _⟩ => b

/-- What the gathers of sixteen words from word `o` on leave in a half of the staging buffer. -/
def stg (fqt : Vec F S5x40960x2x128 .f32) (fg : S1056.Idx → BitVec 32) (o : ℕ) : Vec F S5x32x2x128 .f32 :=
  fun x => fqt (ix4 (x 0) (rowFin (at1 fg (o + (x 1).val % 16))) (x 2) (x 3))

/-! ## The memrefs the gathers are written with -/

abbrev dstM (off : Fin 4 → ℕ) (inb : ∀ a, off a + S1x16x2x128.size a ≤ S5x32x2x128.size a) : Memref sig .scVector .vmem S16x2x128 .f32 :=
  (stM.slice (Rect.unit (s := S5x32x2x128) off S1x16x2x128.size inb) (fun _ => rfl)).squeeze S16x2x128 squeezes_S1x16x2x128_S16x2x128
abbrev srcM (k : ℕ) (inb : ∀ a, (![k, 0, 0, 0] : Fin 4 → ℕ) a + S1x40960x2x128.size a ≤ S5x40960x2x128.size a)
    (inb' : ∀ a, (![0, 0, 0] : Fin 3 → ℕ) a + S40960x2x128.size a ≤ S40960x2x128.size a) : Memref sig .scVector .hbm S40960x2x128 .f32 :=
  ((qtM.slice (Rect.unit (s := S5x40960x2x128) ![k, 0, 0, 0] S1x40960x2x128.size inb) (fun _ => rfl)).squeeze S40960x2x128 squeezes_S1x40960x2x128_S40960x2x128).slice
    (Rect.unit (s := S40960x2x128) ![0, 0, 0] S40960x2x128.size inb') (fun _ => rfl)
abbrev offM (o : Fin 1 → ℕ) (inb : ∀ a, o a + S16.size a ≤ S1056.size a) : Memref sig .scVector .vmem S16 .i32 :=
  giM.slice (Rect.unit (s := S1056) o S16.size inb) (fun _ => rfl)

theorem mem_unit4 {d k : Fin 4 → ℕ} {off : Fin 4 → ℕ} {inb} {x : Shape.Idx ⟨4, d⟩} :
    x ∈ (Rect.unit (s := ⟨4, d⟩) off k inb).set ↔
      (off 0 ≤ (x 0).val ∧ (x 0).val < off 0 + k 0) ∧ (off 1 ≤ (x 1).val ∧ (x 1).val < off 1 + k 1)
        ∧ (off 2 ≤ (x 2).val ∧ (x 2).val < off 2 + k 2) ∧ (off 3 ≤ (x 3).val ∧ (x 3).val < off 3 + k 3) := by
  rw [Rect.mem_set_unit]
  constructor
  · intro h; exact ⟨h 0, h 1, h 2, h 3⟩
  · rintro ⟨h0, h1, h2, h3⟩ y
    match y with
    | ⟨0, _⟩ => exact h0
    | ⟨1, _⟩ => exact h1
    | ⟨2, _⟩ => exact h2
    | ⟨3, _⟩ => exact h3

theorem dst_set (k h : ℕ) (inb) : (dstM ![k, 16 * h, 0, 0] inb).view.set = plane k h := by
  refine ((View.set_reshape _ _).trans (View.set_slice_whole _ _)).trans ?_
  ext x
  refine mem_unit4.trans ?_
  have h2 : (x 2).val < 2 := (x 2).isLt
  have h3 : (x 3).val < 128 := (x 3).isLt
  show (k ≤ (x 0).val ∧ (x 0).val < k + 1) ∧ (16 * h ≤ (x 1).val ∧ (x 1).val < 16 * h + 16) ∧ (0 ≤ (x 2).val ∧ (x 2).val < 0 + 2) ∧ (0 ≤ (x 3).val ∧ (x 3).val < 0 + 128) ↔ _
  simp only [plane, Finset.mem_filter, Finset.mem_univ, true_and]
  omega

theorem off_set (o : ℕ) (inb) : (offM ![o] inb).view.set = oset o := by
  refine (View.set_slice_whole _ _).trans ?_
  ext x
  rw [Rect.mem_set_unit]
  simp only [oset, Finset.mem_filter, Finset.mem_univ, true_and]
  constructor
  · intro hx; exact hx 0
  · intro hx a
    rw [Fin.eq_zero a]; exact hx

/-- Where element `y` of a destination lies. -/
theorem dst_emb (off : Fin 4 → ℕ) (inb) (y : S16x2x128.Idx) :
    (((dstM off inb).view.emb y) 0).val = off 0 ∧ (((dstM off inb).view.emb y) 1).val = off 1 + (y 0).val
      ∧ (((dstM off inb).view.emb y) 2).val = off 2 + (y 1).val ∧ (((dstM off inb).view.emb y) 3).val = off 3 + (y 2).val := by
  have e : (dstM off inb).view.emb y = (Rect.unit (s := S5x32x2x128) off S1x16x2x128.size inb).emb (Fin.cons ⟨0, Nat.one_pos⟩ y) := by
    show (Rect.unit (s := S5x32x2x128) off S1x16x2x128.size inb).emb (Shape.reshapeEquiv _ y) = _
    congr 1
    exact Shape.reshapeEquiv_cons_one (d := ![16, 2, 128]) _ y
  rw [e]
  refine ⟨?_, ?_, ?_, ?_⟩
  · show off 0 + 1 * 0 = _; omega
  · show off 1 + 1 * (y 0).val = _; omega
  · show off 2 + 1 * (y 1).val = _; omega
  · show off 3 + 1 * (y 2).val = _; omega

/-- Where element `z` of a table's plane lies. -/
theorem src_emb (k : Fin 5) (inb inb') (z : S40960x2x128.Idx) :
    (srcM k.val inb inb').view.emb z = ix4 k (z 0) (z 1) (z 2) := by
  have e : (srcM k.val inb inb').view.emb z = (Rect.unit (s := S5x40960x2x128) ![k.val, 0, 0, 0] S1x40960x2x128.size inb).emb
      (Fin.cons ⟨0, Nat.one_pos⟩ ((Rect.unit (s := S40960x2x128) ![0, 0, 0] S40960x2x128.size inb').emb z)) := by
    show (Rect.unit (s := S5x40960x2x128) ![k.val, 0, 0, 0] S1x40960x2x128.size inb).emb (Shape.reshapeEquiv _ ((Rect.unit (s := S40960x2x128) ![0, 0, 0] S40960x2x128.size inb').emb z)) = _
    congr 1
    exact Shape.reshapeEquiv_cons_one (d := ![40960, 2, 128]) _ _
  rw [e]
  funext a
  apply Fin.ext
  match a with
  | ⟨0, _⟩ => show k.val + 1 * 0 = k.val; omega
  | ⟨1, _⟩ => show 0 + 1 * (0 + 1 * (z 0).val) = (z 0).val; omega
  | ⟨2, _⟩ => show 0 + 1 * (0 + 1 * (z 1).val) = (z 1).val; omega
  | ⟨3, _⟩ => show 0 + 1 * (0 + 1 * (z 2).val) = (z 2).val; omega

theorem src_set (k : Fin 5) (inb inb') : (srcM k.val inb inb').view.set = qp k.val := by
  ext x
  simp only [qp, Finset.mem_filter, Finset.mem_univ, true_and]
  constructor
  · intro hx
    obtain ⟨z, -, rfl⟩ := Finset.mem_map.1 hx
    rw [src_emb]; rfl
  · intro hx
    refine Finset.mem_map.2 ⟨fun a => match a with | ⟨0, _⟩ => x 1 | ⟨1, _⟩ => x 2 | ⟨2, _⟩ => x 3, Finset.mem_univ _, ?_⟩
    rw [src_emb]
    funext a
    match a with
    | ⟨0, _⟩ => exact Fin.ext hx.symm
    | ⟨1, _⟩ => rfl
    | ⟨2, _⟩ => rfl
    | ⟨3, _⟩ => rfl

/-! ## One gather -/

variable (d : Dev nD) (L : grid2.Coords)

/-- The credit of one gather. -/
def gN : ℕ := (dstM ![0, 0, 0, 0] (by decide)).view.dmaCredit

theorem gN_eq : ∑ j : Fin (S16x2x128.size gathers_S40960x2x128_S16x2x128.axis'), ((dstM ![0, 0, 0, 0] (by decide)).slice (S16x2x128.rowRect gathers_S40960x2x128_S16x2x128.axis' j) (S16x2x128.stride_rowRect gathers_S40960x2x128_S16x2x128.axis' j)).view.dmaCredit = gN := by
  decide

theorem gather_pos : 0 < S16x2x128.numel := by decide

/-- What a gather of plane `k` delivers. -/
def GD (q : PosShare TreeShare) (fqt : Buf (Elt F) (qtM.view.loc (tV1 d L))) (fg : Buf (Elt F) (giM.view.loc (tV1 d L))) (k h o : ℕ) (p : PosShare TreeShare) : sProp 𝕄 :=
  iprop((stM.view.loc (tV1 d L) ↦[plane k h]{fullShare} (stg fqt fg o : Buf (Elt F) (stM.view.loc (tV1 d L))))
    ∗ (qtM.view.loc (tV1 d L) ↦[qp k]{q} fqt) ∗ (giM.view.loc (tV1 d L) ↦[oset o]{p} fg))

/-- A gather of plane `k` that is under way. -/
def GF (q : PosShare TreeShare) (fqt : Buf (Elt F) (qtM.view.loc (tV1 d L))) (fg : Buf (Elt F) (giM.view.loc (tV1 d L))) (sem : DmaSem sig) (k h o : ℕ) (p : PosShare TreeShare) : sProp 𝕄 :=
  iprop(Transfers.Flight countersEmb (tV1 d L) (.dma sem) (none : HIx 2) gN (GD d L q fqt fg k h o p)
    ∗ (giM.view.loc (tV1 d L) ↦[Finset.univ \ oset o]{p} fg))

theorem wp_fire {α : Type} {Q : α → sProp (MM F)} (k : Fin 5) {h o : ℕ} {off : Fin 4 → ℕ} {inb} {off1 : Fin 1 → ℕ} {inb1} {inbs inbs'} {sem : DmaSem sig}
    (hoff : off = ![k.val, 16 * h, 0, 0]) (hoff1 : off1 = ![o])
    {hp : (tV1 d L).2.kind = .scVector} {hn : S16.numel = S16x2x128.size gathers_S40960x2x128_S16x2x128.axis'} {hsrc : (srcM k.val inbs inbs').view.WordExact} {he : EltTy.f32.bits = 32} {hsp : Space.hbm = .hbm ∨ Space.hbm = .shared} {hr : S40960x2x128.StreamRows 0}
    {kk : PUnit → Prog (TpuEff nD τ sig (Elt F) Λ₀ (tV1 d L).2) α} {q p : PosShare TreeShare}
    {fqt : Buf (Elt F) (qtM.view.loc (tV1 d L))} {fg : Buf (Elt F) (giM.view.loc (tV1 d L))} {f : Buf (Elt F) (stM.view.loc (tV1 d L))}
    (hin : ∀ j, j < 16 → (at1 (α := BitVec 32) fg (o + j)).toNat < 40960) :
    iprop(semVal (tV1 d L, SemLoc.dma sem) 0 ∗ (stM.view.loc (tV1 d L) ↦[plane k.val h]{fullShare} f)
        ∗ (qtM.view.loc (tV1 d L) ↦[qp k.val]{q} fqt) ∗ (giM.view.loc (tV1 d L) ↦{p} fg))
      ⊢ iprop((GF d L q fqt fg sem k.val h o p -∗ wp frame (wpE (defs₀ (F := F)) 𝒱₀ (tV1 d L) none) Set.univ (kk ⟨⟩) Q)
          -∗ wp frame (wpE (defs₀ (F := F)) 𝒱₀ (tV1 d L) none) Set.univ
              (SparseCore.enqueueIndirectGather hp (srcM k.val inbs inbs') (dstM off inb) gathers_S40960x2x128_S16x2x128 (offM off1 inb1) hn sem hsrc he hsp hr >>= kk) Q) := by
  subst hoff hoff1
  have rd1 : ∀ x : S16.Idx, (offM ![o] inb1).view.read (Elt F) fg x = at1 (α := BitVec 32) fg (o + (x 0).val) := fun x => by
    show fg ((Rect.unit (s := S1056) ![o] S16.size inb1).emb x) = _
    refine at1_of (α := BitVec 32) (n := 1056) fg _ _ ?_
    show o + 1 * (x 0).val = _; omega
  have hinx : ∀ x, ((offM ![o] inb1).view.read (Elt F) fg x).toNat < S40960x2x128.size gathers_S40960x2x128_S16x2x128.axis := fun x => by
    rw [rd1]; exact hin _ (x 0).isLt
  iintro ⟨Hv, Hd, Hs, Hg⟩ Hk
  ihave Hg := (pointsTo_split_subset (q := p) (f := fg) (Finset.subset_univ (oset o))).1 $$ Hg
  icases Hg with ⟨Hg, Hr⟩
  iapply (SparseCore.wp_indirectGatherLocal countersEmb 𝒱₀ (tV1 d L) none (src := srcM k.val inbs inbs') (dst := dstM ![k.val, 16 * h, 0, 0] inb)
    (hg := gathers_S40960x2x128_S16x2x128) (offs := offM ![o] inb1) (q := q) (qo := p) (fs := fqt) (fd := f) (fo := fg) (none : HIx 2) gN gN_eq gather_pos hinx) $$ [Hv Hd Hs Hg]
  · isplitl [Hs]; · rw [src_set]; iexact Hs
    isplitl [Hd]; · rw [dst_set]; iexact Hd
    isplitl [Hg]; · rw [off_set]; iexact Hg
    iexact Hv
  iintro Hf
  iapply Hk
  unfold GF
  isplitl [Hf]
  · iapply (Transfers.Flight_mono countersEmb (tV1 d L) ?_) $$ Hf
    unfold GD
    rw [src_set, dst_set, off_set]
    iintro ⟨Hd, Hs, Hg⟩
    isplitl [Hd]
    rotate_left
    · isplitl [Hs]; · iexact Hs
      iexact Hg
    iapply (Entails.of_eq (pointsTo_congr ?_)) $$ Hd
    intro i hi
    rw [← dst_set k.val h inb] at hi
    obtain ⟨y, -, rfl⟩ := Finset.mem_map.1 hi
    rw [View.write_emb_of_mem _ _ (Finset.mem_univ y)]
    obtain ⟨e0, e1, e2, e3⟩ := dst_emb ![k.val, 16 * h, 0, 0] inb y
    have hy0 : (y 0).val < 16 := (y 0).isLt
    show fqt ((srcM k.val inbs inbs').view.emb _) = _
    rw [src_emb]
    unfold stg
    congr 1
    have ea : (dstM ![k.val, 16 * h, 0, 0] inb).view.emb y 0 = k := Fin.ext e0
    have ec : (dstM ![k.val, 16 * h, 0, 0] inb).view.emb y 2 = y 1 := Fin.ext (e2.trans (Nat.zero_add _))
    have ed : (dstM ![k.val, 16 * h, 0, 0] inb).view.emb y 3 = y 2 := Fin.ext (e3.trans (Nat.zero_add _))
    have er : (((dstM ![k.val, 16 * h, 0, 0] inb).view.emb y) 1).val % 16 = (y 0).val := by
      rw [e1]; show (16 * h + (y 0).val) % 16 = _; omega
    have hrow : (gathers_S40960x2x128_S16x2x128.idx (SparseCore.rows ((offM ![o] inb1).view.read (Elt F) fg) hn hinx) y) 0 = rowFin (at1 (α := BitVec 32) fg (o + (y 0).val)) := by
      refine (Shape.Gathers.idx_axis gathers_S40960x2x128_S16x2x128 _ y).trans ?_
      apply Fin.ext
      show ((offM ![o] inb1).view.read (Elt F) fg (S16.rowMajor.symm _)).toNat = _ % 40960
      rw [rd1, Nat.mod_eq_of_lt (hin _ hy0)]
      congr 3
      have hz := Shape.rowMajor_val_one (S16.rowMajor.symm (Fin.cast hn.symm (y gathers_S40960x2x128_S16x2x128.axis')))
      rw [Equiv.apply_symm_apply] at hz
      exact hz.symm
    rw [hrow, ea, ec, ed, er]
    rfl
  · iexact Hr

theorem wp_gwait {α : Type} {Q : α → sProp (MM F)} (k : Fin 5) {h o : ℕ} {off : Fin 4 → ℕ} {inb} {inbs inbs'} {sem : DmaSem sig}
    {hsrc : (srcM k.val inbs inbs').view.WordExact} {hdst : (dstM off inb).view.WordExact}
    {kk : PUnit → Prog (TpuEff nD τ sig (Elt F) Λ₀ (tV1 d L).2) α} {q p : PosShare TreeShare}
    {fqt : Buf (Elt F) (qtM.view.loc (tV1 d L))} {fg : Buf (Elt F) (giM.view.loc (tV1 d L))}
    {O : CellTallies nD τ sig (HIx 2)} {W : Waits sig (HIx 2)} :
    iprop(Transfers.MayWaits (tV1 d L) (none : HIx 2) O ∗ GF d L q fqt fg sem k.val h o p ∗ Ow (F := F) (tV1 d L) O W)
      ⊢ iprop((iprop(semVal (tV1 d L, SemLoc.dma sem) 0 ∗ (stM.view.loc (tV1 d L) ↦[plane k.val h]{fullShare} (stg fqt fg o : Buf (Elt F) (stM.view.loc (tV1 d L))))
              ∗ (qtM.view.loc (tV1 d L) ↦[qp k.val]{q} fqt) ∗ (giM.view.loc (tV1 d L) ↦{p} fg)) -∗ Ow (F := F) (tV1 d L) O W
            -∗ wp frame (wpE (defs₀ (F := F)) 𝒱₀ (tV1 d L) none) Set.univ (kk ⟨⟩) Q)
          -∗ wp frame (wpE (defs₀ (F := F)) 𝒱₀ (tV1 d L) none) Set.univ
              (SparseCore.waitIndirectGather sem (srcM k.val inbs inbs') (dstM off inb) hsrc hdst >>= kk) Q) := by
  conv_lhs => unfold GF GD
  show _ ⊢ iprop(_ -∗ wp frame (wpE (defs₀ (F := F)) 𝒱₀ (tV1 d L) none) Set.univ (.op (.waitDma2 sem (srcM k.val inbs inbs') (dstM off inb) hsrc hdst) kk) Q)
  iintro ⟨#Hmw, ⟨Hf, Hr⟩, HO⟩ Hk
  iapply (wp_await (tV1 d L) (srcw := srcM k.val inbs inbs') (dstw := dstM off inb) (hsrc := hsrc) (hdst := hdst) (N := gN) (show (dstM off inb).view.dmaCredit = gN from rfl)) $$ [Hf HO]
  · isplitr; · iexact Hmw
    isplitl [Hf]; · iexact Hf
    iexact HO
  iintro ⟨⟨Hd, Hs, Hg⟩, Hv, HO⟩
  ihave Hg := (pointsTo_split_subset (q := p) (f := fg) (Finset.subset_univ (oset o))).2 $$ [Hg Hr]
  · isplitl [Hg] <;> iassumption
  iapply Hk $$ [Hv Hd Hs Hg] HO
  isplitl [Hv]; · iexact Hv
  isplitl [Hd]; · iexact Hd
  isplitl [Hs]; · iexact Hs
  iexact Hg

end Cert.Proof.S2
-- ==== Proof.S2Row.lean ====
/-
  A fetched row added to a row of the slab: sixteen columns at a time, eighty times.
-/
module

public import proofs.«01_k».proof.Proof.S2Gather

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views

variable {F : FTy → Type} [FloatOps F]

local notation "𝕄" => MM F

/-! ## What the additions leave -/

/-- Where column `c` of row `r` lies in the table of five planes. -/
def qix (r : Fin 40960) (c : Fin 1280) : S5x40960x2x128.Idx :=
  ix4 ⟨c.val / 256, by omega⟩ r ⟨c.val / 128 % 2, Nat.mod_lt _ (by norm_num)⟩ ⟨c.val % 128, Nat.mod_lt _ (by norm_num)⟩

/-- Row `r` of the table added to the first `16 * n` columns of slab row `dd`. -/
def colF (fqt : Vec F S5x40960x2x128 .f32) (r : Fin 40960) (dd n : ℕ) (s : Vec F S64x1280 .f32) : Vec F S64x1280 .f32 :=
  fun x => if (x 0).val = dd ∧ (x 1).val < 16 * n then FloatOps.addf (s x) (fqt (qix r (x 1))) else s x

/-- One entry's row added to the slab. -/
def accOne (fqt : Vec F S5x40960x2x128 .f32) (s : Vec F S64x1280 .f32) (e : BitVec 32 × BitVec 32) : Vec F S64x1280 .f32 :=
  colF fqt (rowFin e.1) e.2.toNat 80 s

/-- The first `n` entries' rows added to the slab, in order. -/
def accN (fqt : Vec F S5x40960x2x128 .f32) (fg fi : S1056.Idx → BitVec 32) (n : ℕ) (s : Vec F S64x1280 .f32) : Vec F S64x1280 .f32 :=
  ((List.range n).map fun j => (at1 fg j, at1 fi j)).foldl (accOne fqt) s

theorem accN_succ (fqt : Vec F S5x40960x2x128 .f32) (fg fi : S1056.Idx → BitVec 32) (n : ℕ) (s : Vec F S64x1280 .f32) :
    accN fqt fg fi (n + 1) s = colF fqt (rowFin (at1 fg n)) (at1 fi n).toNat 80 (accN fqt fg fi n s) := by
  unfold accN
  rw [List.range_succ, List.map_append, List.foldl_append]
  rfl

theorem colF_zero (fqt : Vec F S5x40960x2x128 .f32) (r : Fin 40960) (dd : ℕ) (s : Vec F S64x1280 .f32) : colF fqt r dd 0 s = s := by
  funext x
  unfold colF
  rw [if_neg (by omega)]

/-! ## One sixteen columns -/

/-- The sum of a fetched piece and a slab piece. -/
def sum16 (w1 : Vec F S1x1x1x16 .f32) (w2 : Vec F S1x16 .f32) : FVec F S16 .f32 :=
  addf (shapeCast S16 w2 shapeCasts_S1x16_S16) (shapeCast S16 w1 shapeCasts_S1x1x1x16_S16)

theorem pay21_eq (w1 : Vec F S1x1x1x16 .f32) (w2 : Vec F S1x16 .f32) : k2_pay21 w1 w2 = sum16 w1 w2 := rfl
theorem pay5_eq (w1 : Vec F S1x1x1x16 .f32) (w2 : Vec F S1x16 .f32) : k2_pay5 w1 w2 = sum16 w1 w2 := rfl

/-- An index of the slab. -/
def sx (i : Fin 64) (j : Fin 1280) : S64x1280.Idx := fun a => match a with | ⟨0, _⟩ => i | ⟨1, _⟩ => j
/-- An index of a slab piece. -/
def px (m : Fin 16) : S1x16.Idx := fun a => match a with | ⟨0, _⟩ => ⟨0, Nat.one_pos⟩ | ⟨1, _⟩ => m
/-- An index of a fetched piece. -/
def gx (m : Fin 16) : S1x1x1x16.Idx := fun a => match a with | ⟨0, _⟩ => ⟨0, Nat.one_pos⟩ | ⟨1, _⟩ => ⟨0, Nat.one_pos⟩ | ⟨2, _⟩ => ⟨0, Nat.one_pos⟩ | ⟨3, _⟩ => m

theorem sum16_px (w1 : Vec F S1x1x1x16 .f32) (w2 : Vec F S1x16 .f32) (m : Fin 16) :
    shapeCast S1x16 (sum16 w1 w2) shapeCasts_S16_S1x16 (px m) = FloatOps.addf (w2 (px m)) (w1 (gx m)) := by
  have e1 : Shape.reshapeEquiv shapeCasts_S16_S1x16 (px m) = lane m := by
    apply Shape.reshapeEquiv_eq_of_rowMajor
    rw [Shape.rowMajor_val_one, Shape.rowMajor_val_two]
    show m.val = 0 * 16 + m.val; omega
  have e2 : Shape.reshapeEquiv shapeCasts_S1x16_S16 (lane m) = px m := by
    apply Shape.reshapeEquiv_eq_of_rowMajor
    rw [Shape.rowMajor_val_one, Shape.rowMajor_val_two]
    show 0 * 16 + m.val = m.val; omega
  have e3 : Shape.reshapeEquiv shapeCasts_S1x1x1x16_S16 (lane m) = gx m := by
    apply Shape.reshapeEquiv_eq_of_rowMajor
    rw [Shape.rowMajor_val_one, Shape.rowMajor_val_four]
    show ((0 * 1 + 0) * 1 + 0) * 16 + m.val = m.val; omega
  unfold shapeCast sum16 addf
  rw [e1]
  unfold shapeCast
  rw [e2, e3]

variable (d : Dev nD) (L : grid2.Coords)

theorem st_sub (h k r a b : ℕ) (hr : r / 16 = h) (inb) :
    (stM.access (Rect.unit (s := S5x32x2x128) ![k, r, a, b] S1x1x1x16.size inb)).set ⊆ half h := by
  intro x hx
  have hx' : x ∈ (Rect.unit (s := S5x32x2x128) ![k, r, a, b] S1x1x1x16.size inb).set := by
    rwa [show (stM.access (Rect.unit (s := S5x32x2x128) ![k, r, a, b] S1x1x1x16.size inb)).set = (Rect.unit (s := S5x32x2x128) ![k, r, a, b] S1x1x1x16.size inb).set from View.set_slice_whole _ _] at hx
  have h1 := (mem_unit4.1 hx').2.1
  have h1' : r ≤ (x 1).val ∧ (x 1).val < r + 1 := h1
  simp only [half, Finset.mem_filter, Finset.mem_univ, true_and]
  rw [← hr]
  congr 1
  omega

theorem key_px {dd j : ℕ} (hdd : dd < 64) (hj : j < 80) (inb) (m : Fin 16) :
    (Rect.unit (s := S64x1280) ![dd, 16 * j] S1x16.size inb).emb (px m) = sx ⟨dd, hdd⟩ ⟨16 * j + m.val, by omega⟩ := by
  funext a
  apply Fin.ext
  match a with
  | ⟨0, _⟩ => show dd + 1 * 0 = dd; omega
  | ⟨1, _⟩ => show 16 * j + 1 * m.val = 16 * j + m.val; omega

theorem piece_read {r j : ℕ} (hj : j < 80) (inb) {fqt : Vec F S5x40960x2x128 .f32} {row : Fin 40960} (fst : Vec F S5x32x2x128 .f32)
    (hst : ∀ x : S5x32x2x128.Idx, (x 1).val = r → fst x = fqt (ix4 (x 0) row (x 2) (x 3))) (m : Fin 16) :
    fst ((Rect.unit (s := S5x32x2x128) ![j / 16, r, j / 8 % 2, 16 * (j % 8)] S1x1x1x16.size inb).emb (gx m)) = fqt (qix row ⟨16 * j + m.val, by omega⟩) := by
  have y0 : ((Rect.unit (s := S5x32x2x128) ![j / 16, r, j / 8 % 2, 16 * (j % 8)] S1x1x1x16.size inb).emb (gx m) 0).val = j / 16 + 1 * 0 := rfl
  have y1 : ((Rect.unit (s := S5x32x2x128) ![j / 16, r, j / 8 % 2, 16 * (j % 8)] S1x1x1x16.size inb).emb (gx m) 1).val = r + 1 * 0 := rfl
  have y2 : ((Rect.unit (s := S5x32x2x128) ![j / 16, r, j / 8 % 2, 16 * (j % 8)] S1x1x1x16.size inb).emb (gx m) 2).val = j / 8 % 2 + 1 * 0 := rfl
  have y3 : ((Rect.unit (s := S5x32x2x128) ![j / 16, r, j / 8 % 2, 16 * (j % 8)] S1x1x1x16.size inb).emb (gx m) 3).val = 16 * (j % 8) + 1 * m.val := rfl
  generalize (Rect.unit (s := S5x32x2x128) ![j / 16, r, j / 8 % 2, 16 * (j % 8)] S1x1x1x16.size inb).emb (gx m) = y at y0 y1 y2 y3 ⊢
  have hm := m.isLt
  rw [hst y (by omega)]
  congr 1
  funext a
  apply Fin.ext
  match a with
  | ⟨0, _⟩ => show (y 0).val = (16 * j + m.val) / 256; omega
  | ⟨1, _⟩ => rfl
  | ⟨2, _⟩ => show (y 2).val = (16 * j + m.val) / 128 % 2; omega
  | ⟨3, _⟩ => show (y 3).val = (16 * j + m.val) % 128; omega

theorem col_value {dd j : ℕ} (hj : j < 80) (hdd : dd < 64) (inb) {fqt : Vec F S5x40960x2x128 .f32} {row : Fin 40960} {s : Vec F S64x1280 .f32}
    {w1 : Vec F S1x1x1x16 .f32} {w2 : Vec F S1x16 .f32}
    (h1 : ∀ m : Fin 16, w1 (gx m) = fqt (qix row ⟨16 * j + m.val, by omega⟩)) (h2 : ∀ m : Fin 16, w2 (px m) = colF fqt row dd j s (sx ⟨dd, hdd⟩ ⟨16 * j + m.val, by omega⟩)) :
    (slM.view.slice (Rect.unit (s := S64x1280) ![dd, 16 * j] S1x16.size inb)).write (Elt F) (colF fqt row dd j s) (shapeCast S1x16 (sum16 w1 w2) shapeCasts_S16_S1x16) Finset.univ
      = colF fqt row dd (j + 1) s := by
  funext x
  have hx0 : (x 0).val < 64 := (x 0).isLt
  have hx1 : (x 1).val < 1280 := (x 1).isLt
  by_cases hc : (x 0).val = dd ∧ 16 * j ≤ (x 1).val ∧ (x 1).val < 16 * j + 16
  · obtain ⟨hc0, hc1, hc2⟩ := hc
    obtain ⟨m, hm⟩ : ∃ m : Fin 16, (x 1).val = 16 * j + m.val := ⟨⟨(x 1).val - 16 * j, by omega⟩, by show (x 1).val = 16 * j + ((x 1).val - 16 * j); omega⟩
    have ex : x = sx ⟨dd, hdd⟩ ⟨16 * j + m.val, by omega⟩ := by
      funext a
      apply Fin.ext
      match a with
      | ⟨0, _⟩ => exact hc0
      | ⟨1, _⟩ => exact hm
    have ew := View.write_emb_of_mem (v := slM.view.slice (Rect.unit (s := S64x1280) ![dd, 16 * j] S1x16.size inb)) (Val := Elt F) (colF fqt row dd j s) (shapeCast S1x16 (sum16 w1 w2) shapeCasts_S16_S1x16) (Finset.mem_univ (px m))
    rw [show (slM.view.slice (Rect.unit (s := S64x1280) ![dd, 16 * j] S1x16.size inb)).emb (px m) = x from (key_px hdd hj inb m).trans ex.symm] at ew
    refine ew.trans ?_
    refine (sum16_px w1 w2 m).trans ?_
    rw [h1, h2, ← ex]
    unfold colF
    rw [if_neg (by omega), if_pos ⟨hc0, by omega⟩]
    exact congrArg (fun c => FloatOps.addf (s x) (fqt (qix row c))) (Fin.ext hm).symm
  · have hnot : x ∉ (slM.view.slice (Rect.unit (s := S64x1280) ![dd, 16 * j] S1x16.size inb)).setOn Finset.univ := by
      rw [View.setOn_univ]
      rw [show (slM.view.slice (Rect.unit (s := S64x1280) ![dd, 16 * j] S1x16.size inb)).set = (Rect.unit (s := S64x1280) ![dd, 16 * j] S1x16.size inb).set from View.set_slice_whole _ _]
      intro hx
      have := mem_unit2.1 hx
      have h0 : dd ≤ (x 0).val ∧ (x 0).val < dd + 1 := this.1
      have h1 : 16 * j ≤ (x 1).val ∧ (x 1).val < 16 * j + 16 := this.2
      exact hc ⟨by omega, h1⟩
    refine (View.write_of_not_mem _ _ _ hnot).trans ?_
    unfold colF
    by_cases h1 : (x 0).val = dd ∧ (x 1).val < 16 * j
    · rw [if_pos h1, if_pos ⟨h1.1, by omega⟩]
    · rw [if_neg h1, if_neg (by omega)]

theorem wp_col {α : Type} {Q : α → sProp (MM F)} {h r dd j : ℕ} (hr : r / 16 = h) (hr32 : r < 32) (hj : j < 80) (hdd : dd < 64) {off4 : Fin 4 → ℕ} {off2 : Fin 2 → ℕ}
    (e4 : off4 = ![j / 16, r, j / 8 % 2, 16 * (j % 8)]) (e2 : off2 = ![dd, 16 * j]) {i4 i2 i3 i5 l4 l2 l3 hx hm}
    {pay : Vec F S1x1x1x16 .f32 → Vec F S1x16 .f32 → FVec F S16 .f32} (hpay : ∀ a b, pay a b = sum16 a b)
    {kk : PUnit → Prog (TpuEff nD τ sig (Elt F) Λ₀ (tV1 d L).2) α}
    {fqt : Vec F S5x40960x2x128 .f32} {row : Fin 40960} {s : Vec F S64x1280 .f32}
    {fst : Buf (Elt F) (stM.view.loc (tV1 d L))} {fsl : Buf (Elt F) (slM.view.loc (tV1 d L))}
    (hst : ∀ x : S5x32x2x128.Idx, (x 1).val = r → (fst : Vec F S5x32x2x128 .f32) x = fqt (ix4 (x 0) row (x 2) (x 3)))
    (hsl : fsl = colF fqt row dd j s) :
    iprop((stM.view.loc (tV1 d L) ↦[half h]{fullShare} fst) ∗ (slM.view.loc (tV1 d L) ↦{fullShare} fsl))
      ⊢ iprop((∀ fsl' : Buf (Elt F) (slM.view.loc (tV1 d L)), ⌜fsl' = colF fqt row dd (j + 1) s⌝ -∗ (stM.view.loc (tV1 d L) ↦[half h]{fullShare} fst)
              -∗ (slM.view.loc (tV1 d L) ↦{fullShare} fsl') -∗ wp frame (wpE (defs₀ (F := F)) 𝒱₀ (tV1 d L) none) Set.univ (kk ⟨⟩) Q)
          -∗ wp frame (wpE (defs₀ (F := F)) 𝒱₀ (tV1 d L) none) Set.univ
            (.op (.load stM (Rect.unit (s := S5x32x2x128) off4 S1x1x1x16.size i4).toLoadRect l4) fun w1 =>
             .op (.load slM (Rect.unit (s := S64x1280) off2 S1x16.size i2).toLoadRect l2) fun w2 =>
             .op (.load slM (Rect.unit (s := S64x1280) off2 S1x16.size i3).toLoadRect l3) fun _ =>
             .op (.store slM (Rect.unit (s := S64x1280) off2 S1x16.size i5) (shapeCast S1x16 (pay w1 w2) shapeCasts_S16_S1x16) Finset.univ hx hm) kk) Q) := by
  subst e4 e2
  iintro ⟨Hst, Hsl⟩ Hk
  iapply (wp_loadR (tV1 d L) (m := stM) (f := fst) (S := half h) (st_sub h _ _ _ _ hr i4)) $$ [Hst]
  · iexact Hst
  iintro %w1 %hw1 Hst
  iapply (wp_loadW (tV1 d L) (m := slM) (f := fsl)) $$ [Hsl]
  · iexact Hsl
  iintro %w2 %hw2 Hsl
  iapply (wp_loadW (tV1 d L) (m := slM) (f := fsl)) $$ [Hsl]
  · iexact Hsl
  iintro %w3 %hw3 Hsl
  iapply (wp_storeW (tV1 d L) (m := slM) (f := fsl)) $$ [Hsl]
  · iexact Hsl
  iintro %fsl' %hf Hsl
  iapply Hk $$ %fsl' %_ Hst Hsl
  have h1 : ∀ m : Fin 16, w1 (gx m) = fqt (qix row ⟨16 * j + m.val, by omega⟩) := fun m => by
    rw [hw1]
    exact piece_read hj i4 fst hst m
  have h2 : ∀ m : Fin 16, w2 (px m) = colF fqt row dd j s (sx ⟨dd, hdd⟩ ⟨16 * j + m.val, by omega⟩) := fun m => by
    rw [hw2, ← hsl]
    exact congrArg fsl (key_px hdd hj i2 m)
  rw [hf, hpay, hsl]
  exact col_value hj hdd i5 h1 h2

end Cert.Proof.S2
-- ==== Proof.S2Ents.lean ====
/-
  The pass's entries as one list, and the slab after adding a part of them.
-/
module

public import proofs.«01_k».proof.Proof.S2Scan
public import proofs.«01_k».proof.Proof.S2Row

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

section
variable (p : ℕ) (G P : ℕ → BitVec 32)

/-- The entries (message row, slab row) of the first `n` words that are pass `p`'s. -/
def entsP (n : ℕ) : List (BitVec 32 × BitVec 32) := ((List.range n).filter fun i => inP p (P i)).map fun i => (G i, dl p (P i))

theorem entsP_length (n : ℕ) : (entsP p G P n).length = (entsG p G P n).length := by simp [entsP, entsG]

theorem entsG_get (n i : ℕ) (h : i < (entsG p G P n).length) : (entsG p G P n)[i] = ((entsP p G P n)[i]'(by rw [entsP_length]; exact h)).1 := by
  simp [entsP, entsG]

theorem entsD_get (n i : ℕ) (h : i < (entsD p P n).length) :
    (entsD p P n)[i] = ((entsP p G P n)[i]'(by rw [entsP_length, ← ents_length]; exact h)).2 := by
  simp [entsP, entsD]

theorem entsP_take (n k o : ℕ) (ho : o ≤ (entsG p G P n).length) : (entsP p G P (n + k)).take o = (entsP p G P n).take o := by
  unfold entsP
  rw [List.range_add, List.filter_append, List.map_append, List.take_append_of_le_length]
  rw [← entsP_length] at ho
  exact ho

theorem entsG_mem {n : ℕ} {x : BitVec 32} (h : x ∈ entsG p G P n) : ∃ j < n, x = G j := by
  unfold entsG at h
  obtain ⟨j, hj, rfl⟩ := List.mem_map.1 h
  exact ⟨j, List.mem_range.1 (List.mem_filter.1 hj).1, rfl⟩

theorem entsD_mem {n : ℕ} {x : BitVec 32} (h : x ∈ entsD p P n) : x.toNat < 64 := by
  unfold entsD at h
  obtain ⟨j, hj, rfl⟩ := List.mem_map.1 h
  exact of_decide_eq_true (List.mem_filter.1 hj).2

theorem pend_G {n o : ℕ} {acc : BitVec 32} {fg fi : S1056.Idx → BitVec 32} (h : PendS p G P n o acc fg fi) {N : ℕ} (hN : n ≤ N) (hG : ∀ j < N, (G j).toNat < 40960) (i : ℕ)
    (hi : i < (entsG p G P n).length - o) : (at1 fg i).toNat < 40960 := by
  rw [h.2.1 i (by rw [List.length_drop]; exact hi)]
  obtain ⟨j, hj, e⟩ := entsG_mem p G P (List.mem_of_mem_drop (List.getElem_mem (l := (entsG p G P n).drop o) (by rw [List.length_drop]; exact hi)))
  rw [e]; exact hG j (by omega)

theorem pend_D {n o : ℕ} {acc : BitVec 32} {fg fi : S1056.Idx → BitVec 32} (h : PendS p G P n o acc fg fi) (i : ℕ)
    (hi : i < (entsG p G P n).length - o) : (at1 fi i).toNat < 64 := by
  have hi' : i < ((entsD p P n).drop o).length := by rw [List.length_drop, ents_length p G P]; exact hi
  rw [h.2.2 i hi']
  exact entsD_mem p P (List.mem_of_mem_drop (List.getElem_mem hi'))

/-- Adding the first `k` pending entries. -/
theorem acc_more (fqt : Vec F S5x40960x2x128 .f32) (s : Vec F S64x1280 .f32) {n o : ℕ} {acc : BitVec 32} {fg fi : S1056.Idx → BitVec 32} (h : PendS p G P n o acc fg fi) (k : ℕ)
    (hk : k ≤ (entsG p G P n).length - o) :
    accN fqt fg fi k (((entsP p G P n).take o).foldl (accOne fqt) s) = ((entsP p G P n).take (o + k)).foldl (accOne fqt) s := by
  unfold accN
  rw [← List.foldl_append]
  congr 1
  rw [List.take_add]
  congr 1
  refine List.ext_getElem ?_ ?_
  · rw [List.length_map, List.length_range, List.length_take, List.length_drop, entsP_length]; omega
  · intro i h1 h2
    rw [List.length_map, List.length_range] at h1
    have e1 := h.2.1 i (by rw [List.length_drop]; omega)
    have e2 := h.2.2 i (by rw [List.length_drop, ents_length p G P]; omega)
    rw [List.getElem_drop] at e1 e2
    rw [entsG_get] at e1
    rw [entsD_get p G P] at e2
    rw [List.getElem_map, List.getElem_range, List.getElem_take, List.getElem_drop, e1, e2]

/-- What is left pending, moved to the front. -/
theorem pend_shift {n o m : ℕ} {acc : BitVec 32} {fg fi fg' fi' : S1056.Idx → BitVec 32} (h : PendS p G P n o acc fg fi) (hm : m = (entsG p G P n).length - o)
    (hg : ∀ j < 16, at1 fg' j = at1 fg (16 * (m / 16) + j)) (hi : ∀ j < 16, at1 fi' j = at1 fi (16 * (m / 16) + j)) :
    PendS p G P n (o + 16 * (m / 16)) (BitVec.ofNat 32 (m % 16)) fg' fi' := by
  refine ⟨by congr 1; omega, ?_, ?_⟩
  · intro i hi'
    rw [List.length_drop] at hi'
    rw [hg i (by omega), h.2.1 _ (by rw [List.length_drop]; omega), List.getElem_drop, List.getElem_drop]
    congr 1; omega
  · intro i hi'
    rw [List.length_drop, ents_length p G P] at hi'
    rw [hi i (by omega), h.2.2 _ (by rw [List.length_drop, ents_length p G P]; omega), List.getElem_drop, List.getElem_drop]
    congr 1; omega

/-- The pending entries filled up to sixteen with `(x, 0)` and added. -/
theorem acc_last (fqt : Vec F S5x40960x2x128 .f32) (s : Vec F S64x1280 .f32) (x : BitVec 32) {n o : ℕ} {acc : BitVec 32} {fg fi fg' fi' : S1056.Idx → BitVec 32} (h : PendS p G P n o acc fg fi)
    (ho : o ≤ (entsG p G P n).length) (ho' : (entsG p G P n).length < o + 16)
    (hg : ∀ j < 16, at1 fg' j = if (entsG p G P n).length - o ≤ j then x else at1 fg j)
    (hi : ∀ j < 16, at1 fi' j = if (entsG p G P n).length - o ≤ j then 0#32 else at1 fi j) :
    accN fqt fg' fi' 16 (((entsP p G P n).take o).foldl (accOne fqt) s)
      = (entsP p G P n ++ List.replicate (16 - ((entsG p G P n).length - o)) (x, 0#32)).foldl (accOne fqt) s := by
  unfold accN
  rw [← List.foldl_append]
  congr 1
  conv_rhs => rw [← List.take_append_drop o (entsP p G P n), List.append_assoc]
  congr 1
  refine List.ext_getElem ?_ ?_
  · rw [List.length_map, List.length_range, List.length_append, List.length_replicate, List.length_drop, entsP_length]; omega
  · intro i h1 h2
    rw [List.length_map, List.length_range] at h1
    rw [List.getElem_map, List.getElem_range, hg i h1, hi i h1]
    by_cases hc : (entsG p G P n).length - o ≤ i
    · rw [if_pos hc, if_pos hc, List.getElem_append_right (by rw [List.length_drop, entsP_length]; exact hc), List.getElem_replicate]
    · rw [if_neg hc, if_neg hc, List.getElem_append_left (by rw [List.length_drop, entsP_length]; omega)]
      have e1 := h.2.1 i (by rw [List.length_drop]; omega)
      have e2 := h.2.2 i (by rw [List.length_drop, ents_length p G P]; omega)
      rw [List.getElem_drop] at e1 e2
      rw [entsG_get] at e1
      rw [entsD_get p G P] at e2
      rw [List.getElem_drop, e1, e2]
end

end Cert.Proof.S2
-- ==== Proof.S2Loops.lean ====
/-
  The second kernel's row loops: the rows of a batch of sixteen entries added to the slab.
-/
module

public import proofs.«01_k».proof.Proof.S2Row
public import proofs.«01_k».proof.Proof.S2Progs
public import proofs.«01_k».proof.Proof.Model

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

variable (d : Dev nD) (L : grid2.Coords)

/-- Row `r` of the staging buffer holds row `row` of the table. -/
def RowAt (fqt : Vec F S5x40960x2x128 .f32) (r : ℕ) (row : Fin 40960) (fst : Vec F S5x32x2x128 .f32) : Prop :=
  ∀ x : S5x32x2x128.Idx, (x 1).val = r → fst x = fqt (ix4 (x 0) row (x 2) (x 3))

/-- A column loop's invariant: `j` sixteens of columns added. -/
def IC (fqt : Vec F S5x40960x2x128 .f32) (h dd : ℕ) (row : Fin 40960) (s : Vec F S64x1280 .f32) (fst : Buf (Elt F) (stM.view.loc (tV1 d L))) (j : ℕ) : sProp 𝕄 :=
  iprop(∃ fsl : Buf (Elt F) (slM.view.loc (tV1 d L)), ⌜fsl = colF fqt row dd j s⌝
    ∗ (stM.view.loc (tV1 d L) ↦[half h]{fullShare} fst) ∗ (slM.view.loc (tV1 d L) ↦{fullShare} fsl))

theorem col_trip (v2 : IVec S16 32) (v6 : BitVec 32) (hw1 : k2_chk1 L v6) (v23 : BitVec 32) (t1 : Fin k2_t1_loop.trips) (v26 v29 : BitVec 32)
    (h1 : k2_cond1 L v6 t1 = 1#1) (v89 : BitVec 32) (hw4 : k2_chk4 L v6 t1 v89) (h4 : k2_cond4 v89 = 1#1) (t4 : Fin (k2_t4_loop v89).trips)
    (ht4 : t4.val < 128) (t5 : Fin k2_t5_loop.trips) (v200 : BitVec 32) (hw5 : k2_chk5 L v6 t1 v89 v200) (hd : v200.toNat < 64)
    (fqt : Vec F S5x40960x2x128 .f32) (row : Fin 40960) (s : Vec F S64x1280 .f32) (fst : Buf (Elt F) (stM.view.loc (tV1 d L)))
    (hst : RowAt fqt (16 * (t4.val % 2) + t5.val) row fst) (t6 : Fin k2_t6_loop.trips) (acc : Unit) :
    IC d L fqt (t4.val % 2) v200.toNat row s fst t6.val
      ⊢ wp frame (wpE (defs₀ (F := F)) 𝒱₀ (tV1 d L) none) Set.univ
          (B6 L v2 v6 hw1 v23 t1 v26 v29 h1 v89 hw4 h4 t4 t5 v200 hw5 t6 acc) (fun _ => IC d L fqt (t4.val % 2) v200.toNat row s fst (t6.val + 1)) := by
  have h5 : t5.val < 16 := t5.isLt
  have h6 : t6.val < 80 := t6.isLt
  unfold B6 k2_t6_body
  simp only [Prog.lift, Prog.bind_op, Prog.bind_ret, Prog.pure_eq_ret]
  unfold IC
  iintro ⟨%fsl, %hsl, Hst, Hsl⟩
  iapply (wp_col d L (h := t4.val % 2) (r := 16 * (t4.val % 2) + t5.val) (dd := v200.toNat) (j := t6.val) (by omega) (by omega) h6 hd
    (off22_eq v89 t4 ht4 t5 t6) (off23_eq v200 t6) pay21_eq (fst := fst) (fsl := fsl) hst hsl) $$ [Hst Hsl]
  · isplitl [Hst]; · iexact Hst
    iexact Hsl
  iintro %fsl' %hf Hst Hsl
  rw [wp_ret]
  iexists fsl'
  isplitr; · ipureintro; exact hf
  isplitl [Hst]; · iexact Hst
  iexact Hsl

theorem col_trip' (v6 : BitVec 32) (t1 : Fin k2_t1_loop.trips)
    (h1 : k2_cond1 L v6 t1 = 1#1) (v59 : BitVec 32) (h12 : k2_cond12 v59 = 1#1) (t18 : Fin k2_t18_loop.trips) (v133 : BitVec 32) (hw13 : k2_chk13 L v6 t1 v59 v133) (hd : v133.toNat < 64)
    (fqt : Vec F S5x40960x2x128 .f32) (row : Fin 40960) (s : Vec F S64x1280 .f32) (fst : Buf (Elt F) (stM.view.loc (tV1 d L)))
    (hst : RowAt fqt t18.val row fst) (t19 : Fin k2_t19_loop.trips) (acc : Unit) :
    IC d L fqt 0 v133.toNat row s fst t19.val
      ⊢ wp frame (wpE (defs₀ (F := F)) 𝒱₀ (tV1 d L) none) Set.univ
          (B19 L v6 t1 h1 v59 h12 t18 v133 hw13 t19 acc) (fun _ => IC d L fqt 0 v133.toNat row s fst (t19.val + 1)) := by
  have h5 : t18.val < 16 := t18.isLt
  have h6 : t19.val < 80 := t19.isLt
  unfold B19 k2_t19_body
  simp only [Prog.lift, Prog.bind_op, Prog.bind_ret, Prog.pure_eq_ret]
  unfold IC
  iintro ⟨%fsl, %hsl, Hst, Hsl⟩
  iapply (wp_col d L (h := 0) (r := t18.val) (dd := v133.toNat) (j := t19.val) (by omega) (by omega) h6 hd
    (off78_eq t18 t19) (off79_eq v133 t19) pay5_eq (fst := fst) (fsl := fsl) hst hsl) $$ [Hst Hsl]
  · isplitl [Hst]; · iexact Hst
    iexact Hsl
  iintro %fsl' %hf Hst Hsl
  rw [wp_ret]
  iexists fsl'
  isplitr; · ipureintro; exact hf
  isplitl [Hst]; · iexact Hst
  iexact Hsl

/-! ## The rows of a batch -/

theorem extract_first (v : IVec S16 32) : extractAt ![0] (k2_pay20 (F := F) v) inpos_S1_p0 = at1 (α := BitVec 32) v 0 := by
  unfold k2_pay20 extractAt extractStridedSlice
  unfold at1
  rw [dif_pos (by norm_num)]
  exact congrArg v (funext fun a => by match a with | ⟨0, _⟩ => rfl)

theorem extract_first' (v : IVec S16 32) : extractAt ![0] (k2_pay4 (F := F) v) inpos_S1_p0 = at1 (α := BitVec 32) v 0 := by
  unfold k2_pay4 extractAt extractStridedSlice
  unfold at1
  rw [dif_pos (by norm_num)]
  exact congrArg v (funext fun a => by match a with | ⟨0, _⟩ => rfl)

theorem col_inb {dd j : ℕ} (hd : dd < 64) (hj : j < 80) : ∀ a, (![dd, 16 * j] : Fin 2 → ℕ) a + S1x16.size a ≤ S64x1280.size a := by
  intro a
  fin_cases a <;> simp [Shape.size] <;> omega

theorem chk5_of (v6 : BitVec 32) (t1 : Fin k2_t1_loop.trips) (v89 v200 : BitVec 32) (hd : v200.toNat < 64) : k2_chk5 L v6 t1 v89 v200 := by
  intro t6 _ _
  rw [off23_eq]
  exact col_inb hd t6.isLt

theorem chk13_of (v6 : BitVec 32) (t1 : Fin k2_t1_loop.trips) (v59 v133 : BitVec 32) (hd : v133.toNat < 64) : k2_chk13 L v6 t1 v59 v133 := by
  intro t6 _ _
  rw [off79_eq]
  exact col_inb hd t6.isLt

/-- A row loop's invariant: the rows of the first `n` entries added to `s`. -/
def IR (fqt : Vec F S5x40960x2x128 .f32) (fg fi : S1056.Idx → BitVec 32) (h : ℕ) (s : Vec F S64x1280 .f32) (fst : Buf (Elt F) (stM.view.loc (tV1 d L))) (n : ℕ) : sProp 𝕄 :=
  iprop((∃ fsl : Buf (Elt F) (slM.view.loc (tV1 d L)), ⌜fsl = accN fqt fg fi n s⌝ ∗ (slM.view.loc (tV1 d L) ↦{fullShare} fsl))
    ∗ (stM.view.loc (tV1 d L) ↦[half h]{fullShare} fst) ∗ (siM.view.loc (tV1 d L) ↦{fullShare} (fi : Buf (Elt F) (siM.view.loc (tV1 d L)))))

theorem row_trip (v2 : IVec S16 32) (v6 : BitVec 32) (hw1 : k2_chk1 L v6) (v23 : BitVec 32) (t1 : Fin k2_t1_loop.trips) (v26 v29 : BitVec 32)
    (h1 : k2_cond1 L v6 t1 = 1#1) (v89 : BitVec 32) (hw4 : k2_chk4 L v6 t1 v89) (h4 : k2_cond4 v89 = 1#1) (t4 : Fin (k2_t4_loop v89).trips)
    (ht4 : t4.val < 128) (fqt : Vec F S5x40960x2x128 .f32) (fg fi : S1056.Idx → BitVec 32) (s : Vec F S64x1280 .f32) (fst : Buf (Elt F) (stM.view.loc (tV1 d L)))
    (hst : ∀ i < 16, RowAt fqt (16 * (t4.val % 2) + i) (rowFin (at1 fg (16 * t4.val + i))) fst)
    (hfi : ∀ i < 16, (at1 fi (16 * t4.val + i)).toNat < 64) (t5 : Fin k2_t5_loop.trips) (acc : Unit) :
    IR d L fqt fg fi (t4.val % 2) s fst (16 * t4.val + t5.val)
      ⊢ wp frame (wpE (defs₀ (F := F)) 𝒱₀ (tV1 d L) none) Set.univ
          (B5 L v2 v6 hw1 v23 t1 v26 v29 h1 v89 hw4 h4 t4 t5 acc) (fun _ => IR d L fqt fg fi (t4.val % 2) s fst (16 * t4.val + (t5.val + 1))) := by
  have h5 : t5.val < 16 := t5.isLt
  unfold B5 k2_t5_body
  simp only [Prog.lift, Prog.bind_op, Prog.bind_ret, Prog.pure_eq_ret]
  unfold IR
  iintro ⟨⟨%fsl, %hsl, Hsl⟩, Hst, Hsi⟩
  iapply (wp_ld1 (tV1 d L) (m := siM)) $$ [Hsi]
  · iexact Hsi
  iintro %w %hw Hsi
  have e1 : ∀ g : Buf (Elt F) (siM.view.loc (tV1 d L)), siM.view.read (Elt F) g = g := fun _ => rfl
  rw [e1] at hw
  have e0 : extractAt ![0] (k2_pay20 (F := F) w) inpos_S1_p0 = at1 fi (16 * t4.val + t5.val) := by
    refine (extract_first w).trans ?_
    refine (hw 0 (by norm_num)).trans ?_
    rw [off21_eq v89 t4 ht4 t5]; rfl
  let v200 : BitVec 32 := extractAt ![0] (k2_pay20 (F := F) w) inpos_S1_p0
  replace e0 : v200 = at1 fi (16 * t4.val + t5.val) := e0
  have hd : v200.toNat < 64 := by rw [e0]; exact hfi _ h5
  iapply (wp_assume 𝒱₀ (tV1 d L) none Set.univ (chk5_of L v6 t1 v89 v200 hd))
  iapply (wp_loop (tV1 d L) (fun j (_ : Unit) => IC d L fqt (t4.val % 2) v200.toNat (rowFin (at1 fg (16 * t4.val + t5.val))) (accN fqt fg fi (16 * t4.val + t5.val) s) fst j)
    (fun k acc => col_trip d L v2 v6 hw1 v23 t1 v26 v29 h1 v89 hw4 h4 t4 ht4 t5 v200 (chk5_of L v6 t1 v89 v200 hd) hd fqt _ _ fst (hst _ h5) k acc)) $$ [Hst Hsl]
  · unfold IC
    iexists fsl
    isplitr; · ipureintro; rw [colF_zero]; exact hsl
    isplitl [Hst]; · iexact Hst
    iexact Hsl
  iintro %_ H
  unfold IC
  icases H with ⟨%fsl', %hsl', Hst, Hsl⟩
  rw [wp_ret]
  isplitl [Hsl]
  · iexists fsl'
    isplitr
    · ipureintro
      rw [hsl', ← Nat.add_assoc, accN_succ, e0]; rfl
    iexact Hsl
  isplitl [Hst]; · iexact Hst
  iexact Hsi

theorem row_trip' (v6 : BitVec 32) (t1 : Fin k2_t1_loop.trips)
    (h1 : k2_cond1 L v6 t1 = 1#1) (v59 : BitVec 32) (h12 : k2_cond12 v59 = 1#1)
    (fqt : Vec F S5x40960x2x128 .f32) (fg fi : S1056.Idx → BitVec 32) (s : Vec F S64x1280 .f32) (fst : Buf (Elt F) (stM.view.loc (tV1 d L)))
    (hst : ∀ i < 16, RowAt fqt i (rowFin (at1 fg i)) fst)
    (hfi : ∀ i < 16, (at1 fi i).toNat < 64) (t18 : Fin k2_t18_loop.trips) (acc : Unit) :
    IR d L fqt fg fi 0 s fst t18.val
      ⊢ wp frame (wpE (defs₀ (F := F)) 𝒱₀ (tV1 d L) none) Set.univ
          (B18 L v6 t1 h1 v59 h12 t18 acc) (fun _ => IR d L fqt fg fi 0 s fst (t18.val + 1)) := by
  have h5 : t18.val < 16 := t18.isLt
  unfold B18 k2_t18_body
  simp only [Prog.lift, Prog.bind_op, Prog.bind_ret, Prog.pure_eq_ret]
  unfold IR
  iintro ⟨⟨%fsl, %hsl, Hsl⟩, Hst, Hsi⟩
  iapply (wp_ld1 (tV1 d L) (m := siM)) $$ [Hsi]
  · iexact Hsi
  iintro %w %hw Hsi
  have e1 : ∀ g : Buf (Elt F) (siM.view.loc (tV1 d L)), siM.view.read (Elt F) g = g := fun _ => rfl
  rw [e1] at hw
  have e0 : extractAt ![0] (k2_pay4 (F := F) w) inpos_S1_p0 = at1 fi t18.val := by
    refine (extract_first' w).trans ?_
    refine (hw 0 (by norm_num)).trans ?_
    rw [off77_eq t18]; rfl
  let v133 : BitVec 32 := extractAt ![0] (k2_pay4 (F := F) w) inpos_S1_p0
  replace e0 : v133 = at1 fi t18.val := e0
  have hd : v133.toNat < 64 := by rw [e0]; exact hfi _ h5
  iapply (wp_assume 𝒱₀ (tV1 d L) none Set.univ (chk13_of L v6 t1 v59 v133 hd))
  iapply (wp_loop (tV1 d L) (fun j (_ : Unit) => IC d L fqt 0 v133.toNat (rowFin (at1 fg t18.val)) (accN fqt fg fi t18.val s) fst j)
    (fun k acc => col_trip' d L v6 t1 h1 v59 h12 t18 v133 (chk13_of L v6 t1 v59 v133 hd) hd fqt _ _ fst (hst _ h5) k acc)) $$ [Hst Hsl]
  · unfold IC
    iexists fsl
    isplitr; · ipureintro; rw [colF_zero]; exact hsl
    isplitl [Hst]; · iexact Hst
    iexact Hsl
  iintro %_ H
  unfold IC
  icases H with ⟨%fsl', %hsl', Hst, Hsl⟩
  rw [wp_ret]
  isplitl [Hsl]
  · iexists fsl'
    isplitr
    · ipureintro
      rw [hsl', accN_succ, e0]; rfl
    iexact Hsl
  isplitl [Hst]; · iexact Hst
  iexact Hsi

/-- All sixteen rows of a batch. -/
theorem rows_run {α : Type} {Q : α → sProp (MM F)} (v2 : IVec S16 32) (v6 : BitVec 32) (hw1 : k2_chk1 L v6) (v23 : BitVec 32) (t1 : Fin k2_t1_loop.trips) (v26 v29 : BitVec 32)
    (h1 : k2_cond1 L v6 t1 = 1#1) (v89 : BitVec 32) (hw4 : k2_chk4 L v6 t1 v89) (h4 : k2_cond4 v89 = 1#1) (t4 : Fin (k2_t4_loop v89).trips)
    (ht4 : t4.val < 128) (fqt : Vec F S5x40960x2x128 .f32) (fg fi : S1056.Idx → BitVec 32) (s : Vec F S64x1280 .f32)
    (hfi : ∀ i < 16, (at1 fi (16 * t4.val + i)).toNat < 64) {kk : Unit → Prog (TpuEff nD τ sig (Elt F) Λ₀ (tV1 d L).2) α} :
    IR d L fqt fg fi (t4.val % 2) s (stg fqt fg (16 * t4.val) : Buf (Elt F) (stM.view.loc (tV1 d L))) (16 * t4.val)
      ⊢ iprop((IR d L fqt fg fi (t4.val % 2) s (stg fqt fg (16 * t4.val) : Buf (Elt F) (stM.view.loc (tV1 d L))) (16 * (t4.val + 1))
            -∗ wp frame (wpE (defs₀ (F := F)) 𝒱₀ (tV1 d L) none) Set.univ (kk ⟨⟩) Q)
          -∗ wp frame (wpE (defs₀ (F := F)) 𝒱₀ (tV1 d L) none) Set.univ
          (Scf.Loop.for k2_t5_loop k2_t5_ok ⟨⟩ (B5 L v2 v6 hw1 v23 t1 v26 v29 h1 v89 hw4 h4 t4) >>= kk) Q) := by
  have hst : ∀ i < 16, RowAt fqt (16 * (t4.val % 2) + i) (rowFin (at1 fg (16 * t4.val + i))) (stg fqt fg (16 * t4.val)) := by
    intro i hi x hx
    unfold stg
    rw [hx, show (16 * (t4.val % 2) + i) % 16 = i by omega]
  iintro H Hk
  iapply (wp_loop (tV1 d L) (fun j (_ : Unit) => IR d L fqt fg fi (t4.val % 2) s (stg fqt fg (16 * t4.val) : Buf (Elt F) (stM.view.loc (tV1 d L))) (16 * t4.val + j))
    (fun k acc => row_trip d L v2 v6 hw1 v23 t1 v26 v29 h1 v89 hw4 h4 t4 ht4 fqt fg fi s _ hst hfi k acc)) $$ [H]
  · iexact H
  iintro %_ H
  iapply Hk
  iexact H

/-- All sixteen rows of the last batch. -/
theorem rows_run' {α : Type} {Q : α → sProp (MM F)} (v6 : BitVec 32) (t1 : Fin k2_t1_loop.trips)
    (h1 : k2_cond1 L v6 t1 = 1#1) (v59 : BitVec 32) (h12 : k2_cond12 v59 = 1#1) (fqt : Vec F S5x40960x2x128 .f32) (fg fi : S1056.Idx → BitVec 32) (s : Vec F S64x1280 .f32)
    (hfi : ∀ i < 16, (at1 fi i).toNat < 64) {kk : Unit → Prog (TpuEff nD τ sig (Elt F) Λ₀ (tV1 d L).2) α} :
    IR d L fqt fg fi 0 s (stg fqt fg 0 : Buf (Elt F) (stM.view.loc (tV1 d L))) 0
      ⊢ iprop((IR d L fqt fg fi 0 s (stg fqt fg 0 : Buf (Elt F) (stM.view.loc (tV1 d L))) 16
            -∗ wp frame (wpE (defs₀ (F := F)) 𝒱₀ (tV1 d L) none) Set.univ (kk ⟨⟩) Q)
          -∗ wp frame (wpE (defs₀ (F := F)) 𝒱₀ (tV1 d L) none) Set.univ
          (Scf.Loop.for k2_t18_loop k2_t18_ok ⟨⟩ (B18 L v6 t1 h1 v59 h12) >>= kk) Q) := by
  have hst : ∀ i < 16, RowAt fqt i (rowFin (at1 fg i)) (stg fqt fg 0) := by
    intro i hi x hx
    unfold stg
    rw [hx, show 0 + i % 16 = i by omega]
  iintro H Hk
  iapply (wp_loop (tV1 d L) (fun j (_ : Unit) => IR d L fqt fg fi 0 s (stg fqt fg 0 : Buf (Elt F) (stM.view.loc (tV1 d L))) j)
    (fun k acc => row_trip' d L v6 t1 h1 v59 h12 fqt fg fi s _ hst hfi k acc)) $$ [H]
  · iexact H
  iintro %_ H
  iapply Hk
  iexact H

end Cert.Proof.S2
-- ==== Proof.S2Five.lean ====
/-
  The five gathers of one batch, one per plane: fired together, awaited together.
-/
module

public import proofs.«01_k».proof.Proof.S2Gather

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views

variable {F : FTy → Type} [FloatOps F]

local notation "𝕄" => MM F

variable (d : Dev nD) (L : grid2.Coords)

/-- A fifth of a share. -/
def fifth (k : Fin 5) : PosShare TreeShare := pieceOf fullShare 5 (by norm_num) k

theorem bigSep_five (Φ : Fin 5 → sProp 𝕄) : bigSep Finset.univ Φ = iprop(Φ 0 ∗ Φ 1 ∗ Φ 2 ∗ Φ 3 ∗ Φ 4) := by
  rw [bigSep_univ_succ, bigSep_univ_succ, bigSep_univ_succ, bigSep_univ_succ]
  congr 1; congr 1; congr 1; congr 1
  exact bigSep_univ_of_subsingleton (0 : Fin 1) (Φ := fun i : Fin 1 => Φ (Fin.succ (Fin.succ (Fin.succ (Fin.succ i)))))

theorem half_split (h : ℕ) (f : Buf (Elt F) (stM.view.loc (tV1 d L))) :
    (stM.view.loc (tV1 d L) ↦[half h]{fullShare} f : sProp 𝕄)
      = iprop((stM.view.loc (tV1 d L) ↦[plane 0 h]{fullShare} f) ∗ (stM.view.loc (tV1 d L) ↦[plane 1 h]{fullShare} f)
        ∗ (stM.view.loc (tV1 d L) ↦[plane 2 h]{fullShare} f) ∗ (stM.view.loc (tV1 d L) ↦[plane 3 h]{fullShare} f) ∗ (stM.view.loc (tV1 d L) ↦[plane 4 h]{fullShare} f)) := by
  have e : (half h : Finset (Idx (stM.view.loc (tV1 d L)))) = (Finset.univ : Finset (Fin 5)).biUnion fun k => plane k.val h := by
    ext x
    simp only [half, plane, Finset.mem_filter, Finset.mem_univ, true_and, Finset.mem_biUnion]
    have hx : (x 0).val < 5 := (x 0).isLt
    exact ⟨fun hh => ⟨⟨_, hx⟩, rfl, hh⟩, fun ⟨_, _, hh⟩ => hh⟩
  rw [e, pointsTo_biUnion, bigSep_five (fun k : Fin 5 => (stM.view.loc (tV1 d L) ↦[plane k.val h]{fullShare} f : sProp 𝕄))]
  · rfl
  · intro a _ b _ hab
    rw [Finset.disjoint_left]
    intro x hx hx'
    simp only [plane, Finset.mem_filter, Finset.mem_univ, true_and] at hx hx'
    exact hab (Fin.ext (hx.1.symm.trans hx'.1))

theorem qt_split (q : PosShare TreeShare) (f : Buf (Elt F) (qtM.view.loc (tV1 d L))) :
    (qtM.view.loc (tV1 d L) ↦{q} f : sProp 𝕄)
      = iprop((qtM.view.loc (tV1 d L) ↦[qp 0]{q} f) ∗ (qtM.view.loc (tV1 d L) ↦[qp 1]{q} f)
        ∗ (qtM.view.loc (tV1 d L) ↦[qp 2]{q} f) ∗ (qtM.view.loc (tV1 d L) ↦[qp 3]{q} f) ∗ (qtM.view.loc (tV1 d L) ↦[qp 4]{q} f)) := by
  have e : (Finset.univ : Finset (Idx (qtM.view.loc (tV1 d L)))) = (Finset.univ : Finset (Fin 5)).biUnion fun k => qp k.val := by
    ext x
    simp only [qp, Finset.mem_filter, Finset.mem_univ, true_and, Finset.mem_biUnion]
    have hx : (x 0).val < 5 := (x 0).isLt
    exact ⟨fun hh => ⟨⟨_, hx⟩, rfl⟩, fun ⟨_, _⟩ => trivial⟩
  rw [e, pointsTo_biUnion, bigSep_five (fun k : Fin 5 => (qtM.view.loc (tV1 d L) ↦[qp k.val]{q} f : sProp 𝕄))]
  · rfl
  · intro a _ b _ hab
    rw [Finset.disjoint_left]
    intro x hx hx'
    simp only [qp, Finset.mem_filter, Finset.mem_univ, true_and] at hx hx'
    exact hab (Fin.ext (hx.symm.trans hx'))

theorem gi_split (f : Buf (Elt F) (giM.view.loc (tV1 d L))) :
    (giM.view.loc (tV1 d L) ↦{fullShare} f : sProp 𝕄)
      = iprop((giM.view.loc (tV1 d L) ↦{fifth 0} f) ∗ (giM.view.loc (tV1 d L) ↦{fifth 1} f)
        ∗ (giM.view.loc (tV1 d L) ↦{fifth 2} f) ∗ (giM.view.loc (tV1 d L) ↦{fifth 3} f) ∗ (giM.view.loc (tV1 d L) ↦{fifth 4} f)) := by
  rw [pointsTo_piecesOf Finset.univ f (o := 5) (by norm_num) fullShare,
    bigSep_five (fun k : Fin 5 => (giM.view.loc (tV1 d L) ↦{pieceOf fullShare 5 (by norm_num) k} f : sProp 𝕄))]
  rfl

/-- The five gather semaphores at zero. -/
def Sems : sProp 𝕄 :=
  iprop(semVal (tV1 d L, SemLoc.dma cc2_scratch8.sem) 0 ∗ semVal (tV1 d L, SemLoc.dma cc2_scratch9.sem) 0 ∗ semVal (tV1 d L, SemLoc.dma cc2_scratch10.sem) 0
    ∗ semVal (tV1 d L, SemLoc.dma cc2_scratch11.sem) 0 ∗ semVal (tV1 d L, SemLoc.dma cc2_scratch12.sem) 0)

/-- Nothing of a batch under way: the list, the table's share, half `h` of the staging buffer and the semaphores at hand. -/
def Gfree (q : PosShare TreeShare) (fqt : Buf (Elt F) (qtM.view.loc (tV1 d L))) (fg : Buf (Elt F) (giM.view.loc (tV1 d L))) (h : ℕ)
    (f : Buf (Elt F) (stM.view.loc (tV1 d L))) : sProp 𝕄 :=
  iprop((stM.view.loc (tV1 d L) ↦[half h]{fullShare} f) ∗ (qtM.view.loc (tV1 d L) ↦{q} fqt) ∗ (giM.view.loc (tV1 d L) ↦{fullShare} fg) ∗ Sems (F := F) d L)

/-- The batch of the sixteen words from word `o` on under way into half `h`. -/
def Gfly (q : PosShare TreeShare) (fqt : Buf (Elt F) (qtM.view.loc (tV1 d L))) (fg : Buf (Elt F) (giM.view.loc (tV1 d L))) (h o : ℕ) : sProp 𝕄 :=
  iprop(GF d L q fqt fg cc2_scratch8.sem 0 h o (fifth 0) ∗ GF d L q fqt fg cc2_scratch9.sem 1 h o (fifth 1) ∗ GF d L q fqt fg cc2_scratch10.sem 2 h o (fifth 2)
    ∗ GF d L q fqt fg cc2_scratch11.sem 3 h o (fifth 3) ∗ GF d L q fqt fg cc2_scratch12.sem 4 h o (fifth 4))

theorem wp_fire5 {α : Type} {Q : α → sProp (MM F)} {h o : ℕ} {off0 off1 off2 off3 off4 : Fin 4 → ℕ} {inb0 inb1 inb2 inb3 inb4}
    {o0 o1 o2 o3 o4 : Fin 1 → ℕ} {in0 in1 in2 in3 in4} {s0 s1 s2 s3 s4 s0' s1' s2' s3' s4'}
    (h0 : off0 = ![0, 16 * h, 0, 0]) (h1 : off1 = ![1, 16 * h, 0, 0]) (h2 : off2 = ![2, 16 * h, 0, 0]) (h3 : off3 = ![3, 16 * h, 0, 0]) (h4 : off4 = ![4, 16 * h, 0, 0])
    (e0 : o0 = ![o]) (e1 : o1 = ![o]) (e2 : o2 = ![o]) (e3 : o3 = ![o]) (e4 : o4 = ![o])
    {hn : S16.numel = S16x2x128.size gathers_S40960x2x128_S16x2x128.axis'}
    {w0 w1 w2 w3 w4} {he : EltTy.f32.bits = 32} {hsp : Space.hbm = .hbm ∨ Space.hbm = .shared} {hr : S40960x2x128.StreamRows 0}
    {kk : PUnit → Prog (TpuEff nD τ sig (Elt F) Λ₀ (tV1 d L).2) α} {q : PosShare TreeShare}
    {fqt : Buf (Elt F) (qtM.view.loc (tV1 d L))} {fg : Buf (Elt F) (giM.view.loc (tV1 d L))} {f : Buf (Elt F) (stM.view.loc (tV1 d L))}
    (hin : ∀ j, j < 16 → (at1 (α := BitVec 32) fg (o + j)).toNat < 40960) :
    Gfree (F := F) d L q fqt fg h f
      ⊢ iprop((Gfly (F := F) d L q fqt fg h o -∗ wp frame (wpE (defs₀ (F := F)) 𝒱₀ (tV1 d L) none) Set.univ (kk ⟨⟩) Q)
          -∗ wp frame (wpE (defs₀ (F := F)) 𝒱₀ (tV1 d L) none) Set.univ
              (SparseCore.enqueueIndirectGather rfl (srcM 0 s0 s0') (dstM off0 inb0) gathers_S40960x2x128_S16x2x128 (offM o0 in0) hn cc2_scratch8.sem w0 he hsp hr >>= fun _ =>
               SparseCore.enqueueIndirectGather rfl (srcM 1 s1 s1') (dstM off1 inb1) gathers_S40960x2x128_S16x2x128 (offM o1 in1) hn cc2_scratch9.sem w1 he hsp hr >>= fun _ =>
               SparseCore.enqueueIndirectGather rfl (srcM 2 s2 s2') (dstM off2 inb2) gathers_S40960x2x128_S16x2x128 (offM o2 in2) hn cc2_scratch10.sem w2 he hsp hr >>= fun _ =>
               SparseCore.enqueueIndirectGather rfl (srcM 3 s3 s3') (dstM off3 inb3) gathers_S40960x2x128_S16x2x128 (offM o3 in3) hn cc2_scratch11.sem w3 he hsp hr >>= fun _ =>
               SparseCore.enqueueIndirectGather rfl (srcM 4 s4 s4') (dstM off4 inb4) gathers_S40960x2x128_S16x2x128 (offM o4 in4) hn cc2_scratch12.sem w4 he hsp hr >>= kk) Q) := by
  conv_lhs => unfold Gfree Sems
  rw [half_split, qt_split, gi_split]
  iintro ⟨⟨A0, A1, A2, A3, A4⟩, ⟨B0, B1, B2, B3, B4⟩, ⟨C0, C1, C2, C3, C4⟩, V0, V1, V2, V3, V4⟩ Hk
  iapply (wp_fire d L (0 : Fin 5) h0 e0 hin) $$ [A0 B0 C0 V0]
  · isplitl [V0]; · iexact V0
    isplitl [A0]; · iexact A0
    isplitl [B0]; · iexact B0
    iexact C0
  iintro G0
  iapply (wp_fire d L (1 : Fin 5) h1 e1 hin) $$ [A1 B1 C1 V1]
  · isplitl [V1]; · iexact V1
    isplitl [A1]; · iexact A1
    isplitl [B1]; · iexact B1
    iexact C1
  iintro G1
  iapply (wp_fire d L (2 : Fin 5) h2 e2 hin) $$ [A2 B2 C2 V2]
  · isplitl [V2]; · iexact V2
    isplitl [A2]; · iexact A2
    isplitl [B2]; · iexact B2
    iexact C2
  iintro G2
  iapply (wp_fire d L (3 : Fin 5) h3 e3 hin) $$ [A3 B3 C3 V3]
  · isplitl [V3]; · iexact V3
    isplitl [A3]; · iexact A3
    isplitl [B3]; · iexact B3
    iexact C3
  iintro G3
  iapply (wp_fire d L (4 : Fin 5) h4 e4 hin) $$ [A4 B4 C4 V4]
  · isplitl [V4]; · iexact V4
    isplitl [A4]; · iexact A4
    isplitl [B4]; · iexact B4
    iexact C4
  iintro G4
  iapply Hk
  unfold Gfly
  isplitl [G0]; · iexact G0
  isplitl [G1]; · iexact G1
  isplitl [G2]; · iexact G2
  isplitl [G3]; · iexact G3
  iexact G4

theorem wp_gwait5 {α : Type} {Q : α → sProp (MM F)} {h o : ℕ} {off0 off1 off2 off3 off4 : Fin 4 → ℕ} {inb0 inb1 inb2 inb3 inb4}
    {s0 s1 s2 s3 s4 s0' s1' s2' s3' s4'} {w0 w1 w2 w3 w4 x0 x1 x2 x3 x4}
    {kk : PUnit → Prog (TpuEff nD τ sig (Elt F) Λ₀ (tV1 d L).2) α} {q : PosShare TreeShare}
    {fqt : Buf (Elt F) (qtM.view.loc (tV1 d L))} {fg : Buf (Elt F) (giM.view.loc (tV1 d L))}
    {O : CellTallies nD τ sig (HIx 2)} {W : Waits sig (HIx 2)} :
    iprop(Transfers.MayWaits (tV1 d L) (none : HIx 2) O ∗ Gfly (F := F) d L q fqt fg h o ∗ Ow (F := F) (tV1 d L) O W)
      ⊢ iprop((Gfree (F := F) d L q fqt fg h (stg fqt fg o : Buf (Elt F) (stM.view.loc (tV1 d L))) -∗ Ow (F := F) (tV1 d L) O W
            -∗ wp frame (wpE (defs₀ (F := F)) 𝒱₀ (tV1 d L) none) Set.univ (kk ⟨⟩) Q)
          -∗ wp frame (wpE (defs₀ (F := F)) 𝒱₀ (tV1 d L) none) Set.univ
              (SparseCore.waitIndirectGather cc2_scratch8.sem (srcM 0 s0 s0') (dstM off0 inb0) w0 x0 >>= fun _ =>
               SparseCore.waitIndirectGather cc2_scratch9.sem (srcM 1 s1 s1') (dstM off1 inb1) w1 x1 >>= fun _ =>
               SparseCore.waitIndirectGather cc2_scratch10.sem (srcM 2 s2 s2') (dstM off2 inb2) w2 x2 >>= fun _ =>
               SparseCore.waitIndirectGather cc2_scratch11.sem (srcM 3 s3 s3') (dstM off3 inb3) w3 x3 >>= fun _ =>
               SparseCore.waitIndirectGather cc2_scratch12.sem (srcM 4 s4 s4') (dstM off4 inb4) w4 x4 >>= kk) Q) := by
  conv_lhs => unfold Gfly
  unfold Gfree Sems
  rw [half_split, qt_split, gi_split]
  iintro ⟨#Hmw, ⟨G0, G1, G2, G3, G4⟩, HO⟩ Hk
  iapply (wp_gwait d L (0 : Fin 5)) $$ [G0 HO]
  · isplitr; · iexact Hmw
    isplitl [G0]; · iexact G0
    iexact HO
  iintro ⟨V0, A0, B0, C0⟩ HO
  iapply (wp_gwait d L (1 : Fin 5)) $$ [G1 HO]
  · isplitr; · iexact Hmw
    isplitl [G1]; · iexact G1
    iexact HO
  iintro ⟨V1, A1, B1, C1⟩ HO
  iapply (wp_gwait d L (2 : Fin 5)) $$ [G2 HO]
  · isplitr; · iexact Hmw
    isplitl [G2]; · iexact G2
    iexact HO
  iintro ⟨V2, A2, B2, C2⟩ HO
  iapply (wp_gwait d L (3 : Fin 5)) $$ [G3 HO]
  · isplitr; · iexact Hmw
    isplitl [G3]; · iexact G3
    iexact HO
  iintro ⟨V3, A3, B3, C3⟩ HO
  iapply (wp_gwait d L (4 : Fin 5)) $$ [G4 HO]
  · isplitr; · iexact Hmw
    isplitl [G4]; · iexact G4
    iexact HO
  iintro ⟨V4, A4, B4, C4⟩ HO
  iapply Hk $$ [-HO] HO
  isplitl [A0 A1 A2 A3 A4]
  · isplitl [A0]; · iexact A0
    isplitl [A1]; · iexact A1
    isplitl [A2]; · iexact A2
    isplitl [A3]; · iexact A3
    iexact A4
  isplitl [B0 B1 B2 B3 B4]
  · isplitl [B0]; · iexact B0
    isplitl [B1]; · iexact B1
    isplitl [B2]; · iexact B2
    isplitl [B3]; · iexact B3
    iexact B4
  isplitl [C0 C1 C2 C3 C4]
  · isplitl [C0]; · iexact C0
    isplitl [C1]; · iexact C1
    isplitl [C2]; · iexact C2
    isplitl [C3]; · iexact C3
    iexact C4
  isplitl [V0]; · iexact V0
  isplitl [V1]; · iexact V1
  isplitl [V2]; · iexact V2
  isplitl [V3]; · iexact V3
  iexact V4

end Cert.Proof.S2
-- ==== Proof.S2Batch.lean ====
/-
  The second kernel's batches: while one batch of sixteen fetched rows is added to the slab, the next is fetched.
-/
module

public import proofs.«01_k».proof.Proof.S2Loops
public import proofs.«01_k».proof.Proof.S2Five

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

variable (d : Dev nD) (L : grid2.Coords)

theorem Gfree_open (q : PosShare TreeShare) (fqt : Buf (Elt F) (qtM.view.loc (tV1 d L))) (fg : Buf (Elt F) (giM.view.loc (tV1 d L))) (h : ℕ)
    (f : Buf (Elt F) (stM.view.loc (tV1 d L))) :
    Gfree (F := F) d L q fqt fg h f
      ⊢ iprop((stM.view.loc (tV1 d L) ↦[half h]{fullShare} f) ∗ (qtM.view.loc (tV1 d L) ↦{q} fqt) ∗ (giM.view.loc (tV1 d L) ↦{fullShare} fg) ∗ Sems (F := F) d L) := by
  unfold Gfree
  iintro H
  iexact H

/-- The batches' invariant: `t` of `nb` batches added to the slab; the next one, if any, under way. -/
def I4 (q : PosShare TreeShare) (fqt : Buf (Elt F) (qtM.view.loc (tV1 d L))) (fg : Buf (Elt F) (giM.view.loc (tV1 d L))) (fi : S1056.Idx → BitVec 32) (s : Vec F S64x1280 .f32)
    (O : CellTallies nD τ sig (HIx 2)) (W : Waits sig (HIx 2)) (nb t : ℕ) : sProp 𝕄 :=
  iprop((∃ fsl : Buf (Elt F) (slM.view.loc (tV1 d L)), ⌜fsl = accN fqt fg fi (16 * t) s⌝ ∗ (slM.view.loc (tV1 d L) ↦{fullShare} fsl))
    ∗ (siM.view.loc (tV1 d L) ↦{fullShare} (fi : Buf (Elt F) (siM.view.loc (tV1 d L)))) ∗ Ow (F := F) (tV1 d L) O W
    ∗ (∃ f, (stM.view.loc (tV1 d L) ↦[half (1 - t % 2)]{fullShare} f))
    ∗ (if t < nb then Gfly (F := F) d L q fqt fg (t % 2) (16 * t) else iprop(∃ f, Gfree (F := F) d L q fqt fg (t % 2) f)))

theorem batch_trip (v2 : IVec S16 32) (v6 : BitVec 32) (hw1 : k2_chk1 L v6) (v23 : BitVec 32) (t1 : Fin k2_t1_loop.trips) (v26 v29 : BitVec 32)
    (h1 : k2_cond1 L v6 t1 = 1#1) (n : ℕ) (hn : n < 1041) (hw4 : k2_chk4 L v6 t1 (BitVec.ofNat 32 n)) (h4 : k2_cond4 (BitVec.ofNat 32 n) = 1#1)
    (q : PosShare TreeShare) (fqt : Buf (Elt F) (qtM.view.loc (tV1 d L))) (fg : Buf (Elt F) (giM.view.loc (tV1 d L))) (fi : S1056.Idx → BitVec 32) (s : Vec F S64x1280 .f32)
    (O : CellTallies nD τ sig (HIx 2)) (W : Waits sig (HIx 2))
    (hfg : ∀ i < n, (at1 (α := BitVec 32) fg i).toNat < 40960) (hfi : ∀ i < n, (at1 fi i).toNat < 64)
    (t4 : Fin (k2_t4_loop (BitVec.ofNat 32 n)).trips) (acc : Unit) :
    iprop(Transfers.MayWaits (tV1 d L) (none : HIx 2) O ∗ I4 d L q fqt fg fi s O W (n / 16) t4.val)
      ⊢ wp frame (wpE (defs₀ (F := F)) 𝒱₀ (tV1 d L) none) Set.univ
          (B4 L v2 v6 hw1 v23 t1 v26 v29 h1 (BitVec.ofNat 32 n) hw4 h4 t4 acc) (fun _ => iprop(Transfers.MayWaits (tV1 d L) (none : HIx 2) O ∗ I4 d L q fqt fg fi s O W (n / 16) (t4.val + 1))) := by
  have ht : t4.val < n / 16 := Nat.lt_of_lt_of_eq t4.isLt (trips4 ⟨n, hn⟩)
  have ht4 : t4.val < 128 := by omega
  have hfi' : ∀ i < 16, (at1 fi (16 * t4.val + i)).toNat < 64 := fun i hi => hfi _ (by omega)
  unfold B4 k2_t4_body
  simp only [k2_part1_eq_skeleton, k2_part2_eq_skeleton]
  unfold k2_part1_skel k2_part2_skel
  simp only [Prog.lift, Prog.bind_op, Prog.bind_ret, Prog.pure_eq_ret, Prog.bind_assoc]
  unfold I4
  rw [if_pos ht]
  iintro ⟨#Hmw, ⟨%fsl, %hsl, Hsl⟩, Hsi, HO, ⟨%fo, Hst'⟩, Hfly⟩
  iapply (wp_gwait5 d L) $$ [Hfly HO]
  · isplitr; · iexact Hmw
    isplitl [Hfly]; · iexact Hfly
    iexact HO
  iintro Hfree HO
  ihave Hfree := (Gfree_open d L q fqt fg (t4.val % 2) _) $$ Hfree
  icases Hfree with ⟨Hst, Hqt, Hgi, Hsem⟩
  by_cases hc : k2_cond5 (BitVec.ofNat 32 n) t4 = 1#1
  · have htn := (cond5_iff n hn t4).1 hc
    rw [dif_pos hc]
    iapply (wp_fire5 d L (h := 1 - t4.val % 2) (o := 16 * (t4.val + 1)) (off15_eq _ t4 ht4) (off17_eq _ t4 ht4) (off18_eq _ t4 ht4) (off19_eq _ t4 ht4) (off20_eq _ t4 ht4)
      (off16_eq _ t4 ht4) (off16_eq _ t4 ht4) (off16_eq _ t4 ht4) (off16_eq _ t4 ht4) (off16_eq _ t4 ht4) (f := fo) (fg := fg) (fqt := fqt) (q := q)
      (fun j hj => hfg _ (by omega))) $$ [Hst' Hqt Hgi Hsem]
    · unfold Gfree
      isplitl [Hst']; · iexact Hst'
      isplitl [Hqt]; · iexact Hqt
      isplitl [Hgi]; · iexact Hgi
      iexact Hsem
    iintro Hfly
    iapply (rows_run d L v2 v6 hw1 v23 t1 v26 v29 h1 (BitVec.ofNat 32 n) hw4 h4 t4 ht4 fqt fg fi s hfi') $$ [Hsl Hst Hsi]
    · unfold IR
      isplitl [Hsl]
      · iexists fsl
        isplitr; · ipureintro; exact hsl
        iexact Hsl
      isplitl [Hst]; · iexact Hst
      iexact Hsi
    iintro H
    unfold IR
    icases H with ⟨Hsl, Hst, Hsi⟩
    rw [wp_ret, if_pos htn, show (t4.val + 1) % 2 = 1 - t4.val % 2 by omega, show 1 - (1 - t4.val % 2) = t4.val % 2 by omega]
    isplitr; · iexact Hmw
    isplitl [Hsl]; · iexact Hsl
    isplitl [Hsi]; · iexact Hsi
    isplitl [HO]; · iexact HO
    isplitl [Hst]
    · iexists _; iexact Hst
    iexact Hfly
  · have htn : ¬ t4.val + 1 < n / 16 := fun h => hc ((cond5_iff n hn t4).2 h)
    rw [dif_neg hc]
    iapply (rows_run d L v2 v6 hw1 v23 t1 v26 v29 h1 (BitVec.ofNat 32 n) hw4 h4 t4 ht4 fqt fg fi s hfi') $$ [Hsl Hst Hsi]
    · unfold IR
      isplitl [Hsl]
      · iexists fsl
        isplitr; · ipureintro; exact hsl
        iexact Hsl
      isplitl [Hst]; · iexact Hst
      iexact Hsi
    iintro H
    unfold IR
    icases H with ⟨Hsl, Hst, Hsi⟩
    rw [wp_ret, if_neg htn, show (t4.val + 1) % 2 = 1 - t4.val % 2 by omega, show 1 - (1 - t4.val % 2) = t4.val % 2 by omega]
    isplitr; · iexact Hmw
    isplitl [Hsl]; · iexact Hsl
    isplitl [Hsi]; · iexact Hsi
    isplitl [HO]; · iexact HO
    isplitl [Hst]
    · iexists _; iexact Hst
    iexists fo
    unfold Gfree
    isplitl [Hst']; · iexact Hst'
    isplitl [Hqt]; · iexact Hqt
    isplitl [Hgi]; · iexact Hgi
    iexact Hsem

end Cert.Proof.S2
-- ==== Proof.S2Drain.lean ====
/-
  The steps of one page: scanning it, adding its whole batches, moving what is left to the front.
-/
module

public import proofs.«01_k».proof.Proof.S2Pages
public import proofs.«01_k».proof.Proof.S2Ents
public import proofs.«01_k».proof.Proof.S2Batch

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

section
variable (d : Fin nD) (L : grid2.Coords)

/-- The words from `off` on of the two pending buffers are moved to their front. -/
theorem wp_shift {Q : BitVec 32 → sProp (MM F)} {off off' z z' z'' z''' : Fin 1 → ℕ} {inb inb' i1 i2 i3 i4} (hz : z = ![0]) (hz' : z'' = ![0]) {o : ℕ} (ho : off = ![o]) (ho' : off' = ![o])
    {l1 l2 l3 l4 x1 m1 x2 m2} {r : BitVec 32}
    (fg : Buf (Elt F) (giM.view.loc (tV1 d L))) (fi : Buf (Elt F) (siM.view.loc (tV1 d L))) :
    iprop((giM.view.loc (tV1 d L) ↦{fullShare} fg) ∗ (siM.view.loc (tV1 d L) ↦{fullShare} fi))
      ⊢ iprop((∀ (fg' : Buf (Elt F) (giM.view.loc (tV1 d L))) (fi' : Buf (Elt F) (siM.view.loc (tV1 d L))),
            ⌜∀ j < 16, at1 (α := BitVec 32) fg' j = at1 (α := BitVec 32) fg (o + j)⌝ -∗ ⌜∀ j < 16, at1 (α := BitVec 32) fi' j = at1 (α := BitVec 32) fi (o + j)⌝
            -∗ (giM.view.loc (tV1 d L) ↦{fullShare} fg') -∗ (siM.view.loc (tV1 d L) ↦{fullShare} fi') -∗ wp frame (wpE (defs₀ (F := F)) 𝒱₀ (tV1 d L) none) Set.univ (Prog.ret r) Q)
        -∗ wp frame (wpE (defs₀ (F := F)) 𝒱₀ (tV1 d L) none) Set.univ
          (.op (.load giM (Rect.unit (s := S1056) off S16.size inb).toLoadRect l1) fun w1 =>
           .op (.load siM (Rect.unit (s := S1056) off' S16.size inb').toLoadRect l2) fun w2 =>
           .op (.load giM (Rect.unit (s := S1056) z' S16.size i1).toLoadRect l3) fun _ =>
           .op (.store giM (Rect.unit (s := S1056) z S16.size i2) w1 Finset.univ x1 m1) fun _ =>
           .op (.load siM (Rect.unit (s := S1056) z''' S16.size i3).toLoadRect l4) fun _ =>
           .op (.store siM (Rect.unit (s := S1056) z'' S16.size i4) w2 Finset.univ x2 m2) fun _ => Prog.ret r) Q) := by
  iintro ⟨Hg, Hi⟩ Hk
  iapply (wp_ld1 (F := F) (n := 1056) (k := 16) (tV1 d L) (m := giM)) $$ Hg
  iintro %w1 %hw1 Hg
  iapply (wp_ld1 (F := F) (n := 1056) (k := 16) (tV1 d L) (m := siM)) $$ Hi
  iintro %w2 %hw2 Hi
  iapply (wp_ld1 (F := F) (n := 1056) (k := 16) (tV1 d L) (m := giM)) $$ Hg
  iintro %w3 %hw3 Hg
  iapply (wp_st1 (F := F) (n := 1056) (k := 16) (tV1 d L) (m := giM)) $$ Hg
  iintro %fg' %hfg Hg
  iapply (wp_ld1 (F := F) (n := 1056) (k := 16) (tV1 d L) (m := siM)) $$ Hi
  iintro %w4 %hw4 Hi
  iapply (wp_st1 (F := F) (n := 1056) (k := 16) (tV1 d L) (m := siM)) $$ Hi
  iintro %fi' %hfi Hi
  subst hz hz' ho ho'
  have g1 : ∀ g : Buf (Elt F) (giM.view.loc (tV1 d L)), giM.view.read (Elt F) g = g := fun _ => rfl
  have g2 : ∀ g : Buf (Elt F) (siM.view.loc (tV1 d L)), siM.view.read (Elt F) g = g := fun _ => rfl
  rw [g1] at hw1 hfg
  rw [g1] at hfg
  rw [g2] at hw2 hfi
  rw [g2] at hfi
  iapply Hk $$ %fg' %fi' [] [] Hg Hi
  · ipureintro
    intro j hj
    have h := hfg j (by omega)
    rw [if_pos (by constructor <;> simp <;> omega)] at h
    exact h.trans (hw1 j hj)
  · ipureintro
    intro j hj
    have h := hfi j (by omega)
    rw [if_pos (by constructor <;> simp <;> omega)] at h
    exact h.trans (hw2 j hj)

theorem halves_any (b : ℕ) (hb : b < 2) :
    iprop((∃ f, (stM.view.loc (tV1 d L) ↦[half (1 - b)]{fullShare} f)) ∗ (∃ f, (stM.view.loc (tV1 d L) ↦[half b]{fullShare} f)))
      ⊢ (iprop((∃ f, (stM.view.loc (tV1 d L) ↦[half 0]{fullShare} f)) ∗ (∃ f, (stM.view.loc (tV1 d L) ↦[half 1]{fullShare} f))) : sProp 𝕄) := by
  rcases (show b = 0 ∨ b = 1 by omega) with rfl | rfl
  · iintro ⟨H, H'⟩
    isplitl [H']
    · iexact H'
    iexact H
  · iintro ⟨H, H'⟩
    isplitl [H]
    · iexact H
    iexact H'

variable (gr : Buf (Elt F) (grM.view.loc (tV1 d L))) (pr : Buf (Elt F) (prM.view.loc (tV1 d L)))

/-- What holds before page `e` of `n` is read, with `acc` entries of pass `p` pending. -/
def I2 (n p : ℕ) (q : PosShare TreeShare) (fqt : Buf (Elt F) (qtM.view.loc (tV1 d L))) (s : Vec F S64x1280 .f32) (O : CellTallies nD τ sig (HIx 2)) (W : Waits sig (HIx 2))
    (e : ℕ) (acc : BitVec 32) : sProp 𝕄 :=
  iprop(∃ (o : ℕ) (fg : Buf (Elt F) (giM.view.loc (tV1 d L))) (fi : Buf (Elt F) (siM.view.loc (tV1 d L))),
    ⌜PendS p (Gs d L gr) (Ps d L pr) (1024 * e) o acc fg fi ∧ o ≤ (entsG p (Gs d L gr) (Ps d L pr) (1024 * e)).length
      ∧ (entsG p (Gs d L gr) (Ps d L pr) (1024 * e)).length < o + 16 ∧ 16 ∣ o⌝
    ∗ (slM.view.loc (tV1 d L) ↦{fullShare} (((entsP p (Gs d L gr) (Ps d L pr) (1024 * e)).take o).foldl (accOne fqt) s : Vec F S64x1280 .f32))
    ∗ (giM.view.loc (tV1 d L) ↦{fullShare} fg) ∗ (siM.view.loc (tV1 d L) ↦{fullShare} fi)
    ∗ ((∃ f, (stM.view.loc (tV1 d L) ↦[half 0]{fullShare} f)) ∗ (∃ f, (stM.view.loc (tV1 d L) ↦[half 1]{fullShare} f)))
    ∗ (qtM.view.loc (tV1 d L) ↦{q} fqt) ∗ Sems (F := F) d L
    ∗ Page (F := F) d L gr pr n e
    ∗ (∃ f : Buf (Elt F) (lgM.view.loc (tV1 d L)), (lgM.view.loc (tV1 d L) ↦[hl ((e + 1) % 2)]{fullShare} f))
    ∗ (∃ f : Buf (Elt F) (lpM.view.loc (tV1 d L)), (lpM.view.loc (tV1 d L) ↦[hl ((e + 1) % 2)]{fullShare} f))
    ∗ Ow (F := F) (tV1 d L) O W)

/-- A page has arrived: the same at the kernel's own waits. -/
theorem wp_await_page1 {α : Type} {Q : α → sProp (MM F)} (n e : ℕ) (he : e < n) {o1 o1' : Fin 1 → ℕ} {inb1 inb1' hst1 hst1'} {o2 o2' : Fin 2 → ℕ} {inb2 inb2' hst2 hst2'}
    {hsrc hdst hsrc' hdst'} {kk : PUnit → Prog (TpuEff nD τ sig (Elt F) Λ₀ (tV1 d L).2) α}
    {O : CellTallies nD τ sig (HIx 2)} {W : Waits sig (HIx 2)} :
    iprop(Transfers.MayWaits (tV1 d L) (none : HIx 2) O ∗ Page (F := F) d L gr pr n e ∗ Ow (F := F) (tV1 d L) O W)
      ⊢ iprop((∀ (f : Buf (Elt F) (lgM.view.loc (tV1 d L))) (f' : Buf (Elt F) (lpM.view.loc (tV1 d L))),
            ⌜PageIs (Gs d L gr) (e % 2) e f⌝ -∗ ⌜PageIs (Ps d L pr) (e % 2) e f'⌝
            -∗ (lgM.view.loc (tV1 d L) ↦[hl (e % 2)]{fullShare} f) -∗ (lpM.view.loc (tV1 d L) ↦[hl (e % 2)]{fullShare} f')
            -∗ (grM.view.loc (tV1 d L) ↦[S1.wrow (wid1 L)]{fullShare} gr) -∗ (prM.view.loc (tV1 d L) ↦[S1.wrow (wid1 L)]{fullShare} pr)
            -∗ semVal (tV1 d L, .dma cc2_scratch7.sem) 0
            -∗ Ow (F := F) (tV1 d L) O W -∗ wp frame (wpE (defs₀ (F := F)) 𝒱₀ (tV1 d L) none) Set.univ (kk ⟨⟩) Q)
          -∗ wp frame (wpE (defs₀ (F := F)) 𝒱₀ (tV1 d L) none) Set.univ
            (.op (.waitDma2 cc2_scratch7.sem ((grM.slice (Rect.unit (s := S32x52224) o2 S1x1024.size inb2) hst2).squeeze S1024 squeezes_S1x1024_S1024)
                (lgM.slice (Rect.unit (s := S2048) o1 S1024.size inb1) hst1) hsrc hdst) fun _ =>
              .op (.waitDma2 cc2_scratch7.sem ((grM.slice (Rect.unit (s := S32x52224) o2' S1x1024.size inb2') hst2').squeeze S1024 squeezes_S1x1024_S1024)
                (lpM.slice (Rect.unit (s := S2048) o1' S1024.size inb1') hst1') hsrc' hdst') kk) Q) := by
  have hN : (lgM.slice (Rect.unit (s := S2048) o1 S1024.size inb1) hst1).view.dmaCredit = NP := rfl
  have hN' : (lpM.slice (Rect.unit (s := S2048) o1' S1024.size inb1') hst1').view.dmaCredit = NP := rfl
  have h := wp_await_page (F := F) (Q := Q) d L gr pr n e he (hsrc := hsrc) (hdst := hdst) (hsrc' := hsrc') (hdst' := hdst') (kk := kk) (O := O) (W := W) hN hN'
  exact h

/-- A page's list of places is scanned and the pass's entries put behind the pending ones. -/
theorem wp_scan {α : Type} {Q : α → sProp (MM F)} (v6 : BitVec 32) (hw1 : k2_chk1 L v6) (v23 : BitVec 32) (t1 : Fin k2_t1_loop.trips) (p : ℕ)
    (h1 : k2_cond1 L v6 t1 = 1#1) (c0 c1 : BitVec 32) (t2 : Fin (k2_t2_loop v6).trips) (ht2 : t2.val < 128) (G P : ℕ → BitVec 32) (o : ℕ)
    (fl : Buf (Elt F) (lgM.view.loc (tV1 d L))) (fm : Buf (Elt F) (lpM.view.loc (tV1 d L)))
    (hfl : PageIs G (t2.val % 2) t2.val fl) (hfm : PageIs P (t2.val % 2) t2.val fm)
    (ho : o ≤ (entsG p G P (1024 * t2.val)).length) (ho' : (entsG p G P (1024 * t2.val)).length < o + 16)
    (acc : BitVec 32) (fg : Buf (Elt F) (giM.view.loc (tV1 d L))) (fi : Buf (Elt F) (siM.view.loc (tV1 d L))) (hpend : PendS p G P (1024 * t2.val) o acc fg fi)
    {dc : (v : BitVec 32) → Decidable (k2_chk4 L v6 t1 v)} {ok : k2_t3_loop.OK}
    {K : (v : BitVec 32) → PLift (k2_chk4 L v6 t1 v) → Prog (TpuEff nD τ sig (Elt F) Λ₀ (tV1 d L).2) α} :
    iprop((giM.view.loc (tV1 d L) ↦{fullShare} fg) ∗ (siM.view.loc (tV1 d L) ↦{fullShare} fi)
      ∗ (lgM.view.loc (tV1 d L) ↦[hl (t2.val % 2)]{fullShare} fl) ∗ (lpM.view.loc (tV1 d L) ↦[hl (t2.val % 2)]{fullShare} fm))
      ⊢ iprop((∀ (m : ℕ) (fg' : Buf (Elt F) (giM.view.loc (tV1 d L))) (fi' : Buf (Elt F) (siM.view.loc (tV1 d L))) (hm : m < 1041),
            ⌜m = (entsG p G P (1024 * (t2.val + 1))).length - o ∧ o ≤ (entsG p G P (1024 * (t2.val + 1))).length ∧ PendS p G P (1024 * (t2.val + 1)) o (BitVec.ofNat 32 m) fg' fi'⌝
            -∗ (giM.view.loc (tV1 d L) ↦{fullShare} fg') -∗ (siM.view.loc (tV1 d L) ↦{fullShare} fi')
            -∗ (lgM.view.loc (tV1 d L) ↦[hl (t2.val % 2)]{fullShare} fl) -∗ (lpM.view.loc (tV1 d L) ↦[hl (t2.val % 2)]{fullShare} fm)
            -∗ wp frame (wpE (defs₀ (F := F)) 𝒱₀ (tV1 d L) none) Set.univ (K (BitVec.ofNat 32 m) ⟨chk4_of L v6 t1 m hm⟩) Q)
        -∗ wp frame (wpE (defs₀ (F := F)) 𝒱₀ (tV1 d L) none) Set.univ
          (Scf.Loop.for k2_t3_loop ok acc (B3 L (iota .scVector S16 32 [0] iota_S16_d0_w32_scVector) v6 hw1 v23 t1 (BitVec.ofNat 32 p) h1 c0 c1 t2 acc) >>= fun v =>
            .op (.assume (k2_chk4 L v6 t1 v) (dc v)) fun h => K v h) Q) := by
  iintro ⟨Hg, Hi, Hl, Hm⟩ Hk
  iapply (wp_loop (tV1 d L) (I3 (F := F) d L p G P t2.val o fl fm)
    (scan_trip d L v6 hw1 v23 t1 p h1 c0 c1 t2 ht2 acc G P o fl fm hfl hfm ho ho')) $$ [Hg Hi Hl Hm]
  · unfold I3
    iexists fg, fi
    isplitr; · ipureintro; exact hpend
    isplitl [Hg]; · iexact Hg
    isplitl [Hi]; · iexact Hi
    isplitl [Hl]; · iexact Hl
    iexact Hm
  iintro %v H
  unfold I3
  icases H with ⟨%fg', %fi', %hp', Hg, Hi, Hl, Hm⟩
  have e : 1024 * t2.val + 16 * k2_t3_loop.trips = 1024 * (t2.val + 1) := by
    rw [show k2_t3_loop.trips = 64 from rfl]; omega
  rw [e] at hp'
  have hm1 := entsG_length_add p G P (1024 * t2.val) 1024
  have hm2 := entsG_mono p G P (1024 * t2.val) 1024
  rw [show 1024 * t2.val + 1024 = 1024 * (t2.val + 1) by omega] at hm1 hm2
  obtain ⟨hv, hpg, hpi⟩ := hp'
  subst hv
  have hm : (entsG p G P (1024 * (t2.val + 1))).length - o < 1041 := by omega
  iapply (wp_assume 𝒱₀ (tV1 d L) none Set.univ (chk4_of L v6 t1 _ hm))
  iapply Hk $$ %_ %fg' %fi' %hm [] Hg Hi Hl Hm
  ipureintro
  exact ⟨rfl, by omega, rfl, hpg, hpi⟩

/-- The whole batches of sixteen pending entries are gathered and added. -/
theorem wp_drain {α : Type} {Q : α → sProp (MM F)} (v2 : IVec S16 32) (v6 : BitVec 32) (hw1 : k2_chk1 L v6) (v23 : BitVec 32) (t1 : Fin k2_t1_loop.trips) (v26 v29 : BitVec 32)
    (h1 : k2_cond1 L v6 t1 = 1#1) (m : ℕ) (hm : m < 1041) (hw4 : k2_chk4 L v6 t1 (BitVec.ofNat 32 m))
    (q : PosShare TreeShare) (fqt : Buf (Elt F) (qtM.view.loc (tV1 d L))) (fg : Buf (Elt F) (giM.view.loc (tV1 d L))) (fi : Buf (Elt F) (siM.view.loc (tV1 d L))) (s : Vec F S64x1280 .f32)
    (O : CellTallies nD τ sig (HIx 2)) (W : Waits sig (HIx 2))
    (hfg : ∀ i < m, (at1 (α := BitVec 32) fg i).toNat < 40960) (hfi : ∀ i < m, (at1 (α := BitVec 32) fi i).toNat < 64)
    {inb0 inb1 inb2 inb3 inb4 in0 in1 in2 in3 in4 s0 s1 s2 s3 s4 s0' s1' s2' s3' s4'}
    {hn : S16.numel = S16x2x128.size gathers_S40960x2x128_S16x2x128.axis'}
    {w0 w1 w2 w3 w4} {he : EltTy.f32.bits = 32} {hsp : Space.hbm = .hbm ∨ Space.hbm = .shared} {hr : S40960x2x128.StreamRows 0}
    {dc : Decidable (k2_cond4 (BitVec.ofNat 32 m) = 1#1)} {ok4' : k2_cond4 (BitVec.ofNat 32 m) = 1#1 → (k2_t4_loop (BitVec.ofNat 32 m)).OK} {ok7' : k2_cond4 (BitVec.ofNat 32 m) = 1#1 → (k2_t7_loop (BitVec.ofNat 32 m)).OK}
    {b7 : k2_cond4 (BitVec.ofNat 32 m) = 1#1 → Fin (k2_t7_loop (BitVec.ofNat 32 m)).trips → Unit → Prog (TpuEff nD τ sig (Elt F) Λ₀ (tV1 d L).2) Unit}
    {kk : PUnit → Prog (TpuEff nD τ sig (Elt F) Λ₀ (tV1 d L).2) α} :
    iprop(Transfers.MayWaits (tV1 d L) (none : HIx 2) O
      ∗ (slM.view.loc (tV1 d L) ↦{fullShare} s)
      ∗ (giM.view.loc (tV1 d L) ↦{fullShare} fg) ∗ (siM.view.loc (tV1 d L) ↦{fullShare} fi)
      ∗ ((∃ f, (stM.view.loc (tV1 d L) ↦[half 0]{fullShare} f)) ∗ (∃ f, (stM.view.loc (tV1 d L) ↦[half 1]{fullShare} f)))
      ∗ (qtM.view.loc (tV1 d L) ↦{q} fqt) ∗ Sems (F := F) d L ∗ Ow (F := F) (tV1 d L) O W)
      ⊢ iprop(((slM.view.loc (tV1 d L) ↦{fullShare} accN fqt fg fi (16 * (m / 16)) s)
            -∗ (giM.view.loc (tV1 d L) ↦{fullShare} fg) -∗ (siM.view.loc (tV1 d L) ↦{fullShare} fi)
            -∗ ((∃ f, (stM.view.loc (tV1 d L) ↦[half 0]{fullShare} f)) ∗ (∃ f, (stM.view.loc (tV1 d L) ↦[half 1]{fullShare} f)))
            -∗ (qtM.view.loc (tV1 d L) ↦{q} fqt) -∗ Sems (F := F) d L -∗ Ow (F := F) (tV1 d L) O W
            -∗ wp frame (wpE (defs₀ (F := F)) 𝒱₀ (tV1 d L) none) Set.univ (kk ⟨⟩) Q)
        -∗ wp frame (wpE (defs₀ (F := F)) 𝒱₀ (tV1 d L) none) Set.univ
          (if h4 : k2_cond4 (BitVec.ofNat 32 m) = 1#1 then
              (SparseCore.enqueueIndirectGather rfl (srcM 0 s0 s0') (dstM ![0, 0, 0, 0] inb0) gathers_S40960x2x128_S16x2x128 (offM ![0] in0) hn cc2_scratch8.sem w0 he hsp hr >>= fun _ =>
               SparseCore.enqueueIndirectGather rfl (srcM 1 s1 s1') (dstM ![1, 0, 0, 0] inb1) gathers_S40960x2x128_S16x2x128 (offM ![0] in1) hn cc2_scratch9.sem w1 he hsp hr >>= fun _ =>
               SparseCore.enqueueIndirectGather rfl (srcM 2 s2 s2') (dstM ![2, 0, 0, 0] inb2) gathers_S40960x2x128_S16x2x128 (offM ![0] in2) hn cc2_scratch10.sem w2 he hsp hr >>= fun _ =>
               SparseCore.enqueueIndirectGather rfl (srcM 3 s3 s3') (dstM ![3, 0, 0, 0] inb3) gathers_S40960x2x128_S16x2x128 (offM ![0] in3) hn cc2_scratch11.sem w3 he hsp hr >>= fun _ =>
               SparseCore.enqueueIndirectGather rfl (srcM 4 s4 s4') (dstM ![4, 0, 0, 0] inb4) gathers_S40960x2x128_S16x2x128 (offM ![0] in4) hn cc2_scratch12.sem w4 he hsp hr >>= fun _ =>
               Scf.Loop.for (k2_t4_loop (BitVec.ofNat 32 m)) (ok4' h4) ⟨⟩ (B4 L v2 v6 hw1 v23 t1 v26 v29 h1 (BitVec.ofNat 32 m) hw4 h4) >>= fun _ =>
               Scf.Loop.for (k2_t7_loop (BitVec.ofNat 32 m)) (ok7' h4) ⟨⟩ (b7 h4) >>= kk)
            else kk ⟨⟩) Q) := by
  iintro ⟨#Hmw, Hsl, Hg, Hi, ⟨⟨%f0, H0⟩, ⟨%f1, H1⟩⟩, Hqt, Hsem, HO⟩ Hk
  by_cases h4 : k2_cond4 (BitVec.ofNat 32 m) = 1#1
  · have hb := (cond4_iff ⟨m, hm⟩).1 h4
    rw [dif_pos h4]
    iapply (wp_fire5 d L (h := 0) (o := 0) rfl rfl rfl rfl rfl rfl rfl rfl rfl rfl (f := f0) (fg := fg) (fqt := fqt) (q := q)
      (fun j hj => hfg _ (by have : 0 < m / 16 := hb; omega))) $$ [H0 Hqt Hg Hsem]
    · unfold Gfree
      isplitl [H0]; · iexact H0
      isplitl [Hqt]; · iexact Hqt
      isplitl [Hg]; · iexact Hg
      iexact Hsem
    iintro Hfly
    iapply (wp_loop (tV1 d L) (fun t (_ : Unit) => iprop(Transfers.MayWaits (tV1 d L) (none : HIx 2) O ∗ I4 d L q fqt fg fi s O W (m / 16) t))
      (fun t acc => batch_trip d L v2 v6 hw1 v23 t1 v26 v29 h1 m hm hw4 h4 q fqt fg fi s O W hfg hfi t acc)) $$ [Hsl Hi HO H1 Hfly]
    · unfold I4
      rw [if_pos (show 0 < m / 16 from hb)]
      isplitr; · iexact Hmw
      isplitl [Hsl]
      · iexists _
        isplitr
        rotate_left
        · iexact Hsl
        · ipureintro; exact (show s = accN fqt fg fi 0 s by simp [accN])
      isplitl [Hi]; · iexact Hi
      isplitl [HO]; · iexact HO
      isplitl [H1]; · iexists f1; iexact H1
      iexact Hfly
    iintro %_ H
    rw [trips4 ⟨m, hm⟩]
    unfold I4
    rw [if_neg (lt_irrefl _)]
    icases H with ⟨_, ⟨%fsl, %hfsl, Hsl⟩, Hi, HO, H1, ⟨%f, Hfree⟩⟩
    subst hfsl
    ihave Hfree := (Gfree_open d L q fqt fg _ f) $$ Hfree
    icases Hfree with ⟨H0, Hqt, Hg, Hsem⟩
    iapply (wp_loop (tV1 d L) (fun _ (_ : Unit) => (iprop(⌜True⌝) : sProp 𝕄))
      (fun t acc => (Nat.not_lt_zero _ (Nat.lt_of_lt_of_eq t.isLt (trips7 ⟨m, hm⟩))).elim)) $$ []
    · ipureintro; trivial
    iintro %_ %_
    ihave H01 := (halves_any d L (m / 16 % 2) (Nat.mod_lt _ (by decide))) $$ [H0 H1]
    · isplitl [H1]; · iexact H1
      iexists f; iexact H0
    iapply Hk $$ Hsl Hg Hi H01 Hqt Hsem HO
  · have hb : ¬ 0 < m / 16 := fun h => h4 ((cond4_iff ⟨m, hm⟩).2 h)
    rw [dif_neg h4, show 16 * (m / 16) = 0 by omega, show accN fqt fg fi 0 s = s by simp [accN]]
    iapply Hk $$ Hsl Hg Hi [H0 H1] Hqt Hsem HO
    isplitl [H0]
    · iexists f0; iexact H0
    iexists f1; iexact H1

end

end Cert.Proof.S2
-- ==== Proof.S2Slab.lean ====
/-
  Slabs fetched from the table and copied to the result.
-/
module

public import proofs.«01_k».proof.Proof.S2Drain

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

section
variable (d : Fin nD) (L : grid2.Coords)

/-- Rows `35840 + b` to `35840 + b + 63` of the table, as a slab. -/
def rowQ (fq : Vec F S40960x1280 .f32) (b : ℕ) : Vec F S64x1280 .f32 :=
  fun x => fq (ix2 ((35840 + b + (x 0).val) % 40960) (x 1).val (Nat.mod_lt _ (by norm_num)) (x 1).isLt)

/-- The rows of a tile's own blocks of 64 rows. -/
def yset (w : ℕ) : Finset S5120x1280.Idx := Finset.univ.filter fun i => (i 0).val / 64 % 32 = w

theorem mem_yset {w : ℕ} {i : S5120x1280.Idx} : i ∈ yset w ↔ (i 0).val / 64 % 32 = w := by simp [yset]

theorem slab_write (off : Fin 2 → ℕ) (inb) (hst) (h : off = ![0, 0]) (fd : Buf (Elt F) (slM.view.loc (tV1 d L))) (w : Vec F S64x1280 .f32) :
    (slM.slice (Rect.unit (s := S64x1280) off S64x1280.size inb) hst).view.write (Elt F) fd w Finset.univ = w := by
  subst h
  funext x
  have hx : (Rect.unit (s := S64x1280) ![0, 0] S64x1280.size inb).emb x = x := by
    funext a
    apply Fin.ext
    match a with
    | ⟨0, _⟩ => show 0 + 1 * (x 0).val = _; simp
    | ⟨1, _⟩ => show 0 + 1 * (x 1).val = _; simp
  have h := View.write_emb_of_mem (v := (slM.slice (Rect.unit (s := S64x1280) ![0, 0] S64x1280.size inb) hst).view) fd w (x := x) (M := Finset.univ) (Finset.mem_univ _)
  exact (congrArg _ hx.symm).trans h

theorem slab_read (off : Fin 2 → ℕ) (inb) (hst) (h : off = ![0, 0]) (f : Buf (Elt F) (slM.view.loc (tV1 d L))) :
    (slM.slice (Rect.unit (s := S64x1280) off S64x1280.size inb) hst).view.read (Elt F) f = f := by
  subst h
  funext x
  refine (show _ = (f : Vec F S64x1280 .f32) ((Rect.unit (s := S64x1280) ![0, 0] S64x1280.size inb).emb x) from rfl).trans (congrArg (f : Vec F S64x1280 .f32) ?_)
  funext a
  apply Fin.ext
  match a with
  | ⟨0, _⟩ => show 0 + 1 * (x 0).val = _; simp
  | ⟨1, _⟩ => show 0 + 1 * (x 1).val = _; simp

theorem q_read (off : Fin 2 → ℕ) (inb) (hst) (b : ℕ) (hb : b + 64 ≤ 5120) (h : off = ![35840 + b, 0]) (f : Buf (Elt F) (qM.view.loc (tV1 d L))) :
    (qM.slice (Rect.unit (s := S40960x1280) off S64x1280.size inb) hst).view.read (Elt F) f = rowQ (f : Vec F S40960x1280 .f32) b := by
  subst h
  funext x
  have h0 : (x 0).val < 64 := (x 0).isLt
  refine (show _ = (f : Vec F S40960x1280 .f32) ((Rect.unit (s := S40960x1280) ![35840 + b, 0] S64x1280.size inb).emb x) from rfl).trans (congrArg (f : Vec F S40960x1280 .f32) ?_)
  funext a
  apply Fin.ext
  match a with
  | ⟨0, _⟩ => show 35840 + b + 1 * (x 0).val = (35840 + b + (x 0).val) % 40960; rw [Nat.mod_eq_of_lt (by omega)]; omega
  | ⟨1, _⟩ => show 0 + 1 * (x 1).val = (x 1).val; omega

theorem slab_pos : 0 < (slM.slice (Rect.unit (s := S64x1280) ![0, 0] S64x1280.size inb_S64x1280_S64x1280_0_0) (fun _ => rfl)).view.dmaCredit := by decide +kernel

theorem y_pos : 0 < (yM.slice (Rect.unit (s := S5120x1280) ![0, 0] S64x1280.size (by decide)) (fun _ => rfl)).view.dmaCredit := by decide +kernel

/-- A slab is fetched from the table. -/
theorem wp_q_slab {α : Type} {Q : α → sProp (MM F)} {sem : DmaSem sig} (b : ℕ) (hb : b + 64 ≤ 5120) {off off' z z' : Fin 2 → ℕ} {inb inb' inz inz' hst hst' hsz hsz'}
    (ho : off = ![35840 + b, 0]) (hz : z = ![0, 0]) {hsrc hdst hsem hsrcw hdstw} {kk : PUnit → Prog (TpuEff nD τ sig (Elt F) Λ₀ (tV1 d L).2) α}
    {q : PosShare TreeShare} {fq : Buf (Elt F) (qM.view.loc (tV1 d L))} {O : CellTallies nD τ sig (HIx 2)} {W : Waits sig (HIx 2)} :
    iprop(Transfers.MayWaits (tV1 d L) (none : HIx 2) O ∗ (qM.view.loc (tV1 d L) ↦{q} fq) ∗ (∃ f, (slM.view.loc (tV1 d L) ↦{fullShare} f)) ∗ semVal (tV1 d L, .dma sem) 0 ∗ Ow (F := F) (tV1 d L) O W)
      ⊢ iprop(((qM.view.loc (tV1 d L) ↦{q} fq) -∗ (slM.view.loc (tV1 d L) ↦{fullShare} (rowQ (fq : Vec F S40960x1280 .f32) b : Vec F S64x1280 .f32)) -∗ semVal (tV1 d L, .dma sem) 0 -∗ Ow (F := F) (tV1 d L) O W
            -∗ wp frame (wpE (defs₀ (F := F)) 𝒱₀ (tV1 d L) none) Set.univ (kk ⟨⟩) Q)
          -∗ wp frame (wpE (defs₀ (F := F)) 𝒱₀ (tV1 d L) none) Set.univ
            (.op (.enqueueDmaAs (qM.slice (Rect.unit (s := S40960x1280) off S64x1280.size inb) hst) (.here (slM.slice (Rect.unit (s := S64x1280) z S64x1280.size inz) hsz)) .same (.dma sem) hsrc hdst hsem) fun _ =>
              .op (.waitDma2 sem (qM.slice (Rect.unit (s := S40960x1280) off' S64x1280.size inb') hst') (slM.slice (Rect.unit (s := S64x1280) z' S64x1280.size inz') hsz') hsrcw hdstw) kk) Q) := by
  iintro ⟨#Hmw, Hq, ⟨%f, Hs⟩, Hv, HO⟩ Hk
  have hN : (slM.slice (Rect.unit (s := S64x1280) z' S64x1280.size inz') hsz').view.dmaCredit = (slM.slice (Rect.unit (s := S64x1280) z S64x1280.size inz) hsz).view.amount (.dma sem) := rfl
  have hN0 : 0 < (slM.slice (Rect.unit (s := S64x1280) z S64x1280.size inz) hsz).view.amount (.dma sem) := slab_pos
  have h := wp_copy (F := F) (Q := Q) (tV1 d L) (src := qM.slice (Rect.unit (s := S40960x1280) off S64x1280.size inb) hst) (dst := slM.slice (Rect.unit (s := S64x1280) z S64x1280.size inz) hsz) (hsrc := hsrc) (hdst := hdst) (hsem := hsem) (hsrcw := hsrcw) (hdstw := hdstw) (k := kk) (q := q) (fs := fq) (fd := f) (O := O) (W := W) hN hN0 (Finset.subset_univ _) (Finset.subset_univ _)
  iapply h $$ [Hq Hs Hv HO]
  · isplitr; · iexact Hmw
    isplitl [Hq]; · iexact Hq
    isplitl [Hs]; · iexact Hs
    isplitl [Hv]; · iexact Hv
    iexact HO
  iintro %fd' %hfd Hq Hs Hv HO
  have hr := q_read d L off inb hst b hb ho fq
  have hw := slab_write d L z inz hsz hz f (rowQ (fq : Vec F S40960x1280 .f32) b)
  rw [← hr] at hw
  have hfd2 := hfd.trans hw
  rw [hr] at hfd2
  subst hfd2
  iapply Hk $$ Hq Hs Hv HO

/-- A slab is copied to its rows of the result. -/
theorem wp_slab_y {α : Type} {Q : α → sProp (MM F)} {sem : DmaSem sig} (b : ℕ) (hb : b + 64 ≤ 5120) (hdv : b / 64 % 32 = wid1 L) (hb64 : 64 ∣ b) {off off' z z' : Fin 2 → ℕ} {inb inb' inz inz' hst hst' hsz hsz'}
    (ho : off = ![b, 0]) (hz : z = ![0, 0]) {hsrc hdst hsem hsrcw hdstw} {kk : PUnit → Prog (TpuEff nD τ sig (Elt F) Λ₀ (tV1 d L).2) α}
    {s : Buf (Elt F) (slM.view.loc (tV1 d L))} {fy : Buf (Elt F) (yM.view.loc (tV1 d L))} {O : CellTallies nD τ sig (HIx 2)} {W : Waits sig (HIx 2)} :
    iprop(Transfers.MayWaits (tV1 d L) (none : HIx 2) O ∗ (slM.view.loc (tV1 d L) ↦{fullShare} s) ∗ (yM.view.loc (tV1 d L) ↦[yset (wid1 L)]{fullShare} fy) ∗ semVal (tV1 d L, .dma sem) 0 ∗ Ow (F := F) (tV1 d L) O W)
      ⊢ iprop((∀ fy' : Buf (Elt F) (yM.view.loc (tV1 d L)),
            ⌜(∀ x : S5120x1280.Idx, (x 0).val / 64 = b / 64 → (fy' : Vec F S5120x1280 .f32) x = (s : Vec F S64x1280 .f32) (ix2 ((x 0).val % 64) (x 1).val (Nat.mod_lt _ (by norm_num)) (x 1).isLt))
              ∧ (∀ x : S5120x1280.Idx, (x 0).val / 64 ≠ b / 64 → (fy' : Vec F S5120x1280 .f32) x = (fy : Vec F S5120x1280 .f32) x)⌝
            -∗ (slM.view.loc (tV1 d L) ↦{fullShare} s) -∗ (yM.view.loc (tV1 d L) ↦[yset (wid1 L)]{fullShare} fy') -∗ semVal (tV1 d L, .dma sem) 0 -∗ Ow (F := F) (tV1 d L) O W
            -∗ wp frame (wpE (defs₀ (F := F)) 𝒱₀ (tV1 d L) none) Set.univ (kk ⟨⟩) Q)
          -∗ wp frame (wpE (defs₀ (F := F)) 𝒱₀ (tV1 d L) none) Set.univ
            (.op (.enqueueDmaAs (slM.slice (Rect.unit (s := S64x1280) z S64x1280.size inz) hsz) (.here (yM.slice (Rect.unit (s := S5120x1280) off S64x1280.size inb) hst)) .same (.dma sem) hsrc hdst hsem) fun _ =>
              .op (.waitDma2 sem (slM.slice (Rect.unit (s := S64x1280) z' S64x1280.size inz') hsz') (yM.slice (Rect.unit (s := S5120x1280) off' S64x1280.size inb') hst') hsrcw hdstw) kk) Q) := by
  iintro ⟨#Hmw, Hs, Hy, Hv, HO⟩ Hk
  have hmem : ∀ x : S5120x1280.Idx, x ∈ (Rect.unit (s := S5120x1280) off S64x1280.size inb).set ↔ (x 0).val / 64 = b / 64 := by
    intro x
    have h1 : (x 1).val < 1280 := (x 1).isLt
    refine (mem_unit2 (k := 64) (l := 1280)).trans ?_
    rw [show off 0 = b from congrFun ho 0, show off 1 = 0 from congrFun ho 1]
    omega
  have hset : (yM.slice (Rect.unit (s := S5120x1280) off S64x1280.size inb) hst).view.set = (Rect.unit (s := S5120x1280) off S64x1280.size inb).set := View.set_slice_whole _ _
  have hSd : (yM.slice (Rect.unit (s := S5120x1280) off S64x1280.size inb) hst).view.set ⊆ yset (wid1 L) := by
    rw [hset]
    intro x hx
    rw [mem_yset, (hmem x).1 hx, hdv]
  have hN : (yM.slice (Rect.unit (s := S5120x1280) off' S64x1280.size inb') hst').view.dmaCredit = (yM.slice (Rect.unit (s := S5120x1280) off S64x1280.size inb) hst).view.amount (.dma sem) := rfl
  have hN0 : 0 < (yM.slice (Rect.unit (s := S5120x1280) off S64x1280.size inb) hst).view.amount (.dma sem) := y_pos
  have h := wp_copy (F := F) (Q := Q) (tV1 d L) (src := slM.slice (Rect.unit (s := S64x1280) z S64x1280.size inz) hsz) (dst := yM.slice (Rect.unit (s := S5120x1280) off S64x1280.size inb) hst) (hsrc := hsrc) (hdst := hdst) (hsem := hsem) (hsrcw := hsrcw) (hdstw := hdstw) (k := kk) (q := fullShare) (fs := s) (fd := fy) (O := O) (W := W) hN hN0 (Finset.subset_univ _) hSd
  iapply h $$ [Hy Hs Hv HO]
  · isplitr; · iexact Hmw
    isplitl [Hs]; · iexact Hs
    isplitl [Hy]; · iexact Hy
    isplitl [Hv]; · iexact Hv
    iexact HO
  iintro %fy' %hfd Hs Hy Hv HO
  rw [slab_read d L z inz hsz hz s] at hfd
  iapply Hk $$ %fy' [] Hs Hy Hv HO
  ipureintro
  subst hfd
  subst ho
  refine ⟨fun x hx => ?_, fun x hx => ?_⟩
  · have h0 : (x 0).val / 64 = b / 64 := hx
    have hx' : (Rect.unit (s := S5120x1280) ![b, 0] S64x1280.size inb).emb (ix2 ((x 0).val % 64) (x 1).val (Nat.mod_lt _ (by norm_num)) (x 1).isLt) = x := by
      funext a
      apply Fin.ext
      match a with
      | ⟨0, _⟩ => show b + 1 * ((x 0).val % 64) = (x 0).val; omega
      | ⟨1, _⟩ => show 0 + 1 * (x 1).val = (x 1).val; omega
    have h := View.write_emb_of_mem (v := (yM.slice (Rect.unit (s := S5120x1280) ![b, 0] S64x1280.size inb) hst).view) fy s
      (x := ix2 ((x 0).val % 64) (x 1).val (Nat.mod_lt _ (by norm_num)) (x 1).isLt) (M := Finset.univ) (Finset.mem_univ _)
    exact (congrArg _ hx'.symm).trans h
  · exact View.write_of_not_mem _ _ _ (by rw [View.setOn_univ, hset]; exact fun h => hx ((hmem x).1 h))
end

end Cert.Proof.S2
-- ==== Proof.S2Fin.lean ====
/-
  The last batch of a pass, filled up to sixteen entries.
-/
module

public import proofs.«01_k».proof.Proof.S2Drain

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

section
variable (d : Fin nD) (L : grid2.Coords)

/-- What the last batch is filled up with, when `k` entries are added. -/
def padL (k : ℕ) : List (BitVec 32 × BitVec 32) := if k % 16 = 0 then [] else List.replicate (16 - k % 16) (5119#32, 0#32)

/-- The two pending buffers are filled from `m` on with the padding row's number and slab row 0. -/
theorem wp_pad {α : Type} {Q : α → sProp (MM F)} {o1 o2 o3 o4 : Fin 1 → ℕ} {i1 i2 i3 i4} {m : ℕ} (h2 : o2 = ![m]) (h4 : o4 = ![m]) (hm : m < 1041)
    {l1 x1 m1 l2 x2 m2} {kk : PUnit → Prog (TpuEff nD τ sig (Elt F) Λ₀ (tV1 d L).2) α}
    (fg : Buf (Elt F) (giM.view.loc (tV1 d L))) (fi : Buf (Elt F) (siM.view.loc (tV1 d L))) :
    iprop((giM.view.loc (tV1 d L) ↦{fullShare} fg) ∗ (siM.view.loc (tV1 d L) ↦{fullShare} fi))
      ⊢ iprop((∀ (fg' : Buf (Elt F) (giM.view.loc (tV1 d L))) (fi' : Buf (Elt F) (siM.view.loc (tV1 d L))),
            ⌜∀ j < 16, at1 (α := BitVec 32) fg' j = if m ≤ j then 5119#32 else at1 (α := BitVec 32) fg j⌝
            -∗ ⌜∀ j < 16, at1 (α := BitVec 32) fi' j = if m ≤ j then 0#32 else at1 (α := BitVec 32) fi j⌝
            -∗ (giM.view.loc (tV1 d L) ↦{fullShare} fg') -∗ (siM.view.loc (tV1 d L) ↦{fullShare} fi') -∗ wp frame (wpE (defs₀ (F := F)) 𝒱₀ (tV1 d L) none) Set.univ (kk ⟨⟩) Q)
        -∗ wp frame (wpE (defs₀ (F := F)) 𝒱₀ (tV1 d L) none) Set.univ
          (.op (.load giM (Rect.unit (s := S1056) o1 S16.size i1).toLoadRect l1) fun _ =>
           .op (.store giM (Rect.unit (s := S1056) o2 S16.size i2) k2_pay1 Finset.univ x1 m1) fun _ =>
           .op (.load siM (Rect.unit (s := S1056) o3 S16.size i3).toLoadRect l2) fun _ =>
           .op (.store siM (Rect.unit (s := S1056) o4 S16.size i4) k2_pay3 Finset.univ x2 m2) kk) Q) := by
  iintro ⟨Hg, Hi⟩ Hk
  iapply (wp_ld1 (F := F) (n := 1056) (k := 16) (tV1 d L) (m := giM)) $$ Hg
  iintro %w1 %hw1 Hg
  iapply (wp_st1 (F := F) (n := 1056) (k := 16) (tV1 d L) (m := giM)) $$ Hg
  iintro %fg' %hfg Hg
  iapply (wp_ld1 (F := F) (n := 1056) (k := 16) (tV1 d L) (m := siM)) $$ Hi
  iintro %w4 %hw4 Hi
  iapply (wp_st1 (F := F) (n := 1056) (k := 16) (tV1 d L) (m := siM)) $$ Hi
  iintro %fi' %hfi Hi
  subst h2 h4
  have g1 : ∀ g : Buf (Elt F) (giM.view.loc (tV1 d L)), giM.view.read (Elt F) g = g := fun _ => rfl
  have g2 : ∀ g : Buf (Elt F) (siM.view.loc (tV1 d L)), siM.view.read (Elt F) g = g := fun _ => rfl
  rw [g1] at hfg
  rw [g1] at hfg
  rw [g2] at hfi
  rw [g2] at hfi
  have p1 : ∀ j, j < 16 → at1 (α := BitVec 32) k2_pay1 j = 5119#32 := fun j hj => by rw [at1_lt _ _ hj]; rfl
  have p3 : ∀ j, j < 16 → at1 (α := BitVec 32) k2_pay3 j = 0#32 := fun j hj => by rw [at1_lt _ _ hj]; rfl
  iapply Hk $$ %fg' %fi' [] [] Hg Hi
  · ipureintro
    intro j hj
    have h := hfg j (by omega)
    by_cases hc : m ≤ j
    · rw [if_pos (by constructor <;> simp <;> omega)] at h
      rw [if_pos hc]; exact h.trans (p1 _ (by simp; omega))
    · rw [if_neg (by simp; omega)] at h
      rw [if_neg hc]; exact h
  · ipureintro
    intro j hj
    have h := hfi j (by omega)
    by_cases hc : m ≤ j
    · rw [if_pos (by constructor <;> simp <;> omega)] at h
      rw [if_pos hc]; exact h.trans (p3 _ (by simp; omega))
    · rw [if_neg (by simp; omega)] at h
      rw [if_neg hc]; exact h

/-- The last batch, filled up to sixteen, is gathered and added, where anything is pending. -/
theorem wp_final {α : Type} {Q : α → sProp (MM F)} (v6 : BitVec 32) (t1 : Fin k2_t1_loop.trips) (h1 : k2_cond1 L v6 t1 = 1#1) (m : ℕ) (hm : m < 1041)
    (q : PosShare TreeShare) (fqt : Buf (Elt F) (qtM.view.loc (tV1 d L))) (fg : Buf (Elt F) (giM.view.loc (tV1 d L))) (fi : Buf (Elt F) (siM.view.loc (tV1 d L)))
    (s s' : Vec F S64x1280 .f32) (hs' : (0 < m → s' = accN fqt fg fi 16 s) ∧ (m = 0 → s' = s))
    (O : CellTallies nD τ sig (HIx 2)) (W : Waits sig (HIx 2))
    (hfg : ∀ i < 16, (at1 (α := BitVec 32) fg i).toNat < 40960) (hfi : ∀ i < 16, (at1 (α := BitVec 32) fi i).toNat < 64)
    {inb0 inb1 inb2 inb3 inb4 in0 in1 in2 in3 in4 s0 s1 s2 s3 s4 s0' s1' s2' s3' s4'}
    {hn : S16.numel = S16x2x128.size gathers_S40960x2x128_S16x2x128.axis'}
    {w0 w1 w2 w3 w4} {he : EltTy.f32.bits = 32} {hsp : Space.hbm = .hbm ∨ Space.hbm = .shared} {hr : S40960x2x128.StreamRows 0}
    {jnb0 jnb1 jnb2 jnb3 jnb4 r0 r1 r2 r3 r4 r0' r1' r2' r3' r4' y0 y1 y2 y3 y4 x0 x1 x2 x3 x4}
    {dc : Decidable (k2_cond12 (BitVec.ofNat 32 m) = 1#1)} {kk : PUnit → Prog (TpuEff nD τ sig (Elt F) Λ₀ (tV1 d L).2) α} :
    iprop(Transfers.MayWaits (tV1 d L) (none : HIx 2) O
      ∗ (slM.view.loc (tV1 d L) ↦{fullShare} s)
      ∗ (giM.view.loc (tV1 d L) ↦{fullShare} fg) ∗ (siM.view.loc (tV1 d L) ↦{fullShare} fi)
      ∗ ((∃ f, (stM.view.loc (tV1 d L) ↦[half 0]{fullShare} f)) ∗ (∃ f, (stM.view.loc (tV1 d L) ↦[half 1]{fullShare} f)))
      ∗ (qtM.view.loc (tV1 d L) ↦{q} fqt) ∗ Sems (F := F) d L ∗ Ow (F := F) (tV1 d L) O W)
      ⊢ iprop(((slM.view.loc (tV1 d L) ↦{fullShare} s')
            -∗ (giM.view.loc (tV1 d L) ↦{fullShare} fg) -∗ (siM.view.loc (tV1 d L) ↦{fullShare} fi)
            -∗ ((∃ f, (stM.view.loc (tV1 d L) ↦[half 0]{fullShare} f)) ∗ (∃ f, (stM.view.loc (tV1 d L) ↦[half 1]{fullShare} f)))
            -∗ (qtM.view.loc (tV1 d L) ↦{q} fqt) -∗ Sems (F := F) d L -∗ Ow (F := F) (tV1 d L) O W
            -∗ wp frame (wpE (defs₀ (F := F)) 𝒱₀ (tV1 d L) none) Set.univ (kk ⟨⟩) Q)
        -∗ wp frame (wpE (defs₀ (F := F)) 𝒱₀ (tV1 d L) none) Set.univ
          (if h12 : k2_cond12 (BitVec.ofNat 32 m) = 1#1 then
              (SparseCore.enqueueIndirectGather rfl (srcM 0 s0 s0') (dstM ![0, 0, 0, 0] inb0) gathers_S40960x2x128_S16x2x128 (offM ![0] in0) hn cc2_scratch8.sem w0 he hsp hr >>= fun _ =>
               SparseCore.enqueueIndirectGather rfl (srcM 1 s1 s1') (dstM ![1, 0, 0, 0] inb1) gathers_S40960x2x128_S16x2x128 (offM ![0] in1) hn cc2_scratch9.sem w1 he hsp hr >>= fun _ =>
               SparseCore.enqueueIndirectGather rfl (srcM 2 s2 s2') (dstM ![2, 0, 0, 0] inb2) gathers_S40960x2x128_S16x2x128 (offM ![0] in2) hn cc2_scratch10.sem w2 he hsp hr >>= fun _ =>
               SparseCore.enqueueIndirectGather rfl (srcM 3 s3 s3') (dstM ![3, 0, 0, 0] inb3) gathers_S40960x2x128_S16x2x128 (offM ![0] in3) hn cc2_scratch11.sem w3 he hsp hr >>= fun _ =>
               SparseCore.enqueueIndirectGather rfl (srcM 4 s4 s4') (dstM ![4, 0, 0, 0] inb4) gathers_S40960x2x128_S16x2x128 (offM ![0] in4) hn cc2_scratch12.sem w4 he hsp hr >>= fun _ =>
               SparseCore.waitIndirectGather cc2_scratch8.sem (srcM 0 r0 r0') (dstM ![0, 0, 0, 0] jnb0) y0 x0 >>= fun _ =>
               SparseCore.waitIndirectGather cc2_scratch9.sem (srcM 1 r1 r1') (dstM ![1, 0, 0, 0] jnb1) y1 x1 >>= fun _ =>
               SparseCore.waitIndirectGather cc2_scratch10.sem (srcM 2 r2 r2') (dstM ![2, 0, 0, 0] jnb2) y2 x2 >>= fun _ =>
               SparseCore.waitIndirectGather cc2_scratch11.sem (srcM 3 r3 r3') (dstM ![3, 0, 0, 0] jnb3) y3 x3 >>= fun _ =>
               SparseCore.waitIndirectGather cc2_scratch12.sem (srcM 4 r4 r4') (dstM ![4, 0, 0, 0] jnb4) y4 x4 >>= fun _ =>
               Scf.Loop.for k2_t18_loop k2_t18_ok ⟨⟩ (B18 L v6 t1 h1 (BitVec.ofNat 32 m) h12) >>= kk)
            else kk ⟨⟩) Q) := by
  iintro ⟨#Hmw, Hsl, Hg, Hi, ⟨⟨%f0, H0⟩, H1⟩, Hqt, Hsem, HO⟩ Hk
  by_cases h12 : k2_cond12 (BitVec.ofNat 32 m) = 1#1
  · have hb : 0 < m := (cond12_iff ⟨m, hm⟩).1 h12
    have hs := hs'.1 hb
    subst hs
    rw [dif_pos h12]
    iapply (wp_fire5 d L (h := 0) (o := 0) rfl rfl rfl rfl rfl rfl rfl rfl rfl rfl (f := f0) (fg := fg) (fqt := fqt) (q := q)
      (fun j hj => hfg _ (by omega))) $$ [H0 Hqt Hg Hsem]
    · unfold Gfree
      isplitl [H0]; · iexact H0
      isplitl [Hqt]; · iexact Hqt
      isplitl [Hg]; · iexact Hg
      iexact Hsem
    iintro Hfly
    iapply (wp_gwait5 d L) $$ [Hfly HO]
    · isplitr; · iexact Hmw
      isplitl [Hfly]; · iexact Hfly
      iexact HO
    iintro Hfree HO
    ihave Hfree := (Gfree_open d L q fqt fg 0 _) $$ Hfree
    icases Hfree with ⟨Hst, Hqt, Hg, Hsem⟩
    iapply (rows_run' d L v6 t1 h1 (BitVec.ofNat 32 m) h12 fqt fg fi s hfi) $$ [Hsl Hst Hi]
    · unfold IR
      isplitl [Hsl]
      · iexists s
        isplitr; · ipureintro; exact (show s = accN fqt fg fi 0 s by simp [accN])
        iexact Hsl
      isplitl [Hst]; · iexact Hst
      iexact Hi
    iintro H
    unfold IR
    icases H with ⟨⟨%fsl, %hsl, Hsl⟩, Hst, Hi⟩
    subst hsl
    iapply Hk $$ Hsl Hg Hi [Hst H1] Hqt Hsem HO
    isplitl [Hst]
    · iexists _; iexact Hst
    iexact H1
  · have hb : m = 0 := by
      by_contra h
      exact h12 ((cond12_iff ⟨m, hm⟩).2 (Nat.pos_of_ne_zero h))
    have hs := hs'.2 hb
    subst hs
    rw [dif_neg h12]
    iapply Hk $$ Hsl Hg Hi [H0 H1] Hqt Hsem HO
    isplitl [H0]
    · iexists f0; iexact H0
    iexact H1
end

end Cert.Proof.S2
-- ==== Proof.S2Chunk.lean ====
/-
  One page of the lists read and its whole batches added.
-/
module

public import proofs.«01_k».proof.Proof.S2Drain

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

section
variable (d : Fin nD) (L : grid2.Coords)
variable (gr : Buf (Elt F) (grM.view.loc (tV1 d L))) (pr : Buf (Elt F) (prM.view.loc (tV1 d L)))

/-- What holds after a page's entries are scanned, its batches added and the rest moved. -/
theorem chunk_done (n p : ℕ) (q : PosShare TreeShare) (fqt : Buf (Elt F) (qtM.view.loc (tV1 d L))) (s : Vec F S64x1280 .f32) (O : CellTallies nD τ sig (HIx 2)) (W : Waits sig (HIx 2))
    (e o m : ℕ) (fg fi fg' fi') (fl : Buf (Elt F) (lgM.view.loc (tV1 d L))) (fm : Buf (Elt F) (lpM.view.loc (tV1 d L))) (acc : BitVec 32) (hm : m < 1041)
    (hm' : m = (entsG p (Gs d L gr) (Ps d L pr) (1024 * (e + 1))).length - o) (ho : o ≤ (entsG p (Gs d L gr) (Ps d L pr) (1024 * e)).length) (hdv : 16 ∣ o)
    (hom : o ≤ (entsG p (Gs d L gr) (Ps d L pr) (1024 * (e + 1))).length)
    (hp : PendS p (Gs d L gr) (Ps d L pr) (1024 * (e + 1)) o (BitVec.ofNat 32 m) fg fi)
    (hg : ∀ j < 16, at1 (α := BitVec 32) fg' j = at1 (α := BitVec 32) fg (16 * (m / 16) + j)) (hi : ∀ j < 16, at1 (α := BitVec 32) fi' j = at1 (α := BitVec 32) fi (16 * (m / 16) + j))
    (hacc : acc = Scalar.subi (BitVec.ofNat 32 m) (Scalar.muli (fl16 (BitVec.ofNat 32 m)) 16#32)) :
    iprop((slM.view.loc (tV1 d L) ↦{fullShare} accN fqt fg fi (16 * (m / 16)) (((entsP p (Gs d L gr) (Ps d L pr) (1024 * e)).take o).foldl (accOne fqt) s))
      ∗ (giM.view.loc (tV1 d L) ↦{fullShare} (fg' : Buf (Elt F) (giM.view.loc (tV1 d L)))) ∗ (siM.view.loc (tV1 d L) ↦{fullShare} (fi' : Buf (Elt F) (siM.view.loc (tV1 d L))))
      ∗ ((∃ f, (stM.view.loc (tV1 d L) ↦[half 0]{fullShare} f)) ∗ (∃ f, (stM.view.loc (tV1 d L) ↦[half 1]{fullShare} f)))
      ∗ (qtM.view.loc (tV1 d L) ↦{q} fqt) ∗ Sems (F := F) d L ∗ Page (F := F) d L gr pr n (e + 1)
      ∗ (lgM.view.loc (tV1 d L) ↦[hl (e % 2)]{fullShare} fl) ∗ (lpM.view.loc (tV1 d L) ↦[hl (e % 2)]{fullShare} fm) ∗ Ow (F := F) (tV1 d L) O W)
      ⊢ I2 (F := F) d L gr pr n p q fqt s O W (e + 1) acc := by
  have h16 := Nat.div_add_mod m 16
  have hlt := Nat.mod_lt m (show 0 < 16 by decide)
  have htk := entsP_take p (Gs d L gr) (Ps d L pr) (1024 * e) 1024 o ho
  rw [show 1024 * e + 1024 = 1024 * (e + 1) by omega] at htk
  rw [← htk, acc_more p (Gs d L gr) (Ps d L pr) fqt s hp (16 * (m / 16)) (by omega), rest16 m hm] at *
  subst hacc
  unfold I2
  iintro ⟨Hsl, Hg, Hi, Hst, Hqt, Hsem, Hpage, Hl, Hm, HO⟩
  iexists (o + 16 * (m / 16)), fg', fi'
  isplitr
  · ipureintro
    exact ⟨pend_shift p (Gs d L gr) (Ps d L pr) hp hm' hg hi, by omega, by omega, by omega⟩
  isplitl [Hsl]; · iexact Hsl
  isplitl [Hg]; · iexact Hg
  isplitl [Hi]; · iexact Hi
  isplitl [Hst]; · iexact Hst
  isplitl [Hqt]; · iexact Hqt
  isplitl [Hsem]; · iexact Hsem
  isplitl [Hpage]; · iexact Hpage
  rw [show (e + 1 + 1) % 2 = e % 2 by omega]
  isplitl [Hl]; · iexists fl; iexact Hl
  isplitl [Hm]; · iexists fm; iexact Hm
  iexact HO

/-- After the last page nothing is under way. -/
theorem page_last (n e : ℕ) (he : ¬ e + 1 < n) :
    iprop(semVal (tV1 d L, .dma cc2_scratch7.sem) 0
      ∗ (grM.view.loc (tV1 d L) ↦[S1.wrow (wid1 L)]{fullShare} gr) ∗ (prM.view.loc (tV1 d L) ↦[S1.wrow (wid1 L)]{fullShare} pr)
      ∗ (∃ f : Buf (Elt F) (lgM.view.loc (tV1 d L)), (lgM.view.loc (tV1 d L) ↦[hl ((e + 1) % 2)]{fullShare} f))
      ∗ (∃ f : Buf (Elt F) (lpM.view.loc (tV1 d L)), (lpM.view.loc (tV1 d L) ↦[hl ((e + 1) % 2)]{fullShare} f)))
      ⊢ Page (F := F) d L gr pr n (e + 1) := by
  rw [Page, if_neg he]

theorem chunk_trip (n : ℕ) (hn : n < 52) (hw1 : k2_chk1 L (BitVec.ofNat 32 (1024 * n))) (v23 : BitVec 32) (t1 : Fin k2_t1_loop.trips) (p : ℕ) (v29 : BitVec 32)
    (h1 : k2_cond1 L (BitVec.ofNat 32 (1024 * n)) t1 = 1#1) (q : PosShare TreeShare) (fqt : Buf (Elt F) (qtM.view.loc (tV1 d L))) (s : Vec F S64x1280 .f32)
    (O : CellTallies nD τ sig (HIx 2)) (W : Waits sig (HIx 2)) (hG : ∀ j < 1024 * n, (Gs d L gr j).toNat < 40960)
    (t2 : Fin (k2_t2_loop (BitVec.ofNat 32 (1024 * n))).trips) (acc : BitVec 32) :
    iprop(Transfers.MayWaits (tV1 d L) (none : HIx 2) O ∗ I2 (F := F) d L gr pr n p q fqt s O W t2.val acc)
      ⊢ wp frame (wpE (defs₀ (F := F)) 𝒱₀ (tV1 d L) none) Set.univ
          (B2 L (iota .scVector S16 32 [0] iota_S16_d0_w32_scVector) (BitVec.ofNat 32 (1024 * n)) hw1 v23 t1 (BitVec.ofNat 32 p) v29 h1 t2 acc)
          (fun acc' => iprop(Transfers.MayWaits (tV1 d L) (none : HIx 2) O ∗ I2 (F := F) d L gr pr n p q fqt s O W (t2.val + 1) acc')) := by
  have ht := t2_lt n hn t2
  unfold B2 k2_t2_body
  simp only [k2_part5_eq_skeleton, k2_part6_eq_skeleton]
  unfold k2_part5_skel k2_part6_skel
  simp only [Prog.lift, Prog.bind_op, Prog.bind_ret, Prog.pure_eq_ret, Prog.bind_assoc]
  conv_lhs => unfold I2
  iintro ⟨#Hmw, ⟨%o, %fg, %fi, %hpend, Hsl, Hg, Hi, Hst, Hqt, Hsem, Hpage, Hl', Hm', HO⟩⟩
  obtain ⟨hpend, ho, ho', hdv⟩ := hpend
  iapply (wp_await_page1 d L gr pr n t2.val ht) $$ [Hpage HO]
  · isplitr; · iexact Hmw
    isplitl [Hpage]; · iexact Hpage
    iexact HO
  iintro %fl %fm %hfl %hfm Hl Hm Hgr Hpr Hv HO
  by_cases hc : k2_cond2 (BitVec.ofNat 32 (1024 * n)) t2 = 1#1
  · rw [dif_pos hc]
    simp only [Prog.bind_op, Prog.bind_ret, Prog.pure_eq_ret, Prog.bind_assoc]
    iapply (wp_issue_page d L gr pr n (t2.val + 1) ((cond2_iff n hn t2).1 hc)
      (by rw [off5_eq n hn t2]; show 1024 * (1 - t2.val % 2) = _; omega) (by rw [off6_eq n hn t2 L]; rfl) (by rw [off6_eq n hn t2 L]; rfl)) $$ [Hv Hgr Hpr Hl' Hm']
    · isplitl [Hv]; · iexact Hv
      isplitl [Hgr]; · iexact Hgr
      isplitl [Hpr]; · iexact Hpr
      isplitl [Hl']; · iexact Hl'
      iexact Hm'
    iintro Hpage
    iapply (wp_scan d L (BitVec.ofNat 32 (1024 * n)) hw1 v23 t1 p h1 _ _ t2 (by omega) (Gs d L gr) (Ps d L pr) o fl fm hfl hfm ho ho' acc fg fi hpend) $$ [Hg Hi Hl Hm]
    · isplitl [Hg]; · iexact Hg
      isplitl [Hi]; · iexact Hi
      isplitl [Hl]; · iexact Hl
      iexact Hm
    iintro %m %fg' %fi' %hm %hm' Hg Hi Hl Hm
    obtain ⟨hm', hom, hpend'⟩ := hm'
    iapply (wp_drain d L _ (BitVec.ofNat 32 (1024 * n)) hw1 v23 t1 _ v29 h1 m hm _ q fqt fg' fi' _ O W
      (fun i hi => pend_G p (Gs d L gr) (Ps d L pr) hpend' (show 1024 * (t2.val + 1) ≤ 1024 * n by omega) hG i (by omega))
      (fun i hi => pend_D p (Gs d L gr) (Ps d L pr) hpend' i (by omega))) $$ [Hsl Hg Hi Hst Hqt Hsem HO]
    · isplitr; · iexact Hmw
      isplitl [Hsl]; · iexact Hsl
      isplitl [Hg]; · iexact Hg
      isplitl [Hi]; · iexact Hi
      isplitl [Hst]; · iexact Hst
      isplitl [Hqt]; · iexact Hqt
      isplitl [Hsem]; · iexact Hsem
      iexact HO
    iintro Hsl Hg Hi Hst Hqt Hsem HO
    iapply (wp_shift d L rfl rfl (off39_eq ⟨m, hm⟩) (off39_eq ⟨m, hm⟩) fg' fi') $$ [Hg Hi]
    · isplitl [Hg]; · iexact Hg
      iexact Hi
    iintro %fg2 %fi2 %hg2 %hi2 Hg Hi
    rw [wp_ret]
    isplitr; · iexact Hmw
    have hd := chunk_done d L gr pr n p q fqt s O W t2.val o m fg' fi' fg2 fi2 fl fm _ hm hm' ho hdv hom hpend' hg2 hi2 rfl
    unfold fl16 at hd
    ihave H := hd $$ [Hsl Hg Hi Hst Hqt Hsem Hpage Hl Hm HO]
    · isplitl [Hsl]; · iexact Hsl
      isplitl [Hg]; · iexact Hg
      isplitl [Hi]; · iexact Hi
      isplitl [Hst]; · iexact Hst
      isplitl [Hqt]; · iexact Hqt
      isplitl [Hsem]; · iexact Hsem
      isplitl [Hpage]; · iexact Hpage
      isplitl [Hl]; · iexact Hl
      isplitl [Hm]; · iexact Hm
      iexact HO
    iexact H
  · rw [dif_neg hc]
    simp only [Prog.bind_op, Prog.bind_ret, Prog.pure_eq_ret, Prog.bind_assoc]
    ihave Hpage := (page_last d L gr pr n t2.val (fun h => hc ((cond2_iff n hn t2).2 h))) $$ [Hv Hgr Hpr Hl' Hm']
    · isplitl [Hv]; · iexact Hv
      isplitl [Hgr]; · iexact Hgr
      isplitl [Hpr]; · iexact Hpr
      isplitl [Hl']; · iexact Hl'
      iexact Hm'
    iapply (wp_scan d L (BitVec.ofNat 32 (1024 * n)) hw1 v23 t1 p h1 _ _ t2 (by omega) (Gs d L gr) (Ps d L pr) o fl fm hfl hfm ho ho' acc fg fi hpend) $$ [Hg Hi Hl Hm]
    · isplitl [Hg]; · iexact Hg
      isplitl [Hi]; · iexact Hi
      isplitl [Hl]; · iexact Hl
      iexact Hm
    iintro %m %fg' %fi' %hm %hm' Hg Hi Hl Hm
    obtain ⟨hm', hom, hpend'⟩ := hm'
    iapply (wp_drain d L _ (BitVec.ofNat 32 (1024 * n)) hw1 v23 t1 _ v29 h1 m hm _ q fqt fg' fi' _ O W
      (fun i hi => pend_G p (Gs d L gr) (Ps d L pr) hpend' (show 1024 * (t2.val + 1) ≤ 1024 * n by omega) hG i (by omega))
      (fun i hi => pend_D p (Gs d L gr) (Ps d L pr) hpend' i (by omega))) $$ [Hsl Hg Hi Hst Hqt Hsem HO]
    · isplitr; · iexact Hmw
      isplitl [Hsl]; · iexact Hsl
      isplitl [Hg]; · iexact Hg
      isplitl [Hi]; · iexact Hi
      isplitl [Hst]; · iexact Hst
      isplitl [Hqt]; · iexact Hqt
      isplitl [Hsem]; · iexact Hsem
      iexact HO
    iintro Hsl Hg Hi Hst Hqt Hsem HO
    iapply (wp_shift d L rfl rfl (off39_eq ⟨m, hm⟩) (off39_eq ⟨m, hm⟩) fg' fi') $$ [Hg Hi]
    · isplitl [Hg]; · iexact Hg
      iexact Hi
    iintro %fg2 %fi2 %hg2 %hi2 Hg Hi
    rw [wp_ret]
    isplitr; · iexact Hmw
    have hd := chunk_done d L gr pr n p q fqt s O W t2.val o m fg' fi' fg2 fi2 fl fm _ hm hm' ho hdv hom hpend' hg2 hi2 rfl
    unfold fl16 at hd
    ihave H := hd $$ [Hsl Hg Hi Hst Hqt Hsem Hpage Hl Hm HO]
    · isplitl [Hsl]; · iexact Hsl
      isplitl [Hg]; · iexact Hg
      isplitl [Hi]; · iexact Hi
      isplitl [Hst]; · iexact Hst
      isplitl [Hqt]; · iexact Hqt
      isplitl [Hsem]; · iexact Hsem
      isplitl [Hpage]; · iexact Hpage
      isplitl [Hl]; · iexact Hl
      isplitl [Hm]; · iexact Hm
      iexact HO
    iexact H
end

end Cert.Proof.S2
-- ==== Proof.S2Pass.lean ====
/-
  One pass of a tile: a slab of 64 rows fetched, its entries added, and the slab copied to the result.
-/
module

public import proofs.«01_k».proof.Proof.S2Slab
public import proofs.«01_k».proof.Proof.S2Fin
public import proofs.«01_k».proof.Proof.S2Chunk

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

section
variable (d : Fin nD) (L : grid2.Coords)
variable (gr : Buf (Elt F) (grM.view.loc (tV1 d L))) (pr : Buf (Elt F) (prM.view.loc (tV1 d L)))
variable (fq : Buf (Elt F) (qM.view.loc (tV1 d L))) (fqt : Buf (Elt F) (qtM.view.loc (tV1 d L)))

/-- Pass `t`'s slab for the block of rows starting at row `b`: the fetched rows with the pass's entries added, the last batch filled up. -/
def slabOf (n b t : ℕ) : Vec F S64x1280 .f32 :=
  ((entsP t (Gs d L gr) (Ps d L pr) (1024 * n)) ++ padL (entsG t (Gs d L gr) (Ps d L pr) (1024 * n)).length).foldl (accOne fqt) (rowQ (fq : Vec F S40960x1280 .f32) b)

/-- The value of the result at an index of the tile's rows. -/
def YV (n : ℕ) (x : S5120x1280.Idx) : F .f32 :=
  slabOf d L gr pr fq fqt n (base L ((x 0).val / 2048)) ((x 0).val / 2048) (ix2 ((x 0).val % 64) (x 1).val (Nat.mod_lt _ (by norm_num)) (x 1).isLt)

/-- The rows of the passes before `t` are written. -/
def YDone (n t : ℕ) (fy : Vec F S5120x1280 .f32) : Prop := ∀ x : S5120x1280.Idx, (x 0).val / 64 % 32 = wid1 L → (x 0).val < 2048 * t → fy x = YV d L gr pr fq fqt n x

/-- What a tile holds between two passes. -/
def Free (q : PosShare TreeShare) (O : CellTallies nD τ sig (HIx 2)) (W : Waits sig (HIx 2)) : sProp 𝕄 :=
  iprop((∃ f, (slM.view.loc (tV1 d L) ↦{fullShare} f)) ∗ (∃ f, (giM.view.loc (tV1 d L) ↦{fullShare} f)) ∗ (∃ f, (siM.view.loc (tV1 d L) ↦{fullShare} f))
    ∗ ((∃ f, (stM.view.loc (tV1 d L) ↦[half 0]{fullShare} f)) ∗ (∃ f, (stM.view.loc (tV1 d L) ↦[half 1]{fullShare} f)))
    ∗ (qtM.view.loc (tV1 d L) ↦{q} fqt) ∗ (qM.view.loc (tV1 d L) ↦{q} fq) ∗ Sems (F := F) d L
    ∗ semVal (tV1 d L, .dma cc2_scratch7.sem) 0
    ∗ (grM.view.loc (tV1 d L) ↦[S1.wrow (wid1 L)]{fullShare} gr) ∗ (prM.view.loc (tV1 d L) ↦[S1.wrow (wid1 L)]{fullShare} pr)
    ∗ ((∃ f : Buf (Elt F) (lgM.view.loc (tV1 d L)), (lgM.view.loc (tV1 d L) ↦[hl 0]{fullShare} f)) ∗ (∃ f : Buf (Elt F) (lgM.view.loc (tV1 d L)), (lgM.view.loc (tV1 d L) ↦[hl 1]{fullShare} f)))
    ∗ ((∃ f : Buf (Elt F) (lpM.view.loc (tV1 d L)), (lpM.view.loc (tV1 d L) ↦[hl 0]{fullShare} f)) ∗ (∃ f : Buf (Elt F) (lpM.view.loc (tV1 d L)), (lpM.view.loc (tV1 d L) ↦[hl 1]{fullShare} f)))
    ∗ (semVal (tV1 d L, .dma cc2_scoped1.sem) 0 ∗ semVal (tV1 d L, .dma cc2_scoped2.sem) 0 ∗ semVal (tV1 d L, .dma cc2_scoped3.sem) 0 ∗ semVal (tV1 d L, .dma cc2_scoped4.sem) 0)
    ∗ Ow (F := F) (tV1 d L) O W)

theorem lg_halves (b : ℕ) :
    iprop((∃ f : Buf (Elt F) (lgM.view.loc (tV1 d L)), (lgM.view.loc (tV1 d L) ↦[hl (b % 2)]{fullShare} f)) ∗ (∃ f : Buf (Elt F) (lgM.view.loc (tV1 d L)), (lgM.view.loc (tV1 d L) ↦[hl ((b + 1) % 2)]{fullShare} f)))
      ⊢ (iprop((∃ f : Buf (Elt F) (lgM.view.loc (tV1 d L)), (lgM.view.loc (tV1 d L) ↦[hl 0]{fullShare} f)) ∗ (∃ f : Buf (Elt F) (lgM.view.loc (tV1 d L)), (lgM.view.loc (tV1 d L) ↦[hl 1]{fullShare} f))) : sProp 𝕄) := by
  rcases (show b % 2 = 0 ∧ (b + 1) % 2 = 1 ∨ b % 2 = 1 ∧ (b + 1) % 2 = 0 by omega) with ⟨h, h'⟩ | ⟨h, h'⟩ <;> rw [h, h'] <;> iintro ⟨H, H'⟩
  isplitl [H']
  · iexact H'
  iexact H

theorem lp_halves (b : ℕ) :
    iprop((∃ f : Buf (Elt F) (lpM.view.loc (tV1 d L)), (lpM.view.loc (tV1 d L) ↦[hl (b % 2)]{fullShare} f)) ∗ (∃ f : Buf (Elt F) (lpM.view.loc (tV1 d L)), (lpM.view.loc (tV1 d L) ↦[hl ((b + 1) % 2)]{fullShare} f)))
      ⊢ (iprop((∃ f : Buf (Elt F) (lpM.view.loc (tV1 d L)), (lpM.view.loc (tV1 d L) ↦[hl 0]{fullShare} f)) ∗ (∃ f : Buf (Elt F) (lpM.view.loc (tV1 d L)), (lpM.view.loc (tV1 d L) ↦[hl 1]{fullShare} f))) : sProp 𝕄) := by
  rcases (show b % 2 = 0 ∧ (b + 1) % 2 = 1 ∨ b % 2 = 1 ∧ (b + 1) % 2 = 0 by omega) with ⟨h, h'⟩ | ⟨h, h'⟩ <;> rw [h, h'] <;> iintro ⟨H, H'⟩
  isplitl [H']
  · iexact H'
  iexact H

/-- After pass `t`'s copy the rows of the passes up to `t` are written. -/
theorem ydone_step (n t : ℕ) (hb : base L t < 5120) (fy fy' : Vec F S5120x1280 .f32) (h : YDone d L gr pr fq fqt n t fy)
    (h1 : ∀ x : S5120x1280.Idx, (x 0).val / 64 = base L t / 64 → fy' x = slabOf d L gr pr fq fqt n (base L t) t (ix2 ((x 0).val % 64) (x 1).val (Nat.mod_lt _ (by norm_num)) (x 1).isLt))
    (h2 : ∀ x : S5120x1280.Idx, (x 0).val / 64 ≠ base L t / 64 → fy' x = fy x) : YDone d L gr pr fq fqt n (t + 1) fy' := by
  intro x hx hlt
  have hb' : base L t / 64 = 32 * t + wid1 L := by unfold base; omega
  have hw := wid1_lt L
  by_cases hc : (x 0).val / 64 = base L t / 64
  · have ht : (x 0).val / 2048 = t := by omega
    rw [h1 x hc]
    unfold YV
    rw [ht]
  · rw [h2 x hc]
    exact h x hx (by omega)

theorem ydone_skip (n t : ℕ) (hb : ¬ base L t < 5120) (fy : Vec F S5120x1280 .f32) (h : YDone d L gr pr fq fqt n t fy) : YDone d L gr pr fq fqt n (t + 1) fy := by
  intro x hx hlt
  refine h x hx ?_
  have h0 : (x 0).val < 5120 := (x 0).isLt
  have hw := wid1_lt L
  unfold base at hb
  omega

theorem word26 : ∀ t : Fin 3, Scalar.addi (0#32 : BitVec 32) (Scalar.muli (Scf.iv 0#32 1#32 t.val) 1#32) = BitVec.ofNat 32 t.val := by decide +kernel

theorem slabOf_zero (b t : ℕ) : slabOf d L gr pr fq fqt 0 b t = rowQ (fq : Vec F S40960x1280 .f32) b := rfl

/-- Nothing is pending before the first page. -/
theorem pend_zero (p : ℕ) (G P : ℕ → BitVec 32) (fg fi : S1056.Idx → BitVec 32) :
    PendS p G P (1024 * 0) 0 0#32 fg fi ∧ 0 ≤ (entsG p G P (1024 * 0)).length ∧ (entsG p G P (1024 * 0)).length < 0 + 16 ∧ 16 ∣ 0 := by
  refine ⟨⟨rfl, ?_, ?_⟩, Nat.zero_le _, by simp [entsG], by simp⟩
  · intro i hi; simp [entsG] at hi
  · intro i hi; simp [entsD] at hi

/-- After the last page no copy is in flight. -/
theorem page_open (n : ℕ) :
    Page (F := F) d L gr pr n n ⊢ iprop(semVal (tV1 d L, .dma cc2_scratch7.sem) 0
      ∗ (grM.view.loc (tV1 d L) ↦[S1.wrow (wid1 L)]{fullShare} gr) ∗ (prM.view.loc (tV1 d L) ↦[S1.wrow (wid1 L)]{fullShare} pr)
      ∗ (∃ f : Buf (Elt F) (lgM.view.loc (tV1 d L)), (lgM.view.loc (tV1 d L) ↦[hl (n % 2)]{fullShare} f))
      ∗ (∃ f : Buf (Elt F) (lpM.view.loc (tV1 d L)), (lpM.view.loc (tV1 d L) ↦[hl (n % 2)]{fullShare} f))) := by
  rw [Page, if_neg (lt_irrefl _)]

theorem pass_trip (v1 : BitVec 32) (n : ℕ) (hn : n < 52) (hw1 : k2_chk1 L (BitVec.ofNat 32 (1024 * n))) (v23 : BitVec 32)
    (q : PosShare TreeShare) (O : CellTallies nD τ sig (HIx 2)) (W : Waits sig (HIx 2)) (hG : ∀ j < 1024 * n, (Gs d L gr j).toNat < 40960)
    (t1 : Fin k2_t1_loop.trips) (acc : Unit) :
    iprop(Transfers.MayWaits (tV1 d L) (none : HIx 2) O ∗ Free (F := F) d L gr pr fq fqt q O W
        ∗ (∃ fy : Buf (Elt F) (yM.view.loc (tV1 d L)), ⌜YDone d L gr pr fq fqt n t1.val fy⌝ ∗ (yM.view.loc (tV1 d L) ↦[yset (wid1 L)]{fullShare} fy)))
      ⊢ wp frame (wpE (defs₀ (F := F)) 𝒱₀ (tV1 d L) none) Set.univ
          (B1 L v1 (iota .scVector S16 32 [0] iota_S16_d0_w32_scVector) (BitVec.ofNat 32 (1024 * n)) hw1 v23 t1 acc)
          (fun _ => iprop(Transfers.MayWaits (tV1 d L) (none : HIx 2) O ∗ Free (F := F) d L gr pr fq fqt q O W
            ∗ (∃ fy : Buf (Elt F) (yM.view.loc (tV1 d L)), ⌜YDone d L gr pr fq fqt n (t1.val + 1) fy⌝ ∗ (yM.view.loc (tV1 d L) ↦[yset (wid1 L)]{fullShare} fy)))) := by
  have ht : t1.val < 3 := t1.isLt
  have h26 : Scalar.addi (0#32 : BitVec 32) (Scalar.muli (Scf.iv 0#32 1#32 t1.val) 1#32) = BitVec.ofNat 32 t1.val := word26 ⟨t1.val, ht⟩
  have hdv := base_dvd L t1.val
  have hmod : base L t1.val / 64 % 32 = wid1 L := by
    have := wid1_lt L
    unfold base; omega
  unfold B1 k2_t1_body
  simp only [k2_part13_eq_skeleton, k2_part14_eq_skeleton, k2_part15_eq_skeleton, k2_part16_eq_skeleton]
  unfold k2_part13_skel k2_part14_skel k2_part15_skel k2_part16_skel
  simp only [Prog.lift, Prog.bind_op, Prog.bind_ret, Prog.pure_eq_ret, Prog.bind_assoc]
  by_cases h1 : k2_cond1 L (BitVec.ofNat 32 (1024 * n)) t1 = 1#1
  · obtain ⟨hb, hn0⟩ := (cond1_iff L n hn t1).1 h1
    have hb64 : base L t1.val + 64 ≤ 5120 := by omega
    have h13 : ¬ k2_cond13 L (BitVec.ofNat 32 (1024 * n)) t1 = 1#1 := fun h => by have := ((cond13_iff L n hn t1).1 h).2; omega
    rw [dif_pos h1]
    conv_lhs => unfold Free
    iintro ⟨#Hmw, ⟨Hsl, ⟨%fg0, Hg⟩, ⟨%fi0, Hi⟩, Hst, Hqt, Hq, Hsem, Hv, Hgr, Hpr, ⟨Hl0, Hl1⟩, ⟨Hm0, Hm1⟩, ⟨V1, V2, V3, V4⟩, HO⟩, ⟨%fy, %hy, Hy⟩⟩
    iapply (wp_q_slab d L (base L t1.val) hb64 (off2_eq L t1) rfl) $$ [Hq Hsl V1 HO]
    · isplitr; · iexact Hmw
      isplitl [Hq]; · iexact Hq
      isplitl [Hsl]; · iexact Hsl
      isplitl [V1]; · iexact V1
      iexact HO
    iintro Hq Hsl V1 HO
    iapply (wp_issue_page d L gr pr n 0 hn0 rfl (by rw [off3_eq L]; rfl) (by rw [off3_eq L]; rfl)) $$ [Hv Hgr Hpr Hl0 Hm0]
    · isplitl [Hv]; · iexact Hv
      isplitl [Hgr]; · iexact Hgr
      isplitl [Hpr]; · iexact Hpr
      isplitl [Hl0]; · iexact Hl0
      iexact Hm0
    iintro Hpage
    rw [h26]
    iapply (wp_loop (tV1 d L) (fun e acc => iprop(Transfers.MayWaits (tV1 d L) (none : HIx 2) O ∗ I2 (F := F) d L gr pr n t1.val q fqt (rowQ (fq : Vec F S40960x1280 .f32) (base L t1.val)) O W e acc))
      (fun t2 acc => chunk_trip d L gr pr n hn hw1 v23 t1 t1.val _ h1 q fqt _ O W hG t2 acc)) $$ [Hsl Hg Hi Hst Hqt Hsem Hpage Hl1 Hm1 HO]
    · isplitr; · iexact Hmw
      unfold I2
      iexists 0, fg0, fi0
      isplitr
      · ipureintro
        exact pend_zero _ _ _ _ _
      isplitl [Hsl]; · iexact Hsl
      isplitl [Hg]; · iexact Hg
      isplitl [Hi]; · iexact Hi
      isplitl [Hst]; · iexact Hst
      isplitl [Hqt]; · iexact Hqt
      isplitl [Hsem]; · iexact Hsem
      isplitl [Hpage]; · iexact Hpage
      isplitl [Hl1]; · iexact Hl1
      isplitl [Hm1]; · iexact Hm1
      iexact HO
    rw [show (k2_t2_loop (BitVec.ofNat 32 (1024 * n))).trips = n from trips2 ⟨n, hn⟩]
    unfold I2
    iintro %acc ⟨-, %o, %fg, %fi, %ho, Hsl, Hg, Hi, Hst, Hqt, Hsem, Hpage, Hl1, Hm1, HO⟩
    obtain ⟨hpend, ho, ho', ho16⟩ := ho
    ihave Hpage := (page_open d L gr pr n) $$ Hpage
    icases Hpage with ⟨Hv, Hgr, Hpr, Hl0, Hm0⟩
    iapply (wp_loop (tV1 d L) (fun _ (a : BitVec 32) => (iprop(⌜a = acc⌝) : sProp 𝕄))
      (fun t acc => (Nat.not_lt_zero _ (Nat.lt_of_lt_of_eq t.isLt (trips10 ⟨n, hn⟩))).elim)) $$ []
    · ipureintro; rfl
    iintro %a %ha
    subst ha
    obtain ⟨m, hm⟩ : ∃ m, m = (entsG t1.val (Gs d L gr) (Ps d L pr) (1024 * n)).length - o := ⟨_, rfl⟩
    have hacc : a = BitVec.ofNat 32 m := by rw [hm]; exact hpend.1
    subst hacc
    have hmlt : m < 1041 := by omega
    have e76 : k2_off76 (BitVec.ofNat 32 m) = ![m] := off76_eq ⟨m, hmlt⟩
    iapply (wp_assume 𝒱₀ (tV1 d L) none Set.univ (chk12_of L _ t1 m hmlt))
    iapply (wp_pad d L e76 e76 hmlt fg fi) $$ [Hg Hi]
    · isplitl [Hg]; · iexact Hg
      iexact Hi
    iintro %fg' %fi' %hg' %hi' Hg Hi
    have hmod16 : (entsG t1.val (Gs d L gr) (Ps d L pr) (1024 * n)).length % 16 = m := by omega
    have hs' : (0 < m → slabOf d L gr pr fq fqt n (base L t1.val) t1.val = accN fqt fg' fi' 16 (((entsP t1.val (Gs d L gr) (Ps d L pr) (1024 * n)).take o).foldl (accOne fqt) (rowQ (fq : Vec F S40960x1280 .f32) (base L t1.val))))
        ∧ (m = 0 → slabOf d L gr pr fq fqt n (base L t1.val) t1.val = ((entsP t1.val (Gs d L gr) (Ps d L pr) (1024 * n)).take o).foldl (accOne fqt) (rowQ (fq : Vec F S40960x1280 .f32) (base L t1.val))) := by
      constructor
      · intro hm0
        unfold slabOf padL
        rw [if_neg (by omega), hmod16]
        refine Eq.trans ?_ (acc_last t1.val (Gs d L gr) (Ps d L pr) fqt _ 5119#32 hpend ho ho' (by rw [← hm]; exact hg') (by rw [← hm]; exact hi')).symm
        rw [hm]
      · intro hm0
        unfold slabOf padL
        rw [if_pos (by omega), List.append_nil, List.take_of_length_le (by rw [entsP_length]; omega)]
    have hA : ∀ i < 16, (at1 (α := BitVec 32) fg' i).toNat < 40960 := by
      intro i hi
      rw [hg' i hi]
      split
      · decide
      · exact pend_G t1.val (Gs d L gr) (Ps d L pr) hpend le_rfl hG i (by rw [← hm]; omega)
    have hB : ∀ i < 16, (at1 (α := BitVec 32) fi' i).toNat < 64 := by
      intro i hi
      rw [hi' i hi]
      split
      · decide
      · exact pend_D t1.val (Gs d L gr) (Ps d L pr) hpend i (by rw [← hm]; omega)
    iapply (wp_final d L (BitVec.ofNat 32 (1024 * n)) t1 h1 m hmlt q fqt fg' fi' _ _ hs' O W hA hB) $$ [Hsl Hg Hi Hst Hqt Hsem HO]
    · isplitr; · iexact Hmw
      isplitl [Hsl]; · iexact Hsl
      isplitl [Hg]; · iexact Hg
      isplitl [Hi]; · iexact Hi
      isplitl [Hst]; · iexact Hst
      isplitl [Hqt]; · iexact Hqt
      isplitl [Hsem]; · iexact Hsem
      iexact HO
    iintro Hsl Hg Hi Hst Hqt Hsem HO
    iapply (wp_slab_y d L (base L t1.val) hb64 hmod hdv (off80_eq L t1) rfl) $$ [Hsl Hy V2 HO]
    · isplitr; · iexact Hmw
      isplitl [Hsl]; · iexact Hsl
      isplitl [Hy]; · iexact Hy
      isplitl [V2]; · iexact V2
      iexact HO
    iintro %fy' %hfy Hsl Hy V2 HO
    rw [dif_neg h13, wp_ret]
    ihave Hlg := (lg_halves (F := F) d L n) $$ [Hl0 Hl1]
    · isplitl [Hl0]; · iexact Hl0
      iexact Hl1
    ihave Hlp := (lp_halves (F := F) d L n) $$ [Hm0 Hm1]
    · isplitl [Hm0]; · iexact Hm0
      iexact Hm1
    imodintro
    isplitr; · iexact Hmw
    isplitr [Hy]
    · unfold Free
      isplitl [Hsl]; · iexists _; iexact Hsl
      isplitl [Hg]; · iexists _; iexact Hg
      isplitl [Hi]; · iexists _; iexact Hi
      isplitl [Hst]; · iexact Hst
      isplitl [Hqt]; · iexact Hqt
      isplitl [Hq]; · iexact Hq
      isplitl [Hsem]; · iexact Hsem
      isplitl [Hv]; · iexact Hv
      isplitl [Hgr]; · iexact Hgr
      isplitl [Hpr]; · iexact Hpr
      isplitl [Hlg]; · iexact Hlg
      isplitl [Hlp]; · iexact Hlp
      isplitl [V1 V2 V3 V4]
      · isplitl [V1]; · iexact V1
        isplitl [V2]; · iexact V2
        isplitl [V3]; · iexact V3
        iexact V4
      iexact HO
    iexists fy'
    isplitr
    · ipureintro
      exact ydone_step d L gr pr fq fqt n t1.val hb fy fy' hy hfy.1 hfy.2
    iexact Hy
  · rw [dif_neg h1]
    by_cases h13 : k2_cond13 L (BitVec.ofNat 32 (1024 * n)) t1 = 1#1
    · obtain ⟨hb, hn0⟩ := (cond13_iff L n hn t1).1 h13
      have hb64 : base L t1.val + 64 ≤ 5120 := by omega
      rw [dif_pos h13]
      conv_lhs => unfold Free
      iintro ⟨#Hmw, ⟨Hsl, Hg, Hi, Hst, Hqt, Hq, Hsem, Hv, Hgr, Hpr, Hlg, Hlp, ⟨V1, V2, V3, V4⟩, HO⟩, ⟨%fy, %hy, Hy⟩⟩
      iapply (wp_q_slab d L (base L t1.val) hb64 (off81_eq L t1) rfl) $$ [Hq Hsl V3 HO]
      · isplitr; · iexact Hmw
        isplitl [Hq]; · iexact Hq
        isplitl [Hsl]; · iexact Hsl
        isplitl [V3]; · iexact V3
        iexact HO
      iintro Hq Hsl V3 HO
      iapply (wp_slab_y d L (base L t1.val) hb64 hmod hdv (off82_eq L t1) rfl) $$ [Hsl Hy V4 HO]
      · isplitr; · iexact Hmw
        isplitl [Hsl]; · iexact Hsl
        isplitl [Hy]; · iexact Hy
        isplitl [V4]; · iexact V4
        iexact HO
      iintro %fy' %hfy Hsl Hy V4 HO
      rw [wp_ret]
      imodintro
      isplitr; · iexact Hmw
      isplitr [Hy]
      · unfold Free
        isplitl [Hsl]; · iexists _; iexact Hsl
        isplitl [Hg]; · iexact Hg
        isplitl [Hi]; · iexact Hi
        isplitl [Hst]; · iexact Hst
        isplitl [Hqt]; · iexact Hqt
        isplitl [Hq]; · iexact Hq
        isplitl [Hsem]; · iexact Hsem
        isplitl [Hv]; · iexact Hv
        isplitl [Hgr]; · iexact Hgr
        isplitl [Hpr]; · iexact Hpr
        isplitl [Hlg]; · iexact Hlg
        isplitl [Hlp]; · iexact Hlp
        isplitl [V1 V2 V3 V4]
        · isplitl [V1]; · iexact V1
          isplitl [V2]; · iexact V2
          isplitl [V3]; · iexact V3
          iexact V4
        iexact HO
      iexists fy'
      isplitr
      · ipureintro
        refine ydone_step d L gr pr fq fqt n t1.val hb fy fy' hy ?_ hfy.2
        subst hn0
        rw [slabOf_zero]
        exact hfy.1
      iexact Hy
    · rw [dif_neg h13, wp_ret]
      have hb : ¬ base L t1.val < 5120 := by
        intro hb
        rcases Nat.eq_zero_or_pos n with h0 | h0
        · exact h13 ((cond13_iff L n hn t1).2 ⟨hb, h0⟩)
        · exact h1 ((cond1_iff L n hn t1).2 ⟨hb, h0⟩)
      iintro ⟨#Hmw, HF, ⟨%fy, %hy, Hy⟩⟩
      imodintro
      isplitr; · iexact Hmw
      isplitl [HF]; · iexact HF
      iexists fy
      isplitr
      · ipureintro
        exact ydone_skip d L gr pr fq fqt n t1.val hb fy hy
      iexact Hy
end

end Cert.Proof.S2
-- ==== Proof.S1Body.lean ====
/-
  The first kernel on one tile, from its operands to its rows of the two lists and of the counts.
-/
module

public import proofs.«01_k».proof.Proof.S1Tail

@[expose] public section

noncomputable section

namespace Cert.Proof.S1

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

variable (d : Dev nD) (L : grid0.Coords)

variable (q : PosShare TreeShare) (fE : Shape.Idx ⟨2, ![56, 2688]⟩ → BitVec 32)
  (O : CellTallies nD τ sig (HIx 2)) (W : Waits sig (HIx 2))

/-- The semaphore units of the count's copy. -/
abbrev NC : ℕ := cbM.view.dmaCredit

theorem cnt_set (inb hst) :
    ((cnM.slice (Rect.unit (s := S32x16) (k0_off10 L) S1x16.size inb) hst).squeeze S16 squeezes_S1x16_S16).view.set ⊆ crow (wid L) := by
  refine ((View.set_reshape _ _).trans (View.set_slice_whole _ _)).subset.trans ?_
  intro j hj
  have := (mem_unit2 (k := 1) (l := 16)).1 hj
  rw [mem_crow]
  rw [k0_off10_eq] at this
  have h0 := this.1
  simp at h0
  show (j 0).val = 2 * (L 1).val + (L 0).val
  omega

/-- The count's copy on its way. -/
def CountFlight : sProp 𝕄 :=
  iprop(Transfers.Flight countersEmb (tV d L) (.dma cc0_scoped4.sem) (none : HIx 2) NC
      iprop((∃ fc : Buf (Elt F) (cnM.view.loc (tV d L)), ⌜CountIs fE (wid L) fc⌝ ∗ (cnM.view.loc (tV d L) ↦[crow (wid L)]{fullShare} fc))
        ∗ (∃ f : Buf (Elt F) (cbM.view.loc (tV d L)), (cbM.view.loc (tV d L) ↦{fullShare} f))))

/-- Halves of the edge buffer joined. -/
theorem join_eb : iprop((∃ f : Buf (Elt F) (ebM.view.loc (tV d L)), (ebM.view.loc (tV d L) ↦[eh 0]{fullShare} f))
      ∗ (∃ f : Buf (Elt F) (ebM.view.loc (tV d L)), (ebM.view.loc (tV d L) ↦[eh 1]{fullShare} f)))
    ⊢ (iprop(∃ f : Buf (Elt F) (ebM.view.loc (tV d L)), (ebM.view.loc (tV d L) ↦{fullShare} f)) : sProp 𝕄) := by
  have hS : (Finset.univ : Finset S5376.Idx) \ eh 0 = eh 1 := by
    ext j
    have : (j 0).val < 5376 := (j 0).isLt
    rw [Finset.mem_sdiff, mem_eh, mem_eh]
    simp only [Finset.mem_univ, true_and]
    omega
  iintro ⟨⟨%f0, H0⟩, ⟨%f1, H1⟩⟩
  let f : Buf (Elt F) (ebM.view.loc (tV d L)) := fun j => if (show S5376.Idx from j) ∈ eh 0 then f0 j else f1 j
  iexists f
  have e0 : (ebM.view.loc (tV d L) ↦[eh 0]{fullShare} f0 : sProp 𝕄) = (ebM.view.loc (tV d L) ↦[eh 0]{fullShare} f) :=
    pointsTo_congr fun j hj => (if_pos hj).symm
  have e1 : (ebM.view.loc (tV d L) ↦[eh 1]{fullShare} f1 : sProp 𝕄) = (ebM.view.loc (tV d L) ↦[eh 1]{fullShare} f) :=
    pointsTo_congr fun j hj => (if_neg (by have := mem_eh.1 hj; intro h; have := mem_eh.1 h; omega)).symm
  ihave H0 := (show (ebM.view.loc (tV d L) ↦[eh 0]{fullShare} f0 : sProp 𝕄) ⊢ (ebM.view.loc (tV d L) ↦[eh 0]{fullShare} f) by rw [e0]) $$ H0
  ihave H1 := (show (ebM.view.loc (tV d L) ↦[eh 1]{fullShare} f1 : sProp 𝕄) ⊢ (ebM.view.loc (tV d L) ↦[eh 1]{fullShare} f) by rw [e1]) $$ H1
  iapply (pointsTo_split_subset (q := fullShare) (f := f) (Finset.subset_univ (eh 0))).2 $$ [H0 H1]
  isplitl [H0]; · iexact H0
  rw [hS]
  iexact H1

/-- What the first kernel's tile holds at its start, beside its operands. -/
def Scratch1 : sProp 𝕄 :=
  iprop((∃ f : Buf (Elt F) (ebM.view.loc (tV d L)), (ebM.view.loc (tV d L) ↦{fullShare} f))
    ∗ (∃ f : Buf (Elt F) (gbM.view.loc (tV d L)), (gbM.view.loc (tV d L) ↦{fullShare} f))
    ∗ (∃ f : Buf (Elt F) (pbM.view.loc (tV d L)), (pbM.view.loc (tV d L) ↦{fullShare} f))
    ∗ (∃ f : Buf (Elt F) (cbM.view.loc (tV d L)), (cbM.view.loc (tV d L) ↦{fullShare} f))
    ∗ semVal (tV d L, .dma cc0_scratch4.sem) 0
    ∗ semVal (tV d L, .dma cc0_scoped0.sem) 0 ∗ semVal (tV d L, .dma cc0_scoped1.sem) 0
    ∗ semVal (tV d L, .dma cc0_scoped2.sem) 0 ∗ semVal (tV d L, .dma cc0_scoped3.sem) 0
    ∗ semVal (tV d L, .dma cc0_scoped4.sem) 0)

/-- The operands as the tile gets them, -/
def In1 : sProp 𝕄 :=
  iprop((epM.view.loc (tV d L) ↦{q} (show Buf (Elt F) (epM.view.loc (tV d L)) from fE))
    ∗ (∃ f : Buf (Elt F) (grM.view.loc (tV d L)), (grM.view.loc (tV d L) ↦[wrow (wid L)]{fullShare} f))
    ∗ (∃ f : Buf (Elt F) (prM.view.loc (tV d L)), (prM.view.loc (tV d L) ↦[wrow (wid L)]{fullShare} f))
    ∗ (∃ f : Buf (Elt F) (cnM.view.loc (tV d L)), (cnM.view.loc (tV d L) ↦[crow (wid L)]{fullShare} f)))

/-- and as it leaves them. -/
def Out1 : sProp 𝕄 :=
  iprop((epM.view.loc (tV d L) ↦{q} (show Buf (Elt F) (epM.view.loc (tV d L)) from fE))
    ∗ RowsDone (F := F) d L fE
    ∗ (∃ fc : Buf (Elt F) (cnM.view.loc (tV d L)), ⌜CountIs fE (wid L) fc⌝ ∗ (cnM.view.loc (tV d L) ↦[crow (wid L)]{fullShare} fc)))

/-- Everything of the tile's after its first sixty statements: the count's copy is still under way. -/
def Mid1 : sProp 𝕄 :=
  iprop((epM.view.loc (tV d L) ↦{q} (show Buf (Elt F) (epM.view.loc (tV d L)) from fE)) ∗ RowsDone (F := F) d L fE
    ∗ CountFlight (F := F) d L fE
    ∗ (∃ f : Buf (Elt F) (ebM.view.loc (tV d L)), (ebM.view.loc (tV d L) ↦{fullShare} f))
    ∗ (∃ f : Buf (Elt F) (gbM.view.loc (tV d L)), (gbM.view.loc (tV d L) ↦{fullShare} f))
    ∗ (∃ f : Buf (Elt F) (pbM.view.loc (tV d L)), (pbM.view.loc (tV d L) ↦{fullShare} f))
    ∗ semVal (tV d L, .dma cc0_scratch4.sem) 0
    ∗ semVal (tV d L, .dma cc0_scoped0.sem) 0 ∗ semVal (tV d L, .dma cc0_scoped1.sem) 0
    ∗ semVal (tV d L, .dma cc0_scoped2.sem) 0 ∗ semVal (tV d L, .dma cc0_scoped3.sem) 0
    ∗ Ow (F := F) (tV d L) O W)

/-- The bodies on the tile's own buffers. -/
abbrev BP := k0_part1_skel (F := F) L epM (Memref.isWhole_whole _) grM (Memref.isWhole_whole _) prM (Memref.isWhole_whole _) cnM (Memref.isWhole_whole _)
  ebM (Memref.isWhole_whole _) gbM (Memref.isWhole_whole _) pbM (Memref.isWhole_whole _) cbM (Memref.isWhole_whole _)
  cc0_scratch4 cc0_scoped0 cc0_scoped1 cc0_scoped2 cc0_scoped3 cc0_scoped4
abbrev BS := cc0__s1_body (F := F) L epM (Memref.isWhole_whole _) grM (Memref.isWhole_whole _) prM (Memref.isWhole_whole _) cnM (Memref.isWhole_whole _)
  ebM (Memref.isWhole_whole _) gbM (Memref.isWhole_whole _) pbM (Memref.isWhole_whole _) cbM (Memref.isWhole_whole _)
  cc0_scratch4 cc0_scoped0 cc0_scoped1 cc0_scoped2 cc0_scoped3 cc0_scoped4

theorem next_end : Next (F := F) d L q fE 56
    ⊢ iprop(semVal (tV d L, .dma cc0_scratch4.sem) 0 ∗ (epM.view.loc (tV d L) ↦{q} (show Buf (Elt F) (epM.view.loc (tV d L)) from fE))
      ∗ ∃ fe : Buf (Elt F) (ebM.view.loc (tV d L)), (ebM.view.loc (tV d L) ↦[eh 0]{fullShare} fe)) := by
  rw [Next, if_neg (by decide)]

theorem part1_run :
    iprop(Transfers.MayWaits (tV d L) (none : HIx 2) O ∗ In1 (F := F) d L q fE ∗ Scratch1 (F := F) d L ∗ Ow (F := F) (tV d L) O W)
      ⊢ wp frame (wpE (defs₀ (F := F)) 𝒱₀ (tV d L) none) Set.univ (BP (F := F) L) (fun _ => Mid1 (F := F) d L q fE O W) := by
  have hwl := wid_lt L
  unfold BP k0_part1_skel
  simp only [Prog.lift, Prog.bind_op, Prog.bind_ret, Prog.pure_eq_ret]
  unfold In1 Scratch1
  iintro ⟨#Hmw, ⟨Hep, ⟨%gr, Hgr⟩, ⟨%pr, Hpr⟩, ⟨%cn, Hcn⟩⟩, ⟨⟨%fe, He⟩, ⟨%fg, Hg⟩, ⟨%fp, Hp⟩, ⟨%fc, Hc⟩, Hv, Hv0, Hv1, Hv2, Hv3, Hv4⟩, HO⟩
  ihave He := (pointsTo_split_subset (q := fullShare) (f := fe) (Finset.subset_univ (eh 0))).1 $$ He
  icases He with ⟨He0, He1⟩
  have hS : (Finset.univ : Finset S5376.Idx) \ eh 0 = eh 1 := by
    ext j
    have : (j 0).val < 5376 := (j 0).isLt
    rw [Finset.mem_sdiff, mem_eh, mem_eh]
    simp only [Finset.mem_univ, true_and]
    omega
  rw [hS]
  iapply (wp_issue_next d L q fE 0 (by decide) rfl rfl rfl) $$ [Hv Hep He0]
  · isplitl [Hv]; · iexact Hv
    isplitl [Hep]; · iexact Hep
    iexists fe
    iexact He0
  iintro Hn
  iapply (wp_loop (tV d L) (I1 (F := F) d L q fE O W) (chunk_trip (F := F) d L q fE O W)) $$ [Hn Hg Hp Hgr Hpr He1 Hv0 Hv1 HO]
  · unfold I1
    isplitr; · iexact Hmw
    isplitl [Hg Hp Hgr Hpr]
    · iexists fg
      iexists fp
      iexists gr
      iexists pr
      isplitr
      · ipureintro
        have h0 : len L fE 0 = 0 := by simp [len, bucketG]
        exact ⟨by rw [h0], ⟨fun i hi => absurd hi (by simp [bucketG]), fun i hi => absurd hi (by simp [bucketP])⟩,
          fun i hi => absurd hi (by simp [bucketG]), fun i hi => absurd hi (by simp [bucketP])⟩
      isplitl [Hg]; · iexact Hg
      isplitl [Hp]; · iexact Hp
      isplitl [Hgr]; · iexact Hgr
      iexact Hpr
    isplitl [Hn]; · iexact Hn
    isplitl [He1]
    · iexists fe
      iexact He1
    isplitl [Hv0]; · iexact Hv0
    isplitl [Hv1]; · iexact Hv1
    iexact HO
  iintro %acc HI
  ihave HI := (show I1 (F := F) d L q fE O W k0_t1_loop.trips acc ⊢ I1 (F := F) d L q fE O W 56 acc from .rfl) $$ HI
  unfold I1
  icases HI with ⟨_, ⟨%fg1, %fp1, %gr1, %pr1, %hP, Hg, Hp, Hgr, Hpr⟩, Hn, He1, Hv0, Hv1, HO⟩
  obtain ⟨rfl, ⟨hg, hp⟩, hgr, hpr⟩ := hP
  ihave Hn := (next_end (F := F) d L q fE) $$ Hn
  conv_rhs => dsimp only
  icases Hn with ⟨Hv, Hep, He0⟩
  have hl0 := bucketG_length_le (wid L) fE (896 * 56)
  have hl1 := bucket_length (wid L) fE (896 * 56)
  have hlk : len L fE 56 = (bucketG (wid L) fE (896 * 56)).length := rfl
  rw [← hlk] at hl0 hl1
  have hmod : len L fE 56 % 1024 < 1024 := Nat.mod_lt _ (by decide)
  have hdm : 1024 * (len L fE 56 / 1024) + len L fE 56 % 1024 = len L fE 56 := Nat.div_add_mod _ _
  have hlg : (listG (wid L) fE).length = 1024 * ((len L fE 56 + 1023) / 1024) := padded_length _ _
  generalize hfc : len L fE 56 / 1024 = fcn at *
  generalize hvn : len L fE 56 % 1024 = v at *
  have hchk4 : k0_chk4 L (BitVec.ofNat 32 v) (BitVec.ofNat 32 fcn) := by
    have ho := off9_eq L fcn (by omega)
    have ho0 : k0_off9 L (BitVec.ofNat 32 fcn) 0 = wid L := by rw [ho]; rfl
    have ho1 : k0_off9 L (BitVec.ofNat 32 fcn) 1 = 1024 * fcn := by rw [ho]; rfl
    intro _ a
    match a with
    | ⟨0, _⟩ => show k0_off9 L (BitVec.ofNat 32 fcn) 0 + 1 ≤ 32; omega
    | ⟨1, _⟩ => show k0_off9 L (BitVec.ofNat 32 fcn) 1 + 1024 ≤ 52224; omega
  have hchk3 : k0_chk3 (BitVec.ofNat 32 v) := by
    intro t4 a
    have ht4 : t4.val < 64 := t4.isLt
    match a with
    | ⟨0, _⟩ => show k0_off8 (BitVec.ofNat 32 v) t4 0 + 16 ≤ 2048; rw [off8_eq v hmod]; omega
  iapply (wp_assume 𝒱₀ (tV d L) none Set.univ hchk4)
  iapply (wp_assume 𝒱₀ (tV d L) none Set.univ hchk3)
  iapply (wp_loop (tV d L) (fun k _ => Two (F := F) d L (Filled fg1 0#32 v k) (Filled fp1 1048576#32 v k)) (pad_trip (F := F) d L fg1 fp1 v hmod hchk3)) $$ [Hg Hp]
  · unfold Two
    iexists fg1
    iexists fp1
    isplitr
    · ipureintro
      exact ⟨fun j _ => by rw [if_neg (by omega)], fun j _ => by rw [if_neg (by omega)]⟩
    isplitl [Hg] <;> iassumption
  iintro %_ HT
  unfold Two
  icases HT with ⟨%fg2, %fp2, %hm, Hg, Hp⟩
  obtain ⟨hmg, hmp⟩ := hm
  have hg2 : Holds (α := BitVec 32) fg2 ((listG (wid L) fE).drop (1024 * fcn)) := holds_filled hg hmg (by rw [← hlk]; omega) (by rw [← hlk]; omega) hmod
  have hp2 : Holds (α := BitVec 32) fp2 ((listP (wid L) fE).drop (1024 * fcn)) := holds_filled hp hmp (by rw [hl1]; omega) (by rw [hl1]; omega) hmod
  have hgr2 : RowIs (wid L) gr1 (listG (wid L) fE) (1024 * fcn) := rowIs_mono hgr (List.prefix_append _ _) (by rw [← hlk]; omega)
  have hpr2 : RowIs (wid L) pr1 (listP (wid L) fE) (1024 * fcn) := rowIs_mono hpr (List.prefix_append _ _) (by rw [hl1]; omega)
  iapply (wp_flush_if d L fE O W (v := v) (fc := fcn) hdm hmod hchk4 hg2 hp2 hgr2 hpr2) $$ [Hg Hp Hgr Hpr Hv2 Hv3 HO]
  · isplitr; · iexact Hmw
    isplitl [Hg]; · iexact Hg
    isplitl [Hp]; · iexact Hp
    isplitl [Hgr]; · iexact Hgr
    isplitl [Hpr]; · iexact Hpr
    isplitl [Hv2]; · iexact Hv2
    isplitl [Hv3]; · iexact Hv3
    iexact HO
  iintro Hg Hp HR Hv2 Hv3 HO
  iapply (wp_ld1 (tV d L)) $$ [Hc]
  · iexact Hc
  iintro %_ %_ Hc
  iapply (wp_st1 (tV d L)) $$ [Hc]
  · iexact Hc
  iintro %fc' %hfc' Hc
  iapply (wp_issue (tV d L) (src := cbM) NC rfl (by decide) (Ss := Finset.univ) (Finset.subset_univ _) (cnt_set L _ _)) $$ [Hc Hcn Hv4]
  · isplitl [Hc]; · iexact Hc
    isplitl [Hcn]; · iexact Hcn
    iexact Hv4
  iintro ⟨Hf, _⟩
  rw [wp_ret]
  unfold Mid1
  isplitl [Hep]; · iexact Hep
  isplitl [HR]; · iexact HR
  isplitl [Hf]
  · unfold CountFlight
    iapply (Transfers.Flight_mono countersEmb (tV d L) ?_) $$ Hf
    iintro ⟨Hc, Hs⟩
    isplitl [Hc]
    · iexists _
      isplitr
      rotate_left
      · iexact Hc
      · ipureintro
        intro j hj
        have hw := writeRow (Val := Elt F) (e := .i32) (k := 16) cnM.view (k0_off10 L) (k0_off10_inb L) squeezes_S1x16_S16.numel_eq cn
          (cbM.view.read (Elt F) fc') (wid L) j hwl hj
        have e1 : ∀ g : Buf (Elt F) (cnM.view.loc (tV d L)), cnM.view.read (Elt F) g = g := fun _ => rfl
        rw [e1] at hw
        refine hw.trans ?_
        rw [if_pos (by rw [k0_off10_eq]; exact ⟨rfl, Nat.zero_le _, by show j < 0 + 16; omega⟩), k0_off10_eq]
        refine (hfc' _ (by show j - 0 < 16; omega)).trans ?_
        rw [if_pos (by refine ⟨Nat.zero_le _, ?_⟩; show j - 0 < 0 + 16; omega), pay11_eq v fcn hmod]
        rw [hlg, ← hdm]
        refine (at1_lt (n := 16) _ _ (by show j - 0 - 0 < 16; omega)).trans rfl
    · iexists fc'
      rw [show cbM.view.set = Finset.univ from View.set_whole _]
      iexact Hs
  ihave He := (join_eb (F := F) d L) $$ [He0 He1]
  · isplitl [He0]; · iexact He0
    iexact He1
  isplitl [He]; · iexact He
  isplitl [Hg]
  · iexists fg2; iexact Hg
  isplitl [Hp]
  · iexists fp2; iexact Hp
  isplitl [Hv]; · iexact Hv
  isplitl [Hv0]; · iexact Hv0
  isplitl [Hv1]; · iexact Hv1
  isplitl [Hv2]; · iexact Hv2
  isplitl [Hv3]; · iexact Hv3
  iexact HO

/-- The first kernel on one tile. -/
theorem body_run :
    iprop(Transfers.MayWaits (tV d L) (none : HIx 2) O ∗ In1 (F := F) d L q fE ∗ Scratch1 (F := F) d L ∗ Ow (F := F) (tV d L) O W)
      ⊢ wp frame (wpE (defs₀ (F := F)) 𝒱₀ (tV d L) none) Set.univ (BS (F := F) L)
          (fun _ => iprop(Out1 (F := F) d L q fE ∗ Scratch1 (F := F) d L ∗ Ow (F := F) (tV d L) O W)) := by
  unfold BS
  rw [cc0__s1_body_eq_skeleton]
  unfold cc0__s1_body_skel
  rw [k0_part1_eq_skeleton]
  simp only [Prog.lift, Prog.bind_op, Prog.bind_ret, Prog.pure_eq_ret]
  iintro ⟨#Hmw, Hin, Hs, HO⟩
  iapply (wp_seq (tV d L) _ (part1_run (F := F) d L q fE O W)) $$ [Hin Hs HO]
  · isplitr; · iexact Hmw
    isplitl [Hin]; · iexact Hin
    isplitl [Hs]; · iexact Hs
    iexact HO
  iintro %_ HM
  unfold Mid1
  icases HM with ⟨Hep, HR, Hf, He, Hg, Hp, Hv, Hv0, Hv1, Hv2, Hv3, HO⟩
  unfold CountFlight
  iapply (wp_await (tV d L) rfl) $$ [Hf HO]
  · isplitr; · iexact Hmw
    isplitl [Hf]; · iexact Hf
    iexact HO
  iintro ⟨⟨Hcn, Hc⟩, Hv4, HO⟩
  rw [wp_ret]
  unfold Out1 Scratch1
  isplitl [Hep HR Hcn]
  · isplitl [Hep]; · iexact Hep
    isplitl [HR]; · iexact HR
    iexact Hcn
  isplitr [HO]
  · isplitl [He]; · iexact He
    isplitl [Hg]; · iexact Hg
    isplitl [Hp]; · iexact Hp
    isplitl [Hc]; · iexact Hc
    isplitl [Hv]; · iexact Hv
    isplitl [Hv0]; · iexact Hv0
    isplitl [Hv1]; · iexact Hv1
    isplitl [Hv2]; · iexact Hv2
    isplitl [Hv3]; · iexact Hv3
    iexact Hv4
  iexact HO

end Cert.Proof.S1
-- ==== Proof.S2Body.lean ====
/-
  The second kernel on one tile.
-/
module

public import proofs.«01_k».proof.Proof.S2Pass
public import proofs.«01_k».proof.Proof.S1Body

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

section
variable (d : Fin nD) (L : grid2.Coords)
variable (q : PosShare TreeShare)
variable (fE : Shape.Idx ⟨2, ![56, 2688]⟩ → BitVec 32)
variable (fq : Buf (Elt F) (qM.view.loc (tV1 d L))) (fqt : Buf (Elt F) (qtM.view.loc (tV1 d L)))
variable (O : CellTallies nD τ sig (HIx 2)) (W : Waits sig (HIx 2))

/-- The tile's scratch buffers and semaphores. -/
def Scratch2 : sProp 𝕄 :=
  iprop((∃ f, (lgM.view.loc (tV1 d L) ↦{fullShare} f)) ∗ (∃ f, (lpM.view.loc (tV1 d L) ↦{fullShare} f))
    ∗ (∃ f, (giM.view.loc (tV1 d L) ↦{fullShare} f)) ∗ (∃ f, (siM.view.loc (tV1 d L) ↦{fullShare} f))
    ∗ (∃ f, (stM.view.loc (tV1 d L) ↦{fullShare} f)) ∗ (∃ f, (slM.view.loc (tV1 d L) ↦{fullShare} f)) ∗ (∃ f, (c2M.view.loc (tV1 d L) ↦{fullShare} f))
    ∗ semVal (tV1 d L, .dma cc2_scratch7.sem) 0 ∗ Sems (F := F) d L
    ∗ semVal (tV1 d L, .dma cc2_scoped0.sem) 0
    ∗ semVal (tV1 d L, .dma cc2_scoped1.sem) 0 ∗ semVal (tV1 d L, .dma cc2_scoped2.sem) 0 ∗ semVal (tV1 d L, .dma cc2_scoped3.sem) 0 ∗ semVal (tV1 d L, .dma cc2_scoped4.sem) 0)

/-- The bucket's row of the two lists and of the counts, as the first kernel leaves them. -/
def Buckets : sProp 𝕄 :=
  iprop((∃ (gr : Buf (Elt F) (grM.view.loc (tV1 d L))) (pr : Buf (Elt F) (prM.view.loc (tV1 d L))),
      ⌜S1.RowIs (wid1 L) gr (S1.listG (wid1 L) fE) (S1.listG (wid1 L) fE).length ∧ S1.RowIs (wid1 L) pr (S1.listP (wid1 L) fE) (S1.listP (wid1 L) fE).length⌝
      ∗ (grM.view.loc (tV1 d L) ↦[S1.wrow (wid1 L)]{fullShare} gr) ∗ (prM.view.loc (tV1 d L) ↦[S1.wrow (wid1 L)]{fullShare} pr))
    ∗ (∃ fc : Buf (Elt F) (cnM.view.loc (tV1 d L)), ⌜S1.CountIs fE (wid1 L) fc⌝ ∗ (cnM.view.loc (tV1 d L) ↦[S1.crow (wid1 L)]{fullShare} fc)))

/-- A list read beyond its end is zero. -/
def nth (l : List (BitVec 32)) (i : ℕ) : BitVec 32 := l.getD i 0#32

theorem nth_get {l : List (BitVec 32)} {i : ℕ} (h : i < l.length) : nth l i = l[i] := by simp [nth, h]

/-- The entries of pass `t` of tile `w`, in the order of its list. -/
def ents (w t : ℕ) : List (BitVec 32 × BitVec 32) := entsP t (nth (S1.listG w fE)) (nth (S1.listP w fE)) (S1.listG w fE).length
end

/-- What the second kernel leaves at an index of the result. -/
def Yval (fE : Shape.Idx ⟨2, ![56, 2688]⟩ → BitVec 32) (fq : Vec F S40960x1280 .f32) (fqt : Vec F S5x40960x2x128 .f32) (x : S5120x1280.Idx) : F .f32 :=
  let es := ents fE ((x 0).val / 64 % 32) ((x 0).val / 2048)
  (es ++ padL es.length).foldl (accOne fqt) (rowQ fq (64 * ((x 0).val / 64))) (ix2 ((x 0).val % 64) (x 1).val (Nat.mod_lt _ (by norm_num)) (x 1).isLt)

/-- The result's rows of tile `w`, written. -/
def YIs (fE : Shape.Idx ⟨2, ![56, 2688]⟩ → BitVec 32) (fq : Vec F S40960x1280 .f32) (fqt : Vec F S5x40960x2x128 .f32) (w : ℕ) (fy : Vec F S5120x1280 .f32) : Prop :=
  ∀ x : S5120x1280.Idx, (x 0).val / 64 % 32 = w → fy x = Yval fE fq fqt x

/-- Equal words up to the number read make equal entries. -/
theorem entsP_congr (p : ℕ) {G P G' P' : ℕ → BitVec 32} {n : ℕ} (hG : ∀ i < n, G i = G' i) (hP : ∀ i < n, P i = P' i) : entsP p G P n = entsP p G' P' n := by
  unfold entsP
  have h : (List.range n).filter (fun i => inP p (P i)) = (List.range n).filter (fun i => inP p (P' i)) :=
    List.filter_congr fun i hi => by rw [hP i (List.mem_range.1 hi)]
  rw [h]
  refine List.map_congr_left fun i hi => ?_
  have hi' := List.mem_range.1 (List.mem_filter.1 hi).1
  rw [hG i hi', hP i hi']

/-- A buffer held whole is held in two parts, -/
theorem part_split {ℓ : Loc nD τ sig} (S : Finset (Idx ℓ)) : (iprop(∃ f : Buf (Elt F) ℓ, (ℓ ↦{fullShare} f)) : sProp 𝕄)
    ⊢ iprop((∃ f : Buf (Elt F) ℓ, (ℓ ↦[S]{fullShare} f)) ∗ (∃ f : Buf (Elt F) ℓ, (ℓ ↦[Finset.univ \ S]{fullShare} f))) := by
  iintro ⟨%f, H⟩
  ihave H := (pointsTo_split_subset (q := fullShare) (f := f) (Finset.subset_univ S)).1 $$ H
  icases H with ⟨H0, H1⟩
  isplitl [H0]
  · iexists f; iexact H0
  iexists f; iexact H1

/-- and back. -/
theorem part_join {ℓ : Loc nD τ sig} (S : Finset (Idx ℓ)) :
    iprop((∃ f : Buf (Elt F) ℓ, (ℓ ↦[S]{fullShare} f)) ∗ (∃ f : Buf (Elt F) ℓ, (ℓ ↦[Finset.univ \ S]{fullShare} f)))
      ⊢ (iprop(∃ f : Buf (Elt F) ℓ, (ℓ ↦{fullShare} f)) : sProp 𝕄) := by
  classical
  iintro ⟨⟨%f0, H0⟩, ⟨%f1, H1⟩⟩
  let f : Buf (Elt F) ℓ := fun j => if j ∈ S then f0 j else f1 j
  iexists f
  have e0 : (ℓ ↦[S]{fullShare} f0 : sProp 𝕄) = (ℓ ↦[S]{fullShare} f) :=
    pointsTo_congr fun j hj => (if_pos hj).symm
  have e1 : (ℓ ↦[Finset.univ \ S]{fullShare} f1 : sProp 𝕄) = (ℓ ↦[Finset.univ \ S]{fullShare} f) :=
    pointsTo_congr fun j hj => (if_neg (Finset.mem_sdiff.1 hj).2).symm
  ihave H0 := (show (ℓ ↦[S]{fullShare} f0 : sProp 𝕄) ⊢ (ℓ ↦[S]{fullShare} f) by rw [e0]) $$ H0
  ihave H1 := (show (ℓ ↦[Finset.univ \ S]{fullShare} f1 : sProp 𝕄) ⊢ (ℓ ↦[Finset.univ \ S]{fullShare} f) by rw [e1]) $$ H1
  iapply (pointsTo_split_subset (q := fullShare) (f := f) (Finset.subset_univ S)).2 $$ [H0 H1]
  isplitl [H0]; · iexact H0
  iexact H1

theorem hl_compl : (Finset.univ : Finset S2048.Idx) \ hl 0 = hl 1 := by
  ext j
  have : (j 0).val < 2048 := (j 0).isLt
  rw [Finset.mem_sdiff, mem_hl, mem_hl]
  simp only [Finset.mem_univ, true_and]
  omega

theorem half_compl : (Finset.univ : Finset S5x32x2x128.Idx) \ half 0 = half 1 := by
  ext j
  have : (j 1).val < 32 := (j 1).isLt
  simp only [half, Finset.mem_sdiff, Finset.mem_filter, Finset.mem_univ, true_and]
  omega

section
variable (d : Fin nD) (L : grid2.Coords)
variable (q : PosShare TreeShare)
variable (fE : Shape.Idx ⟨2, ![56, 2688]⟩ → BitVec 32)
variable (fq : Buf (Elt F) (qM.view.loc (tV1 d L))) (fqt : Buf (Elt F) (qtM.view.loc (tV1 d L)))
variable (O : CellTallies nD τ sig (HIx 2)) (W : Waits sig (HIx 2))

theorem cnt_set (inb hst) :
    ((cnM.slice (Rect.unit (s := S32x16) (k2_off1 L) S1x16.size inb) hst).squeeze S16 squeezes_S1x16_S16).view.set ⊆ S1.crow (wid1 L) := by
  refine ((View.set_reshape _ _).trans (View.set_slice_whole _ _)).subset.trans ?_
  intro j hj
  have := (mem_unit2 (k := 1) (l := 16)).1 hj
  rw [S1.mem_crow]
  rw [off1_eq] at this
  have h0 := this.1
  simp at h0
  omega

/-- The words read are the lists', so the passes' entries are. -/
theorem slab_ents {n : ℕ} {gr : Buf (Elt F) (grM.view.loc (tV1 d L))} {pr : Buf (Elt F) (prM.view.loc (tV1 d L))}
    (hg : S1.RowIs (wid1 L) gr (S1.listG (wid1 L) fE) (S1.listG (wid1 L) fE).length) (hp : S1.RowIs (wid1 L) pr (S1.listP (wid1 L) fE) (S1.listP (wid1 L) fE).length)
    (hn : (S1.listG (wid1 L) fE).length = 1024 * n) (fy : Vec F S5120x1280 .f32) (h : YDone d L gr pr fq fqt n 3 fy) : YIs fE (fq : Vec F S40960x1280 .f32) (fqt : Vec F S5x40960x2x128 .f32) (wid1 L) fy := by
  intro x hx
  have h0 : (x 0).val < 5120 := (x 0).isLt
  rw [h x hx (by omega)]
  have he : ∀ t, entsP t (Gs d L gr) (Ps d L pr) (1024 * n) = ents fE (wid1 L) t := by
    intro t
    unfold ents
    rw [hn]
    refine entsP_congr t (fun i hi => ?_) (fun i hi => ?_)
    · rw [← hn] at hi
      exact (hg i hi hi).trans (nth_get hi).symm
    · rw [← hn, ← S1.listP_length] at hi
      exact (hp i hi hi).trans (nth_get hi).symm
  unfold YV slabOf Yval
  rw [← entsP_length, he, hx]
  have hb : base L ((x 0).val / 2048) = 64 * ((x 0).val / 64) := by
    unfold base; omega
  rw [hb]

/-- The tile's word count, read. -/
theorem word0 (v : Vec F S16 .i32) : extractAt ![0] (k2_pay2 (F := F) v) inpos_S1_p0 = at1 (n := 16) (α := BitVec 32) v 0 := by
  rw [at1_lt _ _ (by omega : 0 < 16)]
  unfold k2_pay2 extractAt extractStridedSlice
  show v _ = v _
  congr 1
  funext a
  match a with
  | ⟨0, _⟩ => rfl

theorem cnt_pos : 0 < c2M.view.dmaCredit := by decide +kernel

/-- The pass at the word count read. -/
theorem pass_any (gr : Buf (Elt F) (grM.view.loc (tV1 d L))) (pr : Buf (Elt F) (prM.view.loc (tV1 d L))) (v1 v6 : BitVec 32) (n : ℕ) (h6 : v6 = BitVec.ofNat 32 (1024 * n)) (hn : n < 52) (hw1 : k2_chk1 L v6) (v23 : BitVec 32)
    (hG : ∀ j < 1024 * n, (Gs d L gr j).toNat < 40960)
    (t1 : Fin k2_t1_loop.trips) (acc : Unit) :
    iprop(Transfers.MayWaits (tV1 d L) (none : HIx 2) O ∗ Free (F := F) d L gr pr fq fqt q O W
        ∗ (∃ fy : Buf (Elt F) (yM.view.loc (tV1 d L)), ⌜YDone d L gr pr fq fqt n t1.val fy⌝ ∗ (yM.view.loc (tV1 d L) ↦[yset (wid1 L)]{fullShare} fy)))
      ⊢ wp frame (wpE (defs₀ (F := F)) 𝒱₀ (tV1 d L) none) Set.univ
          (B1 L v1 (iota .scVector S16 32 [0] iota_S16_d0_w32_scVector) v6 hw1 v23 t1 acc)
          (fun _ => iprop(Transfers.MayWaits (tV1 d L) (none : HIx 2) O ∗ Free (F := F) d L gr pr fq fqt q O W
            ∗ (∃ fy : Buf (Elt F) (yM.view.loc (tV1 d L)), ⌜YDone d L gr pr fq fqt n (t1.val + 1) fy⌝ ∗ (yM.view.loc (tV1 d L) ↦[yset (wid1 L)]{fullShare} fy)))) := by
  subst h6
  exact pass_trip d L gr pr fq fqt v1 n hn hw1 v23 q O W hG t1 acc

theorem body_run (hG : ∀ x ∈ S1.listG (wid1 L) fE, x.toNat < 40960) :
    iprop(Transfers.MayWaits (tV1 d L) (none : HIx 2) O ∗ ((qM.view.loc (tV1 d L) ↦{q} fq) ∗ (qtM.view.loc (tV1 d L) ↦{q} fqt) ∗ Buckets (F := F) d L fE
        ∗ (∃ fy : Buf (Elt F) (yM.view.loc (tV1 d L)), (yM.view.loc (tV1 d L) ↦[yset (wid1 L)]{fullShare} fy))) ∗ Scratch2 (F := F) d L ∗ Ow (F := F) (tV1 d L) O W)
      ⊢ wp frame (wpE (defs₀ (F := F)) 𝒱₀ (tV1 d L) none) Set.univ (BS2 (F := F) L)
          (fun _ => iprop(((qM.view.loc (tV1 d L) ↦{q} fq) ∗ (qtM.view.loc (tV1 d L) ↦{q} fqt) ∗ Buckets (F := F) d L fE
            ∗ (∃ fy : Buf (Elt F) (yM.view.loc (tV1 d L)), ⌜YIs fE (fq : Vec F S40960x1280 .f32) (fqt : Vec F S5x40960x2x128 .f32) (wid1 L) fy⌝ ∗ (yM.view.loc (tV1 d L) ↦[yset (wid1 L)]{fullShare} fy))) ∗ Scratch2 (F := F) d L ∗ Ow (F := F) (tV1 d L) O W)) := by
  obtain ⟨n, hlen, hn⟩ : ∃ n, (S1.listG (wid1 L) fE).length = 1024 * n ∧ n < 52 := by
    have h := S1.padded_length 0#32 (bucketG (wid1 L) fE 50176)
    have h' := bucketG_length_le (w := wid1 L) (fE := fE) 50176
    exact ⟨_, h, by omega⟩
  unfold BS2
  rw [cc2__s2_body_eq_skeleton]
  unfold cc2__s2_body_skel
  simp only [Prog.lift, Prog.bind_op, Prog.bind_ret, Prog.pure_eq_ret]
  unfold Buckets
  conv_lhs => unfold Scratch2
  iintro ⟨#Hmw, ⟨Hq, Hqt, ⟨⟨%gr, %pr, %hgp, Hgr, Hpr⟩, ⟨%fc, %hfc, Hcn⟩⟩, ⟨%fy, Hy⟩⟩, ⟨Hl, Hm, Hg, Hi, Hst, Hsl, ⟨%f0, Hc⟩, Hv, Hsem, V0, V1, V2, V3, V4⟩, HO⟩
  obtain ⟨hg, hp⟩ := hgp
  iapply (wp_copy (F := F) (tV1 d L) (src := ((cnM.slice (Rect.unit (s := S32x16) (k2_off1 L) S1x16.size (k2_off1_inb L)) (fun _ => rfl)).squeeze S16 squeezes_S1x16_S16)) (dst := c2M)
    (fs := fc) (Ss := S1.crow (wid1 L)) (Sd := Finset.univ) (fd := f0) rfl cnt_pos (cnt_set L _ _) (Finset.subset_univ _)) $$ [Hcn Hc V0 HO]
  · isplitr; · iexact Hmw
    isplitl [Hcn]; · iexact Hcn
    isplitl [Hc]; · iexact Hc
    isplitl [V0]; · iexact V0
    iexact HO
  iintro %fd' %hfd Hcn Hc V0 HO
  iapply (wp_ld1 (F := F) (n := 16) (k := 16) (tV1 d L) (m := c2M)) $$ Hc
  iintro %v %hv Hc
  have hv0 : extractAt ![0] (k2_pay2 (F := F) v) inpos_S1_p0 = BitVec.ofNat 32 (1024 * n) := by
    rw [word0, hv 0 (by omega), hfd]
    have e1 : ∀ g : Buf (Elt F) (c2M.view.loc (tV1 d L)), c2M.view.read (Elt F) g = g := fun _ => rfl
    have e2 : ∀ (g : Buf (Elt F) (c2M.view.loc (tV1 d L))) (w : Vec F S16 .i32), c2M.view.write (Elt F) g w Finset.univ = w := fun g w => by
      funext i
      exact View.write_emb_of_mem (v := c2M.view) g w (x := i) (M := Finset.univ) (Finset.mem_univ _)
    rw [e1, e2]
    refine (readRow (Val := Elt F) (e := .i32) (k := 16) cnM.view (k2_off1 L) (k2_off1_inb L) squeezes_S1x16_S16.numel_eq fc _ (by decide)).trans ?_
    have e3 : ∀ g : Buf (Elt F) (cnM.view.loc (tV1 d L)), cnM.view.read (Elt F) g = g := fun _ => rfl
    rw [e3, off1_eq]
    rw [← hlen]
    exact hfc 0 (by decide)
  have hchk : k2_chk1 L (extractAt ![0] (k2_pay2 (F := F) v) inpos_S1_p0) := by
    rw [hv0]; exact chk1_of L n hn
  iapply (wp_assume 𝒱₀ (tV1 d L) none Set.univ hchk)
  ihave Hl := (part_split (F := F) (ℓ := lgM.view.loc (tV1 d L)) (hl 0)) $$ Hl
  ihave Hm := (part_split (F := F) (ℓ := lpM.view.loc (tV1 d L)) (hl 0)) $$ Hm
  ihave Hst := (part_split (F := F) (ℓ := stM.view.loc (tV1 d L)) (half 0)) $$ Hst
  have hG' : ∀ j < 1024 * n, (Gs d L gr j).toNat < 40960 := by
    intro j hj
    rw [← hlen] at hj
    rw [show Gs d L gr j = (S1.listG (wid1 L) fE)[j] from hg j hj hj]
    exact hG _ (List.getElem_mem hj)
  iapply (wp_loop (tV1 d L) (fun t (_ : Unit) => iprop(Transfers.MayWaits (tV1 d L) (none : HIx 2) O ∗ Free (F := F) d L gr pr fq fqt q O W
        ∗ (∃ fy : Buf (Elt F) (yM.view.loc (tV1 d L)), ⌜YDone d L gr pr fq fqt n t fy⌝ ∗ (yM.view.loc (tV1 d L) ↦[yset (wid1 L)]{fullShare} fy))))
    (fun t1 acc => pass_any d L q fq fqt O W gr pr _ _ n hv0 hn _ _ hG' t1 acc)) $$ [Hq Hqt Hgr Hpr Hy Hl Hm Hg Hi Hst Hsl Hv Hsem V1 V2 V3 V4 HO]
  · isplitr; · iexact Hmw
    isplitr [Hy]
    · unfold Free
      isplitl [Hsl]; · iexact Hsl
      isplitl [Hg]; · iexact Hg
      isplitl [Hi]; · iexact Hi
      isplitl [Hst]
      · rw [← half_compl]; iexact Hst
      isplitl [Hqt]; · iexact Hqt
      isplitl [Hq]; · iexact Hq
      isplitl [Hsem]; · iexact Hsem
      isplitl [Hv]; · iexact Hv
      isplitl [Hgr]; · iexact Hgr
      isplitl [Hpr]; · iexact Hpr
      isplitl [Hl]
      · rw [← hl_compl]; iexact Hl
      isplitl [Hm]
      · rw [← hl_compl]; iexact Hm
      isplitl [V1 V2 V3 V4]
      · isplitl [V1]; · iexact V1
        isplitl [V2]; · iexact V2
        isplitl [V3]; · iexact V3
        iexact V4
      iexact HO
    iexists fy
    isplitr
    · ipureintro
      intro x _ hlt
      exact absurd hlt (by omega)
    iexact Hy
  iintro %_ ⟨-, HF, ⟨%fy', %hy, Hy⟩⟩
  rw [show k2_t1_loop.trips = 3 from rfl] at hy
  rw [wp_ret]
  unfold Free Scratch2
  icases HF with ⟨Hsl, Hg, Hi, Hst, Hqt, Hq, Hsem, Hv, Hgr, Hpr, Hl, Hm, ⟨V1, V2, V3, V4⟩, HO⟩
  ihave Hl := (part_join (F := F) (ℓ := lgM.view.loc (tV1 d L)) (hl 0)) $$ [Hl]
  · rw [hl_compl]; iexact Hl
  ihave Hm := (part_join (F := F) (ℓ := lpM.view.loc (tV1 d L)) (hl 0)) $$ [Hm]
  · rw [hl_compl]; iexact Hm
  ihave Hst := (part_join (F := F) (ℓ := stM.view.loc (tV1 d L)) (half 0)) $$ [Hst]
  · rw [half_compl]; iexact Hst
  imodintro
  isplitl [Hq Hqt Hgr Hpr Hcn Hy]
  · isplitl [Hq]; · iexact Hq
    isplitl [Hqt]; · iexact Hqt
    isplitl [Hgr Hpr Hcn]
    · isplitl [Hgr Hpr]
      · iexists gr, pr
        isplitr; · ipureintro; exact ⟨hg, hp⟩
        isplitl [Hgr]; · iexact Hgr
        iexact Hpr
      iexists fc
      isplitr; · ipureintro; exact hfc
      iexact Hcn
    iexists fy'
    isplitr
    · ipureintro
      exact slab_ents d L fE fq fqt hg hp hlen fy' hy
    iexact Hy
  isplitr [HO]
  · isplitl [Hl]; · iexact Hl
    isplitl [Hm]; · iexact Hm
    isplitl [Hg]; · iexact Hg
    isplitl [Hi]; · iexact Hi
    isplitl [Hst]; · iexact Hst
    isplitl [Hsl]; · iexact Hsl
    isplitl [Hc]; · iexists _; iexact Hc
    isplitl [Hv]; · iexact Hv
    isplitl [Hsem]; · iexact Hsem
    isplitl [V0]; · iexact V0
    isplitl [V1]; · iexact V1
    isplitl [V2]; · iexact V2
    isplitl [V3]; · iexact V3
    iexact V4
  iexact HO
end

end Cert.Proof.S2
-- ==== Proof.Shares.lean ====
/-
  How the launch divides the buffers among the tiles, and a tile's own buffers and semaphores.
-/
module

public import proofs.«01_k».proof.Proof.S2Body

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

open Idealize.ShloMosaic.SparseCore.Cfg (ownBufs ownSems0 ownCells ownRefs mem_ownCells mem_ownRefs)

/-! ## A buffer read by many -/

/-- What is left of the full share after `k` readers have taken theirs. -/
def rest : ℕ → PosShare TreeShare
  | 0 => fullShare
  | k + 1 => (rest k).right

/-- The share of reader `k`. -/
def sh (k : ℕ) : PosShare TreeShare := (rest k).left

/-- A buffer held whole is what `n` readers hold of it, and what is left. -/
theorem shares {ℓ : Loc nD τ sig} (f : Buf (Elt F) ℓ) (n : ℕ) :
    (ℓ ↦{fullShare} f : sProp 𝕄) = iprop((bigSep (Finset.range n) fun k => (ℓ ↦{sh k} f)) ∗ (ℓ ↦{rest n} f)) := by
  induction n with
  | zero =>
    rw [Finset.range_zero, bigSep_empty]
    exact (equiv_iff.mp emp_sep).symm
  | succ n ih =>
    rw [ih, Finset.range_add_one, SparseCore.bigSep_insert' Finset.notMem_range_self]
    have h : (ℓ ↦{rest n} f : sProp 𝕄) = iprop((ℓ ↦{sh n} f) ∗ (ℓ ↦{rest (n + 1)} f)) :=
      BI.Entails.antisymm (pointsTo_share (PosShare.mem_left_op_right (rest n))).1 (pointsTo_share (PosShare.mem_left_op_right (rest n))).2
    rw [h]
    have ac : ∀ A B C : sProp 𝕄, iprop(A ∗ B ∗ C) = iprop((B ∗ A) ∗ C) := by
      intro A B C
      have h1 : iprop(A ∗ B ∗ C) ⊢ iprop((B ∗ A) ∗ C) := by
        iintro ⟨HA, HB, HC⟩
        isplitr [HC]
        · isplitl [HB] <;> iassumption
        iexact HC
      have h2 : iprop((B ∗ A) ∗ C) ⊢ iprop(A ∗ B ∗ C) := by
        iintro ⟨⟨HB, HA⟩, HC⟩
        isplitl [HA]; · iexact HA
        isplitl [HB] <;> iassumption
      exact BI.Entails.antisymm h1 h2
    exact ac _ _ _

/-! ## The thirty-two tiles, core by core -/

theorem tiles (Φ : ℕ → sProp 𝕄) :
    (bigSep (Finset.univ : Finset (Fin 2)) fun c => bigSep (Finset.univ : Finset (Fin 16)) fun i => Φ (2 * i.val + c.val)) = bigSep (Finset.range 32) Φ := by
  have h : bigSep (Finset.range 32) Φ = bigSep (Finset.univ : Finset (Fin 32)) fun w => Φ w.val := by
    rw [← Nat.Iio_eq_range, ← Fin.map_valEmbedding_univ, bigSep_map]
    rfl
  rw [h, bigSep_univ_equiv ((Equiv.prodComm (Fin 2) (Fin 16)).trans finProdFinEquiv) (fun w : Fin 32 => Φ w.val), bigSep_univ_prod]
  refine bigSep_congr fun c _ => bigSep_congr fun i _ => ?_
  congr 1
  show 2 * i.val + c.val = (finProdFinEquiv (i, c)).val
  rw [finProdFinEquiv_apply_val]
  show 2 * i.val + c.val = c.val + 2 * i.val
  omega

/-! ## Rows, tile by tile -/

theorem wrows {ℓ : Loc nD τ sig} (f : Buf (Elt F) ℓ) (S : ℕ → Finset (Idx ℓ)) (n : ℕ) (hd : ∀ i, ∀ j, i ≠ j → Disjoint (S i) (S j))
    (hc : ∀ x, ∃ w < n, x ∈ S w) : (ℓ ↦{fullShare} f : sProp 𝕄) = bigSep (Finset.range n) fun w => (ℓ ↦[S w]{fullShare} f) := by
  rw [← pointsTo_biUnion (Finset.range n) (ℓ := ℓ) S (fun i _ j _ h => hd i j h)]
  congr 1
  symm
  rw [Finset.eq_univ_iff_forall]
  intro x
  obtain ⟨w, hw, hx⟩ := hc x
  exact Finset.mem_biUnion.2 ⟨w, Finset.mem_range.2 hw, hx⟩

theorem wrow_disj (i j : ℕ) (h : i ≠ j) : Disjoint (S1.wrow i) (S1.wrow j) := by
  rw [Finset.disjoint_left]
  intro x hi hj
  exact h ((S1.mem_wrow.1 hi).symm.trans (S1.mem_wrow.1 hj))
theorem crow_disj (i j : ℕ) (h : i ≠ j) : Disjoint (S1.crow i) (S1.crow j) := by
  rw [Finset.disjoint_left]
  intro x hi hj
  exact h ((S1.mem_crow.1 hi).symm.trans (S1.mem_crow.1 hj))
theorem yset_disj (i j : ℕ) (h : i ≠ j) : Disjoint (S2.yset i) (S2.yset j) := by
  rw [Finset.disjoint_left]
  intro x hi hj
  exact h ((S2.mem_yset.1 hi).symm.trans (S2.mem_yset.1 hj))
theorem wrow_cover (x : S32x52224.Idx) : ∃ w < 32, x ∈ S1.wrow w := ⟨(x 0).val, (x 0).isLt, S1.mem_wrow.2 rfl⟩
theorem crow_cover (x : S32x16.Idx) : ∃ w < 32, x ∈ S1.crow w := ⟨(x 0).val, (x 0).isLt, S1.mem_crow.2 rfl⟩
theorem yset_cover (x : S5120x1280.Idx) : ∃ w < 32, x ∈ S2.yset w := ⟨(x 0).val / 64 % 32, Nat.mod_lt _ (by norm_num), S2.mem_yset.2 rfl⟩

/-! ## A tile's own buffers and semaphores -/

section Own
variable (d : Dev nD) (c : Fin τ.nSC) (i : Fin τ.nSub)

theorem own_sems (T : Finset (SemLoc sig)) (hT : ∀ s ∈ T, s.isScoped .scVector = true) :
    (ownSems0 (V d c i) : sProp 𝕄) ⊢ iprop((bigSep T fun s => semVal (V d c i, s) 0)
      ∗ ((bigSep T fun s => semVal (V d c i, s) 0) -∗ ownSems0 (V d c i))) := by
  have hinj : Function.Injective fun s : SemLoc sig => ((V d c i, s) : GSem nD τ sig) := fun a b h => (Prod.mk.inj h).2
  have hsub : T.map ⟨_, hinj⟩ ⊆ ownCells (V d c i) := by
    intro g hg
    obtain ⟨s, hs, rfl⟩ := Finset.mem_map.1 hg
    exact mem_ownCells.2 ⟨rfl, hT s hs⟩
  have h : (ownSems0 (V d c i) : sProp 𝕄) = iprop((bigSep T fun s => semVal (V d c i, s) 0)
      ∗ bigSep (ownCells (V d c i) \ T.map ⟨_, hinj⟩) fun g => semVal g 0) := by
    unfold SparseCore.Cfg.ownSems0
    conv_lhs => rw [← Finset.union_sdiff_of_subset hsub]
    rw [bigSep_union Finset.disjoint_sdiff, bigSep_map]
    rfl
  rw [h]
  iintro ⟨HA, HB⟩
  isplitl [HA]; · iexact HA
  iintro HA
  isplitl [HA] <;> iassumption

theorem own_bufs (T : Finset (Ref sig .scVector)) (hT : ∀ b ∈ T, ((Proc.scVector c i).devRef b).owner = .proc (.scVector c i)) :
    (ownBufs (V d c i) : sProp 𝕄) ⊢ iprop((bigSep T fun b => iprop(∃ f, (V d c i).loc b ↦{fullShare} f))
      ∗ ((bigSep T fun b => iprop(∃ f, (V d c i).loc b ↦{fullShare} f)) -∗ ownBufs (V d c i))) := by
  have hsub : T.map ⟨_, Proc.devRef_injective (Proc.scVector c i)⟩ ⊆ ownRefs (τ := τ) (.scVector c i) := by
    intro g hg
    obtain ⟨s, hs, rfl⟩ := Finset.mem_map.1 hg
    exact SparseCore.Cfg.mem_ownRefs_of_owner (hT s hs)
  have h : (ownBufs (V d c i) : sProp 𝕄) = iprop((bigSep T fun b => iprop(∃ f, (V d c i).loc b ↦{fullShare} f))
      ∗ bigSep (ownRefs (τ := τ) (.scVector c i) \ T.map ⟨_, Proc.devRef_injective (Proc.scVector c i)⟩) fun b => iprop(∃ f, ((d, b) : Loc nD τ sig) ↦{fullShare} f)) := by
    unfold SparseCore.Cfg.ownBufs
    show bigSep (ownRefs (τ := τ) (.scVector c i)) _ = _
    conv_lhs => rw [← Finset.union_sdiff_of_subset hsub]
    rw [bigSep_union Finset.disjoint_sdiff, bigSep_map]
    rfl
  rw [h]
  iintro ⟨HA, HB⟩
  isplitl [HA]; · iexact HA
  iintro HA
  isplitl [HA] <;> iassumption
end Own

theorem bigSep_insert_eq {I : Type} [DecidableEq I] {a : I} {s : Finset I} (h : a ∉ s) (Φ : I → sProp 𝕄) :
    bigSep (insert a s) Φ = iprop(Φ a ∗ bigSep s Φ) := SparseCore.bigSep_insert' h

/-- The first kernel's scratch is among its tile's own. -/
theorem scratch1 (d : Dev nD) (L : grid0.Coords) :
    iprop(ownBufs (tV d L) ∗ ownSems0 (tV d L) : sProp 𝕄) ⊢ iprop(S1.Scratch1 (F := F) d L ∗ (S1.Scratch1 (F := F) d L -∗ iprop(ownBufs (tV d L) ∗ ownSems0 (tV d L)))) := by
  have e1 := own_bufs (F := F) d (cV L) (jV L) {cc0_scratch0, cc0_scratch1, cc0_scratch2, cc0_scratch3} (by
    intro b hb
    simp only [Finset.mem_insert, Finset.mem_singleton] at hb
    rcases hb with rfl | rfl | rfl | rfl <;> rfl)
  have e2 := own_sems (F := F) d (cV L) (jV L)
    {.dma cc0_scratch4.sem, .dma cc0_scoped0.sem, .dma cc0_scoped1.sem, .dma cc0_scoped2.sem, .dma cc0_scoped3.sem, .dma cc0_scoped4.sem} (by decide)
  rw [bigSep_insert_eq (by decide), bigSep_insert_eq (by decide), bigSep_insert_eq (by decide), bigSep_singleton] at e1
  rw [bigSep_insert_eq (by decide), bigSep_insert_eq (by decide), bigSep_insert_eq (by decide), bigSep_insert_eq (by decide), bigSep_insert_eq (by decide), bigSep_singleton] at e2
  unfold S1.Scratch1
  iintro ⟨HB, HS⟩
  ihave HB := e1 $$ HB
  ihave HS := e2 $$ HS
  icases HB with ⟨⟨B0, B1, B2, B3⟩, HB⟩
  icases HS with ⟨⟨T0, T1, T2, T3, T4, T5⟩, HS⟩
  isplitr [HB HS]
  · isplitl [B0]; · iexact B0
    isplitl [B1]; · iexact B1
    isplitl [B2]; · iexact B2
    isplitl [B3]; · iexact B3
    isplitl [T0]; · iexact T0
    isplitl [T1]; · iexact T1
    isplitl [T2]; · iexact T2
    isplitl [T3]; · iexact T3
    isplitl [T4]; · iexact T4
    iexact T5
  iintro ⟨B0, B1, B2, B3, T0, T1, T2, T3, T4, T5⟩
  isplitl [HB B0 B1 B2 B3]
  · iapply HB
    isplitl [B0]; · iexact B0
    isplitl [B1]; · iexact B1
    isplitl [B2]; · iexact B2
    iexact B3
  iapply HS
  isplitl [T0]; · iexact T0
  isplitl [T1]; · iexact T1
  isplitl [T2]; · iexact T2
  isplitl [T3]; · iexact T3
  isplitl [T4]; · iexact T4
  iexact T5

/-- The second kernel's scratch is among its tile's own. -/
theorem scratch2 (d : Dev nD) (L : grid2.Coords) :
    iprop(ownBufs (tV1 d L) ∗ ownSems0 (tV1 d L) : sProp 𝕄) ⊢ iprop(Scratch2 (F := F) d L ∗ (Scratch2 (F := F) d L -∗ iprop(ownBufs (tV1 d L) ∗ ownSems0 (tV1 d L)))) := by
  have e1 := own_bufs (F := F) d (cV1 L) (jV1 L) {cc2_scratch0, cc2_scratch1, cc2_scratch2, cc2_scratch3, cc2_scratch4, cc2_scratch5, cc2_scratch6} (by
    intro b hb
    simp only [Finset.mem_insert, Finset.mem_singleton] at hb
    rcases hb with rfl | rfl | rfl | rfl | rfl | rfl | rfl <;> rfl)
  have e2 := own_sems (F := F) d (cV1 L) (jV1 L)
    {.dma cc2_scratch7.sem, .dma cc2_scratch8.sem, .dma cc2_scratch9.sem, .dma cc2_scratch10.sem, .dma cc2_scratch11.sem, .dma cc2_scratch12.sem,
      .dma cc2_scoped0.sem, .dma cc2_scoped1.sem, .dma cc2_scoped2.sem, .dma cc2_scoped3.sem, .dma cc2_scoped4.sem} (by decide)
  rw [bigSep_insert_eq (by decide), bigSep_insert_eq (by decide), bigSep_insert_eq (by decide), bigSep_insert_eq (by decide), bigSep_insert_eq (by decide), bigSep_insert_eq (by decide), bigSep_singleton] at e1
  rw [bigSep_insert_eq (by decide), bigSep_insert_eq (by decide), bigSep_insert_eq (by decide), bigSep_insert_eq (by decide), bigSep_insert_eq (by decide), bigSep_insert_eq (by decide),
    bigSep_insert_eq (by decide), bigSep_insert_eq (by decide), bigSep_insert_eq (by decide), bigSep_insert_eq (by decide), bigSep_singleton] at e2
  unfold Scratch2 Sems
  iintro ⟨HB, HS⟩
  ihave HB := e1 $$ HB
  ihave HS := e2 $$ HS
  icases HB with ⟨⟨B0, B1, B2, B3, B4, B5, B6⟩, HB⟩
  icases HS with ⟨⟨T0, T1, T2, T3, T4, T5, U0, U1, U2, U3, U4⟩, HS⟩
  isplitr [HB HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [T0]; · iexact T0
    isplitl [T1 T2 T3 T4 T5]
    · isplitl [T1]; · iexact T1
      isplitl [T2]; · iexact T2
      isplitl [T3]; · iexact T3
      isplitl [T4]; · iexact T4
      iexact T5
    isplitl [U0]; · iexact U0
    isplitl [U1]; · iexact U1
    isplitl [U2]; · iexact U2
    isplitl [U3]; · iexact U3
    iexact U4
  iintro ⟨B0, B1, B2, B3, B4, B5, B6, T0, ⟨T1, T2, T3, T4, T5⟩, U0, U1, U2, U3, U4⟩
  isplitl [HB B0 B1 B2 B3 B4 B5 B6]
  · iapply HB
    isplitl [B0]; · iexact B0
    isplitl [B1]; · iexact B1
    isplitl [B2]; · iexact B2
    isplitl [B3]; · iexact B3
    isplitl [B4]; · iexact B4
    isplitl [B5]; · iexact B5
    iexact B6
  iapply HS
  isplitl [T0]; · iexact T0
  isplitl [T1]; · iexact T1
  isplitl [T2]; · iexact T2
  isplitl [T3]; · iexact T3
  isplitl [T4]; · iexact T4
  isplitl [T5]; · iexact T5
  isplitl [U0]; · iexact U0
  isplitl [U1]; · iexact U1
  isplitl [U2]; · iexact U2
  isplitl [U3]; · iexact U3
  iexact U4

end Cert.Proof.S2
-- ==== Proof.Pay.lean ====
/-
  What the host computes for the two kernels, and what each of their tiles takes and gives back.
-/
module

public import proofs.«01_k».proof.Proof.Shares
public import proofs.«01_k».proof.Proof.TcArr

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

open Idealize.ShloMosaic.SparseCore.Cfg (Pay)

/-! ## What the host computes -/

/-- A list of fifty thousand words made longer by a constant one. -/
def padded (a : Vec F S50000 .i32) (k : BitVec 32) : Vec F S50176 .i32 :=
  concatenate S50176 0 [⟨S50000, a⟩, ⟨S176, broadcastInDim S176 ![] bcast_S_S176 (constantI S_ 32 k)⟩] concatenates_S50000_S176_S50176_d0

/-- The edges' words as one row. -/
def oneRow (a : Vec F S50176 .i32) : Vec F S1x50176 .i32 := broadcastInDim S1x50176 ![1] bcast_S50176_S1x50176_1 a

/-- The table of edges the first kernel reads: in each of its rows, 896 destinations, 896 relations, 896 sources. -/
def epOf (a1 a2 a3 : Vec F S50000 .i32) : Vec F S56x2688 .i32 :=
  shapeCast S56x2688 (transpose S56x3x896 [1, 0, 2] (shapeCast S3x56x896
    (concatenate S3x50176 0 [⟨S1x50176, oneRow (F := F) (padded (F := F) a2 1073741824#32)⟩, ⟨S1x50176, oneRow (F := F) (padded (F := F) a3 0#32)⟩,
      ⟨S1x50176, oneRow (F := F) (padded (F := F) a1 0#32)⟩] concatenates_S1x50176_S1x50176_S1x50176_S3x50176_d0)
    shapeCasts_S3x50176_S3x56x896) transposes_S3x56x896_S56x3x896_1_0_2) shapeCasts_S56x3x896_S56x2688

/-- The nodes' rows, a hundred and twenty rows of zeros after them. -/
def xpOf (a0 : Vec F S5000x1280 .f32) : Vec F S5120x1280 .f32 :=
  concatenate S5120x1280 0 [⟨S5000x1280, a0⟩, ⟨S120x1280, broadcastInDim S120x1280 ![] bcast_S_S120x1280 (constant (F := F) S_ .f32 0x00000000#32)⟩] concatenates_S5000x1280_S120x1280_S5120x1280_d0

/-- The relations' weights and the self loop's, one under the other. -/
def wOf (a5 : Vec F S8960x1280 .f32) (a7 : Vec F S1280x1280 .f32) : Vec F S10240x1280 .f32 :=
  concatenate S10240x1280 0 [⟨S8960x1280, a5⟩, ⟨S1280x1280, a7⟩] concatenates_S8960x1280_S1280x1280_S10240x1280_d0

/-- Both biases, as one row. -/
def bOf (a6 a8 : Vec F S1280 .f32) : Vec F S1x1280 .f32 := shapeCast S1x1280 (addf a6 a8 : FVec F S1280 .f32) shapeCasts_S1280_S1x1280

/-- The rows the second kernel gathers: five parts of each. -/
def qtOf (q : Vec F S40960x1280 .f32) : Vec F S5x40960x2x128 .f32 :=
  transpose S5x40960x2x128 [1, 0, 2, 3] (shapeCast S40960x5x2x128 q shapeCasts_S40960x1280_S40960x5x2x128) transposes_S40960x5x2x128_S5x40960x2x128_1_0_2_3

/-! ## What the two calls carry -/

section
variable (m : (ℓ : Loc nD τ sig) → Buf (Elt F) ℓ) (d : Dev nD)

abbrev lc (b : Ref sig .tc) : Loc nD τ sig := (SparseCore.T d).loc b

/-- The messages' rows, as the first call on the TensorCore computes them. -/
def qIn : Vec F S40960x1280 .f32 :=
  qRows (F := F) (xpOf (F := F) (m (lc d main_arg0))) (wOf (F := F) (m (lc d main_arg5)) (m (lc d main_arg7))) (bOf (F := F) (m (lc d main_arg6)) (m (lc d main_arg8)))
def eIn : Vec F S56x2688 .i32 := epOf (F := F) (m (lc d main_arg1)) (m (lc d main_arg2)) (m (lc d main_arg3))

/-- What the two kernels leave in the result. -/
def yOut : Vec F S5120x1280 .f32 := fun x => Yval (eIn m d) (qIn m d) (qtOf (qIn m d)) x

/-- Tile `w`'s rows of the two lists and of the counts, as the first kernel leaves them. -/
def Buck (w : ℕ) : sProp 𝕄 :=
  iprop((∃ (gr : Buf (Elt F) (lc d main_v18_0)) (pr : Buf (Elt F) (lc d main_v18_1)),
      ⌜S1.RowIs w gr (S1.listG w (eIn m d)) (S1.listG w (eIn m d)).length ∧ S1.RowIs w pr (S1.listP w (eIn m d)) (S1.listP w (eIn m d)).length⌝
      ∗ (lc d main_v18_0 ↦[S1.wrow w]{fullShare} gr) ∗ (lc d main_v18_1 ↦[S1.wrow w]{fullShare} pr))
    ∗ (∃ fc : Buf (Elt F) (lc d main_v18_2), ⌜S1.CountIs (eIn m d) w fc⌝ ∗ (lc d main_v18_2 ↦[S1.crow w]{fullShare} fc)))

def Go0 (w : ℕ) : sProp 𝕄 :=
  iprop((lc d main_v17 ↦{sh w} (show Buf (Elt F) (lc d main_v17) from eIn m d))
    ∗ (∃ f : Buf (Elt F) (lc d main_v18_0), (lc d main_v18_0 ↦[S1.wrow w]{fullShare} f))
    ∗ (∃ f : Buf (Elt F) (lc d main_v18_1), (lc d main_v18_1 ↦[S1.wrow w]{fullShare} f))
    ∗ (∃ f : Buf (Elt F) (lc d main_v18_2), (lc d main_v18_2 ↦[S1.crow w]{fullShare} f)))

def Td0 (w : ℕ) : sProp 𝕄 :=
  iprop((lc d main_v17 ↦{sh w} (show Buf (Elt F) (lc d main_v17) from eIn m d)) ∗ Buck m d w)

def Rd1 (w : ℕ) : sProp 𝕄 :=
  iprop((lc d main_v19 ↦{sh w} (show Buf (Elt F) (lc d main_v19) from qIn m d)) ∗ (lc d main_v21 ↦{sh w} (show Buf (Elt F) (lc d main_v21) from qtOf (qIn m d))) ∗ Buck m d w)

def Go1 (w : ℕ) : sProp 𝕄 := iprop(Rd1 m d w ∗ ∃ f : Buf (Elt F) (lc d main_v22), (lc d main_v22 ↦[yset w]{fullShare} f))

def Td1 (w : ℕ) : sProp 𝕄 := iprop(Rd1 m d w ∗ (lc d main_v22 ↦[yset w]{fullShare} (show Buf (Elt F) (lc d main_v22) from yOut m d)))

instance (w : ℕ) : BI.Storable (upEmb : UEmb _ 𝕄) (Buck m d w) := by unfold Buck; infer_instance
instance (w : ℕ) : BI.Storable (upEmb : UEmb _ 𝕄) (Go0 m d w) := by unfold Go0; infer_instance
instance (w : ℕ) : BI.Storable (upEmb : UEmb _ 𝕄) (Td0 m d w) := by unfold Td0; infer_instance
instance (w : ℕ) : BI.Storable (upEmb : UEmb _ 𝕄) (Rd1 m d w) := by unfold Rd1; infer_instance
instance (w : ℕ) : BI.Storable (upEmb : UEmb _ 𝕄) (Go1 m d w) := by unfold Go1; infer_instance
instance (w : ℕ) : BI.Storable (upEmb : UEmb _ 𝕄) (Td1 m d w) := by unfold Td1; infer_instance

/-- What one core's sixteen tiles take or give back. -/
def Core (Φ : ℕ → sProp 𝕄) (c : ℕ) : sProp 𝕄 := bigSep (Finset.univ : Finset (Fin 16)) fun i => Φ (2 * i.val + c)

instance (Φ : ℕ → sProp 𝕄) [∀ w, BI.Storable (upEmb : UEmb _ 𝕄) (Φ w)] (c : ℕ) : BI.Storable (upEmb : UEmb _ 𝕄) (Core Φ c) := by unfold Core; infer_instance

/-- What one tile takes, -/
def goOf : Fin 2 → ℕ → sProp 𝕄
  | 0 => Go0 m d
  | 1 => Go1 m d
/-- and gives back. -/
def tdOf : Fin 2 → ℕ → sProp 𝕄
  | 0 => Td0 m d
  | 1 => Td1 m d

instance (q : Fin 2) (w : ℕ) : BI.Storable (upEmb : UEmb _ 𝕄) (goOf m d q w) := by
  match q with
  | 0 => unfold goOf; infer_instance
  | 1 => unfold goOf; infer_instance
instance (q : Fin 2) (w : ℕ) : BI.Storable (upEmb : UEmb _ 𝕄) (tdOf m d q w) := by
  match q with
  | 0 => unfold tdOf; infer_instance
  | 1 => unfold tdOf; infer_instance
end

variable (m : (ℓ : Loc nD τ sig) → Buf (Elt F) ℓ)

/-- Both calls give a tile its operands and take them back. -/
def P : (K (F := F)).Pay (nD := nD) (Val := Elt F) (Name := ℕ) (U := UU) where
  st := fun q d c => Core (goOf m d q) c.val
  dn := fun q d c => Core (tdOf m d q) c.val
  go := fun q d c i => goOf m d q (2 * i.val + c.val)
  td := fun q d c i => tdOf m d q (2 * i.val + c.val)
  x := fun _ _ => iprop(emp)

instance P_storable : (P (F := F) m).IsStorable where
  st q d c := (inferInstance : BI.Storable (upEmb : UEmb _ 𝕄) (Core (goOf m d q) c.val))
  dn q d c := (inferInstance : BI.Storable (upEmb : UEmb _ 𝕄) (Core (tdOf m d q) c.val))
  go q d c i := (inferInstance : BI.Storable (upEmb : UEmb _ 𝕄) (goOf m d q (2 * i.val + c.val)))
  td q d c i := (inferInstance : BI.Storable (upEmb : UEmb _ 𝕄) (tdOf m d q (2 * i.val + c.val)))

theorem vecSplit (q : Fin 2) : (K (F := F)).VecSplit' (P m) q := by
  intro d c
  match q with
  | 0 =>
    show Core (goOf m d 0) c.val ⊢ |={Set.univ}=> iprop(Core (goOf m d 0) c.val ∗ (Core (tdOf m d 0) c.val -∗ Core (tdOf m d 0) c.val))
    iintro H; imodintro
    isplitl [H]; · iexact H
    iintro H; iexact H
  | 1 =>
    show Core (goOf m d 1) c.val ⊢ |={Set.univ}=> iprop(Core (goOf m d 1) c.val ∗ (Core (tdOf m d 1) c.val -∗ Core (tdOf m d 1) c.val))
    iintro H; imodintro
    isplitl [H]; · iexact H
    iintro H; iexact H

end Cert.Proof.S2
-- ==== Proof.Host.lean ====
/-
  The host's operations around the two calls.
-/
module

public import proofs.«01_k».proof.Proof.Pay
public import Idealize.ShloMosaic.Lib.Pipeline.Frame

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

open Idealize.ShloMosaic.StableHlo (seq after held wp_seq)

/-! ## The host's operations -/

/-- The operations before the first call: the stacked weights, the bias, the padded rows and the table of edges. -/
def hostA : List (HloOp τ sig (Elt F)) :=
  [ StableHlo.binary main_arg5 main_arg7 main_v0 ((fun a b => concatenate S10240x1280 0 [⟨S8960x1280, a⟩, ⟨S1280x1280, b⟩] concatenates_S8960x1280_S1280x1280_S10240x1280_d0) : (⟨S8960x1280, .f32⟩ : BufTy).Contents (Elt F) → (⟨S1280x1280, .f32⟩ : BufTy).Contents (Elt F) → (⟨S10240x1280, .f32⟩ : BufTy).Contents (Elt F)),
    StableHlo.binary main_arg6 main_arg8 main_v1 (addf : (⟨S1280, .f32⟩ : BufTy).Contents (Elt F) → (⟨S1280, .f32⟩ : BufTy).Contents (Elt F) → (⟨S1280, .f32⟩ : BufTy).Contents (Elt F)),
    StableHlo.reshape main_v1 main_v2 (rfl : (.f32 : EltTy) = .f32) shapeCasts_S1280_S1x1280,
    StableHlo.nullary main_cst (constant S_ .f32 0x00000000#32),
    StableHlo.unary main_cst main_v3 (broadcastInDim S120x1280 ![] bcast_S_S120x1280 : (⟨S_, .f32⟩ : BufTy).Contents (Elt F) → (⟨S120x1280, .f32⟩ : BufTy).Contents (Elt F)),
    StableHlo.binary main_arg0 main_v3 main_v4 ((fun a b => concatenate S5120x1280 0 [⟨S5000x1280, a⟩, ⟨S120x1280, b⟩] concatenates_S5000x1280_S120x1280_S5120x1280_d0) : (⟨S5000x1280, .f32⟩ : BufTy).Contents (Elt F) → (⟨S120x1280, .f32⟩ : BufTy).Contents (Elt F) → (⟨S5120x1280, .f32⟩ : BufTy).Contents (Elt F)),
    StableHlo.nullary main_c (constantI S_ 32 0#32),
    StableHlo.unary main_c main_v5 (broadcastInDim S176 ![] bcast_S_S176 : (⟨S_, .i32⟩ : BufTy).Contents (Elt F) → (⟨S176, .i32⟩ : BufTy).Contents (Elt F)),
    StableHlo.binary main_arg1 main_v5 main_v6 ((fun a b => concatenate S50176 0 [⟨S50000, a⟩, ⟨S176, b⟩] concatenates_S50000_S176_S50176_d0) : (⟨S50000, .i32⟩ : BufTy).Contents (Elt F) → (⟨S176, .i32⟩ : BufTy).Contents (Elt F) → (⟨S50176, .i32⟩ : BufTy).Contents (Elt F)),
    StableHlo.nullary main_c_0 (constantI S_ 32 1073741824#32),
    StableHlo.unary main_c_0 main_v7 (broadcastInDim S176 ![] bcast_S_S176 : (⟨S_, .i32⟩ : BufTy).Contents (Elt F) → (⟨S176, .i32⟩ : BufTy).Contents (Elt F)),
    StableHlo.binary main_arg2 main_v7 main_v8 ((fun a b => concatenate S50176 0 [⟨S50000, a⟩, ⟨S176, b⟩] concatenates_S50000_S176_S50176_d0) : (⟨S50000, .i32⟩ : BufTy).Contents (Elt F) → (⟨S176, .i32⟩ : BufTy).Contents (Elt F) → (⟨S50176, .i32⟩ : BufTy).Contents (Elt F)),
    StableHlo.nullary main_c_1 (constantI S_ 32 0#32),
    StableHlo.unary main_c_1 main_v9 (broadcastInDim S176 ![] bcast_S_S176 : (⟨S_, .i32⟩ : BufTy).Contents (Elt F) → (⟨S176, .i32⟩ : BufTy).Contents (Elt F)),
    StableHlo.binary main_arg3 main_v9 main_v10 ((fun a b => concatenate S50176 0 [⟨S50000, a⟩, ⟨S176, b⟩] concatenates_S50000_S176_S50176_d0) : (⟨S50000, .i32⟩ : BufTy).Contents (Elt F) → (⟨S176, .i32⟩ : BufTy).Contents (Elt F) → (⟨S50176, .i32⟩ : BufTy).Contents (Elt F)),
    StableHlo.unary main_v8 main_v11 (broadcastInDim S1x50176 ![1] bcast_S50176_S1x50176_1 : (⟨S50176, .i32⟩ : BufTy).Contents (Elt F) → (⟨S1x50176, .i32⟩ : BufTy).Contents (Elt F)),
    StableHlo.unary main_v10 main_v12 (broadcastInDim S1x50176 ![1] bcast_S50176_S1x50176_1 : (⟨S50176, .i32⟩ : BufTy).Contents (Elt F) → (⟨S1x50176, .i32⟩ : BufTy).Contents (Elt F)),
    StableHlo.unary main_v6 main_v13 (broadcastInDim S1x50176 ![1] bcast_S50176_S1x50176_1 : (⟨S50176, .i32⟩ : BufTy).Contents (Elt F) → (⟨S1x50176, .i32⟩ : BufTy).Contents (Elt F)),
    StableHlo.nary ![main_v11, main_v12, main_v13] main_v14 (fun u => (concatenate S3x50176 0 [⟨S1x50176, (u 0 : (⟨S1x50176, .i32⟩ : BufTy).Contents (Elt F))⟩, ⟨S1x50176, (u 1 : (⟨S1x50176, .i32⟩ : BufTy).Contents (Elt F))⟩, ⟨S1x50176, (u 2 : (⟨S1x50176, .i32⟩ : BufTy).Contents (Elt F))⟩] concatenates_S1x50176_S1x50176_S1x50176_S3x50176_d0 : (⟨S3x50176, .i32⟩ : BufTy).Contents (Elt F))),
    StableHlo.reshape main_v14 main_v15 (rfl : (.i32 : EltTy) = .i32) shapeCasts_S3x50176_S3x56x896,
    StableHlo.unary main_v15 main_v16 ((transpose S56x3x896 [1, 0, 2] · transposes_S3x56x896_S56x3x896_1_0_2) : (⟨S3x56x896, .i32⟩ : BufTy).Contents (Elt F) → (⟨S56x3x896, .i32⟩ : BufTy).Contents (Elt F)),
    StableHlo.reshape main_v16 main_v17 (rfl : (.i32 : EltTy) = .i32) shapeCasts_S56x3x896_S56x2688 ]

/-- The operations before the second call of the SparseCores: the five parts of the rows. -/
def hostB : List (HloOp τ sig (Elt F)) :=
  [ StableHlo.reshape main_v19 main_v20 (rfl : (.f32 : EltTy) = .f32) shapeCasts_S40960x1280_S40960x5x2x128,
    StableHlo.unary main_v20 main_v21 ((transpose S5x40960x2x128 [1, 0, 2, 3] · transposes_S40960x5x2x128_S5x40960x2x128_1_0_2_3) : (⟨S40960x5x2x128, .f32⟩ : BufTy).Contents (Elt F) → (⟨S5x40960x2x128, .f32⟩ : BufTy).Contents (Elt F)) ]

/-- The operations after the last call. -/
def hostC : List (HloOp τ sig (Elt F)) :=
  [ StableHlo.reshape main_v23_1 main_v24 (rfl : (.f32 : EltTy) = .f32) shapeCasts_S1x1280_S1280 ]

/-- The first call of the TensorCore -/
abbrev call0 : Prog (TpuEff nD τ sig (Elt F) (SparseCore.Sig (Pipeline.Sig Λ₀ (Fin 2) fun p => (pcfgs (F := F) p).Adm) 2) .tc) PUnit :=
  Prog.lift (.customCall (SparseCore.inner (Pipeline.entry 0)) ())
/-- and the second. -/
abbrev call1 : Prog (TpuEff nD τ sig (Elt F) (SparseCore.Sig (Pipeline.Sig Λ₀ (Fin 2) fun p => (pcfgs (F := F) p).Adm) 2) .tc) PUnit :=
  Prog.lift (.customCall (SparseCore.inner (Pipeline.entry 1)) ())

theorem main_eq (d : Dev nD) :
    main (F := F) d = (seq hostA >>= fun _ => (sc (F := F)).run d 0 >>= fun _ => call0 >>= fun _ => seq hostB >>= fun _ =>
      (sc (F := F)).run d 1 >>= fun _ => call1 >>= fun _ => seq hostC >>= fun _ => pure PUnit.unit) := by
  simp only [main, hostA, hostB, hostC, seq, bind_assoc, pure_bind, bind_pure_unit]

/-- A reference of the TensorCore's, as the device names it. -/
abbrev rf (b : Ref sig .tc) : DevRef τ sig := Proc.devRef .tc b

/-- The arguments. -/
abbrev args : Finset (DevRef τ sig) :=
  {rf main_arg0, rf main_arg1, rf main_arg2, rf main_arg3, rf main_arg4, rf main_arg5, rf main_arg6, rf main_arg7, rf main_arg8}

theorem hostA_ep (V : Valuation τ sig (Elt F)) :
    after hostA V (rf main_v17) = epOf (F := F) (V (rf main_arg1)) (V (rf main_arg2)) (V (rf main_arg3)) := by
  unfold hostA
  after_results
  rfl
theorem hostA_x (V : Valuation τ sig (Elt F)) : after hostA V (rf main_v4) = xpOf (F := F) (V (rf main_arg0)) := by
  unfold hostA
  after_results
  rfl
theorem hostA_w (V : Valuation τ sig (Elt F)) : after hostA V (rf main_v0) = wOf (F := F) (V (rf main_arg5)) (V (rf main_arg7)) := by
  unfold hostA
  after_results
  rfl
theorem hostA_b (V : Valuation τ sig (Elt F)) : after hostA V (rf main_v2) = bOf (F := F) (V (rf main_arg6)) (V (rf main_arg8)) := by
  unfold hostA
  after_results
  rfl
/-- The operations before the first call leave the arguments. -/
theorem hostA_args (V : Valuation τ sig (Elt F)) : ∀ b ∈ args, after hostA V b = V b := by
  intro b hb
  unfold hostA
  simp only [Finset.mem_insert, Finset.mem_singleton] at hb
  rcases hb with h | h | h | h | h | h | h | h | h <;> subst h <;> after_results

theorem hostB_qt (V : Valuation τ sig (Elt F)) : after hostB V (rf main_v21) = qtOf (F := F) (V (rf main_v19)) := by
  unfold hostB
  after_results
  rfl
/-- Those before the second leave the rows, the padded rows and the arguments. -/
theorem hostB_keeps (V : Valuation τ sig (Elt F)) : ∀ b ∈ insert (rf main_v19) (insert (rf main_v4) args), after hostB V b = V b := by
  intro b hb
  unfold hostB
  simp only [Finset.mem_insert, Finset.mem_singleton] at hb
  rcases hb with h | h | h | h | h | h | h | h | h | h | h <;> subst h <;> after_results

theorem hostC_gf (V : Valuation τ sig (Elt F)) :
    after hostC V (rf main_v24) = (shapeCast S1280 (V (rf main_v23_1) : (⟨S1x1280, .f32⟩ : BufTy).Contents (Elt F)) shapeCasts_S1x1280_S1280 : (⟨S1280, .f32⟩ : BufTy).Contents (Elt F)) := by
  unfold hostC
  after_results
  rfl
/-- Those after the last leave the features of the nodes and the arguments. -/
theorem hostC_keeps (V : Valuation τ sig (Elt F)) : ∀ b ∈ insert (rf main_v23_0) args, after hostC V b = V b := by
  intro b hb
  unfold hostC
  simp only [Finset.mem_insert, Finset.mem_singleton] at hb
  rcases hb with h | h | h | h | h | h | h | h | h | h <;> subst h <;> after_results

theorem fresh_A : ∀ op ∈ hostA (F := F), op.fresh = ∅ :=
  List.forall_iff_forall_mem.mp (StableHlo.forall_fresh_of_map (by rfl))
theorem fresh_B : ∀ op ∈ hostB (F := F), op.fresh = ∅ :=
  List.forall_iff_forall_mem.mp (StableHlo.forall_fresh_of_map (by rfl))

theorem fresh_C : ∀ op ∈ hostC (F := F), op.fresh = ∅ :=
  List.forall_iff_forall_mem.mp (StableHlo.forall_fresh_of_map (by rfl))

abbrev U : Finset (DevRef τ sig) := Pipeline.ucRefs τ sig

theorem mem_U (b : Ref sig .tc) (h : (rf b).isScoped = false) : rf b ∈ U :=
  Finset.mem_filter.2 ⟨StableHlo.devRef_mem_tcRefs b, by rw [h]; exact Bool.false_ne_true⟩

theorem bufs_A : ∀ op ∈ hostA (F := F), op.bufs ⊆ U := by
  intro op h
  refine Pipeline.sub_ucRefs op ?_
  unfold hostA at h
  fin_cases h <;> simp

end Cert.Proof.S2
-- ==== Proof.Vals.lean ====
/-
  What the host's arrays hold as the run goes on.
-/
module

public import proofs.«01_k».proof.Proof.Calls
public import proofs.«01_k».proof.Proof.Host

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

open Idealize.ShloMosaic.StableHlo (seq after held wp_seq held_sub_split)

/-- What a core's state between its calls is beside what it owes. -/
theorem tc_ex (k : ℕ) : ∃ (n : ℕ) (R : Dev nD → sProp 𝕄), ∀ d, (K (F := F)).tcSt EH d k = iprop(Owed (F := F) d ((K (F := F)).Otc d k) n ∗ R d) :=
  ⟨_, _, fun _ => rfl⟩
/-- The bound on the waits it has recorded, -/
def bnd (F : FTy → Type) [FloatOps F] (k : ℕ) : ℕ := (tc_ex (F := F) k).choose
/-- and the rest of it. -/
def TcRest (k : ℕ) : Dev nD → sProp 𝕄 := (tc_ex (F := F) k).choose_spec.choose
theorem tc_split (k : ℕ) (d : Dev nD) : (K (F := F)).tcSt EH d k = iprop(Owed (F := F) d ((K (F := F)).Otc d k) (bnd F k) ∗ TcRest k d) :=
  (tc_ex (F := F) k).choose_spec.choose_spec d

variable (m : (ℓ : Loc nD τ sig) → Buf (Elt F) ℓ) (d : Dev nD)

/-- The host's arrays at the launch, -/
def V0 : Valuation τ sig (Elt F) := fun b => m (d, b)
/-- after the operations before the first call, -/
def V1 : Valuation τ sig (Elt F) := after hostA (V0 m d)
/-- after the first call of the TensorCore, -/
def V1' : Valuation τ sig (Elt F) := Pipeline.afterRegion (pd (V1 m) 1 (bnd F 1) 0 d) (V1 m d)
/-- after the operations between the calls, -/
def V2 : Valuation τ sig (Elt F) := after hostB (V1' m d)
/-- after the second call of the SparseCores, -/
def V2' : Valuation τ sig (Elt F) := Function.update (V2 m d) (rf main_v22) (show (rf main_v22).ty.Contents (Elt F) from yOut m d)
/-- after the second call of the TensorCore -/
def V3 : Valuation τ sig (Elt F) := Pipeline.afterRegion (pd (V2' m) 2 (bnd F 2) 1 d) (V2' m d)
/-- and at the end. -/
def V4 : Valuation τ sig (Elt F) := after hostC (V3 m d)

theorem out1 : ∀ w : Fin 4, (cfg1.win w).isOut = true → Pipeline.arrRef spec1 w = main_v19 := by decide
theorem out3 : ∀ w : Fin 4, (cfg3.win w).isOut = true → Pipeline.arrRef spec3 w = main_v23_0 ∨ Pipeline.arrRef spec3 w = main_v23_1 := by decide

section
variable (W : Dev nD → Valuation τ sig (Elt F)) (k n : ℕ)

set_option backward.isDefEq.respectTransparency.types false in
/-- The first call of the TensorCore leaves every array but its result, -/
theorem after1_keeps (r : Ref sig .tc) (h : r ≠ main_v19) : Pipeline.afterRegion (pd W k n 0 d) (W d) (rf r) = W d (rf r) :=
  Pipeline.afterRegion_keeps (dat1 (W d) _ n d) (W d) winFacts1.arr_inj (fun _ => rfl) r fun w e => by
    by_contra ho
    exact h (e.symm.trans (out1 w (by simpa using ho)))
set_option backward.isDefEq.respectTransparency.types false in
/-- which is the rows it computes. -/
theorem after1_v19 : Pipeline.afterRegion (pd W k n 0 d) (W d) (rf main_v19)
    = qRows (F := F) (W d (rf main_v4)) (W d (rf main_v0)) (W d (rf main_v2)) :=
  (Pipeline.afterRegion_arr (dat1 (W d) ((K (F := F)).Otc d k) n d) (W d) winFacts1.arr_inj 3).trans (arr1 (W d) _ n d)
set_option backward.isDefEq.respectTransparency.types false in
/-- The second leaves every array but its two results, -/
theorem after3_keeps (r : Ref sig .tc) (h : r ≠ main_v23_0) (h' : r ≠ main_v23_1) : Pipeline.afterRegion (pd W k n 1 d) (W d) (rf r) = W d (rf r) :=
  Pipeline.afterRegion_keeps (dat3 (W d) _ n d) (W d) winFacts3.arr_inj (fun _ => rfl) r fun w e => by
    by_contra ho
    rcases out3 w (by simpa using ho) with h1 | h1
    · exact h (e.symm.trans h1)
    · exact h' (e.symm.trans h1)
set_option backward.isDefEq.respectTransparency.types false in
/-- the features of the nodes -/
theorem after3_nf : Pipeline.afterRegion (pd W k n 1 d) (W d) (rf main_v23_0) = hidden (F := F) (W d (rf main_v22)) (W d (rf main_v4)) :=
  (Pipeline.afterRegion_arr (dat3 (W d) ((K (F := F)).Otc d k) n d) (W d) winFacts3.arr_inj 2).trans (arr3 (W d) _ n d)
set_option backward.isDefEq.respectTransparency.types false in
/-- and their maxima. -/
theorem after3_gf : Pipeline.afterRegion (pd W k n 1 d) (W d) (rf main_v23_1) = maxAt (F := F) (W d (rf main_v22)) (W d (rf main_v4)) 5 :=
  (Pipeline.afterRegion_arr (dat3 (W d) ((K (F := F)).Otc d k) n d) (W d) winFacts3.arr_inj 3).trans (arr3' (W d) _ n d)
end

theorem V1_ep : V1 m d (rf main_v17) = eIn m d := hostA_ep _
theorem V1_x : V1 m d (rf main_v4) = xpOf (F := F) (m (lc d main_arg0)) := hostA_x _
theorem V1_args : ∀ b ∈ args, V1 m d b = m (d, b) := fun b hb => hostA_args _ b hb

theorem V1'_q : V1' m d (rf main_v19) = qIn m d := by
  refine (after1_v19 d (V1 m) 1 _).trans ?_
  rw [V1_x, show V1 m d (rf main_v0) = wOf (F := F) (m (lc d main_arg5)) (m (lc d main_arg7)) from hostA_w _,
    show V1 m d (rf main_v2) = bOf (F := F) (m (lc d main_arg6)) (m (lc d main_arg8)) from hostA_b _]
  rfl
theorem V1'_x : V1' m d (rf main_v4) = xpOf (F := F) (m (lc d main_arg0)) := (after1_keeps d (V1 m) 1 _ main_v4 (by decide)).trans (V1_x m d)
theorem V1'_args : ∀ b ∈ args, V1' m d b = m (d, b) := by
  intro b hb
  refine Eq.trans ?_ (V1_args m d b hb)
  simp only [Finset.mem_insert, Finset.mem_singleton] at hb
  rcases hb with h | h | h | h | h | h | h | h | h <;> subst h <;> exact after1_keeps d (V1 m) 1 _ _ (by decide)

theorem V2_q : V2 m d (rf main_v19) = qIn m d := (hostB_keeps _ _ (by decide)).trans (V1'_q m d)
theorem V2_qt : V2 m d (rf main_v21) = qtOf (qIn m d) := (hostB_qt _).trans (by rw [V1'_q])
theorem V2_x : V2 m d (rf main_v4) = xpOf (F := F) (m (lc d main_arg0)) := (hostB_keeps _ _ (by decide)).trans (V1'_x m d)
theorem V2_args : ∀ b ∈ args, V2 m d b = m (d, b) := fun b hb =>
  (hostB_keeps _ b (Finset.mem_insert_of_mem (Finset.mem_insert_of_mem hb))).trans (V1'_args m d b hb)

theorem V2'_y : V2' m d (rf main_v22) = yOut m d := Function.update_self ..
theorem V2'_of (b : DevRef τ sig) (h : b ≠ rf main_v22) : V2' m d b = V2 m d b := Function.update_of_ne h ..

/-- What the run leaves of the nodes' features, -/
def nfOut : Vec F S5000x1280 .f32 := hidden (F := F) (yOut m d) (xpOf (F := F) (m (lc d main_arg0)))
/-- and of their maxima. -/
def gfOut : Vec F S1280 .f32 := shapeCast S1280 (maxAt (F := F) (yOut m d) (xpOf (F := F) (m (lc d main_arg0))) 5) shapeCasts_S1x1280_S1280

theorem V2'_x : V2' m d (rf main_v4) = xpOf (F := F) (m (lc d main_arg0)) := (V2'_of m d _ (by decide)).trans (V2_x m d)

theorem V4_args : ∀ b ∈ args, V4 m d b = m (d, b) := by
  intro b hb
  refine (hostC_keeps _ b (Finset.mem_insert_of_mem hb)).trans ?_
  refine Eq.trans ?_ (V2_args m d b hb)
  simp only [Finset.mem_insert, Finset.mem_singleton] at hb
  rcases hb with h | h | h | h | h | h | h | h | h <;> subst h <;>
    exact (after3_keeps d (V2' m) 2 _ _ (by decide) (by decide)).trans (V2'_of m d _ (by decide))
theorem V4_nf : V4 m d (rf main_v23_0) = nfOut m d := by
  refine (hostC_keeps _ _ (by decide)).trans ((after3_nf d (V2' m) 2 _).trans ?_)
  rw [V2'_y, V2'_x]
  rfl
theorem V4_gf : V4 m d (rf main_v24) = gfOut m d := by
  refine (hostC_gf _).trans ?_
  rw [show V3 m d (rf main_v23_1) = maxAt (F := F) (yOut m d) (xpOf (F := F) (m (lc d main_arg0))) 5 from
    (after3_gf d (V2' m) 2 _).trans (by rw [V2'_y, V2'_x])]
  rfl

end Cert.Proof.S2
-- ==== Proof.Tile.lean ====
/-
  The two kernels on every tile, as the launch asks for them.
-/
module

public import proofs.«01_k».proof.Proof.Pay

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

open Idealize.ShloMosaic.SparseCore.Cfg (ownBufs ownSems0)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A tile's coordinates. -/
def at0 (c : Fin (grid0.bound 0)) (s : Fin (grid0.bound 1)) : grid0.Coords :=
  fun | 0 => c | 1 => s | ⟨_ + 2, h⟩ => absurd h (Nat.not_lt.2 (Nat.le_add_left _ _))
def at1 (c : Fin (grid2.bound 0)) (s : Fin (grid2.bound 1)) : grid2.Coords :=
  fun | 0 => c | 1 => s | ⟨_ + 2, h⟩ => absurd h (Nat.not_lt.2 (Nat.le_add_left _ _))

theorem defs₀_first (c : Fin τ.nSC) (s : Fin τ.nSub) :
    defs₀ (F := F) (.scVector c s) 0 () = SparseCore.onTile hcore0 hsub0 (fun c s => S1.BS (F := F) (at0 c s)) ⟨⟩ c s := rfl
theorem defs₀_second (c : Fin τ.nSC) (s : Fin τ.nSub) :
    defs₀ (F := F) (.scVector c s) 2 () = SparseCore.onTile hcore2 hsub2 (fun c s => BS2 (F := F) (at1 c s)) ⟨⟩ c s := rfl

theorem obl_post {thr : Thread nD τ} {A B C : sProp 𝕄} {O : CellTallies nD τ sig (HIx 2)} {W : Waits sig (HIx 2)} {q : Fin 2} :
    iprop(A ∗ B ∗ C ∗ Ow (F := F) thr O W)
      ⊢ iprop(A ∗ B ∗ C ∗ ∃ W', ⌜∀ p ∈ W', p ∈ W ∨ p.2 = none ∨ p.2 = some q⌝ ∗ owes thr O W') := by
  unfold Ow
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ) (d : Dev nD)

theorem first_tile (L : grid0.Coords) (O : CellTallies nD τ sig (HIx 2)) (W : Waits sig (HIx 2)) (hO : ∀ g, O g none = 0) :
    iprop(levAts (K (F := F)).L (K (F := F)).lev ∗ emp ∗ Go0 m d (wid L) ∗ scopedBufs (tV d L) ∗ scopedSems0 (tV d L) ∗ owes (tV d L) O W)
      ⊢ wp frame (wpE (defs₀ (F := F)) 𝒱₀ (tV d L) none) Set.univ (S1.BS (F := F) L)
          (fun _ => iprop(Td0 m d (wid L) ∗ scopedBufs (tV d L) ∗ scopedSems0 (tV d L) ∗ Ow (F := F) (tV d L) O W)) := by
  rw [(K (F := F)).scopedBufs_V facts d (cV L) (jV L), SparseCore.Cfg.scopedSems0_V (Val := Elt F) d (cV L) (jV L)]
  have hin : Go0 m d (wid L) = S1.In1 (F := F) d L (sh (wid L)) (eIn m d) := rfl
  have hout : Td0 m d (wid L) = S1.Out1 (F := F) d L (sh (wid L)) (eIn m d) := rfl
  rw [hin, hout]
  iintro ⟨#Hlv, -, Hi, HB, HS, HO⟩
  ihave Hmw := (show levAts (K (F := F)).L (K (F := F)).lev ⊢ Transfers.MayWaits (tV d L) (none : HIx 2) O from
    (K (F := F)).mayWaits_none (thr := tV d L) hO) $$ Hlv
  ihave H := (scratch1 (F := F) d L) $$ [HB HS]
  · isplitl [HB] <;> iassumption
  icases H with ⟨Hs, Hback⟩
  ihave HO := (Ow_intro (F := F) (tV d L) O W) $$ HO
  ihave Hrun := (S1.body_run (F := F) d L (sh (wid L)) (eIn m d) O W) $$ [Hmw Hi Hs HO]
  · isplitl [Hmw]; · iexact Hmw
    isplitl [Hi]; · iexact Hi
    isplitl [Hs]; · iexact Hs
    iexact HO
  iapply (wp_wand frame _ _) $$ [Hrun]
  · iexact Hrun
  iintro %_ ⟨Hi, Hs, HO⟩
  ihave H := Hback $$ Hs
  icases H with ⟨HB, HS⟩
  isplitl [Hi]; · iexact Hi
  isplitl [HB]; · iexact HB
  isplitl [HS]; · iexact HS
  iexact HO

/-- What the proof asks of the launch memory: every row number the first kernel lists is one of the table's. -/
def RowsOK : Prop := ∀ (d : Dev nD) (w : ℕ), ∀ x ∈ S1.listG w (eIn m d), x.toNat < 40960

theorem second_tile (hm : RowsOK m) (L : grid2.Coords) (O : CellTallies nD τ sig (HIx 2)) (W : Waits sig (HIx 2)) (hO : ∀ g, O g none = 0) :
    iprop(levAts (K (F := F)).L (K (F := F)).lev ∗ emp ∗ Go1 m d (wid1 L) ∗ scopedBufs (tV1 d L) ∗ scopedSems0 (tV1 d L) ∗ owes (tV1 d L) O W)
      ⊢ wp frame (wpE (defs₀ (F := F)) 𝒱₀ (tV1 d L) none) Set.univ (BS2 (F := F) L)
          (fun _ => iprop(Td1 m d (wid1 L) ∗ scopedBufs (tV1 d L) ∗ scopedSems0 (tV1 d L) ∗ Ow (F := F) (tV1 d L) O W)) := by
  rw [(K (F := F)).scopedBufs_V facts d (cV1 L) (jV1 L), SparseCore.Cfg.scopedSems0_V (Val := Elt F) d (cV1 L) (jV1 L)]
  have hq : (lc d main_v19 ↦{sh (wid1 L)} (show Buf (Elt F) (lc d main_v19) from qIn m d) : sProp 𝕄) = (qM.view.loc (tV1 d L) ↦{sh (wid1 L)} (show Buf (Elt F) (qM.view.loc (tV1 d L)) from qIn m d)) := rfl
  have hqt : (lc d main_v21 ↦{sh (wid1 L)} (show Buf (Elt F) (lc d main_v21) from qtOf (qIn m d)) : sProp 𝕄)
      = (qtM.view.loc (tV1 d L) ↦{sh (wid1 L)} (show Buf (Elt F) (qtM.view.loc (tV1 d L)) from qtOf (qIn m d))) := rfl
  have hb : Buck m d (wid1 L) = Buckets (F := F) d L (eIn m d) := rfl
  have hy : iprop(∃ f : Buf (Elt F) (lc d main_v22), (lc d main_v22 ↦[yset (wid1 L)]{fullShare} f))
      = (iprop(∃ fy : Buf (Elt F) (yM.view.loc (tV1 d L)), (yM.view.loc (tV1 d L) ↦[yset (wid1 L)]{fullShare} fy)) : sProp 𝕄) := rfl
  unfold Go1 Td1 Rd1
  rw [hq, hqt, hb, hy]
  iintro ⟨#Hlv, -, ⟨⟨Hq, Hqt, Hbk⟩, Hy⟩, HB, HS, HO⟩
  ihave Hmw := (show levAts (K (F := F)).L (K (F := F)).lev ⊢ Transfers.MayWaits (tV1 d L) (none : HIx 2) O from
    (K (F := F)).mayWaits_none (thr := tV1 d L) hO) $$ Hlv
  ihave H := (scratch2 (F := F) d L) $$ [HB HS]
  · isplitl [HB] <;> iassumption
  icases H with ⟨Hs, Hback⟩
  ihave HO := (Ow_intro (F := F) (tV1 d L) O W) $$ HO
  ihave Hrun := (body_run (F := F) d L (sh (wid1 L)) (eIn m d) (qIn m d) (qtOf (qIn m d)) O W (hm d (wid1 L))) $$ [Hmw Hq Hqt Hbk Hy Hs HO]
  · isplitl [Hmw]; · iexact Hmw
    isplitl [Hq Hqt Hbk Hy]
    · isplitl [Hq]; · iexact Hq
      isplitl [Hqt]; · iexact Hqt
      isplitl [Hbk]; · iexact Hbk
      iexact Hy
    isplitl [Hs]; · iexact Hs
    iexact HO
  iapply (wp_wand frame _ _) $$ [Hrun]
  · iexact Hrun
  iintro %_ ⟨⟨Hq, Hqt, Hbk, ⟨%fy, %hfy, Hy⟩⟩, Hs, HO⟩
  ihave H := Hback $$ Hs
  icases H with ⟨HB, HS⟩
  isplitl [Hq Hqt Hbk Hy]
  · isplitr [Hy]
    · isplitl [Hq]; · iexact Hq
      isplitl [Hqt]; · iexact Hqt
      iexact Hbk
    have e : (lc d main_v22 ↦[yset (wid1 L)]{fullShare} (show Buf (Elt F) (lc d main_v22) from yOut m d) : sProp 𝕄)
        = (yM.view.loc (tV1 d L) ↦[yset (wid1 L)]{fullShare} fy) := pointsTo_congr fun x hx => (hfy x (mem_yset.1 hx)).symm
    rw [e]
    iexact Hy
  isplitl [HB]; · iexact HB
  isplitl [HS]; · iexact HS
  iexact HO

set_option maxRecDepth 16384 in
theorem first_obl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_first]; simp only [SparseCore.onTile, hci, and_self, ↓reduceDIte]
  exact (first_tile m d (at0 ⟨_, hci.1⟩ ⟨_, hci.2⟩) O W hO).trans (wp_mono frame _ _ fun _ => obl_post)

set_option maxRecDepth 16384 in
theorem second_obl (hm : RowsOK m) : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_second]; simp only [SparseCore.onTile, hci, and_self, ↓reduceDIte]
  exact (second_tile m d hm (at1 ⟨_, hci.1⟩ ⟨_, hci.2⟩) O W hO).trans (wp_mono frame _ _ fun _ => obl_post)

end Cert.Proof.S2
-- ==== Proof.Hand.lean ====
/-
  The arrays, dealt to the tiles and taken back.
-/
module

public import proofs.«01_k».proof.Proof.Tile

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

variable (m : (ℓ : Loc nD τ sig) → Buf (Elt F) ℓ) (d : Dev nD)

/-- The tiles of both cores, core by core, are the thirty-two tiles. -/
theorem cores (Φ : ℕ → sProp 𝕄) : (bigSep (Finset.univ : Finset (Fin 2)) fun c => Core Φ c.val) = bigSep (Finset.range 32) Φ := tiles Φ

/-- What the host gives the first kernel, dealt to the tiles. -/
theorem give0 (e : Buf (Elt F) (lc d main_v17)) (he : e = eIn m d) (f1 : Buf (Elt F) (lc d main_v18_0)) (f2 : Buf (Elt F) (lc d main_v18_1)) (f3 : Buf (Elt F) (lc d main_v18_2)) :
    iprop((lc d main_v17 ↦{fullShare} e) ∗ (lc d main_v18_0 ↦{fullShare} f1) ∗ (lc d main_v18_1 ↦{fullShare} f2) ∗ (lc d main_v18_2 ↦{fullShare} f3))
      ⊢ bigSep (Finset.range 32) (Go0 m d) := by
  subst he
  have e0 := shares (F := F) (show Buf (Elt F) (lc d main_v17) from eIn m d) 32
  have e1 := wrows (F := F) f1 S1.wrow 32 wrow_disj wrow_cover
  have e2 := wrows (F := F) f2 S1.wrow 32 wrow_disj wrow_cover
  have e3 := wrows (F := F) f3 S1.crow 32 crow_disj crow_cover
  have h : bigSep (Finset.range 32) (fun w => iprop((lc d main_v17 ↦{sh w} (show Buf (Elt F) (lc d main_v17) from eIn m d))
      ∗ (lc d main_v18_0 ↦[S1.wrow w]{fullShare} f1) ∗ (lc d main_v18_1 ↦[S1.wrow w]{fullShare} f2) ∗ (lc d main_v18_2 ↦[S1.crow w]{fullShare} f3)))
      ⊢ bigSep (Finset.range 32) (Go0 m d) := by
    have hw : ∀ w, iprop((lc d main_v17 ↦{sh w} (show Buf (Elt F) (lc d main_v17) from eIn m d))
        ∗ (lc d main_v18_0 ↦[S1.wrow w]{fullShare} f1) ∗ (lc d main_v18_1 ↦[S1.wrow w]{fullShare} f2) ∗ (lc d main_v18_2 ↦[S1.crow w]{fullShare} f3)) ⊢ Go0 m d w := by
      intro w
      unfold Go0
      iintro ⟨H0, H1, H2, H3⟩
      isplitl [H0]; · iexact H0
      isplitl [H1]; · iexists _; iexact H1
      isplitl [H2]; · iexists _; iexact H2
      iexists _; iexact H3
    exact bigSep_mono fun w _ => hw w
  rw [bigSep_sep', bigSep_sep', bigSep_sep'] at h
  suffices h0 : iprop((lc d main_v17 ↦{fullShare} (show Buf (Elt F) (lc d main_v17) from eIn m d)) ∗ (lc d main_v18_0 ↦{fullShare} f1) ∗ (lc d main_v18_1 ↦{fullShare} f2) ∗ (lc d main_v18_2 ↦{fullShare} f3))
      ⊢ iprop((bigSep (Finset.range 32) fun w => (lc d main_v17 ↦{sh w} (show Buf (Elt F) (lc d main_v17) from eIn m d)))
        ∗ (bigSep (Finset.range 32) fun w => (lc d main_v18_0 ↦[S1.wrow w]{fullShare} f1)) ∗ (bigSep (Finset.range 32) fun w => (lc d main_v18_1 ↦[S1.wrow w]{fullShare} f2))
        ∗ (bigSep (Finset.range 32) fun w => (lc d main_v18_2 ↦[S1.crow w]{fullShare} f3))) from BI.Entails.trans h0 h
  iintro ⟨H0, H1, H2, H3⟩
  ihave H0' := (Entails.of_eq e0) $$ H0
  icases H0' with ⟨H0, -⟩
  isplitl [H0]; · iexact H0
  isplitl [H1]; · iapply (Entails.of_eq e1) $$ [H1]; iexact H1
  isplitl [H2]; · iapply (Entails.of_eq e2) $$ [H2]; iexact H2
  iapply (Entails.of_eq e3) $$ [H3]; iexact H3

/-- What the first kernel leaves: every tile's lists and count. -/
theorem take0 : bigSep (Finset.range 32) (Td0 m d) ⊢ bigSep (Finset.range 32) (Buck m d) := by
  have hw : ∀ w, Td0 m d w ⊢ Buck m d w := by
    intro w
    unfold Td0
    iintro ⟨-, H⟩
    iexact H
  exact bigSep_mono fun w _ => hw w

/-- What the host keeps of the rows while the second kernel runs. -/
def Kept : sProp 𝕄 := (lc d main_v19 ↦{rest 32} (show Buf (Elt F) (lc d main_v19) from qIn m d))

/-- What the second kernel is given, dealt to the tiles. -/
theorem give1 (q : Buf (Elt F) (lc d main_v19)) (hq : q = (show Buf (Elt F) (lc d main_v19) from qIn m d)) (qt : Buf (Elt F) (lc d main_v21)) (hqt : qt = qtOf (qIn m d)) (f : Buf (Elt F) (lc d main_v22)) :
    iprop((lc d main_v19 ↦{fullShare} q) ∗ (lc d main_v21 ↦{fullShare} qt) ∗ (lc d main_v22 ↦{fullShare} f) ∗ bigSep (Finset.range 32) (Buck m d))
      ⊢ iprop(bigSep (Finset.range 32) (Go1 m d) ∗ Kept m d) := by
  subst hq; subst hqt
  have e0 := shares (F := F) ((show Buf (Elt F) (lc d main_v19) from qIn m d)) 32
  have e1 := shares (F := F) (show Buf (Elt F) (lc d main_v21) from qtOf (qIn m d)) 32
  have e2 := wrows (F := F) f S2.yset 32 yset_disj yset_cover
  have h : bigSep (Finset.range 32) (fun w => iprop((lc d main_v19 ↦{sh w} (show Buf (Elt F) (lc d main_v19) from qIn m d)) ∗ (lc d main_v21 ↦{sh w} (show Buf (Elt F) (lc d main_v21) from qtOf (qIn m d)))
      ∗ Buck m d w ∗ (lc d main_v22 ↦[yset w]{fullShare} f)))
      ⊢ bigSep (Finset.range 32) (Go1 m d) := by
    have hw : ∀ w, iprop((lc d main_v19 ↦{sh w} (show Buf (Elt F) (lc d main_v19) from qIn m d)) ∗ (lc d main_v21 ↦{sh w} (show Buf (Elt F) (lc d main_v21) from qtOf (qIn m d)))
        ∗ Buck m d w ∗ (lc d main_v22 ↦[yset w]{fullShare} f)) ⊢ Go1 m d w := by
      intro w
      unfold Go1 Rd1
      iintro ⟨H0, H1, H2, H3⟩
      isplitl [H0 H1 H2]
      · isplitl [H0]; · iexact H0
        isplitl [H1]; · iexact H1
        iexact H2
      iexists _; iexact H3
    exact bigSep_mono fun w _ => hw w
  rw [bigSep_sep', bigSep_sep', bigSep_sep'] at h
  have hh : iprop(((bigSep (Finset.range 32) fun w => (lc d main_v19 ↦{sh w} (show Buf (Elt F) (lc d main_v19) from qIn m d)))
      ∗ (bigSep (Finset.range 32) fun w => (lc d main_v21 ↦{sh w} (show Buf (Elt F) (lc d main_v21) from qtOf (qIn m d))))
      ∗ (bigSep (Finset.range 32) fun w => Buck m d w) ∗ (bigSep (Finset.range 32) fun w => (lc d main_v22 ↦[yset w]{fullShare} f))) ∗ Kept m d)
      ⊢ iprop(bigSep (Finset.range 32) (Go1 m d) ∗ Kept m d) := sep_mono_left h
  suffices h0 : iprop((lc d main_v19 ↦{fullShare} (show Buf (Elt F) (lc d main_v19) from qIn m d)) ∗ (lc d main_v21 ↦{fullShare} (show Buf (Elt F) (lc d main_v21) from qtOf (qIn m d))) ∗ (lc d main_v22 ↦{fullShare} f) ∗ bigSep (Finset.range 32) (Buck m d))
      ⊢ iprop(((bigSep (Finset.range 32) fun w => (lc d main_v19 ↦{sh w} (show Buf (Elt F) (lc d main_v19) from qIn m d)))
      ∗ (bigSep (Finset.range 32) fun w => (lc d main_v21 ↦{sh w} (show Buf (Elt F) (lc d main_v21) from qtOf (qIn m d))))
      ∗ (bigSep (Finset.range 32) fun w => Buck m d w) ∗ (bigSep (Finset.range 32) fun w => (lc d main_v22 ↦[yset w]{fullShare} f))) ∗ Kept m d) from BI.Entails.trans h0 hh
  iintro ⟨H0, H1, H2, HB⟩
  ihave H0' := (Entails.of_eq e0) $$ H0
  ihave H1' := (Entails.of_eq e1) $$ H1
  icases H0' with ⟨H0, HK⟩
  icases H1' with ⟨H1, -⟩
  isplitr [HK]
  · isplitl [H0]; · iexact H0
    isplitl [H1]; · iexact H1
    isplitl [HB]; · iexact HB
    iapply (Entails.of_eq e2) $$ [H2]; iexact H2
  unfold Kept
  iexact HK

/-- What the second kernel leaves: the rows unchanged and the result. -/
theorem take1 : iprop(bigSep (Finset.range 32) (Td1 m d) ∗ Kept m d)
    ⊢ iprop((lc d main_v19 ↦{fullShare} (show Buf (Elt F) (lc d main_v19) from qIn m d)) ∗ (lc d main_v22 ↦{fullShare} (show Buf (Elt F) (lc d main_v22) from yOut m d))) := by
  have e0 := shares (F := F) ((show Buf (Elt F) (lc d main_v19) from qIn m d)) 32
  have e2 := wrows (F := F) (show Buf (Elt F) (lc d main_v22) from yOut m d) S2.yset 32 yset_disj yset_cover
  have h : bigSep (Finset.range 32) (Td1 m d) ⊢ bigSep (Finset.range 32) (fun w => iprop((lc d main_v19 ↦{sh w} (show Buf (Elt F) (lc d main_v19) from qIn m d))
      ∗ (lc d main_v22 ↦[yset w]{fullShare} (show Buf (Elt F) (lc d main_v22) from yOut m d)))) := by
    have hw : ∀ w, Td1 m d w ⊢ iprop((lc d main_v19 ↦{sh w} (show Buf (Elt F) (lc d main_v19) from qIn m d))
        ∗ (lc d main_v22 ↦[yset w]{fullShare} (show Buf (Elt F) (lc d main_v22) from yOut m d))) := by
      intro w
      unfold Td1 Rd1
      iintro ⟨⟨H0, -⟩, H3⟩
      isplitl [H0]; · iexact H0
      iexact H3
    exact bigSep_mono fun w _ => hw w
  rw [bigSep_sep'] at h
  have hh : iprop(bigSep (Finset.range 32) (Td1 m d) ∗ Kept m d) ⊢ iprop(((bigSep (Finset.range 32) fun w => (lc d main_v19 ↦{sh w} (show Buf (Elt F) (lc d main_v19) from qIn m d)))
      ∗ (bigSep (Finset.range 32) fun w => (lc d main_v22 ↦[yset w]{fullShare} (show Buf (Elt F) (lc d main_v22) from yOut m d)))) ∗ Kept m d) := sep_mono_left h
  suffices h0 : iprop(((bigSep (Finset.range 32) fun w => (lc d main_v19 ↦{sh w} (show Buf (Elt F) (lc d main_v19) from qIn m d)))
      ∗ (bigSep (Finset.range 32) fun w => (lc d main_v22 ↦[yset w]{fullShare} (show Buf (Elt F) (lc d main_v22) from yOut m d)))) ∗ Kept m d)
      ⊢ iprop((lc d main_v19 ↦{fullShare} (show Buf (Elt F) (lc d main_v19) from qIn m d)) ∗ (lc d main_v22 ↦{fullShare} (show Buf (Elt F) (lc d main_v22) from yOut m d))) from BI.Entails.trans hh h0
  unfold Kept
  iintro ⟨⟨H0, H3⟩, HK⟩
  isplitl [H0 HK]
  · iapply (Entails.of_eq e0.symm) $$ [H0 HK]
    isplitl [H0]; · iexact H0
    iexact HK
  iapply (Entails.of_eq e2.symm) $$ [H3]; iexact H3

end Cert.Proof.S2
-- ==== Proof.Main.lean ====
/-
  The host's thread and the whole run.
-/
module

public import proofs.«01_k».proof.Proof.Vals
public import proofs.«01_k».proof.Proof.Hand
public import Idealize.ShloMosaic.Lib.SparseCore.Quiescent

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

open Idealize.ShloMosaic.StableHlo (seq after held wp_seq held_sub_split)
open Idealize.ShloMosaic.SparseCore.Cfg (Pay)

variable (m : (ℓ : Loc nD τ sig) → Buf (Elt F) ℓ) (ρ : Dev nD → PrngReg) (d : Dev nD)

/-- The arrays of the SparseCores' first call, -/
abbrev S0 : Finset (DevRef τ sig) := {rf main_v17, rf main_v18_0, rf main_v18_1, rf main_v18_2}
/-- those the host keeps beside them, -/
abbrev SA : Finset (DevRef τ sig) := U \ S0
/-- those of the SparseCores' second call -/
abbrev S1' : Finset (DevRef τ sig) := {rf main_v19, rf main_v21, rf main_v22}
/-- and those the host has after it. -/
abbrev SB : Finset (DevRef τ sig) := insert (rf main_v22) (SA \ S1')

theorem mem_SA (b : Ref sig .tc) (h : (rf b).isScoped = false) (h' : rf b ∉ S0) : rf b ∈ SA := Finset.mem_sdiff.2 ⟨mem_U b h, h'⟩
theorem mem_SB (b : Ref sig .tc) (h : (rf b).isScoped = false) (h' : rf b ∉ S0) (h'' : rf b ∉ S1') : rf b ∈ SB :=
  Finset.mem_insert_of_mem (Finset.mem_sdiff.2 ⟨mem_SA b h h', h''⟩)

theorem S0_sub : S0 ⊆ U := by
  intro b hb
  simp only [Finset.mem_insert, Finset.mem_singleton] at hb
  rcases hb with h | h | h | h <;> subst h <;> exact mem_U _ rfl
theorem S1_sub : S1' ⊆ SA := by
  intro b hb
  simp only [Finset.mem_insert, Finset.mem_singleton] at hb
  rcases hb with h | h | h <;> subst h <;> exact mem_SA _ rfl (by decide)
theorem args_sub : args ⊆ SB := by
  intro b hb
  simp only [Finset.mem_insert, Finset.mem_singleton] at hb
  rcases hb with h | h | h | h | h | h | h | h | h <;> subst h <;> exact mem_SB _ rfl (by decide) (by decide)

theorem bufs_B : ∀ op ∈ hostB (F := F), op.bufs ⊆ SA := by
  intro op h b hb
  unfold hostB at h
  fin_cases h
  · simp only [StableHlo.reshape_bufs, Finset.mem_insert, Finset.mem_singleton] at hb
    rcases hb with h | h <;> subst h <;> exact mem_SA _ rfl (by decide)
  · simp only [StableHlo.unary_bufs, Finset.mem_insert, Finset.mem_singleton] at hb
    rcases hb with h | h <;> subst h <;> exact mem_SA _ rfl (by decide)
theorem bufs_C : ∀ op ∈ hostC (F := F), op.bufs ⊆ SB := by
  intro op h b hb
  unfold hostC at h
  fin_cases h
  simp only [StableHlo.reshape_bufs, Finset.mem_insert, Finset.mem_singleton] at hb
  rcases hb with h | h <;> subst h <;> exact mem_SB _ rfl (by decide) (by decide)

theorem arr1_sub : Pipeline.arrRefs (pcfgs (F := F) 0).spec ⊆ SA := by
  intro b hb
  obtain ⟨r, hr, rfl⟩ := Finset.mem_map.1 hb
  obtain ⟨w, -, rfl⟩ := Finset.mem_image.1 hr
  exact (show ∀ w : Fin 4, rf (Pipeline.arrRef spec1 w) ∈ SA from fun w => match w with
    | 0 => mem_SA main_v4 rfl (by decide)
    | 1 => mem_SA main_v0 rfl (by decide)
    | 2 => mem_SA main_v2 rfl (by decide)
    | 3 => mem_SA main_v19 rfl (by decide)) w
theorem arr3_sub : Pipeline.arrRefs (pcfgs (F := F) 1).spec ⊆ SB := by
  intro b hb
  obtain ⟨r, hr, rfl⟩ := Finset.mem_map.1 hb
  obtain ⟨w, -, rfl⟩ := Finset.mem_image.1 hr
  exact (show ∀ w : Fin 4, rf (Pipeline.arrRef spec3 w) ∈ SB from fun w => match w with
    | 0 => Finset.mem_insert_self _ _
    | 1 => mem_SB main_v4 rfl (by decide) (by decide)
    | 2 => mem_SB main_v23_0 rfl (by decide) (by decide)
    | 3 => mem_SB main_v23_1 rfl (by decide) (by decide)) w

theorem held4 {a b c e : DevRef τ sig} (hn : a ∉ ({b, c, e} : Finset _)) (hn' : b ∉ ({c, e} : Finset _)) (hn'' : c ∉ ({e} : Finset _)) (V : Valuation τ sig (Elt F)) :
    (held (SparseCore.T d) {a, b, c, e} V : sProp 𝕄)
      = iprop((((d, a) : Loc nD τ sig) ↦{fullShare} V a) ∗ (((d, b) : Loc nD τ sig) ↦{fullShare} V b) ∗ (((d, c) : Loc nD τ sig) ↦{fullShare} V c) ∗ (((d, e) : Loc nD τ sig) ↦{fullShare} V e)) := by
  unfold held
  rw [SparseCore.bigSep_insert' hn, SparseCore.bigSep_insert' hn', SparseCore.bigSep_insert' hn'', bigSep_singleton]
theorem held3 {a b c : DevRef τ sig} (hn : a ∉ ({b, c} : Finset _)) (hn' : b ∉ ({c} : Finset _)) (V : Valuation τ sig (Elt F)) :
    (held (SparseCore.T d) {a, b, c} V : sProp 𝕄)
      = iprop((((d, a) : Loc nD τ sig) ↦{fullShare} V a) ∗ (((d, b) : Loc nD τ sig) ↦{fullShare} V b) ∗ (((d, c) : Loc nD τ sig) ↦{fullShare} V c)) := by
  unfold held
  rw [SparseCore.bigSep_insert' hn, SparseCore.bigSep_insert' hn', bigSep_singleton]

/-- The arrays after the first stretch: those the first kernel takes, dealt, and the rest. -/
theorem split0 : (held (SparseCore.T d) U (V1 m d) : sProp 𝕄) ⊢ iprop((bigSep Finset.univ fun c => (P m).st 0 d c) ∗ held (SparseCore.T d) SA (V1 m d)) := by
  have h : (held (SparseCore.T d) S0 (V1 m d) : sProp 𝕄) ⊢ bigSep Finset.univ fun c => (P m).st 0 d c := by
    rw [held4 d (by decide) (by decide) (by decide)]
    refine BI.Entails.trans (give0 m d _ (V1_ep m d) _ _ _) ?_
    exact Entails.of_eq (cores (Go0 m d)).symm
  rw [held_sub_split (SparseCore.T d) S0_sub]
  exact sep_mono_left h

theorem back0 : (bigSep Finset.univ fun c => (P m).dn 0 d c) ⊢ bigSep (Finset.range 32) (Buck m d) :=
  BI.Entails.trans (Entails.of_eq (cores (Td0 m d))) (take0 m d)

/-- What the host keeps while the second kernel runs. -/
def Rest : sProp 𝕄 := iprop(Kept m d ∗ held (SparseCore.T d) (SA \ S1') (V2 m d))

theorem split1 : iprop(held (SparseCore.T d) SA (V2 m d) ∗ bigSep (Finset.range 32) (Buck m d))
    ⊢ iprop((bigSep Finset.univ fun c => (P m).st 1 d c) ∗ Rest m d) := by
  have hc : bigSep (Finset.range 32) (Go1 m d) = bigSep Finset.univ fun c => (P m).st 1 d c := (cores (Go1 m d)).symm
  have hg := give1 m d _ (V2_q m d) _ (V2_qt m d) (V2 m d (rf main_v22))
  rw [hc] at hg
  rw [held_sub_split (SparseCore.T d) S1_sub, held3 d (by decide) (by decide)]
  unfold Rest
  iintro ⟨⟨⟨H0, Hqt, Hy⟩, Hr⟩, HB⟩
  ihave H := hg $$ [H0 Hqt Hy HB]
  · isplitl [H0]; · iexact H0
    isplitl [Hqt]; · iexact Hqt
    isplitl [Hy]; · iexact Hy
    iexact HB
  icases H with ⟨Hst, HK⟩
  isplitl [Hst]; · iexact Hst
  isplitl [HK]; · iexact HK
  iexact Hr

theorem back1 : iprop((bigSep Finset.univ fun c => (P m).dn 1 d c) ∗ Rest m d) ⊢ held (SparseCore.T d) SB (V2' m d) := by
  have hc : (bigSep Finset.univ fun c => (P m).dn 1 d c) = bigSep (Finset.range 32) (Td1 m d) := cores (Td1 m d)
  have hn : rf main_v22 ∉ SA \ S1' := fun h => (Finset.mem_sdiff.1 h).2 (by decide)
  have hh : (held (SparseCore.T d) SB (V2' m d) : sProp 𝕄)
      = iprop((lc d main_v22 ↦{fullShare} (show Buf (Elt F) (lc d main_v22) from yOut m d)) ∗ held (SparseCore.T d) (SA \ S1') (V2 m d)) := by
    have e1 : (held (SparseCore.T d) (SA \ S1') (V2' m d) : sProp 𝕄) = held (SparseCore.T d) (SA \ S1') (V2 m d) :=
      StableHlo.held_congr (SparseCore.T d) fun b hb => V2'_of m d b fun h => hn (h ▸ hb)
    rw [← e1]
    have e2 : (held (SparseCore.T d) SB (V2' m d) : sProp 𝕄)
        = iprop((((d, rf main_v22) : Loc nD τ sig) ↦{fullShare} V2' m d (rf main_v22)) ∗ held (SparseCore.T d) (SA \ S1') (V2' m d)) := by
      unfold held
      exact SparseCore.bigSep_insert' hn
    rw [e2, V2'_y]
  rw [hc, hh]
  unfold Rest
  iintro ⟨HT, HK, Hr⟩
  ihave H := take1 m d $$ [HT HK]
  · isplitl [HT]; · iexact HT
    iexact HK
  icases H with ⟨-, Hy⟩
  isplitl [Hy]; · iexact Hy
  iexact Hr

/-- What the run leaves. -/
def FIN : sProp 𝕄 := held (SparseCore.T d) SB (V4 m d)

/-- What the TensorCore's two calls are given of the pipelines' state. -/
def GG : sProp 𝕄 := bigSep Finset.univ fun p : Fin 2 => iprop(Pipeline.cellsGhost cfgs (EP (F := F)) p d ∗ Pipeline.toksInit cfgs (EP (F := F)) p d)

theorem GG_eq : GG (F := F) d = iprop((Pipeline.cellsGhost cfgs (EP (F := F)) 0 d ∗ Pipeline.toksInit cfgs (EP (F := F)) 0 d)
    ∗ (Pipeline.cellsGhost cfgs (EP (F := F)) 1 d ∗ Pipeline.toksInit cfgs (EP (F := F)) 1 d)) :=
  bigSep_univ_eq_bigSepL [(0 : Fin 2), (1 : Fin 2)] (by decide) (by decide) _

theorem in0 : iprop(held (SparseCore.T d) SA (V1 m d) ∗ Owed (F := F) d ((K (F := F)).Otc d 1) (bnd F 1)) ⊢ (reg0 (V1 m) 1 (bnd F 1) SA arr1_sub).pre d := Entails.of_eq rfl
theorem out0 : (reg0 (V1 m) 1 (bnd F 1) SA arr1_sub).post d ⊢ iprop(held (SparseCore.T d) SA (V1' m d) ∗ Owed (F := F) d ((K (F := F)).Otc d 1) (bnd F 1)) := Entails.of_eq rfl
theorem in1 : iprop(held (SparseCore.T d) SB (V2' m d) ∗ Owed (F := F) d ((K (F := F)).Otc d 2) (bnd F 2)) ⊢ (reg1 (V2' m) 2 (bnd F 2) SB arr3_sub).pre d := Entails.of_eq rfl
theorem out1' : (reg1 (V2' m) 2 (bnd F 2) SB arr3_sub).post d ⊢ iprop(held (SparseCore.T d) SB (V3 m d) ∗ Owed (F := F) d ((K (F := F)).Otc d 2) (bnd F 2)) := Entails.of_eq rfl

/-! ## The host's thread -/

variable [∀ e, Nonempty (Elt F e)]

theorem hmain (κ : GSem nD τ sig → ℕ) (d : Dev nD) :
    iprop((K (F := F)).ctx EH (P m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  have hu : (unscopedBufs d (fun b => m ((SparseCore.T d).loc b)) : sProp 𝕄) = held (SparseCore.T d) U (V0 m d) := Pipeline.unscopedBufs_held d (V0 m d)
  have t1 : (K (F := F)).tcSt EH d ((0 : Fin 2).val + 1) ⊢ iprop(Owed (F := F) d ((K (F := F)).Otc d 1) (bnd F 1) ∗ TcRest 1 d) := Entails.of_eq (tc_split 1 d)
  have t1' : iprop(Owed (F := F) d ((K (F := F)).Otc d 1) (bnd F 1) ∗ TcRest 1 d) ⊢ (K (F := F)).tcSt EH d (1 : Fin 2).val := Entails.of_eq (tc_split 1 d).symm
  have t2 : (K (F := F)).tcSt EH d ((1 : Fin 2).val + 1) ⊢ iprop(Owed (F := F) d ((K (F := F)).Otc d 2) (bnd F 2) ∗ TcRest 2 d) := Entails.of_eq (tc_split 2 d)
  have t2' : iprop(Owed (F := F) d ((K (F := F)).Otc d 2) (bnd F 2) ∗ TcRest 2 d) ⊢ (K (F := F)).tcSt EH d 2 := Entails.of_eq (tc_split 2 d).symm
  rw [hu, main_eq, GG_eq]
  iintro ⟨#Hctx, Hst, ⟨Hb, Hheld, Hts, -⟩, HG0, HG1⟩
  ihave #HL := (SparseCore.Cfg.ctx_levAts κ) $$ Hctx
  iapply (wp_seq 𝒱 none Set.univ d U _ hostA bufs_A fresh_A (V0 m d)) $$ [Hb Hheld]
  · isplitl [Hb]; · iexact Hb
    iexact Hheld
  iintro ⟨Hb, Hheld⟩
  ihave H := split0 m d $$ [Hheld]
  · iexact Hheld
  icases H with ⟨Hgo, Hheld⟩
  iapply (Entails.of_eq (wp_bind _ _ _ _ _ _).symm) $$ [Hst Hgo Hb Hheld Hts HG0 HG1]
  iapply ((K (F := F)).wp_run (D (F := F)) 𝒱 (EH := EH) (P := P m) κ d 0) $$ [Hst Hgo Hb Hheld Hts HG0 HG1]
  isplitr; · iexact Hctx
  isplitl [Hst]; · iexact Hst
  isplitl [Hgo]; · iexact Hgo
  iintro ⟨Hst, Hdn⟩
  ihave HB := back0 m d $$ [Hdn]
  · iexact Hdn
  ihave H := t1 $$ [Hst]
  · iexact Hst
  icases H with ⟨HO, Hst⟩
  -- the first call of the TensorCore
  iapply (Entails.of_eq (wp_bind _ _ _ _ _ _).symm) $$ [HO Hst HB Hb Hheld Hts HG0 HG1]
  iapply (wp_call (V1 m) 1 (bnd F 1) 0 d _ _ (reg0 (V1 m) 1 (bnd F 1) SA arr1_sub) (in0 m d) (out0 m d)) $$ [HO Hst HB Hb Hheld Hts HG0 HG1]
  isplitr; · iexact HL
  isplitl [Hb]; · iexact Hb
  isplitl [Hheld HO]
  · isplitl [Hheld]; · iexact Hheld
    iexact HO
  isplitl [HG0]; · iexact HG0
  iintro ⟨Hb, Hheld, HO⟩
  ihave Hst := t1' $$ [HO Hst]
  · isplitl [HO]; · iexact HO
    iexact Hst
  iapply (wp_seq 𝒱 none Set.univ d SA _ hostB bufs_B fresh_B (V1' m d)) $$ [Hb Hheld]
  · isplitl [Hb]; · iexact Hb
    iexact Hheld
  iintro ⟨Hb, Hheld⟩
  ihave H := split1 m d $$ [Hheld HB]
  · isplitl [Hheld]; · iexact Hheld
    iexact HB
  icases H with ⟨Hgo, HR⟩
  iapply (Entails.of_eq (wp_bind _ _ _ _ _ _).symm) $$ [Hst Hgo Hb HR Hts HG1]
  iapply ((K (F := F)).wp_run (D (F := F)) 𝒱 (EH := EH) (P := P m) κ d 1) $$ [Hst Hgo Hb HR Hts HG1]
  isplitr; · iexact Hctx
  isplitl [Hst]; · iexact Hst
  isplitl [Hgo]; · iexact Hgo
  iintro ⟨Hst, Hdn⟩
  ihave Hheld := back1 m d $$ [Hdn HR]
  · isplitl [Hdn]; · iexact Hdn
    iexact HR
  ihave H := t2 $$ [Hst]
  · iexact Hst
  icases H with ⟨HO, Hst⟩
  -- and the second
  iapply (Entails.of_eq (wp_bind _ _ _ _ _ _).symm) $$ [HO Hst Hb Hheld Hts HG1]
  iapply (wp_call (V2' m) 2 (bnd F 2) 1 d _ _ (reg1 (V2' m) 2 (bnd F 2) SB arr3_sub) (in1 m d) (out1' m d)) $$ [HO Hst Hb Hheld Hts HG1]
  isplitr; · iexact HL
  isplitl [Hb]; · iexact Hb
  isplitl [Hheld HO]
  · isplitl [Hheld]; · iexact Hheld
    iexact HO
  isplitl [HG1]; · iexact HG1
  iintro ⟨Hb, Hheld, HO⟩
  ihave Hst := t2' $$ [HO Hst]
  · isplitl [HO]; · iexact HO
    iexact Hst
  iapply (wp_seq 𝒱 none Set.univ d SB _ hostC bufs_C fresh_C (V3 m d)) $$ [Hb Hheld]
  · isplitl [Hb]; · iexact Hb
    iexact Hheld
  iintro ⟨Hb, Hheld⟩
  rw [wp_pure]
  imodintro
  isplitl [Hst]; · iexact Hst
  isplitl [Hheld]; · unfold FIN; iexact Hheld
  isplitl [Hb] <;> iassumption

/-! ## The whole run -/

omit [∀ e, Nonempty (Elt F e)]

def fq (d : Dev nD) (s' : Phys nD τ sig (Elt F)) : Prop := ∀ b ∈ SB, s'.mem.mem (d, b) = V4 m d b

/-- A buffer held whole is what the memory has there. -/
theorem reads {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr [HSI]
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  have one : ∀ b ∈ SB, iprop(FIN m d ∗ SI s') ⊢ (⌜s'.mem.mem (d, b) = V4 m d b⌝ : sProp 𝕄) := by
    intro b hb
    have e : (held (SparseCore.T d) {b} (V4 m d) : sProp 𝕄) = (((d, b) : Loc nD τ sig) ↦{fullShare} V4 m d b) := by
      unfold held
      rw [bigSep_singleton]
    unfold FIN
    rw [held_sub_split (SparseCore.T d) (Finset.singleton_subset_iff.2 hb), e]
    iintro ⟨⟨H, -⟩, HSI⟩
    ihave H := reads _ s' $$ [H HSI]
    · isplitl [H]; · iexact H
      iexact HSI
    icases H with ⟨%h, -⟩
    ipureintro
    exact h
  by_cases h : fq m d s'
  · iintro -
    ipureintro
    exact h
  · unfold fq at h
    push Not at h
    obtain ⟨b, hb, hne⟩ := h
    have h1 := one b hb
    iintro H
    ihave H := h1 $$ H
    icases H with %h
    exact absurd h hne

theorem own_ep {a : UP} : (BI.own (((Emb.inl : Emb UP (UP × Counters)).trans (embR : Emb (UP × Counters) 𝕄)) a) : sProp 𝕄) = BI.own ((EP (F := F)) a) := by
  unfold EP embR
  rfl

/-- The ghost state of the launch: the handshakes', the pipelines' and no counter's. -/
def u₀ : UU := (initOf (K (F := F)).hsCells (K (F := F)).hsToks, (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 2 => (P m).x q thr) := by
  have e2 : (bigSep Finset.univ fun thr : Thread nD τ => bigSep Finset.univ fun q : Fin 2 => (P (F := F) m).x q thr) = (iprop(emp) : sProp 𝕄) := by
    have e : ∀ thr : Thread nD τ, (bigSep Finset.univ fun q : Fin 2 => (P (F := F) m).x q thr) = (iprop(emp) : sProp 𝕄) := fun _ => bigSep_emp_const _
    rw [show (fun thr : Thread nD τ => bigSep Finset.univ fun q : Fin 2 => (P (F := F) m).x q thr) = fun _ => (iprop(emp) : sProp 𝕄) from funext e]
    exact bigSep_emp_const _
  have e1 : (bigSep Finset.univ fun d : Dev nD => GG (F := F) d)
      = iprop((bigSep Finset.univ fun c : Dev nD => bigSep Finset.univ fun p => Pipeline.cellsGhost cfgs (EP (F := F)) p c)
        ∗ (bigSep Finset.univ fun c : Dev nD => bigSep Finset.univ fun p => Pipeline.toksInit cfgs (EP (F := F)) p c)) := by
    unfold GG
    simp only [bigSep_sep']
  have hg : (BI.own ((EP (F := F)) (initOf (Pipeline.cells cfgs cellOf_inj) (Pipeline.launchToks cfgs cellOf_inj))) : sProp 𝕄)
      ⊢ iprop(|==> (bigSep Finset.univ fun d : Dev nD => GG (F := F) d)) := by
    rw [e1]
    exact Pipeline.fund_ghost cfgs (EP (F := F)) cellOf_inj
  have hp : (BI.own ((embR : Emb (UP × Counters) 𝕄) (initOf (Pipeline.cells cfgs cellOf_inj) (Pipeline.launchToks cfgs cellOf_inj), (1 : Counters))) : sProp 𝕄)
      ⊢ BI.own ((EP (F := F)) (initOf (Pipeline.cells cfgs cellOf_inj) (Pipeline.launchToks cfgs cellOf_inj))) :=
    by
    iintro H
    ihave H := (own_pair_emb (embR : Emb (UP × Counters) 𝕄) (initOf (Pipeline.cells cfgs cellOf_inj) (Pipeline.launchToks cfgs cellOf_inj)) (1 : Counters)) $$ H
    icases H with ⟨H, -⟩
    iapply (Entails.of_eq own_ep)
    iexact H
  rw [e2]
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HP⟩
  ihave HP := hp $$ HP
  imod hg $$ HP with HP
  imodintro
  isplitl [HH]; · iexact HH
  isplitl [HP]; · iexact HP
  iempintro

def QC : PUnit × MemSt nD τ sig (Elt F) → Prop := fun r =>
  (∀ c : Dev nD, (∀ b ∈ args, r.2.mem (c, b) = m (c, b)) ∧ r.2.mem (lc c main_v23_0) = (show Buf (Elt F) (lc c main_v23_0) from nfOut m c)
    ∧ r.2.mem (lc c main_v24) = (show Buf (Elt F) (lc c main_v24) from gfOut m c)) ∧ r.2.sem = fun _ => 0

theorem hQ (s' : Phys nD τ sig (Elt F)) (h : ∀ d, fq m d s') (hz : s'.mem.sem = fun _ => 0) : QC m (⟨⟩, s'.mem) :=
  ⟨fun c => ⟨fun b hb => (h c b (args_sub hb)).trans (V4_args m c b hb), (h c _ (mem_SB main_v23_0 rfl (by decide) (by decide))).trans (V4_nf m c),
    (h c _ (mem_SB main_v24 rfl (by decide) (by decide))).trans (V4_gf m c)⟩, hz⟩

/-- The whole run, over any float values: where every gathered row exists it ends with the arguments as they were, the two results
    at their values and every counter at zero. -/
theorem run_main [∀ e, Nonempty (Elt F e)] (hm : RowsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => first_obl m | 1 => second_obl m hm)
    (fun q _ => SparseCore.Cfg.VecSplit.of_plain (vecSplit m q))
    m ρ main (fun d => GG d) (FIN m) (u₀ (F := F)) (sep_elim_left.trans (hu₀ m)) (hmain m ρ) (fq m) (hfin m) (QC m) (fun s' h hz => hQ m s' h hz)

end Cert.Proof.S2
-- ==== Proof.Ep.lean ====
/-
  The table of edges and the regrouped rows, read word by word.
-/
module

public import proofs.«01_k».proof.Proof.Pay
public import Idealize.ShloMosaic.Lib.Pipeline.Value

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

open Cert.Proof.Compact (at1)

/-- Word `i` of the padded list: the list's own word, or the constant past its end. -/
theorem padded_at (a : Vec F S50000 .i32) (k : BitVec 32) (i : ℕ) (hi : i < 50176) :
    (padded (F := F) a k : S50176.Idx → BitVec 32) (ix1 i hi) = if h : i < 50000 then (a : S50000.Idx → BitVec 32) (ix1 i h) else k := by
  unfold padded
  by_cases h : i < 50000
  · rw [dif_pos h]
    exact concatenate_pair_apply_left (0 : Fin S50176.rank) (a : S50000.Idx → BitVec 32) _ _ (ix1 i hi) rfl (ix1 i h) (fun b => rfl)
  · rw [dif_neg h]
    refine (concatenate_apply_piece (0 : Fin S50176.rank) _ _ (ix1 i hi) 1 (by simp) S176 _ rfl rfl 50000 (by simp) (ix1 (i - 50000) (by omega)) ?_ ?_).trans ?_
    · intro b hb; exact absurd (Fin.eq_zero _) hb
    · show 50000 + (i - 50000) = i; omega
    · rfl

/-- The index `(i, j, k)` of a rank-three shape. -/
def ix3 {a b c : ℕ} (i j k : ℕ) (hi : i < a) (hj : j < b) (hk : k < c) : Shape.Idx ⟨3, ![a, b, c]⟩ :=
  fun x => match x with | ⟨0, _⟩ => ⟨i, hi⟩ | ⟨1, _⟩ => ⟨j, hj⟩ | ⟨2, _⟩ => ⟨k, hk⟩

/-- Which of the three lists a block of the table holds. -/
def pick (a1 a2 a3 : Vec F S50000 .i32) (c : Fin 3) : Vec F S50176 .i32 :=
  match c with
  | ⟨0, _⟩ => padded (F := F) a2 1073741824#32
  | ⟨1, _⟩ => padded (F := F) a3 0#32
  | ⟨2, _⟩ => padded (F := F) a1 0#32

theorem oneRow_at (a : Vec F S50176 .i32) (i : ℕ) (hi : i < 50176) : (oneRow (F := F) a) (ix2 0 i (by decide) hi) = a (ix1 i hi) := by
  unfold oneRow
  refine broadcastInDim_apply _ _ _ _ _ fun b => ?_
  rw [Fin.eq_zero b]
  rfl

/-- The three lists as rows, read at list `c` and edge `i`. -/
theorem stacked_at (r0 r1 r2 : Vec F S1x50176 .i32) (h) (c : Fin 3) (i : ℕ) (hi : i < 50176) :
    (concatenate S3x50176 0 [⟨S1x50176, r0⟩, ⟨S1x50176, r1⟩, ⟨S1x50176, r2⟩] h : S3x50176.Idx → Elt F .i32) (ix2 c.val i c.isLt hi)
      = (match c with | ⟨0, _⟩ => r0 | ⟨1, _⟩ => r1 | ⟨2, _⟩ => r2 : Vec F S1x50176 .i32) (ix2 0 i (by decide) hi) := by
  match c with
  | ⟨0, _⟩ =>
    refine concatenate_apply_piece (0 : Fin S3x50176.rank) _ _ _ 0 (by simp) S1x50176 r0 rfl rfl 0 (by simp) _ ?_ rfl
    intro b hb
    match b with
    | ⟨0, _⟩ => exact absurd rfl hb
    | ⟨1, _⟩ => rfl
  | ⟨1, _⟩ =>
    refine concatenate_apply_piece (0 : Fin S3x50176.rank) _ _ _ 1 (by simp) S1x50176 r1 rfl rfl 1 (by simp) _ ?_ rfl
    intro b hb
    match b with
    | ⟨0, _⟩ => exact absurd rfl hb
    | ⟨1, _⟩ => rfl
  | ⟨2, _⟩ =>
    refine concatenate_apply_piece (0 : Fin S3x50176.rank) _ _ _ 2 (by simp) S1x50176 r2 rfl rfl 2 (by simp) _ ?_ rfl
    intro b hb
    match b with
    | ⟨0, _⟩ => exact absurd rfl hb
    | ⟨1, _⟩ => rfl

/-- Word `c`'s block of the table of edges: edge `i`'s word of list `c`. -/
theorem ep_at (a1 a2 a3 : Vec F S50000 .i32) (c : Fin 3) (i : ℕ) (hi : i < 50176) :
    at2 (epOf (F := F) a1 a2 a3 : S56x2688.Idx → BitVec 32) (i / 896) (896 * c.val + i % 896) = (pick (F := F) a1 a2 a3 c : S50176.Idx → BitVec 32) (ix1 i hi) := by
  have hc := c.isLt
  rw [at2_lt _ _ _ (by omega) (by omega)]
  unfold epOf
  refine (shapeCast_apply _ _ _ (ix3 (a := 56) (b := 3) (c := 896) (i / 896) c.val (i % 896) (by omega) hc (by omega)) ?_).trans ?_
  · rw [Shape.rowMajor_val_three, Shape.rowMajor_val_two]
    show (i / 896 * 3 + c.val) * 896 + i % 896 = i / 896 * 2688 + (896 * c.val + i % 896)
    omega
  refine (transpose_apply _ _ _ _ (ix3 (a := 3) (b := 56) (c := 896) c.val (i / 896) (i % 896) hc (by omega) (by omega)) ?_).trans ?_
  · intro b
    match b with
    | ⟨0, _⟩ => rfl
    | ⟨1, _⟩ => rfl
    | ⟨2, _⟩ => rfl
  refine (shapeCast_apply _ _ _ (ix2 (a := 3) (b := 50176) c.val i hc hi) ?_).trans ?_
  · rw [Shape.rowMajor_val_three, Shape.rowMajor_val_two]
    show c.val * 50176 + i = (c.val * 56 + i / 896) * 896 + i % 896
    omega
  refine (stacked_at _ _ _ _ c i hi).trans ?_
  match c with
  | ⟨0, _⟩ => exact oneRow_at _ i hi
  | ⟨1, _⟩ => exact oneRow_at _ i hi
  | ⟨2, _⟩ => exact oneRow_at _ i hi

section
variable (a1 a2 a3 : Vec F S50000 .i32)

/-- Edge `i`'s target row in the table; past the edges a row no tile reaches. -/
theorem dst_at (i : ℕ) (hi : i < 50176) : dstW (epOf (F := F) a1 a2 a3) i = if h : i < 50000 then (a2 : S50000.Idx → BitVec 32) (ix1 i h) else 1073741824#32 := by
  have h := ep_at (F := F) a1 a2 a3 0 i hi
  rw [show 896 * (0 : Fin 3).val + i % 896 = i % 896 from by simp] at h
  exact h.trans (padded_at (F := F) a2 _ i hi)

theorem rel_at (i : ℕ) (hi : i < 50176) : relW (epOf (F := F) a1 a2 a3) i = if h : i < 50000 then (a3 : S50000.Idx → BitVec 32) (ix1 i h) else 0#32 :=
  (ep_at (F := F) a1 a2 a3 1 i hi).trans (padded_at (F := F) a3 _ i hi)

theorem src_at (i : ℕ) (hi : i < 50176) : srcW (epOf (F := F) a1 a2 a3) i = if h : i < 50000 then (a1 : S50000.Idx → BitVec 32) (ix1 i h) else 0#32 :=
  (ep_at (F := F) a1 a2 a3 2 i hi).trans (padded_at (F := F) a1 _ i hi)

end

/-- A gathered piece's word is the table's word at the same row and column. -/
theorem qt_at (q : Vec F S40960x1280 .f32) (r : Fin 40960) (c : Fin 1280) : qtOf (F := F) q (qix r c) = q (ix2 r.val c.val r.isLt c.isLt) := by
  unfold qtOf
  have hr := r.isLt
  have hc := c.isLt
  refine (transpose_apply _ _ _ _ (show S40960x5x2x128.Idx from fun x => match x with
    | ⟨0, _⟩ => ⟨r.val, hr⟩ | ⟨1, _⟩ => ⟨c.val / 256, by show _ < 5; omega⟩ | ⟨2, _⟩ => ⟨c.val / 128 % 2, by show _ < 2; omega⟩ | ⟨3, _⟩ => ⟨c.val % 128, by show _ < 128; omega⟩) ?_).trans ?_
  · intro b
    match b with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show r.val * 1280 + c.val = ((r.val * 5 + c.val / 256) * 2 + c.val / 128 % 2) * 128 + c.val % 128
  omega

end Cert.Proof.S2
-- ==== Proof.Pre.lean ====
/-
  What the preconditions say of the arguments.
-/
module

public import proofs.«01_k».proof.Proof.Ep
public import proofs.«01_k».proof.Proof.Gen.Pre_in_range
public import proofs.«01_k».proof.Proof.Gen.Pre_ones_and_finite
public import Idealize.ShloMosaic.Lib.ReduceAll
public import Idealize.ShloMosaic.Lib.Affine

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## What the precondition says -/

/-- A word between zero and `n`, read signed, is below `n` read unsigned. -/
theorem toNat_lt_of_range (x : BitVec 32) (n : BitVec 32) (hn : n.toNat < 2 ^ 31) (h0 : IntOp.cmpi .sge x 0#32 = 1#1) (h1 : IntOp.cmpi .slt x n = 1#1) : x.toNat < n.toNat := by
  have e0 : (0#32 : BitVec 32).sle x = true := by
    cases hb : (0#32 : BitVec 32).sle x with
    | true => rfl
    | false => unfold IntOp.cmpi at h0; simp [hb] at h0
  have e1 : x.slt n = true := by
    cases hb : x.slt n with
    | true => rfl
    | false => unfold IntOp.cmpi at h1; simp [hb] at h1
  have i0 := BitVec.sle_iff_toInt_le.1 e0
  have i1 := BitVec.slt_iff_toInt_lt.1 e1
  rw [BitVec.toInt_eq_toNat_cond, BitVec.toInt_eq_toNat_cond] at i0 i1
  simp at i0
  have := x.isLt
  split at i0 <;> split at i1 <;> omega

/-- Every index in its range: sources and destinations name a node, relations name a relation. -/
structure InRange (a1 a2 a3 : IVec S50000 32) : Prop where
  src : ∀ i : S50000.Idx, (a1 i : BitVec 32).toNat < 5000
  dst : ∀ i : S50000.Idx, (a2 i : BitVec 32).toNat < 5000
  rel : ∀ i : S50000.Idx, (a3 i : BitVec 32).toNat < 7

instance : Subsingleton Cert.Pre_in_range.S_.Idx := ⟨fun a b => funext fun x => x.elim0⟩

instance : Subsingleton Cert.Pre_ones_and_finite.S_.Idx := ⟨fun a b => funext fun x => x.elim0⟩

/-- What the ranges' precondition says. -/
theorem inRange_of (a0 : FVec F S5000x1280 .f32) (a1 a2 a3 : IVec S50000 32) (a4 : FVec F S50000 .f32) (a5 : FVec F S8960x1280 .f32) (a6 : FVec F S1280 .f32) (a7 : FVec F S1280x1280 .f32) (a8 : FVec F S1280 .f32)
    (h : Cert.Pre_in_range.fn (F := F) a0 a1 a2 a3 a4 a5 a6 a7 a8 = fun _ => 1#1) : InRange a1 a2 a3 := by
  have h' := congrFun h (fun x => x.elim0)
  unfold Cert.Pre_in_range.fn Cert.Pre_in_range.fn_part1 at h'
  dsimp only at h'
  obtain ⟨h12, h18⟩ := IntOp.andi_eq_one.1 h'
  obtain ⟨h5, h11⟩ := IntOp.andi_eq_one.1 h12
  refine ⟨fun i => ?_, fun i => ?_, fun i => ?_⟩
  · obtain ⟨e0, e1⟩ := IntOp.andi_eq_one.1 (Host.reduce_andi_all _ _ _ _ _ h5 i)
    exact toNat_lt_of_range _ 5000#32 (by decide) e0 e1
  · obtain ⟨e0, e1⟩ := IntOp.andi_eq_one.1 (Host.reduce_andi_all _ _ _ _ _ h11 i)
    exact toNat_lt_of_range _ 5000#32 (by decide) e0 e1
  · obtain ⟨e0, e1⟩ := IntOp.andi_eq_one.1 (Host.reduce_andi_all _ _ _ _ _ h18 i)
    exact toNat_lt_of_range _ 7#32 (by decide) e0 e1

/-- What the value claim's precondition says: the ranges, edge weights of one, and finite node features and relation weights. -/
theorem ones_of (a0 : FVec F S5000x1280 .f32) (a1 a2 a3 : IVec S50000 32) (a4 : FVec F S50000 .f32) (a5 : FVec F S8960x1280 .f32) (a6 : FVec F S1280 .f32) (a7 : FVec F S1280x1280 .f32) (a8 : FVec F S1280 .f32)
    (h : Cert.Pre_ones_and_finite.fn (F := F) a0 a1 a2 a3 a4 a5 a6 a7 a8 = fun _ => 1#1) :
    InRange a1 a2 a3
      ∧ (∀ i, FloatOps.cmpf .oeq (a4 i) (FloatOps.ofBits .f32 0x3F800000#32) = 1#1)
      ∧ (∀ i, FloatOps.cmpf .olt (Host.absf a0 i) (FloatOps.ofBits .f32 0x7F800000#32) = 1#1)
      ∧ (∀ i, FloatOps.cmpf .olt (Host.absf a5 i) (FloatOps.ofBits .f32 0x7F800000#32) = 1#1) := by
  have h' := congrFun h (fun x => x.elim0)
  unfold Cert.Pre_ones_and_finite.fn Cert.Pre_ones_and_finite.fn_part1 Cert.Pre_ones_and_finite.fn_part2 at h'
  dsimp only at h'
  obtain ⟨h28, h32⟩ := IntOp.andi_eq_one.1 h'
  obtain ⟨h23, h27⟩ := IntOp.andi_eq_one.1 h28
  obtain ⟨h19, h22⟩ := IntOp.andi_eq_one.1 h23
  obtain ⟨h12, h18⟩ := IntOp.andi_eq_one.1 h19
  obtain ⟨h5, h11⟩ := IntOp.andi_eq_one.1 h12
  refine ⟨⟨fun i => ?_, fun i => ?_, fun i => ?_⟩, fun i => ?_, fun i => ?_, fun i => ?_⟩
  · obtain ⟨e0, e1⟩ := IntOp.andi_eq_one.1 (Host.reduce_andi_all _ _ _ _ _ h5 i)
    exact toNat_lt_of_range _ 5000#32 (by decide) e0 e1
  · obtain ⟨e0, e1⟩ := IntOp.andi_eq_one.1 (Host.reduce_andi_all _ _ _ _ _ h11 i)
    exact toNat_lt_of_range _ 5000#32 (by decide) e0 e1
  · obtain ⟨e0, e1⟩ := IntOp.andi_eq_one.1 (Host.reduce_andi_all _ _ _ _ _ h18 i)
    exact toNat_lt_of_range _ 7#32 (by decide) e0 e1
  · exact Host.reduce_andi_all _ _ _ _ _ h22 i
  · exact Host.reduce_andi_all _ _ _ _ _ h27 i
  · exact Host.reduce_andi_all _ _ _ _ _ h32 i

section
variable {a1 a2 a3 : IVec S50000 32} (h : InRange a1 a2 a3)
include h

/-- A word of a tile's list of message rows names a row of the table. -/
theorem entG_lt (i : ℕ) (hi : i < 50176) : (entG (epOf (F := F) a1 a2 a3) i).toNat < 35840 := by
  unfold entG
  rw [rel_at a1 a2 a3 i hi, src_at a1 a2 a3 i hi]
  by_cases hh : i < 50000
  · rw [dif_pos hh, dif_pos hh]
    have h1 := h.src (ix1 i hh)
    have h3 := h.rel (ix1 i hh)
    have e : (((a3 (ix1 i hh) : BitVec 32) * 5120#32).toNat) = (a3 (ix1 i hh) : BitVec 32).toNat * 5120 := by
      rw [BitVec.toNat_mul]
      show _ * 5120 % 4294967296 = _
      exact Nat.mod_eq_of_lt (by omega)
    have e' := BitVec.toNat_add ((a3 (ix1 i hh) : BitVec 32) * 5120#32) (a1 (ix1 i hh) : BitVec 32)
    rw [e, Nat.mod_eq_of_lt (by omega)] at e'
    omega
  · rw [dif_neg hh, dif_neg hh]
    decide

theorem rowsOK (w : ℕ) (x : BitVec 32) (hx : x ∈ S1.listG w (epOf (F := F) a1 a2 a3)) : x.toNat < 40960 := by
  unfold S1.listG S1.padded at hx
  rcases List.mem_append.1 hx with hx | hx
  · unfold bucketG at hx
    obtain ⟨i, hi, rfl⟩ := List.mem_map.1 hx
    have := entG_lt (F := F) h i (List.mem_range.1 (List.mem_filter.1 hi).1)
    omega
  · rw [List.eq_of_mem_replicate hx]
    decide

end

end Cert.Proof.S2
-- ==== Proof.Sum.lean ====
/-
  The second kernel's sums at the extended reals.
-/
module

public import proofs.«01_k».proof.Proof.Pre
public import proofs.«01_k».proof.Proof.S2Body

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## Adding rows, at the extended reals -/

/-- A filtered list's sum is the whole list's with zeros. -/
theorem sum_filter_map {α : Type} (P : α → Bool) (f : α → EReal) (l : List α) : ((l.filter P).map f).sum = (l.map fun i => if P i = true then f i else 0).sum := by
  induction l with
  | nil => rfl
  | cons a l ih =>
    by_cases h : P a = true
    · rw [List.filter_cons_of_pos h, List.map_cons, List.sum_cons, ih, List.map_cons, List.sum_cons, if_pos h]
    · rw [List.filter_cons_of_neg h, ih, List.map_cons, List.sum_cons, if_neg h, zero_add]

theorem sum_map_zero {α : Type} (f : α → EReal) (l : List α) (h : ∀ x ∈ l, f x = 0) : (l.map f).sum = 0 := by
  induction l with
  | nil => rfl
  | cons a l ih => rw [List.map_cons, List.sum_cons, h a List.mem_cons_self, ih fun x hx => h x (List.mem_cons_of_mem _ hx), zero_add]

section
variable (q : Vec Ideal S40960x1280 .f32)

/-- What one entry adds to a slab's word: its row's word when the entry is the word's row's, else nothing. -/
def addend (r : ℕ) (c : Fin 1280) (e : BitVec 32 × BitVec 32) : EReal := if e.2.toNat = r then q (ix2 (rowFin e.1).val c.val (rowFin e.1).isLt c.isLt) else 0

theorem accOne_at (s : Vec Ideal S64x1280 .f32) (e : BitVec 32 × BitVec 32) (x : S64x1280.Idx) :
    (accOne (F := Ideal) (qtOf (F := Ideal) q) s e x : EReal) = s x + addend q (x 0).val (x 1) e := by
  have h1 : (x 1).val < 1280 := (x 1).isLt
  unfold accOne colF addend
  by_cases h : (x 0).val = e.2.toNat
  · rw [if_pos ⟨h, by omega⟩, if_pos h.symm]
    exact congrArg (fun y : EReal => (s x : EReal) + y) (qt_at q (rowFin e.1) (x 1))
  · rw [if_neg (fun hh => h hh.1), if_neg (fun hh => h hh.symm), add_zero]

/-- Adding a list of entries' rows to a slab adds to each word the sum of their words there. -/
theorem accAll_at (es : List (BitVec 32 × BitVec 32)) (s : Vec Ideal S64x1280 .f32) (x : S64x1280.Idx) :
    (es.foldl (accOne (F := Ideal) (qtOf (F := Ideal) q)) s x : EReal) = s x + (es.map (addend q (x 0).val (x 1))).sum := by
  induction es generalizing s with
  | nil => exact (add_zero _).symm
  | cons e es ih =>
    rw [List.foldl_cons, ih, accOne_at, List.map_cons, List.sum_cons, add_assoc]

/-- Entries that only fill up a batch add the padding row, which is zero. -/
theorem padL_sum (k r : ℕ) (c : Fin 1280) (hq : ∀ c (hc : c < 1280), (q (ix2 5119 c (by decide) hc) : EReal) = 0) :
    ((padL k).map (addend q r c)).sum = 0 := by
  refine sum_map_zero _ _ fun e he => ?_
  unfold padL at he
  split at he
  · exact absurd he (by simp)
  · rw [List.eq_of_mem_replicate he]
    unfold addend
    split
    · exact hq c.val c.isLt
    · rfl

/-- Reading two lists of one length by position is reading them side by side. -/
theorem map_range_zip {β : Type} (g p : List (BitVec 32)) (h : p.length = g.length) (φ : BitVec 32 → BitVec 32 → β) :
    ((List.range g.length).map fun i => φ (nth g i) (nth p i)) = List.zipWith φ g p := by
  refine List.ext_getElem (by simp [h]) fun i h1 h2 => ?_
  have hg : i < g.length := by simpa using h1
  rw [List.getElem_map, List.getElem_range, List.getElem_zipWith]
  have hp : i < p.length := h ▸ hg
  unfold nth
  simp [List.getD, hg, hp]

/-- The first 50176 words of the table, whatever tile they go to, added to row `r` of tile `w`'s pass `t`. -/
theorem ents_sum (fE : Vec Ideal S56x2688 .i32) (w t r : ℕ) (ht : t < 3) (c : Fin 1280) :
    ((ents fE w t).map (addend q r c)).sum
      = ((List.range 50176).map fun i => if mine w (dstW fE i) = true then
          (if inP t (entP fE i) = true then addend q r c (entG fE i, dl t (entP fE i)) else 0) else 0).sum := by
  have hlen : (S1.listP w fE).length = (S1.listG w fE).length := S1.listP_length w fE
  obtain ⟨k, hG, hP⟩ : ∃ k, S1.listG w fE = bucketG w fE 50176 ++ List.replicate k 0#32 ∧ S1.listP w fE = bucketP w fE 50176 ++ List.replicate k 1048576#32 :=
    ⟨_, rfl, by unfold S1.listP S1.padded; rw [bucket_length]⟩
  unfold ents entsP
  rw [List.map_map, sum_filter_map]
  have e := map_range_zip (S1.listG w fE) (S1.listP w fE) hlen (fun g p => if inP t p = true then addend q r c (g, dl t p) else 0)
  simp only [Function.comp_def]
  beta_reduce at e
  rw [e, hG, hP, List.zipWith_append (bucket_length w fE 50176).symm, List.sum_append]
  have z : (List.zipWith (fun g p => if inP t p = true then addend q r c (g, dl t p) else 0) (List.replicate k 0#32) (List.replicate k 1048576#32)).sum = 0 := by
    rw [List.zipWith_replicate]
    refine List.sum_eq_zero fun x hx => ?_
    rw [List.eq_of_mem_replicate hx, if_neg]
    interval_cases t <;> decide
  rw [z, add_zero]
  unfold bucketG bucketP
  rw [List.zipWith_map, List.zipWith_self, sum_filter_map]

end

end Cert.Proof.S2
-- ==== Proof.Kval.lean ====
/-
  The kernels' result at the extended reals, as sums over the edges.
-/
module

public import proofs.«01_k».proof.Proof.Sum
public import Idealize.ShloMosaic.Lib.IdealHost

@[expose] public section

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## Which edges reach a row -/

section
variable (d : BitVec 32)

theorem shr_toNat (k : ℕ) (hd : d.toNat < 2 ^ 31) : (d.sshiftRight k).toNat = d.toNat / 2 ^ k := by
  have hm : d.msb = false := by rw [BitVec.msb_eq_false_iff_two_mul_lt]; omega
  rw [BitVec.sshiftRight_eq_of_msb_false hm, BitVec.toNat_ushiftRight, Nat.shiftRight_eq_div_pow]

/-- A row's place in its tile's numbering, as the entry holds it. -/
def place : BitVec 32 := d.sshiftRight 11 * 64#32 + (d &&& 63#32)

theorem place_toNat (hd : d.toNat < 2 ^ 31) : (place d).toNat = d.toNat / 2048 * 64 + d.toNat % 64 := by
  have e1 : (d &&& 63#32).toNat = d.toNat % 64 := by
    rw [BitVec.toNat_and]
    exact Nat.and_two_pow_sub_one_eq_mod d.toNat 6
  have e2 : (d.sshiftRight 11).toNat = d.toNat / 2048 := shr_toNat d 11 hd
  have e3 : (d.sshiftRight 11 * 64#32).toNat = d.toNat / 2048 * 64 := by
    rw [BitVec.toNat_mul, e2]
    show d.toNat / 2048 * 64 % 4294967296 = _
    exact Nat.mod_eq_of_lt (by omega)
  unfold place
  rw [BitVec.toNat_add, e1, e3]
  exact Nat.mod_eq_of_lt (by omega)

theorem mine_iff (w : ℕ) (hw : w < 32) (hd : d.toNat < 2 ^ 31) : mine w d = true ↔ d.toNat / 64 % 32 = w := by
  have e1 : (d.sshiftRight 6 &&& 31#32).toNat = d.toNat / 64 % 32 := by
    rw [BitVec.toNat_and, shr_toNat d 6 hd]
    exact Nat.and_two_pow_sub_one_eq_mod (d.toNat / 64) 5
  have e2 : (BitVec.ofNat 32 w).toNat = w := by
    rw [BitVec.toNat_ofNat]; exact Nat.mod_eq_of_lt (by omega)
  unfold mine
  rw [beq_iff_eq, ← BitVec.toNat_inj, e1, e2]

theorem dl_toNat (t : ℕ) (ht : t < 3) (p : BitVec 32) : (dl t p).toNat = (4294967296 - t * 64 + p.toNat) % 4294967296 := by
  unfold dl
  have e : (BitVec.ofNat 32 t * 64#32).toNat = t * 64 := by
    rw [BitVec.toNat_mul, BitVec.toNat_ofNat]
    show t % 4294967296 * 64 % 4294967296 = _
    rw [Nat.mod_eq_of_lt (show t < 4294967296 by omega)]
    exact Nat.mod_eq_of_lt (by omega)
  rw [BitVec.toNat_sub, e]

/-- An edge's entry is added to row `row` exactly when the edge's target is that row. -/
theorem reach_iff (row : ℕ) (hrow : row < 5120) (hd : d.toNat < 2 ^ 31) :
    (mine (row / 64 % 32) d = true ∧ inP (row / 2048) (place d) = true ∧ (dl (row / 2048) (place d)).toNat = row % 64) ↔ d.toNat = row := by
  rw [mine_iff d _ (by omega) hd]
  unfold inP
  rw [decide_eq_true_iff, dl_toNat _ (by omega), place_toNat d hd]
  omega

end

theorem sum_range_list (n : ℕ) (f : ℕ → EReal) : ((List.range n).map f).sum = ∑ i ∈ Finset.range n, f i := by
  induction n with
  | zero => rfl
  | succ n ih => rw [List.range_succ, List.map_append, List.sum_append, ih, Finset.sum_range_succ, List.map_singleton, List.sum_singleton]

/-- The rows of the messages that go to row `row`, added up, at column `c`. -/
def msgSum (q : Vec Ideal S40960x1280 .f32) (a1 a2 a3 : Vec Ideal S50000 .i32) (row : ℕ) (c : Fin 1280) : EReal :=
  ∑ i : Fin 50000, if (a2 (ix1 i.val i.isLt) : BitVec 32).toNat = row then
    (q (ix2 (((a3 (ix1 i.val i.isLt) : BitVec 32).toNat * 5120 + (a1 (ix1 i.val i.isLt) : BitVec 32).toNat) % 40960) c.val (Nat.mod_lt _ (by decide)) c.isLt) : EReal) else 0

section
variable {q : Vec Ideal S40960x1280 .f32} {a1 a2 a3 : IVec S50000 32} (h : InRange a1 a2 a3)
include h

/-- The row of an edge's message in the table. -/
theorem entG_val (i : ℕ) (hi : i < 50000) :
    (entG (epOf (F := Ideal) a1 a2 a3) i).toNat = (a3 (ix1 i hi) : BitVec 32).toNat * 5120 + (a1 (ix1 i hi) : BitVec 32).toNat := by
  unfold entG
  rw [rel_at a1 a2 a3 i (by omega), src_at a1 a2 a3 i (by omega), dif_pos hi, dif_pos hi]
  have h1 := h.src (ix1 i hi)
  have h3 := h.rel (ix1 i hi)
  have e : (((a3 (ix1 i hi) : BitVec 32) * 5120#32).toNat) = (a3 (ix1 i hi) : BitVec 32).toNat * 5120 := by
    rw [BitVec.toNat_mul]
    show _ * 5120 % 4294967296 = _
    exact Nat.mod_eq_of_lt (by omega)
  have e' := BitVec.toNat_add ((a3 (ix1 i hi) : BitVec 32) * 5120#32) (a1 (ix1 i hi) : BitVec 32)
  rw [e, Nat.mod_eq_of_lt (by omega)] at e'
  exact e'

/-- What edge `i` adds to a word of row `row`. -/
theorem edge_term (row : ℕ) (hrow : row < 5120) (c : Fin 1280) (i : ℕ) (hi : i < 50000) :
    (if mine (row / 64 % 32) (dstW (epOf (F := Ideal) a1 a2 a3) i) = true then
        (if inP (row / 2048) (entP (epOf (F := Ideal) a1 a2 a3) i) = true then
          addend q (row % 64) c (entG (epOf (F := Ideal) a1 a2 a3) i, dl (row / 2048) (entP (epOf (F := Ideal) a1 a2 a3) i)) else 0) else (0 : EReal))
      = if (a2 (ix1 i hi) : BitVec 32).toNat = row then
          (q (ix2 (((a3 (ix1 i hi) : BitVec 32).toNat * 5120 + (a1 (ix1 i hi) : BitVec 32).toNat) % 40960) c.val (Nat.mod_lt _ (by decide)) c.isLt) : EReal) else 0 := by
  have ed : dstW (epOf (F := Ideal) a1 a2 a3) i = a2 (ix1 i hi) := by rw [dst_at a1 a2 a3 i (by omega), dif_pos hi]
  have ep : entP (epOf (F := Ideal) a1 a2 a3) i = place (a2 (ix1 i hi)) := by unfold entP place; rw [ed]
  have hr := reach_iff (a2 (ix1 i hi)) row hrow (by have := h.dst (ix1 i hi); omega)
  rw [ed, ep]
  unfold addend
  by_cases hc : (a2 (ix1 i hi) : BitVec 32).toNat = row
  · obtain ⟨c1, c2, c3⟩ := hr.2 hc
    rw [if_pos c1, if_pos c2, if_pos c3, if_pos hc]
    refine congrArg q ?_
    unfold rowFin
    dsimp only
    rw [← entG_val h i hi]
  · rw [if_neg hc]
    split
    · split
      · rw [if_neg]
        intro c3
        exact hc (hr.1 ⟨by assumption, by assumption, c3⟩)
      · rfl
    · rfl

omit h in
/-- The table's filling edges add nothing. -/
theorem fill_term (row : ℕ) (hrow : row < 5120) (c : Fin 1280) (i : ℕ) (hi : 50000 ≤ i) (hi' : i < 50176) :
    (if mine (row / 64 % 32) (dstW (epOf (F := Ideal) a1 a2 a3) i) = true then
        (if inP (row / 2048) (entP (epOf (F := Ideal) a1 a2 a3) i) = true then
          addend q (row % 64) c (entG (epOf (F := Ideal) a1 a2 a3) i, dl (row / 2048) (entP (epOf (F := Ideal) a1 a2 a3) i)) else 0) else (0 : EReal)) = 0 := by
  have ed : dstW (epOf (F := Ideal) a1 a2 a3) i = 1073741824#32 := by rw [dst_at a1 a2 a3 i hi', dif_neg (by omega)]
  have ep : entP (epOf (F := Ideal) a1 a2 a3) i = place 1073741824#32 := by unfold entP place; rw [ed]
  have e : (1073741824#32 : BitVec 32).toNat = 1073741824 := by rw [BitVec.toNat_ofNat]
  have hr := reach_iff 1073741824#32 row hrow (by rw [e]; norm_num)
  rw [ed, ep]
  unfold addend
  split
  · rename_i c1
    split
    · rename_i c2
      rw [if_neg]
      intro c3
      have := hr.1 ⟨c1, c2, c3⟩
      omega
    · rfl
  · rfl

/-- All the edges of the table together add the messages that go to row `row`. -/
theorem edges_sum (row : ℕ) (hrow : row < 5120) (c : Fin 1280) :
    ((List.range 50176).map fun i => if mine (row / 64 % 32) (dstW (epOf (F := Ideal) a1 a2 a3) i) = true then
        (if inP (row / 2048) (entP (epOf (F := Ideal) a1 a2 a3) i) = true then
          addend q (row % 64) c (entG (epOf (F := Ideal) a1 a2 a3) i, dl (row / 2048) (entP (epOf (F := Ideal) a1 a2 a3) i)) else 0) else (0 : EReal)).sum
      = msgSum q a1 a2 a3 row c := by
  rw [sum_range_list]
  have e := Finset.sum_subset (s₁ := Finset.range 50000) (s₂ := Finset.range 50176) (Finset.range_subset_range.2 (by decide))
    (fun i hi hn => fill_term (q := q) (a1 := a1) (a2 := a2) (a3 := a3) row hrow c i (by simpa using hn) (by simpa using hi))
  rw [← e, Finset.sum_range]
  unfold msgSum
  exact Finset.sum_congr rfl fun i _ => edge_term h row hrow c i.val i.isLt

/-- The kernels' result: each row's own message and the messages of the edges into it. -/
theorem kernel_value (hp : ∀ c (hc : c < 1280), (q (ix2 5119 c (by decide) hc) : EReal) = 0) (x : S5120x1280.Idx) :
    (Yval (F := Ideal) (epOf (F := Ideal) a1 a2 a3) q (qtOf (F := Ideal) q) x : EReal)
      = q (ix2 (35840 + (x 0).val) (x 1).val (by have : (x 0).val < 5120 := (x 0).isLt; omega) (x 1).isLt) + msgSum q a1 a2 a3 (x 0).val (x 1) := by
  have h0 : (x 0).val < 5120 := (x 0).isLt
  have h1 : (x 1).val < 1280 := (x 1).isLt
  unfold Yval
  dsimp only
  refine (accAll_at q _ _ _).trans ?_
  refine congrArg₂ (fun a b : EReal => a + b) ?_ ?_
  · unfold rowQ
    refine congrArg q (funext fun a => Fin.ext ?_)
    match a with
    | ⟨0, _⟩ => show (35840 + 64 * ((x 0).val / 64) + (x 0).val % 64) % 40960 = 35840 + (x 0).val; omega
    | ⟨1, _⟩ => rfl
  · show (List.map (addend q ((x 0).val % 64) ⟨(x 1).val, h1⟩) (ents (epOf (F := Ideal) a1 a2 a3) ((x 0).val / 64 % 32) ((x 0).val / 2048)
      ++ padL (ents (epOf (F := Ideal) a1 a2 a3) ((x 0).val / 64 % 32) ((x 0).val / 2048)).length)).sum = _
    rw [List.map_append, List.sum_append, padL_sum q _ _ _ hp, add_zero]
    refine (ents_sum q _ _ _ _ (by omega) _).trans ?_
    exact edges_sum h (x 0).val h0 ⟨(x 1).val, h1⟩

end

end Cert.Proof.S2
-- ==== Proof.QVal.lean ====
/-
  The messages at the extended reals, as sums over the features.
-/
module

public import proofs.«01_k».proof.Proof.TcArr
public import proofs.«01_k».proof.Proof.Pay
public import proofs.«01_k».proof.Proof.Kval
public import Idealize.ShloMosaic.Lib.MatmulPlain

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## The messages, as sums over the features -/

/-- The two spellings of an index of a rank-two array. -/
theorem vix {a b : ℕ} (i j : ℕ) (hi : i < a) (hj : j < b) : (ix2 i j hi hj : Shape.Idx ⟨2, ![a, b]⟩) = ValueIdx.ix2 ⟨i, hi⟩ ⟨j, hj⟩ := by
  funext x
  match x with
  | ⟨0, _⟩ => rfl
  | ⟨1, _⟩ => rfl

/-- The first coordinate of a point of the first call is the relation. -/
theorem coord1 : ∀ t : Fin cfg1.N, ((grid1.coords t) 0).val = t.val / 5 := (by decide +kernel : ∀ t : Fin grid1.N, ((grid1.coords t) 0).val = t.val / 5)

theorem dot1_plain : dot_S1024x1280_S1280x1280_S1024x1280_1_0_0_1_n_n = DotDims.plain 1024 1280 1280 := rfl

/-- The factor of the biases: one for the self loop, zero for a relation. -/
theorem factor_at (n : ℕ) (hn : n < 8) :
    (Scalar.select (Scalar.cmpi .eq (BitVec.ofNat 32 n) 7#32) (Scalar.ofBits (F := Ideal) .f32 0x3F800000#32) (Scalar.ofBits (F := Ideal) .f32 0x00000000#32) : EReal)
      = if n = 7 then 1 else 0 := by
  have h1 : (Scalar.ofBits (F := Ideal) .f32 0x3F800000#32 : EReal) = 1 := Ideal.ofBits_one_f32
  have h0 : (Scalar.ofBits (F := Ideal) .f32 0x00000000#32 : EReal) = 0 := Ideal.ofBits_zero_f32
  by_cases h : n = 7
  · subst h
    rw [if_pos rfl]
    exact h1
  · rw [if_neg h]
    have hc : Scalar.cmpi .eq (BitVec.ofNat 32 n) 7#32 = 0#1 := by
      revert h
      exact (by decide : ∀ n : Fin 8, n.val ≠ 7 → Scalar.cmpi .eq (BitVec.ofNat 32 n.val) 7#32 = 0#1) ⟨n, hn⟩
    rw [hc]
    exact h0

/-- A word of what a point of the first call writes. -/
theorem pay1_at (i : grid1.Coords) (X : Vec Ideal S1024x1280 .f32) (W : Vec Ideal S1280x1280 .f32) (B : Vec Ideal S1x1280 .f32) (a b : ℕ) (ha : a < 1024) (hb : b < 1280) :
    (k1_pay1 (F := Ideal) i X W B (ix2 a b ha hb) : EReal)
      = (∑ k : Fin 1280, (X (ix2 a k.val ha k.isLt) : EReal) * (W (ix2 k.val b k.isLt hb) : EReal))
        + (B (ix2 0 b (by decide) hb) : EReal) * (if (i 0).val = 7 then 1 else 0) := by
  unfold k1_pay1
  dsimp only
  rw [shapeCast_self, shapeCast_self, shapeCast_self, dot1_plain]
  refine congrArg₂ (fun u v : EReal => u + v) ?_ ?_
  · rw [vix a b ha hb]
    refine (Ideal.matmul_plain_apply (M := 1024) (K := 1280) (N := 1280) none X W _ ⟨a, ha⟩ ⟨b, hb⟩).trans ?_
    have z : (constant (F := Ideal) S1024x1280 .f32 0x00000000#32 (ValueIdx.ix2 ⟨a, ha⟩ ⟨b, hb⟩) : EReal) = 0 := Ideal.ofBits_zero_f32
    refine (congrArg₂ (fun u v : EReal => u + v) z rfl).trans ((zero_add _).trans ?_)
    refine Finset.sum_congr rfl fun k _ => ?_
    rw [vix a k.val ha k.isLt, vix k.val b k.isLt hb]
  · refine (broadcastTo_apply _ _ _ (ix2 (a := 1) (b := 1280) 0 b (by decide) hb) ?_).trans ?_
    · intro c
      match c with
      | ⟨0, _⟩ => rfl
      | ⟨1, _⟩ => rfl
    · exact congrArg (fun v : EReal => (B (ix2 0 b (by decide) hb) : EReal) * v) (factor_at (i 0).val (i 0).isLt)

/-- A word of the table of messages: relation `r`, row `s`, column `c`. -/
theorem qRows_at (X : Vec Ideal S5120x1280 .f32) (W : Vec Ideal S10240x1280 .f32) (B : Vec Ideal S1x1280 .f32) (r s c : ℕ) (hr : r < 8) (hs : s < 5120) (hc : c < 1280) :
    (qRows (F := Ideal) X W B (ix2 (r * 5120 + s) c (by omega) hc) : EReal)
      = (∑ k : Fin 1280, (X (ix2 s k.val hs k.isLt) : EReal) * (W (ix2 (r * 1280 + k.val) c (by have := k.isLt; omega) hc) : EReal))
        + (B (ix2 0 c (by decide) hc) : EReal) * (if r = 7 then 1 else 0) := by
  obtain ⟨t, ht⟩ : ∃ t : Fin cfg1.N, t.val = r * 5 + s / 1024 := ⟨⟨r * 5 + s / 1024, show _ < 40 by omega⟩, rfl⟩
  have d5 : t.val / 5 = r := by omega
  have m5 : t.val % 5 = s / 1024 := by omega
  rw [qRows_eq X W B _ t (ix2 (s % 1024) c (Nat.mod_lt _ (by decide)) hc) (by show r * 5120 + s = t.val * 1024 + s % 1024; omega) rfl]
  unfold qCell
  refine (pay1_at _ _ _ _ _ _ _ _).trans ?_
  rw [coord1 t, d5, rdB_at]
  refine congrArg₂ (fun u v : EReal => u + v) (Finset.sum_congr rfl fun k _ => ?_) rfl
  rw [rdX_at, rdW_at]
  refine congrArg₂ (fun u v : EReal => u * v) (congrArg X (funext fun a => Fin.ext ?_)) (congrArg W (funext fun a => Fin.ext ?_))
  · match a with
    | ⟨0, _⟩ => show t.val % 5 * 1024 + s % 1024 = s; omega
    | ⟨1, _⟩ => rfl
  · match a with
    | ⟨0, _⟩ => show t.val / 5 * 1280 + k.val = r * 1280 + k.val; omega
    | ⟨1, _⟩ => rfl

/-! ## The arrays the messages are made of -/

/-- A node's row. -/
theorem xpOf_at (a0 : Vec Ideal S5000x1280 .f32) (i j : ℕ) (hi : i < 5120) (hj : j < 1280) :
    (xpOf (F := Ideal) a0 (ix2 i j hi hj) : EReal) = if h : i < 5000 then (a0 (ix2 i j h hj) : EReal) else 0 := by
  unfold xpOf
  by_cases h : i < 5000
  · rw [dif_pos h]
    refine concatenate_pair_apply_left (0 : Fin S5120x1280.rank) (a0 : S5000x1280.Idx → EReal) _ _ (ix2 i j hi hj) rfl (ix2 i j h hj) (fun b => ?_)
    match b with
    | ⟨0, _⟩ => rfl
    | ⟨1, _⟩ => rfl
  · rw [dif_neg h]
    obtain ⟨k, rfl⟩ : ∃ k, i = 5000 + k := ⟨i - 5000, by omega⟩
    refine (concatenate_apply_piece (0 : Fin S5120x1280.rank) _ _ (ix2 (5000 + k) j hi hj) 1 (by simp) S120x1280 _ rfl rfl 5000 (by simp) (ix2 (a := 120) (b := 1280) k j (by omega) hj) ?_ ?_).trans ?_
    · intro b hb
      match b with
      | ⟨0, _⟩ => exact absurd rfl hb
      | ⟨1, _⟩ => rfl
    · rfl
    · exact Ideal.ofBits_zero_f32

/-- A row of a relation's weights. -/
theorem wOf_rel (a5 : Vec Ideal S8960x1280 .f32) (a7 : Vec Ideal S1280x1280 .f32) (i j : ℕ) (hi : i < 8960) (hj : j < 1280) :
    (wOf (F := Ideal) a5 a7 (ix2 i j (by omega) hj) : EReal) = a5 (ix2 i j hi hj) := by
  unfold wOf
  refine concatenate_pair_apply_left (0 : Fin S10240x1280.rank) (a5 : S8960x1280.Idx → EReal) _ _ (ix2 i j (by omega) hj) rfl (ix2 i j hi hj) (fun b => ?_)
  match b with
  | ⟨0, _⟩ => rfl
  | ⟨1, _⟩ => rfl

/-- A row of the self loop's weights. -/
theorem wOf_loop (a5 : Vec Ideal S8960x1280 .f32) (a7 : Vec Ideal S1280x1280 .f32) (i j : ℕ) (hi : i < 1280) (hj : j < 1280) :
    (wOf (F := Ideal) a5 a7 (ix2 (8960 + i) j (by omega) hj) : EReal) = a7 (ix2 i j hi hj) := by
  unfold wOf
  refine concatenate_apply_piece (0 : Fin S10240x1280.rank) _ _ (ix2 (8960 + i) j (by omega) hj) 1 (by simp) S1280x1280 _ rfl rfl 8960 (by simp) (ix2 i j hi hj) ?_ ?_
  · intro b hb
    match b with
    | ⟨0, _⟩ => exact absurd rfl hb
    | ⟨1, _⟩ => rfl
  · rfl

/-- Both biases of a column. -/
theorem bOf_at (a6 a8 : Vec Ideal S1280 .f32) (j : ℕ) (hj : j < 1280) :
    (bOf (F := Ideal) a6 a8 (ix2 0 j (by decide) hj) : EReal) = (a6 (ix1 j hj) : EReal) + (a8 (ix1 j hj) : EReal) := by
  unfold bOf
  refine (shapeCast_apply _ _ _ (ix1 (n := 1280) j hj) ?_).trans rfl
  rw [Shape.rowMajor_val_one, Shape.rowMajor_val_two]
  show j = 0 * 1280 + j
  omega

end Cert.Proof.S2
-- ==== Proof.KRes.lean ====
/-
  The kernels' rows before the last call, as sums over the edges and the features.
-/
module

public import proofs.«01_k».proof.Proof.QVal

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## The kernels' result before the last call -/

section
variable {a0 : Vec Ideal S5000x1280 .f32} {a1 a2 a3 : IVec S50000 32} {a5 : Vec Ideal S8960x1280 .f32} {a6 : Vec Ideal S1280 .f32} {a7 : Vec Ideal S1280x1280 .f32} {a8 : Vec Ideal S1280 .f32}
  (h : InRange a1 a2 a3)

/-- The messages into row `row`: each edge's source row times the weights of its relation. -/
def msgs (a0 : Vec Ideal S5000x1280 .f32) (a5 : Vec Ideal S8960x1280 .f32) (h : InRange a1 a2 a3) (row c : ℕ) (hc : c < 1280) : EReal :=
  ∑ e : Fin 50000, if (a2 (ix1 e.val e.isLt)).toNat = row then
    ∑ k : Fin 1280, (a0 (ix2 (a1 (ix1 e.val e.isLt)).toNat k.val (h.src (ix1 e.val e.isLt)) k.isLt) : EReal)
      * (a5 (ix2 ((a3 (ix1 e.val e.isLt)).toNat * 1280 + k.val) c (by have := h.rel (ix1 e.val e.isLt); have := k.isLt; omega) hc) : EReal) else 0

include h

/-- The table's row past the nodes of relation zero holds zeros. -/
theorem pad_zero (c : ℕ) (hc : c < 1280) :
    (qRows (F := Ideal) (xpOf a0) (wOf a5 a7) (bOf a6 a8) (ix2 5119 c (by decide) hc) : EReal) = 0 := by
  refine (qRows_at _ _ _ 0 5119 c (by decide) (by decide) hc).trans ?_
  rw [if_neg (by decide), mul_zero, add_zero]
  refine Finset.sum_eq_zero fun k _ => ?_
  rw [xpOf_at, dif_neg (by decide), zero_mul]

/-- What the second kernel leaves in a node's row: the self loop's part, both biases, and the messages into the node. -/
theorem y_at (i c : ℕ) (hi : i < 5000) (hc : c < 1280) :
    (Yval (F := Ideal) (epOf (F := Ideal) a1 a2 a3) (qRows (F := Ideal) (xpOf a0) (wOf a5 a7) (bOf a6 a8)) (qtOf (F := Ideal) (qRows (F := Ideal) (xpOf a0) (wOf a5 a7) (bOf a6 a8))) (ix2 i c (by omega) hc) : EReal)
      = ((∑ k : Fin 1280, (a0 (ix2 i k.val hi k.isLt) : EReal) * (a7 (ix2 k.val c k.isLt hc) : EReal)) + ((a6 (ix1 c hc) : EReal) + (a8 (ix1 c hc) : EReal)))
        + msgs a0 a5 h i c hc := by
  refine (kernel_value h (fun c hc => pad_zero h c hc) _).trans ?_
  refine congrArg₂ (fun u v : EReal => u + v) ?_ ?_
  · refine (congrArg (qRows (F := Ideal) (xpOf a0) (wOf a5 a7) (bOf a6 a8)) (funext fun a => Fin.ext ?_ : _ = ix2 (7 * 5120 + i) c (by omega) hc)).trans ?_
    · match a with
      | ⟨0, _⟩ => show 35840 + i = 7 * 5120 + i; omega
      | ⟨1, _⟩ => rfl
    · refine (qRows_at _ _ _ 7 i c (by decide) (by omega) hc).trans ?_
      rw [if_pos rfl, mul_one, bOf_at]
      refine congrArg₂ (fun u v : EReal => u + v) (Finset.sum_congr rfl fun k _ => ?_) rfl
      rw [xpOf_at, dif_pos hi]
      exact congrArg (fun v : EReal => (a0 (ix2 i k.val hi k.isLt) : EReal) * v) (wOf_loop a5 a7 k.val c k.isLt hc)
  · unfold msgSum msgs
    refine Finset.sum_congr rfl fun e _ => ?_
    have hs : (a1 (ix1 e.val e.isLt)).toNat < 5000 := h.src (ix1 e.val e.isLt)
    have hr : (a3 (ix1 e.val e.isLt)).toNat < 7 := h.rel (ix1 e.val e.isLt)
    refine if_congr Iff.rfl ?_ rfl
    refine (congrArg (qRows (F := Ideal) (xpOf a0) (wOf a5 a7) (bOf a6 a8)) (funext fun a => Fin.ext ?_ : _ = ix2 ((a3 (ix1 e.val e.isLt)).toNat * 5120 + (a1 (ix1 e.val e.isLt)).toNat) c (by omega) hc)).trans ?_
    · match a with
      | ⟨0, _⟩ => show ((a3 (ix1 e.val e.isLt)).toNat * 5120 + (a1 (ix1 e.val e.isLt)).toNat) % 40960 = _; exact Nat.mod_eq_of_lt (by omega)
      | ⟨1, _⟩ => rfl
    · refine (qRows_at _ _ _ _ _ c (by omega) (by omega) hc).trans ?_
      rw [if_neg (by omega), mul_zero, add_zero]
      refine Finset.sum_congr rfl fun k _ => ?_
      rw [xpOf_at, dif_pos hs]
      exact congrArg (fun v : EReal => (a0 (ix2 _ k.val hs k.isLt) : EReal) * v) (wOf_rel a5 a7 _ c (by have := k.isLt; omega) hc)

end

end Cert.Proof.S2
-- ==== Proof.HVal.lean ====
/-
  The hidden rows and the row of maxima at the extended reals.
-/
module

public import proofs.«01_k».proof.Proof.TcArr
public import Idealize.ShloMosaic.PureOps.Reduce
public import Idealize.ShloMosaic.PureOps.Ideal.Laws
public import Idealize.ShloMosaic.Lib.ValueIdxCore

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## The hidden rows and their maxima -/

/-- A word of the hidden rows. -/
theorem hidden_at (Y X : Vec Ideal S5120x1280 .f32) (i j : ℕ) (hi : i < 5000) (hj : j < 1280) :
    (hidden (F := Ideal) Y X (ix2 i j hi hj) : EReal)
      = max (Y (ix2 i j (by omega) hj) : EReal) 0 + (X (ix2 i j (by omega) hj) : EReal) := by
  obtain ⟨t, ht⟩ : ∃ t : Fin cfg3.N, t.val = i / 1024 := ⟨⟨i / 1024, show _ < 5 by omega⟩, rfl⟩
  rw [hidden_eq Y X _ t (ix2 (i % 1024) j (Nat.mod_lt _ (by decide)) hj) (by show i = t.val * 1024 + i % 1024; omega) rfl]
  unfold hCell k3_pay1
  rw [shapeCast_self, shapeCast_self]
  have z : (Scalar.ofBits (F := Ideal) .f32 0x00000000#32 : EReal) = 0 := Ideal.ofBits_zero_f32
  show max (rdY3 Y t (ix2 (i % 1024) j (Nat.mod_lt _ (by decide)) hj) : EReal) (Scalar.ofBits (F := Ideal) .f32 0x00000000#32 : EReal) + (rdX3 X t (ix2 (i % 1024) j (Nat.mod_lt _ (by decide)) hj) : EReal) = _
  rw [z, rdY3_at, rdX3_at]
  refine congrArg₂ (fun u v : EReal => max u 0 + v) (congrArg Y (funext fun a => Fin.ext ?_)) (congrArg X (funext fun a => Fin.ext ?_))
  · match a with
    | ⟨0, _⟩ => show t.val * 1024 + i % 1024 = i; omega
    | ⟨1, _⟩ => rfl
  · match a with
    | ⟨0, _⟩ => show t.val * 1024 + i % 1024 = i; omega
    | ⟨1, _⟩ => rfl

/-- A fold of maxima lies below `z` exactly when its start and all its values do. -/
theorem fold_le {ι : Type} (s : Finset ι) (f : ι → Ideal .f32) (b : Ideal .f32) (z : EReal) :
    ((s.fold (FloatOps.maximumf (F := Ideal) (φ := .f32)) b f : EReal) ≤ z) ↔ (b : EReal) ≤ z ∧ ∀ x ∈ s, (f x : EReal) ≤ z :=
  Finset.fold_max_le (α := ι) (β := EReal) (f := f) (b := b) (s := s) z

/-- The lowest value. -/
theorem ninf : (Ideal.ofBits .f32 0xFF800000#32 : EReal) = ⊥ := by simp [Ideal.ofBits, Ideal.ieee]

/-- The comparison that cuts the rows past the result's end. -/
theorem cutoff (t a : ℕ) (ht : t < 5) (ha : a < 1024) :
    IntOp.cmpi .slt (BitVec.ofNat 32 t * 1024#32 + BitVec.ofNat 32 a) 5000#32 = if t * 1024 + a < 5000 then 1#1 else 0#1 := by
  have e : BitVec.ofNat 32 t * 1024#32 + BitVec.ofNat 32 a = BitVec.ofNat 32 (t * 1024 + a) := by
    rw [show (1024#32 : BitVec 32) = BitVec.ofNat 32 1024 from rfl, ← BitVec.ofNat_mul, ← BitVec.ofNat_add]
  rw [e]
  have n1 : (BitVec.ofNat 32 (t * 1024 + a)).toNat = t * 1024 + a := by
    rw [BitVec.toNat_ofNat]; exact Nat.mod_eq_of_lt (by omega)
  have hint : (BitVec.ofNat 32 (t * 1024 + a)).toInt = ((t * 1024 + a : ℕ) : ℤ) := by
    rw [BitVec.toInt_eq_toNat_cond, n1, if_pos (by omega)]
  have h5 : (5000#32 : BitVec 32).toInt = 5000 := by decide
  unfold IntOp.cmpi
  by_cases h : t * 1024 + a < 5000
  · rw [if_pos h]
    have : (BitVec.ofNat 32 (t * 1024 + a)).slt 5000#32 = true := by
      rw [BitVec.slt_iff_toInt_lt, hint, h5]; omega
    simp [this]
  · rw [if_neg h]
    have : (BitVec.ofNat 32 (t * 1024 + a)).slt 5000#32 = false := by
      rw [Bool.eq_false_iff]
      intro hh
      rw [BitVec.slt_iff_toInt_lt, hint, h5] at hh
      omega
    simp [this]

/-- A block's row of maxima lies below `z` exactly when all the block's rows of the result do. -/
theorem pay2_le (i : grid3.Coords) (X0 X1 : Vec Ideal S1024x1280 .f32) (c : ℕ) (hc : c < 1280) (z : EReal) :
    ((k3_pay2 (F := Ideal) i X0 X1 (ix2 0 c (by decide) hc) : EReal) ≤ z)
      ↔ ∀ a (ha : a < 1024), (i 0).val * 1024 + a < 5000 → (k3_pay1 (F := Ideal) X0 X1 (ix2 a c ha hc) : EReal) ≤ z := by
  have hi : (i 0).val < 5 := (i 0).isLt
  unfold k3_pay2
  dsimp only
  rw [shapeCast_self]
  rw [shapeCast_apply _ _ _ (ix1 (n := 1280) c hc) (by
    rw [Shape.rowMajor_val_one, Shape.rowMajor_val_two]
    show c = 0 * 1280 + c
    omega)]
  refine (iff_of_eq (congrArg (fun v : EReal => v ≤ z) (multiReduction_maximumf_eq_fold (F := Ideal) (φ := .f32) _ 0xFF800000#32 reduces_S1024x1280_S1280 (.inl rfl) rfl (ix1 c hc)))).trans ?_
  refine (fold_le _ _ _ z).trans ?_
  have e0 : (FloatOps.ofBits (F := Ideal) .f32 0xFF800000#32 : EReal) = ⊥ := ninf
  have cell : ∀ a (ha : a < 1024), (select (broadcastTo S1024x1280 (cmpi .slt (addi (broadcast S1024x1 (Scalar.muli (BitVec.ofNat 32 (i 0).val) 1024#32)) (iota .tc S1024x1 32 [0] iota_S1024x1_d0_w32)) (broadcast S1024x1 5000#32)) broadcasts_S1024x1_S1024x1280)
      (k3_pay1 (F := Ideal) X0 X1) (broadcast S1024x1280 (Scalar.ofBits (F := Ideal) .f32 0xFF800000#32)) (ix2 a c ha hc) : EReal)
        = if (i 0).val * 1024 + a < 5000 then (k3_pay1 (F := Ideal) X0 X1 (ix2 a c ha hc) : EReal) else ⊥ := by
    intro a ha
    have hb : broadcastTo S1024x1280 (cmpi .slt (addi (broadcast S1024x1 (Scalar.muli (BitVec.ofNat 32 (i 0).val) 1024#32)) (iota .tc S1024x1 32 [0] iota_S1024x1_d0_w32)) (broadcast S1024x1 5000#32)) broadcasts_S1024x1_S1024x1280 (ix2 a c ha hc)
        = if (i 0).val * 1024 + a < 5000 then 1#1 else 0#1 := by
      refine (broadcastTo_apply _ _ _ (ix2 (a := 1024) (b := 1) a 0 ha (by decide)) ?_).trans ?_
      · intro x
        match x with
        | ⟨0, _⟩ => rfl
        | ⟨1, _⟩ => rfl
      · refine Eq.trans ?_ (cutoff (i 0).val a hi ha)
        show IntOp.cmpi .slt (BitVec.ofNat 32 (i 0).val * 1024#32 + iota .tc S1024x1 32 [0] iota_S1024x1_d0_w32 (ix2 a 0 ha (by decide))) 5000#32 = _
        rw [iota_single_apply]
        rfl
    show Scalar.select (broadcastTo S1024x1280 _ _ (ix2 a c ha hc)) _ _ = _
    rw [hb]
    by_cases h : (i 0).val * 1024 + a < 5000
    · rw [if_pos h, if_pos h]; exact ValueIdx.select_one _ _
    · rw [if_neg h, if_neg h]; exact (ValueIdx.select_zero _ _).trans ninf
  constructor
  · rintro ⟨-, h⟩ a ha hr
    have := h (ix2 a c ha hc) (Finset.mem_filter.2 ⟨Finset.mem_univ _, by
      funext b
      refine Fin.ext ?_
      rw [Fin.eq_zero b]
      exact Shape.Reduces.drop_apply_val_of_eq _ (ix2 a c ha hc) 0 1⟩)
    rw [cell a ha, if_pos hr] at this
    exact this
  · intro h
    refine ⟨e0 ▸ bot_le, fun y hy => ?_⟩
    have hy0 : (y 0).val < 1024 := (y 0).isLt
    have hyc : (y 1).val = c := by
      have hd := (Finset.mem_filter.1 hy).2
      have := Shape.Reduces.drop_apply_val_of_eq reduces_S1024x1280_S1280 y 0 1
      rw [hd] at this
      exact this.symm
    have ey : y = ix2 (y 0).val c hy0 hc := by
      funext b
      refine Fin.ext ?_
      match b with
      | ⟨0, _⟩ => rfl
      | ⟨1, _⟩ => exact hyc
    rw [ey, cell _ hy0]
    split
    · exact h _ hy0 (by assumption)
    · exact bot_le

/-- A condition on the rows of the first `k` blocks and on those of the next one is one on the rows of the first `k + 1`. -/
theorem join_rows (P : (r : ℕ) → r < 5000 → Prop) (k : ℕ) :
    ((∀ r (hr : r < 5000), r < k * 1024 → P r hr) ∧ ∀ r (hr : r < 5000), k * 1024 ≤ r → r < (k + 1) * 1024 → P r hr)
      ↔ ∀ r (hr : r < 5000), r < (k + 1) * 1024 → P r hr := by
  constructor
  · rintro ⟨h1, h2⟩ r hr h
    by_cases hh : r < k * 1024
    · exact h1 r hr hh
    · exact h2 r hr (by omega) h
  · intro h
    exact ⟨fun r hr h1 => h r hr (by omega), fun r hr _ h2 => h r hr h2⟩

/-- The running row of maxima after `k + 1` blocks lies below `z` exactly when all the rows of those blocks do. -/
theorem maxAt_le (Y X : Vec Ideal S5120x1280 .f32) (c : ℕ) (hc : c < 1280) (z : EReal) (k : ℕ) (hk : k < 5) :
    ((maxAt (F := Ideal) Y X (k + 1) (ix2 0 c (by decide) hc) : EReal) ≤ z)
      ↔ ∀ r (hr : r < 5000), r < (k + 1) * 1024 → (hidden (F := Ideal) Y X (ix2 r c hr hc) : EReal) ≤ z := by
  have key : ∀ (k : ℕ) (hk : k < 5), ((k3_pay2 (F := Ideal) (grid3.coords ⟨k, hk⟩) (rdY3 Y ⟨k, hk⟩) (rdX3 X ⟨k, hk⟩) (ix2 0 c (by decide) hc) : EReal) ≤ z)
      ↔ ∀ r (hr : r < 5000), k * 1024 ≤ r → r < (k + 1) * 1024 → (hidden (F := Ideal) Y X (ix2 r c hr hc) : EReal) ≤ z := by
    intro k hk
    refine (pay2_le _ _ _ c hc z).trans ?_
    rw [coord3 ⟨k, hk⟩]
    constructor
    · intro h r hr h1 h2
      rw [hidden_eq Y X _ ⟨k, hk⟩ (ix2 (r - k * 1024) c (by omega) hc) (by show r = k * 1024 + (r - k * 1024); omega) rfl]
      exact h (r - k * 1024) (by omega) (by show k * 1024 + (r - k * 1024) < 5000; omega)
    · intro h a ha hr
      have := h (k * 1024 + a) hr (by omega) (by omega)
      rw [hidden_eq Y X _ ⟨k, hk⟩ (ix2 a c ha hc) rfl rfl] at this
      exact this
  induction k with
  | zero =>
    have e : maxAt (F := Ideal) Y X (0 + 1) = k3_pay2 (grid3.coords ⟨0, hk⟩) (rdY3 Y ⟨0, hk⟩) (rdX3 X ⟨0, hk⟩) := by
      show (if h : 0 < cfg3.N then _ else _) = _
      rw [dif_pos (show 0 < cfg3.N from hk)]
      unfold rowMax
      rw [if_pos (coord3 ⟨0, hk⟩)]
    rw [e]
    refine (key 0 hk).trans ?_
    exact ⟨fun h r hr h2 => h r hr (by omega) h2, fun h r hr _ h2 => h r hr h2⟩
  | succ k ih =>
    have e : maxAt (F := Ideal) Y X (k + 1 + 1) = k3_pay3 (grid3.coords ⟨k + 1, hk⟩) (rdY3 Y ⟨k + 1, hk⟩) (rdX3 X ⟨k + 1, hk⟩) (maxAt Y X (k + 1)) := by
      show (if h : k + 1 < cfg3.N then _ else _) = _
      rw [dif_pos (show k + 1 < cfg3.N from hk)]
      unfold rowMax
      rw [if_neg (by rw [coord3 ⟨k + 1, hk⟩]; exact Nat.succ_ne_zero k)]
    rw [e]
    unfold k3_pay3
    rw [shapeCast_self]
    show (max (maxAt (F := Ideal) Y X (k + 1) (ix2 0 c (by decide) hc) : EReal) (k3_pay2 (F := Ideal) (grid3.coords ⟨k + 1, hk⟩) (rdY3 Y ⟨k + 1, hk⟩) (rdX3 X ⟨k + 1, hk⟩) (ix2 0 c (by decide) hc) : EReal) ≤ z) ↔ _
    exact max_le_iff.trans ((and_congr (ih (by omega)) (key (k + 1) hk)).trans (join_rows (fun r hr => (hidden (F := Ideal) Y X (ix2 r c hr hc) : EReal) ≤ z) (k + 1)))

end Cert.Proof.S2
-- ==== Proof.Exch.lean ====
/-
  Sums of finite extended reals: multiplying and gathering in either order.
-/
module

public import proofs.«01_k».proof.Proof.Kval

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## Sums of finite values -/

/-- A finite value is a real number. -/
theorem real_of_abs_lt (v : EReal) (h : max v (-v) < ⊤) : ∃ r : ℝ, v = (r : EReal) := by
  have h1 : v ≠ ⊤ := fun e => by rw [e] at h; exact absurd (lt_of_le_of_lt (le_max_left _ _) h) (lt_irrefl _)
  have h2 : v ≠ ⊥ := fun e => by
    rw [e] at h
    exact absurd (lt_of_le_of_lt (le_max_right _ _) h) (by rw [EReal.neg_bot]; exact lt_irrefl _)
  exact ⟨v.toReal, (EReal.coe_toReal h1 h2).symm⟩

/-- The inclusion of the reals keeps sums. -/
theorem coe_sum {ι : Type} (s : Finset ι) (g : ι → ℝ) : ((∑ e ∈ s, g e : ℝ) : EReal) = ∑ e ∈ s, (g e : EReal) := by
  classical
  induction s using Finset.induction_on with
  | empty => rfl
  | insert a s ha ih => rw [Finset.sum_insert ha, Finset.sum_insert ha, EReal.coe_add, ih]

/-- A sum of real numbers times a real number. -/
theorem sum_mul_fin {ι : Type} (s : Finset ι) (g : ι → EReal) (w : EReal) (hg : ∀ e, ∃ r : ℝ, g e = r) (hw : ∃ r : ℝ, w = r) :
    (∑ e ∈ s, g e) * w = ∑ e ∈ s, g e * w := by
  choose g' hg using hg
  obtain ⟨w', rfl⟩ := hw
  have e1 : (∑ e ∈ s, g e) = ((∑ e ∈ s, g' e : ℝ) : EReal) := by
    rw [coe_sum]; exact Finset.sum_congr rfl fun e _ => hg e
  rw [e1, ← EReal.coe_mul, Finset.sum_mul, coe_sum]
  exact Finset.sum_congr rfl fun e _ => by rw [EReal.coe_mul, hg e]

/-- Features gathered by relation first and then multiplied, against multiplied first and then gathered. -/
theorem exchange {n : ℕ} (x : Fin n → ℕ → EReal) (rel : Fin n → ℕ) (sel : Fin n → Prop) [DecidablePred sel] (w : ℕ → EReal)
    (hrel : ∀ e, rel e < 7) (hx : ∀ e k, k < 1280 → ∃ r : ℝ, x e k = r) (hw : ∀ j, j < 8960 → ∃ r : ℝ, w j = r) :
    (∑ j : Fin 8960, (∑ e : Fin n, if sel e ∧ rel e = j.val / 1280 then x e (j.val % 1280) else 0) * w j.val)
      = ∑ e : Fin n, if sel e then ∑ k : Fin 1280, x e k.val * w (rel e * 1280 + k.val) else 0 := by
  have step : ∀ j : Fin 8960, (∑ e : Fin n, if sel e ∧ rel e = j.val / 1280 then x e (j.val % 1280) else 0) * w j.val
      = ∑ e : Fin n, if sel e ∧ rel e = j.val / 1280 then x e (j.val % 1280) * w j.val else 0 := by
    intro j
    rw [sum_mul_fin _ _ _ _ (hw j.val j.isLt)]
    · refine Finset.sum_congr rfl fun e _ => ?_
      split
      · rfl
      · exact zero_mul _
    · intro e
      split
      · exact hx e _ (Nat.mod_lt _ (by decide))
      · exact ⟨0, rfl⟩
  rw [Finset.sum_congr rfl fun j _ => step j, Finset.sum_comm]
  refine Finset.sum_congr rfl fun e _ => ?_
  by_cases hs : sel e
  · rw [if_pos hs]
    have hj : ∀ k : Fin 1280, rel e * 1280 + k.val < 8960 := fun k => by have := hrel e; have := k.isLt; omega
    symm
    refine Finset.sum_of_injOn (fun k : Fin 1280 => (⟨rel e * 1280 + k.val, hj k⟩ : Fin 8960)) ?_ ?_ ?_ ?_
    · intro a _ b _ h
      have := congrArg Fin.val h
      exact Fin.ext (by simp only at this; omega)
    · intro a _; exact Finset.mem_coe.2 (Finset.mem_univ _)
    · intro j _ hn
      rw [if_neg]
      rintro ⟨-, hr⟩
      refine hn ⟨⟨j.val % 1280, Nat.mod_lt _ (by decide)⟩, Finset.mem_coe.2 (Finset.mem_univ _), Fin.ext ?_⟩
      show rel e * 1280 + j.val % 1280 = j.val
      omega
    · intro k _
      have hk := k.isLt
      have hd : (rel e * 1280 + k.val) / 1280 = rel e := by omega
      have hm : (rel e * 1280 + k.val) % 1280 = k.val := by omega
      show _ = if sel e ∧ rel e = (rel e * 1280 + k.val) / 1280 then x e ((rel e * 1280 + k.val) % 1280) * w (rel e * 1280 + k.val) else 0
      rw [hd, hm, if_pos ⟨hs, rfl⟩]
  · rw [if_neg hs]
    exact Finset.sum_eq_zero fun j _ => if_neg fun h => hs h.1

end Cert.Proof.S2
-- ==== Proof.RefVal.lean ====
/-
  The reference's result at the extended reals, as sums over the edges.
-/
module

public import proofs.«01_k».proof.Proof.KRes
public import proofs.«01_k».proof.Proof.Exch
public import proofs.«01_k».proof.Proof.HVal
public import proofs.«01_k».proof.Proof.Gen.ReferenceIdeal
public import Idealize.ShloMosaic.Lib.ValueIdxCore
public import Idealize.ShloMosaic.Lib.StackMember

@[expose] public section

set_option maxHeartbeats 1000000

noncomputable section

namespace Cert.Proof.Ref

open Cert.ReferenceIdeal Cert.ReferenceIdeal.Gen
open Idealize.ShloMosaic
open Cert.Proof.Views (ix1 ix2)
open Cert.Proof.S2 (InRange msgs)

/-- The index of the one word of row `i` in a column of words. -/
abbrev col (i : ℕ) (h : i < 50000) : S50000x1.Idx := ix2 i 0 h (by decide)

theorem idx_eta {a b : ℕ} (x : Shape.Idx ⟨2, ![a, b]⟩) : x = ix2 (x 0).val (x 1).val (x 0).isLt (x 1).isLt := by
  funext y
  match y with
  | ⟨0, _⟩ => rfl
  | ⟨1, _⟩ => rfl

/-- A list of words as a column. -/
theorem column_at (a : IVec S50000 32) (i : ℕ) (h : i < 50000) :
    (broadcastInDim S50000x1 ![0] bcast_S50000_S50000x1_0 a : S50000x1.Idx → BitVec 32) (col i h) = a (ix1 i h) := by
  refine broadcastInDim_apply _ _ _ _ _ fun b => ?_
  rw [Fin.eq_zero b]
  rfl

/-- The gather reads the table's row that the word names, held below the table's end. -/
theorem gather_at {α : Type} (q : S5000x1280.Idx → α) (idx : IVec S50000x1 32) (i : ℕ) (hi : i < 50000) (c : ℕ) (hc : c < 1280) :
    Host.gather gather_S5000x1280_S50000x1_S50000x1280_1_0_n_n_0_1_11280 q idx (ix2 i c hi hc)
      = q (ix2 (min (idx (col i hi)).toInt.toNat 4999) c (by omega) hc) := by
  unfold Host.gather
  refine congrArg q (funext fun a => Fin.ext ?_)
  show (gather_S5000x1280_S50000x1_S50000x1280_1_0_n_n_0_1_11280).start (ix2 i c hi hc) idx a
      + (gather_S5000x1280_S50000x1_S50000x1280_1_0_n_n_0_1_11280).batchCoord (ix2 i c hi hc) a
      + (gather_S5000x1280_S50000x1_S50000x1280_1_0_n_n_0_1_11280).offCoord (ix2 i c hi hc) a = _
  rw [GatherDims.batchCoord_eq_zero _ _ _ (fun h => absurd h List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (gather_S5000x1280_S50000x1_S50000x1280_1_0_n_n_0_1_11280).startIndexMap from List.mem_singleton.mpr rfl)]
    have hsi : ∀ z, (gather_S5000x1280_S50000x1_S50000x1280_1_0_n_n_0_1_11280).siIdx (ix2 i c hi hc) z = col i hi := by
      intro z
      funext b
      refine Fin.ext ?_
      match b with
      | ⟨0, _⟩ => rfl
      | ⟨1, _⟩ => exact Nat.lt_one_iff.1 z.isLt
    rw [hsi]
    rfl
  · unfold GatherDims.start GatherDims.offCoord
    rw [dif_neg (show ¬ (1 : Fin 2) ∈ (gather_S5000x1280_S50000x1_S50000x1280_1_0_n_n_0_1_11280).startIndexMap from by decide), dif_pos (show (1 : Fin 2) ∈ (gather_S5000x1280_S50000x1_S50000x1280_1_0_n_n_0_1_11280).sKept from by decide)]
    show 0 + 0 + c = c
    omega

/-- The scatter adds update `(i, c)` to row `idx i`, read signed, of column `c`, when the result has that row. -/
theorem scatter_to (idx : IVec S50000x1 32) (i : ℕ) (hi : i < 50000) (c : ℕ) (hc : c < 1280) (x : S35000x1280.Idx) :
    (scatter_S35000x1280_S50000x1_S50000x1280_1_0_0_1).resultIdx? (ix2 i c hi hc) idx = some x
      ↔ (idx (col i hi)).toInt = (x 0).val ∧ c = (x 1).val := by
  have hx0 : (x 0).val < 35000 := (x 0).isLt
  have hx1 : (x 1).val < 1280 := (x 1).isLt
  have hsi : ∀ z, (scatter_S35000x1280_S50000x1_S50000x1280_1_0_0_1).siIdx (ix2 i c hi hc) z = col i hi := by
    intro z
    funext b
    refine Fin.ext ?_
    match b with
    | ⟨0, _⟩ => rfl
    | ⟨1, _⟩ => exact Nat.lt_one_iff.1 z.isLt
  have s0 : (scatter_S35000x1280_S50000x1_S50000x1280_1_0_0_1).start (ix2 i c hi hc) idx 0 = (idx (col i hi)).toInt := by
    unfold ScatterDims.start
    rw [dif_pos (show (0 : Fin 2) ∈ (scatter_S35000x1280_S50000x1_S50000x1280_1_0_0_1).scatterDimsToOperandDims from List.mem_singleton.mpr rfl), hsi]
  have s1 : (scatter_S35000x1280_S50000x1_S50000x1280_1_0_0_1).start (ix2 i c hi hc) idx 1 = 0 := by
    unfold ScatterDims.start
    rw [dif_neg (show ¬ (1 : Fin 2) ∈ (scatter_S35000x1280_S50000x1_S50000x1280_1_0_0_1).scatterDimsToOperandDims from by decide)]
  have w0 : (scatter_S35000x1280_S50000x1_S50000x1280_1_0_0_1).window (ix2 i c hi hc) 0 = 0 := by
    unfold ScatterDims.window
    rw [dif_neg (show ¬ (0 : Fin 2) ∈ (scatter_S35000x1280_S50000x1_S50000x1280_1_0_0_1).sKept from by decide)]
  have w1 : (scatter_S35000x1280_S50000x1_S50000x1280_1_0_0_1).window (ix2 i c hi hc) 1 = c := by
    unfold ScatterDims.window
    rw [dif_pos (show (1 : Fin 2) ∈ (scatter_S35000x1280_S50000x1_S50000x1280_1_0_0_1).sKept from by decide)]
    rfl
  unfold ScatterDims.resultIdx?
  constructor
  · intro h
    split at h
    · rename_i hb
      have e := Option.some.inj h
      have e0 : ((scatter_S35000x1280_S50000x1_S50000x1280_1_0_0_1).start (ix2 i c hi hc) idx 0 + (scatter_S35000x1280_S50000x1_S50000x1280_1_0_0_1).window (ix2 i c hi hc) 0).toNat = (x 0).val :=
        congrArg Fin.val (congrFun e 0)
      have e1 : ((scatter_S35000x1280_S50000x1_S50000x1280_1_0_0_1).start (ix2 i c hi hc) idx 1 + (scatter_S35000x1280_S50000x1_S50000x1280_1_0_0_1).window (ix2 i c hi hc) 1).toNat = (x 1).val :=
        congrArg Fin.val (congrFun e 1)
      have b0 := (hb 0).1
      rw [s0, w0] at e0 b0
      rw [s1, w1] at e1
      omega
    · exact absurd h (by simp)
  · rintro ⟨h0, h1⟩
    have hb : ∀ a, 0 ≤ (scatter_S35000x1280_S50000x1_S50000x1280_1_0_0_1).start (ix2 i c hi hc) idx a + (scatter_S35000x1280_S50000x1_S50000x1280_1_0_0_1).window (ix2 i c hi hc) a
        ∧ (scatter_S35000x1280_S50000x1_S50000x1280_1_0_0_1).start (ix2 i c hi hc) idx a + (scatter_S35000x1280_S50000x1_S50000x1280_1_0_0_1).window (ix2 i c hi hc) a < S35000x1280.size a := by
      intro a
      match a with
      | ⟨0, _⟩ =>
        rw [show (⟨0, _⟩ : Fin S35000x1280.rank) = 0 from rfl, s0, w0, h0]
        exact ⟨by omega, by show ((x 0).val : ℤ) + ((0 : ℕ) : ℤ) < ((35000 : ℕ) : ℤ); omega⟩
      | ⟨1, _⟩ =>
        rw [show (⟨1, _⟩ : Fin S35000x1280.rank) = 1 from rfl, s1, w1]
        exact ⟨by omega, by show (0 : ℤ) + (c : ℤ) < ((1280 : ℕ) : ℤ); omega⟩
    rw [dif_pos hb]
    refine congrArg some (funext fun a => Fin.ext ?_)
    match a with
    | ⟨0, _⟩ =>
      show ((scatter_S35000x1280_S50000x1_S50000x1280_1_0_0_1).start (ix2 i c hi hc) idx 0 + (scatter_S35000x1280_S50000x1_S50000x1280_1_0_0_1).window (ix2 i c hi hc) 0).toNat = (x 0).val
      rw [s0, w0, h0]; omega
    | ⟨1, _⟩ =>
      show ((scatter_S35000x1280_S50000x1_S50000x1280_1_0_0_1).start (ix2 i c hi hc) idx 1 + (scatter_S35000x1280_S50000x1_S50000x1280_1_0_0_1).window (ix2 i c hi hc) 1).toNat = (x 1).val
      rw [s1, w1]; omega

/-- Adding rows into rows, read at a word: the sum, over the rows whose word names this row, of their words in this column. -/
theorem scatter_at (z : FVec Ideal S35000x1280 .f32) (idx : IVec S50000x1 32) (u : FVec Ideal S50000x1280 .f32) (x : S35000x1280.Idx) :
    (Host.scatterAdd scatter_S35000x1280_S50000x1_S50000x1280_1_0_0_1 z idx u x : EReal)
      = z x + ∑ i : Fin 50000, if (idx (col i.val i.isLt)).toInt = (x 0).val then (u (ix2 i.val (x 1).val i.isLt (x 1).isLt) : EReal) else 0 := by
  show (z x : EReal) + ∑ j ∈ Finset.univ.filter (fun j => (scatter_S35000x1280_S50000x1_S50000x1280_1_0_0_1).resultIdx? j idx = some x), (u j : EReal) = _
  refine congrArg (fun y : EReal => (z x : EReal) + y) ?_
  rw [Finset.sum_filter]
  refine (ValueIdx.sum_idx2 (n0 := 50000) (n1 := 1280) _).trans ?_
  refine Finset.sum_congr rfl fun i _ => ?_
  have e : ∀ c : Fin 1280, (ValueIdx.ix2 i c : S50000x1280.Idx) = ix2 i.val c.val i.isLt c.isLt := fun c => by
    funext y
    match y with
    | ⟨0, _⟩ => rfl
    | ⟨1, _⟩ => rfl
  have hx1 : (x 1).val < 1280 := (x 1).isLt
  rw [Finset.sum_eq_single (⟨(x 1).val, hx1⟩ : Fin 1280)]
  · rw [e]
    by_cases h : (idx (col i.val i.isLt)).toInt = (x 0).val
    · rw [if_pos h, if_pos ((scatter_to idx i.val i.isLt (x 1).val hx1 x).2 ⟨h, rfl⟩)]
    · rw [if_neg h, if_neg fun hh => h ((scatter_to idx i.val i.isLt (x 1).val hx1 x).1 hh).1]
  · intro c _ hc
    rw [e, if_neg]
    intro hh
    exact hc (Fin.ext ((scatter_to idx i.val i.isLt c.val c.isLt x).1 hh).2)
  · intro hh
    exact absurd (Finset.mem_univ _) hh

/-- The reference's word for the row an edge reads. -/
def srcRow (a1 : IVec S50000 32) : IVec S50000 32 :=
  select (cmpi .slt a1 (broadcastInDim S50000 ![] bcast_S_S50000 (constantI S_ 32 0#32))) (addi a1 (broadcastInDim S50000 ![] bcast_S_S50000 (constantI S_ 32 5000#32))) a1

/-- The reference's word for the row an edge adds to. -/
def slot (a2 a3 : IVec S50000 32) : IVec S50000 32 :=
  addi (muli a2 (broadcastInDim S50000 ![] bcast_S_S50000 (constantI S_ 32 7#32))) a3

/-- The weighted rows of the edges, gathered by node and relation. -/
def upd (a0 : FVec Ideal S5000x1280 .f32) (a1 a2 a3 : IVec S50000 32) (a4 : FVec Ideal S50000 .f32) : FVec Ideal S35000x1280 .f32 :=
  Host.scatterAdd scatter_S35000x1280_S50000x1_S50000x1280_1_0_0_1 (broadcastInDim S35000x1280 ![] bcast_S_S35000x1280 (constant S_ .f32 0x00000000#32))
    (broadcastInDim S50000x1 ![0] bcast_S50000_S50000x1_0 (slot a2 a3))
    (mulf (Host.gather gather_S5000x1280_S50000x1_S50000x1280_1_0_n_n_0_1_11280 a0 (broadcastInDim S50000x1 ![0] bcast_S50000_S50000x1_0 (srcRow a1)))
      (broadcastInDim S50000x1280 ![0, 1] bcast_S50000x1_S50000x1280_0_1 (broadcastInDim S50000x1 ![0] bcast_S50000_S50000x1_0 a4)))

/-- A bias under every row. -/
def under (b : FVec Ideal S1280 .f32) : FVec Ideal S5000x1280 .f32 :=
  broadcastInDim S5000x1280 ![0, 1] bcast_S1x1280_S5000x1280_0_1 (broadcastInDim S1x1280 ![1] bcast_S1280_S1x1280_1 b)

/-- The reference's hidden rows. -/
def hid (a0 : FVec Ideal S5000x1280 .f32) (a1 a2 a3 : IVec S50000 32) (a4 : FVec Ideal S50000 .f32) (a5 : FVec Ideal S8960x1280 .f32) (a6 : FVec Ideal S1280 .f32) (a7 : FVec Ideal S1280x1280 .f32) (a8 : FVec Ideal S1280 .f32) : FVec Ideal S5000x1280 .f32 :=
  addf (maximumf (addf (addf (addf (Host.dotGeneral dot_S5000x8960_S8960x1280_S5000x1280_1_0_0_1_n_n none (shapeCast _ (upd a0 a1 a2 a3 a4) shapeCasts_S35000x1280_S5000x8960) a5) (under a6))
    (Host.dotGeneral dot_S5000x1280_S1280x1280_S5000x1280_1_0_0_1_n_n none a0 a7)) (under a8)) (broadcastInDim S5000x1280 ![] bcast_S_S5000x1280 (constant S_ .f32 0x00000000#32))) a0

/-- The reference's row of maxima. -/
def top (y : FVec Ideal S5000x1280 .f32) : FVec Ideal S1280 .f32 :=
  Host.reduce FloatOps.maximumf y (constant S_ .f32 0xFF800000#32) reducesTo_S5000x1280_S1280_d0 h_S_

/-- A bias read at a word. -/
theorem under_at (b : FVec Ideal S1280 .f32) (i c : ℕ) (hi : i < 5000) (hc : c < 1280) : (under b (ix2 i c hi hc) : EReal) = b (ix1 c hc) := by
  unfold under
  refine (broadcastInDim_apply _ _ _ _ (ix2 (a := 1) (b := 1280) 0 c (by decide) hc) fun x => ?_).trans (broadcastInDim_apply _ _ _ _ (ix1 (n := 1280) c hc) fun x => ?_)
  · match x with
    | ⟨0, _⟩ => rfl
    | ⟨1, _⟩ => rfl
  · rw [Fin.eq_zero x]
    rfl

/-- A weight read at a word. -/
theorem weight_at (a4 : FVec Ideal S50000 .f32) (i c : ℕ) (hi : i < 50000) (hc : c < 1280) :
    (broadcastInDim S50000x1280 ![0, 1] bcast_S50000x1_S50000x1280_0_1 (broadcastInDim S50000x1 ![0] bcast_S50000_S50000x1_0 a4) (ix2 i c hi hc) : EReal) = a4 (ix1 i hi) := by
  refine (broadcastInDim_apply _ _ _ _ (ix2 (a := 50000) (b := 1) i 0 hi (by decide)) fun x => ?_).trans (broadcastInDim_apply _ _ _ _ (ix1 (n := 50000) i hi) fun x => ?_)
  · match x with
    | ⟨0, _⟩ => rfl
    | ⟨1, _⟩ => rfl
  · rw [Fin.eq_zero x]
    rfl

theorem dotR_plain : dot_S5000x8960_S8960x1280_S5000x1280_1_0_0_1_n_n = DotDims.plain 5000 8960 1280 := rfl
theorem dotL_plain : dot_S5000x1280_S1280x1280_S5000x1280_1_0_0_1_n_n = DotDims.plain 5000 1280 1280 := rfl

section
variable {a0 : FVec Ideal S5000x1280 .f32} {a1 a2 a3 : IVec S50000 32} {a4 : FVec Ideal S50000 .f32} {a5 : FVec Ideal S8960x1280 .f32} {a6 : FVec Ideal S1280 .f32} {a7 : FVec Ideal S1280x1280 .f32} {a8 : FVec Ideal S1280 .f32}
  (h : InRange a1 a2 a3)
include h

/-- In range, the row an edge reads is its source. -/
theorem srcRow_val (i : ℕ) (hi : i < 50000) : (srcRow a1 (ix1 i hi)).toInt.toNat = (a1 (ix1 i hi)).toNat := by
  have h1 : (a1 (ix1 i hi)).toNat < 5000 := h.src (ix1 i hi)
  have hint : (a1 (ix1 i hi)).toInt = ((a1 (ix1 i hi)).toNat : ℤ) := by
    rw [BitVec.toInt_eq_toNat_cond, if_pos (by omega)]
  have hc : IntOp.cmpi .slt (a1 (ix1 i hi)) 0#32 = 0#1 := by
    have : (a1 (ix1 i hi)).slt 0#32 = false := by
      rw [Bool.eq_false_iff]
      intro hh
      have := BitVec.slt_iff_toInt_lt.1 hh
      rw [hint] at this
      simp at this
      omega
    unfold IntOp.cmpi
    simp [this]
  have em : srcRow a1 (ix1 i hi) = a1 (ix1 i hi) := by
    show Scalar.select (IntOp.cmpi .slt (a1 (ix1 i hi)) 0#32) _ _ = _
    rw [hc]
    exact ValueIdx.select_zero _ _
  rw [em, hint, Int.toNat_natCast]

/-- In range, the row an edge adds to is its destination's block and its relation's place in it. -/
theorem slot_val (i : ℕ) (hi : i < 50000) : (slot a2 a3 (ix1 i hi)).toInt = (((a2 (ix1 i hi)).toNat * 7 + (a3 (ix1 i hi)).toNat : ℕ) : ℤ) := by
  have h2 : (a2 (ix1 i hi)).toNat < 5000 := h.dst (ix1 i hi)
  have h3 : (a3 (ix1 i hi)).toNat < 7 := h.rel (ix1 i hi)
  have e : (a2 (ix1 i hi) * 7#32).toNat = (a2 (ix1 i hi)).toNat * 7 := by
    rw [BitVec.toNat_mul]
    show _ * 7 % 4294967296 = _
    exact Nat.mod_eq_of_lt (by omega)
  have e' := BitVec.toNat_add (a2 (ix1 i hi) * 7#32) (a3 (ix1 i hi))
  rw [e, Nat.mod_eq_of_lt (by omega)] at e'
  have em : slot a2 a3 (ix1 i hi) = a2 (ix1 i hi) * 7#32 + a3 (ix1 i hi) := rfl
  rw [em, BitVec.toInt_eq_toNat_cond, e', if_pos (by omega)]

/-- With edge weights of one, a word of the gathered rows is the sum of the source rows' words over the edges of that destination and relation. -/
theorem upd_at (hw : ∀ i, (a4 i : EReal) = 1) (i j : ℕ) (hi : i < 5000) (hj : j < 8960) :
    (shapeCast S5000x8960 (upd a0 a1 a2 a3 a4) shapeCasts_S35000x1280_S5000x8960 (ix2 i j hi hj) : EReal)
      = ∑ e : Fin 50000, if (a2 (ix1 e.val e.isLt)).toNat = i ∧ (a3 (ix1 e.val e.isLt)).toNat = j / 1280 then
          (a0 (ix2 (a1 (ix1 e.val e.isLt)).toNat (j % 1280) (h.src (ix1 e.val e.isLt)) (Nat.mod_lt _ (by decide))) : EReal) else 0 := by
  have hm : j % 1280 < 1280 := Nat.mod_lt _ (by decide)
  have hd : j / 1280 < 7 := by omega
  have hrow : i * 7 + j / 1280 < 35000 := by omega
  refine (shapeCast_apply _ _ _ (ix2 (a := 35000) (b := 1280) (i * 7 + j / 1280) (j % 1280) hrow hm) ?_).trans ?_
  · rw [Shape.rowMajor_val_two, Shape.rowMajor_val_two]
    show (i * 7 + j / 1280) * 1280 + j % 1280 = i * 8960 + j
    omega
  · unfold upd
    refine (scatter_at _ _ _ _).trans ?_
    have z : (broadcastInDim S35000x1280 ![] bcast_S_S35000x1280 (constant (F := Ideal) S_ .f32 0x00000000#32) (ix2 (a := 35000) (b := 1280) (i * 7 + j / 1280) (j % 1280) hrow hm) : EReal) = 0 := Ideal.ofBits_zero_f32
    rw [z, zero_add]
    refine Finset.sum_congr rfl fun e _ => ?_
    have h3 : (a3 (ix1 e.val e.isLt)).toNat < 7 := h.rel (ix1 e.val e.isLt)
    have h1 : (a1 (ix1 e.val e.isLt)).toNat < 5000 := h.src (ix1 e.val e.isLt)
    rw [column_at, slot_val h e.val e.isLt]
    refine if_congr ?_ ?_ rfl
    · show (((a2 (ix1 e.val e.isLt)).toNat * 7 + (a3 (ix1 e.val e.isLt)).toNat : ℕ) : ℤ) = ((i * 7 + j / 1280 : ℕ) : ℤ) ↔ _
      rw [Nat.cast_inj]
      omega
    · show (Host.gather gather_S5000x1280_S50000x1_S50000x1280_1_0_n_n_0_1_11280 a0 (broadcastInDim S50000x1 ![0] bcast_S50000_S50000x1_0 (srcRow a1)) (ix2 e.val (j % 1280) e.isLt hm) : EReal)
        * (broadcastInDim S50000x1280 ![0, 1] bcast_S50000x1_S50000x1280_0_1 (broadcastInDim S50000x1 ![0] bcast_S50000_S50000x1_0 a4) (ix2 e.val (j % 1280) e.isLt hm) : EReal) = _
      rw [weight_at, hw, mul_one, gather_at]
      refine congrArg a0 (funext fun a => Fin.ext ?_)
      match a with
      | ⟨0, _⟩ =>
        show min (broadcastInDim S50000x1 ![0] bcast_S50000_S50000x1_0 (srcRow a1) (col e.val e.isLt)).toInt.toNat 4999 = (a1 (ix1 e.val e.isLt)).toNat
        rw [column_at, srcRow_val h e.val e.isLt]
        omega
      | ⟨1, _⟩ => rfl

/-- The gathered rows times the relations' weights are the messages. -/
theorem dotR_at (hw : ∀ i, (a4 i : EReal) = 1) (hx : ∀ i, ∃ r : ℝ, (a0 i : EReal) = r) (hW : ∀ i, ∃ r : ℝ, (a5 i : EReal) = r) (i c : ℕ) (hi : i < 5000) (hc : c < 1280) :
    (Host.dotGeneral dot_S5000x8960_S8960x1280_S5000x1280_1_0_0_1_n_n none (shapeCast S5000x8960 (upd a0 a1 a2 a3 a4) shapeCasts_S35000x1280_S5000x8960) a5 (ix2 i c hi hc) : EReal)
      = msgs a0 a5 h i c hc := by
  rw [dotR_plain, S2.vix i c hi hc]
  refine (StackMember.dotGeneral_plain_apply (m := 5000) (k := 8960) (n := 1280) none _ _ ⟨i, hi⟩ ⟨c, hc⟩).trans ?_
  let xs : Fin 50000 → ℕ → EReal := fun e k => if hk : k < 1280 then a0 (ix2 (a1 (ix1 e.val e.isLt)).toNat k (h.src (ix1 e.val e.isLt)) hk) else 0
  let ws : ℕ → EReal := fun j => if hj : j < 8960 then a5 (ix2 j c hj hc) else 0
  have key := S2.exchange xs (fun e => (a3 (ix1 e.val e.isLt)).toNat) (fun e => (a2 (ix1 e.val e.isLt)).toNat = i) ws (fun e => h.rel (ix1 e.val e.isLt))
    (fun e k hk => by simp only [xs, dif_pos hk]; exact hx _) (fun j hj => by simp only [ws, dif_pos hj]; exact hW _)
  refine Eq.trans (Finset.sum_congr rfl fun j _ => ?_) (key.trans ?_)
  · rw [← S2.vix i j.val hi j.isLt, ← S2.vix j.val c j.isLt hc, upd_at h hw i j.val hi j.isLt]
    refine congrArg₂ (fun u v : EReal => u * v) (Finset.sum_congr rfl fun e _ => if_congr Iff.rfl ?_ rfl) ?_
    · have hm : j.val % 1280 < 1280 := Nat.mod_lt _ (by decide)
      simp only [xs, dif_pos hm]
    · simp only [ws, dif_pos j.isLt]
  · unfold msgs
    refine Finset.sum_congr rfl fun e _ => if_congr Iff.rfl (Finset.sum_congr rfl fun k _ => ?_) rfl
    have h3 : (a3 (ix1 e.val e.isLt)).toNat < 7 := h.rel (ix1 e.val e.isLt)
    have hj : (a3 (ix1 e.val e.isLt)).toNat * 1280 + k.val < 8960 := by have := k.isLt; omega
    simp only [xs, ws, dif_pos k.isLt, dif_pos hj]

omit h in
/-- The self loop's part. -/
theorem dotL_at (i c : ℕ) (hi : i < 5000) (hc : c < 1280) :
    (Host.dotGeneral dot_S5000x1280_S1280x1280_S5000x1280_1_0_0_1_n_n none a0 a7 (ix2 i c hi hc) : EReal)
      = ∑ k : Fin 1280, (a0 (ix2 i k.val hi k.isLt) : EReal) * (a7 (ix2 k.val c k.isLt hc) : EReal) := by
  rw [dotL_plain, S2.vix i c hi hc]
  refine (StackMember.dotGeneral_plain_apply (m := 5000) (k := 1280) (n := 1280) none _ _ ⟨i, hi⟩ ⟨c, hc⟩).trans ?_
  refine Finset.sum_congr rfl fun k _ => ?_
  rw [S2.vix i k.val hi k.isLt, S2.vix k.val c k.isLt hc]

/-- A word of the reference's hidden rows. -/
theorem hid_at (hw : ∀ i, (a4 i : EReal) = 1) (hx : ∀ i, ∃ r : ℝ, (a0 i : EReal) = r) (hW : ∀ i, ∃ r : ℝ, (a5 i : EReal) = r) (i c : ℕ) (hi : i < 5000) (hc : c < 1280) :
    (hid a0 a1 a2 a3 a4 a5 a6 a7 a8 (ix2 i c hi hc) : EReal)
      = max (((msgs a0 a5 h i c hc + (a6 (ix1 c hc) : EReal)) + ∑ k : Fin 1280, (a0 (ix2 i k.val hi k.isLt) : EReal) * (a7 (ix2 k.val c k.isLt hc) : EReal)) + (a8 (ix1 c hc) : EReal)) 0
        + (a0 (ix2 i c hi hc) : EReal) := by
  have z : (broadcastInDim S5000x1280 ![] bcast_S_S5000x1280 (constant (F := Ideal) S_ .f32 0x00000000#32) (ix2 i c hi hc) : EReal) = 0 := Ideal.ofBits_zero_f32
  rw [← dotR_at h hw hx hW i c hi hc, ← dotL_at i c hi hc, ← under_at a6 i c hi hc, ← under_at a8 i c hi hc, ← z]
  rfl

end

/-- The row of maxima lies below `z` exactly when all the rows do. -/
theorem top_le (y : FVec Ideal S5000x1280 .f32) (c : ℕ) (hc : c < 1280) (z : EReal) :
    ((top y (ix1 c hc) : EReal) ≤ z) ↔ ∀ r (hr : r < 5000), (y (ix2 r c hr hc) : EReal) ≤ z := by
  unfold top
  refine (iff_of_eq (congrArg (fun v : EReal => v ≤ z) (Host.reduce_eq_fold (FloatOps.maximumf (F := Ideal) (φ := .f32)) y _ reducesTo_S5000x1280_S1280_d0 h_S_ (ix1 c hc)))).trans ?_
  refine (S2.fold_le _ _ _ z).trans ?_
  have e0 : (constant (F := Ideal) S_ .f32 0xFF800000#32 (Shape.Idx.first h_S_) : EReal) = ⊥ := S2.ninf
  constructor
  · rintro ⟨-, h⟩ r hr
    exact h (ix2 r c hr hc) (Finset.mem_filter.2 ⟨Finset.mem_univ _, by
      funext b
      refine Fin.ext ?_
      rw [Fin.eq_zero b]
      exact Shape.ReducesTo.drop_apply_val_of_eq _ (ix2 r c hr hc) 0 1⟩)
  · intro h
    refine ⟨e0 ▸ bot_le, fun x hx => ?_⟩
    have hx0 : (x 0).val < 5000 := (x 0).isLt
    have hxc : (x 1).val = c := by
      have hd := (Finset.mem_filter.1 hx).2
      have := Shape.ReducesTo.drop_apply_val_of_eq reducesTo_S5000x1280_S1280_d0 x 0 1
      rw [hd] at this
      exact this.symm
    have ex : x = ix2 (x 0).val c hx0 hc := by
      funext b
      refine Fin.ext ?_
      match b with
      | ⟨0, _⟩ => rfl
      | ⟨1, _⟩ => exact hxc
    rw [ex]
    exact h _ hx0

end Cert.Proof.Ref
-- ==== Proof.Same.lean ====
/-
  The kernels' two results are the reference's.
-/
module

public import proofs.«01_k».proof.Proof.KRes
public import proofs.«01_k».proof.Proof.HVal
public import proofs.«01_k».proof.Proof.RefVal
public import proofs.«01_k».proof.Proof.Exch

@[expose] public section

set_option maxHeartbeats 1000000
set_option synthInstance.maxHeartbeats 400000

noncomputable section

namespace Cert.Proof.S2

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.Steps Cert.Proof.Words Cert.Proof.Compact Cert.Proof.Views Cert.Proof.Model

variable {F : FTy → Type} [FloatOps F]

local notation "𝕄" => MM F

/-! ## The two programs' results -/

theorem ofBool_one {p : Prop} [Decidable p] (h : BitVec.ofBool (decide p) = 1#1) : p := by
  by_contra hn
  rw [decide_eq_false hn] at h
  exact absurd h (by decide)

/-- The greatest value. -/
theorem pinf : (Ideal.ofBits .f32 0x7F800000#32 : EReal) = ⊤ := by simp [Ideal.ofBits, Ideal.ieee]

/-- What the value claim's precondition says at the extended reals. -/
theorem ones_vals (a0 : FVec Ideal S5000x1280 .f32) (a1 a2 a3 : IVec S50000 32) (a4 : FVec Ideal S50000 .f32) (a5 : FVec Ideal S8960x1280 .f32) (a6 : FVec Ideal S1280 .f32) (a7 : FVec Ideal S1280x1280 .f32) (a8 : FVec Ideal S1280 .f32)
    (h : Cert.Pre_ones_and_finite.fn (F := Ideal) a0 a1 a2 a3 a4 a5 a6 a7 a8 = fun _ => 1#1) :
    InRange a1 a2 a3 ∧ (∀ i, (a4 i : EReal) = 1) ∧ (∀ i, ∃ r : ℝ, (a0 i : EReal) = r) ∧ (∀ i, ∃ r : ℝ, (a5 i : EReal) = r) := by
  obtain ⟨hr, h4, h0, h5⟩ := ones_of (F := Ideal) a0 a1 a2 a3 a4 a5 a6 a7 a8 h
  refine ⟨hr, fun i => ?_, fun i => ?_, fun i => ?_⟩
  · exact (ofBool_one (h4 i) : (a4 i : EReal) = Ideal.ofBits .f32 0x3F800000#32).trans Ideal.ofBits_one_f32
  · have := (ofBool_one (h0 i) : max (a0 i : EReal) (-(a0 i : EReal)) < Ideal.ofBits .f32 0x7F800000#32)
    rw [pinf] at this
    exact real_of_abs_lt _ this
  · have := (ofBool_one (h5 i) : max (a5 i : EReal) (-(a5 i : EReal)) < Ideal.ofBits .f32 0x7F800000#32)
    rw [pinf] at this
    exact real_of_abs_lt _ this

section
variable {a0 : FVec Ideal S5000x1280 .f32} {a1 a2 a3 : IVec S50000 32} {a4 : FVec Ideal S50000 .f32} {a5 : FVec Ideal S8960x1280 .f32} {a6 : FVec Ideal S1280 .f32} {a7 : FVec Ideal S1280x1280 .f32} {a8 : FVec Ideal S1280 .f32}
  (h : InRange a1 a2 a3) (hw : ∀ i, (a4 i : EReal) = 1) (hx : ∀ i, ∃ r : ℝ, (a0 i : EReal) = r) (hW : ∀ i, ∃ r : ℝ, (a5 i : EReal) = r)

/-- What the second kernel leaves, of the arguments. -/
def yOf (a0 : FVec Ideal S5000x1280 .f32) (a1 a2 a3 : IVec S50000 32) (a5 : FVec Ideal S8960x1280 .f32) (a6 : FVec Ideal S1280 .f32) (a7 : FVec Ideal S1280x1280 .f32) (a8 : FVec Ideal S1280 .f32) : Vec Ideal S5120x1280 .f32 := fun x =>
  Yval (F := Ideal) (epOf (F := Ideal) a1 a2 a3) (qRows (F := Ideal) (xpOf a0) (wOf a5 a7) (bOf a6 a8)) (qtOf (F := Ideal) (qRows (F := Ideal) (xpOf a0) (wOf a5 a7) (bOf a6 a8))) x

include h hw hx hW

/-- The hidden rows are the reference's, word by word. -/
theorem hidden_hid (i c : ℕ) (hi : i < 5000) (hc : c < 1280) :
    (hidden (F := Ideal) (yOf a0 a1 a2 a3 a5 a6 a7 a8) (xpOf (F := Ideal) a0) (ix2 i c hi hc) : EReal) = Ref.hid a0 a1 a2 a3 a4 a5 a6 a7 a8 (ix2 i c hi hc) := by
  refine (hidden_at _ _ i c hi hc).trans ((?_ : _ = _).trans (Ref.hid_at h hw hx hW i c hi hc).symm)
  rw [xpOf_at, dif_pos hi]
  refine congrArg (fun v : EReal => max v 0 + (a0 (ix2 i c hi hc) : EReal)) ?_
  refine (y_at h i c hi hc).trans ?_
  generalize (∑ k : Fin 1280, (a0 (ix2 i k.val hi k.isLt) : EReal) * (a7 (ix2 k.val c k.isLt hc) : EReal)) = s
  generalize msgs a0 a5 h i c hc = t
  generalize (a6 (ix1 c hc) : EReal) = u
  generalize (a8 (ix1 c hc) : EReal) = v
  rw [add_comm (s + (u + v)) t, add_assoc (t + u) s v, add_assoc t u (s + v), add_left_comm s u v]

/-- The hidden rows are the reference's. -/
theorem hidden_eq_hid : hidden (F := Ideal) (yOf a0 a1 a2 a3 a5 a6 a7 a8) (xpOf (F := Ideal) a0) = Ref.hid a0 a1 a2 a3 a4 a5 a6 a7 a8 := by
  funext x
  rw [Ref.idx_eta x]
  exact hidden_hid h hw hx hW _ _ _ _

/-- The row of maxima is the reference's. -/
theorem max_eq_top :
    shapeCast S1280 (maxAt (F := Ideal) (yOf a0 a1 a2 a3 a5 a6 a7 a8) (xpOf (F := Ideal) a0) 5) shapeCasts_S1x1280_S1280 = Ref.top (Ref.hid a0 a1 a2 a3 a4 a5 a6 a7 a8) := by
  funext x
  have hc : (x 0).val < 1280 := (x 0).isLt
  have ex : x = ix1 (x 0).val hc := by
    funext b
    rw [Fin.eq_zero b]
    rfl
  rw [ex]
  refine (shapeCast_apply _ _ _ (ix2 (a := 1) (b := 1280) 0 (x 0).val (by decide) hc) ?_).trans ?_
  · rw [Shape.rowMajor_val_one, Shape.rowMajor_val_two]
    show 0 * 1280 + (x 0).val = (x 0).val
    omega
  · refine eq_of_forall_ge_iff (α := EReal) fun z => (maxAt_le _ _ _ hc z 4 (by decide)).trans ((?_ : _ ↔ _).trans (Ref.top_le _ _ hc z).symm)
    rw [← hidden_eq_hid h hw hx hW]
    exact ⟨fun hh r hr => hh r hr (by omega), fun hh r hr _ => hh r hr⟩

end

end Cert.Proof.S2
-- ==== Proof.Alike.lean ====
/-
  The program printed for the machine's words and the one printed for the extended reals are the same program: their body
  tables agree body by body, so what is shown of the second's run, whatever the floats are, holds of the first's.
-/
module

public import proofs.«01_k».proof.Proof.Gen.Kernel
public import proofs.«01_k».proof.Proof.Gen.KernelIdeal

@[expose] public section

noncomputable section

namespace Cert.Proof

open Idealize.ShloMosaic Idealize.SL.Sem
variable {F : FTy → Type} [FloatOps F]

set_option maxHeartbeats 4000000 in
/-- The two body tables agree, each body on each processor. -/
theorem defs₀_same : Cert.Kernel.defs₀ (F := F) = Cert.KernelIdeal.defs₀ := by
  funext p ℓ a
  match p, ℓ, a with
  | .tc, 0, a => rfl
  | .tc, 1, (t, s) => rfl
  | .tc, 2, a => rfl
  | .tc, 3, (t, s) => rfl
  | .scScalar c, 0, a => rfl
  | .scScalar c, 1, a => rfl
  | .scScalar c, 2, a => rfl
  | .scScalar c, 3, a => rfl
  | .scVector c s, 0, a => rfl
  | .scVector c s, 1, a => rfl
  | .scVector c s, 2, a => rfl
  | .scVector c s, 3, a => rfl

set_option maxHeartbeats 4000000 in
/-- So do the tables with the launches and the pipelines added. -/
theorem defs_same : Cert.Kernel.defs (F := F) = Cert.KernelIdeal.defs :=
  congrArg (fun D => Cert.KernelIdeal.sc.defs (Pipeline.defs Cert.KernelIdeal.pcfgs D)) (defs₀_same (F := F))

set_option maxHeartbeats 4000000 in
/-- A claim about the runs of the second program is one about the runs of the first. -/
theorem run_same (m : (ℓ : Loc Cert.KernelIdeal.nD Cert.KernelIdeal.τ Cert.KernelIdeal.sig) → Buf (Elt F) ℓ) (ρ : Dev Cert.KernelIdeal.nD → PrngReg) (Q)
    (h : θ_run (Cert.KernelIdeal.defs (F := F)) (Cert.KernelIdeal.threads (F := F)) ⟨m, fun _ => 0, ρ⟩ Q) :
    θ_run (Cert.Kernel.defs (F := F)) (Cert.Kernel.threads (F := F)) ⟨m, fun _ => 0, ρ⟩ Q := by
  rw [defs_same]
  exact h

end Cert.Proof
-- ==== Proof.lean ====
/-
  The claims about the whole kernel: it runs and leaves its arguments as they were, and at the extended reals its two results
  are the reference's.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.Pre_ones_and_finite
public import proofs.«01_k».proof.Proof.Gen.ReferenceIdeal
public import proofs.«01_k».proof.Proof.Gen.ReferenceIdeal.Run
public import proofs.«01_k».proof.Proof.Gen.Pre_in_range
public import proofs.«01_k».proof.Proof.Main
public import proofs.«01_k».proof.Proof.Same
public import proofs.«01_k».proof.Proof.Alike
public import Idealize.ShloMosaic.Lib.QuiescentFlight

@[expose] public section

noncomputable section

namespace Cert.Proof

open Idealize.ShloMosaic Idealize.SL.Sem
open Cert.Proof.S2 (RowsOK QC InRange)

/-- The indices' ranges make every list word name a row of the table. -/
theorem rowsOK_of {F : FTy → Type} [FloatOps F] (m : (ℓ : Loc Cert.KernelIdeal.nD Cert.KernelIdeal.τ Cert.KernelIdeal.sig) → Buf (Elt F) ℓ)
    (h : ∀ d, InRange (m (S2.lc d Cert.KernelIdeal.main_arg1)) (m (S2.lc d Cert.KernelIdeal.main_arg2)) (m (S2.lc d Cert.KernelIdeal.main_arg3))) :
    RowsOK m :=
  fun d w x hx => S2.rowsOK (F := F) (h d) w x hx

/-- An argument is as it was, one by one. -/
theorem args_kept {F : FTy → Type} [FloatOps F] (m mem : (ℓ : Loc Cert.KernelIdeal.nD Cert.KernelIdeal.τ Cert.KernelIdeal.sig) → Buf (Elt F) ℓ) (c : Dev Cert.KernelIdeal.nD)
    (h : ∀ b ∈ S2.args, mem (c, b) = m (c, b)) :
    mem (S2.lc c Cert.KernelIdeal.main_arg0) = m (S2.lc c Cert.KernelIdeal.main_arg0)
      ∧ mem (S2.lc c Cert.KernelIdeal.main_arg1) = m (S2.lc c Cert.KernelIdeal.main_arg1)
      ∧ mem (S2.lc c Cert.KernelIdeal.main_arg2) = m (S2.lc c Cert.KernelIdeal.main_arg2)
      ∧ mem (S2.lc c Cert.KernelIdeal.main_arg3) = m (S2.lc c Cert.KernelIdeal.main_arg3)
      ∧ mem (S2.lc c Cert.KernelIdeal.main_arg4) = m (S2.lc c Cert.KernelIdeal.main_arg4)
      ∧ mem (S2.lc c Cert.KernelIdeal.main_arg5) = m (S2.lc c Cert.KernelIdeal.main_arg5)
      ∧ mem (S2.lc c Cert.KernelIdeal.main_arg6) = m (S2.lc c Cert.KernelIdeal.main_arg6)
      ∧ mem (S2.lc c Cert.KernelIdeal.main_arg7) = m (S2.lc c Cert.KernelIdeal.main_arg7)
      ∧ mem (S2.lc c Cert.KernelIdeal.main_arg8) = m (S2.lc c Cert.KernelIdeal.main_arg8) :=
  ⟨h (S2.rf Cert.KernelIdeal.main_arg0) (by decide), h (S2.rf Cert.KernelIdeal.main_arg1) (by decide), h (S2.rf Cert.KernelIdeal.main_arg2) (by decide),
    h (S2.rf Cert.KernelIdeal.main_arg3) (by decide), h (S2.rf Cert.KernelIdeal.main_arg4) (by decide), h (S2.rf Cert.KernelIdeal.main_arg5) (by decide),
    h (S2.rf Cert.KernelIdeal.main_arg6) (by decide), h (S2.rf Cert.KernelIdeal.main_arg7) (by decide), h (S2.rf Cert.KernelIdeal.main_arg8) (by decide)⟩

/-- The kernels run, change no argument and leave every semaphore at zero, whatever the floats are. -/
theorem run_frame {F : FTy → Type} [FloatOps F] [∀ e, Nonempty (Elt F e)] (m : (ℓ : Loc Cert.KernelIdeal.nD Cert.KernelIdeal.τ Cert.KernelIdeal.sig) → Buf (Elt F) ℓ) (ρ : Dev Cert.KernelIdeal.nD → PrngReg)
    (h : ∀ d, InRange (m (S2.lc d Cert.KernelIdeal.main_arg1)) (m (S2.lc d Cert.KernelIdeal.main_arg2)) (m (S2.lc d Cert.KernelIdeal.main_arg3))) :
    θ_run (Cert.KernelIdeal.defs (F := F)) (Cert.KernelIdeal.threads (F := F)) ⟨m, fun _ => 0, ρ⟩ fun r => (∀ c,
      r.2.mem (S2.lc c Cert.KernelIdeal.main_arg0) = m (S2.lc c Cert.KernelIdeal.main_arg0)
      ∧ r.2.mem (S2.lc c Cert.KernelIdeal.main_arg1) = m (S2.lc c Cert.KernelIdeal.main_arg1)
      ∧ r.2.mem (S2.lc c Cert.KernelIdeal.main_arg2) = m (S2.lc c Cert.KernelIdeal.main_arg2)
      ∧ r.2.mem (S2.lc c Cert.KernelIdeal.main_arg3) = m (S2.lc c Cert.KernelIdeal.main_arg3)
      ∧ r.2.mem (S2.lc c Cert.KernelIdeal.main_arg4) = m (S2.lc c Cert.KernelIdeal.main_arg4)
      ∧ r.2.mem (S2.lc c Cert.KernelIdeal.main_arg5) = m (S2.lc c Cert.KernelIdeal.main_arg5)
      ∧ r.2.mem (S2.lc c Cert.KernelIdeal.main_arg6) = m (S2.lc c Cert.KernelIdeal.main_arg6)
      ∧ r.2.mem (S2.lc c Cert.KernelIdeal.main_arg7) = m (S2.lc c Cert.KernelIdeal.main_arg7)
      ∧ r.2.mem (S2.lc c Cert.KernelIdeal.main_arg8) = m (S2.lc c Cert.KernelIdeal.main_arg8)) ∧ r.2.sem = fun _ => 0 :=
  (θ_run (Cert.KernelIdeal.defs (F := F)) _ _).mono (fun r h => ⟨fun c => args_kept m r.2.mem c (h.1 c).1, h.2⟩)
    (S2.run_main (F := F) m ρ (rowsOK_of m h))

set_option maxHeartbeats 4000000 in
/-- The kernels run on the machine's words, change no argument and leave every semaphore at zero. -/
theorem frame_kernel : Cert.quiescent_Kernel := fun m ρ hp =>
  run_same (F := Bits) m ρ _ (run_frame (F := Bits) m ρ fun d => S2.inRange_of (F := Bits) _ _ _ _ _ _ _ _ _ (hp d))

/-- The same of the kernels read at the extended reals. -/
theorem frame_ideal : Cert.quiescent_KernelIdeal := fun m ρ hp =>
  run_frame (F := Ideal) m ρ fun d => S2.inRange_of (F := Ideal) _ _ _ _ _ _ _ _ _ (hp d)

/-- The same, of the arguments the value claim is about. -/
theorem frame_ideal_ones : Cert.quiescent_KernelIdeal_pre_ones_and_finite := fun m ρ hp =>
  run_frame (F := Ideal) m ρ fun d => (S2.ones_vals _ _ _ _ _ _ _ _ _ (hp d)).1

/-- The reference runs and changes no argument; it has no semaphore. -/
theorem frame_reference : Cert.quiescent_ReferenceIdeal := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

/-- The same, of the arguments the value claim is about. -/
theorem frame_reference_ones : Cert.quiescent_ReferenceIdeal_pre_ones_and_finite := fun m ρ _ => frame_reference m ρ trivial

/-- At the extended reals the kernels' hidden rows and their row of maxima are the reference's. -/
theorem algebraic : Cert.algebraic_KernelIdeal_ReferenceIdeal_pre_ones_and_finite := fun m g m' g' hp hm => by
  have hv := fun d => S2.ones_vals _ _ _ _ _ _ _ _ _ (hp d)
  refine ⟨fun c => S2.nfOut m c, fun c => S2.gfOut m c, ?_, ?_⟩
  · exact (θ_run (Cert.KernelIdeal.defs (F := Ideal)) _ _).mono
      (fun r h c => ⟨(h.1 c).2.1, (h.1 c).2.2, args_kept m r.2.mem c (h.1 c).1⟩)
      (S2.run_main (F := Ideal) m g (rowsOK_of (F := Ideal) m fun d => (hv d).1))
  · refine (θ_run (Cert.ReferenceIdeal.defs (F := Ideal)) _ _).mono (fun r h c => ⟨(h c).1.trans ?_, (h c).2.1.trans ?_, (h c).2.2⟩) (Cert.ReferenceIdeal.Value.run (F := Ideal) m' g')
    · obtain ⟨e0, e1, e2, e3, e4, e5, e6, e7, e8⟩ := hm c
      obtain ⟨hr, hw, hx, hW⟩ := hv c
      rw [e0, e1, e2, e3, e4, e5, e6, e7, e8]
      exact (S2.hidden_eq_hid hr hw hx hW).symm
    · obtain ⟨e0, e1, e2, e3, e4, e5, e6, e7, e8⟩ := hm c
      obtain ⟨hr, hw, hx, hW⟩ := hv c
      rw [e0, e1, e2, e3, e4, e5, e6, e7, e8]
      exact (S2.max_eq_top hr hw hx hW).symm

/-- Everything claimed. -/
theorem claim : Cert.Claim :=
  ⟨Cert.Kernel.Gen.facts, Cert.KernelIdeal.Gen.facts, Cert.ReferenceIdeal.Gen.facts, Cert.Pre_in_range.Gen.facts, Cert.Pre_ones_and_finite.Gen.facts,
    frame_kernel, frame_ideal, frame_ideal_ones, frame_reference, frame_reference_ones, trivial, algebraic⟩

end Cert.Proof
